-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_conv_ct_finite [hPre_conv_ct_finite : Cert.Pre_conv_ct_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_conv_ct_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_conv_ct_finite [hPre_conv_ct_finite : Cert.Pre_conv_ct_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_conv_ct_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_MixResKernel (m : (ℓ : Loc Cert.MixResKernel.nD Cert.MixResKernel.τ Cert.MixResKernel.sig) → Buf (Elt Bits) ℓ) : Prop :=
  True

def Pre_MixResKernelIdeal (m : (ℓ : Loc Cert.MixResKernelIdeal.nD Cert.MixResKernelIdeal.τ Cert.MixResKernelIdeal.sig) → Buf (Elt Ideal) ℓ) : Prop :=
  True

def Pre_MixResReferenceIdeal (m : (ℓ : Loc Cert.MixResReferenceIdeal.nD Cert.MixResReferenceIdeal.τ Cert.MixResReferenceIdeal.sig) → Buf (Elt Ideal) ℓ) : Prop :=
  True

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_MixRmsKernel (m : (ℓ : Loc Cert.MixRmsKernel.nD Cert.MixRmsKernel.τ Cert.MixRmsKernel.sig) → Buf (Elt Bits) ℓ) : Prop :=
  True

def Pre_MixRmsKernelIdeal (m : (ℓ : Loc Cert.MixRmsKernelIdeal.nD Cert.MixRmsKernelIdeal.τ Cert.MixRmsKernelIdeal.sig) → Buf (Elt Ideal) ℓ) : Prop :=
  True

def Pre_MixRmsReferenceIdeal (m : (ℓ : Loc Cert.MixRmsReferenceIdeal.nD Cert.MixRmsReferenceIdeal.τ Cert.MixRmsReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ParKernel (m : (ℓ : Loc Cert.ParKernel.nD Cert.ParKernel.τ Cert.ParKernel.sig) → Buf (Elt Bits) ℓ) : Prop :=
  True

def Pre_ParKernelIdeal (m : (ℓ : Loc Cert.ParKernelIdeal.nD Cert.ParKernelIdeal.τ Cert.ParKernelIdeal.sig) → Buf (Elt Ideal) ℓ) : Prop :=
  True

def Pre_ParReferenceIdeal (m : (ℓ : Loc Cert.ParReferenceIdeal.nD Cert.ParReferenceIdeal.τ Cert.ParReferenceIdeal.sig) → Buf (Elt Ideal) ℓ) : Prop :=
  True

def Pre_ScanKernel (m : (ℓ : Loc Cert.ScanKernel.nD Cert.ScanKernel.τ Cert.ScanKernel.sig) → Buf (Elt Bits) ℓ) : Prop :=
  True

def Pre_ScanKernelIdeal (m : (ℓ : Loc Cert.ScanKernelIdeal.nD Cert.ScanKernelIdeal.τ Cert.ScanKernelIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_GateFwdKernel (m : (ℓ : Loc Cert.GateFwdKernel.nD Cert.GateFwdKernel.τ Cert.GateFwdKernel.sig) → Buf (Elt Bits) ℓ) : Prop :=
  True

def Pre_GateFwdKernelIdeal (m : (ℓ : Loc Cert.GateFwdKernelIdeal.nD Cert.GateFwdKernelIdeal.τ Cert.GateFwdKernelIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_RmsFwdKernel (m : (ℓ : Loc Cert.RmsFwdKernel.nD Cert.RmsFwdKernel.τ Cert.RmsFwdKernel.sig) → Buf (Elt Bits) ℓ) : Prop :=
  True

def Pre_RmsFwdKernelIdeal (m : (ℓ : Loc Cert.RmsFwdKernelIdeal.nD Cert.RmsFwdKernelIdeal.τ Cert.RmsFwdKernelIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_ResFwdKernel (m : (ℓ : Loc Cert.ResFwdKernel.nD Cert.ResFwdKernel.τ Cert.ResFwdKernel.sig) → Buf (Elt Bits) ℓ) : Prop :=
  True

def Pre_ResFwdKernelIdeal (m : (ℓ : Loc Cert.ResFwdKernelIdeal.nD Cert.ResFwdKernelIdeal.τ Cert.ResFwdKernelIdeal.sig) → Buf (Elt Ideal) ℓ) : Prop :=
  True

def Pre_ResFwdReferenceIdeal (m : (ℓ : Loc Cert.ResFwdReferenceIdeal.nD Cert.ResFwdReferenceIdeal.τ Cert.ResFwdReferenceIdeal.sig) → Buf (Elt Ideal) ℓ) : Prop :=
  True

def Pre_MixResFwdKernel (m : (ℓ : Loc Cert.MixResFwdKernel.nD Cert.MixResFwdKernel.τ Cert.MixResFwdKernel.sig) → Buf (Elt Bits) ℓ) : Prop :=
  True

def Pre_MixResFwdKernelIdeal (m : (ℓ : Loc Cert.MixResFwdKernelIdeal.nD Cert.MixResFwdKernelIdeal.τ Cert.MixResFwdKernelIdeal.sig) → Buf (Elt Ideal) ℓ) : Prop :=
  True

def Pre_MixResFwdReferenceIdeal (m : (ℓ : Loc Cert.MixResFwdReferenceIdeal.nD Cert.MixResFwdReferenceIdeal.τ Cert.MixResFwdReferenceIdeal.sig) → Buf (Elt Ideal) ℓ) : Prop :=
  True

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_GluFwdKernel (m : (ℓ : Loc Cert.GluFwdKernel.nD Cert.GluFwdKernel.τ Cert.GluFwdKernel.sig) → Buf (Elt Bits) ℓ) : Prop :=
  True

def Pre_GluFwdKernelIdeal (m : (ℓ : Loc Cert.GluFwdKernelIdeal.nD Cert.GluFwdKernelIdeal.τ Cert.GluFwdKernelIdeal.sig) → Buf (Elt Ideal) ℓ) : Prop :=
  True

def Pre_GluFwdReferenceIdeal (m : (ℓ : Loc Cert.GluFwdReferenceIdeal.nD Cert.GluFwdReferenceIdeal.τ Cert.GluFwdReferenceIdeal.sig) → Buf (Elt Ideal) ℓ) : Prop :=
  True

def Pre_ParFwdKernel (m : (ℓ : Loc Cert.ParFwdKernel.nD Cert.ParFwdKernel.τ Cert.ParFwdKernel.sig) → Buf (Elt Bits) ℓ) : Prop :=
  True

def Pre_ParFwdKernelIdeal (m : (ℓ : Loc Cert.ParFwdKernelIdeal.nD Cert.ParFwdKernelIdeal.τ Cert.ParFwdKernelIdeal.sig) → Buf (Elt Ideal) ℓ) : Prop :=
  True

def Pre_ParFwdReferenceIdeal (m : (ℓ : Loc Cert.ParFwdReferenceIdeal.nD Cert.ParFwdReferenceIdeal.τ Cert.ParFwdReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_SlotsKernel (m : (ℓ : Loc Cert.SlotsKernel.nD Cert.SlotsKernel.τ Cert.SlotsKernel.sig) → Buf (Elt Bits) ℓ) : Prop :=
  True

def Pre_SlotsKernelIdeal (m : (ℓ : Loc Cert.SlotsKernelIdeal.nD Cert.SlotsKernelIdeal.τ Cert.SlotsKernelIdeal.sig) → Buf (Elt Ideal) ℓ) : Prop :=
  True

def Pre_SlotsReferenceIdeal (m : (ℓ : Loc Cert.SlotsReferenceIdeal.nD Cert.SlotsReferenceIdeal.τ Cert.SlotsReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_SsdFwdKernel (m : (ℓ : Loc Cert.SsdFwdKernel.nD Cert.SsdFwdKernel.τ Cert.SsdFwdKernel.sig) → Buf (Elt Bits) ℓ) : Prop :=
  True

def Pre_SsdFwdKernelIdeal (m : (ℓ : Loc Cert.SsdFwdKernelIdeal.nD Cert.SsdFwdKernelIdeal.τ Cert.SsdFwdKernelIdeal.sig) → Buf (Elt Ideal) ℓ) : Prop :=
  True

def Pre_SsdFwdKernelIdeal_ssdf_finite [hPre_ssdf_finite : Cert.Pre_ssdf_finite.Facts] (m : (ℓ : Loc Cert.SsdFwdKernelIdeal.nD Cert.SsdFwdKernelIdeal.τ Cert.SsdFwdKernelIdeal.sig) → Buf (Elt Ideal) ℓ) : Prop :=
  ∀ c : Dev Cert.SsdFwdKernelIdeal.nD,
    (Cert.Pre_ssdf_finite.fn (F := Ideal) (m ((c.tc : Thread Cert.SsdFwdKernelIdeal.nD Cert.SsdFwdKernelIdeal.τ).loc Cert.SsdFwdKernelIdeal.main_arg0)) (m ((c.tc : Thread Cert.SsdFwdKernelIdeal.nD Cert.SsdFwdKernelIdeal.τ).loc Cert.SsdFwdKernelIdeal.main_arg1)) (m ((c.tc : Thread Cert.SsdFwdKernelIdeal.nD Cert.SsdFwdKernelIdeal.τ).loc Cert.SsdFwdKernelIdeal.main_arg2)) (m ((c.tc : Thread Cert.SsdFwdKernelIdeal.nD Cert.SsdFwdKernelIdeal.τ).loc Cert.SsdFwdKernelIdeal.main_arg3)) (m ((c.tc : Thread Cert.SsdFwdKernelIdeal.nD Cert.SsdFwdKernelIdeal.τ).loc Cert.SsdFwdKernelIdeal.main_arg4))) = (fun _ => 1#1)

def Pre_SsdFwdReferenceIdeal (m : (ℓ : Loc Cert.SsdFwdReferenceIdeal.nD Cert.SsdFwdReferenceIdeal.τ Cert.SsdFwdReferenceIdeal.sig) → Buf (Elt Ideal) ℓ) : Prop :=
  True

def Pre_SsdFwdReferenceIdeal_ssdf_finite [hPre_ssdf_finite : Cert.Pre_ssdf_finite.Facts] (m : (ℓ : Loc Cert.SsdFwdReferenceIdeal.nD Cert.SsdFwdReferenceIdeal.τ Cert.SsdFwdReferenceIdeal.sig) → Buf (Elt Ideal) ℓ) : Prop :=
  ∀ c : Dev Cert.SsdFwdReferenceIdeal.nD,
    (Cert.Pre_ssdf_finite.fn (F := Ideal) (m ((c.tc : Thread Cert.SsdFwdReferenceIdeal.nD Cert.SsdFwdReferenceIdeal.τ).loc Cert.SsdFwdReferenceIdeal.main_arg0)) (m ((c.tc : Thread Cert.SsdFwdReferenceIdeal.nD Cert.SsdFwdReferenceIdeal.τ).loc Cert.SsdFwdReferenceIdeal.main_arg1)) (m ((c.tc : Thread Cert.SsdFwdReferenceIdeal.nD Cert.SsdFwdReferenceIdeal.τ).loc Cert.SsdFwdReferenceIdeal.main_arg2)) (m ((c.tc : Thread Cert.SsdFwdReferenceIdeal.nD Cert.SsdFwdReferenceIdeal.τ).loc Cert.SsdFwdReferenceIdeal.main_arg3)) (m ((c.tc : Thread Cert.SsdFwdReferenceIdeal.nD Cert.SsdFwdReferenceIdeal.τ).loc Cert.SsdFwdReferenceIdeal.main_arg4))) = (fun _ => 1#1)

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdKernelIdeal_ssdb_finite [hPre_ssdb_finite : Cert.Pre_ssdb_finite.Facts] (m : (ℓ : Loc Cert.SsdKernelIdeal.nD Cert.SsdKernelIdeal.τ Cert.SsdKernelIdeal.sig) → Buf (Elt Ideal) ℓ) : Prop :=
  ∀ c : Dev Cert.SsdKernelIdeal.nD,
    (Cert.Pre_ssdb_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))) = (fun _ => 1#1)

def Pre_SsdReferenceIdeal (m : (ℓ : Loc Cert.SsdReferenceIdeal.nD Cert.SsdReferenceIdeal.τ Cert.SsdReferenceIdeal.sig) → Buf (Elt Ideal) ℓ) : Prop :=
  True

def Pre_SsdReferenceIdeal_ssdb_finite [hPre_ssdb_finite : Cert.Pre_ssdb_finite.Facts] (m : (ℓ : Loc Cert.SsdReferenceIdeal.nD Cert.SsdReferenceIdeal.τ Cert.SsdReferenceIdeal.sig) → Buf (Elt Ideal) ℓ) : Prop :=
  ∀ c : Dev Cert.SsdReferenceIdeal.nD,
    (Cert.Pre_ssdb_finite.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5))) = (fun _ => 1#1)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvKernelIdeal_pre_conv_ct_finite [hConvKernelIdeal : Cert.ConvKernelIdeal.Facts] [hPre_conv_ct_finite : Cert.Pre_conv_ct_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_conv_ct_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_conv_ct_finite [hConvReferenceIdeal : Cert.ConvReferenceIdeal.Facts] [hPre_conv_ct_finite : Cert.Pre_conv_ct_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_conv_ct_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2))
      ∧ r.2.sem = fun _ => 0)

def quiescent_MixResKernel [hMixResKernel : Cert.MixResKernel.Facts] : Prop :=
  ∀ (m : (ℓ : Loc Cert.MixResKernel.nD Cert.MixResKernel.τ Cert.MixResKernel.sig) → Buf (Elt Bits) ℓ) (g : Dev Cert.MixResKernel.nD → PrngReg), Pre_MixResKernel m →
    θ_run (Cert.MixResKernel.defs (F := Bits)) (onTc (τ := Cert.MixResKernel.τ) (Cert.MixResKernel.main (F := Bits))) ⟨m, fun _ => 0, g⟩ (fun r => (∀ c : Dev Cert.MixResKernel.nD,
      r.2.mem ((c.tc : Thread Cert.MixResKernel.nD Cert.MixResKernel.τ).loc Cert.MixResKernel.main_arg0) = m ((c.tc : Thread Cert.MixResKernel.nD Cert.MixResKernel.τ).loc Cert.MixResKernel.main_arg0)
      ∧ r.2.mem ((c.tc : Thread Cert.MixResKernel.nD Cert.MixResKernel.τ).loc Cert.MixResKernel.main_arg1) = m ((c.tc : Thread Cert.MixResKernel.nD Cert.MixResKernel.τ).loc Cert.MixResKernel.main_arg1)
      ∧ r.2.mem ((c.tc : Thread Cert.MixResKernel.nD Cert.MixResKernel.τ).loc Cert.MixResKernel.main_arg2) = m ((c.tc : Thread Cert.MixResKernel.nD Cert.MixResKernel.τ).loc Cert.MixResKernel.main_arg2))
      ∧ r.2.sem = fun _ => 0)

def quiescent_MixResKernelIdeal [hMixResKernelIdeal : Cert.MixResKernelIdeal.Facts] : Prop :=
  ∀ (m : (ℓ : Loc Cert.MixResKernelIdeal.nD Cert.MixResKernelIdeal.τ Cert.MixResKernelIdeal.sig) → Buf (Elt Ideal) ℓ) (g : Dev Cert.MixResKernelIdeal.nD → PrngReg), Pre_MixResKernelIdeal m →
    θ_run (Cert.MixResKernelIdeal.defs (F := Ideal)) (onTc (τ := Cert.MixResKernelIdeal.τ) (Cert.MixResKernelIdeal.main (F := Ideal))) ⟨m, fun _ => 0, g⟩ (fun r => (∀ c : Dev Cert.MixResKernelIdeal.nD,
      r.2.mem ((c.tc : Thread Cert.MixResKernelIdeal.nD Cert.MixResKernelIdeal.τ).loc Cert.MixResKernelIdeal.main_arg0) = m ((c.tc : Thread Cert.MixResKernelIdeal.nD Cert.MixResKernelIdeal.τ).loc Cert.MixResKernelIdeal.main_arg0)
      ∧ r.2.mem ((c.tc : Thread Cert.MixResKernelIdeal.nD Cert.MixResKernelIdeal.τ).loc Cert.MixResKernelIdeal.main_arg1) = m ((c.tc : Thread Cert.MixResKernelIdeal.nD Cert.MixResKernelIdeal.τ).loc Cert.MixResKernelIdeal.main_arg1)
      ∧ r.2.mem ((c.tc : Thread Cert.MixResKernelIdeal.nD Cert.MixResKernelIdeal.τ).loc Cert.MixResKernelIdeal.main_arg2) = m ((c.tc : Thread Cert.MixResKernelIdeal.nD Cert.MixResKernelIdeal.τ).loc Cert.MixResKernelIdeal.main_arg2))
      ∧ r.2.sem = fun _ => 0)

def quiescent_MixResReferenceIdeal [hMixResReferenceIdeal : Cert.MixResReferenceIdeal.Facts] : Prop :=
  ∀ (m : (ℓ : Loc Cert.MixResReferenceIdeal.nD Cert.MixResReferenceIdeal.τ Cert.MixResReferenceIdeal.sig) → Buf (Elt Ideal) ℓ) (g : Dev Cert.MixResReferenceIdeal.nD → PrngReg), Pre_MixResReferenceIdeal m →
    θ_run (Cert.MixResReferenceIdeal.defs (F := Ideal)) (onTc (τ := Cert.MixResReferenceIdeal.τ) (Cert.MixResReferenceIdeal.main (F := Ideal))) ⟨m, fun _ => 0, g⟩ (fun r => (∀ c : Dev Cert.MixResReferenceIdeal.nD,
      r.2.mem ((c.tc : Thread Cert.MixResReferenceIdeal.nD Cert.MixResReferenceIdeal.τ).loc Cert.MixResReferenceIdeal.main_arg0) = m ((c.tc : Thread Cert.MixResReferenceIdeal.nD Cert.MixResReferenceIdeal.τ).loc Cert.MixResReferenceIdeal.main_arg0)
      ∧ r.2.mem ((c.tc : Thread Cert.MixResReferenceIdeal.nD Cert.MixResReferenceIdeal.τ).loc Cert.MixResReferenceIdeal.main_arg1) = m ((c.tc : Thread Cert.MixResReferenceIdeal.nD Cert.MixResReferenceIdeal.τ).loc Cert.MixResReferenceIdeal.main_arg1)
      ∧ r.2.mem ((c.tc : Thread Cert.MixResReferenceIdeal.nD Cert.MixResReferenceIdeal.τ).loc Cert.MixResReferenceIdeal.main_arg2) = m ((c.tc : Thread Cert.MixResReferenceIdeal.nD Cert.MixResReferenceIdeal.τ).loc Cert.MixResReferenceIdeal.main_arg2))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1)
      ∧ r.2.mem ((c.tc : Thread Cert.RmsKernel.nD Cert.RmsKernel.τ).loc Cert.RmsKernel.main_arg2) = m ((c.tc : Thread Cert.RmsKernel.nD Cert.RmsKernel.τ).loc Cert.RmsKernel.main_arg2)
      ∧ r.2.mem ((c.tc : Thread Cert.RmsKernel.nD Cert.RmsKernel.τ).loc Cert.RmsKernel.main_arg3) = m ((c.tc : Thread Cert.RmsKernel.nD Cert.RmsKernel.τ).loc Cert.RmsKernel.main_arg3))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
      ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
      ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1)
      ∧ r.2.mem ((c.tc : Thread Cert.RmsReferenceIdeal.nD Cert.RmsReferenceIdeal.τ).loc Cert.RmsReferenceIdeal.main_arg2) = m ((c.tc : Thread Cert.RmsReferenceIdeal.nD Cert.RmsReferenceIdeal.τ).loc Cert.RmsReferenceIdeal.main_arg2)
      ∧ r.2.mem ((c.tc : Thread Cert.RmsReferenceIdeal.nD Cert.RmsReferenceIdeal.τ).loc Cert.RmsReferenceIdeal.main_arg3) = m ((c.tc : Thread Cert.RmsReferenceIdeal.nD Cert.RmsReferenceIdeal.τ).loc Cert.RmsReferenceIdeal.main_arg3))
      ∧ r.2.sem = fun _ => 0)

def quiescent_MixRmsKernel [hMixRmsKernel : Cert.MixRmsKernel.Facts] : Prop :=
  ∀ (m : (ℓ : Loc Cert.MixRmsKernel.nD Cert.MixRmsKernel.τ Cert.MixRmsKernel.sig) → Buf (Elt Bits) ℓ) (g : Dev Cert.MixRmsKernel.nD → PrngReg), Pre_MixRmsKernel m →
    θ_run (Cert.MixRmsKernel.defs (F := Bits)) (onTc (τ := Cert.MixRmsKernel.τ) (Cert.MixRmsKernel.main (F := Bits))) ⟨m, fun _ => 0, g⟩ (fun r => (∀ c : Dev Cert.MixRmsKernel.nD,
      r.2.mem ((c.tc : Thread Cert.MixRmsKernel.nD Cert.MixRmsKernel.τ).loc Cert.MixRmsKernel.main_arg0) = m ((c.tc : Thread Cert.MixRmsKernel.nD Cert.MixRmsKernel.τ).loc Cert.MixRmsKernel.main_arg0)
      ∧ r.2.mem ((c.tc : Thread Cert.MixRmsKernel.nD Cert.MixRmsKernel.τ).loc Cert.MixRmsKernel.main_arg1) = m ((c.tc : Thread Cert.MixRmsKernel.nD Cert.MixRmsKernel.τ).loc Cert.MixRmsKernel.main_arg1)
      ∧ r.2.mem ((c.tc : Thread Cert.MixRmsKernel.nD Cert.MixRmsKernel.τ).loc Cert.MixRmsKernel.main_arg2) = m ((c.tc : Thread Cert.MixRmsKernel.nD Cert.MixRmsKernel.τ).loc Cert.MixRmsKernel.main_arg2)
      ∧ r.2.mem ((c.tc : Thread Cert.MixRmsKernel.nD Cert.MixRmsKernel.τ).loc Cert.MixRmsKernel.main_arg3) = m ((c.tc : Thread Cert.MixRmsKernel.nD Cert.MixRmsKernel.τ).loc Cert.MixRmsKernel.main_arg3)
      ∧ r.2.mem ((c.tc : Thread Cert.MixRmsKernel.nD Cert.MixRmsKernel.τ).loc Cert.MixRmsKernel.main_arg4) = m ((c.tc : Thread Cert.MixRmsKernel.nD Cert.MixRmsKernel.τ).loc Cert.MixRmsKernel.main_arg4)
      ∧ r.2.mem ((c.tc : Thread Cert.MixRmsKernel.nD Cert.MixRmsKernel.τ).loc Cert.MixRmsKernel.main_arg5) = m ((c.tc : Thread Cert.MixRmsKernel.nD Cert.MixRmsKernel.τ).loc Cert.MixRmsKernel.main_arg5))
      ∧ r.2.sem = fun _ => 0)

def quiescent_MixRmsKernelIdeal [hMixRmsKernelIdeal : Cert.MixRmsKernelIdeal.Facts] : Prop :=
  ∀ (m : (ℓ : Loc Cert.MixRmsKernelIdeal.nD Cert.MixRmsKernelIdeal.τ Cert.MixRmsKernelIdeal.sig) → Buf (Elt Ideal) ℓ) (g : Dev Cert.MixRmsKernelIdeal.nD → PrngReg), Pre_MixRmsKernelIdeal m →
    θ_run (Cert.MixRmsKernelIdeal.defs (F := Ideal)) (onTc (τ := Cert.MixRmsKernelIdeal.τ) (Cert.MixRmsKernelIdeal.main (F := Ideal))) ⟨m, fun _ => 0, g⟩ (fun r => (∀ c : Dev Cert.MixRmsKernelIdeal.nD,
      r.2.mem ((c.tc : Thread Cert.MixRmsKernelIdeal.nD Cert.MixRmsKernelIdeal.τ).loc Cert.MixRmsKernelIdeal.main_arg0) = m ((c.tc : Thread Cert.MixRmsKernelIdeal.nD Cert.MixRmsKernelIdeal.τ).loc Cert.MixRmsKernelIdeal.main_arg0)
      ∧ r.2.mem ((c.tc : Thread Cert.MixRmsKernelIdeal.nD Cert.MixRmsKernelIdeal.τ).loc Cert.MixRmsKernelIdeal.main_arg1) = m ((c.tc : Thread Cert.MixRmsKernelIdeal.nD Cert.MixRmsKernelIdeal.τ).loc Cert.MixRmsKernelIdeal.main_arg1)
      ∧ r.2.mem ((c.tc : Thread Cert.MixRmsKernelIdeal.nD Cert.MixRmsKernelIdeal.τ).loc Cert.MixRmsKernelIdeal.main_arg2) = m ((c.tc : Thread Cert.MixRmsKernelIdeal.nD Cert.MixRmsKernelIdeal.τ).loc Cert.MixRmsKernelIdeal.main_arg2)
      ∧ r.2.mem ((c.tc : Thread Cert.MixRmsKernelIdeal.nD Cert.MixRmsKernelIdeal.τ).loc Cert.MixRmsKernelIdeal.main_arg3) = m ((c.tc : Thread Cert.MixRmsKernelIdeal.nD Cert.MixRmsKernelIdeal.τ).loc Cert.MixRmsKernelIdeal.main_arg3)
      ∧ r.2.mem ((c.tc : Thread Cert.MixRmsKernelIdeal.nD Cert.MixRmsKernelIdeal.τ).loc Cert.MixRmsKernelIdeal.main_arg4) = m ((c.tc : Thread Cert.MixRmsKernelIdeal.nD Cert.MixRmsKernelIdeal.τ).loc Cert.MixRmsKernelIdeal.main_arg4)
      ∧ r.2.mem ((c.tc : Thread Cert.MixRmsKernelIdeal.nD Cert.MixRmsKernelIdeal.τ).loc Cert.MixRmsKernelIdeal.main_arg5) = m ((c.tc : Thread Cert.MixRmsKernelIdeal.nD Cert.MixRmsKernelIdeal.τ).loc Cert.MixRmsKernelIdeal.main_arg5))
      ∧ r.2.sem = fun _ => 0)

def quiescent_MixRmsReferenceIdeal [hMixRmsReferenceIdeal : Cert.MixRmsReferenceIdeal.Facts] : Prop :=
  ∀ (m : (ℓ : Loc Cert.MixRmsReferenceIdeal.nD Cert.MixRmsReferenceIdeal.τ Cert.MixRmsReferenceIdeal.sig) → Buf (Elt Ideal) ℓ) (g : Dev Cert.MixRmsReferenceIdeal.nD → PrngReg), Pre_MixRmsReferenceIdeal m →
    θ_run (Cert.MixRmsReferenceIdeal.defs (F := Ideal)) (onTc (τ := Cert.MixRmsReferenceIdeal.τ) (Cert.MixRmsReferenceIdeal.main (F := Ideal))) ⟨m, fun _ => 0, g⟩ (fun r => (∀ c : Dev Cert.MixRmsReferenceIdeal.nD,
      r.2.mem ((c.tc : Thread Cert.MixRmsReferenceIdeal.nD Cert.MixRmsReferenceIdeal.τ).loc Cert.MixRmsReferenceIdeal.main_arg0) = m ((c.tc : Thread Cert.MixRmsReferenceIdeal.nD Cert.MixRmsReferenceIdeal.τ).loc Cert.MixRmsReferenceIdeal.main_arg0)
      ∧ r.2.mem ((c.tc : Thread Cert.MixRmsReferenceIdeal.nD Cert.MixRmsReferenceIdeal.τ).loc Cert.MixRmsReferenceIdeal.main_arg1) = m ((c.tc : Thread Cert.MixRmsReferenceIdeal.nD Cert.MixRmsReferenceIdeal.τ).loc Cert.MixRmsReferenceIdeal.main_arg1)
      ∧ r.2.mem ((c.tc : Thread Cert.MixRmsReferenceIdeal.nD Cert.MixRmsReferenceIdeal.τ).loc Cert.MixRmsReferenceIdeal.main_arg2) = m ((c.tc : Thread Cert.MixRmsReferenceIdeal.nD Cert.MixRmsReferenceIdeal.τ).loc Cert.MixRmsReferenceIdeal.main_arg2)
      ∧ r.2.mem ((c.tc : Thread Cert.MixRmsReferenceIdeal.nD Cert.MixRmsReferenceIdeal.τ).loc Cert.MixRmsReferenceIdeal.main_arg3) = m ((c.tc : Thread Cert.MixRmsReferenceIdeal.nD Cert.MixRmsReferenceIdeal.τ).loc Cert.MixRmsReferenceIdeal.main_arg3)
      ∧ r.2.mem ((c.tc : Thread Cert.MixRmsReferenceIdeal.nD Cert.MixRmsReferenceIdeal.τ).loc Cert.MixRmsReferenceIdeal.main_arg4) = m ((c.tc : Thread Cert.MixRmsReferenceIdeal.nD Cert.MixRmsReferenceIdeal.τ).loc Cert.MixRmsReferenceIdeal.main_arg4)
      ∧ r.2.mem ((c.tc : Thread Cert.MixRmsReferenceIdeal.nD Cert.MixRmsReferenceIdeal.τ).loc Cert.MixRmsReferenceIdeal.main_arg5) = m ((c.tc : Thread Cert.MixRmsReferenceIdeal.nD Cert.MixRmsReferenceIdeal.τ).loc Cert.MixRmsReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_ParKernel [hParKernel : Cert.ParKernel.Facts] : Prop :=
  ∀ (m : (ℓ : Loc Cert.ParKernel.nD Cert.ParKernel.τ Cert.ParKernel.sig) → Buf (Elt Bits) ℓ) (g : Dev Cert.ParKernel.nD → PrngReg), Pre_ParKernel m →
    θ_run (Cert.ParKernel.defs (F := Bits)) (onTc (τ := Cert.ParKernel.τ) (Cert.ParKernel.main (F := Bits))) ⟨m, fun _ => 0, g⟩ (fun r => (∀ c : Dev Cert.ParKernel.nD,
      r.2.mem ((c.tc : Thread Cert.ParKernel.nD Cert.ParKernel.τ).loc Cert.ParKernel.main_arg0) = m ((c.tc : Thread Cert.ParKernel.nD Cert.ParKernel.τ).loc Cert.ParKernel.main_arg0)
      ∧ r.2.mem ((c.tc : Thread Cert.ParKernel.nD Cert.ParKernel.τ).loc Cert.ParKernel.main_arg1) = m ((c.tc : Thread Cert.ParKernel.nD Cert.ParKernel.τ).loc Cert.ParKernel.main_arg1)
      ∧ r.2.mem ((c.tc : Thread Cert.ParKernel.nD Cert.ParKernel.τ).loc Cert.ParKernel.main_arg2) = m ((c.tc : Thread Cert.ParKernel.nD Cert.ParKernel.τ).loc Cert.ParKernel.main_arg2)
      ∧ r.2.mem ((c.tc : Thread Cert.ParKernel.nD Cert.ParKernel.τ).loc Cert.ParKernel.main_arg3) = m ((c.tc : Thread Cert.ParKernel.nD Cert.ParKernel.τ).loc Cert.ParKernel.main_arg3)
      ∧ r.2.mem ((c.tc : Thread Cert.ParKernel.nD Cert.ParKernel.τ).loc Cert.ParKernel.main_arg4) = m ((c.tc : Thread Cert.ParKernel.nD Cert.ParKernel.τ).loc Cert.ParKernel.main_arg4)
      ∧ r.2.mem ((c.tc : Thread Cert.ParKernel.nD Cert.ParKernel.τ).loc Cert.ParKernel.main_arg5) = m ((c.tc : Thread Cert.ParKernel.nD Cert.ParKernel.τ).loc Cert.ParKernel.main_arg5)
      ∧ r.2.mem ((c.tc : Thread Cert.ParKernel.nD Cert.ParKernel.τ).loc Cert.ParKernel.main_arg6) = m ((c.tc : Thread Cert.ParKernel.nD Cert.ParKernel.τ).loc Cert.ParKernel.main_arg6)
      ∧ r.2.mem ((c.tc : Thread Cert.ParKernel.nD Cert.ParKernel.τ).loc Cert.ParKernel.main_arg7) = m ((c.tc : Thread Cert.ParKernel.nD Cert.ParKernel.τ).loc Cert.ParKernel.main_arg7)
      ∧ r.2.mem ((c.tc : Thread Cert.ParKernel.nD Cert.ParKernel.τ).loc Cert.ParKernel.main_arg8) = m ((c.tc : Thread Cert.ParKernel.nD Cert.ParKernel.τ).loc Cert.ParKernel.main_arg8))
      ∧ r.2.sem = fun _ => 0)

def quiescent_ParKernelIdeal [hParKernelIdeal : Cert.ParKernelIdeal.Facts] : Prop :=
  ∀ (m : (ℓ : Loc Cert.ParKernelIdeal.nD Cert.ParKernelIdeal.τ Cert.ParKernelIdeal.sig) → Buf (Elt Ideal) ℓ) (g : Dev Cert.ParKernelIdeal.nD → PrngReg), Pre_ParKernelIdeal m →
    θ_run (Cert.ParKernelIdeal.defs (F := Ideal)) (onTc (τ := Cert.ParKernelIdeal.τ) (Cert.ParKernelIdeal.main (F := Ideal))) ⟨m, fun _ => 0, g⟩ (fun r => (∀ c : Dev Cert.ParKernelIdeal.nD,
      r.2.mem ((c.tc : Thread Cert.ParKernelIdeal.nD Cert.ParKernelIdeal.τ).loc Cert.ParKernelIdeal.main_arg0) = m ((c.tc : Thread Cert.ParKernelIdeal.nD Cert.ParKernelIdeal.τ).loc Cert.ParKernelIdeal.main_arg0)
      ∧ r.2.mem ((c.tc : Thread Cert.ParKernelIdeal.nD Cert.ParKernelIdeal.τ).loc Cert.ParKernelIdeal.main_arg1) = m ((c.tc : Thread Cert.ParKernelIdeal.nD Cert.ParKernelIdeal.τ).loc Cert.ParKernelIdeal.main_arg1)
      ∧ r.2.mem ((c.tc : Thread Cert.ParKernelIdeal.nD Cert.ParKernelIdeal.τ).loc Cert.ParKernelIdeal.main_arg2) = m ((c.tc : Thread Cert.ParKernelIdeal.nD Cert.ParKernelIdeal.τ).loc Cert.ParKernelIdeal.main_arg2)
      ∧ r.2.mem ((c.tc : Thread Cert.ParKernelIdeal.nD Cert.ParKernelIdeal.τ).loc Cert.ParKernelIdeal.main_arg3) = m ((c.tc : Thread Cert.ParKernelIdeal.nD Cert.ParKernelIdeal.τ).loc Cert.ParKernelIdeal.main_arg3)
      ∧ r.2.mem ((c.tc : Thread Cert.ParKernelIdeal.nD Cert.ParKernelIdeal.τ).loc Cert.ParKernelIdeal.main_arg4) = m ((c.tc : Thread Cert.ParKernelIdeal.nD Cert.ParKernelIdeal.τ).loc Cert.ParKernelIdeal.main_arg4)
      ∧ r.2.mem ((c.tc : Thread Cert.ParKernelIdeal.nD Cert.ParKernelIdeal.τ).loc Cert.ParKernelIdeal.main_arg5) = m ((c.tc : Thread Cert.ParKernelIdeal.nD Cert.ParKernelIdeal.τ).loc Cert.ParKernelIdeal.main_arg5)
      ∧ r.2.mem ((c.tc : Thread Cert.ParKernelIdeal.nD Cert.ParKernelIdeal.τ).loc Cert.ParKernelIdeal.main_arg6) = m ((c.tc : Thread Cert.ParKernelIdeal.nD Cert.ParKernelIdeal.τ).loc Cert.ParKernelIdeal.main_arg6)
      ∧ r.2.mem ((c.tc : Thread Cert.ParKernelIdeal.nD Cert.ParKernelIdeal.τ).loc Cert.ParKernelIdeal.main_arg7) = m ((c.tc : Thread Cert.ParKernelIdeal.nD Cert.ParKernelIdeal.τ).loc Cert.ParKernelIdeal.main_arg7)
      ∧ r.2.mem ((c.tc : Thread Cert.ParKernelIdeal.nD Cert.ParKernelIdeal.τ).loc Cert.ParKernelIdeal.main_arg8) = m ((c.tc : Thread Cert.ParKernelIdeal.nD Cert.ParKernelIdeal.τ).loc Cert.ParKernelIdeal.main_arg8))
      ∧ r.2.sem = fun _ => 0)

def quiescent_ParReferenceIdeal [hParReferenceIdeal : Cert.ParReferenceIdeal.Facts] : Prop :=
  ∀ (m : (ℓ : Loc Cert.ParReferenceIdeal.nD Cert.ParReferenceIdeal.τ Cert.ParReferenceIdeal.sig) → Buf (Elt Ideal) ℓ) (g : Dev Cert.ParReferenceIdeal.nD → PrngReg), Pre_ParReferenceIdeal m →
    θ_run (Cert.ParReferenceIdeal.defs (F := Ideal)) (onTc (τ := Cert.ParReferenceIdeal.τ) (Cert.ParReferenceIdeal.main (F := Ideal))) ⟨m, fun _ => 0, g⟩ (fun r => (∀ c : Dev Cert.ParReferenceIdeal.nD,
      r.2.mem ((c.tc : Thread Cert.ParReferenceIdeal.nD Cert.ParReferenceIdeal.τ).loc Cert.ParReferenceIdeal.main_arg0) = m ((c.tc : Thread Cert.ParReferenceIdeal.nD Cert.ParReferenceIdeal.τ).loc Cert.ParReferenceIdeal.main_arg0)
      ∧ r.2.mem ((c.tc : Thread Cert.ParReferenceIdeal.nD Cert.ParReferenceIdeal.τ).loc Cert.ParReferenceIdeal.main_arg1) = m ((c.tc : Thread Cert.ParReferenceIdeal.nD Cert.ParReferenceIdeal.τ).loc Cert.ParReferenceIdeal.main_arg1)
      ∧ r.2.mem ((c.tc : Thread Cert.ParReferenceIdeal.nD Cert.ParReferenceIdeal.τ).loc Cert.ParReferenceIdeal.main_arg2) = m ((c.tc : Thread Cert.ParReferenceIdeal.nD Cert.ParReferenceIdeal.τ).loc Cert.ParReferenceIdeal.main_arg2)
      ∧ r.2.mem ((c.tc : Thread Cert.ParReferenceIdeal.nD Cert.ParReferenceIdeal.τ).loc Cert.ParReferenceIdeal.main_arg3) = m ((c.tc : Thread Cert.ParReferenceIdeal.nD Cert.ParReferenceIdeal.τ).loc Cert.ParReferenceIdeal.main_arg3)
      ∧ r.2.mem ((c.tc : Thread Cert.ParReferenceIdeal.nD Cert.ParReferenceIdeal.τ).loc Cert.ParReferenceIdeal.main_arg4) = m ((c.tc : Thread Cert.ParReferenceIdeal.nD Cert.ParReferenceIdeal.τ).loc Cert.ParReferenceIdeal.main_arg4)
      ∧ r.2.mem ((c.tc : Thread Cert.ParReferenceIdeal.nD Cert.ParReferenceIdeal.τ).loc Cert.ParReferenceIdeal.main_arg5) = m ((c.tc : Thread Cert.ParReferenceIdeal.nD Cert.ParReferenceIdeal.τ).loc Cert.ParReferenceIdeal.main_arg5)
      ∧ r.2.mem ((c.tc : Thread Cert.ParReferenceIdeal.nD Cert.ParReferenceIdeal.τ).loc Cert.ParReferenceIdeal.main_arg6) = m ((c.tc : Thread Cert.ParReferenceIdeal.nD Cert.ParReferenceIdeal.τ).loc Cert.ParReferenceIdeal.main_arg6)
      ∧ r.2.mem ((c.tc : Thread Cert.ParReferenceIdeal.nD Cert.ParReferenceIdeal.τ).loc Cert.ParReferenceIdeal.main_arg7) = m ((c.tc : Thread Cert.ParReferenceIdeal.nD Cert.ParReferenceIdeal.τ).loc Cert.ParReferenceIdeal.main_arg7)
      ∧ r.2.mem ((c.tc : Thread Cert.ParReferenceIdeal.nD Cert.ParReferenceIdeal.τ).loc Cert.ParReferenceIdeal.main_arg8) = m ((c.tc : Thread Cert.ParReferenceIdeal.nD Cert.ParReferenceIdeal.τ).loc Cert.ParReferenceIdeal.main_arg8))
      ∧ r.2.sem = fun _ => 0)

def quiescent_ScanKernel [hScanKernel : Cert.ScanKernel.Facts] : Prop :=
  ∀ (m : (ℓ : Loc Cert.ScanKernel.nD Cert.ScanKernel.τ Cert.ScanKernel.sig) → Buf (Elt Bits) ℓ) (g : Dev Cert.ScanKernel.nD → PrngReg), Pre_ScanKernel m →
    θ_run (Cert.ScanKernel.defs (F := Bits)) (onTc (τ := Cert.ScanKernel.τ) (Cert.ScanKernel.main (F := Bits))) ⟨m, fun _ => 0, g⟩ (fun r => (∀ c : Dev Cert.ScanKernel.nD,
      r.2.mem ((c.tc : Thread Cert.ScanKernel.nD Cert.ScanKernel.τ).loc Cert.ScanKernel.main_arg0) = m ((c.tc : Thread Cert.ScanKernel.nD Cert.ScanKernel.τ).loc Cert.ScanKernel.main_arg0)
      ∧ r.2.mem ((c.tc : Thread Cert.ScanKernel.nD Cert.ScanKernel.τ).loc Cert.ScanKernel.main_arg1) = m ((c.tc : Thread Cert.ScanKernel.nD Cert.ScanKernel.τ).loc Cert.ScanKernel.main_arg1)
      ∧ r.2.mem ((c.tc : Thread Cert.ScanKernel.nD Cert.ScanKernel.τ).loc Cert.ScanKernel.main_arg2) = m ((c.tc : Thread Cert.ScanKernel.nD Cert.ScanKernel.τ).loc Cert.ScanKernel.main_arg2)
      ∧ r.2.mem ((c.tc : Thread Cert.ScanKernel.nD Cert.ScanKernel.τ).loc Cert.ScanKernel.main_arg3) = m ((c.tc : Thread Cert.ScanKernel.nD Cert.ScanKernel.τ).loc Cert.ScanKernel.main_arg3)
      ∧ r.2.mem ((c.tc : Thread Cert.ScanKernel.nD Cert.ScanKernel.τ).loc Cert.ScanKernel.main_arg4) = m ((c.tc : Thread Cert.ScanKernel.nD Cert.ScanKernel.τ).loc Cert.ScanKernel.main_arg4)
      ∧ r.2.mem ((c.tc : Thread Cert.ScanKernel.nD Cert.ScanKernel.τ).loc Cert.ScanKernel.main_arg5) = m ((c.tc : Thread Cert.ScanKernel.nD Cert.ScanKernel.τ).loc Cert.ScanKernel.main_arg5)
      ∧ r.2.mem ((c.tc : Thread Cert.ScanKernel.nD Cert.ScanKernel.τ).loc Cert.ScanKernel.main_arg6) = m ((c.tc : Thread Cert.ScanKernel.nD Cert.ScanKernel.τ).loc Cert.ScanKernel.main_arg6)
      ∧ r.2.mem ((c.tc : Thread Cert.ScanKernel.nD Cert.ScanKernel.τ).loc Cert.ScanKernel.main_arg7) = m ((c.tc : Thread Cert.ScanKernel.nD Cert.ScanKernel.τ).loc Cert.ScanKernel.main_arg7)
      ∧ r.2.mem ((c.tc : Thread Cert.ScanKernel.nD Cert.ScanKernel.τ).loc Cert.ScanKernel.main_arg8) = m ((c.tc : Thread Cert.ScanKernel.nD Cert.ScanKernel.τ).loc Cert.ScanKernel.main_arg8)
      ∧ r.2.mem ((c.tc : Thread Cert.ScanKernel.nD Cert.ScanKernel.τ).loc Cert.ScanKernel.main_arg9) = m ((c.tc : Thread Cert.ScanKernel.nD Cert.ScanKernel.τ).loc Cert.ScanKernel.main_arg9)
      ∧ r.2.mem ((c.tc : Thread Cert.ScanKernel.nD Cert.ScanKernel.τ).loc Cert.ScanKernel.main_arg10) = m ((c.tc : Thread Cert.ScanKernel.nD Cert.ScanKernel.τ).loc Cert.ScanKernel.main_arg10))
      ∧ r.2.sem = fun _ => 0)

def quiescent_ScanKernelIdeal [hScanKernelIdeal : Cert.ScanKernelIdeal.Facts] : Prop :=
  ∀ (m : (ℓ : Loc Cert.ScanKernelIdeal.nD Cert.ScanKernelIdeal.τ Cert.ScanKernelIdeal.sig) → Buf (Elt Ideal) ℓ) (g : Dev Cert.ScanKernelIdeal.nD → PrngReg), Pre_ScanKernelIdeal m →
    θ_run (Cert.ScanKernelIdeal.defs (F := Ideal)) (onTc (τ := Cert.ScanKernelIdeal.τ) (Cert.ScanKernelIdeal.main (F := Ideal))) ⟨m, fun _ => 0, g⟩ (fun r => (∀ c : Dev Cert.ScanKernelIdeal.nD,
      r.2.mem ((c.tc : Thread Cert.ScanKernelIdeal.nD Cert.ScanKernelIdeal.τ).loc Cert.ScanKernelIdeal.main_arg0) = m ((c.tc : Thread Cert.ScanKernelIdeal.nD Cert.ScanKernelIdeal.τ).loc Cert.ScanKernelIdeal.main_arg0)
      ∧ r.2.mem ((c.tc : Thread Cert.ScanKernelIdeal.nD Cert.ScanKernelIdeal.τ).loc Cert.ScanKernelIdeal.main_arg1) = m ((c.tc : Thread Cert.ScanKernelIdeal.nD Cert.ScanKernelIdeal.τ).loc Cert.ScanKernelIdeal.main_arg1)
      ∧ r.2.mem ((c.tc : Thread Cert.ScanKernelIdeal.nD Cert.ScanKernelIdeal.τ).loc Cert.ScanKernelIdeal.main_arg2) = m ((c.tc : Thread Cert.ScanKernelIdeal.nD Cert.ScanKernelIdeal.τ).loc Cert.ScanKernelIdeal.main_arg2)
      ∧ r.2.mem ((c.tc : Thread Cert.ScanKernelIdeal.nD Cert.ScanKernelIdeal.τ).loc Cert.ScanKernelIdeal.main_arg3) = m ((c.tc : Thread Cert.ScanKernelIdeal.nD Cert.ScanKernelIdeal.τ).loc Cert.ScanKernelIdeal.main_arg3)
      ∧ r.2.mem ((c.tc : Thread Cert.ScanKernelIdeal.nD Cert.ScanKernelIdeal.τ).loc Cert.ScanKernelIdeal.main_arg4) = m ((c.tc : Thread Cert.ScanKernelIdeal.nD Cert.ScanKernelIdeal.τ).loc Cert.ScanKernelIdeal.main_arg4)
      ∧ r.2.mem ((c.tc : Thread Cert.ScanKernelIdeal.nD Cert.ScanKernelIdeal.τ).loc Cert.ScanKernelIdeal.main_arg5) = m ((c.tc : Thread Cert.ScanKernelIdeal.nD Cert.ScanKernelIdeal.τ).loc Cert.ScanKernelIdeal.main_arg5)
      ∧ r.2.mem ((c.tc : Thread Cert.ScanKernelIdeal.nD Cert.ScanKernelIdeal.τ).loc Cert.ScanKernelIdeal.main_arg6) = m ((c.tc : Thread Cert.ScanKernelIdeal.nD Cert.ScanKernelIdeal.τ).loc Cert.ScanKernelIdeal.main_arg6)
      ∧ r.2.mem ((c.tc : Thread Cert.ScanKernelIdeal.nD Cert.ScanKernelIdeal.τ).loc Cert.ScanKernelIdeal.main_arg7) = m ((c.tc : Thread Cert.ScanKernelIdeal.nD Cert.ScanKernelIdeal.τ).loc Cert.ScanKernelIdeal.main_arg7)
      ∧ r.2.mem ((c.tc : Thread Cert.ScanKernelIdeal.nD Cert.ScanKernelIdeal.τ).loc Cert.ScanKernelIdeal.main_arg8) = m ((c.tc : Thread Cert.ScanKernelIdeal.nD Cert.ScanKernelIdeal.τ).loc Cert.ScanKernelIdeal.main_arg8)
      ∧ r.2.mem ((c.tc : Thread Cert.ScanKernelIdeal.nD Cert.ScanKernelIdeal.τ).loc Cert.ScanKernelIdeal.main_arg9) = m ((c.tc : Thread Cert.ScanKernelIdeal.nD Cert.ScanKernelIdeal.τ).loc Cert.ScanKernelIdeal.main_arg9)
      ∧ r.2.mem ((c.tc : Thread Cert.ScanKernelIdeal.nD Cert.ScanKernelIdeal.τ).loc Cert.ScanKernelIdeal.main_arg10) = m ((c.tc : Thread Cert.ScanKernelIdeal.nD Cert.ScanKernelIdeal.τ).loc Cert.ScanKernelIdeal.main_arg10))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1)
      ∧ r.2.mem ((c.tc : Thread Cert.ConvFwdKernel.nD Cert.ConvFwdKernel.τ).loc Cert.ConvFwdKernel.main_arg2) = m ((c.tc : Thread Cert.ConvFwdKernel.nD Cert.ConvFwdKernel.τ).loc Cert.ConvFwdKernel.main_arg2))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1)
      ∧ r.2.mem ((c.tc : Thread Cert.ConvFwdKernelIdeal.nD Cert.ConvFwdKernelIdeal.τ).loc Cert.ConvFwdKernelIdeal.main_arg2) = m ((c.tc : Thread Cert.ConvFwdKernelIdeal.nD Cert.ConvFwdKernelIdeal.τ).loc Cert.ConvFwdKernelIdeal.main_arg2))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2))
      ∧ r.2.sem = fun _ => 0)

def quiescent_GateFwdKernel [hGateFwdKernel : Cert.GateFwdKernel.Facts] : Prop :=
  ∀ (m : (ℓ : Loc Cert.GateFwdKernel.nD Cert.GateFwdKernel.τ Cert.GateFwdKernel.sig) → Buf (Elt Bits) ℓ) (g : Dev Cert.GateFwdKernel.nD → PrngReg), Pre_GateFwdKernel m →
    θ_run (Cert.GateFwdKernel.defs (F := Bits)) (onTc (τ := Cert.GateFwdKernel.τ) (Cert.GateFwdKernel.main (F := Bits))) ⟨m, fun _ => 0, g⟩ (fun r => (∀ c : Dev Cert.GateFwdKernel.nD,
      r.2.mem ((c.tc : Thread Cert.GateFwdKernel.nD Cert.GateFwdKernel.τ).loc Cert.GateFwdKernel.main_arg0) = m ((c.tc : Thread Cert.GateFwdKernel.nD Cert.GateFwdKernel.τ).loc Cert.GateFwdKernel.main_arg0)
      ∧ r.2.mem ((c.tc : Thread Cert.GateFwdKernel.nD Cert.GateFwdKernel.τ).loc Cert.GateFwdKernel.main_arg1) = m ((c.tc : Thread Cert.GateFwdKernel.nD Cert.GateFwdKernel.τ).loc Cert.GateFwdKernel.main_arg1)
      ∧ r.2.mem ((c.tc : Thread Cert.GateFwdKernel.nD Cert.GateFwdKernel.τ).loc Cert.GateFwdKernel.main_arg2) = m ((c.tc : Thread Cert.GateFwdKernel.nD Cert.GateFwdKernel.τ).loc Cert.GateFwdKernel.main_arg2))
      ∧ r.2.sem = fun _ => 0)

def quiescent_GateFwdKernelIdeal [hGateFwdKernelIdeal : Cert.GateFwdKernelIdeal.Facts] : Prop :=
  ∀ (m : (ℓ : Loc Cert.GateFwdKernelIdeal.nD Cert.GateFwdKernelIdeal.τ Cert.GateFwdKernelIdeal.sig) → Buf (Elt Ideal) ℓ) (g : Dev Cert.GateFwdKernelIdeal.nD → PrngReg), Pre_GateFwdKernelIdeal m →
    θ_run (Cert.GateFwdKernelIdeal.defs (F := Ideal)) (onTc (τ := Cert.GateFwdKernelIdeal.τ) (Cert.GateFwdKernelIdeal.main (F := Ideal))) ⟨m, fun _ => 0, g⟩ (fun r => (∀ c : Dev Cert.GateFwdKernelIdeal.nD,
      r.2.mem ((c.tc : Thread Cert.GateFwdKernelIdeal.nD Cert.GateFwdKernelIdeal.τ).loc Cert.GateFwdKernelIdeal.main_arg0) = m ((c.tc : Thread Cert.GateFwdKernelIdeal.nD Cert.GateFwdKernelIdeal.τ).loc Cert.GateFwdKernelIdeal.main_arg0)
      ∧ r.2.mem ((c.tc : Thread Cert.GateFwdKernelIdeal.nD Cert.GateFwdKernelIdeal.τ).loc Cert.GateFwdKernelIdeal.main_arg1) = m ((c.tc : Thread Cert.GateFwdKernelIdeal.nD Cert.GateFwdKernelIdeal.τ).loc Cert.GateFwdKernelIdeal.main_arg1)
      ∧ r.2.mem ((c.tc : Thread Cert.GateFwdKernelIdeal.nD Cert.GateFwdKernelIdeal.τ).loc Cert.GateFwdKernelIdeal.main_arg2) = m ((c.tc : Thread Cert.GateFwdKernelIdeal.nD Cert.GateFwdKernelIdeal.τ).loc Cert.GateFwdKernelIdeal.main_arg2))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2))
      ∧ r.2.sem = fun _ => 0)

def quiescent_RmsFwdKernel [hRmsFwdKernel : Cert.RmsFwdKernel.Facts] : Prop :=
  ∀ (m : (ℓ : Loc Cert.RmsFwdKernel.nD Cert.RmsFwdKernel.τ Cert.RmsFwdKernel.sig) → Buf (Elt Bits) ℓ) (g : Dev Cert.RmsFwdKernel.nD → PrngReg), Pre_RmsFwdKernel m →
    θ_run (Cert.RmsFwdKernel.defs (F := Bits)) (onTc (τ := Cert.RmsFwdKernel.τ) (Cert.RmsFwdKernel.main (F := Bits))) ⟨m, fun _ => 0, g⟩ (fun r => (∀ c : Dev Cert.RmsFwdKernel.nD,
      r.2.mem ((c.tc : Thread Cert.RmsFwdKernel.nD Cert.RmsFwdKernel.τ).loc Cert.RmsFwdKernel.main_arg0) = m ((c.tc : Thread Cert.RmsFwdKernel.nD Cert.RmsFwdKernel.τ).loc Cert.RmsFwdKernel.main_arg0)
      ∧ r.2.mem ((c.tc : Thread Cert.RmsFwdKernel.nD Cert.RmsFwdKernel.τ).loc Cert.RmsFwdKernel.main_arg1) = m ((c.tc : Thread Cert.RmsFwdKernel.nD Cert.RmsFwdKernel.τ).loc Cert.RmsFwdKernel.main_arg1))
      ∧ r.2.sem = fun _ => 0)

def quiescent_RmsFwdKernelIdeal [hRmsFwdKernelIdeal : Cert.RmsFwdKernelIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg), Pre_RmsFwdKernelIdeal m →
    θ_run (Cert.RmsFwdKernelIdeal.defs (F := Ideal)) (onTc (τ := Cert.RmsFwdKernelIdeal.τ) (Cert.RmsFwdKernelIdeal.main (F := Ideal))) ⟨m, fun _ => 0, g⟩ (fun r => (∀ c : Dev Cert.RmsFwdKernelIdeal.nD,
      r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
      ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_ResFwdKernel [hResFwdKernel : Cert.ResFwdKernel.Facts] : Prop :=
  ∀ (m : (ℓ : Loc Cert.ResFwdKernel.nD Cert.ResFwdKernel.τ Cert.ResFwdKernel.sig) → Buf (Elt Bits) ℓ) (g : Dev Cert.ResFwdKernel.nD → PrngReg), Pre_ResFwdKernel m →
    θ_run (Cert.ResFwdKernel.defs (F := Bits)) (onTc (τ := Cert.ResFwdKernel.τ) (Cert.ResFwdKernel.main (F := Bits))) ⟨m, fun _ => 0, g⟩ (fun r => (∀ c : Dev Cert.ResFwdKernel.nD,
      r.2.mem ((c.tc : Thread Cert.ResFwdKernel.nD Cert.ResFwdKernel.τ).loc Cert.ResFwdKernel.main_arg0) = m ((c.tc : Thread Cert.ResFwdKernel.nD Cert.ResFwdKernel.τ).loc Cert.ResFwdKernel.main_arg0)
      ∧ r.2.mem ((c.tc : Thread Cert.ResFwdKernel.nD Cert.ResFwdKernel.τ).loc Cert.ResFwdKernel.main_arg1) = m ((c.tc : Thread Cert.ResFwdKernel.nD Cert.ResFwdKernel.τ).loc Cert.ResFwdKernel.main_arg1)
      ∧ r.2.mem ((c.tc : Thread Cert.ResFwdKernel.nD Cert.ResFwdKernel.τ).loc Cert.ResFwdKernel.main_arg2) = m ((c.tc : Thread Cert.ResFwdKernel.nD Cert.ResFwdKernel.τ).loc Cert.ResFwdKernel.main_arg2))
      ∧ r.2.sem = fun _ => 0)

def quiescent_ResFwdKernelIdeal [hResFwdKernelIdeal : Cert.ResFwdKernelIdeal.Facts] : Prop :=
  ∀ (m : (ℓ : Loc Cert.ResFwdKernelIdeal.nD Cert.ResFwdKernelIdeal.τ Cert.ResFwdKernelIdeal.sig) → Buf (Elt Ideal) ℓ) (g : Dev Cert.ResFwdKernelIdeal.nD → PrngReg), Pre_ResFwdKernelIdeal m →
    θ_run (Cert.ResFwdKernelIdeal.defs (F := Ideal)) (onTc (τ := Cert.ResFwdKernelIdeal.τ) (Cert.ResFwdKernelIdeal.main (F := Ideal))) ⟨m, fun _ => 0, g⟩ (fun r => (∀ c : Dev Cert.ResFwdKernelIdeal.nD,
      r.2.mem ((c.tc : Thread Cert.ResFwdKernelIdeal.nD Cert.ResFwdKernelIdeal.τ).loc Cert.ResFwdKernelIdeal.main_arg0) = m ((c.tc : Thread Cert.ResFwdKernelIdeal.nD Cert.ResFwdKernelIdeal.τ).loc Cert.ResFwdKernelIdeal.main_arg0)
      ∧ r.2.mem ((c.tc : Thread Cert.ResFwdKernelIdeal.nD Cert.ResFwdKernelIdeal.τ).loc Cert.ResFwdKernelIdeal.main_arg1) = m ((c.tc : Thread Cert.ResFwdKernelIdeal.nD Cert.ResFwdKernelIdeal.τ).loc Cert.ResFwdKernelIdeal.main_arg1)
      ∧ r.2.mem ((c.tc : Thread Cert.ResFwdKernelIdeal.nD Cert.ResFwdKernelIdeal.τ).loc Cert.ResFwdKernelIdeal.main_arg2) = m ((c.tc : Thread Cert.ResFwdKernelIdeal.nD Cert.ResFwdKernelIdeal.τ).loc Cert.ResFwdKernelIdeal.main_arg2))
      ∧ r.2.sem = fun _ => 0)

def quiescent_ResFwdReferenceIdeal [hResFwdReferenceIdeal : Cert.ResFwdReferenceIdeal.Facts] : Prop :=
  ∀ (m : (ℓ : Loc Cert.ResFwdReferenceIdeal.nD Cert.ResFwdReferenceIdeal.τ Cert.ResFwdReferenceIdeal.sig) → Buf (Elt Ideal) ℓ) (g : Dev Cert.ResFwdReferenceIdeal.nD → PrngReg), Pre_ResFwdReferenceIdeal m →
    θ_run (Cert.ResFwdReferenceIdeal.defs (F := Ideal)) (onTc (τ := Cert.ResFwdReferenceIdeal.τ) (Cert.ResFwdReferenceIdeal.main (F := Ideal))) ⟨m, fun _ => 0, g⟩ (fun r => (∀ c : Dev Cert.ResFwdReferenceIdeal.nD,
      r.2.mem ((c.tc : Thread Cert.ResFwdReferenceIdeal.nD Cert.ResFwdReferenceIdeal.τ).loc Cert.ResFwdReferenceIdeal.main_arg0) = m ((c.tc : Thread Cert.ResFwdReferenceIdeal.nD Cert.ResFwdReferenceIdeal.τ).loc Cert.ResFwdReferenceIdeal.main_arg0)
      ∧ r.2.mem ((c.tc : Thread Cert.ResFwdReferenceIdeal.nD Cert.ResFwdReferenceIdeal.τ).loc Cert.ResFwdReferenceIdeal.main_arg1) = m ((c.tc : Thread Cert.ResFwdReferenceIdeal.nD Cert.ResFwdReferenceIdeal.τ).loc Cert.ResFwdReferenceIdeal.main_arg1)
      ∧ r.2.mem ((c.tc : Thread Cert.ResFwdReferenceIdeal.nD Cert.ResFwdReferenceIdeal.τ).loc Cert.ResFwdReferenceIdeal.main_arg2) = m ((c.tc : Thread Cert.ResFwdReferenceIdeal.nD Cert.ResFwdReferenceIdeal.τ).loc Cert.ResFwdReferenceIdeal.main_arg2))
      ∧ r.2.sem = fun _ => 0)

def quiescent_MixResFwdKernel [hMixResFwdKernel : Cert.MixResFwdKernel.Facts] : Prop :=
  ∀ (m : (ℓ : Loc Cert.MixResFwdKernel.nD Cert.MixResFwdKernel.τ Cert.MixResFwdKernel.sig) → Buf (Elt Bits) ℓ) (g : Dev Cert.MixResFwdKernel.nD → PrngReg), Pre_MixResFwdKernel m →
    θ_run (Cert.MixResFwdKernel.defs (F := Bits)) (onTc (τ := Cert.MixResFwdKernel.τ) (Cert.MixResFwdKernel.main (F := Bits))) ⟨m, fun _ => 0, g⟩ (fun r => (∀ c : Dev Cert.MixResFwdKernel.nD,
      r.2.mem ((c.tc : Thread Cert.MixResFwdKernel.nD Cert.MixResFwdKernel.τ).loc Cert.MixResFwdKernel.main_arg0) = m ((c.tc : Thread Cert.MixResFwdKernel.nD Cert.MixResFwdKernel.τ).loc Cert.MixResFwdKernel.main_arg0)
      ∧ r.2.mem ((c.tc : Thread Cert.MixResFwdKernel.nD Cert.MixResFwdKernel.τ).loc Cert.MixResFwdKernel.main_arg1) = m ((c.tc : Thread Cert.MixResFwdKernel.nD Cert.MixResFwdKernel.τ).loc Cert.MixResFwdKernel.main_arg1)
      ∧ r.2.mem ((c.tc : Thread Cert.MixResFwdKernel.nD Cert.MixResFwdKernel.τ).loc Cert.MixResFwdKernel.main_arg2) = m ((c.tc : Thread Cert.MixResFwdKernel.nD Cert.MixResFwdKernel.τ).loc Cert.MixResFwdKernel.main_arg2))
      ∧ r.2.sem = fun _ => 0)

def quiescent_MixResFwdKernelIdeal [hMixResFwdKernelIdeal : Cert.MixResFwdKernelIdeal.Facts] : Prop :=
  ∀ (m : (ℓ : Loc Cert.MixResFwdKernelIdeal.nD Cert.MixResFwdKernelIdeal.τ Cert.MixResFwdKernelIdeal.sig) → Buf (Elt Ideal) ℓ) (g : Dev Cert.MixResFwdKernelIdeal.nD → PrngReg), Pre_MixResFwdKernelIdeal m →
    θ_run (Cert.MixResFwdKernelIdeal.defs (F := Ideal)) (onTc (τ := Cert.MixResFwdKernelIdeal.τ) (Cert.MixResFwdKernelIdeal.main (F := Ideal))) ⟨m, fun _ => 0, g⟩ (fun r => (∀ c : Dev Cert.MixResFwdKernelIdeal.nD,
      r.2.mem ((c.tc : Thread Cert.MixResFwdKernelIdeal.nD Cert.MixResFwdKernelIdeal.τ).loc Cert.MixResFwdKernelIdeal.main_arg0) = m ((c.tc : Thread Cert.MixResFwdKernelIdeal.nD Cert.MixResFwdKernelIdeal.τ).loc Cert.MixResFwdKernelIdeal.main_arg0)
      ∧ r.2.mem ((c.tc : Thread Cert.MixResFwdKernelIdeal.nD Cert.MixResFwdKernelIdeal.τ).loc Cert.MixResFwdKernelIdeal.main_arg1) = m ((c.tc : Thread Cert.MixResFwdKernelIdeal.nD Cert.MixResFwdKernelIdeal.τ).loc Cert.MixResFwdKernelIdeal.main_arg1)
      ∧ r.2.mem ((c.tc : Thread Cert.MixResFwdKernelIdeal.nD Cert.MixResFwdKernelIdeal.τ).loc Cert.MixResFwdKernelIdeal.main_arg2) = m ((c.tc : Thread Cert.MixResFwdKernelIdeal.nD Cert.MixResFwdKernelIdeal.τ).loc Cert.MixResFwdKernelIdeal.main_arg2))
      ∧ r.2.sem = fun _ => 0)

def quiescent_MixResFwdReferenceIdeal [hMixResFwdReferenceIdeal : Cert.MixResFwdReferenceIdeal.Facts] : Prop :=
  ∀ (m : (ℓ : Loc Cert.MixResFwdReferenceIdeal.nD Cert.MixResFwdReferenceIdeal.τ Cert.MixResFwdReferenceIdeal.sig) → Buf (Elt Ideal) ℓ) (g : Dev Cert.MixResFwdReferenceIdeal.nD → PrngReg), Pre_MixResFwdReferenceIdeal m →
    θ_run (Cert.MixResFwdReferenceIdeal.defs (F := Ideal)) (onTc (τ := Cert.MixResFwdReferenceIdeal.τ) (Cert.MixResFwdReferenceIdeal.main (F := Ideal))) ⟨m, fun _ => 0, g⟩ (fun r => (∀ c : Dev Cert.MixResFwdReferenceIdeal.nD,
      r.2.mem ((c.tc : Thread Cert.MixResFwdReferenceIdeal.nD Cert.MixResFwdReferenceIdeal.τ).loc Cert.MixResFwdReferenceIdeal.main_arg0) = m ((c.tc : Thread Cert.MixResFwdReferenceIdeal.nD Cert.MixResFwdReferenceIdeal.τ).loc Cert.MixResFwdReferenceIdeal.main_arg0)
      ∧ r.2.mem ((c.tc : Thread Cert.MixResFwdReferenceIdeal.nD Cert.MixResFwdReferenceIdeal.τ).loc Cert.MixResFwdReferenceIdeal.main_arg1) = m ((c.tc : Thread Cert.MixResFwdReferenceIdeal.nD Cert.MixResFwdReferenceIdeal.τ).loc Cert.MixResFwdReferenceIdeal.main_arg1)
      ∧ r.2.mem ((c.tc : Thread Cert.MixResFwdReferenceIdeal.nD Cert.MixResFwdReferenceIdeal.τ).loc Cert.MixResFwdReferenceIdeal.main_arg2) = m ((c.tc : Thread Cert.MixResFwdReferenceIdeal.nD Cert.MixResFwdReferenceIdeal.τ).loc Cert.MixResFwdReferenceIdeal.main_arg2))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2))
      ∧ r.2.sem = fun _ => 0)

def quiescent_GluFwdKernel [hGluFwdKernel : Cert.GluFwdKernel.Facts] : Prop :=
  ∀ (m : (ℓ : Loc Cert.GluFwdKernel.nD Cert.GluFwdKernel.τ Cert.GluFwdKernel.sig) → Buf (Elt Bits) ℓ) (g : Dev Cert.GluFwdKernel.nD → PrngReg), Pre_GluFwdKernel m →
    θ_run (Cert.GluFwdKernel.defs (F := Bits)) (onTc (τ := Cert.GluFwdKernel.τ) (Cert.GluFwdKernel.main (F := Bits))) ⟨m, fun _ => 0, g⟩ (fun r => (∀ c : Dev Cert.GluFwdKernel.nD,
      r.2.mem ((c.tc : Thread Cert.GluFwdKernel.nD Cert.GluFwdKernel.τ).loc Cert.GluFwdKernel.main_arg0) = m ((c.tc : Thread Cert.GluFwdKernel.nD Cert.GluFwdKernel.τ).loc Cert.GluFwdKernel.main_arg0))
      ∧ r.2.sem = fun _ => 0)

def quiescent_GluFwdKernelIdeal [hGluFwdKernelIdeal : Cert.GluFwdKernelIdeal.Facts] : Prop :=
  ∀ (m : (ℓ : Loc Cert.GluFwdKernelIdeal.nD Cert.GluFwdKernelIdeal.τ Cert.GluFwdKernelIdeal.sig) → Buf (Elt Ideal) ℓ) (g : Dev Cert.GluFwdKernelIdeal.nD → PrngReg), Pre_GluFwdKernelIdeal m →
    θ_run (Cert.GluFwdKernelIdeal.defs (F := Ideal)) (onTc (τ := Cert.GluFwdKernelIdeal.τ) (Cert.GluFwdKernelIdeal.main (F := Ideal))) ⟨m, fun _ => 0, g⟩ (fun r => (∀ c : Dev Cert.GluFwdKernelIdeal.nD,
      r.2.mem ((c.tc : Thread Cert.GluFwdKernelIdeal.nD Cert.GluFwdKernelIdeal.τ).loc Cert.GluFwdKernelIdeal.main_arg0) = m ((c.tc : Thread Cert.GluFwdKernelIdeal.nD Cert.GluFwdKernelIdeal.τ).loc Cert.GluFwdKernelIdeal.main_arg0))
      ∧ r.2.sem = fun _ => 0)

def quiescent_GluFwdReferenceIdeal [hGluFwdReferenceIdeal : Cert.GluFwdReferenceIdeal.Facts] : Prop :=
  ∀ (m : (ℓ : Loc Cert.GluFwdReferenceIdeal.nD Cert.GluFwdReferenceIdeal.τ Cert.GluFwdReferenceIdeal.sig) → Buf (Elt Ideal) ℓ) (g : Dev Cert.GluFwdReferenceIdeal.nD → PrngReg), Pre_GluFwdReferenceIdeal m →
    θ_run (Cert.GluFwdReferenceIdeal.defs (F := Ideal)) (onTc (τ := Cert.GluFwdReferenceIdeal.τ) (Cert.GluFwdReferenceIdeal.main (F := Ideal))) ⟨m, fun _ => 0, g⟩ (fun r => (∀ c : Dev Cert.GluFwdReferenceIdeal.nD,
      r.2.mem ((c.tc : Thread Cert.GluFwdReferenceIdeal.nD Cert.GluFwdReferenceIdeal.τ).loc Cert.GluFwdReferenceIdeal.main_arg0) = m ((c.tc : Thread Cert.GluFwdReferenceIdeal.nD Cert.GluFwdReferenceIdeal.τ).loc Cert.GluFwdReferenceIdeal.main_arg0))
      ∧ r.2.sem = fun _ => 0)

def quiescent_ParFwdKernel [hParFwdKernel : Cert.ParFwdKernel.Facts] : Prop :=
  ∀ (m : (ℓ : Loc Cert.ParFwdKernel.nD Cert.ParFwdKernel.τ Cert.ParFwdKernel.sig) → Buf (Elt Bits) ℓ) (g : Dev Cert.ParFwdKernel.nD → PrngReg), Pre_ParFwdKernel m →
    θ_run (Cert.ParFwdKernel.defs (F := Bits)) (onTc (τ := Cert.ParFwdKernel.τ) (Cert.ParFwdKernel.main (F := Bits))) ⟨m, fun _ => 0, g⟩ (fun r => (∀ c : Dev Cert.ParFwdKernel.nD,
      r.2.mem ((c.tc : Thread Cert.ParFwdKernel.nD Cert.ParFwdKernel.τ).loc Cert.ParFwdKernel.main_arg0) = m ((c.tc : Thread Cert.ParFwdKernel.nD Cert.ParFwdKernel.τ).loc Cert.ParFwdKernel.main_arg0)
      ∧ r.2.mem ((c.tc : Thread Cert.ParFwdKernel.nD Cert.ParFwdKernel.τ).loc Cert.ParFwdKernel.main_arg1) = m ((c.tc : Thread Cert.ParFwdKernel.nD Cert.ParFwdKernel.τ).loc Cert.ParFwdKernel.main_arg1)
      ∧ r.2.mem ((c.tc : Thread Cert.ParFwdKernel.nD Cert.ParFwdKernel.τ).loc Cert.ParFwdKernel.main_arg2) = m ((c.tc : Thread Cert.ParFwdKernel.nD Cert.ParFwdKernel.τ).loc Cert.ParFwdKernel.main_arg2)
      ∧ r.2.mem ((c.tc : Thread Cert.ParFwdKernel.nD Cert.ParFwdKernel.τ).loc Cert.ParFwdKernel.main_arg3) = m ((c.tc : Thread Cert.ParFwdKernel.nD Cert.ParFwdKernel.τ).loc Cert.ParFwdKernel.main_arg3)
      ∧ r.2.mem ((c.tc : Thread Cert.ParFwdKernel.nD Cert.ParFwdKernel.τ).loc Cert.ParFwdKernel.main_arg4) = m ((c.tc : Thread Cert.ParFwdKernel.nD Cert.ParFwdKernel.τ).loc Cert.ParFwdKernel.main_arg4))
      ∧ r.2.sem = fun _ => 0)

def quiescent_ParFwdKernelIdeal [hParFwdKernelIdeal : Cert.ParFwdKernelIdeal.Facts] : Prop :=
  ∀ (m : (ℓ : Loc Cert.ParFwdKernelIdeal.nD Cert.ParFwdKernelIdeal.τ Cert.ParFwdKernelIdeal.sig) → Buf (Elt Ideal) ℓ) (g : Dev Cert.ParFwdKernelIdeal.nD → PrngReg), Pre_ParFwdKernelIdeal m →
    θ_run (Cert.ParFwdKernelIdeal.defs (F := Ideal)) (onTc (τ := Cert.ParFwdKernelIdeal.τ) (Cert.ParFwdKernelIdeal.main (F := Ideal))) ⟨m, fun _ => 0, g⟩ (fun r => (∀ c : Dev Cert.ParFwdKernelIdeal.nD,
      r.2.mem ((c.tc : Thread Cert.ParFwdKernelIdeal.nD Cert.ParFwdKernelIdeal.τ).loc Cert.ParFwdKernelIdeal.main_arg0) = m ((c.tc : Thread Cert.ParFwdKernelIdeal.nD Cert.ParFwdKernelIdeal.τ).loc Cert.ParFwdKernelIdeal.main_arg0)
      ∧ r.2.mem ((c.tc : Thread Cert.ParFwdKernelIdeal.nD Cert.ParFwdKernelIdeal.τ).loc Cert.ParFwdKernelIdeal.main_arg1) = m ((c.tc : Thread Cert.ParFwdKernelIdeal.nD Cert.ParFwdKernelIdeal.τ).loc Cert.ParFwdKernelIdeal.main_arg1)
      ∧ r.2.mem ((c.tc : Thread Cert.ParFwdKernelIdeal.nD Cert.ParFwdKernelIdeal.τ).loc Cert.ParFwdKernelIdeal.main_arg2) = m ((c.tc : Thread Cert.ParFwdKernelIdeal.nD Cert.ParFwdKernelIdeal.τ).loc Cert.ParFwdKernelIdeal.main_arg2)
      ∧ r.2.mem ((c.tc : Thread Cert.ParFwdKernelIdeal.nD Cert.ParFwdKernelIdeal.τ).loc Cert.ParFwdKernelIdeal.main_arg3) = m ((c.tc : Thread Cert.ParFwdKernelIdeal.nD Cert.ParFwdKernelIdeal.τ).loc Cert.ParFwdKernelIdeal.main_arg3)
      ∧ r.2.mem ((c.tc : Thread Cert.ParFwdKernelIdeal.nD Cert.ParFwdKernelIdeal.τ).loc Cert.ParFwdKernelIdeal.main_arg4) = m ((c.tc : Thread Cert.ParFwdKernelIdeal.nD Cert.ParFwdKernelIdeal.τ).loc Cert.ParFwdKernelIdeal.main_arg4))
      ∧ r.2.sem = fun _ => 0)

def quiescent_ParFwdReferenceIdeal [hParFwdReferenceIdeal : Cert.ParFwdReferenceIdeal.Facts] : Prop :=
  ∀ (m : (ℓ : Loc Cert.ParFwdReferenceIdeal.nD Cert.ParFwdReferenceIdeal.τ Cert.ParFwdReferenceIdeal.sig) → Buf (Elt Ideal) ℓ) (g : Dev Cert.ParFwdReferenceIdeal.nD → PrngReg), Pre_ParFwdReferenceIdeal m →
    θ_run (Cert.ParFwdReferenceIdeal.defs (F := Ideal)) (onTc (τ := Cert.ParFwdReferenceIdeal.τ) (Cert.ParFwdReferenceIdeal.main (F := Ideal))) ⟨m, fun _ => 0, g⟩ (fun r => (∀ c : Dev Cert.ParFwdReferenceIdeal.nD,
      r.2.mem ((c.tc : Thread Cert.ParFwdReferenceIdeal.nD Cert.ParFwdReferenceIdeal.τ).loc Cert.ParFwdReferenceIdeal.main_arg0) = m ((c.tc : Thread Cert.ParFwdReferenceIdeal.nD Cert.ParFwdReferenceIdeal.τ).loc Cert.ParFwdReferenceIdeal.main_arg0)
      ∧ r.2.mem ((c.tc : Thread Cert.ParFwdReferenceIdeal.nD Cert.ParFwdReferenceIdeal.τ).loc Cert.ParFwdReferenceIdeal.main_arg1) = m ((c.tc : Thread Cert.ParFwdReferenceIdeal.nD Cert.ParFwdReferenceIdeal.τ).loc Cert.ParFwdReferenceIdeal.main_arg1)
      ∧ r.2.mem ((c.tc : Thread Cert.ParFwdReferenceIdeal.nD Cert.ParFwdReferenceIdeal.τ).loc Cert.ParFwdReferenceIdeal.main_arg2) = m ((c.tc : Thread Cert.ParFwdReferenceIdeal.nD Cert.ParFwdReferenceIdeal.τ).loc Cert.ParFwdReferenceIdeal.main_arg2)
      ∧ r.2.mem ((c.tc : Thread Cert.ParFwdReferenceIdeal.nD Cert.ParFwdReferenceIdeal.τ).loc Cert.ParFwdReferenceIdeal.main_arg3) = m ((c.tc : Thread Cert.ParFwdReferenceIdeal.nD Cert.ParFwdReferenceIdeal.τ).loc Cert.ParFwdReferenceIdeal.main_arg3)
      ∧ r.2.mem ((c.tc : Thread Cert.ParFwdReferenceIdeal.nD Cert.ParFwdReferenceIdeal.τ).loc Cert.ParFwdReferenceIdeal.main_arg4) = m ((c.tc : Thread Cert.ParFwdReferenceIdeal.nD Cert.ParFwdReferenceIdeal.τ).loc Cert.ParFwdReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1)
      ∧ r.2.mem ((c.tc : Thread Cert.UpDxKernel.nD Cert.UpDxKernel.τ).loc Cert.UpDxKernel.main_arg2) = m ((c.tc : Thread Cert.UpDxKernel.nD Cert.UpDxKernel.τ).loc Cert.UpDxKernel.main_arg2)
      ∧ r.2.mem ((c.tc : Thread Cert.UpDxKernel.nD Cert.UpDxKernel.τ).loc Cert.UpDxKernel.main_arg3) = m ((c.tc : Thread Cert.UpDxKernel.nD Cert.UpDxKernel.τ).loc Cert.UpDxKernel.main_arg3))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
      ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
      ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1)
      ∧ r.2.mem ((c.tc : Thread Cert.UpDwKernel.nD Cert.UpDwKernel.τ).loc Cert.UpDwKernel.main_arg2) = m ((c.tc : Thread Cert.UpDwKernel.nD Cert.UpDwKernel.τ).loc Cert.UpDwKernel.main_arg2))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
      ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_SlotsKernel [hSlotsKernel : Cert.SlotsKernel.Facts] : Prop :=
  ∀ (m : (ℓ : Loc Cert.SlotsKernel.nD Cert.SlotsKernel.τ Cert.SlotsKernel.sig) → Buf (Elt Bits) ℓ) (g : Dev Cert.SlotsKernel.nD → PrngReg), Pre_SlotsKernel m →
    θ_run (Cert.SlotsKernel.defs (F := Bits)) (onTc (τ := Cert.SlotsKernel.τ) (Cert.SlotsKernel.main (F := Bits))) ⟨m, fun _ => 0, g⟩ (fun r => (∀ c : Dev Cert.SlotsKernel.nD,
      r.2.mem ((c.tc : Thread Cert.SlotsKernel.nD Cert.SlotsKernel.τ).loc Cert.SlotsKernel.main_arg0) = m ((c.tc : Thread Cert.SlotsKernel.nD Cert.SlotsKernel.τ).loc Cert.SlotsKernel.main_arg0))
      ∧ r.2.sem = fun _ => 0)

def quiescent_SlotsKernelIdeal [hSlotsKernelIdeal : Cert.SlotsKernelIdeal.Facts] : Prop :=
  ∀ (m : (ℓ : Loc Cert.SlotsKernelIdeal.nD Cert.SlotsKernelIdeal.τ Cert.SlotsKernelIdeal.sig) → Buf (Elt Ideal) ℓ) (g : Dev Cert.SlotsKernelIdeal.nD → PrngReg), Pre_SlotsKernelIdeal m →
    θ_run (Cert.SlotsKernelIdeal.defs (F := Ideal)) (onTc (τ := Cert.SlotsKernelIdeal.τ) (Cert.SlotsKernelIdeal.main (F := Ideal))) ⟨m, fun _ => 0, g⟩ (fun r => (∀ c : Dev Cert.SlotsKernelIdeal.nD,
      r.2.mem ((c.tc : Thread Cert.SlotsKernelIdeal.nD Cert.SlotsKernelIdeal.τ).loc Cert.SlotsKernelIdeal.main_arg0) = m ((c.tc : Thread Cert.SlotsKernelIdeal.nD Cert.SlotsKernelIdeal.τ).loc Cert.SlotsKernelIdeal.main_arg0))
      ∧ r.2.sem = fun _ => 0)

def quiescent_SlotsReferenceIdeal [hSlotsReferenceIdeal : Cert.SlotsReferenceIdeal.Facts] : Prop :=
  ∀ (m : (ℓ : Loc Cert.SlotsReferenceIdeal.nD Cert.SlotsReferenceIdeal.τ Cert.SlotsReferenceIdeal.sig) → Buf (Elt Ideal) ℓ) (g : Dev Cert.SlotsReferenceIdeal.nD → PrngReg), Pre_SlotsReferenceIdeal m →
    θ_run (Cert.SlotsReferenceIdeal.defs (F := Ideal)) (onTc (τ := Cert.SlotsReferenceIdeal.τ) (Cert.SlotsReferenceIdeal.main (F := Ideal))) ⟨m, fun _ => 0, g⟩ (fun r => (∀ c : Dev Cert.SlotsReferenceIdeal.nD,
      r.2.mem ((c.tc : Thread Cert.SlotsReferenceIdeal.nD Cert.SlotsReferenceIdeal.τ).loc Cert.SlotsReferenceIdeal.main_arg0) = m ((c.tc : Thread Cert.SlotsReferenceIdeal.nD Cert.SlotsReferenceIdeal.τ).loc Cert.SlotsReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4))
      ∧ r.2.sem = fun _ => 0)

def quiescent_SsdFwdKernel [hSsdFwdKernel : Cert.SsdFwdKernel.Facts] : Prop :=
  ∀ (m : (ℓ : Loc Cert.SsdFwdKernel.nD Cert.SsdFwdKernel.τ Cert.SsdFwdKernel.sig) → Buf (Elt Bits) ℓ) (g : Dev Cert.SsdFwdKernel.nD → PrngReg), Pre_SsdFwdKernel m →
    θ_run (Cert.SsdFwdKernel.defs (F := Bits)) (onTc (τ := Cert.SsdFwdKernel.τ) (Cert.SsdFwdKernel.main (F := Bits))) ⟨m, fun _ => 0, g⟩ (fun r => (∀ c : Dev Cert.SsdFwdKernel.nD,
      r.2.mem ((c.tc : Thread Cert.SsdFwdKernel.nD Cert.SsdFwdKernel.τ).loc Cert.SsdFwdKernel.main_arg0) = m ((c.tc : Thread Cert.SsdFwdKernel.nD Cert.SsdFwdKernel.τ).loc Cert.SsdFwdKernel.main_arg0)
      ∧ r.2.mem ((c.tc : Thread Cert.SsdFwdKernel.nD Cert.SsdFwdKernel.τ).loc Cert.SsdFwdKernel.main_arg1) = m ((c.tc : Thread Cert.SsdFwdKernel.nD Cert.SsdFwdKernel.τ).loc Cert.SsdFwdKernel.main_arg1)
      ∧ r.2.mem ((c.tc : Thread Cert.SsdFwdKernel.nD Cert.SsdFwdKernel.τ).loc Cert.SsdFwdKernel.main_arg2) = m ((c.tc : Thread Cert.SsdFwdKernel.nD Cert.SsdFwdKernel.τ).loc Cert.SsdFwdKernel.main_arg2)
      ∧ r.2.mem ((c.tc : Thread Cert.SsdFwdKernel.nD Cert.SsdFwdKernel.τ).loc Cert.SsdFwdKernel.main_arg3) = m ((c.tc : Thread Cert.SsdFwdKernel.nD Cert.SsdFwdKernel.τ).loc Cert.SsdFwdKernel.main_arg3)
      ∧ r.2.mem ((c.tc : Thread Cert.SsdFwdKernel.nD Cert.SsdFwdKernel.τ).loc Cert.SsdFwdKernel.main_arg4) = m ((c.tc : Thread Cert.SsdFwdKernel.nD Cert.SsdFwdKernel.τ).loc Cert.SsdFwdKernel.main_arg4))
      ∧ r.2.sem = fun _ => 0)

def quiescent_SsdFwdKernelIdeal [hSsdFwdKernelIdeal : Cert.SsdFwdKernelIdeal.Facts] : Prop :=
  ∀ (m : (ℓ : Loc Cert.SsdFwdKernelIdeal.nD Cert.SsdFwdKernelIdeal.τ Cert.SsdFwdKernelIdeal.sig) → Buf (Elt Ideal) ℓ) (g : Dev Cert.SsdFwdKernelIdeal.nD → PrngReg), Pre_SsdFwdKernelIdeal m →
    θ_run (Cert.SsdFwdKernelIdeal.defs (F := Ideal)) (onTc (τ := Cert.SsdFwdKernelIdeal.τ) (Cert.SsdFwdKernelIdeal.main (F := Ideal))) ⟨m, fun _ => 0, g⟩ (fun r => (∀ c : Dev Cert.SsdFwdKernelIdeal.nD,
      r.2.mem ((c.tc : Thread Cert.SsdFwdKernelIdeal.nD Cert.SsdFwdKernelIdeal.τ).loc Cert.SsdFwdKernelIdeal.main_arg0) = m ((c.tc : Thread Cert.SsdFwdKernelIdeal.nD Cert.SsdFwdKernelIdeal.τ).loc Cert.SsdFwdKernelIdeal.main_arg0)
      ∧ r.2.mem ((c.tc : Thread Cert.SsdFwdKernelIdeal.nD Cert.SsdFwdKernelIdeal.τ).loc Cert.SsdFwdKernelIdeal.main_arg1) = m ((c.tc : Thread Cert.SsdFwdKernelIdeal.nD Cert.SsdFwdKernelIdeal.τ).loc Cert.SsdFwdKernelIdeal.main_arg1)
      ∧ r.2.mem ((c.tc : Thread Cert.SsdFwdKernelIdeal.nD Cert.SsdFwdKernelIdeal.τ).loc Cert.SsdFwdKernelIdeal.main_arg2) = m ((c.tc : Thread Cert.SsdFwdKernelIdeal.nD Cert.SsdFwdKernelIdeal.τ).loc Cert.SsdFwdKernelIdeal.main_arg2)
      ∧ r.2.mem ((c.tc : Thread Cert.SsdFwdKernelIdeal.nD Cert.SsdFwdKernelIdeal.τ).loc Cert.SsdFwdKernelIdeal.main_arg3) = m ((c.tc : Thread Cert.SsdFwdKernelIdeal.nD Cert.SsdFwdKernelIdeal.τ).loc Cert.SsdFwdKernelIdeal.main_arg3)
      ∧ r.2.mem ((c.tc : Thread Cert.SsdFwdKernelIdeal.nD Cert.SsdFwdKernelIdeal.τ).loc Cert.SsdFwdKernelIdeal.main_arg4) = m ((c.tc : Thread Cert.SsdFwdKernelIdeal.nD Cert.SsdFwdKernelIdeal.τ).loc Cert.SsdFwdKernelIdeal.main_arg4))
      ∧ r.2.sem = fun _ => 0)

def quiescent_SsdFwdKernelIdeal_pre_ssdf_finite [hSsdFwdKernelIdeal : Cert.SsdFwdKernelIdeal.Facts] [hPre_ssdf_finite : Cert.Pre_ssdf_finite.Facts] : Prop :=
  ∀ (m : (ℓ : Loc Cert.SsdFwdKernelIdeal.nD Cert.SsdFwdKernelIdeal.τ Cert.SsdFwdKernelIdeal.sig) → Buf (Elt Ideal) ℓ) (g : Dev Cert.SsdFwdKernelIdeal.nD → PrngReg), Pre_SsdFwdKernelIdeal_ssdf_finite m →
    θ_run (Cert.SsdFwdKernelIdeal.defs (F := Ideal)) (onTc (τ := Cert.SsdFwdKernelIdeal.τ) (Cert.SsdFwdKernelIdeal.main (F := Ideal))) ⟨m, fun _ => 0, g⟩ (fun r => (∀ c : Dev Cert.SsdFwdKernelIdeal.nD,
      r.2.mem ((c.tc : Thread Cert.SsdFwdKernelIdeal.nD Cert.SsdFwdKernelIdeal.τ).loc Cert.SsdFwdKernelIdeal.main_arg0) = m ((c.tc : Thread Cert.SsdFwdKernelIdeal.nD Cert.SsdFwdKernelIdeal.τ).loc Cert.SsdFwdKernelIdeal.main_arg0)
      ∧ r.2.mem ((c.tc : Thread Cert.SsdFwdKernelIdeal.nD Cert.SsdFwdKernelIdeal.τ).loc Cert.SsdFwdKernelIdeal.main_arg1) = m ((c.tc : Thread Cert.SsdFwdKernelIdeal.nD Cert.SsdFwdKernelIdeal.τ).loc Cert.SsdFwdKernelIdeal.main_arg1)
      ∧ r.2.mem ((c.tc : Thread Cert.SsdFwdKernelIdeal.nD Cert.SsdFwdKernelIdeal.τ).loc Cert.SsdFwdKernelIdeal.main_arg2) = m ((c.tc : Thread Cert.SsdFwdKernelIdeal.nD Cert.SsdFwdKernelIdeal.τ).loc Cert.SsdFwdKernelIdeal.main_arg2)
      ∧ r.2.mem ((c.tc : Thread Cert.SsdFwdKernelIdeal.nD Cert.SsdFwdKernelIdeal.τ).loc Cert.SsdFwdKernelIdeal.main_arg3) = m ((c.tc : Thread Cert.SsdFwdKernelIdeal.nD Cert.SsdFwdKernelIdeal.τ).loc Cert.SsdFwdKernelIdeal.main_arg3)
      ∧ r.2.mem ((c.tc : Thread Cert.SsdFwdKernelIdeal.nD Cert.SsdFwdKernelIdeal.τ).loc Cert.SsdFwdKernelIdeal.main_arg4) = m ((c.tc : Thread Cert.SsdFwdKernelIdeal.nD Cert.SsdFwdKernelIdeal.τ).loc Cert.SsdFwdKernelIdeal.main_arg4))
      ∧ r.2.sem = fun _ => 0)

def quiescent_SsdFwdReferenceIdeal [hSsdFwdReferenceIdeal : Cert.SsdFwdReferenceIdeal.Facts] : Prop :=
  ∀ (m : (ℓ : Loc Cert.SsdFwdReferenceIdeal.nD Cert.SsdFwdReferenceIdeal.τ Cert.SsdFwdReferenceIdeal.sig) → Buf (Elt Ideal) ℓ) (g : Dev Cert.SsdFwdReferenceIdeal.nD → PrngReg), Pre_SsdFwdReferenceIdeal m →
    θ_run (Cert.SsdFwdReferenceIdeal.defs (F := Ideal)) (onTc (τ := Cert.SsdFwdReferenceIdeal.τ) (Cert.SsdFwdReferenceIdeal.main (F := Ideal))) ⟨m, fun _ => 0, g⟩ (fun r => (∀ c : Dev Cert.SsdFwdReferenceIdeal.nD,
      r.2.mem ((c.tc : Thread Cert.SsdFwdReferenceIdeal.nD Cert.SsdFwdReferenceIdeal.τ).loc Cert.SsdFwdReferenceIdeal.main_arg0) = m ((c.tc : Thread Cert.SsdFwdReferenceIdeal.nD Cert.SsdFwdReferenceIdeal.τ).loc Cert.SsdFwdReferenceIdeal.main_arg0)
      ∧ r.2.mem ((c.tc : Thread Cert.SsdFwdReferenceIdeal.nD Cert.SsdFwdReferenceIdeal.τ).loc Cert.SsdFwdReferenceIdeal.main_arg1) = m ((c.tc : Thread Cert.SsdFwdReferenceIdeal.nD Cert.SsdFwdReferenceIdeal.τ).loc Cert.SsdFwdReferenceIdeal.main_arg1)
      ∧ r.2.mem ((c.tc : Thread Cert.SsdFwdReferenceIdeal.nD Cert.SsdFwdReferenceIdeal.τ).loc Cert.SsdFwdReferenceIdeal.main_arg2) = m ((c.tc : Thread Cert.SsdFwdReferenceIdeal.nD Cert.SsdFwdReferenceIdeal.τ).loc Cert.SsdFwdReferenceIdeal.main_arg2)
      ∧ r.2.mem ((c.tc : Thread Cert.SsdFwdReferenceIdeal.nD Cert.SsdFwdReferenceIdeal.τ).loc Cert.SsdFwdReferenceIdeal.main_arg3) = m ((c.tc : Thread Cert.SsdFwdReferenceIdeal.nD Cert.SsdFwdReferenceIdeal.τ).loc Cert.SsdFwdReferenceIdeal.main_arg3)
      ∧ r.2.mem ((c.tc : Thread Cert.SsdFwdReferenceIdeal.nD Cert.SsdFwdReferenceIdeal.τ).loc Cert.SsdFwdReferenceIdeal.main_arg4) = m ((c.tc : Thread Cert.SsdFwdReferenceIdeal.nD Cert.SsdFwdReferenceIdeal.τ).loc Cert.SsdFwdReferenceIdeal.main_arg4))
      ∧ r.2.sem = fun _ => 0)

def quiescent_SsdFwdReferenceIdeal_pre_ssdf_finite [hSsdFwdReferenceIdeal : Cert.SsdFwdReferenceIdeal.Facts] [hPre_ssdf_finite : Cert.Pre_ssdf_finite.Facts] : Prop :=
  ∀ (m : (ℓ : Loc Cert.SsdFwdReferenceIdeal.nD Cert.SsdFwdReferenceIdeal.τ Cert.SsdFwdReferenceIdeal.sig) → Buf (Elt Ideal) ℓ) (g : Dev Cert.SsdFwdReferenceIdeal.nD → PrngReg), Pre_SsdFwdReferenceIdeal_ssdf_finite m →
    θ_run (Cert.SsdFwdReferenceIdeal.defs (F := Ideal)) (onTc (τ := Cert.SsdFwdReferenceIdeal.τ) (Cert.SsdFwdReferenceIdeal.main (F := Ideal))) ⟨m, fun _ => 0, g⟩ (fun r => (∀ c : Dev Cert.SsdFwdReferenceIdeal.nD,
      r.2.mem ((c.tc : Thread Cert.SsdFwdReferenceIdeal.nD Cert.SsdFwdReferenceIdeal.τ).loc Cert.SsdFwdReferenceIdeal.main_arg0) = m ((c.tc : Thread Cert.SsdFwdReferenceIdeal.nD Cert.SsdFwdReferenceIdeal.τ).loc Cert.SsdFwdReferenceIdeal.main_arg0)
      ∧ r.2.mem ((c.tc : Thread Cert.SsdFwdReferenceIdeal.nD Cert.SsdFwdReferenceIdeal.τ).loc Cert.SsdFwdReferenceIdeal.main_arg1) = m ((c.tc : Thread Cert.SsdFwdReferenceIdeal.nD Cert.SsdFwdReferenceIdeal.τ).loc Cert.SsdFwdReferenceIdeal.main_arg1)
      ∧ r.2.mem ((c.tc : Thread Cert.SsdFwdReferenceIdeal.nD Cert.SsdFwdReferenceIdeal.τ).loc Cert.SsdFwdReferenceIdeal.main_arg2) = m ((c.tc : Thread Cert.SsdFwdReferenceIdeal.nD Cert.SsdFwdReferenceIdeal.τ).loc Cert.SsdFwdReferenceIdeal.main_arg2)
      ∧ r.2.mem ((c.tc : Thread Cert.SsdFwdReferenceIdeal.nD Cert.SsdFwdReferenceIdeal.τ).loc Cert.SsdFwdReferenceIdeal.main_arg3) = m ((c.tc : Thread Cert.SsdFwdReferenceIdeal.nD Cert.SsdFwdReferenceIdeal.τ).loc Cert.SsdFwdReferenceIdeal.main_arg3)
      ∧ r.2.mem ((c.tc : Thread Cert.SsdFwdReferenceIdeal.nD Cert.SsdFwdReferenceIdeal.τ).loc Cert.SsdFwdReferenceIdeal.main_arg4) = m ((c.tc : Thread Cert.SsdFwdReferenceIdeal.nD Cert.SsdFwdReferenceIdeal.τ).loc Cert.SsdFwdReferenceIdeal.main_arg4))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5))
      ∧ r.2.sem = fun _ => 0)

def quiescent_SsdKernelIdeal_pre_ssdb_finite [hSsdKernelIdeal : Cert.SsdKernelIdeal.Facts] [hPre_ssdb_finite : Cert.Pre_ssdb_finite.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal_ssdb_finite m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5))
      ∧ r.2.sem = fun _ => 0)

def quiescent_SsdReferenceIdeal_pre_ssdb_finite [hSsdReferenceIdeal : Cert.SsdReferenceIdeal.Facts] [hPre_ssdb_finite : Cert.Pre_ssdb_finite.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal_ssdb_finite m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5))
      ∧ r.2.sem = fun _ => 0)

def preserves_ConvKernel_ConvKernelIdeal : Prop :=
  True

def algebraic_ConvKernelIdeal_ConvReferenceIdeal_pre_conv_ct_finite [hConvKernelIdeal : Cert.ConvKernelIdeal.Facts] [hConvReferenceIdeal : Cert.ConvReferenceIdeal.Facts] [hPre_conv_ct_finite : Cert.Pre_conv_ct_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_conv_ct_finite m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v7_0)) (v1 : (c : Dev Cert.ConvKernelIdeal.nD) → Buf (Elt Ideal) ((c.tc : Thread Cert.ConvKernelIdeal.nD Cert.ConvKernelIdeal.τ).loc Cert.ConvKernelIdeal.main_v7_1)) (v2 : (c : Dev Cert.ConvKernelIdeal.nD) → Buf (Elt Ideal) ((c.tc : Thread Cert.ConvKernelIdeal.nD Cert.ConvKernelIdeal.τ).loc Cert.ConvKernelIdeal.main_v7_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v7_0) = v0 c
          ∧ r.2.mem ((c.tc : Thread Cert.ConvKernelIdeal.nD Cert.ConvKernelIdeal.τ).loc Cert.ConvKernelIdeal.main_v7_1) = v1 c
          ∧ r.2.mem ((c.tc : Thread Cert.ConvKernelIdeal.nD Cert.ConvKernelIdeal.τ).loc Cert.ConvKernelIdeal.main_v7_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v85) = v0 c
          ∧ r.2.mem ((c.tc : Thread Cert.ConvReferenceIdeal.nD Cert.ConvReferenceIdeal.τ).loc Cert.ConvReferenceIdeal.main_v80) = v1 c
          ∧ r.2.mem ((c.tc : Thread Cert.ConvReferenceIdeal.nD Cert.ConvReferenceIdeal.τ).loc Cert.ConvReferenceIdeal.main_v86) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v2) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v6) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)) →
    ∃ (v0 : (c : Dev Cert.MergeKernelIdeal.nD) → Buf (Elt Ideal) ((c.tc : Thread Cert.MergeKernelIdeal.nD Cert.MergeKernelIdeal.τ).loc Cert.MergeKernelIdeal.main_v3_0)) (v1 : (c : Dev Cert.MergeKernelIdeal.nD) → Buf (Elt Ideal) ((c.tc : Thread Cert.MergeKernelIdeal.nD Cert.MergeKernelIdeal.τ).loc Cert.MergeKernelIdeal.main_v3_1)) (v2 : (c : Dev Cert.MergeKernelIdeal.nD) → Buf (Elt Ideal) ((c.tc : Thread Cert.MergeKernelIdeal.nD Cert.MergeKernelIdeal.τ).loc Cert.MergeKernelIdeal.main_v3_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3_0) = v0 c
          ∧ r.2.mem ((c.tc : Thread Cert.MergeKernelIdeal.nD Cert.MergeKernelIdeal.τ).loc Cert.MergeKernelIdeal.main_v3_1) = v1 c
          ∧ r.2.mem ((c.tc : Thread Cert.MergeKernelIdeal.nD Cert.MergeKernelIdeal.τ).loc Cert.MergeKernelIdeal.main_v3_2) = v2 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v32) = v0 c
          ∧ r.2.mem ((c.tc : Thread Cert.MergeReferenceIdeal.nD Cert.MergeReferenceIdeal.τ).loc Cert.MergeReferenceIdeal.main_v33) = v1 c
          ∧ r.2.mem ((c.tc : Thread Cert.MergeReferenceIdeal.nD Cert.MergeReferenceIdeal.τ).loc Cert.MergeReferenceIdeal.main_v34) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)) →
    ∃ (v0 : (c : Dev Cert.GluKernelIdeal.nD) → Buf (Elt Ideal) ((c.tc : Thread Cert.GluKernelIdeal.nD Cert.GluKernelIdeal.τ).loc Cert.GluKernelIdeal.main_v0)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v0) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v16) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)) →
    ∃ (v0 : (c : Dev Cert.ActKernelIdeal.nD) → Buf (Elt Ideal) ((c.tc : Thread Cert.ActKernelIdeal.nD Cert.ActKernelIdeal.τ).loc Cert.ActKernelIdeal.main_v1_0)) (v1 : (c : Dev Cert.ActKernelIdeal.nD) → Buf (Elt Ideal) ((c.tc : Thread Cert.ActKernelIdeal.nD Cert.ActKernelIdeal.τ).loc Cert.ActKernelIdeal.main_v1_1)) (v2 : (c : Dev Cert.ActKernelIdeal.nD) → Buf (Elt Ideal) ((c.tc : Thread Cert.ActKernelIdeal.nD Cert.ActKernelIdeal.τ).loc Cert.ActKernelIdeal.main_v1_2)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v1_0) = v0 c
          ∧ r.2.mem ((c.tc : Thread Cert.ActKernelIdeal.nD Cert.ActKernelIdeal.τ).loc Cert.ActKernelIdeal.main_v1_1) = v1 c
          ∧ r.2.mem ((c.tc : Thread Cert.ActKernelIdeal.nD Cert.ActKernelIdeal.τ).loc Cert.ActKernelIdeal.main_v1_2) = v2 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v43) = v0 c
          ∧ r.2.mem ((c.tc : Thread Cert.ActReferenceIdeal.nD Cert.ActReferenceIdeal.τ).loc Cert.ActReferenceIdeal.main_v38) = v1 c
          ∧ r.2.mem ((c.tc : Thread Cert.ActReferenceIdeal.nD Cert.ActReferenceIdeal.τ).loc Cert.ActReferenceIdeal.main_v44) = v2 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v4_0)) (v1 : (c : Dev Cert.GateKernelIdeal.nD) → Buf (Elt Ideal) ((c.tc : Thread Cert.GateKernelIdeal.nD Cert.GateKernelIdeal.τ).loc Cert.GateKernelIdeal.main_v4_1)) (v2 : (c : Dev Cert.GateKernelIdeal.nD) → Buf (Elt Ideal) ((c.tc : Thread Cert.GateKernelIdeal.nD Cert.GateKernelIdeal.τ).loc Cert.GateKernelIdeal.main_v4_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v4_0) = v0 c
          ∧ r.2.mem ((c.tc : Thread Cert.GateKernelIdeal.nD Cert.GateKernelIdeal.τ).loc Cert.GateKernelIdeal.main_v4_1) = v1 c
          ∧ r.2.mem ((c.tc : Thread Cert.GateKernelIdeal.nD Cert.GateKernelIdeal.τ).loc Cert.GateKernelIdeal.main_v4_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v44) = v0 c
          ∧ r.2.mem ((c.tc : Thread Cert.GateReferenceIdeal.nD Cert.GateReferenceIdeal.τ).loc Cert.GateReferenceIdeal.main_v46) = v1 c
          ∧ r.2.mem ((c.tc : Thread Cert.GateReferenceIdeal.nD Cert.GateReferenceIdeal.τ).loc Cert.GateReferenceIdeal.main_v47) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)) →
    ∃ (v0 : (c : Dev Cert.ResKernelIdeal.nD) → Buf (Elt Ideal) ((c.tc : Thread Cert.ResKernelIdeal.nD Cert.ResKernelIdeal.τ).loc Cert.ResKernelIdeal.main_v1_0)) (v1 : (c : Dev Cert.ResKernelIdeal.nD) → Buf (Elt Ideal) ((c.tc : Thread Cert.ResKernelIdeal.nD Cert.ResKernelIdeal.τ).loc Cert.ResKernelIdeal.main_v1_1)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v1_0) = v0 c
          ∧ r.2.mem ((c.tc : Thread Cert.ResKernelIdeal.nD Cert.ResKernelIdeal.τ).loc Cert.ResKernelIdeal.main_v1_1) = v1 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v40) = v0 c
          ∧ r.2.mem ((c.tc : Thread Cert.ResReferenceIdeal.nD Cert.ResReferenceIdeal.τ).loc Cert.ResReferenceIdeal.main_v41) = v1 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2))

def preserves_MixResKernel_MixResKernelIdeal : Prop :=
  True

def algebraic_MixResKernelIdeal_MixResReferenceIdeal [hMixResKernelIdeal : Cert.MixResKernelIdeal.Facts] [hMixResReferenceIdeal : Cert.MixResReferenceIdeal.Facts] : Prop :=
  ∀ (m : (ℓ : Loc Cert.MixResKernelIdeal.nD Cert.MixResKernelIdeal.τ Cert.MixResKernelIdeal.sig) → Buf (Elt Ideal) ℓ) (g : Dev Cert.MixResKernelIdeal.nD → PrngReg)
    (m' : (ℓ : Loc Cert.MixResReferenceIdeal.nD Cert.MixResReferenceIdeal.τ Cert.MixResReferenceIdeal.sig) → Buf (Elt Ideal) ℓ) (g' : Dev Cert.MixResReferenceIdeal.nD → PrngReg), Pre_MixResKernelIdeal m →
    (∀ c : Dev Cert.MixResKernelIdeal.nD,
      m' ((c.tc : Thread Cert.MixResReferenceIdeal.nD Cert.MixResReferenceIdeal.τ).loc Cert.MixResReferenceIdeal.main_arg0) = m ((c.tc : Thread Cert.MixResKernelIdeal.nD Cert.MixResKernelIdeal.τ).loc Cert.MixResKernelIdeal.main_arg0)
      ∧ m' ((c.tc : Thread Cert.MixResReferenceIdeal.nD Cert.MixResReferenceIdeal.τ).loc Cert.MixResReferenceIdeal.main_arg1) = m ((c.tc : Thread Cert.MixResKernelIdeal.nD Cert.MixResKernelIdeal.τ).loc Cert.MixResKernelIdeal.main_arg1)
      ∧ m' ((c.tc : Thread Cert.MixResReferenceIdeal.nD Cert.MixResReferenceIdeal.τ).loc Cert.MixResReferenceIdeal.main_arg2) = m ((c.tc : Thread Cert.MixResKernelIdeal.nD Cert.MixResKernelIdeal.τ).loc Cert.MixResKernelIdeal.main_arg2)) →
    ∃ (v0 : (c : Dev Cert.MixResKernelIdeal.nD) → Buf (Elt Ideal) ((c.tc : Thread Cert.MixResKernelIdeal.nD Cert.MixResKernelIdeal.τ).loc Cert.MixResKernelIdeal.main_v1_0)) (v1 : (c : Dev Cert.MixResKernelIdeal.nD) → Buf (Elt Ideal) ((c.tc : Thread Cert.MixResKernelIdeal.nD Cert.MixResKernelIdeal.τ).loc Cert.MixResKernelIdeal.main_v1_1)),
      θ_run (Cert.MixResKernelIdeal.defs (F := Ideal)) (onTc (τ := Cert.MixResKernelIdeal.τ) (Cert.MixResKernelIdeal.main (F := Ideal))) ⟨m, fun _ => 0, g⟩ (fun r => ∀ c : Dev Cert.MixResKernelIdeal.nD,
          r.2.mem ((c.tc : Thread Cert.MixResKernelIdeal.nD Cert.MixResKernelIdeal.τ).loc Cert.MixResKernelIdeal.main_v1_0) = v0 c
          ∧ r.2.mem ((c.tc : Thread Cert.MixResKernelIdeal.nD Cert.MixResKernelIdeal.τ).loc Cert.MixResKernelIdeal.main_v1_1) = v1 c
          ∧ r.2.mem ((c.tc : Thread Cert.MixResKernelIdeal.nD Cert.MixResKernelIdeal.τ).loc Cert.MixResKernelIdeal.main_arg0) = m ((c.tc : Thread Cert.MixResKernelIdeal.nD Cert.MixResKernelIdeal.τ).loc Cert.MixResKernelIdeal.main_arg0)
          ∧ r.2.mem ((c.tc : Thread Cert.MixResKernelIdeal.nD Cert.MixResKernelIdeal.τ).loc Cert.MixResKernelIdeal.main_arg1) = m ((c.tc : Thread Cert.MixResKernelIdeal.nD Cert.MixResKernelIdeal.τ).loc Cert.MixResKernelIdeal.main_arg1)
          ∧ r.2.mem ((c.tc : Thread Cert.MixResKernelIdeal.nD Cert.MixResKernelIdeal.τ).loc Cert.MixResKernelIdeal.main_arg2) = m ((c.tc : Thread Cert.MixResKernelIdeal.nD Cert.MixResKernelIdeal.τ).loc Cert.MixResKernelIdeal.main_arg2))
      ∧ θ_run (Cert.MixResReferenceIdeal.defs (F := Ideal)) (onTc (τ := Cert.MixResReferenceIdeal.τ) (Cert.MixResReferenceIdeal.main (F := Ideal))) ⟨m', fun _ => 0, g'⟩ (fun r => ∀ c : Dev Cert.MixResReferenceIdeal.nD,
          r.2.mem ((c.tc : Thread Cert.MixResReferenceIdeal.nD Cert.MixResReferenceIdeal.τ).loc Cert.MixResReferenceIdeal.main_v36) = v0 c
          ∧ r.2.mem ((c.tc : Thread Cert.MixResReferenceIdeal.nD Cert.MixResReferenceIdeal.τ).loc Cert.MixResReferenceIdeal.main_v37) = v1 c
          ∧ r.2.mem ((c.tc : Thread Cert.MixResReferenceIdeal.nD Cert.MixResReferenceIdeal.τ).loc Cert.MixResReferenceIdeal.main_arg0) = m' ((c.tc : Thread Cert.MixResReferenceIdeal.nD Cert.MixResReferenceIdeal.τ).loc Cert.MixResReferenceIdeal.main_arg0)
          ∧ r.2.mem ((c.tc : Thread Cert.MixResReferenceIdeal.nD Cert.MixResReferenceIdeal.τ).loc Cert.MixResReferenceIdeal.main_arg1) = m' ((c.tc : Thread Cert.MixResReferenceIdeal.nD Cert.MixResReferenceIdeal.τ).loc Cert.MixResReferenceIdeal.main_arg1)
          ∧ r.2.mem ((c.tc : Thread Cert.MixResReferenceIdeal.nD Cert.MixResReferenceIdeal.τ).loc Cert.MixResReferenceIdeal.main_arg2) = m' ((c.tc : Thread Cert.MixResReferenceIdeal.nD Cert.MixResReferenceIdeal.τ).loc Cert.MixResReferenceIdeal.main_arg2))

def preserves_RmsKernel_RmsKernelIdeal : Prop :=
  True

def algebraic_RmsKernelIdeal_RmsReferenceIdeal [hRmsKernelIdeal : Cert.RmsKernelIdeal.Facts] [hRmsReferenceIdeal : Cert.RmsReferenceIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsKernelIdeal m →
    (∀ c : Dev Cert.RmsKernelIdeal.nD,
      m' ((c.tc : Thread Cert.RmsReferenceIdeal.nD Cert.RmsReferenceIdeal.τ).loc Cert.RmsReferenceIdeal.main_arg0) = m ((c.tc : Thread Cert.RmsKernelIdeal.nD Cert.RmsKernelIdeal.τ).loc Cert.RmsKernelIdeal.main_arg0)
      ∧ m' ((c.tc : Thread Cert.RmsReferenceIdeal.nD Cert.RmsReferenceIdeal.τ).loc Cert.RmsReferenceIdeal.main_arg1) = m ((c.tc : Thread Cert.RmsKernelIdeal.nD Cert.RmsKernelIdeal.τ).loc Cert.RmsKernelIdeal.main_arg1)
      ∧ m' ((c.tc : Thread Cert.RmsReferenceIdeal.nD Cert.RmsReferenceIdeal.τ).loc Cert.RmsReferenceIdeal.main_arg2) = m ((c.tc : Thread Cert.RmsKernelIdeal.nD Cert.RmsKernelIdeal.τ).loc Cert.RmsKernelIdeal.main_arg2)
      ∧ m' ((c.tc : Thread Cert.RmsReferenceIdeal.nD Cert.RmsReferenceIdeal.τ).loc Cert.RmsReferenceIdeal.main_arg3) = m ((c.tc : Thread Cert.RmsKernelIdeal.nD Cert.RmsKernelIdeal.τ).loc Cert.RmsKernelIdeal.main_arg3)) →
    ∃ (v0 : (c : Dev Cert.RmsKernelIdeal.nD) → Buf (Elt Ideal) ((c.tc : Thread Cert.RmsKernelIdeal.nD Cert.RmsKernelIdeal.τ).loc Cert.RmsKernelIdeal.main_v1_0)) (v1 : (c : Dev Cert.RmsKernelIdeal.nD) → Buf (Elt Ideal) ((c.tc : Thread Cert.RmsKernelIdeal.nD Cert.RmsKernelIdeal.τ).loc Cert.RmsKernelIdeal.main_v1_1)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v1_0) = v0 c
          ∧ r.2.mem ((c.tc : Thread Cert.RmsKernelIdeal.nD Cert.RmsKernelIdeal.τ).loc Cert.RmsKernelIdeal.main_v1_1) = v1 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1)
          ∧ r.2.mem ((c.tc : Thread Cert.RmsKernelIdeal.nD Cert.RmsKernelIdeal.τ).loc Cert.RmsKernelIdeal.main_arg2) = m ((c.tc : Thread Cert.RmsKernelIdeal.nD Cert.RmsKernelIdeal.τ).loc Cert.RmsKernelIdeal.main_arg2)
          ∧ r.2.mem ((c.tc : Thread Cert.RmsKernelIdeal.nD Cert.RmsKernelIdeal.τ).loc Cert.RmsKernelIdeal.main_arg3) = m ((c.tc : Thread Cert.RmsKernelIdeal.nD Cert.RmsKernelIdeal.τ).loc Cert.RmsKernelIdeal.main_arg3))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v36) = v0 c
          ∧ r.2.mem ((c.tc : Thread Cert.RmsReferenceIdeal.nD Cert.RmsReferenceIdeal.τ).loc Cert.RmsReferenceIdeal.main_v37) = v1 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1)
          ∧ r.2.mem ((c.tc : Thread Cert.RmsReferenceIdeal.nD Cert.RmsReferenceIdeal.τ).loc Cert.RmsReferenceIdeal.main_arg2) = m' ((c.tc : Thread Cert.RmsReferenceIdeal.nD Cert.RmsReferenceIdeal.τ).loc Cert.RmsReferenceIdeal.main_arg2)
          ∧ r.2.mem ((c.tc : Thread Cert.RmsReferenceIdeal.nD Cert.RmsReferenceIdeal.τ).loc Cert.RmsReferenceIdeal.main_arg3) = m' ((c.tc : Thread Cert.RmsReferenceIdeal.nD Cert.RmsReferenceIdeal.τ).loc Cert.RmsReferenceIdeal.main_arg3))

def preserves_MixRmsKernel_MixRmsKernelIdeal : Prop :=
  True

def algebraic_MixRmsKernelIdeal_MixRmsReferenceIdeal [hMixRmsKernelIdeal : Cert.MixRmsKernelIdeal.Facts] [hMixRmsReferenceIdeal : Cert.MixRmsReferenceIdeal.Facts] : Prop :=
  ∀ (m : (ℓ : Loc Cert.MixRmsKernelIdeal.nD Cert.MixRmsKernelIdeal.τ Cert.MixRmsKernelIdeal.sig) → Buf (Elt Ideal) ℓ) (g : Dev Cert.MixRmsKernelIdeal.nD → PrngReg)
    (m' : (ℓ : Loc Cert.MixRmsReferenceIdeal.nD Cert.MixRmsReferenceIdeal.τ Cert.MixRmsReferenceIdeal.sig) → Buf (Elt Ideal) ℓ) (g' : Dev Cert.MixRmsReferenceIdeal.nD → PrngReg), Pre_MixRmsKernelIdeal m →
    (∀ c : Dev Cert.MixRmsKernelIdeal.nD,
      m' ((c.tc : Thread Cert.MixRmsReferenceIdeal.nD Cert.MixRmsReferenceIdeal.τ).loc Cert.MixRmsReferenceIdeal.main_arg0) = m ((c.tc : Thread Cert.MixRmsKernelIdeal.nD Cert.MixRmsKernelIdeal.τ).loc Cert.MixRmsKernelIdeal.main_arg0)
      ∧ m' ((c.tc : Thread Cert.MixRmsReferenceIdeal.nD Cert.MixRmsReferenceIdeal.τ).loc Cert.MixRmsReferenceIdeal.main_arg1) = m ((c.tc : Thread Cert.MixRmsKernelIdeal.nD Cert.MixRmsKernelIdeal.τ).loc Cert.MixRmsKernelIdeal.main_arg1)
      ∧ m' ((c.tc : Thread Cert.MixRmsReferenceIdeal.nD Cert.MixRmsReferenceIdeal.τ).loc Cert.MixRmsReferenceIdeal.main_arg2) = m ((c.tc : Thread Cert.MixRmsKernelIdeal.nD Cert.MixRmsKernelIdeal.τ).loc Cert.MixRmsKernelIdeal.main_arg2)
      ∧ m' ((c.tc : Thread Cert.MixRmsReferenceIdeal.nD Cert.MixRmsReferenceIdeal.τ).loc Cert.MixRmsReferenceIdeal.main_arg3) = m ((c.tc : Thread Cert.MixRmsKernelIdeal.nD Cert.MixRmsKernelIdeal.τ).loc Cert.MixRmsKernelIdeal.main_arg3)
      ∧ m' ((c.tc : Thread Cert.MixRmsReferenceIdeal.nD Cert.MixRmsReferenceIdeal.τ).loc Cert.MixRmsReferenceIdeal.main_arg4) = m ((c.tc : Thread Cert.MixRmsKernelIdeal.nD Cert.MixRmsKernelIdeal.τ).loc Cert.MixRmsKernelIdeal.main_arg4)
      ∧ m' ((c.tc : Thread Cert.MixRmsReferenceIdeal.nD Cert.MixRmsReferenceIdeal.τ).loc Cert.MixRmsReferenceIdeal.main_arg5) = m ((c.tc : Thread Cert.MixRmsKernelIdeal.nD Cert.MixRmsKernelIdeal.τ).loc Cert.MixRmsKernelIdeal.main_arg5)) →
    ∃ (v0 : (c : Dev Cert.MixRmsKernelIdeal.nD) → Buf (Elt Ideal) ((c.tc : Thread Cert.MixRmsKernelIdeal.nD Cert.MixRmsKernelIdeal.τ).loc Cert.MixRmsKernelIdeal.main_v1_0)) (v1 : (c : Dev Cert.MixRmsKernelIdeal.nD) → Buf (Elt Ideal) ((c.tc : Thread Cert.MixRmsKernelIdeal.nD Cert.MixRmsKernelIdeal.τ).loc Cert.MixRmsKernelIdeal.main_v1_1)),
      θ_run (Cert.MixRmsKernelIdeal.defs (F := Ideal)) (onTc (τ := Cert.MixRmsKernelIdeal.τ) (Cert.MixRmsKernelIdeal.main (F := Ideal))) ⟨m, fun _ => 0, g⟩ (fun r => ∀ c : Dev Cert.MixRmsKernelIdeal.nD,
          r.2.mem ((c.tc : Thread Cert.MixRmsKernelIdeal.nD Cert.MixRmsKernelIdeal.τ).loc Cert.MixRmsKernelIdeal.main_v1_0) = v0 c
          ∧ r.2.mem ((c.tc : Thread Cert.MixRmsKernelIdeal.nD Cert.MixRmsKernelIdeal.τ).loc Cert.MixRmsKernelIdeal.main_v1_1) = v1 c
          ∧ r.2.mem ((c.tc : Thread Cert.MixRmsKernelIdeal.nD Cert.MixRmsKernelIdeal.τ).loc Cert.MixRmsKernelIdeal.main_arg0) = m ((c.tc : Thread Cert.MixRmsKernelIdeal.nD Cert.MixRmsKernelIdeal.τ).loc Cert.MixRmsKernelIdeal.main_arg0)
          ∧ r.2.mem ((c.tc : Thread Cert.MixRmsKernelIdeal.nD Cert.MixRmsKernelIdeal.τ).loc Cert.MixRmsKernelIdeal.main_arg1) = m ((c.tc : Thread Cert.MixRmsKernelIdeal.nD Cert.MixRmsKernelIdeal.τ).loc Cert.MixRmsKernelIdeal.main_arg1)
          ∧ r.2.mem ((c.tc : Thread Cert.MixRmsKernelIdeal.nD Cert.MixRmsKernelIdeal.τ).loc Cert.MixRmsKernelIdeal.main_arg2) = m ((c.tc : Thread Cert.MixRmsKernelIdeal.nD Cert.MixRmsKernelIdeal.τ).loc Cert.MixRmsKernelIdeal.main_arg2)
          ∧ r.2.mem ((c.tc : Thread Cert.MixRmsKernelIdeal.nD Cert.MixRmsKernelIdeal.τ).loc Cert.MixRmsKernelIdeal.main_arg3) = m ((c.tc : Thread Cert.MixRmsKernelIdeal.nD Cert.MixRmsKernelIdeal.τ).loc Cert.MixRmsKernelIdeal.main_arg3)
          ∧ r.2.mem ((c.tc : Thread Cert.MixRmsKernelIdeal.nD Cert.MixRmsKernelIdeal.τ).loc Cert.MixRmsKernelIdeal.main_arg4) = m ((c.tc : Thread Cert.MixRmsKernelIdeal.nD Cert.MixRmsKernelIdeal.τ).loc Cert.MixRmsKernelIdeal.main_arg4)
          ∧ r.2.mem ((c.tc : Thread Cert.MixRmsKernelIdeal.nD Cert.MixRmsKernelIdeal.τ).loc Cert.MixRmsKernelIdeal.main_arg5) = m ((c.tc : Thread Cert.MixRmsKernelIdeal.nD Cert.MixRmsKernelIdeal.τ).loc Cert.MixRmsKernelIdeal.main_arg5))
      ∧ θ_run (Cert.MixRmsReferenceIdeal.defs (F := Ideal)) (onTc (τ := Cert.MixRmsReferenceIdeal.τ) (Cert.MixRmsReferenceIdeal.main (F := Ideal))) ⟨m', fun _ => 0, g'⟩ (fun r => ∀ c : Dev Cert.MixRmsReferenceIdeal.nD,
          r.2.mem ((c.tc : Thread Cert.MixRmsReferenceIdeal.nD Cert.MixRmsReferenceIdeal.τ).loc Cert.MixRmsReferenceIdeal.main_v38) = v0 c
          ∧ r.2.mem ((c.tc : Thread Cert.MixRmsReferenceIdeal.nD Cert.MixRmsReferenceIdeal.τ).loc Cert.MixRmsReferenceIdeal.main_v39) = v1 c
          ∧ r.2.mem ((c.tc : Thread Cert.MixRmsReferenceIdeal.nD Cert.MixRmsReferenceIdeal.τ).loc Cert.MixRmsReferenceIdeal.main_arg0) = m' ((c.tc : Thread Cert.MixRmsReferenceIdeal.nD Cert.MixRmsReferenceIdeal.τ).loc Cert.MixRmsReferenceIdeal.main_arg0)
          ∧ r.2.mem ((c.tc : Thread Cert.MixRmsReferenceIdeal.nD Cert.MixRmsReferenceIdeal.τ).loc Cert.MixRmsReferenceIdeal.main_arg1) = m' ((c.tc : Thread Cert.MixRmsReferenceIdeal.nD Cert.MixRmsReferenceIdeal.τ).loc Cert.MixRmsReferenceIdeal.main_arg1)
          ∧ r.2.mem ((c.tc : Thread Cert.MixRmsReferenceIdeal.nD Cert.MixRmsReferenceIdeal.τ).loc Cert.MixRmsReferenceIdeal.main_arg2) = m' ((c.tc : Thread Cert.MixRmsReferenceIdeal.nD Cert.MixRmsReferenceIdeal.τ).loc Cert.MixRmsReferenceIdeal.main_arg2)
          ∧ r.2.mem ((c.tc : Thread Cert.MixRmsReferenceIdeal.nD Cert.MixRmsReferenceIdeal.τ).loc Cert.MixRmsReferenceIdeal.main_arg3) = m' ((c.tc : Thread Cert.MixRmsReferenceIdeal.nD Cert.MixRmsReferenceIdeal.τ).loc Cert.MixRmsReferenceIdeal.main_arg3)
          ∧ r.2.mem ((c.tc : Thread Cert.MixRmsReferenceIdeal.nD Cert.MixRmsReferenceIdeal.τ).loc Cert.MixRmsReferenceIdeal.main_arg4) = m' ((c.tc : Thread Cert.MixRmsReferenceIdeal.nD Cert.MixRmsReferenceIdeal.τ).loc Cert.MixRmsReferenceIdeal.main_arg4)
          ∧ r.2.mem ((c.tc : Thread Cert.MixRmsReferenceIdeal.nD Cert.MixRmsReferenceIdeal.τ).loc Cert.MixRmsReferenceIdeal.main_arg5) = m' ((c.tc : Thread Cert.MixRmsReferenceIdeal.nD Cert.MixRmsReferenceIdeal.τ).loc Cert.MixRmsReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v10)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v14) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_ParKernel_ParKernelIdeal : Prop :=
  True

def algebraic_ParKernelIdeal_ParReferenceIdeal [hParKernelIdeal : Cert.ParKernelIdeal.Facts] [hParReferenceIdeal : Cert.ParReferenceIdeal.Facts] : Prop :=
  ∀ (m : (ℓ : Loc Cert.ParKernelIdeal.nD Cert.ParKernelIdeal.τ Cert.ParKernelIdeal.sig) → Buf (Elt Ideal) ℓ) (g : Dev Cert.ParKernelIdeal.nD → PrngReg)
    (m' : (ℓ : Loc Cert.ParReferenceIdeal.nD Cert.ParReferenceIdeal.τ Cert.ParReferenceIdeal.sig) → Buf (Elt Ideal) ℓ) (g' : Dev Cert.ParReferenceIdeal.nD → PrngReg), Pre_ParKernelIdeal m →
    (∀ c : Dev Cert.ParKernelIdeal.nD,
      m' ((c.tc : Thread Cert.ParReferenceIdeal.nD Cert.ParReferenceIdeal.τ).loc Cert.ParReferenceIdeal.main_arg0) = m ((c.tc : Thread Cert.ParKernelIdeal.nD Cert.ParKernelIdeal.τ).loc Cert.ParKernelIdeal.main_arg0)
      ∧ m' ((c.tc : Thread Cert.ParReferenceIdeal.nD Cert.ParReferenceIdeal.τ).loc Cert.ParReferenceIdeal.main_arg1) = m ((c.tc : Thread Cert.ParKernelIdeal.nD Cert.ParKernelIdeal.τ).loc Cert.ParKernelIdeal.main_arg1)
      ∧ m' ((c.tc : Thread Cert.ParReferenceIdeal.nD Cert.ParReferenceIdeal.τ).loc Cert.ParReferenceIdeal.main_arg2) = m ((c.tc : Thread Cert.ParKernelIdeal.nD Cert.ParKernelIdeal.τ).loc Cert.ParKernelIdeal.main_arg2)
      ∧ m' ((c.tc : Thread Cert.ParReferenceIdeal.nD Cert.ParReferenceIdeal.τ).loc Cert.ParReferenceIdeal.main_arg3) = m ((c.tc : Thread Cert.ParKernelIdeal.nD Cert.ParKernelIdeal.τ).loc Cert.ParKernelIdeal.main_arg3)
      ∧ m' ((c.tc : Thread Cert.ParReferenceIdeal.nD Cert.ParReferenceIdeal.τ).loc Cert.ParReferenceIdeal.main_arg4) = m ((c.tc : Thread Cert.ParKernelIdeal.nD Cert.ParKernelIdeal.τ).loc Cert.ParKernelIdeal.main_arg4)
      ∧ m' ((c.tc : Thread Cert.ParReferenceIdeal.nD Cert.ParReferenceIdeal.τ).loc Cert.ParReferenceIdeal.main_arg5) = m ((c.tc : Thread Cert.ParKernelIdeal.nD Cert.ParKernelIdeal.τ).loc Cert.ParKernelIdeal.main_arg5)
      ∧ m' ((c.tc : Thread Cert.ParReferenceIdeal.nD Cert.ParReferenceIdeal.τ).loc Cert.ParReferenceIdeal.main_arg6) = m ((c.tc : Thread Cert.ParKernelIdeal.nD Cert.ParKernelIdeal.τ).loc Cert.ParKernelIdeal.main_arg6)
      ∧ m' ((c.tc : Thread Cert.ParReferenceIdeal.nD Cert.ParReferenceIdeal.τ).loc Cert.ParReferenceIdeal.main_arg7) = m ((c.tc : Thread Cert.ParKernelIdeal.nD Cert.ParKernelIdeal.τ).loc Cert.ParKernelIdeal.main_arg7)
      ∧ m' ((c.tc : Thread Cert.ParReferenceIdeal.nD Cert.ParReferenceIdeal.τ).loc Cert.ParReferenceIdeal.main_arg8) = m ((c.tc : Thread Cert.ParKernelIdeal.nD Cert.ParKernelIdeal.τ).loc Cert.ParKernelIdeal.main_arg8)) →
    ∃ (v0 : (c : Dev Cert.ParKernelIdeal.nD) → Buf (Elt Ideal) ((c.tc : Thread Cert.ParKernelIdeal.nD Cert.ParKernelIdeal.τ).loc Cert.ParKernelIdeal.main_v5_0)) (v1 : (c : Dev Cert.ParKernelIdeal.nD) → Buf (Elt Ideal) ((c.tc : Thread Cert.ParKernelIdeal.nD Cert.ParKernelIdeal.τ).loc Cert.ParKernelIdeal.main_v5_1)) (v2 : (c : Dev Cert.ParKernelIdeal.nD) → Buf (Elt Ideal) ((c.tc : Thread Cert.ParKernelIdeal.nD Cert.ParKernelIdeal.τ).loc Cert.ParKernelIdeal.main_v5_2)) (v3 : (c : Dev Cert.ParKernelIdeal.nD) → Buf (Elt Ideal) ((c.tc : Thread Cert.ParKernelIdeal.nD Cert.ParKernelIdeal.τ).loc Cert.ParKernelIdeal.main_v5_3)) (v4 : (c : Dev Cert.ParKernelIdeal.nD) → Buf (Elt Ideal) ((c.tc : Thread Cert.ParKernelIdeal.nD Cert.ParKernelIdeal.τ).loc Cert.ParKernelIdeal.main_v5_4)),
      θ_run (Cert.ParKernelIdeal.defs (F := Ideal)) (onTc (τ := Cert.ParKernelIdeal.τ) (Cert.ParKernelIdeal.main (F := Ideal))) ⟨m, fun _ => 0, g⟩ (fun r => ∀ c : Dev Cert.ParKernelIdeal.nD,
          r.2.mem ((c.tc : Thread Cert.ParKernelIdeal.nD Cert.ParKernelIdeal.τ).loc Cert.ParKernelIdeal.main_v5_0) = v0 c
          ∧ r.2.mem ((c.tc : Thread Cert.ParKernelIdeal.nD Cert.ParKernelIdeal.τ).loc Cert.ParKernelIdeal.main_v5_1) = v1 c
          ∧ r.2.mem ((c.tc : Thread Cert.ParKernelIdeal.nD Cert.ParKernelIdeal.τ).loc Cert.ParKernelIdeal.main_v5_2) = v2 c
          ∧ r.2.mem ((c.tc : Thread Cert.ParKernelIdeal.nD Cert.ParKernelIdeal.τ).loc Cert.ParKernelIdeal.main_v5_3) = v3 c
          ∧ r.2.mem ((c.tc : Thread Cert.ParKernelIdeal.nD Cert.ParKernelIdeal.τ).loc Cert.ParKernelIdeal.main_v5_4) = v4 c
          ∧ r.2.mem ((c.tc : Thread Cert.ParKernelIdeal.nD Cert.ParKernelIdeal.τ).loc Cert.ParKernelIdeal.main_arg0) = m ((c.tc : Thread Cert.ParKernelIdeal.nD Cert.ParKernelIdeal.τ).loc Cert.ParKernelIdeal.main_arg0)
          ∧ r.2.mem ((c.tc : Thread Cert.ParKernelIdeal.nD Cert.ParKernelIdeal.τ).loc Cert.ParKernelIdeal.main_arg1) = m ((c.tc : Thread Cert.ParKernelIdeal.nD Cert.ParKernelIdeal.τ).loc Cert.ParKernelIdeal.main_arg1)
          ∧ r.2.mem ((c.tc : Thread Cert.ParKernelIdeal.nD Cert.ParKernelIdeal.τ).loc Cert.ParKernelIdeal.main_arg2) = m ((c.tc : Thread Cert.ParKernelIdeal.nD Cert.ParKernelIdeal.τ).loc Cert.ParKernelIdeal.main_arg2)
          ∧ r.2.mem ((c.tc : Thread Cert.ParKernelIdeal.nD Cert.ParKernelIdeal.τ).loc Cert.ParKernelIdeal.main_arg3) = m ((c.tc : Thread Cert.ParKernelIdeal.nD Cert.ParKernelIdeal.τ).loc Cert.ParKernelIdeal.main_arg3)
          ∧ r.2.mem ((c.tc : Thread Cert.ParKernelIdeal.nD Cert.ParKernelIdeal.τ).loc Cert.ParKernelIdeal.main_arg4) = m ((c.tc : Thread Cert.ParKernelIdeal.nD Cert.ParKernelIdeal.τ).loc Cert.ParKernelIdeal.main_arg4)
          ∧ r.2.mem ((c.tc : Thread Cert.ParKernelIdeal.nD Cert.ParKernelIdeal.τ).loc Cert.ParKernelIdeal.main_arg5) = m ((c.tc : Thread Cert.ParKernelIdeal.nD Cert.ParKernelIdeal.τ).loc Cert.ParKernelIdeal.main_arg5)
          ∧ r.2.mem ((c.tc : Thread Cert.ParKernelIdeal.nD Cert.ParKernelIdeal.τ).loc Cert.ParKernelIdeal.main_arg6) = m ((c.tc : Thread Cert.ParKernelIdeal.nD Cert.ParKernelIdeal.τ).loc Cert.ParKernelIdeal.main_arg6)
          ∧ r.2.mem ((c.tc : Thread Cert.ParKernelIdeal.nD Cert.ParKernelIdeal.τ).loc Cert.ParKernelIdeal.main_arg7) = m ((c.tc : Thread Cert.ParKernelIdeal.nD Cert.ParKernelIdeal.τ).loc Cert.ParKernelIdeal.main_arg7)
          ∧ r.2.mem ((c.tc : Thread Cert.ParKernelIdeal.nD Cert.ParKernelIdeal.τ).loc Cert.ParKernelIdeal.main_arg8) = m ((c.tc : Thread Cert.ParKernelIdeal.nD Cert.ParKernelIdeal.τ).loc Cert.ParKernelIdeal.main_arg8))
      ∧ θ_run (Cert.ParReferenceIdeal.defs (F := Ideal)) (onTc (τ := Cert.ParReferenceIdeal.τ) (Cert.ParReferenceIdeal.main (F := Ideal))) ⟨m', fun _ => 0, g'⟩ (fun r => ∀ c : Dev Cert.ParReferenceIdeal.nD,
          r.2.mem ((c.tc : Thread Cert.ParReferenceIdeal.nD Cert.ParReferenceIdeal.τ).loc Cert.ParReferenceIdeal.main_v148) = v0 c
          ∧ r.2.mem ((c.tc : Thread Cert.ParReferenceIdeal.nD Cert.ParReferenceIdeal.τ).loc Cert.ParReferenceIdeal.main_v137) = v1 c
          ∧ r.2.mem ((c.tc : Thread Cert.ParReferenceIdeal.nD Cert.ParReferenceIdeal.τ).loc Cert.ParReferenceIdeal.main_v149) = v2 c
          ∧ r.2.mem ((c.tc : Thread Cert.ParReferenceIdeal.nD Cert.ParReferenceIdeal.τ).loc Cert.ParReferenceIdeal.main_v150) = v3 c
          ∧ r.2.mem ((c.tc : Thread Cert.ParReferenceIdeal.nD Cert.ParReferenceIdeal.τ).loc Cert.ParReferenceIdeal.main_v151) = v4 c
          ∧ r.2.mem ((c.tc : Thread Cert.ParReferenceIdeal.nD Cert.ParReferenceIdeal.τ).loc Cert.ParReferenceIdeal.main_arg0) = m' ((c.tc : Thread Cert.ParReferenceIdeal.nD Cert.ParReferenceIdeal.τ).loc Cert.ParReferenceIdeal.main_arg0)
          ∧ r.2.mem ((c.tc : Thread Cert.ParReferenceIdeal.nD Cert.ParReferenceIdeal.τ).loc Cert.ParReferenceIdeal.main_arg1) = m' ((c.tc : Thread Cert.ParReferenceIdeal.nD Cert.ParReferenceIdeal.τ).loc Cert.ParReferenceIdeal.main_arg1)
          ∧ r.2.mem ((c.tc : Thread Cert.ParReferenceIdeal.nD Cert.ParReferenceIdeal.τ).loc Cert.ParReferenceIdeal.main_arg2) = m' ((c.tc : Thread Cert.ParReferenceIdeal.nD Cert.ParReferenceIdeal.τ).loc Cert.ParReferenceIdeal.main_arg2)
          ∧ r.2.mem ((c.tc : Thread Cert.ParReferenceIdeal.nD Cert.ParReferenceIdeal.τ).loc Cert.ParReferenceIdeal.main_arg3) = m' ((c.tc : Thread Cert.ParReferenceIdeal.nD Cert.ParReferenceIdeal.τ).loc Cert.ParReferenceIdeal.main_arg3)
          ∧ r.2.mem ((c.tc : Thread Cert.ParReferenceIdeal.nD Cert.ParReferenceIdeal.τ).loc Cert.ParReferenceIdeal.main_arg4) = m' ((c.tc : Thread Cert.ParReferenceIdeal.nD Cert.ParReferenceIdeal.τ).loc Cert.ParReferenceIdeal.main_arg4)
          ∧ r.2.mem ((c.tc : Thread Cert.ParReferenceIdeal.nD Cert.ParReferenceIdeal.τ).loc Cert.ParReferenceIdeal.main_arg5) = m' ((c.tc : Thread Cert.ParReferenceIdeal.nD Cert.ParReferenceIdeal.τ).loc Cert.ParReferenceIdeal.main_arg5)
          ∧ r.2.mem ((c.tc : Thread Cert.ParReferenceIdeal.nD Cert.ParReferenceIdeal.τ).loc Cert.ParReferenceIdeal.main_arg6) = m' ((c.tc : Thread Cert.ParReferenceIdeal.nD Cert.ParReferenceIdeal.τ).loc Cert.ParReferenceIdeal.main_arg6)
          ∧ r.2.mem ((c.tc : Thread Cert.ParReferenceIdeal.nD Cert.ParReferenceIdeal.τ).loc Cert.ParReferenceIdeal.main_arg7) = m' ((c.tc : Thread Cert.ParReferenceIdeal.nD Cert.ParReferenceIdeal.τ).loc Cert.ParReferenceIdeal.main_arg7)
          ∧ r.2.mem ((c.tc : Thread Cert.ParReferenceIdeal.nD Cert.ParReferenceIdeal.τ).loc Cert.ParReferenceIdeal.main_arg8) = m' ((c.tc : Thread Cert.ParReferenceIdeal.nD Cert.ParReferenceIdeal.τ).loc Cert.ParReferenceIdeal.main_arg8))

def preserves_ScanKernel_ScanKernelIdeal : Prop :=
  True

def preserves_ConvFwdKernel_ConvFwdKernelIdeal : Prop :=
  True

def algebraic_ConvFwdKernelIdeal_ConvFwdReferenceIdeal [hConvFwdKernelIdeal : Cert.ConvFwdKernelIdeal.Facts] [hConvFwdReferenceIdeal : Cert.ConvFwdReferenceIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdKernelIdeal m →
    (∀ c : Dev Cert.ConvFwdKernelIdeal.nD,
      m' ((c.tc : Thread Cert.ConvFwdReferenceIdeal.nD Cert.ConvFwdReferenceIdeal.τ).loc Cert.ConvFwdReferenceIdeal.main_arg0) = m ((c.tc : Thread Cert.ConvFwdKernelIdeal.nD Cert.ConvFwdKernelIdeal.τ).loc Cert.ConvFwdKernelIdeal.main_arg0)
      ∧ m' ((c.tc : Thread Cert.ConvFwdReferenceIdeal.nD Cert.ConvFwdReferenceIdeal.τ).loc Cert.ConvFwdReferenceIdeal.main_arg1) = m ((c.tc : Thread Cert.ConvFwdKernelIdeal.nD Cert.ConvFwdKernelIdeal.τ).loc Cert.ConvFwdKernelIdeal.main_arg1)
      ∧ m' ((c.tc : Thread Cert.ConvFwdReferenceIdeal.nD Cert.ConvFwdReferenceIdeal.τ).loc Cert.ConvFwdReferenceIdeal.main_arg2) = m ((c.tc : Thread Cert.ConvFwdKernelIdeal.nD Cert.ConvFwdKernelIdeal.τ).loc Cert.ConvFwdKernelIdeal.main_arg2)) →
    ∃ (v0 : (c : Dev Cert.ConvFwdKernelIdeal.nD) → Buf (Elt Ideal) ((c.tc : Thread Cert.ConvFwdKernelIdeal.nD Cert.ConvFwdKernelIdeal.τ).loc Cert.ConvFwdKernelIdeal.main_v4)),
      θ_run (Cert.ConvFwdKernelIdeal.defs (F := Ideal)) (onTc (τ := Cert.ConvFwdKernelIdeal.τ) (Cert.ConvFwdKernelIdeal.main (F := Ideal))) ⟨m, fun _ => 0, g⟩ (fun r => ∀ c : Dev Cert.ConvFwdKernelIdeal.nD,
          r.2.mem ((c.tc : Thread Cert.ConvFwdKernelIdeal.nD Cert.ConvFwdKernelIdeal.τ).loc Cert.ConvFwdKernelIdeal.main_v4) = v0 c
          ∧ r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
          ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1)
          ∧ r.2.mem ((c.tc : Thread Cert.ConvFwdKernelIdeal.nD Cert.ConvFwdKernelIdeal.τ).loc Cert.ConvFwdKernelIdeal.main_arg2) = m ((c.tc : Thread Cert.ConvFwdKernelIdeal.nD Cert.ConvFwdKernelIdeal.τ).loc Cert.ConvFwdKernelIdeal.main_arg2))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v35) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2))

def preserves_GateFwdKernel_GateFwdKernelIdeal : Prop :=
  True

def algebraic_GateFwdKernelIdeal_GateFwdReferenceIdeal [hGateFwdKernelIdeal : Cert.GateFwdKernelIdeal.Facts] [hGateFwdReferenceIdeal : Cert.GateFwdReferenceIdeal.Facts] : Prop :=
  ∀ (m : (ℓ : Loc Cert.GateFwdKernelIdeal.nD Cert.GateFwdKernelIdeal.τ Cert.GateFwdKernelIdeal.sig) → Buf (Elt Ideal) ℓ) (g : Dev Cert.GateFwdKernelIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdKernelIdeal m →
    (∀ c : Dev Cert.GateFwdKernelIdeal.nD,
      m' ((c.tc : Thread Cert.GateFwdReferenceIdeal.nD Cert.GateFwdReferenceIdeal.τ).loc Cert.GateFwdReferenceIdeal.main_arg0) = m ((c.tc : Thread Cert.GateFwdKernelIdeal.nD Cert.GateFwdKernelIdeal.τ).loc Cert.GateFwdKernelIdeal.main_arg0)
      ∧ m' ((c.tc : Thread Cert.GateFwdReferenceIdeal.nD Cert.GateFwdReferenceIdeal.τ).loc Cert.GateFwdReferenceIdeal.main_arg1) = m ((c.tc : Thread Cert.GateFwdKernelIdeal.nD Cert.GateFwdKernelIdeal.τ).loc Cert.GateFwdKernelIdeal.main_arg1)
      ∧ m' ((c.tc : Thread Cert.GateFwdReferenceIdeal.nD Cert.GateFwdReferenceIdeal.τ).loc Cert.GateFwdReferenceIdeal.main_arg2) = m ((c.tc : Thread Cert.GateFwdKernelIdeal.nD Cert.GateFwdKernelIdeal.τ).loc Cert.GateFwdKernelIdeal.main_arg2)) →
    ∃ (v0 : (c : Dev Cert.GateFwdKernelIdeal.nD) → Buf (Elt Ideal) ((c.tc : Thread Cert.GateFwdKernelIdeal.nD Cert.GateFwdKernelIdeal.τ).loc Cert.GateFwdKernelIdeal.main_v4)),
      θ_run (Cert.GateFwdKernelIdeal.defs (F := Ideal)) (onTc (τ := Cert.GateFwdKernelIdeal.τ) (Cert.GateFwdKernelIdeal.main (F := Ideal))) ⟨m, fun _ => 0, g⟩ (fun r => ∀ c : Dev Cert.GateFwdKernelIdeal.nD,
          r.2.mem ((c.tc : Thread Cert.GateFwdKernelIdeal.nD Cert.GateFwdKernelIdeal.τ).loc Cert.GateFwdKernelIdeal.main_v4) = v0 c
          ∧ r.2.mem ((c.tc : Thread Cert.GateFwdKernelIdeal.nD Cert.GateFwdKernelIdeal.τ).loc Cert.GateFwdKernelIdeal.main_arg0) = m ((c.tc : Thread Cert.GateFwdKernelIdeal.nD Cert.GateFwdKernelIdeal.τ).loc Cert.GateFwdKernelIdeal.main_arg0)
          ∧ r.2.mem ((c.tc : Thread Cert.GateFwdKernelIdeal.nD Cert.GateFwdKernelIdeal.τ).loc Cert.GateFwdKernelIdeal.main_arg1) = m ((c.tc : Thread Cert.GateFwdKernelIdeal.nD Cert.GateFwdKernelIdeal.τ).loc Cert.GateFwdKernelIdeal.main_arg1)
          ∧ r.2.mem ((c.tc : Thread Cert.GateFwdKernelIdeal.nD Cert.GateFwdKernelIdeal.τ).loc Cert.GateFwdKernelIdeal.main_arg2) = m ((c.tc : Thread Cert.GateFwdKernelIdeal.nD Cert.GateFwdKernelIdeal.τ).loc Cert.GateFwdKernelIdeal.main_arg2))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v18) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2))

def preserves_RmsFwdKernel_RmsFwdKernelIdeal : Prop :=
  True

def algebraic_RmsFwdKernelIdeal_RmsFwdReferenceIdeal [hRmsFwdKernelIdeal : Cert.RmsFwdKernelIdeal.Facts] [hRmsFwdReferenceIdeal : Cert.RmsFwdReferenceIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdKernelIdeal m →
    (∀ c : Dev Cert.RmsFwdKernelIdeal.nD,
      m' ((c.tc : Thread Cert.RmsFwdReferenceIdeal.nD Cert.RmsFwdReferenceIdeal.τ).loc Cert.RmsFwdReferenceIdeal.main_arg0) = m ((c.tc : Thread Cert.RmsFwdKernelIdeal.nD Cert.RmsFwdKernelIdeal.τ).loc Cert.RmsFwdKernelIdeal.main_arg0)
      ∧ m' ((c.tc : Thread Cert.RmsFwdReferenceIdeal.nD Cert.RmsFwdReferenceIdeal.τ).loc Cert.RmsFwdReferenceIdeal.main_arg1) = m ((c.tc : Thread Cert.RmsFwdKernelIdeal.nD Cert.RmsFwdKernelIdeal.τ).loc Cert.RmsFwdKernelIdeal.main_arg1)) →
    ∃ (v0 : (c : Dev Cert.RmsFwdKernelIdeal.nD) → Buf (Elt Ideal) ((c.tc : Thread Cert.RmsFwdKernelIdeal.nD Cert.RmsFwdKernelIdeal.τ).loc Cert.RmsFwdKernelIdeal.main_v1)),
      θ_run (Cert.RmsFwdKernelIdeal.defs (F := Ideal)) (onTc (τ := Cert.RmsFwdKernelIdeal.τ) (Cert.RmsFwdKernelIdeal.main (F := Ideal))) ⟨m, fun _ => 0, g⟩ (fun r => ∀ c : Dev Cert.RmsFwdKernelIdeal.nD,
          r.2.mem ((c.tc : Thread Cert.RmsFwdKernelIdeal.nD Cert.RmsFwdKernelIdeal.τ).loc Cert.RmsFwdKernelIdeal.main_v1) = v0 c
          ∧ r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
          ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v13) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_ResFwdKernel_ResFwdKernelIdeal : Prop :=
  True

def algebraic_ResFwdKernelIdeal_ResFwdReferenceIdeal [hResFwdKernelIdeal : Cert.ResFwdKernelIdeal.Facts] [hResFwdReferenceIdeal : Cert.ResFwdReferenceIdeal.Facts] : Prop :=
  ∀ (m : (ℓ : Loc Cert.ResFwdKernelIdeal.nD Cert.ResFwdKernelIdeal.τ Cert.ResFwdKernelIdeal.sig) → Buf (Elt Ideal) ℓ) (g : Dev Cert.ResFwdKernelIdeal.nD → PrngReg)
    (m' : (ℓ : Loc Cert.ResFwdReferenceIdeal.nD Cert.ResFwdReferenceIdeal.τ Cert.ResFwdReferenceIdeal.sig) → Buf (Elt Ideal) ℓ) (g' : Dev Cert.ResFwdReferenceIdeal.nD → PrngReg), Pre_ResFwdKernelIdeal m →
    (∀ c : Dev Cert.ResFwdKernelIdeal.nD,
      m' ((c.tc : Thread Cert.ResFwdReferenceIdeal.nD Cert.ResFwdReferenceIdeal.τ).loc Cert.ResFwdReferenceIdeal.main_arg0) = m ((c.tc : Thread Cert.ResFwdKernelIdeal.nD Cert.ResFwdKernelIdeal.τ).loc Cert.ResFwdKernelIdeal.main_arg0)
      ∧ m' ((c.tc : Thread Cert.ResFwdReferenceIdeal.nD Cert.ResFwdReferenceIdeal.τ).loc Cert.ResFwdReferenceIdeal.main_arg1) = m ((c.tc : Thread Cert.ResFwdKernelIdeal.nD Cert.ResFwdKernelIdeal.τ).loc Cert.ResFwdKernelIdeal.main_arg1)
      ∧ m' ((c.tc : Thread Cert.ResFwdReferenceIdeal.nD Cert.ResFwdReferenceIdeal.τ).loc Cert.ResFwdReferenceIdeal.main_arg2) = m ((c.tc : Thread Cert.ResFwdKernelIdeal.nD Cert.ResFwdKernelIdeal.τ).loc Cert.ResFwdKernelIdeal.main_arg2)) →
    ∃ (v0 : (c : Dev Cert.ResFwdKernelIdeal.nD) → Buf (Elt Ideal) ((c.tc : Thread Cert.ResFwdKernelIdeal.nD Cert.ResFwdKernelIdeal.τ).loc Cert.ResFwdKernelIdeal.main_v1)),
      θ_run (Cert.ResFwdKernelIdeal.defs (F := Ideal)) (onTc (τ := Cert.ResFwdKernelIdeal.τ) (Cert.ResFwdKernelIdeal.main (F := Ideal))) ⟨m, fun _ => 0, g⟩ (fun r => ∀ c : Dev Cert.ResFwdKernelIdeal.nD,
          r.2.mem ((c.tc : Thread Cert.ResFwdKernelIdeal.nD Cert.ResFwdKernelIdeal.τ).loc Cert.ResFwdKernelIdeal.main_v1) = v0 c
          ∧ r.2.mem ((c.tc : Thread Cert.ResFwdKernelIdeal.nD Cert.ResFwdKernelIdeal.τ).loc Cert.ResFwdKernelIdeal.main_arg0) = m ((c.tc : Thread Cert.ResFwdKernelIdeal.nD Cert.ResFwdKernelIdeal.τ).loc Cert.ResFwdKernelIdeal.main_arg0)
          ∧ r.2.mem ((c.tc : Thread Cert.ResFwdKernelIdeal.nD Cert.ResFwdKernelIdeal.τ).loc Cert.ResFwdKernelIdeal.main_arg1) = m ((c.tc : Thread Cert.ResFwdKernelIdeal.nD Cert.ResFwdKernelIdeal.τ).loc Cert.ResFwdKernelIdeal.main_arg1)
          ∧ r.2.mem ((c.tc : Thread Cert.ResFwdKernelIdeal.nD Cert.ResFwdKernelIdeal.τ).loc Cert.ResFwdKernelIdeal.main_arg2) = m ((c.tc : Thread Cert.ResFwdKernelIdeal.nD Cert.ResFwdKernelIdeal.τ).loc Cert.ResFwdKernelIdeal.main_arg2))
      ∧ θ_run (Cert.ResFwdReferenceIdeal.defs (F := Ideal)) (onTc (τ := Cert.ResFwdReferenceIdeal.τ) (Cert.ResFwdReferenceIdeal.main (F := Ideal))) ⟨m', fun _ => 0, g'⟩ (fun r => ∀ c : Dev Cert.ResFwdReferenceIdeal.nD,
          r.2.mem ((c.tc : Thread Cert.ResFwdReferenceIdeal.nD Cert.ResFwdReferenceIdeal.τ).loc Cert.ResFwdReferenceIdeal.main_v15) = v0 c
          ∧ r.2.mem ((c.tc : Thread Cert.ResFwdReferenceIdeal.nD Cert.ResFwdReferenceIdeal.τ).loc Cert.ResFwdReferenceIdeal.main_arg0) = m' ((c.tc : Thread Cert.ResFwdReferenceIdeal.nD Cert.ResFwdReferenceIdeal.τ).loc Cert.ResFwdReferenceIdeal.main_arg0)
          ∧ r.2.mem ((c.tc : Thread Cert.ResFwdReferenceIdeal.nD Cert.ResFwdReferenceIdeal.τ).loc Cert.ResFwdReferenceIdeal.main_arg1) = m' ((c.tc : Thread Cert.ResFwdReferenceIdeal.nD Cert.ResFwdReferenceIdeal.τ).loc Cert.ResFwdReferenceIdeal.main_arg1)
          ∧ r.2.mem ((c.tc : Thread Cert.ResFwdReferenceIdeal.nD Cert.ResFwdReferenceIdeal.τ).loc Cert.ResFwdReferenceIdeal.main_arg2) = m' ((c.tc : Thread Cert.ResFwdReferenceIdeal.nD Cert.ResFwdReferenceIdeal.τ).loc Cert.ResFwdReferenceIdeal.main_arg2))

def preserves_MixResFwdKernel_MixResFwdKernelIdeal : Prop :=
  True

def algebraic_MixResFwdKernelIdeal_MixResFwdReferenceIdeal [hMixResFwdKernelIdeal : Cert.MixResFwdKernelIdeal.Facts] [hMixResFwdReferenceIdeal : Cert.MixResFwdReferenceIdeal.Facts] : Prop :=
  ∀ (m : (ℓ : Loc Cert.MixResFwdKernelIdeal.nD Cert.MixResFwdKernelIdeal.τ Cert.MixResFwdKernelIdeal.sig) → Buf (Elt Ideal) ℓ) (g : Dev Cert.MixResFwdKernelIdeal.nD → PrngReg)
    (m' : (ℓ : Loc Cert.MixResFwdReferenceIdeal.nD Cert.MixResFwdReferenceIdeal.τ Cert.MixResFwdReferenceIdeal.sig) → Buf (Elt Ideal) ℓ) (g' : Dev Cert.MixResFwdReferenceIdeal.nD → PrngReg), Pre_MixResFwdKernelIdeal m →
    (∀ c : Dev Cert.MixResFwdKernelIdeal.nD,
      m' ((c.tc : Thread Cert.MixResFwdReferenceIdeal.nD Cert.MixResFwdReferenceIdeal.τ).loc Cert.MixResFwdReferenceIdeal.main_arg0) = m ((c.tc : Thread Cert.MixResFwdKernelIdeal.nD Cert.MixResFwdKernelIdeal.τ).loc Cert.MixResFwdKernelIdeal.main_arg0)
      ∧ m' ((c.tc : Thread Cert.MixResFwdReferenceIdeal.nD Cert.MixResFwdReferenceIdeal.τ).loc Cert.MixResFwdReferenceIdeal.main_arg1) = m ((c.tc : Thread Cert.MixResFwdKernelIdeal.nD Cert.MixResFwdKernelIdeal.τ).loc Cert.MixResFwdKernelIdeal.main_arg1)
      ∧ m' ((c.tc : Thread Cert.MixResFwdReferenceIdeal.nD Cert.MixResFwdReferenceIdeal.τ).loc Cert.MixResFwdReferenceIdeal.main_arg2) = m ((c.tc : Thread Cert.MixResFwdKernelIdeal.nD Cert.MixResFwdKernelIdeal.τ).loc Cert.MixResFwdKernelIdeal.main_arg2)) →
    ∃ (v0 : (c : Dev Cert.MixResFwdKernelIdeal.nD) → Buf (Elt Ideal) ((c.tc : Thread Cert.MixResFwdKernelIdeal.nD Cert.MixResFwdKernelIdeal.τ).loc Cert.MixResFwdKernelIdeal.main_v1)),
      θ_run (Cert.MixResFwdKernelIdeal.defs (F := Ideal)) (onTc (τ := Cert.MixResFwdKernelIdeal.τ) (Cert.MixResFwdKernelIdeal.main (F := Ideal))) ⟨m, fun _ => 0, g⟩ (fun r => ∀ c : Dev Cert.MixResFwdKernelIdeal.nD,
          r.2.mem ((c.tc : Thread Cert.MixResFwdKernelIdeal.nD Cert.MixResFwdKernelIdeal.τ).loc Cert.MixResFwdKernelIdeal.main_v1) = v0 c
          ∧ r.2.mem ((c.tc : Thread Cert.MixResFwdKernelIdeal.nD Cert.MixResFwdKernelIdeal.τ).loc Cert.MixResFwdKernelIdeal.main_arg0) = m ((c.tc : Thread Cert.MixResFwdKernelIdeal.nD Cert.MixResFwdKernelIdeal.τ).loc Cert.MixResFwdKernelIdeal.main_arg0)
          ∧ r.2.mem ((c.tc : Thread Cert.MixResFwdKernelIdeal.nD Cert.MixResFwdKernelIdeal.τ).loc Cert.MixResFwdKernelIdeal.main_arg1) = m ((c.tc : Thread Cert.MixResFwdKernelIdeal.nD Cert.MixResFwdKernelIdeal.τ).loc Cert.MixResFwdKernelIdeal.main_arg1)
          ∧ r.2.mem ((c.tc : Thread Cert.MixResFwdKernelIdeal.nD Cert.MixResFwdKernelIdeal.τ).loc Cert.MixResFwdKernelIdeal.main_arg2) = m ((c.tc : Thread Cert.MixResFwdKernelIdeal.nD Cert.MixResFwdKernelIdeal.τ).loc Cert.MixResFwdKernelIdeal.main_arg2))
      ∧ θ_run (Cert.MixResFwdReferenceIdeal.defs (F := Ideal)) (onTc (τ := Cert.MixResFwdReferenceIdeal.τ) (Cert.MixResFwdReferenceIdeal.main (F := Ideal))) ⟨m', fun _ => 0, g'⟩ (fun r => ∀ c : Dev Cert.MixResFwdReferenceIdeal.nD,
          r.2.mem ((c.tc : Thread Cert.MixResFwdReferenceIdeal.nD Cert.MixResFwdReferenceIdeal.τ).loc Cert.MixResFwdReferenceIdeal.main_v13) = v0 c
          ∧ r.2.mem ((c.tc : Thread Cert.MixResFwdReferenceIdeal.nD Cert.MixResFwdReferenceIdeal.τ).loc Cert.MixResFwdReferenceIdeal.main_arg0) = m' ((c.tc : Thread Cert.MixResFwdReferenceIdeal.nD Cert.MixResFwdReferenceIdeal.τ).loc Cert.MixResFwdReferenceIdeal.main_arg0)
          ∧ r.2.mem ((c.tc : Thread Cert.MixResFwdReferenceIdeal.nD Cert.MixResFwdReferenceIdeal.τ).loc Cert.MixResFwdReferenceIdeal.main_arg1) = m' ((c.tc : Thread Cert.MixResFwdReferenceIdeal.nD Cert.MixResFwdReferenceIdeal.τ).loc Cert.MixResFwdReferenceIdeal.main_arg1)
          ∧ r.2.mem ((c.tc : Thread Cert.MixResFwdReferenceIdeal.nD Cert.MixResFwdReferenceIdeal.τ).loc Cert.MixResFwdReferenceIdeal.main_arg2) = m' ((c.tc : Thread Cert.MixResFwdReferenceIdeal.nD Cert.MixResFwdReferenceIdeal.τ).loc Cert.MixResFwdReferenceIdeal.main_arg2))

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v3)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v3) = v0 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v17) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2))

def preserves_GluFwdKernel_GluFwdKernelIdeal : Prop :=
  True

def algebraic_GluFwdKernelIdeal_GluFwdReferenceIdeal [hGluFwdKernelIdeal : Cert.GluFwdKernelIdeal.Facts] [hGluFwdReferenceIdeal : Cert.GluFwdReferenceIdeal.Facts] : Prop :=
  ∀ (m : (ℓ : Loc Cert.GluFwdKernelIdeal.nD Cert.GluFwdKernelIdeal.τ Cert.GluFwdKernelIdeal.sig) → Buf (Elt Ideal) ℓ) (g : Dev Cert.GluFwdKernelIdeal.nD → PrngReg)
    (m' : (ℓ : Loc Cert.GluFwdReferenceIdeal.nD Cert.GluFwdReferenceIdeal.τ Cert.GluFwdReferenceIdeal.sig) → Buf (Elt Ideal) ℓ) (g' : Dev Cert.GluFwdReferenceIdeal.nD → PrngReg), Pre_GluFwdKernelIdeal m →
    (∀ c : Dev Cert.GluFwdKernelIdeal.nD,
      m' ((c.tc : Thread Cert.GluFwdReferenceIdeal.nD Cert.GluFwdReferenceIdeal.τ).loc Cert.GluFwdReferenceIdeal.main_arg0) = m ((c.tc : Thread Cert.GluFwdKernelIdeal.nD Cert.GluFwdKernelIdeal.τ).loc Cert.GluFwdKernelIdeal.main_arg0)) →
    ∃ (v0 : (c : Dev Cert.GluFwdKernelIdeal.nD) → Buf (Elt Ideal) ((c.tc : Thread Cert.GluFwdKernelIdeal.nD Cert.GluFwdKernelIdeal.τ).loc Cert.GluFwdKernelIdeal.main_v0)),
      θ_run (Cert.GluFwdKernelIdeal.defs (F := Ideal)) (onTc (τ := Cert.GluFwdKernelIdeal.τ) (Cert.GluFwdKernelIdeal.main (F := Ideal))) ⟨m, fun _ => 0, g⟩ (fun r => ∀ c : Dev Cert.GluFwdKernelIdeal.nD,
          r.2.mem ((c.tc : Thread Cert.GluFwdKernelIdeal.nD Cert.GluFwdKernelIdeal.τ).loc Cert.GluFwdKernelIdeal.main_v0) = v0 c
          ∧ r.2.mem ((c.tc : Thread Cert.GluFwdKernelIdeal.nD Cert.GluFwdKernelIdeal.τ).loc Cert.GluFwdKernelIdeal.main_arg0) = m ((c.tc : Thread Cert.GluFwdKernelIdeal.nD Cert.GluFwdKernelIdeal.τ).loc Cert.GluFwdKernelIdeal.main_arg0))
      ∧ θ_run (Cert.GluFwdReferenceIdeal.defs (F := Ideal)) (onTc (τ := Cert.GluFwdReferenceIdeal.τ) (Cert.GluFwdReferenceIdeal.main (F := Ideal))) ⟨m', fun _ => 0, g'⟩ (fun r => ∀ c : Dev Cert.GluFwdReferenceIdeal.nD,
          r.2.mem ((c.tc : Thread Cert.GluFwdReferenceIdeal.nD Cert.GluFwdReferenceIdeal.τ).loc Cert.GluFwdReferenceIdeal.main_v9) = v0 c
          ∧ r.2.mem ((c.tc : Thread Cert.GluFwdReferenceIdeal.nD Cert.GluFwdReferenceIdeal.τ).loc Cert.GluFwdReferenceIdeal.main_arg0) = m' ((c.tc : Thread Cert.GluFwdReferenceIdeal.nD Cert.GluFwdReferenceIdeal.τ).loc Cert.GluFwdReferenceIdeal.main_arg0))

def preserves_ParFwdKernel_ParFwdKernelIdeal : Prop :=
  True

def algebraic_ParFwdKernelIdeal_ParFwdReferenceIdeal [hParFwdKernelIdeal : Cert.ParFwdKernelIdeal.Facts] [hParFwdReferenceIdeal : Cert.ParFwdReferenceIdeal.Facts] : Prop :=
  ∀ (m : (ℓ : Loc Cert.ParFwdKernelIdeal.nD Cert.ParFwdKernelIdeal.τ Cert.ParFwdKernelIdeal.sig) → Buf (Elt Ideal) ℓ) (g : Dev Cert.ParFwdKernelIdeal.nD → PrngReg)
    (m' : (ℓ : Loc Cert.ParFwdReferenceIdeal.nD Cert.ParFwdReferenceIdeal.τ Cert.ParFwdReferenceIdeal.sig) → Buf (Elt Ideal) ℓ) (g' : Dev Cert.ParFwdReferenceIdeal.nD → PrngReg), Pre_ParFwdKernelIdeal m →
    (∀ c : Dev Cert.ParFwdKernelIdeal.nD,
      m' ((c.tc : Thread Cert.ParFwdReferenceIdeal.nD Cert.ParFwdReferenceIdeal.τ).loc Cert.ParFwdReferenceIdeal.main_arg0) = m ((c.tc : Thread Cert.ParFwdKernelIdeal.nD Cert.ParFwdKernelIdeal.τ).loc Cert.ParFwdKernelIdeal.main_arg0)
      ∧ m' ((c.tc : Thread Cert.ParFwdReferenceIdeal.nD Cert.ParFwdReferenceIdeal.τ).loc Cert.ParFwdReferenceIdeal.main_arg1) = m ((c.tc : Thread Cert.ParFwdKernelIdeal.nD Cert.ParFwdKernelIdeal.τ).loc Cert.ParFwdKernelIdeal.main_arg1)
      ∧ m' ((c.tc : Thread Cert.ParFwdReferenceIdeal.nD Cert.ParFwdReferenceIdeal.τ).loc Cert.ParFwdReferenceIdeal.main_arg2) = m ((c.tc : Thread Cert.ParFwdKernelIdeal.nD Cert.ParFwdKernelIdeal.τ).loc Cert.ParFwdKernelIdeal.main_arg2)
      ∧ m' ((c.tc : Thread Cert.ParFwdReferenceIdeal.nD Cert.ParFwdReferenceIdeal.τ).loc Cert.ParFwdReferenceIdeal.main_arg3) = m ((c.tc : Thread Cert.ParFwdKernelIdeal.nD Cert.ParFwdKernelIdeal.τ).loc Cert.ParFwdKernelIdeal.main_arg3)
      ∧ m' ((c.tc : Thread Cert.ParFwdReferenceIdeal.nD Cert.ParFwdReferenceIdeal.τ).loc Cert.ParFwdReferenceIdeal.main_arg4) = m ((c.tc : Thread Cert.ParFwdKernelIdeal.nD Cert.ParFwdKernelIdeal.τ).loc Cert.ParFwdKernelIdeal.main_arg4)) →
    ∃ (v0 : (c : Dev Cert.ParFwdKernelIdeal.nD) → Buf (Elt Ideal) ((c.tc : Thread Cert.ParFwdKernelIdeal.nD Cert.ParFwdKernelIdeal.τ).loc Cert.ParFwdKernelIdeal.main_v5_0)) (v1 : (c : Dev Cert.ParFwdKernelIdeal.nD) → Buf (Elt Ideal) ((c.tc : Thread Cert.ParFwdKernelIdeal.nD Cert.ParFwdKernelIdeal.τ).loc Cert.ParFwdKernelIdeal.main_v5_1)) (v2 : (c : Dev Cert.ParFwdKernelIdeal.nD) → Buf (Elt Ideal) ((c.tc : Thread Cert.ParFwdKernelIdeal.nD Cert.ParFwdKernelIdeal.τ).loc Cert.ParFwdKernelIdeal.main_v5_2)) (v3 : (c : Dev Cert.ParFwdKernelIdeal.nD) → Buf (Elt Ideal) ((c.tc : Thread Cert.ParFwdKernelIdeal.nD Cert.ParFwdKernelIdeal.τ).loc Cert.ParFwdKernelIdeal.main_v5_3)),
      θ_run (Cert.ParFwdKernelIdeal.defs (F := Ideal)) (onTc (τ := Cert.ParFwdKernelIdeal.τ) (Cert.ParFwdKernelIdeal.main (F := Ideal))) ⟨m, fun _ => 0, g⟩ (fun r => ∀ c : Dev Cert.ParFwdKernelIdeal.nD,
          r.2.mem ((c.tc : Thread Cert.ParFwdKernelIdeal.nD Cert.ParFwdKernelIdeal.τ).loc Cert.ParFwdKernelIdeal.main_v5_0) = v0 c
          ∧ r.2.mem ((c.tc : Thread Cert.ParFwdKernelIdeal.nD Cert.ParFwdKernelIdeal.τ).loc Cert.ParFwdKernelIdeal.main_v5_1) = v1 c
          ∧ r.2.mem ((c.tc : Thread Cert.ParFwdKernelIdeal.nD Cert.ParFwdKernelIdeal.τ).loc Cert.ParFwdKernelIdeal.main_v5_2) = v2 c
          ∧ r.2.mem ((c.tc : Thread Cert.ParFwdKernelIdeal.nD Cert.ParFwdKernelIdeal.τ).loc Cert.ParFwdKernelIdeal.main_v5_3) = v3 c
          ∧ r.2.mem ((c.tc : Thread Cert.ParFwdKernelIdeal.nD Cert.ParFwdKernelIdeal.τ).loc Cert.ParFwdKernelIdeal.main_arg0) = m ((c.tc : Thread Cert.ParFwdKernelIdeal.nD Cert.ParFwdKernelIdeal.τ).loc Cert.ParFwdKernelIdeal.main_arg0)
          ∧ r.2.mem ((c.tc : Thread Cert.ParFwdKernelIdeal.nD Cert.ParFwdKernelIdeal.τ).loc Cert.ParFwdKernelIdeal.main_arg1) = m ((c.tc : Thread Cert.ParFwdKernelIdeal.nD Cert.ParFwdKernelIdeal.τ).loc Cert.ParFwdKernelIdeal.main_arg1)
          ∧ r.2.mem ((c.tc : Thread Cert.ParFwdKernelIdeal.nD Cert.ParFwdKernelIdeal.τ).loc Cert.ParFwdKernelIdeal.main_arg2) = m ((c.tc : Thread Cert.ParFwdKernelIdeal.nD Cert.ParFwdKernelIdeal.τ).loc Cert.ParFwdKernelIdeal.main_arg2)
          ∧ r.2.mem ((c.tc : Thread Cert.ParFwdKernelIdeal.nD Cert.ParFwdKernelIdeal.τ).loc Cert.ParFwdKernelIdeal.main_arg3) = m ((c.tc : Thread Cert.ParFwdKernelIdeal.nD Cert.ParFwdKernelIdeal.τ).loc Cert.ParFwdKernelIdeal.main_arg3)
          ∧ r.2.mem ((c.tc : Thread Cert.ParFwdKernelIdeal.nD Cert.ParFwdKernelIdeal.τ).loc Cert.ParFwdKernelIdeal.main_arg4) = m ((c.tc : Thread Cert.ParFwdKernelIdeal.nD Cert.ParFwdKernelIdeal.τ).loc Cert.ParFwdKernelIdeal.main_arg4))
      ∧ θ_run (Cert.ParFwdReferenceIdeal.defs (F := Ideal)) (onTc (τ := Cert.ParFwdReferenceIdeal.τ) (Cert.ParFwdReferenceIdeal.main (F := Ideal))) ⟨m', fun _ => 0, g'⟩ (fun r => ∀ c : Dev Cert.ParFwdReferenceIdeal.nD,
          r.2.mem ((c.tc : Thread Cert.ParFwdReferenceIdeal.nD Cert.ParFwdReferenceIdeal.τ).loc Cert.ParFwdReferenceIdeal.main_v42) = v0 c
          ∧ r.2.mem ((c.tc : Thread Cert.ParFwdReferenceIdeal.nD Cert.ParFwdReferenceIdeal.τ).loc Cert.ParFwdReferenceIdeal.main_v43) = v1 c
          ∧ r.2.mem ((c.tc : Thread Cert.ParFwdReferenceIdeal.nD Cert.ParFwdReferenceIdeal.τ).loc Cert.ParFwdReferenceIdeal.main_v44) = v2 c
          ∧ r.2.mem ((c.tc : Thread Cert.ParFwdReferenceIdeal.nD Cert.ParFwdReferenceIdeal.τ).loc Cert.ParFwdReferenceIdeal.main_v45) = v3 c
          ∧ r.2.mem ((c.tc : Thread Cert.ParFwdReferenceIdeal.nD Cert.ParFwdReferenceIdeal.τ).loc Cert.ParFwdReferenceIdeal.main_arg0) = m' ((c.tc : Thread Cert.ParFwdReferenceIdeal.nD Cert.ParFwdReferenceIdeal.τ).loc Cert.ParFwdReferenceIdeal.main_arg0)
          ∧ r.2.mem ((c.tc : Thread Cert.ParFwdReferenceIdeal.nD Cert.ParFwdReferenceIdeal.τ).loc Cert.ParFwdReferenceIdeal.main_arg1) = m' ((c.tc : Thread Cert.ParFwdReferenceIdeal.nD Cert.ParFwdReferenceIdeal.τ).loc Cert.ParFwdReferenceIdeal.main_arg1)
          ∧ r.2.mem ((c.tc : Thread Cert.ParFwdReferenceIdeal.nD Cert.ParFwdReferenceIdeal.τ).loc Cert.ParFwdReferenceIdeal.main_arg2) = m' ((c.tc : Thread Cert.ParFwdReferenceIdeal.nD Cert.ParFwdReferenceIdeal.τ).loc Cert.ParFwdReferenceIdeal.main_arg2)
          ∧ r.2.mem ((c.tc : Thread Cert.ParFwdReferenceIdeal.nD Cert.ParFwdReferenceIdeal.τ).loc Cert.ParFwdReferenceIdeal.main_arg3) = m' ((c.tc : Thread Cert.ParFwdReferenceIdeal.nD Cert.ParFwdReferenceIdeal.τ).loc Cert.ParFwdReferenceIdeal.main_arg3)
          ∧ r.2.mem ((c.tc : Thread Cert.ParFwdReferenceIdeal.nD Cert.ParFwdReferenceIdeal.τ).loc Cert.ParFwdReferenceIdeal.main_arg4) = m' ((c.tc : Thread Cert.ParFwdReferenceIdeal.nD Cert.ParFwdReferenceIdeal.τ).loc Cert.ParFwdReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v7_0)) (v1 : (c : Dev Cert.UpKernelIdeal.nD) → Buf (Elt Ideal) ((c.tc : Thread Cert.UpKernelIdeal.nD Cert.UpKernelIdeal.τ).loc Cert.UpKernelIdeal.main_v7_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v7_0) = v0 c
          ∧ r.2.mem ((c.tc : Thread Cert.UpKernelIdeal.nD Cert.UpKernelIdeal.τ).loc Cert.UpKernelIdeal.main_v7_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v9) = v0 c
          ∧ r.2.mem ((c.tc : Thread Cert.UpReferenceIdeal.nD Cert.UpReferenceIdeal.τ).loc Cert.UpReferenceIdeal.main_v14) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v5)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v5) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v4)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v4) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)
      ∧ m' ((c.tc : Thread Cert.UpDxReferenceIdeal.nD Cert.UpDxReferenceIdeal.τ).loc Cert.UpDxReferenceIdeal.main_arg2) = m ((c.tc : Thread Cert.UpDxKernelIdeal.nD Cert.UpDxKernelIdeal.τ).loc Cert.UpDxKernelIdeal.main_arg2)
      ∧ m' ((c.tc : Thread Cert.UpDxReferenceIdeal.nD Cert.UpDxReferenceIdeal.τ).loc Cert.UpDxReferenceIdeal.main_arg3) = m ((c.tc : Thread Cert.UpDxKernelIdeal.nD Cert.UpDxKernelIdeal.τ).loc Cert.UpDxKernelIdeal.main_arg3)) →
    ∃ (v0 : (c : Dev Cert.UpDxKernelIdeal.nD) → Buf (Elt Ideal) ((c.tc : Thread Cert.UpDxKernelIdeal.nD Cert.UpDxKernelIdeal.τ).loc Cert.UpDxKernelIdeal.main_v14)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v14) = v0 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
          ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
          ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v4) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)
      ∧ m' ((c.tc : Thread Cert.UpDwReferenceIdeal.nD Cert.UpDwReferenceIdeal.τ).loc Cert.UpDwReferenceIdeal.main_arg2) = m ((c.tc : Thread Cert.UpDwKernelIdeal.nD Cert.UpDwKernelIdeal.τ).loc Cert.UpDwKernelIdeal.main_arg2)) →
    ∃ (v0 : (c : Dev Cert.UpDwKernelIdeal.nD) → Buf (Elt Ideal) ((c.tc : Thread Cert.UpDwKernelIdeal.nD Cert.UpDwKernelIdeal.τ).loc Cert.UpDwKernelIdeal.main_v9_0)) (v1 : (c : Dev Cert.UpDwKernelIdeal.nD) → Buf (Elt Ideal) ((c.tc : Thread Cert.UpDwKernelIdeal.nD Cert.UpDwKernelIdeal.τ).loc Cert.UpDwKernelIdeal.main_v9_1)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v9_0) = v0 c
          ∧ r.2.mem ((c.tc : Thread Cert.UpDwKernelIdeal.nD Cert.UpDwKernelIdeal.τ).loc Cert.UpDwKernelIdeal.main_v9_1) = v1 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
          ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v3) = v0 c
          ∧ r.2.mem ((c.tc : Thread Cert.UpDwReferenceIdeal.nD Cert.UpDwReferenceIdeal.τ).loc Cert.UpDwReferenceIdeal.main_v7) = v1 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_SlotsKernel_SlotsKernelIdeal : Prop :=
  True

def algebraic_SlotsKernelIdeal_SlotsReferenceIdeal [hSlotsKernelIdeal : Cert.SlotsKernelIdeal.Facts] [hSlotsReferenceIdeal : Cert.SlotsReferenceIdeal.Facts] : Prop :=
  ∀ (m : (ℓ : Loc Cert.SlotsKernelIdeal.nD Cert.SlotsKernelIdeal.τ Cert.SlotsKernelIdeal.sig) → Buf (Elt Ideal) ℓ) (g : Dev Cert.SlotsKernelIdeal.nD → PrngReg)
    (m' : (ℓ : Loc Cert.SlotsReferenceIdeal.nD Cert.SlotsReferenceIdeal.τ Cert.SlotsReferenceIdeal.sig) → Buf (Elt Ideal) ℓ) (g' : Dev Cert.SlotsReferenceIdeal.nD → PrngReg), Pre_SlotsKernelIdeal m →
    (∀ c : Dev Cert.SlotsKernelIdeal.nD,
      m' ((c.tc : Thread Cert.SlotsReferenceIdeal.nD Cert.SlotsReferenceIdeal.τ).loc Cert.SlotsReferenceIdeal.main_arg0) = m ((c.tc : Thread Cert.SlotsKernelIdeal.nD Cert.SlotsKernelIdeal.τ).loc Cert.SlotsKernelIdeal.main_arg0)) →
    ∃ (v0 : (c : Dev Cert.SlotsKernelIdeal.nD) → Buf (Elt Ideal) ((c.tc : Thread Cert.SlotsKernelIdeal.nD Cert.SlotsKernelIdeal.τ).loc Cert.SlotsKernelIdeal.main_v0)),
      θ_run (Cert.SlotsKernelIdeal.defs (F := Ideal)) (onTc (τ := Cert.SlotsKernelIdeal.τ) (Cert.SlotsKernelIdeal.main (F := Ideal))) ⟨m, fun _ => 0, g⟩ (fun r => ∀ c : Dev Cert.SlotsKernelIdeal.nD,
          r.2.mem ((c.tc : Thread Cert.SlotsKernelIdeal.nD Cert.SlotsKernelIdeal.τ).loc Cert.SlotsKernelIdeal.main_v0) = v0 c
          ∧ r.2.mem ((c.tc : Thread Cert.SlotsKernelIdeal.nD Cert.SlotsKernelIdeal.τ).loc Cert.SlotsKernelIdeal.main_arg0) = m ((c.tc : Thread Cert.SlotsKernelIdeal.nD Cert.SlotsKernelIdeal.τ).loc Cert.SlotsKernelIdeal.main_arg0))
      ∧ θ_run (Cert.SlotsReferenceIdeal.defs (F := Ideal)) (onTc (τ := Cert.SlotsReferenceIdeal.τ) (Cert.SlotsReferenceIdeal.main (F := Ideal))) ⟨m', fun _ => 0, g'⟩ (fun r => ∀ c : Dev Cert.SlotsReferenceIdeal.nD,
          r.2.mem ((c.tc : Thread Cert.SlotsReferenceIdeal.nD Cert.SlotsReferenceIdeal.τ).loc Cert.SlotsReferenceIdeal.main_v0) = v0 c
          ∧ r.2.mem ((c.tc : Thread Cert.SlotsReferenceIdeal.nD Cert.SlotsReferenceIdeal.τ).loc Cert.SlotsReferenceIdeal.main_arg0) = m' ((c.tc : Thread Cert.SlotsReferenceIdeal.nD Cert.SlotsReferenceIdeal.τ).loc Cert.SlotsReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)) →
    ∃ (v0 : (c : Dev Cert.AdamKernelIdeal.nD) → Buf (Elt Ideal) ((c.tc : Thread Cert.AdamKernelIdeal.nD Cert.AdamKernelIdeal.τ).loc Cert.AdamKernelIdeal.main_v2_0)) (v1 : (c : Dev Cert.AdamKernelIdeal.nD) → Buf (Elt Ideal) ((c.tc : Thread Cert.AdamKernelIdeal.nD Cert.AdamKernelIdeal.τ).loc Cert.AdamKernelIdeal.main_v2_1)) (v2 : (c : Dev Cert.AdamKernelIdeal.nD) → Buf (Elt Ideal) ((c.tc : Thread Cert.AdamKernelIdeal.nD Cert.AdamKernelIdeal.τ).loc Cert.AdamKernelIdeal.main_v2_2)) (v3 : (c : Dev Cert.AdamKernelIdeal.nD) → Buf (Elt Ideal) ((c.tc : Thread Cert.AdamKernelIdeal.nD Cert.AdamKernelIdeal.τ).loc Cert.AdamKernelIdeal.main_v2_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v2_0) = v0 c
          ∧ r.2.mem ((c.tc : Thread Cert.AdamKernelIdeal.nD Cert.AdamKernelIdeal.τ).loc Cert.AdamKernelIdeal.main_v2_1) = v1 c
          ∧ r.2.mem ((c.tc : Thread Cert.AdamKernelIdeal.nD Cert.AdamKernelIdeal.τ).loc Cert.AdamKernelIdeal.main_v2_2) = v2 c
          ∧ r.2.mem ((c.tc : Thread Cert.AdamKernelIdeal.nD Cert.AdamKernelIdeal.τ).loc Cert.AdamKernelIdeal.main_v2_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v6) = v0 c
          ∧ r.2.mem ((c.tc : Thread Cert.AdamReferenceIdeal.nD Cert.AdamReferenceIdeal.τ).loc Cert.AdamReferenceIdeal.main_v30) = v1 c
          ∧ r.2.mem ((c.tc : Thread Cert.AdamReferenceIdeal.nD Cert.AdamReferenceIdeal.τ).loc Cert.AdamReferenceIdeal.main_v11) = v2 c
          ∧ r.2.mem ((c.tc : Thread Cert.AdamReferenceIdeal.nD Cert.AdamReferenceIdeal.τ).loc Cert.AdamReferenceIdeal.main_v17) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4))

def preserves_SsdFwdKernel_SsdFwdKernelIdeal : Prop :=
  True

def algebraic_SsdFwdKernelIdeal_SsdFwdReferenceIdeal_pre_ssdf_finite [hSsdFwdKernelIdeal : Cert.SsdFwdKernelIdeal.Facts] [hSsdFwdReferenceIdeal : Cert.SsdFwdReferenceIdeal.Facts] [hPre_ssdf_finite : Cert.Pre_ssdf_finite.Facts] : Prop :=
  ∀ (m : (ℓ : Loc Cert.SsdFwdKernelIdeal.nD Cert.SsdFwdKernelIdeal.τ Cert.SsdFwdKernelIdeal.sig) → Buf (Elt Ideal) ℓ) (g : Dev Cert.SsdFwdKernelIdeal.nD → PrngReg)
    (m' : (ℓ : Loc Cert.SsdFwdReferenceIdeal.nD Cert.SsdFwdReferenceIdeal.τ Cert.SsdFwdReferenceIdeal.sig) → Buf (Elt Ideal) ℓ) (g' : Dev Cert.SsdFwdReferenceIdeal.nD → PrngReg), Pre_SsdFwdKernelIdeal_ssdf_finite m →
    (∀ c : Dev Cert.SsdFwdKernelIdeal.nD,
      m' ((c.tc : Thread Cert.SsdFwdReferenceIdeal.nD Cert.SsdFwdReferenceIdeal.τ).loc Cert.SsdFwdReferenceIdeal.main_arg0) = m ((c.tc : Thread Cert.SsdFwdKernelIdeal.nD Cert.SsdFwdKernelIdeal.τ).loc Cert.SsdFwdKernelIdeal.main_arg0)
      ∧ m' ((c.tc : Thread Cert.SsdFwdReferenceIdeal.nD Cert.SsdFwdReferenceIdeal.τ).loc Cert.SsdFwdReferenceIdeal.main_arg1) = m ((c.tc : Thread Cert.SsdFwdKernelIdeal.nD Cert.SsdFwdKernelIdeal.τ).loc Cert.SsdFwdKernelIdeal.main_arg1)
      ∧ m' ((c.tc : Thread Cert.SsdFwdReferenceIdeal.nD Cert.SsdFwdReferenceIdeal.τ).loc Cert.SsdFwdReferenceIdeal.main_arg2) = m ((c.tc : Thread Cert.SsdFwdKernelIdeal.nD Cert.SsdFwdKernelIdeal.τ).loc Cert.SsdFwdKernelIdeal.main_arg2)
      ∧ m' ((c.tc : Thread Cert.SsdFwdReferenceIdeal.nD Cert.SsdFwdReferenceIdeal.τ).loc Cert.SsdFwdReferenceIdeal.main_arg3) = m ((c.tc : Thread Cert.SsdFwdKernelIdeal.nD Cert.SsdFwdKernelIdeal.τ).loc Cert.SsdFwdKernelIdeal.main_arg3)
      ∧ m' ((c.tc : Thread Cert.SsdFwdReferenceIdeal.nD Cert.SsdFwdReferenceIdeal.τ).loc Cert.SsdFwdReferenceIdeal.main_arg4) = m ((c.tc : Thread Cert.SsdFwdKernelIdeal.nD Cert.SsdFwdKernelIdeal.τ).loc Cert.SsdFwdKernelIdeal.main_arg4)) →
    ∃ (v0 : (c : Dev Cert.SsdFwdKernelIdeal.nD) → Buf (Elt Ideal) ((c.tc : Thread Cert.SsdFwdKernelIdeal.nD Cert.SsdFwdKernelIdeal.τ).loc Cert.SsdFwdKernelIdeal.main_v12_0)) (v1 : (c : Dev Cert.SsdFwdKernelIdeal.nD) → Buf (Elt Ideal) ((c.tc : Thread Cert.SsdFwdKernelIdeal.nD Cert.SsdFwdKernelIdeal.τ).loc Cert.SsdFwdKernelIdeal.main_v12_1)),
      θ_run (Cert.SsdFwdKernelIdeal.defs (F := Ideal)) (onTc (τ := Cert.SsdFwdKernelIdeal.τ) (Cert.SsdFwdKernelIdeal.main (F := Ideal))) ⟨m, fun _ => 0, g⟩ (fun r => ∀ c : Dev Cert.SsdFwdKernelIdeal.nD,
          r.2.mem ((c.tc : Thread Cert.SsdFwdKernelIdeal.nD Cert.SsdFwdKernelIdeal.τ).loc Cert.SsdFwdKernelIdeal.main_v12_0) = v0 c
          ∧ r.2.mem ((c.tc : Thread Cert.SsdFwdKernelIdeal.nD Cert.SsdFwdKernelIdeal.τ).loc Cert.SsdFwdKernelIdeal.main_v12_1) = v1 c
          ∧ r.2.mem ((c.tc : Thread Cert.SsdFwdKernelIdeal.nD Cert.SsdFwdKernelIdeal.τ).loc Cert.SsdFwdKernelIdeal.main_arg0) = m ((c.tc : Thread Cert.SsdFwdKernelIdeal.nD Cert.SsdFwdKernelIdeal.τ).loc Cert.SsdFwdKernelIdeal.main_arg0)
          ∧ r.2.mem ((c.tc : Thread Cert.SsdFwdKernelIdeal.nD Cert.SsdFwdKernelIdeal.τ).loc Cert.SsdFwdKernelIdeal.main_arg1) = m ((c.tc : Thread Cert.SsdFwdKernelIdeal.nD Cert.SsdFwdKernelIdeal.τ).loc Cert.SsdFwdKernelIdeal.main_arg1)
          ∧ r.2.mem ((c.tc : Thread Cert.SsdFwdKernelIdeal.nD Cert.SsdFwdKernelIdeal.τ).loc Cert.SsdFwdKernelIdeal.main_arg2) = m ((c.tc : Thread Cert.SsdFwdKernelIdeal.nD Cert.SsdFwdKernelIdeal.τ).loc Cert.SsdFwdKernelIdeal.main_arg2)
          ∧ r.2.mem ((c.tc : Thread Cert.SsdFwdKernelIdeal.nD Cert.SsdFwdKernelIdeal.τ).loc Cert.SsdFwdKernelIdeal.main_arg3) = m ((c.tc : Thread Cert.SsdFwdKernelIdeal.nD Cert.SsdFwdKernelIdeal.τ).loc Cert.SsdFwdKernelIdeal.main_arg3)
          ∧ r.2.mem ((c.tc : Thread Cert.SsdFwdKernelIdeal.nD Cert.SsdFwdKernelIdeal.τ).loc Cert.SsdFwdKernelIdeal.main_arg4) = m ((c.tc : Thread Cert.SsdFwdKernelIdeal.nD Cert.SsdFwdKernelIdeal.τ).loc Cert.SsdFwdKernelIdeal.main_arg4))
      ∧ θ_run (Cert.SsdFwdReferenceIdeal.defs (F := Ideal)) (onTc (τ := Cert.SsdFwdReferenceIdeal.τ) (Cert.SsdFwdReferenceIdeal.main (F := Ideal))) ⟨m', fun _ => 0, g'⟩ (fun r => ∀ c : Dev Cert.SsdFwdReferenceIdeal.nD,
          r.2.mem ((c.tc : Thread Cert.SsdFwdReferenceIdeal.nD Cert.SsdFwdReferenceIdeal.τ).loc Cert.SsdFwdReferenceIdeal.main_v49) = v0 c
          ∧ r.2.mem ((c.tc : Thread Cert.SsdFwdReferenceIdeal.nD Cert.SsdFwdReferenceIdeal.τ).loc Cert.SsdFwdReferenceIdeal.main_v75) = v1 c
          ∧ r.2.mem ((c.tc : Thread Cert.SsdFwdReferenceIdeal.nD Cert.SsdFwdReferenceIdeal.τ).loc Cert.SsdFwdReferenceIdeal.main_arg0) = m' ((c.tc : Thread Cert.SsdFwdReferenceIdeal.nD Cert.SsdFwdReferenceIdeal.τ).loc Cert.SsdFwdReferenceIdeal.main_arg0)
          ∧ r.2.mem ((c.tc : Thread Cert.SsdFwdReferenceIdeal.nD Cert.SsdFwdReferenceIdeal.τ).loc Cert.SsdFwdReferenceIdeal.main_arg1) = m' ((c.tc : Thread Cert.SsdFwdReferenceIdeal.nD Cert.SsdFwdReferenceIdeal.τ).loc Cert.SsdFwdReferenceIdeal.main_arg1)
          ∧ r.2.mem ((c.tc : Thread Cert.SsdFwdReferenceIdeal.nD Cert.SsdFwdReferenceIdeal.τ).loc Cert.SsdFwdReferenceIdeal.main_arg2) = m' ((c.tc : Thread Cert.SsdFwdReferenceIdeal.nD Cert.SsdFwdReferenceIdeal.τ).loc Cert.SsdFwdReferenceIdeal.main_arg2)
          ∧ r.2.mem ((c.tc : Thread Cert.SsdFwdReferenceIdeal.nD Cert.SsdFwdReferenceIdeal.τ).loc Cert.SsdFwdReferenceIdeal.main_arg3) = m' ((c.tc : Thread Cert.SsdFwdReferenceIdeal.nD Cert.SsdFwdReferenceIdeal.τ).loc Cert.SsdFwdReferenceIdeal.main_arg3)
          ∧ r.2.mem ((c.tc : Thread Cert.SsdFwdReferenceIdeal.nD Cert.SsdFwdReferenceIdeal.τ).loc Cert.SsdFwdReferenceIdeal.main_arg4) = m' ((c.tc : Thread Cert.SsdFwdReferenceIdeal.nD Cert.SsdFwdReferenceIdeal.τ).loc Cert.SsdFwdReferenceIdeal.main_arg4))

def preserves_SsdKernel_SsdKernelIdeal : Prop :=
  True

def algebraic_SsdKernelIdeal_SsdReferenceIdeal_pre_ssdb_finite [hSsdKernelIdeal : Cert.SsdKernelIdeal.Facts] [hSsdReferenceIdeal : Cert.SsdReferenceIdeal.Facts] [hPre_ssdb_finite : Cert.Pre_ssdb_finite.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdKernelIdeal_ssdb_finite m →
    (∀ c : Dev Cert.SsdKernelIdeal.nD,
      m' ((c.tc : Thread Cert.SsdReferenceIdeal.nD Cert.SsdReferenceIdeal.τ).loc Cert.SsdReferenceIdeal.main_arg0) = m ((c.tc : Thread Cert.SsdKernelIdeal.nD Cert.SsdKernelIdeal.τ).loc Cert.SsdKernelIdeal.main_arg0)
      ∧ m' ((c.tc : Thread Cert.SsdReferenceIdeal.nD Cert.SsdReferenceIdeal.τ).loc Cert.SsdReferenceIdeal.main_arg1) = m ((c.tc : Thread Cert.SsdKernelIdeal.nD Cert.SsdKernelIdeal.τ).loc Cert.SsdKernelIdeal.main_arg1)
      ∧ m' ((c.tc : Thread Cert.SsdReferenceIdeal.nD Cert.SsdReferenceIdeal.τ).loc Cert.SsdReferenceIdeal.main_arg2) = m ((c.tc : Thread Cert.SsdKernelIdeal.nD Cert.SsdKernelIdeal.τ).loc Cert.SsdKernelIdeal.main_arg2)
      ∧ m' ((c.tc : Thread Cert.SsdReferenceIdeal.nD Cert.SsdReferenceIdeal.τ).loc Cert.SsdReferenceIdeal.main_arg3) = m ((c.tc : Thread Cert.SsdKernelIdeal.nD Cert.SsdKernelIdeal.τ).loc Cert.SsdKernelIdeal.main_arg3)
      ∧ m' ((c.tc : Thread Cert.SsdReferenceIdeal.nD Cert.SsdReferenceIdeal.τ).loc Cert.SsdReferenceIdeal.main_arg4) = m ((c.tc : Thread Cert.SsdKernelIdeal.nD Cert.SsdKernelIdeal.τ).loc Cert.SsdKernelIdeal.main_arg4)
      ∧ m' ((c.tc : Thread Cert.SsdReferenceIdeal.nD Cert.SsdReferenceIdeal.τ).loc Cert.SsdReferenceIdeal.main_arg5) = m ((c.tc : Thread Cert.SsdKernelIdeal.nD Cert.SsdKernelIdeal.τ).loc Cert.SsdKernelIdeal.main_arg5)) →
    ∃ (v0 : (c : Dev Cert.SsdKernelIdeal.nD) → Buf (Elt Ideal) ((c.tc : Thread Cert.SsdKernelIdeal.nD Cert.SsdKernelIdeal.τ).loc Cert.SsdKernelIdeal.main_v57_0)) (v1 : (c : Dev Cert.SsdKernelIdeal.nD) → Buf (Elt Ideal) ((c.tc : Thread Cert.SsdKernelIdeal.nD Cert.SsdKernelIdeal.τ).loc Cert.SsdKernelIdeal.main_v57_1)) (v2 : (c : Dev Cert.SsdKernelIdeal.nD) → Buf (Elt Ideal) ((c.tc : Thread Cert.SsdKernelIdeal.nD Cert.SsdKernelIdeal.τ).loc Cert.SsdKernelIdeal.main_v57_2)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v57_0) = v0 c
          ∧ r.2.mem ((c.tc : Thread Cert.SsdKernelIdeal.nD Cert.SsdKernelIdeal.τ).loc Cert.SsdKernelIdeal.main_v57_1) = v1 c
          ∧ r.2.mem ((c.tc : Thread Cert.SsdKernelIdeal.nD Cert.SsdKernelIdeal.τ).loc Cert.SsdKernelIdeal.main_v57_2) = v2 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v72) = v0 c
          ∧ r.2.mem ((c.tc : Thread Cert.SsdReferenceIdeal.nD Cert.SsdReferenceIdeal.τ).loc Cert.SsdReferenceIdeal.main_v73) = v1 c
          ∧ r.2.mem ((c.tc : Thread Cert.SsdReferenceIdeal.nD Cert.SsdReferenceIdeal.τ).loc Cert.SsdReferenceIdeal.main_v74) = v2 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5))

def Claim : Prop :=
  ∃ (hConvKernel : Cert.ConvKernel.Facts) (hConvKernelIdeal : Cert.ConvKernelIdeal.Facts) (hConvReferenceIdeal : Cert.ConvReferenceIdeal.Facts) (hLossKernel : Cert.LossKernel.Facts) (hLossKernelIdeal : Cert.LossKernelIdeal.Facts) (hLossReferenceIdeal : Cert.LossReferenceIdeal.Facts) (hMergeKernel : Cert.MergeKernel.Facts) (hMergeKernelIdeal : Cert.MergeKernelIdeal.Facts) (hMergeReferenceIdeal : Cert.MergeReferenceIdeal.Facts) (hGluKernel : Cert.GluKernel.Facts) (hGluKernelIdeal : Cert.GluKernelIdeal.Facts) (hGluReferenceIdeal : Cert.GluReferenceIdeal.Facts) (hActKernel : Cert.ActKernel.Facts) (hActKernelIdeal : Cert.ActKernelIdeal.Facts) (hActReferenceIdeal : Cert.ActReferenceIdeal.Facts) (hGateKernel : Cert.GateKernel.Facts) (hGateKernelIdeal : Cert.GateKernelIdeal.Facts) (hGateReferenceIdeal : Cert.GateReferenceIdeal.Facts) (hResKernel : Cert.ResKernel.Facts) (hResKernelIdeal : Cert.ResKernelIdeal.Facts) (hResReferenceIdeal : Cert.ResReferenceIdeal.Facts) (hMixResKernel : Cert.MixResKernel.Facts) (hMixResKernelIdeal : Cert.MixResKernelIdeal.Facts) (hMixResReferenceIdeal : Cert.MixResReferenceIdeal.Facts) (hRmsKernel : Cert.RmsKernel.Facts) (hRmsKernelIdeal : Cert.RmsKernelIdeal.Facts) (hRmsReferenceIdeal : Cert.RmsReferenceIdeal.Facts) (hMixRmsKernel : Cert.MixRmsKernel.Facts) (hMixRmsKernelIdeal : Cert.MixRmsKernelIdeal.Facts) (hMixRmsReferenceIdeal : Cert.MixRmsReferenceIdeal.Facts) (hFfnKernel : Cert.FfnKernel.Facts) (hFfnKernelIdeal : Cert.FfnKernelIdeal.Facts) (hFfnReferenceIdeal : Cert.FfnReferenceIdeal.Facts) (hParKernel : Cert.ParKernel.Facts) (hParKernelIdeal : Cert.ParKernelIdeal.Facts) (hParReferenceIdeal : Cert.ParReferenceIdeal.Facts) (hScanKernel : Cert.ScanKernel.Facts) (hScanKernelIdeal : Cert.ScanKernelIdeal.Facts) (hConvFwdKernel : Cert.ConvFwdKernel.Facts) (hConvFwdKernelIdeal : Cert.ConvFwdKernelIdeal.Facts) (hConvFwdReferenceIdeal : Cert.ConvFwdReferenceIdeal.Facts) (hGateFwdKernel : Cert.GateFwdKernel.Facts) (hGateFwdKernelIdeal : Cert.GateFwdKernelIdeal.Facts) (hGateFwdReferenceIdeal : Cert.GateFwdReferenceIdeal.Facts) (hRmsFwdKernel : Cert.RmsFwdKernel.Facts) (hRmsFwdKernelIdeal : Cert.RmsFwdKernelIdeal.Facts) (hRmsFwdReferenceIdeal : Cert.RmsFwdReferenceIdeal.Facts) (hResFwdKernel : Cert.ResFwdKernel.Facts) (hResFwdKernelIdeal : Cert.ResFwdKernelIdeal.Facts) (hResFwdReferenceIdeal : Cert.ResFwdReferenceIdeal.Facts) (hMixResFwdKernel : Cert.MixResFwdKernel.Facts) (hMixResFwdKernelIdeal : Cert.MixResFwdKernelIdeal.Facts) (hMixResFwdReferenceIdeal : Cert.MixResFwdReferenceIdeal.Facts) (hMergeFwdKernel : Cert.MergeFwdKernel.Facts) (hMergeFwdKernelIdeal : Cert.MergeFwdKernelIdeal.Facts) (hMergeFwdReferenceIdeal : Cert.MergeFwdReferenceIdeal.Facts) (hGluFwdKernel : Cert.GluFwdKernel.Facts) (hGluFwdKernelIdeal : Cert.GluFwdKernelIdeal.Facts) (hGluFwdReferenceIdeal : Cert.GluFwdReferenceIdeal.Facts) (hParFwdKernel : Cert.ParFwdKernel.Facts) (hParFwdKernelIdeal : Cert.ParFwdKernelIdeal.Facts) (hParFwdReferenceIdeal : Cert.ParFwdReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hDownKernel : Cert.DownKernel.Facts) (hDownKernelIdeal : Cert.DownKernelIdeal.Facts) (hDownReferenceIdeal : Cert.DownReferenceIdeal.Facts) (hDownDwKernel : Cert.DownDwKernel.Facts) (hDownDwKernelIdeal : Cert.DownDwKernelIdeal.Facts) (hDownDwReferenceIdeal : Cert.DownDwReferenceIdeal.Facts) (hUpDxKernel : Cert.UpDxKernel.Facts) (hUpDxKernelIdeal : Cert.UpDxKernelIdeal.Facts) (hUpDxReferenceIdeal : Cert.UpDxReferenceIdeal.Facts) (hUpDwKernel : Cert.UpDwKernel.Facts) (hUpDwKernelIdeal : Cert.UpDwKernelIdeal.Facts) (hUpDwReferenceIdeal : Cert.UpDwReferenceIdeal.Facts) (hSlotsKernel : Cert.SlotsKernel.Facts) (hSlotsKernelIdeal : Cert.SlotsKernelIdeal.Facts) (hSlotsReferenceIdeal : Cert.SlotsReferenceIdeal.Facts) (hAdamKernel : Cert.AdamKernel.Facts) (hAdamKernelIdeal : Cert.AdamKernelIdeal.Facts) (hAdamReferenceIdeal : Cert.AdamReferenceIdeal.Facts) (hSsdFwdKernel : Cert.SsdFwdKernel.Facts) (hSsdFwdKernelIdeal : Cert.SsdFwdKernelIdeal.Facts) (hSsdFwdReferenceIdeal : Cert.SsdFwdReferenceIdeal.Facts) (hSsdKernel : Cert.SsdKernel.Facts) (hSsdKernelIdeal : Cert.SsdKernelIdeal.Facts) (hSsdReferenceIdeal : Cert.SsdReferenceIdeal.Facts) (hPre_conv_ct_finite : Cert.Pre_conv_ct_finite.Facts) (hPre_ssdf_finite : Cert.Pre_ssdf_finite.Facts) (hPre_ssdb_finite : Cert.Pre_ssdb_finite.Facts),
    quiescent_ConvKernel (hConvKernel := hConvKernel)
    ∧ quiescent_ConvKernelIdeal (hConvKernelIdeal := hConvKernelIdeal)
    ∧ quiescent_ConvKernelIdeal_pre_conv_ct_finite (hConvKernelIdeal := hConvKernelIdeal) (hPre_conv_ct_finite := hPre_conv_ct_finite)
    ∧ quiescent_ConvReferenceIdeal (hConvReferenceIdeal := hConvReferenceIdeal)
    ∧ quiescent_ConvReferenceIdeal_pre_conv_ct_finite (hConvReferenceIdeal := hConvReferenceIdeal) (hPre_conv_ct_finite := hPre_conv_ct_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_MixResKernel (hMixResKernel := hMixResKernel)
    ∧ quiescent_MixResKernelIdeal (hMixResKernelIdeal := hMixResKernelIdeal)
    ∧ quiescent_MixResReferenceIdeal (hMixResReferenceIdeal := hMixResReferenceIdeal)
    ∧ quiescent_RmsKernel (hRmsKernel := hRmsKernel)
    ∧ quiescent_RmsKernelIdeal (hRmsKernelIdeal := hRmsKernelIdeal)
    ∧ quiescent_RmsReferenceIdeal (hRmsReferenceIdeal := hRmsReferenceIdeal)
    ∧ quiescent_MixRmsKernel (hMixRmsKernel := hMixRmsKernel)
    ∧ quiescent_MixRmsKernelIdeal (hMixRmsKernelIdeal := hMixRmsKernelIdeal)
    ∧ quiescent_MixRmsReferenceIdeal (hMixRmsReferenceIdeal := hMixRmsReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ParKernel (hParKernel := hParKernel)
    ∧ quiescent_ParKernelIdeal (hParKernelIdeal := hParKernelIdeal)
    ∧ quiescent_ParReferenceIdeal (hParReferenceIdeal := hParReferenceIdeal)
    ∧ quiescent_ScanKernel (hScanKernel := hScanKernel)
    ∧ quiescent_ScanKernelIdeal (hScanKernelIdeal := hScanKernelIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ quiescent_GateFwdKernel (hGateFwdKernel := hGateFwdKernel)
    ∧ quiescent_GateFwdKernelIdeal (hGateFwdKernelIdeal := hGateFwdKernelIdeal)
    ∧ quiescent_GateFwdReferenceIdeal (hGateFwdReferenceIdeal := hGateFwdReferenceIdeal)
    ∧ quiescent_RmsFwdKernel (hRmsFwdKernel := hRmsFwdKernel)
    ∧ quiescent_RmsFwdKernelIdeal (hRmsFwdKernelIdeal := hRmsFwdKernelIdeal)
    ∧ quiescent_RmsFwdReferenceIdeal (hRmsFwdReferenceIdeal := hRmsFwdReferenceIdeal)
    ∧ quiescent_ResFwdKernel (hResFwdKernel := hResFwdKernel)
    ∧ quiescent_ResFwdKernelIdeal (hResFwdKernelIdeal := hResFwdKernelIdeal)
    ∧ quiescent_ResFwdReferenceIdeal (hResFwdReferenceIdeal := hResFwdReferenceIdeal)
    ∧ quiescent_MixResFwdKernel (hMixResFwdKernel := hMixResFwdKernel)
    ∧ quiescent_MixResFwdKernelIdeal (hMixResFwdKernelIdeal := hMixResFwdKernelIdeal)
    ∧ quiescent_MixResFwdReferenceIdeal (hMixResFwdReferenceIdeal := hMixResFwdReferenceIdeal)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_GluFwdKernel (hGluFwdKernel := hGluFwdKernel)
    ∧ quiescent_GluFwdKernelIdeal (hGluFwdKernelIdeal := hGluFwdKernelIdeal)
    ∧ quiescent_GluFwdReferenceIdeal (hGluFwdReferenceIdeal := hGluFwdReferenceIdeal)
    ∧ quiescent_ParFwdKernel (hParFwdKernel := hParFwdKernel)
    ∧ quiescent_ParFwdKernelIdeal (hParFwdKernelIdeal := hParFwdKernelIdeal)
    ∧ quiescent_ParFwdReferenceIdeal (hParFwdReferenceIdeal := hParFwdReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_SlotsKernel (hSlotsKernel := hSlotsKernel)
    ∧ quiescent_SlotsKernelIdeal (hSlotsKernelIdeal := hSlotsKernelIdeal)
    ∧ quiescent_SlotsReferenceIdeal (hSlotsReferenceIdeal := hSlotsReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_SsdFwdKernel (hSsdFwdKernel := hSsdFwdKernel)
    ∧ quiescent_SsdFwdKernelIdeal (hSsdFwdKernelIdeal := hSsdFwdKernelIdeal)
    ∧ quiescent_SsdFwdKernelIdeal_pre_ssdf_finite (hSsdFwdKernelIdeal := hSsdFwdKernelIdeal) (hPre_ssdf_finite := hPre_ssdf_finite)
    ∧ quiescent_SsdFwdReferenceIdeal (hSsdFwdReferenceIdeal := hSsdFwdReferenceIdeal)
    ∧ quiescent_SsdFwdReferenceIdeal_pre_ssdf_finite (hSsdFwdReferenceIdeal := hSsdFwdReferenceIdeal) (hPre_ssdf_finite := hPre_ssdf_finite)
    ∧ quiescent_SsdKernel (hSsdKernel := hSsdKernel)
    ∧ quiescent_SsdKernelIdeal (hSsdKernelIdeal := hSsdKernelIdeal)
    ∧ quiescent_SsdKernelIdeal_pre_ssdb_finite (hSsdKernelIdeal := hSsdKernelIdeal) (hPre_ssdb_finite := hPre_ssdb_finite)
    ∧ quiescent_SsdReferenceIdeal (hSsdReferenceIdeal := hSsdReferenceIdeal)
    ∧ quiescent_SsdReferenceIdeal_pre_ssdb_finite (hSsdReferenceIdeal := hSsdReferenceIdeal) (hPre_ssdb_finite := hPre_ssdb_finite)
    ∧ preserves_ConvKernel_ConvKernelIdeal
    ∧ algebraic_ConvKernelIdeal_ConvReferenceIdeal_pre_conv_ct_finite (hConvKernelIdeal := hConvKernelIdeal) (hConvReferenceIdeal := hConvReferenceIdeal) (hPre_conv_ct_finite := hPre_conv_ct_finite)
    ∧ preserves_LossKernel_LossKernelIdeal
    ∧ algebraic_LossKernelIdeal_LossReferenceIdeal (hLossKernelIdeal := hLossKernelIdeal) (hLossReferenceIdeal := hLossReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_GluKernel_GluKernelIdeal
    ∧ algebraic_GluKernelIdeal_GluReferenceIdeal (hGluKernelIdeal := hGluKernelIdeal) (hGluReferenceIdeal := hGluReferenceIdeal)
    ∧ preserves_ActKernel_ActKernelIdeal
    ∧ algebraic_ActKernelIdeal_ActReferenceIdeal (hActKernelIdeal := hActKernelIdeal) (hActReferenceIdeal := hActReferenceIdeal)
    ∧ preserves_GateKernel_GateKernelIdeal
    ∧ algebraic_GateKernelIdeal_GateReferenceIdeal (hGateKernelIdeal := hGateKernelIdeal) (hGateReferenceIdeal := hGateReferenceIdeal)
    ∧ preserves_ResKernel_ResKernelIdeal
    ∧ algebraic_ResKernelIdeal_ResReferenceIdeal (hResKernelIdeal := hResKernelIdeal) (hResReferenceIdeal := hResReferenceIdeal)
    ∧ preserves_MixResKernel_MixResKernelIdeal
    ∧ algebraic_MixResKernelIdeal_MixResReferenceIdeal (hMixResKernelIdeal := hMixResKernelIdeal) (hMixResReferenceIdeal := hMixResReferenceIdeal)
    ∧ preserves_RmsKernel_RmsKernelIdeal
    ∧ algebraic_RmsKernelIdeal_RmsReferenceIdeal (hRmsKernelIdeal := hRmsKernelIdeal) (hRmsReferenceIdeal := hRmsReferenceIdeal)
    ∧ preserves_MixRmsKernel_MixRmsKernelIdeal
    ∧ algebraic_MixRmsKernelIdeal_MixRmsReferenceIdeal (hMixRmsKernelIdeal := hMixRmsKernelIdeal) (hMixRmsReferenceIdeal := hMixRmsReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_ParKernel_ParKernelIdeal
    ∧ algebraic_ParKernelIdeal_ParReferenceIdeal (hParKernelIdeal := hParKernelIdeal) (hParReferenceIdeal := hParReferenceIdeal)
    ∧ preserves_ScanKernel_ScanKernelIdeal
    ∧ preserves_ConvFwdKernel_ConvFwdKernelIdeal
    ∧ algebraic_ConvFwdKernelIdeal_ConvFwdReferenceIdeal (hConvFwdKernelIdeal := hConvFwdKernelIdeal) (hConvFwdReferenceIdeal := hConvFwdReferenceIdeal)
    ∧ preserves_GateFwdKernel_GateFwdKernelIdeal
    ∧ algebraic_GateFwdKernelIdeal_GateFwdReferenceIdeal (hGateFwdKernelIdeal := hGateFwdKernelIdeal) (hGateFwdReferenceIdeal := hGateFwdReferenceIdeal)
    ∧ preserves_RmsFwdKernel_RmsFwdKernelIdeal
    ∧ algebraic_RmsFwdKernelIdeal_RmsFwdReferenceIdeal (hRmsFwdKernelIdeal := hRmsFwdKernelIdeal) (hRmsFwdReferenceIdeal := hRmsFwdReferenceIdeal)
    ∧ preserves_ResFwdKernel_ResFwdKernelIdeal
    ∧ algebraic_ResFwdKernelIdeal_ResFwdReferenceIdeal (hResFwdKernelIdeal := hResFwdKernelIdeal) (hResFwdReferenceIdeal := hResFwdReferenceIdeal)
    ∧ preserves_MixResFwdKernel_MixResFwdKernelIdeal
    ∧ algebraic_MixResFwdKernelIdeal_MixResFwdReferenceIdeal (hMixResFwdKernelIdeal := hMixResFwdKernelIdeal) (hMixResFwdReferenceIdeal := hMixResFwdReferenceIdeal)
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_GluFwdKernel_GluFwdKernelIdeal
    ∧ algebraic_GluFwdKernelIdeal_GluFwdReferenceIdeal (hGluFwdKernelIdeal := hGluFwdKernelIdeal) (hGluFwdReferenceIdeal := hGluFwdReferenceIdeal)
    ∧ preserves_ParFwdKernel_ParFwdKernelIdeal
    ∧ algebraic_ParFwdKernelIdeal_ParFwdReferenceIdeal (hParFwdKernelIdeal := hParFwdKernelIdeal) (hParFwdReferenceIdeal := hParFwdReferenceIdeal)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_DownKernel_DownKernelIdeal
    ∧ algebraic_DownKernelIdeal_DownReferenceIdeal (hDownKernelIdeal := hDownKernelIdeal) (hDownReferenceIdeal := hDownReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_SlotsKernel_SlotsKernelIdeal
    ∧ algebraic_SlotsKernelIdeal_SlotsReferenceIdeal (hSlotsKernelIdeal := hSlotsKernelIdeal) (hSlotsReferenceIdeal := hSlotsReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_SsdFwdKernel_SsdFwdKernelIdeal
    ∧ algebraic_SsdFwdKernelIdeal_SsdFwdReferenceIdeal_pre_ssdf_finite (hSsdFwdKernelIdeal := hSsdFwdKernelIdeal) (hSsdFwdReferenceIdeal := hSsdFwdReferenceIdeal) (hPre_ssdf_finite := hPre_ssdf_finite)
    ∧ preserves_SsdKernel_SsdKernelIdeal
    ∧ algebraic_SsdKernelIdeal_SsdReferenceIdeal_pre_ssdb_finite (hSsdKernelIdeal := hSsdKernelIdeal) (hSsdReferenceIdeal := hSsdReferenceIdeal) (hPre_ssdb_finite := hPre_ssdb_finite)
-- ==== Pre_conv_ct_finite.lean ====
abbrev S2048x8224 : Shape := ⟨2, ![2048, 8224]⟩
abbrev S4x3072 : Shape := ⟨2, ![4, 3072]⟩
abbrev S3072 : Shape := ⟨1, ![3072]⟩
abbrev S2048x3072 : Shape := ⟨2, ![2048, 3072]⟩
abbrev S_ : Shape := ⟨0, ![]⟩

class Facts : Prop where
  bcast_S_S2048x3072 : S_.BroadcastsInDim S2048x3072 (![] : Fin 0 → Fin S2048x3072.rank)

variable [Facts]

def fn {F : FTy → Type} [FloatOps F] (main_arg0 : FVec F S2048x8224 .f32) (main_arg1 : FVec F S4x3072 .f32) (main_arg2 : FVec F S3072 .f32) (main_arg3 : FVec F S2048x3072 .f32) : IVec S2048x3072 1 :=
  let main_v0 : FVec F S2048x3072 .f32 := Host.absf main_arg3
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  main_v2
-- ==== Pre_ssdb_finite.lean ====
abbrev S2048x3072 : Shape := ⟨2, ![2048, 3072]⟩
abbrev S2048x32 : Shape := ⟨2, ![2048, 32]⟩
abbrev S32 : Shape := ⟨1, ![32]⟩
abbrev S2048x2048 : Shape := ⟨2, ![2048, 2048]⟩
abbrev S_ : Shape := ⟨0, ![]⟩
abbrev S2048x3x1x32x32 : Shape := ⟨5, ![2048, 3, 1, 32, 32]⟩
abbrev S2048x1x2x32x32 : Shape := ⟨5, ![2048, 1, 2, 32, 32]⟩
abbrev S2048x3x2x32x32 : Shape := ⟨5, ![2048, 3, 2, 32, 32]⟩
abbrev S2048x1x1x1x32 : Shape := ⟨5, ![2048, 1, 1, 1, 32]⟩
abbrev S1x1x1x1x32 : Shape := ⟨5, ![1, 1, 1, 1, 32]⟩

class Facts : Prop where
  bcast_S_S2048x3072 : S_.BroadcastsInDim S2048x3072 (![] : Fin 0 → Fin S2048x3072.rank)
  bcast_S_S2048x32 : S_.BroadcastsInDim S2048x32 (![] : Fin 0 → Fin S2048x32.rank)
  bcast_S_S2048x2048 : S_.BroadcastsInDim S2048x2048 (![] : Fin 0 → Fin S2048x2048.rank)
  bcast_S_S32 : S_.BroadcastsInDim S32 (![] : Fin 0 → Fin S32.rank)
  shapeCasts_S2048x3072_S2048x3x1x32x32 : S2048x3072.ShapeCasts S2048x3x1x32x32
  shapeCasts_S2048x2048_S2048x1x2x32x32 : S2048x2048.ShapeCasts S2048x1x2x32x32
  bcast_S2048x3x1x32x32_S2048x3x2x32x32_0_1_2_3_4 : S2048x3x1x32x32.BroadcastsInDim S2048x3x2x32x32 (![0, 1, 2, 3, 4] : Fin 5 → Fin S2048x3x2x32x32.rank)
  bcast_S2048x1x2x32x32_S2048x3x2x32x32_0_1_2_3_4 : S2048x1x2x32x32.BroadcastsInDim S2048x3x2x32x32 (![0, 1, 2, 3, 4] : Fin 5 → Fin S2048x3x2x32x32.rank)
  bcast_S2048x32_S2048x1x1x1x32_0_4 : S2048x32.BroadcastsInDim S2048x1x1x1x32 (![0, 4] : Fin 2 → Fin S2048x1x1x1x32.rank)
  bcast_S2048x1x1x1x32_S2048x3x2x32x32_0_1_2_3_4 : S2048x1x1x1x32.BroadcastsInDim S2048x3x2x32x32 (![0, 1, 2, 3, 4] : Fin 5 → Fin S2048x3x2x32x32.rank)
  bcast_S32_S1x1x1x1x32_4 : S32.BroadcastsInDim S1x1x1x1x32 (![4] : Fin 1 → Fin S1x1x1x1x32.rank)
  bcast_S1x1x1x1x32_S2048x3x2x32x32_0_1_2_3_4 : S1x1x1x1x32.BroadcastsInDim S2048x3x2x32x32 (![0, 1, 2, 3, 4] : Fin 5 → Fin S2048x3x2x32x32.rank)

variable [Facts]

def fn_part1 {F : FTy → Type} [FloatOps F] (main_v2 : IVec S2048x3072 1) (main_v5 : IVec S2048x32 1) (main_v8 : IVec S2048x2048 1) (main_v15 : IVec S32 1) (main_v16 : FVec F S32 .f32) (main_v17 : FVec F S32 .f32) : IVec S2048x3x2x32x32 1 :=
  let main_v18 : IVec S32 1 := cmpf .olt main_v16 main_v17
  let main_v19 : IVec S32 1 := andi main_v15 main_v18
  let main_v20 : IVec S2048x3x1x32x32 1 := shapeCast S2048x3x1x32x32 main_v2 shapeCasts_S2048x3072_S2048x3x1x32x32
  let main_v21 : IVec S2048x1x2x32x32 1 := shapeCast S2048x1x2x32x32 main_v8 shapeCasts_S2048x2048_S2048x1x2x32x32
  let main_v22 : IVec S2048x3x2x32x32 1 := broadcastInDim S2048x3x2x32x32 ![0, 1, 2, 3, 4] bcast_S2048x3x1x32x32_S2048x3x2x32x32_0_1_2_3_4 main_v20
  let main_v23 : IVec S2048x3x2x32x32 1 := broadcastInDim S2048x3x2x32x32 ![0, 1, 2, 3, 4] bcast_S2048x1x2x32x32_S2048x3x2x32x32_0_1_2_3_4 main_v21
  let main_v24 : IVec S2048x3x2x32x32 1 := andi main_v22 main_v23
  let main_v25 : IVec S2048x1x1x1x32 1 := broadcastInDim S2048x1x1x1x32 ![0, 4] bcast_S2048x32_S2048x1x1x1x32_0_4 main_v5
  let main_v26 : IVec S2048x3x2x32x32 1 := broadcastInDim S2048x3x2x32x32 ![0, 1, 2, 3, 4] bcast_S2048x1x1x1x32_S2048x3x2x32x32_0_1_2_3_4 main_v25
  let main_v27 : IVec S2048x3x2x32x32 1 := andi main_v24 main_v26
  let main_v28 : IVec S1x1x1x1x32 1 := broadcastInDim S1x1x1x1x32 ![4] bcast_S32_S1x1x1x1x32_4 main_v19
  let main_v29 : IVec S2048x3x2x32x32 1 := broadcastInDim S2048x3x2x32x32 ![0, 1, 2, 3, 4] bcast_S1x1x1x1x32_S2048x3x2x32x32_0_1_2_3_4 main_v28
  let main_v30 : IVec S2048x3x2x32x32 1 := andi main_v27 main_v29
  main_v30

def fn {F : FTy → Type} [FloatOps F] (main_arg0 : FVec F S2048x3072 .f32) (main_arg1 : FVec F S2048x32 .f32) (main_arg2 : FVec F S32 .f32) (main_arg3 : FVec F S32 .f32) (main_arg4 : FVec F S32 .f32) (main_arg5 : FVec F S2048x2048 .f32) : IVec S2048x3x2x32x32 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S2048x32 .f32 := Host.absf main_arg1
  let main_cst_0 : FVec F S_ .f32 := constant S_ .f32 0x7F800000#32
  let main_v4 : FVec F S2048x32 .f32 := broadcastInDim S2048x32 ![] bcast_S_S2048x32 main_cst_0
  let main_v5 : IVec S2048x32 1 := cmpf .olt main_v3 main_v4
  let main_v6 : FVec F S2048x2048 .f32 := Host.absf main_arg5
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32 .f32 := Host.absf main_arg3
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : IVec S32 1 := andi main_v11 main_v14
  let main_v16 : FVec F S32 .f32 := Host.absf main_arg4
  let main_cst_4 : FVec F S_ .f32 := constant S_ .f32 0x7F800000#32
  let main_v17 : FVec F S32 .f32 := broadcastInDim S32 ![] bcast_S_S32 main_cst_4
  fn_part1 (F := F) main_v2 main_v5 main_v8 main_v15 main_v16 main_v17
-- ==== Pre_ssdf_finite.lean ====
abbrev S2048x3072 : Shape := ⟨2, ![2048, 3072]⟩
abbrev S2048x32 : Shape := ⟨2, ![2048, 32]⟩
abbrev S32 : Shape := ⟨1, ![32]⟩
abbrev S_ : Shape := ⟨0, ![]⟩
abbrev S2048x96x32 : Shape := ⟨3, ![2048, 96, 32]⟩
abbrev S2048x1x32 : Shape := ⟨3, ![2048, 1, 32]⟩
abbrev S1x1x32 : Shape := ⟨3, ![1, 1, 32]⟩

class Facts : Prop where
  bcast_S_S2048x3072 : S_.BroadcastsInDim S2048x3072 (![] : Fin 0 → Fin S2048x3072.rank)
  bcast_S_S2048x32 : S_.BroadcastsInDim S2048x32 (![] : Fin 0 → Fin S2048x32.rank)
  bcast_S_S32 : S_.BroadcastsInDim S32 (![] : Fin 0 → Fin S32.rank)
  shapeCasts_S2048x3072_S2048x96x32 : S2048x3072.ShapeCasts S2048x96x32
  bcast_S2048x32_S2048x1x32_0_2 : S2048x32.BroadcastsInDim S2048x1x32 (![0, 2] : Fin 2 → Fin S2048x1x32.rank)
  bcast_S2048x1x32_S2048x96x32_0_1_2 : S2048x1x32.BroadcastsInDim S2048x96x32 (![0, 1, 2] : Fin 3 → Fin S2048x96x32.rank)
  bcast_S32_S1x1x32_2 : S32.BroadcastsInDim S1x1x32 (![2] : Fin 1 → Fin S1x1x32.rank)
  bcast_S1x1x32_S2048x96x32_0_1_2 : S1x1x32.BroadcastsInDim S2048x96x32 (![0, 1, 2] : Fin 3 → Fin S2048x96x32.rank)

variable [Facts]

def fn_part1 {F : FTy → Type} [FloatOps F] (main_v16 : IVec S32 1) (main_v17 : IVec S2048x96x32 1) (main_v18 : IVec S2048x1x32 1) : IVec S2048x96x32 1 :=
  let main_v19 : IVec S2048x96x32 1 := broadcastInDim S2048x96x32 ![0, 1, 2] bcast_S2048x1x32_S2048x96x32_0_1_2 main_v18
  let main_v20 : IVec S2048x96x32 1 := andi main_v17 main_v19
  let main_v21 : IVec S1x1x32 1 := broadcastInDim S1x1x32 ![2] bcast_S32_S1x1x32_2 main_v16
  let main_v22 : IVec S2048x96x32 1 := broadcastInDim S2048x96x32 ![0, 1, 2] bcast_S1x1x32_S2048x96x32_0_1_2 main_v21
  let main_v23 : IVec S2048x96x32 1 := andi main_v20 main_v22
  main_v23

def fn {F : FTy → Type} [FloatOps F] (main_arg0 : FVec F S2048x3072 .f32) (main_arg1 : FVec F S2048x32 .f32) (main_arg2 : FVec F S32 .f32) (main_arg3 : FVec F S32 .f32) (main_arg4 : FVec F S32 .f32) : IVec S2048x96x32 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S2048x32 .f32 := Host.absf main_arg1
  let main_cst_0 : FVec F S_ .f32 := constant S_ .f32 0x7F800000#32
  let main_v4 : FVec F S2048x32 .f32 := broadcastInDim S2048x32 ![] bcast_S_S2048x32 main_cst_0
  let main_v5 : IVec S2048x32 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : IVec S32 1 := andi main_v8 main_v11
  let main_v13 : FVec F S32 .f32 := Host.absf main_arg4
  let main_cst_3 : FVec F S_ .f32 := constant S_ .f32 0x7F800000#32
  let main_v14 : FVec F S32 .f32 := broadcastInDim S32 ![] bcast_S_S32 main_cst_3
  let main_v15 : IVec S32 1 := cmpf .olt main_v13 main_v14
  let main_v16 : IVec S32 1 := andi main_v12 main_v15
  let main_v17 : IVec S2048x96x32 1 := shapeCast S2048x96x32 main_v2 shapeCasts_S2048x3072_S2048x96x32
  let main_v18 : IVec S2048x1x32 1 := broadcastInDim S2048x1x32 ![0, 2] bcast_S2048x32_S2048x1x32_0_2 main_v5
  fn_part1 (F := F) main_v16 main_v17 main_v18
-- ==== ConvKernel.lean ====
abbrev S2048x8224 : Shape := ⟨2, ![2048, 8224]⟩
abbrev S4x3072 : Shape := ⟨2, ![4, 3072]⟩
abbrev S3072 : Shape := ⟨1, ![3072]⟩
abbrev S2048x3072 : Shape := ⟨2, ![2048, 3072]⟩
abbrev S2048x5120 : Shape := ⟨2, ![2048, 5120]⟩
abbrev S2048x2048 : Shape := ⟨2, ![2048, 2048]⟩
abbrev S2048x7168 : Shape := ⟨2, ![2048, 7168]⟩
abbrev S1x3072 : Shape := ⟨2, ![1, 3072]⟩
abbrev S2048x512 : Shape := ⟨2, ![2048, 512]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 14
  | .vmem => 18
  | .smem => 0
  | _ => 0

abbrev bufTy : (tb : Table) → Fin (tcTables nBuf tb) → BufTy
  | .hbm, ⟨0, _⟩ => ⟨S2048x8224, .f32⟩
  | .hbm, ⟨1, _⟩ => ⟨S4x3072, .f32⟩
  | .hbm, ⟨2, _⟩ => ⟨S3072, .f32⟩
  | .hbm, ⟨3, _⟩ => ⟨S2048x3072, .f32⟩
  | .hbm, ⟨4, _⟩ => ⟨S2048x5120, .f32⟩
  | .hbm, ⟨5, _⟩ => ⟨S2048x2048, .f32⟩
  | .hbm, ⟨6, _⟩ => ⟨S2048x7168, .f32⟩
  | .hbm, ⟨7, _⟩ => ⟨S1x3072, .f32⟩
  | .hbm, ⟨8, _⟩ => ⟨S2048x2048, .f32⟩
  | .hbm, ⟨9, _⟩ => ⟨S2048x512, .f32⟩
  | .hbm, ⟨10, _⟩ => ⟨S2048x512, .f32⟩
  | .hbm, ⟨11, _⟩ => ⟨S2048x3072, .bf16⟩
  | .hbm, ⟨12, _⟩ => ⟨S4x3072, .f32⟩
  | .hbm, ⟨13, _⟩ => ⟨S1x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S4x256, .f32⟩
  | .local _ .vmem, ⟨15, _⟩ => ⟨S4x256, .f32⟩
  | .local _ .vmem, ⟨16, _⟩ => ⟨S1x256, .f32⟩
  | .local _ .vmem, ⟨17, _⟩ => ⟨S1x256, .f32⟩
  | _, _ => ⟨S2048x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c7_i32 : BitVec 32 := 7#32
  let v0 : BitVec 32 := Scalar.maxsi c0_i32 arg0
  let v1 : BitVec 32 := Scalar.minsi c7_i32 v0
  let c0_i32_0 : BitVec 32 := 0#32
  let v2 : BitVec 32 := Scalar.subi v1 c0_i32_0
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c8_i32 : BitVec 32 := 8#32
  let c9_i32 : BitVec 32 := 9#32
  let v0 : BitVec 32 := Scalar.maxsi c8_i32 arg0
  let v1 : BitVec 32 := Scalar.minsi c9_i32 v0
  let c8_i32_0 : BitVec 32 := 8#32
  let v2 : BitVec 32 := Scalar.subi v1 c8_i32_0
  let c0_i32 : BitVec 32 := 0#32
  let c0_i32_1 : BitVec 32 := 0#32
  ![c0_i32.toNat, v2.toNat]

def cc0_transform_5 (i : grid0.Coords) : Fin 2 → Nat :=
  let arg0 : BitVec 32 := BitVec.ofNat 32 (i 0).val
  let c10_i32 : BitVec 32 := 10#32
  let c11_i32 : BitVec 32 := 11#32
  let v0 : BitVec 32 := Scalar.maxsi c10_i32 arg0
  let v1 : BitVec 32 := Scalar.minsi c11_i32 v0
  let c10_i32_0 : BitVec 32 := 10#32
  let v2 : BitVec 32 := Scalar.subi v1 c10_i32_0
  let c0_i32 : BitVec 32 := 0#32
  let c0_i32_1 : BitVec 32 := 0#32
  ![c0_i32.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvReferenceIdeal.lean ====
abbrev S2048x8224 : Shape := ⟨2, ![2048, 8224]⟩
abbrev S4x3072 : Shape := ⟨2, ![4, 3072]⟩
abbrev S3072 : Shape := ⟨1, ![3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩

abbrev nBuf : Space → Nat
  | .hbm => 127
  | .vmem => 0
  | .smem => 0
  | _ => 0

abbrev bufTy : (tb : Table) → Fin (tcTables nBuf tb) → BufTy
  | .hbm, ⟨0, _⟩ => ⟨S2048x8224, .f32⟩
  | .hbm, ⟨1, _⟩ => ⟨S4x3072, .f32⟩
  | .hbm, ⟨2, _⟩ => ⟨S3072, .f32⟩
  | .hbm, ⟨3, _⟩ => ⟨S2048x3072, .f32⟩
  | .hbm, ⟨4, _⟩ => ⟨S2048x3072, .f32⟩
  | .hbm, ⟨5, _⟩ => ⟨S_, .f32⟩
  | .hbm, ⟨6, _⟩ => ⟨S3x3072, .f32⟩
  | .hbm, ⟨7, _⟩ => ⟨S2051x3072, .f32⟩
  | .hbm, ⟨8, _⟩ => ⟨S_, .f32⟩
  | .hbm, ⟨9, _⟩ => ⟨S3x3072, .f32⟩
  | .hbm, ⟨10, _⟩ => ⟨S2048x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S1x3072, .f32⟩
  | .hbm, ⟨35, _⟩ => ⟨S3072, .f32⟩
  | .hbm, ⟨36, _⟩ => ⟨S1x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S1x3072, .f32⟩
  | .hbm, ⟨41, _⟩ => ⟨S2048x3072, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S_, .f32⟩
  | .hbm, ⟨46, _⟩ => ⟨S2048x3072, .f32⟩
  | .hbm, ⟨47, _⟩ => ⟨S2048x3072, .f32⟩
  | .hbm, ⟨48, _⟩ => ⟨S_, .f32⟩
  | .hbm, ⟨49, _⟩ => ⟨S2048x3072, .f32⟩
  | .hbm, ⟨50, _⟩ => ⟨S2048x3072, .f32⟩
  | .hbm, ⟨51, _⟩ => ⟨S_, .f32⟩
  | .hbm, ⟨52, _⟩ => ⟨S2048x3072, .f32⟩
  | .hbm, ⟨53, _⟩ => ⟨S2048x3072, .f32⟩
  | .hbm, ⟨54, _⟩ => ⟨S2048x3072, .f32⟩
  | .hbm, ⟨55, _⟩ => ⟨S2048x3072, .f32⟩
  | .hbm, ⟨56, _⟩ => ⟨S2048x3072, .f32⟩
  | .hbm, ⟨57, _⟩ => ⟨S2048x3072, .f32⟩
  | .hbm, ⟨58, _⟩ => ⟨S2048x3072, .f32⟩
  | .hbm, ⟨59, _⟩ => ⟨S2048x3072, .f32⟩
  | .hbm, ⟨60, _⟩ => ⟨S_, .f32⟩
  | .hbm, ⟨61, _⟩ => ⟨S3072, .f32⟩
  | .hbm, ⟨62, _⟩ => ⟨S1x3072, .f32⟩
  | .hbm, ⟨63, _⟩ => ⟨S_, .f32⟩
  | .hbm, ⟨64, _⟩ => ⟨S3072, .f32⟩
  | .hbm, ⟨65, _⟩ => ⟨S2048x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S2048x3072, .f32⟩
  | .hbm, ⟨70, _⟩ => ⟨S2048x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S4x3072, .f32⟩
  | .hbm, ⟨76, _⟩ => ⟨S_, .f32⟩
  | .hbm, ⟨77, _⟩ => ⟨S2051x3072, .f32⟩
  | .hbm, ⟨78, _⟩ => ⟨S2048x3072, .f32⟩
  | .hbm, ⟨79, _⟩ => ⟨S_, .f32⟩
  | .hbm, ⟨80, _⟩ => ⟨S3072, .f32⟩
  | .hbm, ⟨81, _⟩ => ⟨S1x3072, .f32⟩
  | .hbm, ⟨82, _⟩ => ⟨S2048x3072, .f32⟩
  | .hbm, ⟨83, _⟩ => ⟨S2048x3072, .f32⟩
  | .hbm, ⟨84, _⟩ => ⟨S_, .f32⟩
  | .hbm, ⟨85, _⟩ => ⟨S3072, .f32⟩
  | .hbm, ⟨86, _⟩ => ⟨S1x3072, .f32⟩
  | .hbm, ⟨87, _⟩ => ⟨S_, .f32⟩
  | .hbm, ⟨88, _⟩ => ⟨S4x3072, .f32⟩
  | .hbm, ⟨89, _⟩ => ⟨S4x3072, .f32⟩
  | .hbm, ⟨90, _⟩ => ⟨S_, .f32⟩
  | .hbm, ⟨91, _⟩ => ⟨S2051x3072, .f32⟩
  | .hbm, ⟨92, _⟩ => ⟨S2051x3072, .f32⟩
  | .hbm, ⟨93, _⟩ => ⟨S2048x3072, .f32⟩
  | .hbm, ⟨94, _⟩ => ⟨S_, .f32⟩
  | .hbm, ⟨95, _⟩ => ⟨S3072, .f32⟩
  | .hbm, ⟨96, _⟩ => ⟨S1x3072, .f32⟩
  | .hbm, ⟨97, _⟩ => ⟨S2048x3072, .f32⟩
  | .hbm, ⟨98, _⟩ => ⟨S2048x3072, .f32⟩
  | .hbm, ⟨99, _⟩ => ⟨S_, .f32⟩
  | .hbm, ⟨100, _⟩ => ⟨S3072, .f32⟩
  | .hbm, ⟨101, _⟩ => ⟨S1x3072, .f32⟩
  | .hbm, ⟨102, _⟩ => ⟨S_, .f32⟩
  | .hbm, ⟨103, _⟩ => ⟨S4x3072, .f32⟩
  | .hbm, ⟨104, _⟩ => ⟨S4x3072, .f32⟩
  | .hbm, ⟨105, _⟩ => ⟨S_, .f32⟩
  | .hbm, ⟨106, _⟩ => ⟨S2051x3072, .f32⟩
  | .hbm, ⟨107, _⟩ => ⟨S2051x3072, .f32⟩
  | .hbm, ⟨108, _⟩ => ⟨S2048x3072, .f32⟩
  | .hbm, ⟨109, _⟩ => ⟨S_, .f32⟩
  | .hbm, ⟨110, _⟩ => ⟨S3072, .f32⟩
  | .hbm, ⟨111, _⟩ => ⟨S1x3072, .f32⟩
  | .hbm, ⟨112, _⟩ => ⟨S2048x3072, .f32⟩
  | .hbm, ⟨113, _⟩ => ⟨S2048x3072, .f32⟩
  | .hbm, ⟨114, _⟩ => ⟨S_, .f32⟩
  | .hbm, ⟨115, _⟩ => ⟨S3072, .f32⟩
  | .hbm, ⟨116, _⟩ => ⟨S1x3072, .f32⟩
  | .hbm, ⟨117, _⟩ => ⟨S_, .f32⟩
  | .hbm, ⟨118, _⟩ => ⟨S4x3072, .f32⟩
  | .hbm, ⟨119, _⟩ => ⟨S4x3072, .f32⟩
  | .hbm, ⟨120, _⟩ => ⟨S_, .f32⟩
  | .hbm, ⟨121, _⟩ => ⟨S2051x3072, .f32⟩
  | .hbm, ⟨122, _⟩ => ⟨S2051x3072, .f32⟩
  | .hbm, ⟨123, _⟩ => ⟨S3x3072, .f32⟩
  | .hbm, ⟨124, _⟩ => ⟨S2048x3072, .f32⟩
  | .hbm, ⟨125, _⟩ => ⟨S2048x3072, .bf16⟩
  | .hbm, ⟨126, _⟩ => ⟨S1x3072, .f32⟩
  | _, _ => ⟨S2048x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]
-- ==== LossKernel.lean ====
abbrev S2048x1024 : Shape := ⟨2, ![2048, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== LossReferenceIdeal.lean ====
abbrev S2048x1024 : Shape := ⟨2, ![2048, 1024]⟩
abbrev S_ : Shape := ⟨0, ![]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MergeKernel.lean ====
abbrev S2048x8224 : Shape := ⟨2, ![2048, 8224]⟩
abbrev S2048x1024 : Shape := ⟨2, ![2048, 1024]⟩
abbrev S2048x5120 : Shape := ⟨2, ![2048, 5120]⟩
abbrev S2048x2048 : Shape := ⟨2, ![2048, 2048]⟩
abbrev S2048x7168 : Shape := ⟨2, ![2048, 7168]⟩
abbrev S512x1024 : Shape := ⟨2, ![512, 1024]⟩
abbrev S512x2048 : Shape := ⟨2, ![512, 2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x8224, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x5120, .f32⟩
  | .hbm, ⟨5, _⟩ => ⟨S2048x2048, .f32⟩
  | .hbm, ⟨6, _⟩ => ⟨S2048x7168, .f32⟩
  | .hbm, ⟨7, _⟩ => ⟨S2048x2048, .bf16⟩
  | .hbm, ⟨8, _⟩ => ⟨S2048x1024, .bf16⟩
  | .hbm, ⟨9, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S2048x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== MergeReferenceIdeal.lean ====
abbrev S2048x8224 : Shape := ⟨2, ![2048, 8224]⟩
abbrev S2048x1024 : Shape := ⟨2, ![2048, 1024]⟩
abbrev S_ : Shape := ⟨0, ![]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x8224, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x2048, .f32⟩
  | .hbm, ⟨42, _⟩ => ⟨S2048x2048, .bf16⟩
  | .hbm, ⟨43, _⟩ => ⟨S2048x1024, .bf16⟩
  | .hbm, ⟨44, _⟩ => ⟨S2048x1024, .bf16⟩
  | _, _ => ⟨S2048x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== GluKernel.lean ====
abbrev S2048x2048 : Shape := ⟨2, ![2048, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== GluReferenceIdeal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== ActKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .bf16⟩
  | .hbm, ⟨6, _⟩ => ⟨S2048x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ActReferenceIdeal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S2048x1024, .bf16⟩
  | .hbm, ⟨60, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== GateKernel.lean ====
abbrev S2048x2048 : Shape := ⟨2, ![2048, 2048]⟩
abbrev S2048x8224 : Shape := ⟨2, ![2048, 8224]⟩
abbrev S2048 : Shape := ⟨1, ![2048]⟩
abbrev S2048x5120 : Shape := ⟨2, ![2048, 5120]⟩
abbrev S2048x7168 : Shape := ⟨2, ![2048, 7168]⟩
abbrev S1x2048 : Shape := ⟨2, ![1, 2048]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x8224, .f32⟩
  | .hbm, ⟨2, _⟩ => ⟨S2048, .f32⟩
  | .hbm, ⟨3, _⟩ => ⟨S2048x2048, .f32⟩
  | .hbm, ⟨4, _⟩ => ⟨S2048x5120, .f32⟩
  | .hbm, ⟨5, _⟩ => ⟨S2048x2048, .f32⟩
  | .hbm, ⟨6, _⟩ => ⟨S2048x7168, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GateReferenceIdeal.lean ====
abbrev S2048x2048 : Shape := ⟨2, ![2048, 2048]⟩
abbrev S2048x8224 : Shape := ⟨2, ![2048, 8224]⟩
abbrev S2048 : Shape := ⟨1, ![2048]⟩
abbrev S_ : Shape := ⟨0, ![]⟩
abbrev S2048x4x512 : Shape := ⟨3, ![2048, 4, 512]⟩
abbrev S2048x4 : Shape := ⟨2, ![2048, 4]⟩
abbrev S2048x4x1 : Shape := ⟨3, ![2048, 4, 1]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8224, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x4x512, .f32⟩
  | .hbm, ⟨20, _⟩ => ⟨S2048x4x512, .f32⟩
  | .hbm, ⟨21, _⟩ => ⟨S_, .f32⟩
  | .hbm, ⟨22, _⟩ => ⟨S2048x4, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S_, .f32⟩
  | .hbm, ⟨28, _⟩ => ⟨S2048x4x1, .f32⟩
  | .hbm, ⟨29, _⟩ => ⟨S2048x4x1, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x1, .f32⟩
  | .hbm, ⟨34, _⟩ => ⟨S2048x4x1, .f32⟩
  | .hbm, ⟨35, _⟩ => ⟨S2048x4x512, .f32⟩
  | .hbm, ⟨36, _⟩ => ⟨S2048x4x512, .f32⟩
  | .hbm, ⟨37, _⟩ => ⟨S2048x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S2048x4x512, .f32⟩
  | .hbm, ⟨50, _⟩ => ⟨S2048x4x512, .f32⟩
  | .hbm, ⟨51, _⟩ => ⟨S_, .f32⟩
  | .hbm, ⟨52, _⟩ => ⟨S2048x4, .f32⟩
  | .hbm, ⟨53, _⟩ => ⟨S2048x4x1, .f32⟩
  | .hbm, ⟨54, _⟩ => ⟨S2048x4x512, .f32⟩
  | .hbm, ⟨55, _⟩ => ⟨S2048x4x512, .f32⟩
  | .hbm, ⟨56, _⟩ => ⟨S2048x4x1, .f32⟩
  | .hbm, ⟨57, _⟩ => ⟨S_, .f32⟩
  | .hbm, ⟨58, _⟩ => ⟨S2048x4x1, .f32⟩
  | .hbm, ⟨59, _⟩ => ⟨S2048x4x1, .f32⟩
  | .hbm, ⟨60, _⟩ => ⟨S_, .f32⟩
  | .hbm, ⟨61, _⟩ => ⟨S2048x4, .f32⟩
  | .hbm, ⟨62, _⟩ => ⟨S2048x4x512, .f32⟩
  | .hbm, ⟨63, _⟩ => ⟨S2048x4x512, .f32⟩
  | .hbm, ⟨64, _⟩ => ⟨S2048x4x512, .f32⟩
  | .hbm, ⟨65, _⟩ => ⟨S2048x4x512, .f32⟩
  | .hbm, ⟨66, _⟩ => ⟨S2048x4x512, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .bf16⟩
  | .hbm, ⟨75, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== ResKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ResReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MixResKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== MixResReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== RmsKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== RmsReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MixRmsKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MixRmsReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== FfnKernel.lean ====
abbrev S2048x2816 : Shape := ⟨2, ![2048, 2816]⟩
abbrev S2816x1024 : Shape := ⟨2, ![2816, 1024]⟩
abbrev S2048x1024 : Shape := ⟨2, ![2048, 1024]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S4x1x704x1024 : Shape := ⟨4, ![4, 1, 704, 1024]⟩
abbrev S1024x1024 : Shape := ⟨2, ![1024, 1024]⟩
abbrev S1x1x704x1024 : Shape := ⟨4, ![1, 1, 704, 1024]⟩
abbrev S1x2x1024x704 : Shape := ⟨4, ![1, 2, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 15
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x4x704, .f32⟩
  | .hbm, ⟨5, _⟩ => ⟨S4x2048x704, .f32⟩
  | .hbm, ⟨6, _⟩ => ⟨S2048x4x704, .f32⟩
  | .hbm, ⟨7, _⟩ => ⟨S4x2048x704, .f32⟩
  | .hbm, ⟨8, _⟩ => ⟨S4x1x2048x704, .f32⟩
  | .hbm, ⟨9, _⟩ => ⟨S4x1x2048x704, .f32⟩
  | .hbm, ⟨10, _⟩ => ⟨S4x2x2048x704, .f32⟩
  | .hbm, ⟨11, _⟩ => ⟨S4x2x2048x704, .bf16⟩
  | .hbm, ⟨12, _⟩ => ⟨S2048x1024, .bf16⟩
  | .hbm, ⟨13, _⟩ => ⟨S4x1x704x1024, .f32⟩
  | .hbm, ⟨14, _⟩ => ⟨S4x2x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .f32⟩
  | .local _ .vmem, ⟨3, _⟩ => ⟨S1x1x704x1024, .f32⟩
  | .local _ .vmem, ⟨4, _⟩ => ⟨S1x2x1024x704, .bf16⟩
  | .local _ .vmem, ⟨5, _⟩ => ⟨S1x2x1024x704, .bf16⟩
  | .local _ .vmem, ⟨6, _⟩ => ⟨S1x2x1024x704, .bf16⟩
  | .local _ .vmem, ⟨7, _⟩ => ⟨S1x2x1024x704, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnReferenceIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩

abbrev nBuf : Space → Nat
  | .hbm => 34
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x4x704, .f32⟩
  | .hbm, ⟨27, _⟩ => ⟨S4x2048x704, .f32⟩
  | .hbm, ⟨28, _⟩ => ⟨S2048x4x704, .f32⟩
  | .hbm, ⟨29, _⟩ => ⟨S4x2048x704, .f32⟩
  | .hbm, ⟨30, _⟩ => ⟨S4x1x2048x704, .f32⟩
  | .hbm, ⟨31, _⟩ => ⟨S4x1x2048x704, .f32⟩
  | .hbm, ⟨32, _⟩ => ⟨S4x2x2048x704, .f32⟩
  | .hbm, ⟨33, _⟩ => ⟨S4x2x2048x704, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== ParKernel.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x1024 : Shape := ⟨2, ![64, 1024]⟩

abbrev nBuf : Space → Nat
  | .hbm => 19
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1, .f32⟩
  | .hbm, ⟨10, _⟩ => ⟨S64x1024, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S64x64, .f32⟩
  | .hbm, ⟨15, _⟩ => ⟨S64x64, .f32⟩
  | .hbm, ⟨16, _⟩ => ⟨S64x1, .f32⟩
  | .hbm, ⟨17, _⟩ => ⟨S64x1024, .f32⟩
  | .hbm, ⟨18, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x64, .f32⟩
  | .local _ .vmem, ⟨6, _⟩ => ⟨S64x64, .f32⟩
  | .local _ .vmem, ⟨7, _⟩ => ⟨S64x1024, .f32⟩
  | .local _ .vmem, ⟨8, _⟩ => ⟨S64x1024, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S64x1024, .f32⟩
  | .local _ .vmem, ⟨13, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ParReferenceIdeal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S64x1024 : Shape := ⟨2, ![64, 1024]⟩

abbrev nBuf : Space → Nat
  | .hbm => 182
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .i1⟩
  | 15 => ⟨S_, .f32⟩
  | 16 => ⟨S64x64, .f32⟩
  | 17 => ⟨S64x64, .i1⟩
  | 18 => ⟨S_, .f32⟩
  | 19 => ⟨S64x64, .f32⟩
  | 20 => ⟨S_, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64, .f32⟩
  | 27 => ⟨S64x1, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S64x64x1, .f32⟩
  | 65 => ⟨S64x64x16, .f32⟩
  | 66 => ⟨S64x64x16, .f32⟩
  | 67 => ⟨S64x64x1, .f32⟩
  | 68 => ⟨S64x64x16, .f32⟩
  | 69 => ⟨S64x64x16, .f32⟩
  | 70 => ⟨S64x64x16, .f32⟩
  | 71 => ⟨S64x64x1, .f32⟩
  | 72 => ⟨S64x64x16, .f32⟩
  | 73 => ⟨S64x64x16, .f32⟩
  | 74 => ⟨S64x64x1, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S64x64x16, .f32⟩
  | 81 => ⟨S64x64x16, .f32⟩
  | 82 => ⟨S64x64x16, .f32⟩
  | 83 => ⟨S_, .f32⟩
  | 84 => ⟨S64x64, .f32⟩
  | 85 => ⟨S64x64x1, .f32⟩
  | 86 => ⟨S_, .f32⟩
  | 87 => ⟨S64x64, .f32⟩
  | 88 => ⟨S64x64x16, .f32⟩
  | 89 => ⟨S64x64x16, .f32⟩
  | 90 => ⟨S64x64x16, .f32⟩
  | 91 => ⟨S_, .f32⟩
  | 92 => ⟨S64x64, .f32⟩
  | 93 => ⟨S64x64x1, .f32⟩
  | 94 => ⟨S_, .f32⟩
  | 95 => ⟨S64x64, .f32⟩
  | 96 => ⟨S64x64x16, .f32⟩
  | 97 => ⟨S64x64x16, .f32⟩
  | 98 => ⟨S64x64x16, .f32⟩
  | 99 => ⟨S64x64x16, .f32⟩
  | 100 => ⟨S64x64x16, .f32⟩
  | 101 => ⟨S64x64x16, .f32⟩
  | 102 => ⟨S_, .f32⟩
  | 103 => ⟨S64x64, .f32⟩
  | 104 => ⟨S64x64x1, .f32⟩
  | 105 => ⟨S_, .f32⟩
  | 106 => ⟨S64x64, .f32⟩
  | 107 => ⟨S64x64, .f32⟩
  | 108 => ⟨S64x64x16, .f32⟩
  | 109 => ⟨S64x64x16, .f32⟩
  | 110 => ⟨S64x64x16, .f32⟩
  | 111 => ⟨S64x64x16, .f32⟩
  | 112 => ⟨S_, .f32⟩
  | 113 => ⟨S64x64, .f32⟩
  | 114 => ⟨S64x64x1, .f32⟩
  | 115 => ⟨S_, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S_, .f32⟩
  | 33 => ⟨S64, .f32⟩
  | 34 => ⟨S64x1, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64, .f32⟩
  | 42 => ⟨S64x1, .f32⟩
  | 43 => ⟨S64x1, .f32⟩
  | 44 => ⟨S64x64, .f32⟩
  | 45 => ⟨S64x64, .f32⟩
  | 46 => ⟨S64x64, .f32⟩
  | 47 => ⟨S_, .f32⟩
  | 48 => ⟨S64, .f32⟩
  | 49 => ⟨S64, .f32⟩
  | 50 => ⟨S64x64, .f32⟩
  | 51 => ⟨S64x1, .f32⟩
  | 52 => ⟨S64x1024, .f32⟩
  | 53 => ⟨S64x1024, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_cst_17 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_18 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_19 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩

abbrev nD : Nat := 1
abbrev τ : Topo := Topo.v7x

variable {F : FTy → Type} [FloatOps F]
-- ==== ScanKernel.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S2048x4096 : Shape := ⟨2, ![2048, 4096]⟩
abbrev S8x8x16x64 : Shape := ⟨4, ![8, 8, 16, 64]⟩
abbrev S8x8 : Shape := ⟨2, ![8, 8]⟩
abbrev S_ : Shape := ⟨0, ![]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x4096 : Shape := ⟨2, ![1, 4096]⟩
abbrev S8x256x1024 : Shape := ⟨3, ![8, 256, 1024]⟩
abbrev S256x8x1024 : Shape := ⟨3, ![256, 8, 1024]⟩
abbrev S8x256x4096 : Shape := ⟨3, ![8, 256, 4096]⟩
abbrev S256x8x4096 : Shape := ⟨3, ![256, 8, 4096]⟩
abbrev S2048x128 : Shape := ⟨2, ![2048, 128]⟩
abbrev S2048x512 : Shape := ⟨2, ![2048, 512]⟩
abbrev S1x128x512 : Shape := ⟨3, ![1, 128, 512]⟩
abbrev S1x512x128 : Shape := ⟨3, ![1, 512, 128]⟩
abbrev S1x512 : Shape := ⟨2, ![1, 512]⟩
abbrev S512x128 : Shape := ⟨2, ![512, 128]⟩
abbrev S8x512 : Shape := ⟨2, ![8, 512]⟩
abbrev S512 : Shape := ⟨1, ![512]⟩
abbrev S128x512 : Shape := ⟨2, ![128, 512]⟩
abbrev S8x16x64x8x8 : Shape := ⟨5, ![8, 16, 64, 8, 8]⟩
abbrev S8 : Shape := ⟨1, ![8]⟩
abbrev S8x1 : Shape := ⟨2, ![8, 1]⟩
abbrev S8x2 : Shape := ⟨2, ![8, 2]⟩
abbrev S8x16x64x8 : Shape := ⟨4, ![8, 16, 64, 8]⟩
abbrev S8x64x16x8x8 : Shape := ⟨5, ![8, 64, 16, 8, 8]⟩
abbrev S8x64x16x8 : Shape := ⟨4, ![8, 64, 16, 8]⟩

abbrev nBuf : Space → Nat
  | .hbm => 205
  | .vmem => 38
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S2048x1024, .f32⟩
  | 8 => ⟨S2048x1024, .f32⟩
  | 9 => ⟨S2048x4096, .f32⟩
  | 10 => ⟨S2048x4096, .f32⟩
  | 11 => ⟨S64x16x64, .f32⟩
  | 12 => ⟨S8x8x16x64, .f32⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S8x8, .f32⟩
  | 20 => ⟨S8x8x16x1x64, .f32⟩
  | 21 => ⟨S1x8x1x8x1, .f32⟩
  | 22 => ⟨S8x8x16x8x64, .f32⟩
  | 23 => ⟨S8x8x16x8x64, .f32⟩
  | 24 => ⟨S8x8x16x8x64, .f32⟩
  | 25 => ⟨S8x128x512, .f32⟩
  | 26 => ⟨S8x128x512, .bf16⟩
  | 27 => ⟨S64x16x64, .f32⟩
  | 28 => ⟨S8x8x16x64, .f32⟩
  | 29 => ⟨S8x8, .i32⟩
  | 30 => ⟨S8x8, .i32⟩
  | 31 => ⟨S_, .i32⟩
  | 32 => ⟨S8x8, .i32⟩
  | 33 => ⟨S8x8, .i32⟩
  | 34 => ⟨S8x8, .i1⟩
  | 35 => ⟨S8x8, .f32⟩
  | 36 => ⟨S8x8x16x1x64, .f32⟩
  | 37 => ⟨S1x8x1x8x1, .f32⟩
  | 38 => ⟨S8x8x16x8x64, .f32⟩
  | 39 => ⟨S8x8x16x8x64, .f32⟩
  | 40 => ⟨S8x8x16x8x64, .f32⟩
  | 41 => ⟨S8x128x512, .f32⟩
  | 42 => ⟨S8x128x512, .bf16⟩
  | 43 => ⟨S64x64x16, .f32⟩
  | 44 => ⟨S8x8x64x16, .f32⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S8x8, .f32⟩
  | 52 => ⟨S8x8x64x1x16, .f32⟩
  | 53 => ⟨S1x8x1x8x1, .f32⟩
  | 54 => ⟨S8x8x64x8x16, .f32⟩
  | 55 => ⟨S8x8x64x8x16, .f32⟩
  | 56 => ⟨S8x8x64x8x16, .f32⟩
  | 57 => ⟨S8x512x128, .f32⟩
  | 58 => ⟨S8x512x128, .bf16⟩
  | 59 => ⟨S64x64x16, .f32⟩
  | 60 => ⟨S8x8x64x16, .f32⟩
  | 61 => ⟨S8x8, .i32⟩
  | 62 => ⟨S8x8, .i32⟩
  | 63 => ⟨S_, .i32⟩
  | 64 => ⟨S8x8, .i32⟩
  | 65 => ⟨S8x8, .i32⟩
  | 66 => ⟨S8x8, .i1⟩
  | 67 => ⟨S8x8, .f32⟩
  | 68 => ⟨S8x8x64x1x16, .f32⟩
  | 69 => ⟨S1x8x1x8x1, .f32⟩
  | 70 => ⟨S8x8x64x8x16, .f32⟩
  | 71 => ⟨S8x8x64x8x16, .f32⟩
  | 72 => ⟨S8x8x64x8x16, .f32⟩
  | 73 => ⟨S8x512x128, .f32⟩
  | 74 => ⟨S8x512x128, .bf16⟩
  | 75 => ⟨S1x4096, .f32⟩
  | 76 => ⟨S1x4096, .f32⟩
  | 77 => ⟨S8x256x1024, .f32⟩
  | 78 => ⟨S256x8x1024, .f32⟩
  | 79 => ⟨S2048x1024, .f32⟩
  | 80 => ⟨S8x256x4096, .f32⟩
  | 81 => ⟨S256x8x4096, .f32⟩
  | 82 => ⟨S2048x4096, .f32⟩
  | 83 => ⟨S8x256x4096, .f32⟩
  | 84 => ⟨S256x8x4096, .f32⟩
  | 85 => ⟨S2048x4096, .f32⟩
  | 86 => ⟨S8x256x1024, .f32⟩
  | 87 => ⟨S256x8x1024, .f32⟩
  | 88 => ⟨S2048x1024, .f32⟩
  | 89 => ⟨S2048x1024, .bf16⟩
  | 90 => ⟨S8x256x1024, .f32⟩
  | 91 => ⟨S256x8x1024, .f32⟩
  | 92 => ⟨S2048x1024, .f32⟩
  | 93 => ⟨S2048x1024, .bf16⟩
  | 94 => ⟨S8x128x512, .f32⟩
  | 95 => ⟨S8x128x512, .f32⟩
  | 96 => ⟨S8x512x128, .f32⟩
  | 97 => ⟨S8x512x128, .f32⟩
  | 98 => ⟨S1x4096, .f32⟩
  | 99 => ⟨S1x4096, .f32⟩
  | 100 => ⟨S256x8x1024, .bf16⟩
  | 101 => ⟨S8x256x1024, .bf16⟩
  | 102 => ⟨S2048x1024, .bf16⟩
  | 103 => ⟨S8x8x16x8x64, .f32⟩
  | 104 => ⟨S8x16x64x8x8, .f32⟩
  | 105 => ⟨S8, .i32⟩
  | 106 => ⟨S8, .i32⟩
  | 107 => ⟨S_, .i32⟩
  | 108 => ⟨S8, .i32⟩
  | 109 => ⟨S8, .i1⟩
  | 110 => ⟨S_, .i32⟩
  | 111 => ⟨S8, .i32⟩
  | 112 => ⟨S8, .i32⟩
  | 113 => ⟨S8, .i32⟩
  | 114 => ⟨S_, .i32⟩
  | 115 => ⟨S8, .i32⟩
  | 116 => ⟨S8, .i1⟩
  | 117 => ⟨S_, .i32⟩
  | 118 => ⟨S8, .i32⟩
  | 119 => ⟨S8, .i32⟩
  | 120 => ⟨S8, .i32⟩
  | 121 => ⟨S8x1, .i32⟩
  | 122 => ⟨S8x1, .i32⟩
  | 123 => ⟨S8x2, .i32⟩
  | 124 => ⟨S8x16x64x8, .f32⟩
  | 125 => ⟨S8x8x16x64, .f32⟩
  | 126 => ⟨S64x16x64, .f32⟩
  | 127 => ⟨S64x64x16, .f32⟩
  | _ => ⟨S2048x1024, .f32⟩

abbrev hbmTy0_1 (i : Nat) : BufTy := match i % 128 with
  | 0 => ⟨S8x8x16x8x64, .f32⟩
  | 1 => ⟨S8x16x64x8x8, .f32⟩
  | 2 => ⟨S8, .i32⟩
  | 3 => ⟨S8, .i32⟩
  | 4 => ⟨S_, .i32⟩
  | 5 => ⟨S8, .i32⟩
  | 6 => ⟨S8, .i1⟩
  | 7 => ⟨S_, .i32⟩
  | 8 => ⟨S8, .i32⟩
  | 9 => ⟨S8, .i32⟩
  | 10 => ⟨S8, .i32⟩
  | 11 => ⟨S_, .i32⟩
  | 12 => ⟨S8, .i32⟩
  | 13 => ⟨S8, .i1⟩
  | 14 => ⟨S_, .i32⟩
  | 15 => ⟨S8, .i32⟩
  | 16 => ⟨S8, .i32⟩
  | 17 => ⟨S8, .i32⟩
  | 18 => ⟨S8x1, .i32⟩
  | 19 => ⟨S8x1, .i32⟩
  | 20 => ⟨S8x2, .i32⟩
  | 21 => ⟨S8x16x64x8, .f32⟩
  | 22 => ⟨S8x8x16x64, .f32⟩
  | 23 => ⟨S64x16x64, .f32⟩
  | 24 => ⟨S64x64x16, .f32⟩
  | 25 => ⟨S8x8x64x8x16, .f32⟩
  | 26 => ⟨S8x64x16x8x8, .f32⟩
  | 27 => ⟨S8, .i32⟩
  | 28 => ⟨S8, .i32⟩
  | 29 => ⟨S_, .i32⟩
  | 30 => ⟨S8, .i32⟩
  | 31 => ⟨S8, .i1⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i1⟩
  | 39 => ⟨S_, .i32⟩
  | 40 => ⟨S8, .i32⟩
  | 41 => ⟨S8, .i32⟩
  | 42 => ⟨S8, .i32⟩
  | 43 => ⟨S8x1, .i32⟩
  | 44 => ⟨S8x1, .i32⟩
  | 45 => ⟨S8x2, .i32⟩
  | 46 => ⟨S8x64x16x8, .f32⟩
  | 47 => ⟨S8x8x64x16, .f32⟩
  | 48 => ⟨S64x64x16, .f32⟩
  | 49 => ⟨S64x16x64, .f32⟩
  | 50 => ⟨S8x8x64x8x16, .f32⟩
  | 51 => ⟨S8x64x16x8x8, .f32⟩
  | 52 => ⟨S8, .i32⟩
  | 53 => ⟨S8, .i32⟩
  | 54 => ⟨S_, .i32⟩
  | 55 => ⟨S8, .i32⟩
  | 56 => ⟨S8, .i1⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i1⟩
  | 64 => ⟨S_, .i32⟩
  | 65 => ⟨S8, .i32⟩
  | 66 => ⟨S8, .i32⟩
  | 67 => ⟨S8, .i32⟩
  | 68 => ⟨S8x1, .i32⟩
  | 69 => ⟨S8x1, .i32⟩
  | 70 => ⟨S8x2, .i32⟩
  | 71 => ⟨S8x64x16x8, .f32⟩
  | 72 => ⟨S8x8x64x16, .f32⟩
  | 73 => ⟨S64x64x16, .f32⟩
  | 74 => ⟨S64x16x64, .f32⟩
  | 75 => ⟨S64x64, .f32⟩
  | 76 => ⟨S64x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S2048x128, .bf16⟩
  | .local _ .vmem, ⟨23, _⟩ => ⟨S2048x128, .bf16⟩
  | .local _ .vmem, ⟨24, _⟩ => ⟨S1x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x512x128, .f32⟩
  | .local _ .vmem, ⟨29, _⟩ => ⟨S1x512x128, .f32⟩
  | .local _ .vmem, ⟨30, _⟩ => ⟨S1x512x128, .f32⟩
  | .local _ .vmem, ⟨31, _⟩ => ⟨S1x512x128, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S2048x512, .f32⟩
  | .local _ .vmem, ⟨37, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_2 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78_0 : Ref sig .tc := ⟨.hbm, 93, rfl⟩
abbrev main_v78_1 : Ref sig .tc := ⟨.hbm, 94, rfl⟩
abbrev main_v78_2 : Ref sig .tc := ⟨.hbm, 95, rfl⟩
abbrev main_v78_3 : Ref sig .tc := ⟨.hbm, 96, rfl⟩
abbrev main_v78_4 : Ref sig .tc := ⟨.hbm, 97, rfl⟩
abbrev main_v78_5 : Ref sig .tc := ⟨.hbm, 98, rfl⟩
abbrev main_v78_6 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_call0_c : Ref sig .tc := ⟨.hbm, 107, rfl⟩
abbrev main_call0_v3 : Ref sig .tc := ⟨.hbm, 108, rfl⟩
abbrev main_call0_v4 : Ref sig .tc := ⟨.hbm, 109, rfl⟩
abbrev main_call0_c_0 : Ref sig .tc := ⟨.hbm, 110, rfl⟩
abbrev main_call0_v5 : Ref sig .tc := ⟨.hbm, 111, rfl⟩
abbrev main_call0_v6 : Ref sig .tc := ⟨.hbm, 112, rfl⟩
abbrev main_call0_v7 : Ref sig .tc := ⟨.hbm, 113, rfl⟩
abbrev main_call0_c_1 : Ref sig .tc := ⟨.hbm, 114, rfl⟩
abbrev main_call0_v8 : Ref sig .tc := ⟨.hbm, 115, rfl⟩
abbrev main_call0_v9 : Ref sig .tc := ⟨.hbm, 116, rfl⟩
abbrev main_call0_c_2 : Ref sig .tc := ⟨.hbm, 117, rfl⟩
abbrev main_call0_v10 : Ref sig .tc := ⟨.hbm, 118, rfl⟩
abbrev main_call0_v11 : Ref sig .tc := ⟨.hbm, 119, rfl⟩
abbrev main_call0_v12 : Ref sig .tc := ⟨.hbm, 120, rfl⟩
abbrev main_call0_v13 : Ref sig .tc := ⟨.hbm, 121, rfl⟩
abbrev main_call0_v14 : Ref sig .tc := ⟨.hbm, 122, rfl⟩
abbrev main_call0_v15 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_c : Ref sig .tc := ⟨.hbm, 132, rfl⟩
abbrev main_call1_v3 : Ref sig .tc := ⟨.hbm, 133, rfl⟩
abbrev main_call1_v4 : Ref sig .tc := ⟨.hbm, 134, rfl⟩
abbrev main_call1_c_0 : Ref sig .tc := ⟨.hbm, 135, rfl⟩
abbrev main_call1_v5 : Ref sig .tc := ⟨.hbm, 136, rfl⟩
abbrev main_call1_v6 : Ref sig .tc := ⟨.hbm, 137, rfl⟩
abbrev main_call1_v7 : Ref sig .tc := ⟨.hbm, 138, rfl⟩
abbrev main_call1_c_1 : Ref sig .tc := ⟨.hbm, 139, rfl⟩
abbrev main_call1_v8 : Ref sig .tc := ⟨.hbm, 140, rfl⟩
abbrev main_call1_v9 : Ref sig .tc := ⟨.hbm, 141, rfl⟩
abbrev main_call1_c_2 : Ref sig .tc := ⟨.hbm, 142, rfl⟩
abbrev main_call1_v10 : Ref sig .tc := ⟨.hbm, 143, rfl⟩
abbrev main_call1_v11 : Ref sig .tc := ⟨.hbm, 144, rfl⟩
abbrev main_call1_v12 : Ref sig .tc := ⟨.hbm, 145, rfl⟩
abbrev main_call1_v13 : Ref sig .tc := ⟨.hbm, 146, rfl⟩
abbrev main_call1_v14 : Ref sig .tc := ⟨.hbm, 147, rfl⟩
abbrev main_call1_v15 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_c : Ref sig .tc := ⟨.hbm, 157, rfl⟩
abbrev main_call2_v3 : Ref sig .tc := ⟨.hbm, 158, rfl⟩
abbrev main_call2_v4 : Ref sig .tc := ⟨.hbm, 159, rfl⟩
abbrev main_call2_c_0 : Ref sig .tc := ⟨.hbm, 160, rfl⟩
abbrev main_call2_v5 : Ref sig .tc := ⟨.hbm, 161, rfl⟩
abbrev main_call2_v6 : Ref sig .tc := ⟨.hbm, 162, rfl⟩
abbrev main_call2_v7 : Ref sig .tc := ⟨.hbm, 163, rfl⟩
abbrev main_call2_c_1 : Ref sig .tc := ⟨.hbm, 164, rfl⟩
abbrev main_call2_v8 : Ref sig .tc := ⟨.hbm, 165, rfl⟩
abbrev main_call2_v9 : Ref sig .tc := ⟨.hbm, 166, rfl⟩
abbrev main_call2_c_2 : Ref sig .tc := ⟨.hbm, 167, rfl⟩
abbrev main_call2_v10 : Ref sig .tc := ⟨.hbm, 168, rfl⟩
abbrev main_call2_v11 : Ref sig .tc := ⟨.hbm, 169, rfl⟩
abbrev main_call2_v12 : Ref sig .tc := ⟨.hbm, 170, rfl⟩
abbrev main_call2_v13 : Ref sig .tc := ⟨.hbm, 171, rfl⟩
abbrev main_call2_v14 : Ref sig .tc := ⟨.hbm, 172, rfl⟩
abbrev main_call2_v15 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_call3_v0 : Ref sig .tc := ⟨.hbm, 179, rfl⟩
abbrev main_call3_v1 : Ref sig .tc := ⟨.hbm, 180, rfl⟩
abbrev main_call3_v2 : Ref sig .tc := ⟨.hbm, 181, rfl⟩
abbrev main_call3_c : Ref sig .tc := ⟨.hbm, 182, rfl⟩
abbrev main_call3_v3 : Ref sig .tc := ⟨.hbm, 183, rfl⟩
abbrev main_call3_v4 : Ref sig .tc := ⟨.hbm, 184, rfl⟩
abbrev main_call3_c_0 : Ref sig .tc := ⟨.hbm, 185, rfl⟩
abbrev main_call3_v5 : Ref sig .tc := ⟨.hbm, 186, rfl⟩
abbrev main_call3_v6 : Ref sig .tc := ⟨.hbm, 187, rfl⟩
abbrev main_call3_v7 : Ref sig .tc := ⟨.hbm, 188, rfl⟩
abbrev main_call3_c_1 : Ref sig .tc := ⟨.hbm, 189, rfl⟩
abbrev main_call3_v8 : Ref sig .tc := ⟨.hbm, 190, rfl⟩
abbrev main_call3_v9 : Ref sig .tc := ⟨.hbm, 191, rfl⟩
abbrev main_call3_c_2 : Ref sig .tc := ⟨.hbm, 192, rfl⟩
abbrev main_call3_v10 : Ref sig .tc := ⟨.hbm, 193, rfl⟩
abbrev main_call3_v11 : Ref sig .tc := ⟨.hbm, 194, rfl⟩
abbrev main_call3_v12 : Ref sig .tc := ⟨.hbm, 195, rfl⟩
abbrev main_call3_v13 : Ref sig .tc := ⟨.hbm, 196, rfl⟩
abbrev main_call3_v14 : Ref sig .tc := ⟨.hbm, 197, rfl⟩
abbrev main_call3_v15 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c256_i32 : BitVec 32 := 256#32
  let v43 : BitVec 32 := Scalar.addi c0_i32 c256_i32
  let c1_i32 : BitVec 32 := 1#32
  ⟨c0_i32, v43, c1_i32⟩
def k0_mult1 (k0_t1 : Fin k0_t1_loop.trips) : BitVec 32 :=
  let c255_i32 : BitVec 32 := 255#32
  let c0_i32 : BitVec 32 := 0#32
  let c1_i32 : BitVec 32 := 1#32
  let arg21 : BitVec 32 := Scf.iv c0_i32 c1_i32 k0_t1
  let v318 : BitVec 32 := Scalar.subi c255_i32 arg21
  let c8_i32 : BitVec 32 := 8#32
  let v319 : BitVec 32 := Scalar.muli v318 c8_i32
  v319
def k0_off1 (k0_t1 : Fin k0_t1_loop.trips) : Fin 2 → Nat :=
  let c255_i32 : BitVec 32 := 255#32
  let c0_i32 : BitVec 32 := 0#32
  let c1_i32 : BitVec 32 := 1#32
  let arg21 : BitVec 32 := Scf.iv c0_i32 c1_i32 k0_t1
  let v318 : BitVec 32 := Scalar.subi c255_i32 arg21
  let c8_i32 : BitVec 32 := 8#32
  let v319 : BitVec 32 := Scalar.muli v318 c8_i32
  let v320 : BitVec 32 := v319
  let v327 : Index := Scalar.indexCast v320
  let c0_99 : Index := 0#32
  ![v327.toNat, 0]
@[reducible] def k0_t2_loop : Scf.Loop 32 :=
  let c0_i32_46 : BitVec 32 := 0#32
  let c256_i32_47 : BitVec 32 := 256#32
  let v252 : BitVec 32 := Scalar.addi c0_i32_46 c256_i32_47
  let c1_i32_48 : BitVec 32 := 1#32
  ⟨c0_i32_46, v252, c1_i32_48⟩
def k0_mult2 (k0_t2 : Fin k0_t2_loop.trips) : BitVec 32 :=
  let c255_i32 : BitVec 32 := 255#32
  let c0_i32_46 : BitVec 32 := 0#32
  let c1_i32_48 : BitVec 32 := 1#32
  let arg21 : BitVec 32 := Scf.iv c0_i32_46 c1_i32_48 k0_t2
  let v318 : BitVec 32 := Scalar.subi c255_i32 arg21
  let c8_i32 : BitVec 32 := 8#32
  let v319 : BitVec 32 := Scalar.muli v318 c8_i32
  v319
def k0_mult3 (k0_t2 : Fin k0_t2_loop.trips) : BitVec 32 :=
  let c255_i32 : BitVec 32 := 255#32
  let c0_i32_46 : BitVec 32 := 0#32
  let c1_i32_48 : BitVec 32 := 1#32
  let arg21 : BitVec 32 := Scf.iv c0_i32_46 c1_i32_48 k0_t2
  let v318 : BitVec 32 := Scalar.subi c255_i32 arg21
  let c1_i32_99 : BitVec 32 := 1#32
  let v321 : BitVec 32 := Scalar.subi v318 c1_i32_99
  let c0_i32_100 : BitVec 32 := 0#32
  let v322 : BitVec 32 := Scalar.maxsi v321 c0_i32_100
  let c8_i32_101 : BitVec 32 := 8#32
  let v323 : BitVec 32 := Scalar.muli v322 c8_i32_101
  v323
def k0_off2 (k0_t2 : Fin k0_t2_loop.trips) : Fin 2 → Nat :=
  let c255_i32 : BitVec 32 := 255#32
  let c0_i32_46 : BitVec 32 := 0#32
  let c1_i32_48 : BitVec 32 := 1#32
  let arg21 : BitVec 32 := Scf.iv c0_i32_46 c1_i32_48 k0_t2
  let v318 : BitVec 32 := Scalar.subi c255_i32 arg21
  let c8_i32 : BitVec 32 := 8#32
  let v319 : BitVec 32 := Scalar.muli v318 c8_i32
  let v320 : BitVec 32 := v319
  let v331 : Index := Scalar.indexCast v320
  let c0_102 : Index := 0#32
  ![v331.toNat, 0]
def k0_off3 (k0_t2 : Fin k0_t2_loop.trips) : Fin 2 → Nat :=
  let c255_i32 : BitVec 32 := 255#32
  let c0_i32_46 : BitVec 32 := 0#32
  let c1_i32_48 : BitVec 32 := 1#32
  let arg21 : BitVec 32 := Scf.iv c0_i32_46 c1_i32_48 k0_t2
  let v318 : BitVec 32 := Scalar.subi c255_i32 arg21
  let c1_i32_99 : BitVec 32 := 1#32
  let v321 : BitVec 32 := Scalar.subi v318 c1_i32_99
  let c0_i32_100 : BitVec 32 := 0#32
  let v322 : BitVec 32 := Scalar.maxsi v321 c0_i32_100
  let c8_i32_101 : BitVec 32 := 8#32
  let v323 : BitVec 32 := Scalar.muli v322 c8_i32_101
  let v324 : BitVec 32 := v323
  let v347 : Index := Scalar.indexCast v324
  let c0_109 : Index := 0#32
  ![v347.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ConvFwdKernel.lean ====
abbrev S2048x8224 : Shape := ⟨2, ![2048, 8224]⟩
abbrev S4x3072 : Shape := ⟨2, ![4, 3072]⟩
abbrev S3072 : Shape := ⟨1, ![3072]⟩
abbrev S2048x5120 : Shape := ⟨2, ![2048, 5120]⟩
abbrev S2048x2048 : Shape := ⟨2, ![2048, 2048]⟩
abbrev S2048x7168 : Shape := ⟨2, ![2048, 7168]⟩
abbrev S1x3072 : Shape := ⟨2, ![1, 3072]⟩
abbrev S2048x3072 : Shape := ⟨2, ![2048, 3072]⟩
abbrev S2048x256 : Shape := ⟨2, ![2048, 256]⟩
abbrev S4x256 : Shape := ⟨2, ![4, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S2048x8224, .f32⟩
  | .hbm, ⟨1, _⟩ => ⟨S4x3072, .f32⟩
  | .hbm, ⟨2, _⟩ => ⟨S3072, .f32⟩
  | .hbm, ⟨3, _⟩ => ⟨S2048x5120, .f32⟩
  | .hbm, ⟨4, _⟩ => ⟨S2048x2048, .f32⟩
  | .hbm, ⟨5, _⟩ => ⟨S2048x7168, .f32⟩
  | .hbm, ⟨6, _⟩ => ⟨S1x3072, .f32⟩
  | .hbm, ⟨7, _⟩ => ⟨S2048x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdReferenceIdeal.lean ====
abbrev S2048x8224 : Shape := ⟨2, ![2048, 8224]⟩
abbrev S4x3072 : Shape := ⟨2, ![4, 3072]⟩
abbrev S3072 : Shape := ⟨1, ![3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩

abbrev nBuf : Space → Nat
  | .hbm => 49
  | .vmem => 0
  | .smem => 0
  | _ => 0

abbrev bufTy : (tb : Table) → Fin (tcTables nBuf tb) → BufTy
  | .hbm, ⟨0, _⟩ => ⟨S2048x8224, .f32⟩
  | .hbm, ⟨1, _⟩ => ⟨S4x3072, .f32⟩
  | .hbm, ⟨2, _⟩ => ⟨S3072, .f32⟩
  | .hbm, ⟨3, _⟩ => ⟨S2048x3072, .f32⟩
  | .hbm, ⟨4, _⟩ => ⟨S_, .f32⟩
  | .hbm, ⟨5, _⟩ => ⟨S3x3072, .f32⟩
  | .hbm, ⟨6, _⟩ => ⟨S2051x3072, .f32⟩
  | .hbm, ⟨7, _⟩ => ⟨S2048x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S1x3072, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S2048x3072, .f32⟩
  | .hbm, ⟨42, _⟩ => ⟨S_, .f32⟩
  | .hbm, ⟨43, _⟩ => ⟨S2048x3072, .f32⟩
  | .hbm, ⟨44, _⟩ => ⟨S2048x3072, .f32⟩
  | .hbm, ⟨45, _⟩ => ⟨S_, .f32⟩
  | .hbm, ⟨46, _⟩ => ⟨S2048x3072, .f32⟩
  | .hbm, ⟨47, _⟩ => ⟨S2048x3072, .f32⟩
  | .hbm, ⟨48, _⟩ => ⟨S2048x3072, .f32⟩
  | _, _ => ⟨S2048x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== GateFwdKernel.lean ====
abbrev S2048x2048 : Shape := ⟨2, ![2048, 2048]⟩
abbrev S2048x8224 : Shape := ⟨2, ![2048, 8224]⟩
abbrev S2048 : Shape := ⟨1, ![2048]⟩
abbrev S2048x5120 : Shape := ⟨2, ![2048, 5120]⟩
abbrev S2048x7168 : Shape := ⟨2, ![2048, 7168]⟩
abbrev S1x2048 : Shape := ⟨2, ![1, 2048]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8224, .f32⟩
  | .hbm, ⟨2, _⟩ => ⟨S2048, .f32⟩
  | .hbm, ⟨3, _⟩ => ⟨S2048x5120, .f32⟩
  | .hbm, ⟨4, _⟩ => ⟨S2048x2048, .f32⟩
  | .hbm, ⟨5, _⟩ => ⟨S2048x7168, .f32⟩
  | .hbm, ⟨6, _⟩ => ⟨S1x2048, .f32⟩
  | .hbm, ⟨7, _⟩ => ⟨S2048x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateFwdReferenceIdeal.lean ====
abbrev S2048x2048 : Shape := ⟨2, ![2048, 2048]⟩
abbrev S2048x8224 : Shape := ⟨2, ![2048, 8224]⟩
abbrev S2048 : Shape := ⟨1, ![2048]⟩
abbrev S_ : Shape := ⟨0, ![]⟩
abbrev S2048x4x512 : Shape := ⟨3, ![2048, 4, 512]⟩
abbrev S2048x4 : Shape := ⟨2, ![2048, 4]⟩
abbrev S2048x4x1 : Shape := ⟨3, ![2048, 4, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8224, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x4x512, .f32⟩
  | .hbm, ⟨15, _⟩ => ⟨S2048x4x512, .f32⟩
  | .hbm, ⟨16, _⟩ => ⟨S_, .f32⟩
  | .hbm, ⟨17, _⟩ => ⟨S2048x4, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S_, .f32⟩
  | .hbm, ⟨23, _⟩ => ⟨S2048x4x1, .f32⟩
  | .hbm, ⟨24, _⟩ => ⟨S2048x4x1, .f32⟩
  | .hbm, ⟨25, _⟩ => ⟨S2048x4x1, .f32⟩
  | .hbm, ⟨26, _⟩ => ⟨S2048x4x512, .f32⟩
  | .hbm, ⟨27, _⟩ => ⟨S2048x4x512, .f32⟩
  | .hbm, ⟨28, _⟩ => ⟨S2048x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== RmsFwdKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsFwdReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResFwdKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== ResFwdReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MixResFwdKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== MixResFwdReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MergeFwdKernel.lean ====
abbrev S2048x8224 : Shape := ⟨2, ![2048, 8224]⟩
abbrev S2048x1024 : Shape := ⟨2, ![2048, 1024]⟩
abbrev S2048x5120 : Shape := ⟨2, ![2048, 5120]⟩
abbrev S2048x2048 : Shape := ⟨2, ![2048, 2048]⟩
abbrev S2048x7168 : Shape := ⟨2, ![2048, 7168]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x8224, .f32⟩
  | .hbm, ⟨1, _⟩ => ⟨S2048x1024, .f32⟩
  | .hbm, ⟨2, _⟩ => ⟨S2048x1024, .f32⟩
  | .hbm, ⟨3, _⟩ => ⟨S2048x5120, .f32⟩
  | .hbm, ⟨4, _⟩ => ⟨S2048x2048, .f32⟩
  | .hbm, ⟨5, _⟩ => ⟨S2048x7168, .f32⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x8224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== MergeFwdReferenceIdeal.lean ====
abbrev S2048x8224 : Shape := ⟨2, ![2048, 8224]⟩
abbrev S2048x1024 : Shape := ⟨2, ![2048, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x8224, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x8224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GluFwdKernel.lean ====
abbrev S2048x2048 : Shape := ⟨2, ![2048, 2048]⟩
abbrev S2048x1024 : Shape := ⟨2, ![2048, 1024]⟩
abbrev S512x1024 : Shape := ⟨2, ![512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== GluFwdReferenceIdeal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ParFwdKernel.lean ====
abbrev S2x64x64 : Shape := ⟨3, ![2, 64, 64]⟩
abbrev S2x64 : Shape := ⟨2, ![2, 64]⟩
abbrev S2x64x64x16 : Shape := ⟨4, ![2, 64, 64, 16]⟩
abbrev S128x64 : Shape := ⟨2, ![128, 64]⟩
abbrev S128x1 : Shape := ⟨2, ![128, 1]⟩
abbrev S128x1024 : Shape := ⟨2, ![128, 1024]⟩
abbrev S64x1024 : Shape := ⟨2, ![64, 1024]⟩

abbrev nBuf : Space → Nat
  | .hbm => 14
  | .vmem => 9
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S128x64, .f32⟩
  | .hbm, ⟨6, _⟩ => ⟨S128x64, .f32⟩
  | .hbm, ⟨7, _⟩ => ⟨S128x1, .f32⟩
  | .hbm, ⟨8, _⟩ => ⟨S128x1024, .f32⟩
  | .hbm, ⟨9, _⟩ => ⟨S128x1024, .f32⟩
  | .hbm, ⟨10, _⟩ => ⟨S128x64, .f32⟩
  | .hbm, ⟨11, _⟩ => ⟨S128x64, .f32⟩
  | .hbm, ⟨12, _⟩ => ⟨S128x1024, .f32⟩
  | .hbm, ⟨13, _⟩ => ⟨S128x1024, .f32⟩
  | .local _ .vmem, ⟨0, _⟩ => ⟨S128x64, .f32⟩
  | .local _ .vmem, ⟨1, _⟩ => ⟨S128x64, .f32⟩
  | .local _ .vmem, ⟨2, _⟩ => ⟨S128x1, .f32⟩
  | .local _ .vmem, ⟨3, _⟩ => ⟨S128x1024, .f32⟩
  | .local _ .vmem, ⟨4, _⟩ => ⟨S128x1024, .f32⟩
  | .local _ .vmem, ⟨5, _⟩ => ⟨S128x64, .f32⟩
  | .local _ .vmem, ⟨6, _⟩ => ⟨S128x64, .f32⟩
  | .local _ .vmem, ⟨7, _⟩ => ⟨S128x1024, .f32⟩
  | .local _ .vmem, ⟨8, _⟩ => ⟨S128x1024, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ParFwdReferenceIdeal.lean ====
abbrev S2x64x64 : Shape := ⟨3, ![2, 64, 64]⟩
abbrev S2x64 : Shape := ⟨2, ![2, 64]⟩
abbrev S2x64x64x16 : Shape := ⟨4, ![2, 64, 64, 16]⟩
abbrev S_ : Shape := ⟨0, ![]⟩
abbrev S2x64x1 : Shape := ⟨3, ![2, 64, 1]⟩
abbrev S2x64x64x1 : Shape := ⟨4, ![2, 64, 64, 1]⟩
abbrev S128x64 : Shape := ⟨2, ![128, 64]⟩
abbrev S128x1024 : Shape := ⟨2, ![128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64, .f32⟩
  | .hbm, ⟨3, _⟩ => ⟨S2x64x64x16, .f32⟩
  | .hbm, ⟨4, _⟩ => ⟨S2x64x64x16, .f32⟩
  | .hbm, ⟨5, _⟩ => ⟨S_, .f32⟩
  | .hbm, ⟨6, _⟩ => ⟨S2x64x64, .f32⟩
  | .hbm, ⟨7, _⟩ => ⟨S2x64x64, .f32⟩
  | .hbm, ⟨8, _⟩ => ⟨S2x64, .f32⟩
  | .hbm, ⟨9, _⟩ => ⟨S2x64x1, .f32⟩
  | .hbm, ⟨10, _⟩ => ⟨S2x64x64, .f32⟩
  | .hbm, ⟨11, _⟩ => ⟨S2x64x64, .f32⟩
  | .hbm, ⟨12, _⟩ => ⟨S2x64x64, .f32⟩
  | .hbm, ⟨13, _⟩ => ⟨S2x64x64, .f32⟩
  | .hbm, ⟨14, _⟩ => ⟨S2x64x64, .f32⟩
  | .hbm, ⟨15, _⟩ => ⟨S2x64x64, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S2x64x64, .f32⟩
  | .hbm, ⟨20, _⟩ => ⟨S2x64x64, .f32⟩
  | .hbm, ⟨21, _⟩ => ⟨S2x64x64, .f32⟩
  | .hbm, ⟨22, _⟩ => ⟨S_, .f32⟩
  | .hbm, ⟨23, _⟩ => ⟨S2x64x64, .f32⟩
  | .hbm, ⟨24, _⟩ => ⟨S2x64x64, .f32⟩
  | .hbm, ⟨25, _⟩ => ⟨S2x64x64, .f32⟩
  | .hbm, ⟨26, _⟩ => ⟨S2x64x64, .f32⟩
  | .hbm, ⟨27, _⟩ => ⟨S2x64x64, .f32⟩
  | .hbm, ⟨28, _⟩ => ⟨S2x64x64, .f32⟩
  | .hbm, ⟨29, _⟩ => ⟨S2x64x64, .f32⟩
  | .hbm, ⟨30, _⟩ => ⟨S_, .f32⟩
  | .hbm, ⟨31, _⟩ => ⟨S2x64x64, .f32⟩
  | .hbm, ⟨32, _⟩ => ⟨S2x64x64, .f32⟩
  | .hbm, ⟨33, _⟩ => ⟨S2x64x64, .f32⟩
  | .hbm, ⟨34, _⟩ => ⟨S2x64x64, .f32⟩
  | .hbm, ⟨35, _⟩ => ⟨S2x64x64, .f32⟩
  | .hbm, ⟨36, _⟩ => ⟨S2x64x64x1, .f32⟩
  | .hbm, ⟨37, _⟩ => ⟨S2x64x64x16, .f32⟩
  | .hbm, ⟨38, _⟩ => ⟨S2x64x64x16, .f32⟩
  | .hbm, ⟨39, _⟩ => ⟨S2x64x64x1, .f32⟩
  | .hbm, ⟨40, _⟩ => ⟨S2x64x64x16, .f32⟩
  | .hbm, ⟨41, _⟩ => ⟨S2x64x64x16, .f32⟩
  | .hbm, ⟨42, _⟩ => ⟨S2x64x64x16, .f32⟩
  | .hbm, ⟨43, _⟩ => ⟨S2x64x64x1, .f32⟩
  | .hbm, ⟨44, _⟩ => ⟨S2x64x64x16, .f32⟩
  | .hbm, ⟨45, _⟩ => ⟨S2x64x64x16, .f32⟩
  | .hbm, ⟨46, _⟩ => ⟨S2x64x64x1, .f32⟩
  | .hbm, ⟨47, _⟩ => ⟨S2x64x64x16, .f32⟩
  | .hbm, ⟨48, _⟩ => ⟨S2x64x64x16, .f32⟩
  | .hbm, ⟨49, _⟩ => ⟨S2x64x64x16, .f32⟩
  | .hbm, ⟨50, _⟩ => ⟨S128x64, .f32⟩
  | .hbm, ⟨51, _⟩ => ⟨S128x64, .f32⟩
  | .hbm, ⟨52, _⟩ => ⟨S128x1024, .f32⟩
  | .hbm, ⟨53, _⟩ => ⟨S128x1024, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== UpKernel.lean ====
abbrev S2048x1024 : Shape := ⟨2, ![2048, 1024]⟩
abbrev S1024x2816 : Shape := ⟨2, ![1024, 2816]⟩
abbrev S2816x1024 : Shape := ⟨2, ![2816, 1024]⟩
abbrev S4x1x704x1024 : Shape := ⟨4, ![4, 1, 704, 1024]⟩
abbrev S4x2x2048x704 : Shape := ⟨4, ![4, 2, 2048, 704]⟩
abbrev S4x2048x704 : Shape := ⟨3, ![4, 2048, 704]⟩
abbrev S1024x1024 : Shape := ⟨2, ![1024, 1024]⟩
abbrev S1x1x704x1024 : Shape := ⟨4, ![1, 1, 704, 1024]⟩
abbrev S1x2x1024x704 : Shape := ⟨4, ![1, 2, 1024, 704]⟩
abbrev S1x1024x704 : Shape := ⟨3, ![1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 12
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x1024, .bf16⟩
  | .hbm, ⟨4, _⟩ => ⟨S2816x1024, .f32⟩
  | .hbm, ⟨5, _⟩ => ⟨S2816x1024, .bf16⟩
  | .hbm, ⟨6, _⟩ => ⟨S4x1x704x1024, .bf16⟩
  | .hbm, ⟨7, _⟩ => ⟨S2816x1024, .f32⟩
  | .hbm, ⟨8, _⟩ => ⟨S2816x1024, .bf16⟩
  | .hbm, ⟨9, _⟩ => ⟨S4x1x704x1024, .bf16⟩
  | .hbm, ⟨10, _⟩ => ⟨S4x2x2048x704, .bf16⟩
  | .hbm, ⟨11, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x2x1024x704, .bf16⟩
  | .local _ .vmem, ⟨7, _⟩ => ⟨S1x2x1024x704, .bf16⟩
  | .local _ .vmem, ⟨8, _⟩ => ⟨S1x1024x704, .bf16⟩
  | .local _ .vmem, ⟨9, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpReferenceIdeal.lean ====
abbrev S2048x1024 : Shape := ⟨2, ![2048, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x4x704, .f32⟩
  | .hbm, ⟨6, _⟩ => ⟨S4x2048x704, .f32⟩
  | .hbm, ⟨7, _⟩ => ⟨S2048x4x704, .f32⟩
  | .hbm, ⟨8, _⟩ => ⟨S4x2048x704, .f32⟩
  | .hbm, ⟨9, _⟩ => ⟨S4x1x2048x704, .f32⟩
  | .hbm, ⟨10, _⟩ => ⟨S4x1x2048x704, .f32⟩
  | .hbm, ⟨11, _⟩ => ⟨S4x2x2048x704, .f32⟩
  | .hbm, ⟨12, _⟩ => ⟨S4x2x2048x704, .bf16⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x4x704, .f32⟩
  | .hbm, ⟨24, _⟩ => ⟨S4x2048x704, .f32⟩
  | .hbm, ⟨25, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== InKernel.lean ====
abbrev S2048x1024 : Shape := ⟨2, ![2048, 1024]⟩
abbrev S1024x7168 : Shape := ⟨2, ![1024, 7168]⟩
abbrev S2048x7168 : Shape := ⟨2, ![2048, 7168]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x1024, .bf16⟩
  | .hbm, ⟨3, _⟩ => ⟨S1024x7168, .bf16⟩
  | .hbm, ⟨4, _⟩ => ⟨S2048x7168, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 14, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2048x1024 : Shape := ⟨2, ![2048, 1024]⟩
abbrev S1024x7168 : Shape := ⟨2, ![1024, 7168]⟩
abbrev S2048x7168 : Shape := ⟨2, ![2048, 7168]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownKernel.lean ====
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S4x1x704x1024 : Shape := ⟨4, ![4, 1, 704, 1024]⟩
abbrev S2048x1024 : Shape := ⟨2, ![2048, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2816x1024, .bf16⟩
  | .hbm, ⟨6, _⟩ => ⟨S4x1x704x1024, .bf16⟩
  | .hbm, ⟨7, _⟩ => ⟨S2048x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDwKernel.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x1x704x1024 : Shape := ⟨4, ![4, 1, 704, 1024]⟩
abbrev S1x2048x704 : Shape := ⟨3, ![1, 2048, 704]⟩
abbrev S2048x512 : Shape := ⟨2, ![2048, 512]⟩
abbrev S1x1x704x512 : Shape := ⟨4, ![1, 1, 704, 512]⟩
abbrev S704x512 : Shape := ⟨2, ![704, 512]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S2048x1024, .bf16⟩
  | .hbm, ⟨6, _⟩ => ⟨S4x1x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .bf16⟩
  | .local _ .vmem, ⟨3, _⟩ => ⟨S2048x512, .bf16⟩
  | .local _ .vmem, ⟨4, _⟩ => ⟨S1x1x704x512, .bf16⟩
  | .local _ .vmem, ⟨5, _⟩ => ⟨S1x1x704x512, .bf16⟩
  | .local _ .vmem, ⟨6, _⟩ => ⟨S704x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x2816 : Shape := ⟨2, ![2048, 2816]⟩
abbrev S2048x1024 : Shape := ⟨2, ![2048, 1024]⟩
abbrev S2816x2048 : Shape := ⟨2, ![2816, 2048]⟩
abbrev S2816x1024 : Shape := ⟨2, ![2816, 1024]⟩
abbrev S4x1x704x1024 : Shape := ⟨4, ![4, 1, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2816x2048, .f32⟩
  | .hbm, ⟨3, _⟩ => ⟨S2816x1024, .f32⟩
  | .hbm, ⟨4, _⟩ => ⟨S2816x1024, .bf16⟩
  | .hbm, ⟨5, _⟩ => ⟨S4x1x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDxKernel.lean ====
abbrev S2048x2816 : Shape := ⟨2, ![2048, 2816]⟩
abbrev S1024x2816 : Shape := ⟨2, ![1024, 2816]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S2816x1024 : Shape := ⟨2, ![2816, 1024]⟩
abbrev S4x1x704x1024 : Shape := ⟨4, ![4, 1, 704, 1024]⟩
abbrev S2048x1024 : Shape := ⟨2, ![2048, 1024]⟩
abbrev S1x2x1024x704 : Shape := ⟨4, ![1, 2, 1024, 704]⟩
abbrev S1x1x704x1024 : Shape := ⟨4, ![1, 1, 704, 1024]⟩
abbrev S1024x1024 : Shape := ⟨2, ![1024, 1024]⟩
abbrev S1x1x1024x704 : Shape := ⟨4, ![1, 1, 1024, 704]⟩
abbrev S1024x704 : Shape := ⟨2, ![1024, 704]⟩
abbrev S704x1024 : Shape := ⟨2, ![704, 1024]⟩

abbrev nBuf : Space → Nat
  | .hbm => 19
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2048x4x704, .f32⟩
  | .hbm, ⟨5, _⟩ => ⟨S4x2048x704, .f32⟩
  | .hbm, ⟨6, _⟩ => ⟨S2048x4x704, .f32⟩
  | .hbm, ⟨7, _⟩ => ⟨S4x2048x704, .f32⟩
  | .hbm, ⟨8, _⟩ => ⟨S4x1x2048x704, .f32⟩
  | .hbm, ⟨9, _⟩ => ⟨S4x1x2048x704, .f32⟩
  | .hbm, ⟨10, _⟩ => ⟨S4x2x2048x704, .f32⟩
  | .hbm, ⟨11, _⟩ => ⟨S4x2x2048x704, .bf16⟩
  | .hbm, ⟨12, _⟩ => ⟨S2816x1024, .f32⟩
  | .hbm, ⟨13, _⟩ => ⟨S2816x1024, .bf16⟩
  | .hbm, ⟨14, _⟩ => ⟨S4x1x704x1024, .bf16⟩
  | .hbm, ⟨15, _⟩ => ⟨S2816x1024, .f32⟩
  | .hbm, ⟨16, _⟩ => ⟨S2816x1024, .bf16⟩
  | .hbm, ⟨17, _⟩ => ⟨S4x1x704x1024, .bf16⟩
  | .hbm, ⟨18, _⟩ => ⟨S2048x1024, .f32⟩
  | .local _ .vmem, ⟨0, _⟩ => ⟨S1x2x1024x704, .bf16⟩
  | .local _ .vmem, ⟨1, _⟩ => ⟨S1x2x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1024x1024, .f32⟩
  | .local _ .vmem, ⟨7, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpDxReferenceIdeal.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2816x1024, .f32⟩
  | .hbm, ⟨7, _⟩ => ⟨S2048x1024, .f32⟩
  | .hbm, ⟨8, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpDwKernel.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x1x2048x704 : Shape := ⟨4, ![4, 1, 2048, 704]⟩
abbrev S4x2x2048x704 : Shape := ⟨4, ![4, 2, 2048, 704]⟩
abbrev S4x1x704x1024 : Shape := ⟨4, ![4, 1, 704, 1024]⟩
abbrev S1x2x2048x704 : Shape := ⟨4, ![1, 2, 2048, 704]⟩
abbrev S1x1x704x1024 : Shape := ⟨4, ![1, 1, 704, 1024]⟩
abbrev S1x1x2048x704 : Shape := ⟨4, ![1, 1, 2048, 704]⟩
abbrev S2048x704 : Shape := ⟨2, ![2048, 704]⟩
abbrev S704x1024 : Shape := ⟨2, ![704, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x4x704, .f32⟩
  | .hbm, ⟨4, _⟩ => ⟨S4x2048x704, .f32⟩
  | .hbm, ⟨5, _⟩ => ⟨S2048x4x704, .f32⟩
  | .hbm, ⟨6, _⟩ => ⟨S4x2048x704, .f32⟩
  | .hbm, ⟨7, _⟩ => ⟨S4x1x2048x704, .f32⟩
  | .hbm, ⟨8, _⟩ => ⟨S4x1x2048x704, .f32⟩
  | .hbm, ⟨9, _⟩ => ⟨S4x2x2048x704, .f32⟩
  | .hbm, ⟨10, _⟩ => ⟨S4x2x2048x704, .bf16⟩
  | .hbm, ⟨11, _⟩ => ⟨S2048x1024, .bf16⟩
  | .hbm, ⟨12, _⟩ => ⟨S4x1x704x1024, .bf16⟩
  | .hbm, ⟨13, _⟩ => ⟨S4x1x704x1024, .bf16⟩
  | .local _ .vmem, ⟨0, _⟩ => ⟨S2048x1024, .bf16⟩
  | .local _ .vmem, ⟨1, _⟩ => ⟨S1x2x2048x704, .bf16⟩
  | .local _ .vmem, ⟨2, _⟩ => ⟨S1x2x2048x704, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpDwReferenceIdeal.lean ====
abbrev S2048x1024 : Shape := ⟨2, ![2048, 1024]⟩
abbrev S2048x2816 : Shape := ⟨2, ![2048, 2816]⟩
abbrev S2816x2048 : Shape := ⟨2, ![2816, 2048]⟩
abbrev S2816x1024 : Shape := ⟨2, ![2816, 1024]⟩
abbrev S4x1x704x1024 : Shape := ⟨4, ![4, 1, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2816x2048, .f32⟩
  | .hbm, ⟨4, _⟩ => ⟨S2816x1024, .f32⟩
  | .hbm, ⟨5, _⟩ => ⟨S2816x1024, .bf16⟩
  | .hbm, ⟨6, _⟩ => ⟨S4x1x704x1024, .bf16⟩
  | .hbm, ⟨7, _⟩ => ⟨S2816x2048, .f32⟩
  | .hbm, ⟨8, _⟩ => ⟨S2816x1024, .f32⟩
  | .hbm, ⟨9, _⟩ => ⟨S2816x1024, .bf16⟩
  | .hbm, ⟨10, _⟩ => ⟨S4x1x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SlotsKernel.lean ====
abbrev S8x296x1024 : Shape := ⟨3, ![8, 296, 1024]⟩
abbrev S296x1024 : Shape := ⟨2, ![296, 1024]⟩
abbrev S1x296x1024 : Shape := ⟨3, ![1, 296, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x296x1024, .f32⟩
  | .hbm, ⟨1, _⟩ => ⟨S296x1024, .f32⟩
  | .local _ .vmem, ⟨0, _⟩ => ⟨S8x296x1024, .f32⟩
  | .local _ .vmem, ⟨1, _⟩ => ⟨S296x1024, .f32⟩
  | _, _ => ⟨S8x296x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x296x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S296x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotsReferenceIdeal.lean ====
abbrev S8x296x1024 : Shape := ⟨3, ![8, 296, 1024]⟩
abbrev S_ : Shape := ⟨0, ![]⟩
abbrev S296x1024 : Shape := ⟨2, ![296, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x296x1024, .f32⟩
  | .hbm, ⟨1, _⟩ => ⟨S_, .f32⟩
  | .hbm, ⟨2, _⟩ => ⟨S296x1024, .f32⟩
  | _, _ => ⟨S8x296x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamKernel.lean ====
abbrev S2x1024x1028 : Shape := ⟨3, ![2, 1024, 1028]⟩
abbrev S4x1x1024x1028 : Shape := ⟨4, ![4, 1, 1024, 1028]⟩
abbrev S1x256x1028 : Shape := ⟨3, ![1, 256, 1028]⟩
abbrev S4x1x256x1028 : Shape := ⟨4, ![4, 1, 256, 1028]⟩
abbrev S1x1x256x1028 : Shape := ⟨4, ![1, 1, 256, 1028]⟩
abbrev S256x1028 : Shape := ⟨2, ![256, 1028]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x1028, .f32⟩
  | .hbm, ⟨1, _⟩ => ⟨S4x1x1024x1028, .f32⟩
  | .hbm, ⟨2, _⟩ => ⟨S4x1x1024x1028, .f32⟩
  | .hbm, ⟨3, _⟩ => ⟨S2x1024x1028, .f32⟩
  | .hbm, ⟨4, _⟩ => ⟨S2x1024x1028, .f32⟩
  | .hbm, ⟨5, _⟩ => ⟨S4x1x1024x1028, .bf16⟩
  | .hbm, ⟨6, _⟩ => ⟨S4x1x1024x1028, .bf16⟩
  | .hbm, ⟨7, _⟩ => ⟨S2x1024x1028, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .local _ .vmem, ⟨0, _⟩ => ⟨S1x256x1028, .f32⟩
  | .local _ .vmem, ⟨1, _⟩ => ⟨S1x256x1028, .f32⟩
  | .local _ .vmem, ⟨2, _⟩ => ⟨S4x1x256x1028, .bf16⟩
  | .local _ .vmem, ⟨3, _⟩ => ⟨S4x1x256x1028, .bf16⟩
  | .local _ .vmem, ⟨4, _⟩ => ⟨S4x1x256x1028, .bf16⟩
  | .local _ .vmem, ⟨5, _⟩ => ⟨S4x1x256x1028, .bf16⟩
  | .local _ .vmem, ⟨6, _⟩ => ⟨S1x256x1028, .f32⟩
  | .local _ .vmem, ⟨7, _⟩ => ⟨S1x256x1028, .f32⟩
  | .local _ .vmem, ⟨8, _⟩ => ⟨S1x256x1028, .f32⟩
  | .local _ .vmem, ⟨9, _⟩ => ⟨S1x256x1028, .f32⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x1028 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamReferenceIdeal.lean ====
abbrev S2x1024x1028 : Shape := ⟨3, ![2, 1024, 1028]⟩
abbrev S4x1x1024x1028 : Shape := ⟨4, ![4, 1, 1024, 1028]⟩
abbrev S4x1024x1028 : Shape := ⟨3, ![4, 1024, 1028]⟩
abbrev S_ : Shape := ⟨0, ![]⟩
abbrev S1024x1028 : Shape := ⟨2, ![1024, 1028]⟩
abbrev S1x1024x1028 : Shape := ⟨3, ![1, 1024, 1028]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S4x1x1024x1028, .f32⟩
  | .hbm, ⟨2, _⟩ => ⟨S4x1x1024x1028, .f32⟩
  | .hbm, ⟨3, _⟩ => ⟨S2x1024x1028, .f32⟩
  | .hbm, ⟨4, _⟩ => ⟨S2x1024x1028, .f32⟩
  | .hbm, ⟨5, _⟩ => ⟨S4x1024x1028, .f32⟩
  | .hbm, ⟨6, _⟩ => ⟨S_, .f32⟩
  | .hbm, ⟨7, _⟩ => ⟨S1024x1028, .f32⟩
  | .hbm, ⟨8, _⟩ => ⟨S4x1024x1028, .f32⟩
  | .hbm, ⟨9, _⟩ => ⟨S_, .f32⟩
  | .hbm, ⟨10, _⟩ => ⟨S1024x1028, .f32⟩
  | .hbm, ⟨11, _⟩ => ⟨S1x1024x1028, .f32⟩
  | .hbm, ⟨12, _⟩ => ⟨S1x1024x1028, .f32⟩
  | .hbm, ⟨13, _⟩ => ⟨S2x1024x1028, .f32⟩
  | .hbm, ⟨14, _⟩ => ⟨S_, .f32⟩
  | .hbm, ⟨15, _⟩ => ⟨S2x1024x1028, .f32⟩
  | .hbm, ⟨16, _⟩ => ⟨S2x1024x1028, .f32⟩
  | .hbm, ⟨17, _⟩ => ⟨S_, .f32⟩
  | .hbm, ⟨18, _⟩ => ⟨S2x1024x1028, .f32⟩
  | .hbm, ⟨19, _⟩ => ⟨S2x1024x1028, .f32⟩
  | .hbm, ⟨20, _⟩ => ⟨S2x1024x1028, .f32⟩
  | .hbm, ⟨21, _⟩ => ⟨S_, .f32⟩
  | .hbm, ⟨22, _⟩ => ⟨S2x1024x1028, .f32⟩
  | .hbm, ⟨23, _⟩ => ⟨S2x1024x1028, .f32⟩
  | .hbm, ⟨24, _⟩ => ⟨S2x1024x1028, .f32⟩
  | .hbm, ⟨25, _⟩ => ⟨S_, .f32⟩
  | .hbm, ⟨26, _⟩ => ⟨S2x1024x1028, .f32⟩
  | .hbm, ⟨27, _⟩ => ⟨S2x1024x1028, .f32⟩
  | .hbm, ⟨28, _⟩ => ⟨S2x1024x1028, .f32⟩
  | .hbm, ⟨29, _⟩ => ⟨S_, .f32⟩
  | .hbm, ⟨30, _⟩ => ⟨S2x1024x1028, .f32⟩
  | .hbm, ⟨31, _⟩ => ⟨S2x1024x1028, .f32⟩
  | .hbm, ⟨32, _⟩ => ⟨S_, .f32⟩
  | .hbm, ⟨33, _⟩ => ⟨S2x1024x1028, .f32⟩
  | .hbm, ⟨34, _⟩ => ⟨S2x1024x1028, .f32⟩
  | .hbm, ⟨35, _⟩ => ⟨S2x1024x1028, .f32⟩
  | .hbm, ⟨36, _⟩ => ⟨S_, .f32⟩
  | .hbm, ⟨37, _⟩ => ⟨S2x1024x1028, .f32⟩
  | .hbm, ⟨38, _⟩ => ⟨S2x1024x1028, .f32⟩
  | .hbm, ⟨39, _⟩ => ⟨S2x1024x1028, .f32⟩
  | .hbm, ⟨40, _⟩ => ⟨S_, .f32⟩
  | .hbm, ⟨41, _⟩ => ⟨S2x1024x1028, .f32⟩
  | .hbm, ⟨42, _⟩ => ⟨S2x1024x1028, .f32⟩
  | .hbm, ⟨43, _⟩ => ⟨S2x1024x1028, .f32⟩
  | .hbm, ⟨44, _⟩ => ⟨S_, .f32⟩
  | .hbm, ⟨45, _⟩ => ⟨S2x1024x1028, .f32⟩
  | .hbm, ⟨46, _⟩ => ⟨S2x1024x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== SsdFwdKernel.lean ====
abbrev S2048x3072 : Shape := ⟨2, ![2048, 3072]⟩
abbrev S2048x32 : Shape := ⟨2, ![2048, 32]⟩
abbrev S32 : Shape := ⟨1, ![32]⟩
abbrev S2048x4x8 : Shape := ⟨3, ![2048, 4, 8]⟩
abbrev S4x2048x8 : Shape := ⟨3, ![4, 2048, 8]⟩
abbrev S_ : Shape := ⟨0, ![]⟩
abbrev S4x2048x128 : Shape := ⟨3, ![4, 2048, 128]⟩
abbrev S4x1x8 : Shape := ⟨3, ![4, 1, 8]⟩
abbrev S4x1x128 : Shape := ⟨3, ![4, 1, 128]⟩
abbrev S4x8x128 : Shape := ⟨3, ![4, 8, 128]⟩
abbrev S2048x2048 : Shape := ⟨2, ![2048, 2048]⟩
abbrev S8x4x2x256x128 : Shape := ⟨5, ![8, 4, 2, 256, 128]⟩
abbrev S256x2048 : Shape := ⟨2, ![256, 2048]⟩
abbrev S256x512 : Shape := ⟨2, ![256, 512]⟩
abbrev S4x256x128 : Shape := ⟨3, ![4, 256, 128]⟩
abbrev S1x4x2x256x128 : Shape := ⟨5, ![1, 4, 2, 256, 128]⟩
abbrev S4x2x256x128 : Shape := ⟨4, ![4, 2, 256, 128]⟩
abbrev S256x256 : Shape := ⟨2, ![256, 256]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S1x1x256x128 : Shape := ⟨4, ![1, 1, 256, 128]⟩
abbrev S128x256 : Shape := ⟨2, ![128, 256]⟩
abbrev S128 : Shape := ⟨1, ![128]⟩
abbrev S1x128 : Shape := ⟨2, ![1, 128]⟩
abbrev S1x256 : Shape := ⟨2, ![1, 256]⟩
abbrev S8x256 : Shape := ⟨2, ![8, 256]⟩
abbrev S256 : Shape := ⟨1, ![256]⟩
abbrev S256x1 : Shape := ⟨2, ![256, 1]⟩
abbrev S256x8 : Shape := ⟨2, ![256, 8]⟩

abbrev nBuf : Space → Nat
  | .hbm => 27
  | .vmem => 16
  | .smem => 0
  | _ => 0

abbrev bufTy : (tb : Table) → Fin (tcTables nBuf tb) → BufTy
  | .hbm, ⟨0, _⟩ => ⟨S2048x3072, .f32⟩
  | .hbm, ⟨1, _⟩ => ⟨S2048x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048x4x8, .f32⟩
  | .hbm, ⟨6, _⟩ => ⟨S4x2048x8, .f32⟩
  | .hbm, ⟨7, _⟩ => ⟨S_, .i32⟩
  | .hbm, ⟨8, _⟩ => ⟨S_, .f32⟩
  | .hbm, ⟨9, _⟩ => ⟨S4x2048x128, .f32⟩
  | .hbm, ⟨10, _⟩ => ⟨S4x1x8, .f32⟩
  | .hbm, ⟨11, _⟩ => ⟨S_, .i32⟩
  | .hbm, ⟨12, _⟩ => ⟨S_, .f32⟩
  | .hbm, ⟨13, _⟩ => ⟨S4x1x128, .f32⟩
  | .hbm, ⟨14, _⟩ => ⟨S4x8x128, .f32⟩
  | .hbm, ⟨15, _⟩ => ⟨S4x1x8, .f32⟩
  | .hbm, ⟨16, _⟩ => ⟨S_, .i32⟩
  | .hbm, ⟨17, _⟩ => ⟨S_, .f32⟩
  | .hbm, ⟨18, _⟩ => ⟨S4x1x128, .f32⟩
  | .hbm, ⟨19, _⟩ => ⟨S4x8x128, .f32⟩
  | .hbm, ⟨20, _⟩ => ⟨S4x1x8, .f32⟩
  | .hbm, ⟨21, _⟩ => ⟨S_, .i32⟩
  | .hbm, ⟨22, _⟩ => ⟨S_, .f32⟩
  | .hbm, ⟨23, _⟩ => ⟨S4x1x128, .f32⟩
  | .hbm, ⟨24, _⟩ => ⟨S4x8x128, .f32⟩
  | .hbm, ⟨25, _⟩ => ⟨S2048x2048, .f32⟩
  | .hbm, ⟨26, _⟩ => ⟨S8x4x2x256x128, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x256x128, .f32⟩
  | .local _ .vmem, ⟨7, _⟩ => ⟨S4x256x128, .f32⟩
  | .local _ .vmem, ⟨8, _⟩ => ⟨S4x8x128, .f32⟩
  | .local _ .vmem, ⟨9, _⟩ => ⟨S4x8x128, .f32⟩
  | .local _ .vmem, ⟨10, _⟩ => ⟨S4x8x128, .f32⟩
  | .local _ .vmem, ⟨11, _⟩ => ⟨S256x2048, .f32⟩
  | .local _ .vmem, ⟨12, _⟩ => ⟨S256x2048, .f32⟩
  | .local _ .vmem, ⟨13, _⟩ => ⟨S1x4x2x256x128, .f32⟩
  | .local _ .vmem, ⟨14, _⟩ => ⟨S1x4x2x256x128, .f32⟩
  | .local _ .vmem, ⟨15, _⟩ => ⟨S4x2x256x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdFwdReferenceIdeal.lean ====
abbrev S2048x3072 : Shape := ⟨2, ![2048, 3072]⟩
abbrev S2048x32 : Shape := ⟨2, ![2048, 32]⟩
abbrev S32 : Shape := ⟨1, ![32]⟩
abbrev S2048x2048 : Shape := ⟨2, ![2048, 2048]⟩
abbrev S2048x32x64 : Shape := ⟨3, ![2048, 32, 64]⟩
abbrev S2048x512 : Shape := ⟨2, ![2048, 512]⟩
abbrev S2048x4x128 : Shape := ⟨3, ![2048, 4, 128]⟩
abbrev S1x32 : Shape := ⟨2, ![1, 32]⟩
abbrev S_ : Shape := ⟨0, ![]⟩
abbrev S2048x32x1 : Shape := ⟨3, ![2048, 32, 1]⟩
abbrev S2048x4x8x64 : Shape := ⟨4, ![2048, 4, 8, 64]⟩
abbrev S2048x4x8 : Shape := ⟨3, ![2048, 4, 8]⟩
abbrev S2048x1x4x8 : Shape := ⟨4, ![2048, 1, 4, 8]⟩
abbrev S1x2048x4x8 : Shape := ⟨4, ![1, 2048, 4, 8]⟩
abbrev S2048x2048x4x8 : Shape := ⟨4, ![2048, 2048, 4, 8]⟩
abbrev S2048 : Shape := ⟨1, ![2048]⟩
abbrev S2048x1 : Shape := ⟨2, ![2048, 1]⟩
abbrev S1x2048 : Shape := ⟨2, ![1, 2048]⟩
abbrev S2048x2048x1x1 : Shape := ⟨4, ![2048, 2048, 1, 1]⟩
abbrev S4x2048x2048 : Shape := ⟨3, ![4, 2048, 2048]⟩
abbrev S2048x2048x4 : Shape := ⟨3, ![2048, 2048, 4]⟩
abbrev S2048x2048x4x1 : Shape := ⟨4, ![2048, 2048, 4, 1]⟩
abbrev S4x8x64x2048 : Shape := ⟨4, ![4, 8, 64, 2048]⟩
abbrev S32x1 : Shape := ⟨2, ![32, 1]⟩
abbrev S1x32x1 : Shape := ⟨3, ![1, 32, 1]⟩
abbrev S8x256x4x8 : Shape := ⟨4, ![8, 256, 4, 8]⟩
abbrev S8x1x4x8 : Shape := ⟨4, ![8, 1, 4, 8]⟩
abbrev S8x256 : Shape := ⟨2, ![8, 256]⟩
abbrev S8x1 : Shape := ⟨2, ![8, 1]⟩
abbrev S8x2048 : Shape := ⟨2, ![8, 2048]⟩
abbrev S8x2048x1x1 : Shape := ⟨4, ![8, 2048, 1, 1]⟩
abbrev S8x2048x4x8 : Shape := ⟨4, ![8, 2048, 4, 8]⟩
abbrev S8x2048x4x8x1 : Shape := ⟨5, ![8, 2048, 4, 8, 1]⟩
abbrev S1x2048x4x8x64 : Shape := ⟨5, ![1, 2048, 4, 8, 64]⟩
abbrev S8x2048x4x8x64 : Shape := ⟨5, ![8, 2048, 4, 8, 64]⟩
abbrev S4x128x8x8x64 : Shape := ⟨5, ![4, 128, 8, 8, 64]⟩
abbrev S8x4x8x64x128 : Shape := ⟨5, ![8, 4, 8, 64, 128]⟩
abbrev S8x4x2x256x128 : Shape := ⟨5, ![8, 4, 2, 256, 128]⟩

abbrev nBuf : Space → Nat
  | .hbm => 104
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048x2048, .f32⟩
  | .hbm, ⟨6, _⟩ => ⟨S2048x32x64, .f32⟩
  | .hbm, ⟨7, _⟩ => ⟨S2048x512, .f32⟩
  | .hbm, ⟨8, _⟩ => ⟨S2048x4x128, .f32⟩
  | .hbm, ⟨9, _⟩ => ⟨S2048x512, .f32⟩
  | .hbm, ⟨10, _⟩ => ⟨S2048x4x128, .f32⟩
  | .hbm, ⟨11, _⟩ => ⟨S1x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .i1⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S32, .f32⟩
  | .hbm, ⟨29, _⟩ => ⟨S32, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x32x1, .f32⟩
  | .hbm, ⟨34, _⟩ => ⟨S2048x32x64, .f32⟩
  | .hbm, ⟨35, _⟩ => ⟨S2048x32x64, .f32⟩
  | .hbm, ⟨36, _⟩ => ⟨S2048x4x8x64, .f32⟩
  | .hbm, ⟨37, _⟩ => ⟨S2048x4x8, .f32⟩
  | .hbm, ⟨38, _⟩ => ⟨S_, .f32⟩
  | .hbm, ⟨39, _⟩ => ⟨S_, .f32⟩
  | .hbm, ⟨40, _⟩ => ⟨S2048x4x8, .f32⟩
  | .hbm, ⟨41, _⟩ => ⟨S2048x1x4x8, .f32⟩
  | .hbm, ⟨42, _⟩ => ⟨S1x2048x4x8, .f32⟩
  | .hbm, ⟨43, _⟩ => ⟨S2048x2048x4x8, .f32⟩
  | .hbm, ⟨44, _⟩ => ⟨S2048x2048x4x8, .f32⟩
  | .hbm, ⟨45, _⟩ => ⟨S2048x2048x4x8, .f32⟩
  | .hbm, ⟨46, _⟩ => ⟨S2048, .i32⟩
  | .hbm, ⟨47, _⟩ => ⟨S2048x1, .i32⟩
  | .hbm, ⟨48, _⟩ => ⟨S2048, .i32⟩
  | .hbm, ⟨49, _⟩ => ⟨S1x2048, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S2048x2048x1x1, .i1⟩
  | .hbm, ⟨54, _⟩ => ⟨S_, .f32⟩
  | .hbm, ⟨55, _⟩ => ⟨S_, .f32⟩
  | .hbm, ⟨56, _⟩ => ⟨S2048x2048x4x8, .i1⟩
  | .hbm, ⟨57, _⟩ => ⟨S2048x2048x4x8, .f32⟩
  | .hbm, ⟨58, _⟩ => ⟨S2048x2048x4x8, .f32⟩
  | .hbm, ⟨59, _⟩ => ⟨S2048x2048x4x8, .f32⟩
  | .hbm, ⟨60, _⟩ => ⟨S4x2048x2048, .f32⟩
  | .hbm, ⟨61, _⟩ => ⟨S2048x2048x4, .f32⟩
  | .hbm, ⟨62, _⟩ => ⟨S2048x2048x4x1, .f32⟩
  | .hbm, ⟨63, _⟩ => ⟨S2048x2048x4x8, .f32⟩
  | .hbm, ⟨64, _⟩ => ⟨S2048x2048x4x8, .f32⟩
  | .hbm, ⟨65, _⟩ => ⟨S4x8x64x2048, .f32⟩
  | .hbm, ⟨66, _⟩ => ⟨S2048x4x8x64, .f32⟩
  | .hbm, ⟨67, _⟩ => ⟨S2048x32x64, .f32⟩
  | .hbm, ⟨68, _⟩ => ⟨S32x1, .f32⟩
  | .hbm, ⟨69, _⟩ => ⟨S1x32x1, .f32⟩
  | .hbm, ⟨70, _⟩ => ⟨S2048x32x64, .f32⟩
  | .hbm, ⟨71, _⟩ => ⟨S2048x32x64, .f32⟩
  | .hbm, ⟨72, _⟩ => ⟨S2048x32x64, .f32⟩
  | .hbm, ⟨73, _⟩ => ⟨S2048x2048, .f32⟩
  | .hbm, ⟨74, _⟩ => ⟨S2048x4x8, .f32⟩
  | .hbm, ⟨75, _⟩ => ⟨S8x256x4x8, .f32⟩
  | .hbm, ⟨76, _⟩ => ⟨S8x1x4x8, .f32⟩
  | .hbm, ⟨77, _⟩ => ⟨S2048, .i32⟩
  | .hbm, ⟨78, _⟩ => ⟨S8x256, .i32⟩
  | .hbm, ⟨79, _⟩ => ⟨S8x1, .i32⟩
  | .hbm, ⟨80, _⟩ => ⟨S2048, .i32⟩
  | .hbm, ⟨81, _⟩ => ⟨S1x2048, .i32⟩
  | .hbm, ⟨82, _⟩ => ⟨S8x2048, .i32⟩
  | .hbm, ⟨83, _⟩ => ⟨S8x2048, .i32⟩
  | .hbm, ⟨84, _⟩ => ⟨S8x2048, .i1⟩
  | .hbm, ⟨85, _⟩ => ⟨S8x2048x1x1, .i1⟩
  | .hbm, ⟨86, _⟩ => ⟨S1x2048x4x8, .f32⟩
  | .hbm, ⟨87, _⟩ => ⟨S8x2048x4x8, .f32⟩
  | .hbm, ⟨88, _⟩ => ⟨S8x2048x4x8, .f32⟩
  | .hbm, ⟨89, _⟩ => ⟨S8x2048x4x8, .f32⟩
  | .hbm, ⟨90, _⟩ => ⟨S_, .f32⟩
  | .hbm, ⟨91, _⟩ => ⟨S_, .f32⟩
  | .hbm, ⟨92, _⟩ => ⟨S8x2048x4x8, .i1⟩
  | .hbm, ⟨93, _⟩ => ⟨S8x2048x4x8, .f32⟩
  | .hbm, ⟨94, _⟩ => ⟨S8x2048x4x8, .f32⟩
  | .hbm, ⟨95, _⟩ => ⟨S8x2048x4x8, .f32⟩
  | .hbm, ⟨96, _⟩ => ⟨S8x2048x4x8x1, .f32⟩
  | .hbm, ⟨97, _⟩ => ⟨S1x2048x4x8x64, .f32⟩
  | .hbm, ⟨98, _⟩ => ⟨S8x2048x4x8x64, .f32⟩
  | .hbm, ⟨99, _⟩ => ⟨S8x2048x4x8x64, .f32⟩
  | .hbm, ⟨100, _⟩ => ⟨S8x2048x4x8x64, .f32⟩
  | .hbm, ⟨101, _⟩ => ⟨S4x128x8x8x64, .f32⟩
  | .hbm, ⟨102, _⟩ => ⟨S8x4x8x64x128, .f32⟩
  | .hbm, ⟨103, _⟩ => ⟨S8x4x2x256x128, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_call0_cst : Ref sig .tc := ⟨.hbm, 38, rfl⟩
abbrev main_call1_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_0 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== SsdKernel.lean ====
abbrev S2048x3072 : Shape := ⟨2, ![2048, 3072]⟩
abbrev S2048x32 : Shape := ⟨2, ![2048, 32]⟩
abbrev S32 : Shape := ⟨1, ![32]⟩
abbrev S2048x2048 : Shape := ⟨2, ![2048, 2048]⟩
abbrev S2048x4x8 : Shape := ⟨3, ![2048, 4, 8]⟩
abbrev S4x2048x8 : Shape := ⟨3, ![4, 2048, 8]⟩
abbrev S_ : Shape := ⟨0, ![]⟩
abbrev S4x2048x128 : Shape := ⟨3, ![4, 2048, 128]⟩
abbrev S1x32 : Shape := ⟨2, ![1, 32]⟩
abbrev S2048x32x64 : Shape := ⟨3, ![2048, 32, 64]⟩
abbrev S2048x32x1 : Shape := ⟨3, ![2048, 32, 1]⟩
abbrev S2048x4x8x64 : Shape := ⟨4, ![2048, 4, 8, 64]⟩
abbrev S8x256x4x8 : Shape := ⟨4, ![8, 256, 4, 8]⟩
abbrev S8x1x4x8 : Shape := ⟨4, ![8, 1, 4, 8]⟩
abbrev S2048 : Shape := ⟨1, ![2048]⟩
abbrev S8x256 : Shape := ⟨2, ![8, 256]⟩
abbrev S8x1 : Shape := ⟨2, ![8, 1]⟩
abbrev S1x2048 : Shape := ⟨2, ![1, 2048]⟩
abbrev S8x2048 : Shape := ⟨2, ![8, 2048]⟩
abbrev S8x2048x1x1 : Shape := ⟨4, ![8, 2048, 1, 1]⟩
abbrev S1x2048x4x8 : Shape := ⟨4, ![1, 2048, 4, 8]⟩
abbrev S8x2048x4x8 : Shape := ⟨4, ![8, 2048, 4, 8]⟩
abbrev S8x2048x4x8x1 : Shape := ⟨5, ![8, 2048, 4, 8, 1]⟩
abbrev S1x2048x4x8x64 : Shape := ⟨5, ![1, 2048, 4, 8, 64]⟩
abbrev S8x2048x4x8x64 : Shape := ⟨5, ![8, 2048, 4, 8, 64]⟩
abbrev S2048x512 : Shape := ⟨2, ![2048, 512]⟩
abbrev S2048x4x128 : Shape := ⟨3, ![2048, 4, 128]⟩
abbrev S4x128x8x8x64 : Shape := ⟨5, ![4, 128, 8, 8, 64]⟩
abbrev S8x4x8x64x128 : Shape := ⟨5, ![8, 4, 8, 64, 128]⟩
abbrev S8x4x2x256x128 : Shape := ⟨5, ![8, 4, 2, 256, 128]⟩
abbrev S4x1x8 : Shape := ⟨3, ![4, 1, 8]⟩
abbrev S4x1x128 : Shape := ⟨3, ![4, 1, 128]⟩
abbrev S4x8x128 : Shape := ⟨3, ![4, 8, 128]⟩
abbrev S256x2048 : Shape := ⟨2, ![256, 2048]⟩
abbrev S256x512 : Shape := ⟨2, ![256, 512]⟩
abbrev S4x256x128 : Shape := ⟨3, ![4, 256, 128]⟩
abbrev S1x4x2x256x128 : Shape := ⟨5, ![1, 4, 2, 256, 128]⟩
abbrev S4x2x256x128 : Shape := ⟨4, ![4, 2, 256, 128]⟩
abbrev S256x256 : Shape := ⟨2, ![256, 256]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S1x1x1x256x128 : Shape := ⟨5, ![1, 1, 1, 256, 128]⟩
abbrev S128x256 : Shape := ⟨2, ![128, 256]⟩
abbrev S128 : Shape := ⟨1, ![128]⟩
abbrev S1x128 : Shape := ⟨2, ![1, 128]⟩
abbrev S1x256 : Shape := ⟨2, ![1, 256]⟩
abbrev S256 : Shape := ⟨1, ![256]⟩
abbrev S256x1 : Shape := ⟨2, ![256, 1]⟩
abbrev S256x8 : Shape := ⟨2, ![256, 8]⟩
abbrev S1x1x256x128 : Shape := ⟨4, ![1, 1, 256, 128]⟩

abbrev nBuf : Space → Nat
  | .hbm => 97
  | .vmem => 27
  | .smem => 0
  | _ => 0

abbrev bufTy : (tb : Table) → Fin (tcTables nBuf tb) → BufTy
  | .hbm, ⟨0, _⟩ => ⟨S2048x3072, .f32⟩
  | .hbm, ⟨1, _⟩ => ⟨S2048x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048x2048, .f32⟩
  | .hbm, ⟨6, _⟩ => ⟨S2048x4x8, .f32⟩
  | .hbm, ⟨7, _⟩ => ⟨S4x2048x8, .f32⟩
  | .hbm, ⟨8, _⟩ => ⟨S_, .i32⟩
  | .hbm, ⟨9, _⟩ => ⟨S_, .f32⟩
  | .hbm, ⟨10, _⟩ => ⟨S4x2048x128, .f32⟩
  | .hbm, ⟨11, _⟩ => ⟨S1x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .i1⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S32, .f32⟩
  | .hbm, ⟨29, _⟩ => ⟨S32, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x2048, .f32⟩
  | .hbm, ⟨34, _⟩ => ⟨S2048x32x64, .f32⟩
  | .hbm, ⟨35, _⟩ => ⟨S2048x32x1, .f32⟩
  | .hbm, ⟨36, _⟩ => ⟨S2048x32x64, .f32⟩
  | .hbm, ⟨37, _⟩ => ⟨S2048x32x64, .f32⟩
  | .hbm, ⟨38, _⟩ => ⟨S2048x4x8x64, .f32⟩
  | .hbm, ⟨39, _⟩ => ⟨S2048x4x8, .f32⟩
  | .hbm, ⟨40, _⟩ => ⟨S_, .f32⟩
  | .hbm, ⟨41, _⟩ => ⟨S_, .f32⟩
  | .hbm, ⟨42, _⟩ => ⟨S2048x4x8, .f32⟩
  | .hbm, ⟨43, _⟩ => ⟨S2048x4x8, .f32⟩
  | .hbm, ⟨44, _⟩ => ⟨S8x256x4x8, .f32⟩
  | .hbm, ⟨45, _⟩ => ⟨S8x1x4x8, .f32⟩
  | .hbm, ⟨46, _⟩ => ⟨S2048, .i32⟩
  | .hbm, ⟨47, _⟩ => ⟨S8x256, .i32⟩
  | .hbm, ⟨48, _⟩ => ⟨S8x1, .i32⟩
  | .hbm, ⟨49, _⟩ => ⟨S2048, .i32⟩
  | .hbm, ⟨50, _⟩ => ⟨S1x2048, .i32⟩
  | .hbm, ⟨51, _⟩ => ⟨S8x2048, .i32⟩
  | .hbm, ⟨52, _⟩ => ⟨S8x2048, .i32⟩
  | .hbm, ⟨53, _⟩ => ⟨S8x2048, .i1⟩
  | .hbm, ⟨54, _⟩ => ⟨S8x2048x1x1, .i1⟩
  | .hbm, ⟨55, _⟩ => ⟨S1x2048x4x8, .f32⟩
  | .hbm, ⟨56, _⟩ => ⟨S8x2048x4x8, .f32⟩
  | .hbm, ⟨57, _⟩ => ⟨S8x2048x4x8, .f32⟩
  | .hbm, ⟨58, _⟩ => ⟨S8x2048x4x8, .f32⟩
  | .hbm, ⟨59, _⟩ => ⟨S_, .f32⟩
  | .hbm, ⟨60, _⟩ => ⟨S_, .f32⟩
  | .hbm, ⟨61, _⟩ => ⟨S8x2048x4x8, .i1⟩
  | .hbm, ⟨62, _⟩ => ⟨S8x2048x4x8, .f32⟩
  | .hbm, ⟨63, _⟩ => ⟨S8x2048x4x8, .f32⟩
  | .hbm, ⟨64, _⟩ => ⟨S8x2048x4x8, .f32⟩
  | .hbm, ⟨65, _⟩ => ⟨S8x2048x4x8x1, .f32⟩
  | .hbm, ⟨66, _⟩ => ⟨S1x2048x4x8x64, .f32⟩
  | .hbm, ⟨67, _⟩ => ⟨S8x2048x4x8x64, .f32⟩
  | .hbm, ⟨68, _⟩ => ⟨S8x2048x4x8x64, .f32⟩
  | .hbm, ⟨69, _⟩ => ⟨S8x2048x4x8x64, .f32⟩
  | .hbm, ⟨70, _⟩ => ⟨S2048x512, .f32⟩
  | .hbm, ⟨71, _⟩ => ⟨S2048x4x128, .f32⟩
  | .hbm, ⟨72, _⟩ => ⟨S4x128x8x8x64, .f32⟩
  | .hbm, ⟨73, _⟩ => ⟨S8x4x8x64x128, .f32⟩
  | .hbm, ⟨74, _⟩ => ⟨S8x4x2x256x128, .f32⟩
  | .hbm, ⟨75, _⟩ => ⟨S4x1x8, .f32⟩
  | .hbm, ⟨76, _⟩ => ⟨S_, .i32⟩
  | .hbm, ⟨77, _⟩ => ⟨S_, .f32⟩
  | .hbm, ⟨78, _⟩ => ⟨S4x1x128, .f32⟩
  | .hbm, ⟨79, _⟩ => ⟨S4x8x128, .f32⟩
  | .hbm, ⟨80, _⟩ => ⟨S4x1x8, .f32⟩
  | .hbm, ⟨81, _⟩ => ⟨S_, .i32⟩
  | .hbm, ⟨82, _⟩ => ⟨S_, .f32⟩
  | .hbm, ⟨83, _⟩ => ⟨S4x1x128, .f32⟩
  | .hbm, ⟨84, _⟩ => ⟨S4x8x128, .f32⟩
  | .hbm, ⟨85, _⟩ => ⟨S4x1x8, .f32⟩
  | .hbm, ⟨86, _⟩ => ⟨S_, .i32⟩
  | .hbm, ⟨87, _⟩ => ⟨S_, .f32⟩
  | .hbm, ⟨88, _⟩ => ⟨S4x1x128, .f32⟩
  | .hbm, ⟨89, _⟩ => ⟨S4x8x128, .f32⟩
  | .hbm, ⟨90, _⟩ => ⟨S2048x2048, .f32⟩
  | .hbm, ⟨91, _⟩ => ⟨S2048x512, .f32⟩
  | .hbm, ⟨92, _⟩ => ⟨S2048x512, .f32⟩
  | .hbm, ⟨93, _⟩ => ⟨S4x2048x128, .f32⟩
  | .hbm, ⟨94, _⟩ => ⟨S4x8x128, .f32⟩
  | .hbm, ⟨95, _⟩ => ⟨S4x8x128, .f32⟩
  | .hbm, ⟨96, _⟩ => ⟨S4x8x128, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x256x128, .f32⟩
  | .local _ .vmem, ⟨7, _⟩ => ⟨S4x256x128, .f32⟩
  | .local _ .vmem, ⟨8, _⟩ => ⟨S4x8x128, .f32⟩
  | .local _ .vmem, ⟨9, _⟩ => ⟨S4x8x128, .f32⟩
  | .local _ .vmem, ⟨10, _⟩ => ⟨S4x8x128, .f32⟩
  | .local _ .vmem, ⟨11, _⟩ => ⟨S1x4x2x256x128, .f32⟩
  | .local _ .vmem, ⟨12, _⟩ => ⟨S1x4x2x256x128, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S4x256x128, .f32⟩
  | .local _ .vmem, ⟨22, _⟩ => ⟨S4x256x128, .f32⟩
  | .local _ .vmem, ⟨23, _⟩ => ⟨S4x8x128, .f32⟩
  | .local _ .vmem, ⟨24, _⟩ => ⟨S4x8x128, .f32⟩
  | .local _ .vmem, ⟨25, _⟩ => ⟨S4x8x128, .f32⟩
  | .local _ .vmem, ⟨26, _⟩ => ⟨S4x2x256x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_call0_cst : Ref sig .tc := ⟨.hbm, 40, rfl⟩
abbrev main_call2_call0_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_0 : Ref sig .tc := ⟨.hbm, 76, rfl⟩
abbrev main_call4_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_1 : Ref sig .tc := ⟨.hbm, 81, rfl⟩
abbrev main_call5_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_2 : Ref sig .tc := ⟨.hbm, 86, rfl⟩
abbrev main_call6_v0 : Ref sig .tc := ⟨.hbm, 87, rfl⟩
abbrev main_v55 : Ref sig .tc := ⟨.hbm, 88, rfl⟩
abbrev main_v56 : Ref sig .tc := ⟨.hbm, 89, rfl⟩
abbrev main_v57_0 : Ref sig .tc := ⟨.hbm, 90, rfl⟩
abbrev main_v57_1 : Ref sig .tc := ⟨.hbm, 91, rfl⟩
abbrev main_v57_2 : Ref sig .tc := ⟨.hbm, 92, rfl⟩
abbrev main_v57_3 : Ref sig .tc := ⟨.hbm, 93, rfl⟩
abbrev main_v57_4 : Ref sig .tc := ⟨.hbm, 94, rfl⟩
abbrev main_v57_5 : Ref sig .tc := ⟨.hbm, 95, rfl⟩
abbrev main_v57_6 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c5_i32 : BitVec 32 := 5#32
  let v1 : BitVec 32 := Scalar.addi c5_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![v0.toNat, arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x4x2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S4x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S4x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S4x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== SsdReferenceIdeal.lean ====
abbrev S2048x3072 : Shape := ⟨2, ![2048, 3072]⟩
abbrev S2048x32 : Shape := ⟨2, ![2048, 32]⟩
abbrev S32 : Shape := ⟨1, ![32]⟩
abbrev S2048x2048 : Shape := ⟨2, ![2048, 2048]⟩
abbrev S2048x32x64 : Shape := ⟨3, ![2048, 32, 64]⟩
abbrev S2048x512 : Shape := ⟨2, ![2048, 512]⟩
abbrev S2048x4x128 : Shape := ⟨3, ![2048, 4, 128]⟩
abbrev S1x32 : Shape := ⟨2, ![1, 32]⟩
abbrev S_ : Shape := ⟨0, ![]⟩
abbrev S2048x32x1 : Shape := ⟨3, ![2048, 32, 1]⟩
abbrev S2048x4x8x64 : Shape := ⟨4, ![2048, 4, 8, 64]⟩
abbrev S2048x4x8 : Shape := ⟨3, ![2048, 4, 8]⟩
abbrev S2048x1x4x8 : Shape := ⟨4, ![2048, 1, 4, 8]⟩
abbrev S1x2048x4x8 : Shape := ⟨4, ![1, 2048, 4, 8]⟩
abbrev S2048x2048x4x8 : Shape := ⟨4, ![2048, 2048, 4, 8]⟩
abbrev S2048 : Shape := ⟨1, ![2048]⟩
abbrev S2048x1 : Shape := ⟨2, ![2048, 1]⟩
abbrev S1x2048 : Shape := ⟨2, ![1, 2048]⟩
abbrev S2048x2048x1x1 : Shape := ⟨4, ![2048, 2048, 1, 1]⟩
abbrev S4x2048x2048 : Shape := ⟨3, ![4, 2048, 2048]⟩
abbrev S2048x2048x4 : Shape := ⟨3, ![2048, 2048, 4]⟩
abbrev S2048x2048x4x1 : Shape := ⟨4, ![2048, 2048, 4, 1]⟩
abbrev S4x8x64x2048 : Shape := ⟨4, ![4, 8, 64, 2048]⟩
abbrev S32x1 : Shape := ⟨2, ![32, 1]⟩
abbrev S1x32x1 : Shape := ⟨3, ![1, 32, 1]⟩
abbrev S4x8x2048x2048 : Shape := ⟨4, ![4, 8, 2048, 2048]⟩
abbrev S4x2048x128 : Shape := ⟨3, ![4, 2048, 128]⟩

abbrev nBuf : Space → Nat
  | .hbm => 102
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048x2048, .f32⟩
  | .hbm, ⟨6, _⟩ => ⟨S2048x2048, .f32⟩
  | .hbm, ⟨7, _⟩ => ⟨S2048x32x64, .f32⟩
  | .hbm, ⟨8, _⟩ => ⟨S2048x512, .f32⟩
  | .hbm, ⟨9, _⟩ => ⟨S2048x4x128, .f32⟩
  | .hbm, ⟨10, _⟩ => ⟨S2048x512, .f32⟩
  | .hbm, ⟨11, _⟩ => ⟨S2048x4x128, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S_, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .i1⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S32, .f32⟩
  | .hbm, ⟨30, _⟩ => ⟨S32, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32x1, .f32⟩
  | .hbm, ⟨35, _⟩ => ⟨S2048x32x64, .f32⟩
  | .hbm, ⟨36, _⟩ => ⟨S2048x32x64, .f32⟩
  | .hbm, ⟨37, _⟩ => ⟨S2048x4x8x64, .f32⟩
  | .hbm, ⟨38, _⟩ => ⟨S2048x4x8, .f32⟩
  | .hbm, ⟨39, _⟩ => ⟨S_, .f32⟩
  | .hbm, ⟨40, _⟩ => ⟨S_, .f32⟩
  | .hbm, ⟨41, _⟩ => ⟨S2048x4x8, .f32⟩
  | .hbm, ⟨42, _⟩ => ⟨S2048x1x4x8, .f32⟩
  | .hbm, ⟨43, _⟩ => ⟨S1x2048x4x8, .f32⟩
  | .hbm, ⟨44, _⟩ => ⟨S2048x2048x4x8, .f32⟩
  | .hbm, ⟨45, _⟩ => ⟨S2048x2048x4x8, .f32⟩
  | .hbm, ⟨46, _⟩ => ⟨S2048x2048x4x8, .f32⟩
  | .hbm, ⟨47, _⟩ => ⟨S2048, .i32⟩
  | .hbm, ⟨48, _⟩ => ⟨S2048x1, .i32⟩
  | .hbm, ⟨49, _⟩ => ⟨S2048, .i32⟩
  | .hbm, ⟨50, _⟩ => ⟨S1x2048, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S2048x2048x1x1, .i1⟩
  | .hbm, ⟨55, _⟩ => ⟨S_, .f32⟩
  | .hbm, ⟨56, _⟩ => ⟨S_, .f32⟩
  | .hbm, ⟨57, _⟩ => ⟨S2048x2048x4x8, .i1⟩
  | .hbm, ⟨58, _⟩ => ⟨S2048x2048x4x8, .f32⟩
  | .hbm, ⟨59, _⟩ => ⟨S2048x2048x4x8, .f32⟩
  | .hbm, ⟨60, _⟩ => ⟨S2048x2048x4x8, .f32⟩
  | .hbm, ⟨61, _⟩ => ⟨S4x2048x2048, .f32⟩
  | .hbm, ⟨62, _⟩ => ⟨S2048x2048x4, .f32⟩
  | .hbm, ⟨63, _⟩ => ⟨S2048x2048x4x1, .f32⟩
  | .hbm, ⟨64, _⟩ => ⟨S2048x2048x4x8, .f32⟩
  | .hbm, ⟨65, _⟩ => ⟨S2048x2048x4x8, .f32⟩
  | .hbm, ⟨66, _⟩ => ⟨S4x8x64x2048, .f32⟩
  | .hbm, ⟨67, _⟩ => ⟨S2048x4x8x64, .f32⟩
  | .hbm, ⟨68, _⟩ => ⟨S2048x32x64, .f32⟩
  | .hbm, ⟨69, _⟩ => ⟨S32x1, .f32⟩
  | .hbm, ⟨70, _⟩ => ⟨S1x32x1, .f32⟩
  | .hbm, ⟨71, _⟩ => ⟨S2048x32x64, .f32⟩
  | .hbm, ⟨72, _⟩ => ⟨S2048x32x64, .f32⟩
  | .hbm, ⟨73, _⟩ => ⟨S2048x32x64, .f32⟩
  | .hbm, ⟨74, _⟩ => ⟨S2048x2048, .f32⟩
  | .hbm, ⟨75, _⟩ => ⟨S2048x32x64, .f32⟩
  | .hbm, ⟨76, _⟩ => ⟨S2048x32x64, .f32⟩
  | .hbm, ⟨77, _⟩ => ⟨S2048x32x64, .f32⟩
  | .hbm, ⟨78, _⟩ => ⟨S2048x4x8x64, .f32⟩
  | .hbm, ⟨79, _⟩ => ⟨S4x8x64x2048, .f32⟩
  | .hbm, ⟨80, _⟩ => ⟨S4x8x2048x2048, .f32⟩
  | .hbm, ⟨81, _⟩ => ⟨S2048x2048x4x8, .f32⟩
  | .hbm, ⟨82, _⟩ => ⟨S4x8x64x2048, .f32⟩
  | .hbm, ⟨83, _⟩ => ⟨S2048x4x8x64, .f32⟩
  | .hbm, ⟨84, _⟩ => ⟨S2048x2048x4x8, .f32⟩
  | .hbm, ⟨85, _⟩ => ⟨S_, .f32⟩
  | .hbm, ⟨86, _⟩ => ⟨S2048x2048x4, .f32⟩
  | .hbm, ⟨87, _⟩ => ⟨S2048x2048x4x1, .f32⟩
  | .hbm, ⟨88, _⟩ => ⟨S_, .f32⟩
  | .hbm, ⟨89, _⟩ => ⟨S2048x2048x4, .f32⟩
  | .hbm, ⟨90, _⟩ => ⟨S4x2048x2048, .f32⟩
  | .hbm, ⟨91, _⟩ => ⟨S4x2048x128, .f32⟩
  | .hbm, ⟨92, _⟩ => ⟨S2048x4x128, .f32⟩
  | .hbm, ⟨93, _⟩ => ⟨S4x2048x128, .f32⟩
  | .hbm, ⟨94, _⟩ => ⟨S2048x4x128, .f32⟩
  | .hbm, ⟨95, _⟩ => ⟨S2048x32x64, .f32⟩
  | .hbm, ⟨96, _⟩ => ⟨S2048x32x64, .f32⟩
  | .hbm, ⟨97, _⟩ => ⟨S2048x32x64, .f32⟩
  | .hbm, ⟨98, _⟩ => ⟨S2048x32x64, .f32⟩
  | .hbm, ⟨99, _⟩ => ⟨S2048x2048, .f32⟩
  | .hbm, ⟨100, _⟩ => ⟨S2048x512, .f32⟩
  | .hbm, ⟨101, _⟩ => ⟨S2048x512, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_call0_cst : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_0 : Ref sig .tc := ⟨.hbm, 85, rfl⟩
abbrev main_v60 : Ref sig .tc := ⟨.hbm, 86, rfl⟩
abbrev main_v61 : Ref sig .tc := ⟨.hbm, 87, rfl⟩
abbrev main_cst_1 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Proof.Consts.lean ====
/- The float constants of the programs read as reals, and two facts about sums of extended reals. -/
module

public import Idealize.ShloMosaic.Lib.Pipeline.ValueKit
public import Idealize.ShloMosaic.Lib.Pointwise

@[expose] public section

noncomputable section

namespace Cert.Consts

open Idealize.ShloMosaic

theorem ofBits_half : Ideal.ofBits .f32 0x3F000000#32 = ((1 / 2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

/-- A nonnegative real factor goes into a sum of extended reals. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- Two real multiples of one extended real with factors of one sign add up to the multiple by the sum. -/
theorem mul_coe_add_mul_coe (x : EReal) (a b : ℝ) (ha : 0 ≤ a) (hb : 0 ≤ b) :
    x * (a : EReal) + x * (b : EReal) = x * ((a + b : ℝ) : EReal) := by
  rw [EReal.coe_add]
  exact (EReal.left_distrib_of_nonneg (by exact_mod_cast ha) (by exact_mod_cast hb)).symm

/-- A number whose absolute value is below the word of plus infinity is finite. -/
theorem finite_of_abs_lt (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  refine ⟨?_, ?_⟩ <;> rintro rfl <;> simp [Ideal.cmp] at h

theorem ofBits_one : Ideal.ofBits .f32 0x3F800000#32 = (1 : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

/-- Three times a number, as a sum. -/
theorem three_mul (x : EReal) : ((3 : ℝ) : EReal) * x = x + x + x := by
  induction x with
  | bot => rw [EReal.coe_mul_bot_of_pos (by norm_num)]; rfl
  | top => rw [EReal.coe_mul_top_of_pos (by norm_num)]; rfl
  | coe r => norm_cast; ring

end Cert.Consts

end
-- ==== Proof.Sigmoid.lean ====
/- The logistic function on the extended reals, and the two forms of the derivative of `x * logistic x`. -/
module

public import proofs.«01_k».proof.Proof.Consts

@[expose] public section

noncomputable section

namespace Cert.Sigmoid

open Idealize.ShloMosaic

/-- The logistic function. -/
def SG (x : EReal) : EReal := Ideal.div 1 (1 + Ideal.exp (-x))

theorem SG_bot : SG ⊥ = 0 := by
  show Ideal.div 1 (1 + ⊤) = 0
  rw [EReal.add_top_of_ne_bot (show (1 : EReal) ≠ ⊥ from EReal.coe_ne_bot 1)]
  simp [Ideal.div]

theorem SG_top : SG ⊤ = ((1 : ℝ) : EReal) := by
  show Ideal.div 1 (1 + 0) = _
  simp [Ideal.div]

theorem SG_coe (r : ℝ) : SG (r : EReal) = (((1 + Real.exp (-r))⁻¹ : ℝ) : EReal) := by
  have h : (1 + Real.exp (-r)) ≠ 0 := by positivity
  show Ideal.div 1 (1 + ((Real.exp (-r) : ℝ) : EReal)) = _
  rw [← EReal.coe_one, ← EReal.coe_add, Ideal.div_coe h, one_div, ← EReal.coe_mul, one_mul]

/-- The logistic of an extended real is a real. -/
theorem SG_real (x : EReal) : ∃ s : ℝ, SG x = (s : EReal) := by
  induction x with
  | bot => exact ⟨0, by simp [SG_bot]⟩
  | top => exact ⟨1, SG_top⟩
  | coe r => exact ⟨_, SG_coe r⟩

/-- The derivative of `x * logistic x` against a finite factor: the factored form and the form of the product rule. -/
theorem silu_grad (c x : EReal) (ht : c ≠ ⊤) (hb : c ≠ ⊥) :
    c * (SG x * (1 + x * (1 - SG x))) = c * SG x + x * c * (SG x * (1 - SG x)) := by
  lift c to ℝ using ⟨ht, hb⟩
  induction x with
  | bot => simp [SG_bot]
  | top =>
    have h : (((1 : ℝ) : EReal) - ((1 : ℝ) : EReal)) = 0 := by rw [← EReal.coe_sub]; simp
    rw [SG_top, ← EReal.coe_one, h]; simp
  | coe r =>
    rw [SG_coe, ← EReal.coe_one]
    norm_cast
    ring

theorem zero_sub' (x : EReal) : 0 - x = -x := by rw [sub_eq_add_neg, zero_add]

theorem SG_sub (x : EReal) : Ideal.div 1 (1 + Ideal.exp (0 - x)) = SG x := by rw [zero_sub']; rfl

/-- The derivative of the logistic, by the quotient rule and as `s (1 - s)`. -/
theorem SG_deriv (x : EReal) : Ideal.div 1 ((1 + Ideal.exp (0 - x)) * (1 + Ideal.exp (0 - x))) * Ideal.exp (0 - x) = SG x * (1 - SG x) := by
  rw [zero_sub']
  induction x with
  | bot =>
    rw [SG_bot, zero_mul]
    show Ideal.div 1 ((1 + ⊤) * (1 + ⊤)) * ⊤ = 0
    rw [EReal.add_top_of_ne_bot (show (1 : EReal) ≠ ⊥ from EReal.coe_ne_bot 1), EReal.top_mul_top]
    simp [Ideal.div]
  | top =>
    have h : (((1 : ℝ) : EReal) - ((1 : ℝ) : EReal)) = 0 := by rw [← EReal.coe_sub]; simp
    rw [SG_top, ← EReal.coe_one, h, mul_zero]
    show _ * (0 : EReal) = 0
    rw [mul_zero]
  | coe r =>
    have h : (1 + Real.exp (-r)) ≠ 0 := by positivity
    rw [SG_coe]
    show Ideal.div 1 ((1 + ((Real.exp (-r) : ℝ) : EReal)) * (1 + ((Real.exp (-r) : ℝ) : EReal))) * ((Real.exp (-r) : ℝ) : EReal) = _
    rw [← EReal.coe_one, ← EReal.coe_add, ← EReal.coe_mul, Ideal.div_coe (mul_ne_zero h h), EReal.coe_one, one_mul, ← EReal.coe_mul, ← EReal.coe_one, ← EReal.coe_sub, ← EReal.coe_mul]
    congr 1
    field_simp
    ring

/-- The gradient of a gate's argument as the quotient rule gives it, and as a product with `s (1 - s)`. -/
theorem gate_grad (p x : EReal) :
    0 - (0 - p * Ideal.div 1 ((1 + Ideal.exp (0 - x)) * (1 + Ideal.exp (0 - x)))) * Ideal.exp (0 - x) = p * (SG x * (1 - SG x)) := by
  rw [← SG_deriv, zero_sub' (p * _), zero_sub' (_ * _), EReal.neg_mul, neg_neg, mul_assoc]

/-- One gate's gradient of its three numbers: the cotangent, the gated value and the gate. -/
def G1 (d a z : EReal) : EReal := d * a * (SG z * (1 - SG z))

/-- The column within the right half of a row of 2048. -/
def hi {n : ℕ} (j : (⟨2, ![n, 2048]⟩ : Shape).Idx) (h : ¬ (j 1).val < 1024) : Fin 1024 := ⟨(j 1).val - 1024, by have : (j 1).val < 2048 := (j 1).isLt; omega⟩

theorem hi_eq {n : ℕ} (j : (⟨2, ![n, 2048]⟩ : Shape).Idx) (h : ¬ (j 1).val < 1024) : hi j h = ⟨(j 1).val - 1024, by have : (j 1).val < 2048 := (j 1).isLt; omega⟩ := rfl

end Cert.Sigmoid

end
-- ==== Proof.ConvRun.lean ====
/- The run of the convolution's reference, read in stages. -/
module

public import proofs.«01_k».proof.Defs
public import proofs.«01_k».proof.Proof.Sigmoid
public import proofs.«01_k».proof.Proof.Gen.ConvReferenceIdeal
public import Idealize.ShloMosaic.Lib.Claim
public import Idealize.ShloMosaic.Lib.StableHlo.RunRead

@[expose] public section

set_option maxRecDepth 16384

noncomputable section

namespace Cert.ConvReferenceIdeal.Stage

open Idealize.ShloMosaic Idealize.ShloMosaic.TcCoe Idealize.SL.Sem Idealize.ShloMosaic.StableHlo
open Cert.ConvReferenceIdeal Cert.ConvReferenceIdeal.Gen

variable {F : FTy → Type} [FloatOps F]

/-- A whole array of the convolution, and a scalar. -/
abbrev Full (F : FTy → Type) := (⟨S2048x3072, .f32⟩ : BufTy).Contents (Elt F)
@[inherit_doc Full] abbrev Scal (F : FTy → Type) := (⟨S_, .f32⟩ : BufTy).Contents (Elt F)

/-- The operations that compute the sum before the silu. -/
abbrev preOps : List (HloOp τ sig (Elt F)) := [
  unary main_arg0 main_v0 ((extractStridedSlice S2048x3072 ![0, 2048] · slices_S2048x8224_S2048x3072_0_2048) : (⟨S2048x8224, .f32⟩ : BufTy).Contents (Elt F) → Full F),
  nullary main_cst (constant S_ .f32 0x00000000#32),
  unary main_cst main_v1 (broadcastInDim S3x3072 ![] bcast_S_S3x3072 : Scal F → (⟨S3x3072, .f32⟩ : BufTy).Contents (Elt F)),
  binary main_v1 main_v0 main_v2 ((fun a b => concatenate S2051x3072 0 [⟨S3x3072, a⟩, ⟨S2048x3072, b⟩] concatenates_S3x3072_S2048x3072_S2051x3072_d0) : (⟨S3x3072, .f32⟩ : BufTy).Contents (Elt F) → Full F → (⟨S2051x3072, .f32⟩ : BufTy).Contents (Elt F)),
  nullary main_cst_0 (constant S_ .f32 0x00000000#32),
  unary main_cst_0 main_v3 (broadcastInDim S3x3072 ![] bcast_S_S3x3072 : Scal F → (⟨S3x3072, .f32⟩ : BufTy).Contents (Elt F)),
  unary main_v2 main_v4 ((extractStridedSlice S2048x3072 ![0, 0] · slices_S2051x3072_S2048x3072_0_0) : (⟨S2051x3072, .f32⟩ : BufTy).Contents (Elt F) → Full F),
  unary main_arg1 main_v5 ((extractStridedSlice S1x3072 ![0, 0] · slices_S4x3072_S1x3072_0_0) : (⟨S4x3072, .f32⟩ : BufTy).Contents (Elt F) → (⟨S1x3072, .f32⟩ : BufTy).Contents (Elt F)),
  reshape main_v5 main_v6 (rfl : (.f32 : EltTy) = .f32) shapeCasts_S1x3072_S3072,
  unary main_v6 main_v7 (broadcastInDim S1x3072 ![1] bcast_S3072_S1x3072_1 : (⟨S3072, .f32⟩ : BufTy).Contents (Elt F) → (⟨S1x3072, .f32⟩ : BufTy).Contents (Elt F)),
  unary main_v7 main_v8 (broadcastInDim S2048x3072 ![0, 1] bcast_S1x3072_S2048x3072_0_1 : (⟨S1x3072, .f32⟩ : BufTy).Contents (Elt F) → Full F),
  binary main_v4 main_v8 main_v9 (mulf : Full F → Full F → Full F),
  nullary main_cst_1 (constant S_ .f32 0x00000000#32),
  unary main_cst_1 main_v10 (broadcastInDim S2048x3072 ![] bcast_S_S2048x3072 : Scal F → Full F),
  binary main_v10 main_v9 main_v11 (addf : Full F → Full F → Full F),
  unary main_v2 main_v12 ((extractStridedSlice S2048x3072 ![1, 0] · slices_S2051x3072_S2048x3072_1_0) : (⟨S2051x3072, .f32⟩ : BufTy).Contents (Elt F) → Full F),
  unary main_arg1 main_v13 ((extractStridedSlice S1x3072 ![1, 0] · slices_S4x3072_S1x3072_1_0) : (⟨S4x3072, .f32⟩ : BufTy).Contents (Elt F) → (⟨S1x3072, .f32⟩ : BufTy).Contents (Elt F)),
  reshape main_v13 main_v14 (rfl : (.f32 : EltTy) = .f32) shapeCasts_S1x3072_S3072,
  unary main_v14 main_v15 (broadcastInDim S1x3072 ![1] bcast_S3072_S1x3072_1 : (⟨S3072, .f32⟩ : BufTy).Contents (Elt F) → (⟨S1x3072, .f32⟩ : BufTy).Contents (Elt F)),
  unary main_v15 main_v16 (broadcastInDim S2048x3072 ![0, 1] bcast_S1x3072_S2048x3072_0_1 : (⟨S1x3072, .f32⟩ : BufTy).Contents (Elt F) → Full F),
  binary main_v12 main_v16 main_v17 (mulf : Full F → Full F → Full F),
  binary main_v11 main_v17 main_v18 (addf : Full F → Full F → Full F),
  unary main_v2 main_v19 ((extractStridedSlice S2048x3072 ![2, 0] · slices_S2051x3072_S2048x3072_2_0) : (⟨S2051x3072, .f32⟩ : BufTy).Contents (Elt F) → Full F),
  unary main_arg1 main_v20 ((extractStridedSlice S1x3072 ![2, 0] · slices_S4x3072_S1x3072_2_0) : (⟨S4x3072, .f32⟩ : BufTy).Contents (Elt F) → (⟨S1x3072, .f32⟩ : BufTy).Contents (Elt F)),
  reshape main_v20 main_v21 (rfl : (.f32 : EltTy) = .f32) shapeCasts_S1x3072_S3072,
  unary main_v21 main_v22 (broadcastInDim S1x3072 ![1] bcast_S3072_S1x3072_1 : (⟨S3072, .f32⟩ : BufTy).Contents (Elt F) → (⟨S1x3072, .f32⟩ : BufTy).Contents (Elt F)),
  unary main_v22 main_v23 (broadcastInDim S2048x3072 ![0, 1] bcast_S1x3072_S2048x3072_0_1 : (⟨S1x3072, .f32⟩ : BufTy).Contents (Elt F) → Full F),
  binary main_v19 main_v23 main_v24 (mulf : Full F → Full F → Full F),
  binary main_v18 main_v24 main_v25 (addf : Full F → Full F → Full F),
  unary main_v2 main_v26 ((extractStridedSlice S2048x3072 ![3, 0] · slices_S2051x3072_S2048x3072_3_0) : (⟨S2051x3072, .f32⟩ : BufTy).Contents (Elt F) → Full F),
  unary main_arg1 main_v27 ((extractStridedSlice S1x3072 ![3, 0] · slices_S4x3072_S1x3072_3_0) : (⟨S4x3072, .f32⟩ : BufTy).Contents (Elt F) → (⟨S1x3072, .f32⟩ : BufTy).Contents (Elt F)),
  reshape main_v27 main_v28 (rfl : (.f32 : EltTy) = .f32) shapeCasts_S1x3072_S3072,
  unary main_v28 main_v29 (broadcastInDim S1x3072 ![1] bcast_S3072_S1x3072_1 : (⟨S3072, .f32⟩ : BufTy).Contents (Elt F) → (⟨S1x3072, .f32⟩ : BufTy).Contents (Elt F)),
  unary main_v29 main_v30 (broadcastInDim S2048x3072 ![0, 1] bcast_S1x3072_S2048x3072_0_1 : (⟨S1x3072, .f32⟩ : BufTy).Contents (Elt F) → Full F),
  binary main_v26 main_v30 main_v31 (mulf : Full F → Full F → Full F),
  binary main_v25 main_v31 main_v32 (addf : Full F → Full F → Full F),
  unary main_arg2 main_v33 (broadcastInDim S1x3072 ![1] bcast_S3072_S1x3072_1 : (⟨S3072, .f32⟩ : BufTy).Contents (Elt F) → (⟨S1x3072, .f32⟩ : BufTy).Contents (Elt F)),
  unary main_v33 main_v34 (broadcastInDim S2048x3072 ![0, 1] bcast_S1x3072_S2048x3072_0_1 : (⟨S1x3072, .f32⟩ : BufTy).Contents (Elt F) → Full F),
  binary main_v32 main_v34 main_v35 (addf : Full F → Full F → Full F)]

/-- The operations of the silu and of its gradient. -/
abbrev gradOps : List (HloOp τ sig (Elt F)) := [
  unary main_v35 main_call0_v0 (Host.negf : Full F → Full F),
  unary main_call0_v0 main_call0_v1 (Host.exp : Full F → Full F),
  nullary main_call0_cst (constant S_ .f32 0x3F800000#32),
  unary main_call0_cst main_call0_v2 (broadcastInDim S2048x3072 ![] bcast_S_S2048x3072 : Scal F → Full F),
  binary main_call0_v2 main_call0_v1 main_call0_v3 (addf : Full F → Full F → Full F),
  nullary main_call0_cst_0 (constant S_ .f32 0x3F800000#32),
  unary main_call0_cst_0 main_call0_v4 (broadcastInDim S2048x3072 ![] bcast_S_S2048x3072 : Scal F → Full F),
  binary main_call0_v4 main_call0_v3 main_v36_2 (Host.divf : Full F → Full F → Full F),
  nullary main_call0_cst_1 (constant S_ .f32 0x3F800000#32),
  unary main_call0_cst_1 main_call0_v6 (broadcastInDim S2048x3072 ![] bcast_S_S2048x3072 : Scal F → Full F),
  binary main_call0_v6 main_v36_2 main_call0_v7 (subf : Full F → Full F → Full F),
  binary main_v36_2 main_call0_v7 main_v36_1 (mulf : Full F → Full F → Full F),
  binary main_v35 main_v36_2 main_v36_0 (mulf : Full F → Full F → Full F),
  binary main_v35 main_arg3 main_call1_v0 (mulf : Full F → Full F → Full F),
  binary main_arg3 main_v36_2 main_call1_v1 (mulf : Full F → Full F → Full F),
  binary main_call1_v0 main_v36_1 main_call1_v2 (mulf : Full F → Full F → Full F),
  binary main_call1_v1 main_call1_v2 main_v37 (addf : Full F → Full F → Full F)]

/-- The operations that carry the gradient to the three results. -/
abbrev outOps : List (HloOp τ sig (Elt F)) := [
  nullary main_cst_2 (constant S_ .f32 0x00000000#32),
  binary main_v37 main_cst_2 main_v38 ((fun x v => Host.reduceAdd x v reducesTo_S2048x3072_S3072_d0 h_S_) : Full F → Scal F → (⟨S3072, .f32⟩ : BufTy).Contents (Elt F)),
  reshape main_v38 main_v39 (rfl : (.f32 : EltTy) = .f32) shapeCasts_S3072_S1x3072,
  nullary main_cst_3 (constant S_ .f32 0x00000000#32),
  binary main_v39 main_cst_3 main_v40 ((fun x v => Host.reduceAdd x v reducesTo_S1x3072_S3072_d0 h_S_) : (⟨S1x3072, .f32⟩ : BufTy).Contents (Elt F) → Scal F → (⟨S3072, .f32⟩ : BufTy).Contents (Elt F)),
  binary main_v26 main_v37 main_v41 (mulf : Full F → Full F → Full F),
  nullary main_cst_4 (constant S_ .f32 0x00000000#32),
  binary main_v41 main_cst_4 main_v42 ((fun x v => Host.reduceAdd x v reducesTo_S2048x3072_S3072_d0 h_S_) : Full F → Scal F → (⟨S3072, .f32⟩ : BufTy).Contents (Elt F)),
  reshape main_v42 main_v43 (rfl : (.f32 : EltTy) = .f32) shapeCasts_S3072_S1x3072,
  unary main_v29 main_v44 (broadcastInDim S2048x3072 ![0, 1] bcast_S1x3072_S2048x3072_0_1 : (⟨S1x3072, .f32⟩ : BufTy).Contents (Elt F) → Full F),
  binary main_v37 main_v44 main_v45 (mulf : Full F → Full F → Full F),
  nullary main_cst_5 (constant S_ .f32 0x00000000#32),
  binary main_v43 main_cst_5 main_v46 ((fun x v => Host.reduceAdd x v reducesTo_S1x3072_S3072_d0 h_S_) : (⟨S1x3072, .f32⟩ : BufTy).Contents (Elt F) → Scal F → (⟨S3072, .f32⟩ : BufTy).Contents (Elt F)),
  unary main_v46 main_v47 (broadcastInDim S1x3072 ![1] bcast_S3072_S1x3072_1 : (⟨S3072, .f32⟩ : BufTy).Contents (Elt F) → (⟨S1x3072, .f32⟩ : BufTy).Contents (Elt F)),
  nullary main_cst_6 (constant S_ .f32 0x00000000#32),
  binary main_v47 main_cst_6 main_v48 ((fun x v => pad S4x3072 ![3, 0] ![0, 0] ![0, 0] x v pads_S1x3072_S4x3072_300_000 h_S_) : (⟨S1x3072, .f32⟩ : BufTy).Contents (Elt F) → Scal F → (⟨S4x3072, .f32⟩ : BufTy).Contents (Elt F)),
  nullary main_cst_7 (constant S_ .f32 0x00000000#32),
  binary main_v45 main_cst_7 main_v49 ((fun x v => pad S2051x3072 ![3, 0] ![0, 0] ![0, 0] x v pads_S2048x3072_S2051x3072_300_000 h_S_) : Full F → Scal F → (⟨S2051x3072, .f32⟩ : BufTy).Contents (Elt F)),
  binary main_v19 main_v37 main_v50 (mulf : Full F → Full F → Full F),
  nullary main_cst_8 (constant S_ .f32 0x00000000#32),
  binary main_v50 main_cst_8 main_v51 ((fun x v => Host.reduceAdd x v reducesTo_S2048x3072_S3072_d0 h_S_) : Full F → Scal F → (⟨S3072, .f32⟩ : BufTy).Contents (Elt F)),
  reshape main_v51 main_v52 (rfl : (.f32 : EltTy) = .f32) shapeCasts_S3072_S1x3072,
  unary main_v22 main_v53 (broadcastInDim S2048x3072 ![0, 1] bcast_S1x3072_S2048x3072_0_1 : (⟨S1x3072, .f32⟩ : BufTy).Contents (Elt F) → Full F),
  binary main_v37 main_v53 main_v54 (mulf : Full F → Full F → Full F),
  nullary main_cst_9 (constant S_ .f32 0x00000000#32),
  binary main_v52 main_cst_9 main_v55 ((fun x v => Host.reduceAdd x v reducesTo_S1x3072_S3072_d0 h_S_) : (⟨S1x3072, .f32⟩ : BufTy).Contents (Elt F) → Scal F → (⟨S3072, .f32⟩ : BufTy).Contents (Elt F)),
  unary main_v55 main_v56 (broadcastInDim S1x3072 ![1] bcast_S3072_S1x3072_1 : (⟨S3072, .f32⟩ : BufTy).Contents (Elt F) → (⟨S1x3072, .f32⟩ : BufTy).Contents (Elt F)),
  nullary main_cst_10 (constant S_ .f32 0x00000000#32),
  binary main_v56 main_cst_10 main_v57 ((fun x v => pad S4x3072 ![2, 0] ![1, 0] ![0, 0] x v pads_S1x3072_S4x3072_210_000 h_S_) : (⟨S1x3072, .f32⟩ : BufTy).Contents (Elt F) → Scal F → (⟨S4x3072, .f32⟩ : BufTy).Contents (Elt F)),
  binary main_v48 main_v57 main_v58 (addf : (⟨S4x3072, .f32⟩ : BufTy).Contents (Elt F) → (⟨S4x3072, .f32⟩ : BufTy).Contents (Elt F) → (⟨S4x3072, .f32⟩ : BufTy).Contents (Elt F)),
  nullary main_cst_11 (constant S_ .f32 0x00000000#32),
  binary main_v54 main_cst_11 main_v59 ((fun x v => pad S2051x3072 ![2, 0] ![1, 0] ![0, 0] x v pads_S2048x3072_S2051x3072_210_000 h_S_) : Full F → Scal F → (⟨S2051x3072, .f32⟩ : BufTy).Contents (Elt F)),
  binary main_v49 main_v59 main_v60 (addf : (⟨S2051x3072, .f32⟩ : BufTy).Contents (Elt F) → (⟨S2051x3072, .f32⟩ : BufTy).Contents (Elt F) → (⟨S2051x3072, .f32⟩ : BufTy).Contents (Elt F)),
  binary main_v12 main_v37 main_v61 (mulf : Full F → Full F → Full F),
  nullary main_cst_12 (constant S_ .f32 0x00000000#32),
  binary main_v61 main_cst_12 main_v62 ((fun x v => Host.reduceAdd x v reducesTo_S2048x3072_S3072_d0 h_S_) : Full F → Scal F → (⟨S3072, .f32⟩ : BufTy).Contents (Elt F)),
  reshape main_v62 main_v63 (rfl : (.f32 : EltTy) = .f32) shapeCasts_S3072_S1x3072,
  unary main_v15 main_v64 (broadcastInDim S2048x3072 ![0, 1] bcast_S1x3072_S2048x3072_0_1 : (⟨S1x3072, .f32⟩ : BufTy).Contents (Elt F) → Full F),
  binary main_v37 main_v64 main_v65 (mulf : Full F → Full F → Full F),
  nullary main_cst_13 (constant S_ .f32 0x00000000#32),
  binary main_v63 main_cst_13 main_v66 ((fun x v => Host.reduceAdd x v reducesTo_S1x3072_S3072_d0 h_S_) : (⟨S1x3072, .f32⟩ : BufTy).Contents (Elt F) → Scal F → (⟨S3072, .f32⟩ : BufTy).Contents (Elt F)),
  unary main_v66 main_v67 (broadcastInDim S1x3072 ![1] bcast_S3072_S1x3072_1 : (⟨S3072, .f32⟩ : BufTy).Contents (Elt F) → (⟨S1x3072, .f32⟩ : BufTy).Contents (Elt F)),
  nullary main_cst_14 (constant S_ .f32 0x00000000#32),
  binary main_v67 main_cst_14 main_v68 ((fun x v => pad S4x3072 ![1, 0] ![2, 0] ![0, 0] x v pads_S1x3072_S4x3072_120_000 h_S_) : (⟨S1x3072, .f32⟩ : BufTy).Contents (Elt F) → Scal F → (⟨S4x3072, .f32⟩ : BufTy).Contents (Elt F)),
  binary main_v58 main_v68 main_v69 (addf : (⟨S4x3072, .f32⟩ : BufTy).Contents (Elt F) → (⟨S4x3072, .f32⟩ : BufTy).Contents (Elt F) → (⟨S4x3072, .f32⟩ : BufTy).Contents (Elt F)),
  nullary main_cst_15 (constant S_ .f32 0x00000000#32),
  binary main_v65 main_cst_15 main_v70 ((fun x v => pad S2051x3072 ![1, 0] ![2, 0] ![0, 0] x v pads_S2048x3072_S2051x3072_120_000 h_S_) : Full F → Scal F → (⟨S2051x3072, .f32⟩ : BufTy).Contents (Elt F)),
  binary main_v60 main_v70 main_v71 (addf : (⟨S2051x3072, .f32⟩ : BufTy).Contents (Elt F) → (⟨S2051x3072, .f32⟩ : BufTy).Contents (Elt F) → (⟨S2051x3072, .f32⟩ : BufTy).Contents (Elt F)),
  binary main_v4 main_v37 main_v72 (mulf : Full F → Full F → Full F),
  nullary main_cst_16 (constant S_ .f32 0x00000000#32),
  binary main_v72 main_cst_16 main_v73 ((fun x v => Host.reduceAdd x v reducesTo_S2048x3072_S3072_d0 h_S_) : Full F → Scal F → (⟨S3072, .f32⟩ : BufTy).Contents (Elt F)),
  reshape main_v73 main_v74 (rfl : (.f32 : EltTy) = .f32) shapeCasts_S3072_S1x3072,
  unary main_v7 main_v75 (broadcastInDim S2048x3072 ![0, 1] bcast_S1x3072_S2048x3072_0_1 : (⟨S1x3072, .f32⟩ : BufTy).Contents (Elt F) → Full F),
  binary main_v37 main_v75 main_v76 (mulf : Full F → Full F → Full F),
  nullary main_cst_17 (constant S_ .f32 0x00000000#32),
  binary main_v74 main_cst_17 main_v77 ((fun x v => Host.reduceAdd x v reducesTo_S1x3072_S3072_d0 h_S_) : (⟨S1x3072, .f32⟩ : BufTy).Contents (Elt F) → Scal F → (⟨S3072, .f32⟩ : BufTy).Contents (Elt F)),
  unary main_v77 main_v78 (broadcastInDim S1x3072 ![1] bcast_S3072_S1x3072_1 : (⟨S3072, .f32⟩ : BufTy).Contents (Elt F) → (⟨S1x3072, .f32⟩ : BufTy).Contents (Elt F)),
  nullary main_cst_18 (constant S_ .f32 0x00000000#32),
  binary main_v78 main_cst_18 main_v79 ((fun x v => pad S4x3072 ![0, 0] ![3, 0] ![0, 0] x v pads_S1x3072_S4x3072_030_000 h_S_) : (⟨S1x3072, .f32⟩ : BufTy).Contents (Elt F) → Scal F → (⟨S4x3072, .f32⟩ : BufTy).Contents (Elt F)),
  binary main_v69 main_v79 main_v80 (addf : (⟨S4x3072, .f32⟩ : BufTy).Contents (Elt F) → (⟨S4x3072, .f32⟩ : BufTy).Contents (Elt F) → (⟨S4x3072, .f32⟩ : BufTy).Contents (Elt F)),
  nullary main_cst_19 (constant S_ .f32 0x00000000#32),
  binary main_v76 main_cst_19 main_v81 ((fun x v => pad S2051x3072 ![0, 0] ![3, 0] ![0, 0] x v pads_S2048x3072_S2051x3072_030_000 h_S_) : Full F → Scal F → (⟨S2051x3072, .f32⟩ : BufTy).Contents (Elt F)),
  binary main_v71 main_v81 main_v82 (addf : (⟨S2051x3072, .f32⟩ : BufTy).Contents (Elt F) → (⟨S2051x3072, .f32⟩ : BufTy).Contents (Elt F) → (⟨S2051x3072, .f32⟩ : BufTy).Contents (Elt F)),
  unary main_v82 main_v83 ((extractStridedSlice S3x3072 ![0, 0] · slices_S2051x3072_S3x3072_0_0) : (⟨S2051x3072, .f32⟩ : BufTy).Contents (Elt F) → (⟨S3x3072, .f32⟩ : BufTy).Contents (Elt F)),
  unary main_v82 main_v84 ((extractStridedSlice S2048x3072 ![3, 0] · slices_S2051x3072_S2048x3072_3_0) : (⟨S2051x3072, .f32⟩ : BufTy).Contents (Elt F) → Full F),
  unary main_v84 main_v85 ((truncf .bf16 · bitsLt_bf16_f32) : Full F → (⟨S2048x3072, .bf16⟩ : BufTy).Contents (Elt F)),
  reshape main_v40 main_v86 (rfl : (.f32 : EltTy) = .f32) shapeCasts_S3072_S1x3072]

set_option maxHeartbeats 4000000 in
theorem main_eq (d : Dev nD) : main (F := Ideal) d = seq (preOps (F := Ideal) ++ gradOps ++ outOps) := rfl

/-- The array moved down by `3 - a` rows, zero above. -/
def SH (a : ℕ) (U : FVec Ideal S2048x3072 .f32) (i : Fin 2048) (k : Fin 3072) : EReal :=
  if h : a + i.val < 3 then 0 else if h' : a + i.val - 3 < 2048 then U (ix2 ⟨a + i.val - 3, h'⟩ k) else 0

theorem SH_eq (a : ℕ) (ha : a ≤ 3) (U : FVec Ideal S2048x3072 .f32) (i : Fin 2048) (k : Fin 3072) :
    SH a U i k = if h : a + i.val < 3 then 0 else U (ix2 ⟨a + i.val - 3, by omega⟩ k) := by
  unfold SH
  split
  · rfl
  · rw [dif_pos]

/-- The convolved columns of the projection. -/
def US (P : FVec Ideal S2048x8224 .f32) : FVec Ideal S2048x3072 .f32 :=
  extractStridedSlice S2048x3072 ![0, 2048] P slices_S2048x8224_S2048x3072_0_2048

/-- The convolution before the silu. -/
def PRE (U : FVec Ideal S2048x3072 .f32) (w : FVec Ideal S4x3072 .f32) (b : FVec Ideal S3072 .f32) (i : Fin 2048) (k : Fin 3072) : EReal :=
  SH 0 U i k * w (ix2 0 k) + SH 1 U i k * w (ix2 1 k) + SH 2 U i k * w (ix2 2 k) + U (ix2 i k) * w (ix2 3 k) + b (ix1 k)

/-- The gradient at the convolution, by the product rule. -/
def GR (p c : EReal) : EReal := c * Sigmoid.SG p + p * c * (Sigmoid.SG p * (1 - Sigmoid.SG p))

/-- The gradient of the input from the gradient at the convolution. -/
def DX (d : Fin 2048 → EReal) (w : Fin 4 → EReal) (i : Fin 2048) : EReal :=
  d i * w 3 + (if h : i.val + 1 < 2048 then d ⟨i.val + 1, h⟩ * w 2 else 0) + (if h : i.val + 2 < 2048 then d ⟨i.val + 2, h⟩ * w 1 else 0)
    + (if h : i.val + 3 < 2048 then d ⟨i.val + 3, h⟩ * w 0 else 0)

section
variable (V : Valuation τ sig (Elt Ideal))

theorem pre_v35 (i : Fin 2048) (k : Fin 3072) :
    (after preOps V (Proc.devRef .tc main_v35) : FVec Ideal S2048x3072 .f32) (ix2 i k)
      = PRE (US (V (Proc.devRef .tc main_arg0))) (V (Proc.devRef .tc main_arg1)) (V (Proc.devRef .tc main_arg2)) i k := by
  unfold PRE
  rw [SH_eq 0 (by omega), SH_eq 1 (by omega), SH_eq 2 (by omega)]
  after_reads_simp
  pointwise
  after_reads_simp
  pointwise [US]

theorem pre_v4 (i : Fin 2048) (k : Fin 3072) :
    (after preOps V (Proc.devRef .tc main_v4) : FVec Ideal S2048x3072 .f32) (ix2 i k) = SH 0 (US (V (Proc.devRef .tc main_arg0))) i k := by
  rw [SH_eq 0 (by omega)]
  after_reads_simp
  pointwise
  after_reads_simp
  pointwise [US]

theorem pre_v12 (i : Fin 2048) (k : Fin 3072) :
    (after preOps V (Proc.devRef .tc main_v12) : FVec Ideal S2048x3072 .f32) (ix2 i k) = SH 1 (US (V (Proc.devRef .tc main_arg0))) i k := by
  rw [SH_eq 1 (by omega)]
  after_reads_simp
  pointwise
  after_reads_simp
  pointwise [US]

theorem pre_v19 (i : Fin 2048) (k : Fin 3072) :
    (after preOps V (Proc.devRef .tc main_v19) : FVec Ideal S2048x3072 .f32) (ix2 i k) = SH 2 (US (V (Proc.devRef .tc main_arg0))) i k := by
  rw [SH_eq 2 (by omega)]
  after_reads_simp
  pointwise
  after_reads_simp
  pointwise [US]

theorem pre_v26 (i : Fin 2048) (k : Fin 3072) :
    (after preOps V (Proc.devRef .tc main_v26) : FVec Ideal S2048x3072 .f32) (ix2 i k) = US (V (Proc.devRef .tc main_arg0)) (ix2 i k) := by
  after_reads_simp
  pointwise
  after_reads_simp
  pointwise [US]

theorem pre_w (k : Fin 3072) :
    (after preOps V (Proc.devRef .tc main_v7) : FVec Ideal S1x3072 .f32) (ix2 0 k) = (V (Proc.devRef .tc main_arg1) : FVec Ideal S4x3072 .f32) (ix2 0 k) ∧
    (after preOps V (Proc.devRef .tc main_v15) : FVec Ideal S1x3072 .f32) (ix2 0 k) = (V (Proc.devRef .tc main_arg1) : FVec Ideal S4x3072 .f32) (ix2 1 k) ∧
    (after preOps V (Proc.devRef .tc main_v22) : FVec Ideal S1x3072 .f32) (ix2 0 k) = (V (Proc.devRef .tc main_arg1) : FVec Ideal S4x3072 .f32) (ix2 2 k) ∧
    (after preOps V (Proc.devRef .tc main_v29) : FVec Ideal S1x3072 .f32) (ix2 0 k) = (V (Proc.devRef .tc main_arg1) : FVec Ideal S4x3072 .f32) (ix2 3 k) := by
  refine ⟨?_, ?_, ?_, ?_⟩ <;> (after_reads_simp; pointwise)

theorem grad_v37 (i : Fin 2048) (k : Fin 3072) :
    (after gradOps V (Proc.devRef .tc main_v37) : FVec Ideal S2048x3072 .f32) (ix2 i k)
      = GR ((V (Proc.devRef .tc main_v35) : FVec Ideal S2048x3072 .f32) (ix2 i k)) ((V (Proc.devRef .tc main_arg3) : FVec Ideal S2048x3072 .f32) (ix2 i k)) := by
  after_reads_simp
  pointwise [GR, Sigmoid.SG]

theorem out_v86 (k : Fin 3072) :
    (after outOps V (Proc.devRef .tc main_v86) : FVec Ideal S1x3072 .f32) (ix2 0 k)
      = ∑ x : Fin 2048, (show EReal from (V (Proc.devRef .tc main_v37) : FVec Ideal S2048x3072 .f32) (ix2 x k)) := by
  after_reads_simp
  pointwise
  exact Fin.sum_univ_one (M := EReal) _

theorem out_v85 (i : Fin 2048) (k : Fin 3072) :
    (after outOps V (Proc.devRef .tc main_v85) : FVec Ideal S2048x3072 .bf16) (ix2 i k)
      = DX (fun x => (V (Proc.devRef .tc main_v37) : FVec Ideal S2048x3072 .f32) (ix2 x k))
        ![(V (Proc.devRef .tc main_v7) : FVec Ideal S1x3072 .f32) (ix2 0 k), (V (Proc.devRef .tc main_v15) : FVec Ideal S1x3072 .f32) (ix2 0 k),
          (V (Proc.devRef .tc main_v22) : FVec Ideal S1x3072 .f32) (ix2 0 k), (V (Proc.devRef .tc main_v29) : FVec Ideal S1x3072 .f32) (ix2 0 k)] i := by
  after_reads_simp
  pointwise [DX]
  have h1 : 3 + i.val - 2 = i.val + 1 := by omega
  have h2 : 3 + i.val - 1 = i.val + 2 := by omega
  have h3 : 3 + i.val = i.val + 3 := by omega
  have h4 : 2 ≤ i.val + 3 ∧ 1 ≤ i.val + 3 := by omega
  simp only [h1, h2]
  simp only [h3, h4.1, h4.2, true_and]

theorem out_v80 (r : Fin 4) (k : Fin 3072) :
    (after outOps V (Proc.devRef .tc main_v80) : FVec Ideal S4x3072 .f32) (ix2 r k)
      = ∑ x : Fin 2048, (![(V (Proc.devRef .tc main_v4) : FVec Ideal S2048x3072 .f32) (ix2 x k), (V (Proc.devRef .tc main_v12) : FVec Ideal S2048x3072 .f32) (ix2 x k),
          (V (Proc.devRef .tc main_v19) : FVec Ideal S2048x3072 .f32) (ix2 x k), (V (Proc.devRef .tc main_v26) : FVec Ideal S2048x3072 .f32) (ix2 x k)] : Fin 4 → EReal) r
          * (V (Proc.devRef .tc main_v37) : FVec Ideal S2048x3072 .f32) (ix2 x k) := by
  after_reads_simp
  pointwise
  fin_cases r <;> simp
end

section
variable (P : FVec Ideal S2048x8224 .f32) (w : FVec Ideal S4x3072 .f32) (b : FVec Ideal S3072 .f32) (ct : FVec Ideal S2048x3072 .f32)

/-- The gradient at the convolution. -/
def D (i : Fin 2048) (k : Fin 3072) : EReal := GR (PRE (US P) w b i k) (ct (ix2 i k))

/-- The three results: the gradients of the input, of the weight and of the bias. -/
def RX : FVec Ideal S2048x3072 .bf16 := fun j => DX (fun x => D P w b ct x (j 1)) (fun r => w (ix2 r (j 1))) (j 0)
@[inherit_doc RX] def RW : FVec Ideal S4x3072 .f32 := fun j =>
  ∑ x : Fin 2048, (![SH 0 (US P) x (j 1), SH 1 (US P) x (j 1), SH 2 (US P) x (j 1), US P (ix2 x (j 1))] : Fin 4 → EReal) (j 0) * D P w b ct x (j 1)
@[inherit_doc RX] def RB : FVec Ideal S1x3072 .f32 := fun j => ∑ x : Fin 2048, D P w b ct x (j 1)
end

section
variable (V : Valuation τ sig (Elt Ideal))

theorem all_v37 (i : Fin 2048) (k : Fin 3072) :
    (after gradOps (after preOps V) (Proc.devRef .tc main_v37) : FVec Ideal S2048x3072 .f32) (ix2 i k)
      = D (V (Proc.devRef .tc main_arg0)) (V (Proc.devRef .tc main_arg1)) (V (Proc.devRef .tc main_arg2)) (V (Proc.devRef .tc main_arg3)) i k := by
  have h : after preOps V (Proc.devRef .tc main_arg3) = V (Proc.devRef .tc main_arg3) := by after_reads_simp
  rw [grad_v37, pre_v35, h]
  rfl

theorem all_v86 : after (preOps ++ gradOps ++ outOps) V (Proc.devRef .tc main_v86)
    = RB (V (Proc.devRef .tc main_arg0)) (V (Proc.devRef .tc main_arg1)) (V (Proc.devRef .tc main_arg2)) (V (Proc.devRef .tc main_arg3)) := by
  rw [after_append, after_append]
  funext j
  obtain ⟨r, k, rfl⟩ : ∃ r k, j = ix2 r k := ⟨j 0, j 1, by ext a; fin_cases a <;> rfl⟩
  obtain rfl : r = 0 := Subsingleton.elim _ _
  refine (out_v86 _ k).trans ?_
  exact Fin.sum_fin_congr fun x => all_v37 V x k

theorem all_v85 : after (preOps ++ gradOps ++ outOps) V (Proc.devRef .tc main_v85)
    = RX (V (Proc.devRef .tc main_arg0)) (V (Proc.devRef .tc main_arg1)) (V (Proc.devRef .tc main_arg2)) (V (Proc.devRef .tc main_arg3)) := by
  rw [after_append, after_append]
  funext j
  obtain ⟨i, k, rfl⟩ : ∃ r k, j = ix2 r k := ⟨j 0, j 1, by ext a; fin_cases a <;> rfl⟩
  refine (out_v85 _ i k).trans ?_
  have h7 : ∀ W : Valuation τ sig (Elt Ideal), after gradOps W (Proc.devRef .tc main_v7) = W (Proc.devRef .tc main_v7)
      ∧ after gradOps W (Proc.devRef .tc main_v15) = W (Proc.devRef .tc main_v15) ∧ after gradOps W (Proc.devRef .tc main_v22) = W (Proc.devRef .tc main_v22)
      ∧ after gradOps W (Proc.devRef .tc main_v29) = W (Proc.devRef .tc main_v29) := fun W => by
    refine ⟨?_, ?_, ?_, ?_⟩ <;> after_reads_simp
  rw [(h7 _).1, (h7 _).2.1, (h7 _).2.2.1, (h7 _).2.2.2, (pre_w V k).1, (pre_w V k).2.1, (pre_w V k).2.2.1, (pre_w V k).2.2.2,
    funext fun x => all_v37 V x k]
  refine congrArg (fun w => DX _ w i) ?_
  funext r
  fin_cases r <;> rfl

theorem all_v80 : after (preOps ++ gradOps ++ outOps) V (Proc.devRef .tc main_v80)
    = RW (V (Proc.devRef .tc main_arg0)) (V (Proc.devRef .tc main_arg1)) (V (Proc.devRef .tc main_arg2)) (V (Proc.devRef .tc main_arg3)) := by
  rw [after_append, after_append]
  funext j
  obtain ⟨r, k, rfl⟩ : ∃ r k, j = ix2 r k := ⟨j 0, j 1, by ext a; fin_cases a <;> rfl⟩
  refine (out_v80 _ r k).trans ?_
  have h7 : ∀ W : Valuation τ sig (Elt Ideal), after gradOps W (Proc.devRef .tc main_v4) = W (Proc.devRef .tc main_v4)
      ∧ after gradOps W (Proc.devRef .tc main_v12) = W (Proc.devRef .tc main_v12) ∧ after gradOps W (Proc.devRef .tc main_v19) = W (Proc.devRef .tc main_v19)
      ∧ after gradOps W (Proc.devRef .tc main_v26) = W (Proc.devRef .tc main_v26) := fun W => by
    refine ⟨?_, ?_, ?_, ?_⟩ <;> after_reads_simp
  refine Fin.sum_fin_congr fun x => ?_
  rw [(h7 _).1, (h7 _).2.1, (h7 _).2.2.1, (h7 _).2.2.2, all_v37 V x k, pre_v4, pre_v12, pre_v19, pre_v26]
  rfl

theorem all_args (r : Ref sig .tc) (h : r ∈ [main_arg0, main_arg1, main_arg2, main_arg3]) :
    after (preOps ++ gradOps ++ outOps) V (Proc.devRef .tc r) = V (Proc.devRef .tc r) := by
  simp only [List.mem_cons, List.not_mem_nil, or_false] at h
  rcases h with rfl | rfl | rfl | rfl <;> (rw [after_append, after_append]; after_reads_simp)
end

variable (m : (ℓ : Loc nD τ sig) → Buf (Elt Ideal) ℓ) (ρ : Dev nD → PrngReg)

set_option maxHeartbeats 4000000 in
/-- The reference terminates with the three results and its arguments unchanged. -/
theorem run : θ_run defs (onTc (τ := τ) (main (F := Ideal))) ⟨m, fun _ => 0, ρ⟩ fun r => ∀ c : Dev nD,
    (r.2.mem ((c.tc : Thread nD τ).loc main_v85) = RX (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v80) = RW (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v86) = RB (m ((c.tc : Thread nD τ).loc main_arg0)) (m ((c.tc : Thread nD τ).loc main_arg1)) (m ((c.tc : Thread nD τ).loc main_arg2)) (m ((c.tc : Thread nD τ).loc main_arg3)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono ?_ (run_hlo defs (main (F := Ideal)) (fun d => main_eq d) (by decide) (by decide) ?_ ?_ m ρ)
  · intro r h c
    refine ⟨⟨(h c _).trans (all_v85 _), (h c _).trans (all_v80 _), (h c _).trans (all_v86 _)⟩, ?_, ?_, ?_, ?_⟩ <;>
      exact (h c _).trans (all_args _ _ (by simp))
  · simp
  · intro op h
    rw [List.mem_append, List.mem_append] at h
    rcases h with (h | h) | h <;> (repeat (cases h with | head => rfl | tail _ h => ?_)) <;> exact nomatch h

end Cert.ConvReferenceIdeal.Stage

end
-- ==== Proof.Conv.lean ====
/- The gradient of the causal convolution: what the kernel leaves equals the reference's results. -/
module

public import proofs.«01_k».proof.Proof.Gen.Pre_conv_ct_finite
public import proofs.«01_k».proof.Defs
public import proofs.«01_k».proof.Proof.Sigmoid
public import proofs.«01_k».proof.Proof.Gen.ConvKernelIdeal.Frame
public import proofs.«01_k».proof.Proof.ConvRun
public import Idealize.ShloMosaic.Lib.Claim

@[expose] public section

set_option maxRecDepth 16384

noncomputable section

namespace Cert.ConvKernelIdeal.Gen

open Idealize.ShloMosaic Idealize.ShloMosaic.TcCoe Idealize.SL.Sem
open Idealize.ShloMosaic.Pipeline (Dat)
open Cert.ConvReferenceIdeal.Stage (SH SH_eq US PRE GR DX D RX RW RB)

variable (m : (ℓ : Loc nD τ sig) → Buf (Elt Ideal) ℓ) (ρ : Dev nD → PrngReg)

theorem idx : ∀ t : Fin cfg0.N, win0_0.index t = ![0, 8 + t.val] ∧ win0_1.index t = ![0, t.val] ∧ win0_2.index t = ![0, t.val] ∧
    win0_3.index t = ![0, min t.val 7] ∧ win0_4.index t = ![0, min (max t.val 8) 9 - 8] ∧ win0_5.index t = ![0, max t.val 10 - 10] ∧
    win0_6.index t = ![0, t.val] ∧ win0_7.index t = ![0, t.val] ∧ win0_8.index t = ![0, t.val] :=
  (by decide +kernel : ∀ t : Fin grid0.N, _)

theorem crd : ∀ t : Fin cfg0.N, (grid0.coords t 0).val = t.val := (by decide +kernel : ∀ t : Fin grid0.N, _)

/-- Column `k` of the block at point `t`. -/
def col (t : Fin cfg0.N) (k : Fin 256) : Fin 3072 := ⟨t.val * 256 + k.val, by have := lt_of_lt_of_eq t.isLt N_0; omega⟩

theorem blk_u (c : Dev nD) (t : Fin cfg0.N) (i : Fin 2048) (k : Fin 256) :
    (iblk m c 0 t : Vec Ideal S2048x256 .f32) (ix2 i k) = US (m ((c : Thread nD τ).loc main_arg0)) (ix2 i (col t k)) := by
  have ht := lt_of_lt_of_eq t.isLt N_0
  unfold iblk
  entry_read
  blk_simp
  pointwise [US, col]
  rw [dif_pos (by blk_simp [idx t]; omega)]
  blk_point [idx t]

theorem blk_w (c : Dev nD) (t : Fin cfg0.N) (i : Fin 4) (k : Fin 256) :
    (iblk m c 1 t : Vec Ideal S4x256 .f32) (ix2 i k) = (m ((c : Thread nD τ).loc main_arg1) : FVec Ideal S4x3072 .f32) (ix2 i (col t k)) := by
  blk_point [iblk, V, idx t, col]

theorem blk_b (c : Dev nD) (t : Fin cfg0.N) (i : Fin 1) (k : Fin 256) :
    (iblk m c 2 t : Vec Ideal S1x256 .f32) (ix2 i k) = (m ((c : Thread nD τ).loc main_arg2) : FVec Ideal S3072 .f32) (ix1 (col t k)) := by
  unfold iblk
  entry_read
  blk_simp
  pointwise [col]
  blk_point [idx t]

theorem pay17_at (c : Dev nD) (t : Fin cfg0.N) (i : Fin 2048) (k : Fin 256) :
    k0_pay17 (grid0.coords t) (iblk m c 0 t) (iblk m c 1 t) (iblk m c 2 t) (iblk m c 3 t) (iblk m c 4 t) (iblk m c 5 t) (ix2 i k)
      = (m ((c : Thread nD τ).loc main_arg3) : FVec Ideal S2048x3072 .f32) (ix2 i (col t k)) := by
  have ht := lt_of_lt_of_eq t.isLt N_0
  pointwise [k0_pay17, k0_pay3]
  rw [crd t]
  word_cmp
  split
  · blk_point [iblk, V, idx t, col]
  split
  · blk_point [iblk, V, idx t, col]
  · blk_point [iblk, V, idx t, col]

theorem shift_at (c : Dev nD) (t : Fin cfg0.N) (i : Fin 2048) (k : Fin 256) :
    k0_pay5 (iblk m c 0 t) (ix2 i k) = SH 0 (US (m ((c : Thread nD τ).loc main_arg0))) i (col t k)
    ∧ k0_pay6 (iblk m c 0 t) (ix2 i k) = SH 1 (US (m ((c : Thread nD τ).loc main_arg0))) i (col t k)
    ∧ k0_pay7 (iblk m c 0 t) (ix2 i k) = SH 2 (US (m ((c : Thread nD τ).loc main_arg0))) i (col t k) := by
  refine ⟨?_, ?_, ?_⟩
  · rw [SH_eq 0 (by omega)]
    pointwise [k0_pay5, k0_pay4]
    word_cmp
    by_cases h : i.val < 3
    · rw [if_neg (by omega), dif_pos (by omega)]
    · rw [if_pos (by omega), dif_neg (by omega), blk_u]
      have : (i.val + 2048 - 3) % 2048 = i.val - 3 := by omega
      simp only [this]
  · rw [SH_eq 1 (by omega)]
    pointwise [k0_pay6, k0_pay4]
    word_cmp
    by_cases h : i.val < 2
    · rw [if_neg (by omega), dif_pos (by omega)]
    · rw [if_pos (by omega), dif_neg (by omega), blk_u]
      have : (i.val + 2048 - 2) % 2048 = 1 + i.val - 3 := by omega
      simp only [this]
  · rw [SH_eq 2 (by omega)]
    pointwise [k0_pay7, k0_pay4]
    word_cmp
    by_cases h : i.val < 1
    · rw [if_neg (by omega), dif_pos (by omega)]
    · rw [if_pos (by omega), dif_neg (by omega), blk_u]
      have : (i.val + 2048 - 1) % 2048 = 2 + i.val - 3 := by omega
      simp only [this]

theorem pay10_at (ct s3 s2 s1 x b : FVec Ideal S2048x256 .f32) (w0 w1 w2 : Vec Ideal S1x256 .f32) (i : Fin 2048) (k : Fin 256) (p : EReal)
    (hp : b (ix2 i k) + x (ix2 i k) + s3 (ix2 i k) * w0 (ix2 0 k) + s2 (ix2 i k) * w1 (ix2 0 k) + s1 (ix2 i k) * w2 (ix2 0 k) = p)
    (ht : ct (ix2 i k) ≠ ⊤) (hb : ct (ix2 i k) ≠ ⊥) :
    k0_pay10 ct s3 s2 s1 x b w0 w1 w2 (ix2 i k) = GR p (ct (ix2 i k)) := by
  have h := Sigmoid.silu_grad (ct (ix2 i k)) p ht hb
  unfold GR
  rw [← h, ← hp]
  pointwise [k0_pay10, Sigmoid.SG]
  simp only [zero_sub]

theorem ld0 (X : Vec Ideal S2048x256 .f32) : View.ld X r0_0 = X :=
  View.ld_unit_zero (by funext a; fin_cases a <;> rfl) _ X

/-- Every entry is finite. -/
def Finite (C : FVec Ideal S2048x3072 .f32) : Prop := ∀ j, C j ≠ ⊤ ∧ C j ≠ ⊥

theorem reorder (b x s t u : EReal) : b + x + s + t + u = s + t + u + x + b := by abel

/-- The gradient at the convolution that every point computes. -/
theorem grad_at (c : Dev nD) (t : Fin cfg0.N) (i : Fin 2048) (k : Fin 256)
    (hc : Finite (m ((c : Thread nD τ).loc main_arg3))) :
    k0_pay23 (grid0.coords t) (iblk m c 0 t) (iblk m c 1 t) (iblk m c 2 t) (iblk m c 3 t) (iblk m c 4 t) (iblk m c 5 t) (ix2 i k)
      = D (m ((c : Thread nD τ).loc main_arg0)) (m ((c : Thread nD τ).loc main_arg1)) (m ((c : Thread nD τ).loc main_arg2)) (m ((c : Thread nD τ).loc main_arg3)) i (col t k) := by
  unfold k0_pay23
  refine (pay10_at _ _ _ _ _ _ _ _ _ i k (PRE (US (m ((c : Thread nD τ).loc main_arg0))) (m ((c : Thread nD τ).loc main_arg1)) (m ((c : Thread nD τ).loc main_arg2)) i (col t k)) ?_ ?_ ?_).trans ?_
  · unfold PRE
    rw [← (shift_at m c t i k).1, ← (shift_at m c t i k).2.1, ← (shift_at m c t i k).2.2, ← blk_u m c t i k, ← blk_b m c t 0 k,
      ← blk_w m c t 0 k, ← blk_w m c t 1 k, ← blk_w m c t 2 k, ← blk_w m c t 3 k]
    pointwise [k0_pay18, k0_pay19, k0_pay20, k0_pay21, k0_pay22, k0_pay8, k0_pay9]
    rw [ld0]
    pointwise [k0_pay4]
    exact reorder _ _ _ _ _
  · rw [pay17_at]; exact (hc _).1
  · rw [pay17_at]; exact (hc _).2
  · rw [pay17_at]; rfl

theorem reorder' (a x y z : EReal) : a + x + y + z = a + z + y + x := by abel

/-- A read moved up by a rotation, zero past the end. -/
theorem pick (f : _root_.Fin 2048 → EReal) (w : EReal) (i : _root_.Fin 2048) (n a : ℕ) (ha : 0 < a) (hn : n + a = 2048)
    (hlt : (i.val + 2048 - n) % 2048 < 2048) :
    (if i.val < n then f ⟨(i.val + 2048 - n) % 2048, hlt⟩ * w else 0) = if h : i.val + a < 2048 then f ⟨i.val + a, h⟩ * w else 0 := by
  by_cases h : i.val + a < 2048
  · rw [if_pos (by omega), dif_pos h]
    have e : (i.val + 2048 - n) % 2048 = i.val + a := by omega
    simp only [e]
  · rw [if_neg (by omega), dif_neg h]

/-- The gradient of the input at a point. -/
theorem input_at (c : Dev nD) (t : Fin cfg0.N) (hc : Finite (m ((c : Thread nD τ).loc main_arg3))) (y : S2048x256.Idx) :
    out0_6 (grid0.coords t) (iblk m c 0 t) (iblk m c 1 t) (iblk m c 2 t) (iblk m c 3 t) (iblk m c 4 t) (iblk m c 5 t) y
      = RX (m ((c : Thread nD τ).loc main_arg0)) (m ((c : Thread nD τ).loc main_arg1)) (m ((c : Thread nD τ).loc main_arg2)) (m ((c : Thread nD τ).loc main_arg3)) (ix2 (y 0) (col t (y 1))) := by
  obtain ⟨i, k, rfl⟩ : ∃ r k, y = ix2 r k := ⟨y 0, y 1, by ext a; fin_cases a <;> rfl⟩
  have hg := fun i => grad_at m c t i k hc
  show _ = DX _ _ i
  unfold out0_6 DX
  frame_out
  pointwise [k0_pay11, k0_pay12]
  unfold k0_pay23
  unfold k0_pay23 at hg
  rw [hg, hg, hg, hg, blk_w, blk_w, blk_w, blk_w]
  word_cmp
  refine (reorder' _ _ _ _).trans ?_
  refine congrArg₂ (fun a b : EReal => a + b) (congrArg₂ (fun a b : EReal => a + b) (congrArg₂ (fun a b : EReal => a + b) rfl ?_) ?_) ?_
  · exact pick (fun x => D _ _ _ _ x (col t k)) _ i 2047 1 (by omega) (by omega) _
  · exact pick (fun x => D _ _ _ _ x (col t k)) _ i 2046 2 (by omega) (by omega) _
  · exact pick (fun x => D _ _ _ _ x (col t k)) _ i 2045 3 (by omega) (by omega) _

theorem bias_at (c : Dev nD) (t : Fin cfg0.N) (hc : Finite (m ((c : Thread nD τ).loc main_arg3))) (y : S1x256.Idx) :
    out0_8 (grid0.coords t) (iblk m c 0 t) (iblk m c 1 t) (iblk m c 2 t) (iblk m c 3 t) (iblk m c 4 t) (iblk m c 5 t) y
      = RB (m ((c : Thread nD τ).loc main_arg0)) (m ((c : Thread nD τ).loc main_arg1)) (m ((c : Thread nD τ).loc main_arg2)) (m ((c : Thread nD τ).loc main_arg3)) (ix2 (y 0) (col t (y 1))) := by
  obtain ⟨i, k, rfl⟩ : ∃ r k, y = ix2 r k := ⟨y 0, y 1, by ext a; fin_cases a <;> rfl⟩
  unfold out0_8 RB
  frame_out
  pointwise [k0_pay2]
  exact Fin.sum_fin_congr fun x => grad_at m c t x k hc

theorem row (P : FVec Ideal S2048x8224 .f32) (w : FVec Ideal S4x3072 .f32) (b : FVec Ideal S3072 .f32) (ct : FVec Ideal S2048x3072 .f32)
    (t : Fin cfg0.N) (y : S4x256.Idx) (r : _root_.Fin 4) (k : _root_.Fin 256) (h0 : (y 0).val = r.val) (h1 : (y 1).val = k.val) :
    RW P w b ct (ix2 (y 0) (col t (y 1)))
      = ∑ x : _root_.Fin 2048, D P w b ct x (col t k) * (![SH 0 (US P) x (col t k), SH 1 (US P) x (col t k), SH 2 (US P) x (col t k), US P (ix2 x (col t k))] : _root_.Fin 4 → EReal) r := by
  obtain rfl : r = y 0 := Fin.ext h0.symm
  obtain rfl : k = y 1 := Fin.ext h1.symm
  exact Finset.sum_congr rfl fun x _ => mul_comm _ _

theorem weight_at (c : Dev nD) (t : Fin cfg0.N) (hc : Finite (m ((c : Thread nD τ).loc main_arg3))) (y : S4x256.Idx) :
    out0_7 (grid0.coords t) (iblk m c 0 t) (iblk m c 1 t) (iblk m c 2 t) (iblk m c 3 t) (iblk m c 4 t) (iblk m c 5 t) y
      = RW (m ((c : Thread nD τ).loc main_arg0)) (m ((c : Thread nD τ).loc main_arg1)) (m ((c : Thread nD τ).loc main_arg2)) (m ((c : Thread nD τ).loc main_arg3)) (ix2 (y 0) (col t (y 1))) := by
  canon_tiles x h
  · rw [row _ _ _ _ t y 3 (x 1) (by omega) h1]
    pointwise [k0_pay1, k0_pay16, k0_pay4]
    refine Fin.sum_fin_congr fun z => ?_
    exact congrArg₂ (fun a b : EReal => a * b) (grad_at m c t z _ hc) (blk_u m c t z (x 1))
  · rw [row _ _ _ _ t y 2 (x 1) (by omega) h1]
    pointwise [k0_pay15, k0_pay20]
    refine Fin.sum_fin_congr fun z => ?_
    refine congrArg₂ (fun a b : EReal => a * b) (grad_at m c t z _ hc) ?_
    rw [ld0]
    exact (shift_at m c t z (x 1)).2.2
  · rw [row _ _ _ _ t y 1 (x 1) (by omega) h1]
    pointwise [k0_pay14, k0_pay19]
    refine Fin.sum_fin_congr fun z => ?_
    refine congrArg₂ (fun a b : EReal => a * b) (grad_at m c t z _ hc) ?_
    rw [ld0]
    exact (shift_at m c t z (x 1)).2.1
  · rw [row _ _ _ _ t y 0 (x 1) (by omega) h1]
    pointwise [k0_pay13, k0_pay18]
    refine Fin.sum_fin_congr fun z => ?_
    refine congrArg₂ (fun a b : EReal => a * b) (grad_at m c t z _ hc) ?_
    rw [ld0]
    exact (shift_at m c t z (x 1)).1

theorem final_input (c : Dev nD) (hc : Finite (m ((c : Thread nD τ).loc main_arg3))) : (dats m 0 c).arrAt 6 (cfgs 0).N
    = RX (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  refine (input_at m c t hc y).trans (congrArg _ ?_)
  blk_point [idx t, col]

theorem final_weight (c : Dev nD) (hc : Finite (m ((c : Thread nD τ).loc main_arg3))) : (dats m 0 c).arrAt 7 (cfgs 0).N
    = RW (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  refine (weight_at m c t hc y).trans (congrArg _ ?_)
  blk_point [idx t, col]

theorem final_bias (c : Dev nD) (hc : Finite (m ((c : Thread nD τ).loc main_arg3))) : (dats m 0 c).arrAt 8 (cfgs 0).N
    = RB (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  refine (bias_at m c t hc y).trans (congrArg _ ?_)
  blk_point [idx t, col]

end Cert.ConvKernelIdeal.Gen

namespace Cert.Proof

open Idealize.ShloMosaic Idealize.SL.Sem

theorem conv_reference_frame : Cert.quiescent_ConvReferenceIdeal := by
  intro m g _
  exact (θ_run Cert.ConvReferenceIdeal.defs _ _).mono (fun r h => ⟨fun c => (h c).2, sem_eq_zero_of_no_sems (by decide) r.2⟩)
    (Cert.ConvReferenceIdeal.Stage.run m g)

/-- What the precondition says. -/
theorem conv_finite (m : (ℓ : Loc Cert.ConvKernelIdeal.nD Cert.ConvKernelIdeal.τ Cert.ConvKernelIdeal.sig) → Buf (Elt Ideal) ℓ)
    (h : Cert.Pre_ConvKernelIdeal_conv_ct_finite m) (c : Dev Cert.ConvKernelIdeal.nD) :
    Cert.ConvKernelIdeal.Gen.Finite (m ((c.tc : Thread Cert.ConvKernelIdeal.nD Cert.ConvKernelIdeal.τ).loc Cert.ConvKernelIdeal.main_arg3)) :=
  fun j => Consts.finite_of_abs_lt _ (congrFun (h c) j)

theorem conv_algebraic : Cert.algebraic_ConvKernelIdeal_ConvReferenceIdeal_pre_conv_ct_finite := by
  pair_intro
  · run_from Cert.ConvKernelIdeal.Gen.run_main m g
  · run_from Cert.ConvReferenceIdeal.Stage.run m' g'
    · exact (Cert.ConvKernelIdeal.Gen.final_input m c (conv_finite m hpre c)).symm
    · exact (Cert.ConvKernelIdeal.Gen.final_weight m c (conv_finite m hpre c)).symm
    · exact (Cert.ConvKernelIdeal.Gen.final_bias m c (conv_finite m hpre c)).symm

end Cert.Proof

end
-- ==== Proof.Loss.lean ====
/- The loss and its gradient: what the kernel leaves equals the reference's composed terms. -/
module

public import proofs.«01_k».proof.Defs
public import proofs.«01_k».proof.Proof.Consts
public import proofs.«01_k».proof.Proof.Gen.LossKernelIdeal.Frame
public import proofs.«01_k».proof.Proof.Gen.LossReferenceIdeal.Run
public import Idealize.ShloMosaic.Lib.Claim

@[expose] public section

set_option maxRecDepth 16384

noncomputable section

namespace Cert.LossKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gradient: the error over 1024. -/
def DY (X Y : FVec Ideal S2048x1024 .f32) : FVec Ideal S2048x1024 .f32 :=
  fun j => (X j - Y j) * ((1 / 1024 : ℝ) : EReal)

/-- The loss: half the sum over the rows of the mean squared error of each. -/
def LOSS (X Y : FVec Ideal S2048x1024 .f32) : EReal :=
  ∑ i : Fin 2048, ((1 / 2 : ℝ) : EReal) * ((∑ k : Fin 1024, (X (ix2 i k) - Y (ix2 i k)) * (X (ix2 i k) - Y (ix2 i k))) * ((1 / 1024 : ℝ) : EReal))

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem point_dy (x y : Vec Ideal S512x1024 .f32) (j : S512x1024.Idx) :
    k0_pay2 x y j = (x j - y j) * ((1 / 1024 : ℝ) : EReal) := by
  pointwise [k0_pay2, k0_pay1, Consts.ofBits_inv1024]

theorem final_dy (c : Dev nD) : (dats m 0 c).arrAt 2 (cfgs 0).N = DY (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 4 = 0
  · rw [outsAt0_A m c t h]; frame_out; rw [point_dy]
    blk_point [iblk, V, idx t, DY]
  · rw [outsAt0_B m c t h]; frame_out; rw [point_dy]
    blk_point [iblk, V, idx t, DY]

theorem hzero (j) : k0_pay3 (F := Ideal) j = 0 := by pointwise [k0_pay3]

theorem hpay (x y : Vec Ideal S512x1024 .f32) (acc : Vec Ideal S1x128 .f32) (j) :
    k0_pay4 x y acc j = acc j + ∑ i : Fin 512, ((1 / 2 : ℝ) : EReal) * (∑ k : Fin 1024, (x (ix2 i k) - y (ix2 i k)) * (x (ix2 i k) - y (ix2 i k))) * ((1 / 1024 : ℝ) : EReal) := by
  pointwise [k0_pay4, k0_pay1, Consts.ofBits_inv1024, Consts.ofBits_half]

theorem final_loss (c : Dev nD) : (dats m 0 c).arrAt 3 (cfgs 0).N = fun _ => LOSS (m ((c : Thread nD τ).loc main_arg0)) (m ((c : Thread nD τ).loc main_arg1)) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold LOSS
  refine Fin.sum_mul_add_congr fun t k hl => ?_
  rw [mul_assoc]
  blk_point [iblk, V, idx t]

/-- The host lines after the kernel take one entry of the accumulated row. -/
theorem tail_loss (c : Dev nD) : Pipeline.afterTail₀ cfgs (dats m) 0 (V0 m) [hostOps1] c main_v2
    = fun _ => LOSS (m ((c : Thread nD τ).loc main_arg0)) (m ((c : Thread nD τ).loc main_arg1)) := by
  unfold Pipeline.afterTail₀
  simp only [List.flatten_cons, List.flatten_nil, List.append_nil, StableHlo.after_cons, StableHlo.after_nil]
  after_results_simp
  have h : Pipeline.withArrays (cfgs 0).spec c (V0 m c) (fun w => (dats m 0 c).arrAt w (cfgs 0).N) (Proc.devRef .tc main_v0_1)
      = fun _ => LOSS (m ((c : Thread nD τ).loc main_arg0)) (m ((c : Thread nD τ).loc main_arg1)) :=
    (Pipeline.withArrays_arr (cfgs 0).spec (by decide) c (V0 m c) (fun w => (dats m 0 c).arrAt w (cfgs 0).N) 3).trans (final_loss m c)
  rw [h]
  rfl

end Cert.LossKernelIdeal.Gen

namespace Cert.Proof

open Idealize.ShloMosaic Idealize.SL.Sem

theorem loss_reference_frame : Cert.quiescent_LossReferenceIdeal := by
  intro m g _
  exact (θ_run Cert.LossReferenceIdeal.defs _ _).mono (fun r h => ⟨fun c => (h c).2.2, sem_eq_zero_of_no_sems (by decide) r.2⟩)
    (Cert.LossReferenceIdeal.Value.run m g)

theorem loss_algebraic : Cert.algebraic_LossKernelIdeal_LossReferenceIdeal := by
  pair_intro
  · run_from Cert.LossKernelIdeal.Gen.run_main m g
  · run_from Cert.LossReferenceIdeal.Value.run m' g'
    · refine Eq.trans ?_ (Cert.LossKernelIdeal.Gen.final_dy m c).symm
      funext j
      pointwise [Cert.LossKernelIdeal.Gen.DY, Consts.ofBits_half, Consts.ofBits_1024]
      rw [mul_comm (Ideal.div _ _), Ideal.div_coe (by norm_num), ← EReal.coe_mul, Consts.mul_coe_add_mul_coe _ _ _ (by norm_num) (by norm_num)]
      norm_num
    · refine Eq.trans ?_ (Cert.LossKernelIdeal.Gen.tail_loss m c).symm
      funext j
      pointwise [Cert.LossKernelIdeal.Gen.LOSS, Consts.ofBits_half, Consts.ofBits_1024]
      rw [Consts.coe_mul_sum _ _ _ (by norm_num)]
      refine Finset.sum_congr rfl fun i _ => ?_
      rw [Ideal.div_coe (by norm_num)]

end Cert.Proof

end
-- ==== Proof.Merge.lean ====
/- The gradient of the gated merge: what the kernel leaves equals the reference's composed terms. -/
module

public import proofs.«01_k».proof.Defs
public import proofs.«01_k».proof.Proof.Consts
public import proofs.«01_k».proof.Proof.Sigmoid
public import proofs.«01_k».proof.Proof.Gen.MergeKernelIdeal.Frame
public import proofs.«01_k».proof.Proof.Gen.MergeReferenceIdeal.Run
public import Idealize.ShloMosaic.Lib.Claim

@[expose] public section

set_option maxRecDepth 16384

noncomputable section

namespace Cert.MergeKernelIdeal.Gen

open Idealize.ShloMosaic Idealize.ShloMosaic.TcCoe Idealize.SL.Sem
open Idealize.ShloMosaic.Pipeline (Dat)
open Cert.Sigmoid

variable (m : (ℓ : Loc nD τ sig) → Buf (Elt Ideal) ℓ) (ρ : Dev nD → PrngReg)

theorem idx : ∀ t : Fin cfg0.N, win0_0.index t = ![t.val, 5] ∧ win0_1.index t = ![t.val, 6] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The row of the array that a grid point's row is. -/
def row (t : Fin cfg0.N) (i : _root_.Fin 512) : _root_.Fin 2048 := ⟨t.val * 512 + i.val, by have := lt_of_lt_of_eq t.isLt N_0; omega⟩

theorem blk_ga (c : Dev nD) (t : Fin cfg0.N) (i : _root_.Fin 512) (k : _root_.Fin 1024) :
    (iblk m c 0 t : Vec Ideal S512x1024 .f32) (ix2 i k) = (m ((c : Thread nD τ).loc main_arg0) : FVec Ideal S2048x8224 .f32) (ix2 (row t i) ⟨6176 + k.val, by omega⟩) := by
  unfold iblk
  entry_read
  blk_simp
  pointwise [row]
  rw [dif_neg (by blk_simp [idx t]; omega)]
  blk_point [idx t]

theorem blk_gb (c : Dev nD) (t : Fin cfg0.N) (i : _root_.Fin 512) (k : _root_.Fin 1024) :
    (iblk m c 1 t : Vec Ideal S512x1024 .f32) (ix2 i k) = (m ((c : Thread nD τ).loc main_arg0) : FVec Ideal S2048x8224 .f32) (ix2 (row t i) ⟨7200 + k.val, by omega⟩) := by
  unfold iblk
  entry_read
  blk_simp
  pointwise [row]
  rw [dif_neg (by blk_simp [idx t]; omega)]
  blk_point [idx t]

/-- One gate's gradient at an index. -/
def GG (P : FVec Ideal S2048x8224 .f32) (A C : FVec Ideal S2048x1024 .f32) (i : _root_.Fin 2048) (k : _root_.Fin 1024) (g : _root_.Fin 8224) : EReal :=
  C (ix2 i k) * A (ix2 i k) * (SG (P (ix2 i g)) * (1 - SG (P (ix2 i g))))

/-- The column of a gate in the projected array. -/
def ga (k : _root_.Fin 1024) : _root_.Fin 8224 := ⟨6176 + k.val, by omega⟩
/-- The column of the other gate. -/
def gb (k : _root_.Fin 1024) : _root_.Fin 8224 := ⟨7200 + k.val, by omega⟩

/-- The gradients of the two gates, side by side. -/
def DG (P : FVec Ideal S2048x8224 .f32) (A B C : FVec Ideal S2048x1024 .f32) : FVec Ideal S2048x2048 .bf16 :=
  fun j => if h : (j 1).val < 1024 then GG P A C (j 0) ⟨(j 1).val, h⟩ (ga ⟨(j 1).val, h⟩)
    else GG P B C (j 0) (hi j h) (gb (hi j h))

/-- The gradient of a branch. -/
def DA (P : FVec Ideal S2048x8224 .f32) (C : FVec Ideal S2048x1024 .f32) (g : _root_.Fin 1024 → _root_.Fin 8224) : FVec Ideal S2048x1024 .bf16 :=
  fun j => SG (P (ix2 (j 0) (g (j 1)))) * C j

theorem ga_eq (k : _root_.Fin 1024) : ga k = ⟨6176 + k.val, by omega⟩ := rfl
theorem gb_eq (k : _root_.Fin 1024) : gb k = ⟨7200 + k.val, by omega⟩ := rfl

theorem DG_at (P : FVec Ideal S2048x8224 .f32) (A B C : FVec Ideal S2048x1024 .f32) (j : S2048x2048.Idx) :
    DG P A B C j = if h : (j 1).val < 1024 then GG P A C (j 0) ⟨(j 1).val, h⟩ (ga ⟨(j 1).val, h⟩)
      else GG P B C (j 0) (hi j h) (gb (hi j h)) := rfl

theorem out5_at (x0 x1 x2 x3 x4 : Vec Ideal S512x1024 .f32) (j) : out0_5 x0 x1 x2 x3 x4 j =
    if h : (j 1).val < 1024
    then G1 (x4 (ix2 (j 0) ⟨(j 1).val, h⟩)) (x2 (ix2 (j 0) ⟨(j 1).val, h⟩)) (x0 (ix2 (j 0) ⟨(j 1).val, h⟩))
    else G1 (x4 (ix2 (j 0) (hi j h))) (x3 (ix2 (j 0) (hi j h))) (x1 (ix2 (j 0) (hi j h))) := by
  unfold_out out0_5
  frame_out
  pointwise [k0_pay1, k0_pay4, k0_pay7, k0_pay5, k0_pay6, k0_pay8, k0_pay9, k0_pay10, k0_pay11, k0_pay13, k0_pay14]
  simp only [G1, gate_grad, hi_eq]

theorem out6_at (x0 x1 x2 x3 x4 : Vec Ideal S512x1024 .f32) (j) : out0_6 x0 x1 x2 x3 x4 j = SG (x0 j) * x4 j := by
  unfold_out out0_6
  frame_out
  pointwise [k0_pay2, k0_pay4, k0_pay7, k0_pay5, k0_pay6, k0_pay8, k0_pay9, k0_pay10, k0_pay11, k0_pay13, k0_pay14]
  simp only [SG_sub]

theorem out7_at (x0 x1 x2 x3 x4 : Vec Ideal S512x1024 .f32) (j) : out0_7 x0 x1 x2 x3 x4 j = SG (x1 j) * x4 j := by
  unfold_out out0_7
  frame_out
  pointwise [k0_pay3, k0_pay4, k0_pay7, k0_pay5, k0_pay6, k0_pay8, k0_pay9, k0_pay10, k0_pay11, k0_pay12, k0_pay13, k0_pay14]
  simp only [SG_sub]

theorem final_a (c : Dev nD) : (dats m 0 c).arrAt 6 (cfgs 0).N = DA (m ((c : Thread nD τ).loc main_arg0)) (m ((c : Thread nD τ).loc main_arg3)) ga := by
  refine (dats m 0 c).arrAt_eq_of_covers 6 _ (by decide +kernel) fun t _ y => ?_
  obtain ⟨i, k, rfl⟩ : ∃ r k, y = ix2 r k := ⟨y 0, y 1, by ext a; fin_cases a <;> rfl⟩
  blk_simp
  rw [after0_6, out6_at, blk_ga]
  blk_point [iblk, V, idx t, row, DA, ga]

theorem final_b (c : Dev nD) : (dats m 0 c).arrAt 7 (cfgs 0).N = DA (m ((c : Thread nD τ).loc main_arg0)) (m ((c : Thread nD τ).loc main_arg3)) gb := by
  refine (dats m 0 c).arrAt_eq_of_covers 7 _ (by decide +kernel) fun t _ y => ?_
  obtain ⟨i, k, rfl⟩ : ∃ r k, y = ix2 r k := ⟨y 0, y 1, by ext a; fin_cases a <;> rfl⟩
  blk_simp
  rw [after0_7, out7_at, blk_gb]
  blk_point [iblk, V, idx t, row, DA, gb]

theorem final_g (c : Dev nD) : (dats m 0 c).arrAt 5 (cfgs 0).N
    = DG (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨i, k, rfl⟩ : ∃ r k, y = ix2 r k := ⟨y 0, y 1, by ext a; fin_cases a <;> rfl⟩
  blk_simp
  rw [after0_5, out5_at, DG_at]
  by_cases h : k.val < 1024
  · refine (dif_pos h).trans (Eq.trans ?_ (dif_pos (by blk_simp [idx t]; omega)).symm)
    refine Eq.trans (congrArg (G1 _ _) (blk_ga m c t i ⟨k.val, h⟩)) ?_
    blk_point [iblk, V, idx t, row, GG, G1, ga]
  · refine (dif_neg h).trans (Eq.trans ?_ (dif_neg (by blk_simp [idx t]; omega)).symm)
    refine Eq.trans (congrArg (G1 _ _) (blk_gb m c t i (hi (ix2 i k) h))) ?_
    blk_point [iblk, V, idx t, row, GG, G1, gb, hi]

end Cert.MergeKernelIdeal.Gen

namespace Cert.Proof

open Idealize.ShloMosaic Idealize.SL.Sem

theorem merge_reference_frame : Cert.quiescent_MergeReferenceIdeal := by
  intro m g _
  exact (θ_run Cert.MergeReferenceIdeal.defs _ _).mono (fun r h => ⟨fun c => (h c).2.2.2, sem_eq_zero_of_no_sems (by decide) r.2⟩)
    (Cert.MergeReferenceIdeal.Value.run m g)

theorem merge_algebraic : Cert.algebraic_MergeKernelIdeal_MergeReferenceIdeal := by
  pair_intro
  · run_from Cert.MergeKernelIdeal.Gen.run_main m g
  · run_from Cert.MergeReferenceIdeal.Value.run m' g'
    · refine Eq.trans ?_ (Cert.MergeKernelIdeal.Gen.final_g m c).symm
      funext j
      pointwise [Cert.MergeKernelIdeal.Gen.DG_at, Cert.MergeKernelIdeal.Gen.GG, Sigmoid.SG]
      rw [(hagree c).2.2.2]
      rfl
    · refine Eq.trans ?_ (Cert.MergeKernelIdeal.Gen.final_a m c).symm
      funext j
      pointwise [Cert.MergeKernelIdeal.Gen.DA, Cert.MergeKernelIdeal.Gen.ga_eq, Sigmoid.SG]
    · refine Eq.trans ?_ (Cert.MergeKernelIdeal.Gen.final_b m c).symm
      funext j
      pointwise [Cert.MergeKernelIdeal.Gen.DA, Cert.MergeKernelIdeal.Gen.gb_eq, Sigmoid.SG]

end Cert.Proof

end
-- ==== Proof.Glu.lean ====
/- The gradient of the gated linear unit: what the kernel leaves equals the reference's composed terms. -/
module

public import proofs.«01_k».proof.Defs
public import proofs.«01_k».proof.Proof.Consts
public import proofs.«01_k».proof.Proof.Sigmoid
public import proofs.«01_k».proof.Proof.Gen.GluKernelIdeal.Frame
public import proofs.«01_k».proof.Proof.Gen.GluReferenceIdeal.Run
public import Idealize.ShloMosaic.Lib.Claim

@[expose] public section

set_option maxRecDepth 16384

noncomputable section

namespace Cert.GluKernelIdeal.Gen

open Idealize.ShloMosaic Idealize.ShloMosaic.TcCoe Idealize.SL.Sem
open Idealize.ShloMosaic.Pipeline (Dat)
open Cert.Sigmoid

variable (m : (ℓ : Loc nD τ sig) → Buf (Elt Ideal) ℓ) (ρ : Dev nD → PrngReg)

theorem idx : ∀ t : Fin cfg0.N, win0_0.index t = ![t.val, 0] ∧ win0_1.index t = ![t.val, 1] ∧ win0_2.index t = ![t.val, 0] ∧ win0_3.index t = ![t.val, 0] :=
  (by decide +kernel : ∀ t : Fin grid0.N, _)

/-- The gradient of the two halves, side by side. -/
def DV (V : FVec Ideal S2048x2048 .f32) (C : FVec Ideal S2048x1024 .f32) : FVec Ideal S2048x2048 .bf16 :=
  fun j => if h : (j 1).val < 1024 then C (ix2 (j 0) ⟨(j 1).val, h⟩) * SG (V (ix2 (j 0) ⟨1024 + (j 1).val, by omega⟩))
    else G1 (V (ix2 (j 0) ⟨(j 1).val - 1024, by have : (j 1).val < 2048 := (j 1).isLt; omega⟩)) (C (ix2 (j 0) (hi j h)))
        (V (ix2 (j 0) ⟨1024 + ((j 1).val - 1024), by have : (j 1).val < 2048 := (j 1).isLt; omega⟩))

theorem DV_at (V : FVec Ideal S2048x2048 .f32) (C : FVec Ideal S2048x1024 .f32) (j) : DV V C j =
    if h : (j 1).val < 1024 then C (ix2 (j 0) ⟨(j 1).val, h⟩) * SG (V (ix2 (j 0) ⟨1024 + (j 1).val, by omega⟩))
    else G1 (V (ix2 (j 0) ⟨(j 1).val - 1024, by have : (j 1).val < 2048 := (j 1).isLt; omega⟩)) (C (ix2 (j 0) (hi j h)))
        (V (ix2 (j 0) ⟨1024 + ((j 1).val - 1024), by have : (j 1).val < 2048 := (j 1).isLt; omega⟩)) := rfl

theorem out3_at (x0 x1 x2 : Vec Ideal S512x1024 .f32) (j) : out0_3 x0 x1 x2 j =
    if h : (j 1).val < 1024 then x2 (ix2 (j 0) ⟨(j 1).val, h⟩) * SG (x1 (ix2 (j 0) ⟨(j 1).val, h⟩))
    else G1 (x0 (ix2 (j 0) (hi j h))) (x2 (ix2 (j 0) (hi j h))) (x1 (ix2 (j 0) (hi j h))) := by
  unfold out0_3
  frame_out
  pointwise [k0_pay1]
  simp only [G1, SG_sub, gate_grad, hi_eq]

theorem final_v (c : Dev nD) : (dats m 0 c).arrAt 3 (cfgs 0).N = DV (m ((c : Thread nD τ).loc main_arg0)) (m ((c : Thread nD τ).loc main_arg1)) := by
  refine (dats m 0 c).arrAt_eq_of_covers 3 _ (by decide +kernel) fun t _ y => ?_
  obtain ⟨i, k, rfl⟩ : ∃ r k, y = ix2 r k := ⟨y 0, y 1, by ext a; fin_cases a <;> rfl⟩
  blk_simp
  rw [after0_3, out3_at, DV_at]
  by_cases h : k.val < 1024
  · refine (dif_pos h).trans (Eq.trans ?_ (dif_pos (by blk_simp [idx t]; omega)).symm)
    blk_point [iblk, V, idx t, G1, hi]
  · refine (dif_neg h).trans (Eq.trans ?_ (dif_neg (by blk_simp [idx t]; omega)).symm)
    blk_point [iblk, V, idx t, G1, hi]

end Cert.GluKernelIdeal.Gen

namespace Cert.Proof

open Idealize.ShloMosaic Idealize.SL.Sem

theorem glu_reference_frame : Cert.quiescent_GluReferenceIdeal := by
  intro m g _
  exact (θ_run Cert.GluReferenceIdeal.defs _ _).mono (fun r h => ⟨fun c => (h c).2, sem_eq_zero_of_no_sems (by decide) r.2⟩)
    (Cert.GluReferenceIdeal.Value.run m g)

theorem glu_algebraic : Cert.algebraic_GluKernelIdeal_GluReferenceIdeal := by
  pair_intro
  · run_from Cert.GluKernelIdeal.Gen.run_main m g
  · run_from Cert.GluReferenceIdeal.Value.run m' g'
    refine Eq.trans ?_ (Cert.GluKernelIdeal.Gen.final_v m c).symm
    funext j
    pointwise [Cert.GluKernelIdeal.Gen.DV_at, Sigmoid.G1, Sigmoid.SG, Sigmoid.hi_eq]

end Cert.Proof

end
-- ==== Proof.Act.lean ====
/- The gradient of the gelu over the direct path: what the kernel leaves equals the reference's composed terms. -/
module

public import proofs.«01_k».proof.Defs
public import proofs.«01_k».proof.Proof.Consts
public import proofs.«01_k».proof.Proof.Sigmoid
public import proofs.«01_k».proof.Proof.Gen.ActKernelIdeal.Frame
public import proofs.«01_k».proof.Proof.Gen.ActReferenceIdeal.Run
public import Idealize.ShloMosaic.Lib.Claim

@[expose] public section

set_option maxRecDepth 16384

noncomputable section

namespace Cert.ActKernelIdeal.Gen

open Idealize.ShloMosaic Idealize.ShloMosaic.TcCoe Idealize.SL.Sem
open Idealize.ShloMosaic.Pipeline (Dat)
open Cert.Sigmoid

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

/-- The tangent within the gelu. -/
def TH (z : EReal) : EReal := Ideal.tanh (Ideal.ofBits .f32 0x3F4C422A#32 * (z + Ideal.ofBits .f32 0x3D372713#32 * (z * z * z)))

/-- The gradient of the polynomial under the tangent. -/
def TP (z g : EReal) : EReal := Ideal.ofBits .f32 0x3F4C422A#32 * (((1 / 2 : ℝ) : EReal) * (z * g) * ((1 + TH z) * (1 - TH z)))

/-- The gradient of the gelu at `z` for the cotangent `g`. -/
def GEL (z g : EReal) : EReal :=
  g * (((1 / 2 : ℝ) : EReal) * (1 + TH z)) + TP z g + Ideal.ofBits .f32 0x3D372713#32 * TP z g * (Ideal.ofBits .f32 0x40400000#32 * (z * z))

theorem three_terms (z w : EReal) : z * z * w + z * (w * z) + w * z * z = w * (Ideal.ofBits .f32 0x40400000#32 * (z * z)) := by
  have e1 : z * z * w = w * (z * z) := mul_comm _ _
  have e2 : z * (w * z) = w * (z * z) := by rw [mul_left_comm]
  have e3 : w * z * z = w * (z * z) := mul_assoc _ _ _
  rw [e1, e2, e3, Consts.ofBits_three, mul_left_comm w _ (z * z), Consts.three_mul]

/-- The kernel's order of the gelu's gradient. -/
theorem gel_order (z g : EReal) :
    Ideal.ofBits .f32 0x3F4C422A#32 * (((1 / 2 : ℝ) : EReal) * z * g * ((1 + TH z) * (1 - TH z)))
      + z * z * (Ideal.ofBits .f32 0x3D372713#32 * (Ideal.ofBits .f32 0x3F4C422A#32 * (((1 / 2 : ℝ) : EReal) * z * g * ((1 + TH z) * (1 - TH z)))))
      + z * (Ideal.ofBits .f32 0x3D372713#32 * (Ideal.ofBits .f32 0x3F4C422A#32 * (((1 / 2 : ℝ) : EReal) * z * g * ((1 + TH z) * (1 - TH z)))) * z)
      + Ideal.ofBits .f32 0x3D372713#32 * (Ideal.ofBits .f32 0x3F4C422A#32 * (((1 / 2 : ℝ) : EReal) * z * g * ((1 + TH z) * (1 - TH z)))) * z * z
      + ((1 / 2 : ℝ) : EReal) * (g * (1 + TH z)) = GEL z g := by
  rw [mul_assoc ((1 / 2 : ℝ) : EReal) z g]
  show TP z g + z * z * (Ideal.ofBits .f32 0x3D372713#32 * TP z g) + z * (Ideal.ofBits .f32 0x3D372713#32 * TP z g * z) + Ideal.ofBits .f32 0x3D372713#32 * TP z g * z * z + _ = _
  rw [add_assoc (TP z g), add_assoc (TP z g), three_terms, mul_left_comm ((1 / 2 : ℝ) : EReal) g, GEL]
  abel

theorem point_z (y u : Vec Ideal S512x1024 .f32) (d : Vec Ideal S1x1024 .f32) (g : Vec Ideal S512x1024 .f32) (j : S512x1024.Idx) :
    k0_pay1 (k0_pay10 y u d g) (k0_pay11 y u d g) j = GEL (y j + d (ix2 0 (j 1)) * u j) (g j) := by
  rw [← gel_order]
  pointwise [k0_pay1, k0_pay6, k0_pay7, k0_pay8, k0_pay9, k0_pay10, k0_pay11, Consts.ofBits_half, TH]

/-- The gradient of the argument of the gelu. -/
def DZ (Y U : FVec Ideal S2048x1024 .f32) (D : FVec Ideal S1024 .f32) (C : FVec Ideal S2048x1024 .f32) : FVec Ideal S2048x1024 .f32 :=
  fun j => GEL (Y j + D (ix1 (j 1)) * U j) (C j)

theorem point_y (y u : Vec Ideal S512x1024 .f32) (d : Vec Ideal S1x1024 .f32) (g : Vec Ideal S512x1024 .f32) (j : S512x1024.Idx) :
    k0_pay3 (k0_pay10 y u d g) (k0_pay11 y u d g) j = GEL (y j + d (ix2 0 (j 1)) * u j) (g j) := by
  rw [← point_z]
  pointwise [k0_pay3]

theorem point_u (y u : Vec Ideal S512x1024 .f32) (d : Vec Ideal S1x1024 .f32) (g : Vec Ideal S512x1024 .f32) (j : S512x1024.Idx) :
    k0_pay2 (k0_pay6 d) (k0_pay10 y u d g) (k0_pay11 y u d g) j = d (ix2 0 (j 1)) * GEL (y j + d (ix2 0 (j 1)) * u j) (g j) := by
  rw [← point_z]
  pointwise [k0_pay2, k0_pay6]

theorem hzero (j) : k0_pay4 (F := Ideal) j = 0 := by pointwise [k0_pay4]

theorem hpay (y u : Vec Ideal S512x1024 .f32) (d : Vec Ideal S1x1024 .f32) (g : Vec Ideal S512x1024 .f32) (acc : Vec Ideal S1x1024 .f32) (j) :
    k0_pay5 u (k0_pay10 y u d g) (k0_pay11 y u d g) acc j
      = acc j + ∑ i : _root_.Fin 512, GEL (y (ix2 i (j 1)) + d (ix2 0 (j 1)) * u (ix2 i (j 1))) (g (ix2 i (j 1))) * u (ix2 i (j 1)) := by
  pointwise [k0_pay5]
  exact congrArg (acc j + ·) (Finset.sum_congr rfl fun i _ => congrArg (· * _) (point_z y u d g _))

theorem final_y (c : Dev nD) : (dats m 0 c).arrAt 4 (cfgs 0).N
    = DZ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 4 = 0
  · rw [outsAt0_A m c t h]; frame_out; rw [point_y]
    blk_point [iblk, V, idx t, DZ]
  · rw [outsAt0_B m c t h]; frame_out; rw [point_y]
    blk_point [iblk, V, idx t, DZ]

/-- The gradient through the direct path. -/
def DU (Y U : FVec Ideal S2048x1024 .f32) (D : FVec Ideal S1024 .f32) (C : FVec Ideal S2048x1024 .f32) : FVec Ideal S2048x1024 .f32 :=
  fun j => D (ix1 (j 1)) * GEL (Y j + D (ix1 (j 1)) * U j) (C j)

/-- The gradient of the direct path's factors: sums over the rows. -/
def DD (Y U : FVec Ideal S2048x1024 .f32) (D : FVec Ideal S1024 .f32) (C : FVec Ideal S2048x1024 .f32) : FVec Ideal S1x1024 .f32 :=
  fun j => ∑ i : _root_.Fin 2048, GEL (Y (ix2 i (j 1)) + D (ix1 (j 1)) * U (ix2 i (j 1))) (C (ix2 i (j 1))) * U (ix2 i (j 1))

theorem final_u (c : Dev nD) : (dats m 0 c).arrAt 5 (cfgs 0).N
    = DU (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 4 = 0
  · rw [outsAt0_A m c t h]; frame_out; rw [point_u]
    blk_point [iblk, V, idx t, DU]
  · rw [outsAt0_B m c t h]; frame_out; rw [point_u]
    blk_point [iblk, V, idx t, DU]

theorem final_d (c : Dev nD) : (dats m 0 c).arrAt 6 (cfgs 0).N
    = DD (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0) _
    (fun t h j => by rw [outsAt0_A m c t h]; frame_out; rw [hpay, hzero])
    (fun t h j => by rw [outsAt0_B m c t h]; frame_out; rw [hpay])
    (le_of_eq N_0) t0_3 rfl j, zero_add]
  unfold DD
  refine Fin.sum_mul_add_congr fun t k hl => ?_
  blk_point [iblk, V, idx t]

end Cert.ActKernelIdeal.Gen

namespace Cert.Proof

open Idealize.ShloMosaic Idealize.SL.Sem

theorem act_reference_frame : Cert.quiescent_ActReferenceIdeal := by
  intro m g _
  exact (θ_run Cert.ActReferenceIdeal.defs _ _).mono (fun r h => ⟨fun c => (h c).2.2.2, sem_eq_zero_of_no_sems (by decide) r.2⟩)
    (Cert.ActReferenceIdeal.Value.run m g)

theorem act_algebraic : Cert.algebraic_ActKernelIdeal_ActReferenceIdeal := by
  pair_intro
  · run_from Cert.ActKernelIdeal.Gen.run_main m g
  · run_from Cert.ActReferenceIdeal.Value.run m' g'
    · refine Eq.trans ?_ (Cert.ActKernelIdeal.Gen.final_y m c).symm
      obtain ⟨e0, e1, e2, e3⟩ := hagree c
      funext j
      pointwise [Cert.ActReferenceIdeal.Value.res_main_v43, Cert.ActKernelIdeal.Gen.DZ, Consts.ofBits_half]
      rw [e0, e1, e2, e3]
      rfl
    · refine Eq.trans ?_ (Cert.ActKernelIdeal.Gen.final_u m c).symm
      obtain ⟨e0, e1, e2, e3⟩ := hagree c
      funext j
      pointwise [Cert.ActReferenceIdeal.Value.res_main_v38, Cert.ActKernelIdeal.Gen.DU, Consts.ofBits_half]
      rw [e0, e1, e2, e3]
      rfl
    · refine Eq.trans ?_ (Cert.ActKernelIdeal.Gen.final_d m c).symm
      obtain ⟨e0, e1, e2, e3⟩ := hagree c
      funext j
      pointwise [Cert.ActReferenceIdeal.Value.res_main_v44, Cert.ActKernelIdeal.Gen.DD, Consts.ofBits_half]
      rw [e0, e1, e2, e3, Fin.sum_univ_one (M := EReal)]
      rfl

end Cert.Proof

end
-- ==== Proof.Norm.lean ====
/- The gradient of a normalised row, of the row, its cotangent and one entry of each. -/
module

public import proofs.«01_k».proof.Proof.Sigmoid

@[expose] public section

noncomputable section

namespace Cert.Norm

open Idealize.ShloMosaic

/-- The mean square of a row, plus the small constant. -/
def ES {n : ℕ} (N : EReal) (v : Fin n → EReal) : EReal := Ideal.div (∑ x, v x * v x) N + Ideal.ofBits .f32 0x358637BD#32

/-- The share of the mean square in the gradient of a row's entry. -/
def SS {n : ℕ} (N : EReal) (v q : Fin n → EReal) : EReal :=
  Ideal.div ((∑ x, v x * q x) * (Ideal.ofBits .f32 0xBF000000#32 * Ideal.div (Ideal.rsqrt (ES N v)) (ES N v))) N

/-- The gradient of a row's entry `v0`, whose cotangent is `q0`. -/
def RG {n : ℕ} (N : EReal) (v q : Fin n → EReal) (v0 q0 : EReal) : EReal :=
  q0 * Ideal.rsqrt (ES N v) + v0 * SS N v q + SS N v q * v0

/-- A number added before the three summands of the gradient, or to their sum. -/
theorem RG_add {n : ℕ} (N : EReal) (v q : Fin n → EReal) (v0 q0 d : EReal) :
    d + q0 * Ideal.rsqrt (ES N v) + v0 * SS N v q + SS N v q * v0 = d + RG N v q v0 q0 := by
  unfold RG
  simp only [add_assoc]

/-- The product of a number with its logistic. -/
def SIL (z : EReal) : EReal := z * Sigmoid.SG z

end Cert.Norm

end
-- ==== Proof.Gate.lean ====
/- The gradient of the gated grouped norm: what the kernel leaves equals the reference's composed terms. -/
module

public import proofs.«01_k».proof.Defs
public import proofs.«01_k».proof.Proof.Consts
public import proofs.«01_k».proof.Proof.Norm
public import proofs.«01_k».proof.Proof.Gen.GateKernelIdeal.Frame
public import proofs.«01_k».proof.Proof.Gen.GateReferenceIdeal.Run
public import Idealize.ShloMosaic.Lib.Claim

@[expose] public section

set_option maxRecDepth 16384

noncomputable section

namespace Cert.GateKernelIdeal.Gen

open Idealize.ShloMosaic Idealize.ShloMosaic.TcCoe Idealize.SL.Sem
open Idealize.ShloMosaic.Pipeline (Dat)
open Cert.Sigmoid Cert.Norm

variable (m : (ℓ : Loc nD τ sig) → Buf (Elt Ideal) ℓ) (ρ : Dev nD → PrngReg)

theorem idx : ∀ t : Fin cfg0.N, win0_0.index t = ![t.val % 4, t.val / 4] ∧ win0_1.index t = ![t.val % 4, t.val / 4] ∧ win0_2.index t = ![0, t.val / 4] ∧ win0_3.index t = ![t.val % 4, t.val / 4]
    ∧ win0_4.index t = ![t.val % 4, t.val / 4] ∧ win0_5.index t = ![t.val % 4, t.val / 4] ∧ win0_6.index t = ![0, t.val / 4] :=
  (by decide +kernel : ∀ t : Fin grid0.N, _)

/-- The row that the kernel normalises. -/
def vr (y z : Vec Ideal S512x512 .f32) (i x : _root_.Fin 512) : EReal := y (ix2 i x) * SIL (z (ix2 i x))
/-- The cotangent of that row. -/
def qr (g : Vec Ideal S1x512 .f32) (d : Vec Ideal S512x512 .f32) (i x : _root_.Fin 512) : EReal := d (ix2 i x) * g (ix2 0 x)

/-- The width of a group, a float constant. -/
abbrev W512 : EReal := Ideal.ofBits .f32 0x44000000#32

theorem point_v (y z : Vec Ideal S512x512 .f32) (j : S512x512.Idx) : k0_pay12 y z j = vr y z (j 0) (j 1) := by
  pointwise [k0_pay12, k0_pay11, k0_pay9, k0_pay8, k0_pay7, k0_pay6, vr, SIL]
  simp only [SG_sub]

theorem point_es (y z : Vec Ideal S512x512 .f32) (j : S512x1.Idx) : k0_pay13 y z j = ES W512 (vr y z (j 0)) := by
  pointwise [k0_pay13, point_v, ES, vr, SIL]

theorem point_q (g : Vec Ideal S1x512 .f32) (d : Vec Ideal S512x512 .f32) (j : S512x512.Idx) : k0_pay17 g d j = qr g d (j 0) (j 1) := by
  pointwise [k0_pay17, qr]

theorem point_dv (y z : Vec Ideal S512x512 .f32) (g : Vec Ideal S1x512 .f32) (d : Vec Ideal S512x512 .f32) (j : S512x512.Idx) :
    k0_pay1 (k0_pay12 y z) (k0_pay15 y z) (k0_pay17 g d) (k0_pay18 y z g d) (k0_pay19 y z) j
      = RG W512 (vr y z (j 0)) (qr g d (j 0)) (vr y z (j 0) (j 1)) (qr g d (j 0) (j 1)) := by
  pointwise [k0_pay1, k0_pay15, k0_pay18, k0_pay19, k0_pay14, point_v, point_es, point_q, RG, SS]
  simp only [Fin.sum_univ_one (M := EReal)]

theorem point_y (y z : Vec Ideal S512x512 .f32) (g : Vec Ideal S1x512 .f32) (d : Vec Ideal S512x512 .f32) (j : S512x512.Idx) :
    k0_pay2 (k0_pay11 z) (k0_pay12 y z) (k0_pay15 y z) (k0_pay17 g d) (k0_pay18 y z g d) (k0_pay19 y z) j
      = RG W512 (vr y z (j 0)) (qr g d (j 0)) (vr y z (j 0) (j 1)) (qr g d (j 0) (j 1)) * SIL (z j) := by
  pointwise [k0_pay2, point_dv, k0_pay11, k0_pay9, k0_pay8, k0_pay7, k0_pay6, SIL]
  simp only [SG_sub]

/-- The gradient of the gate `z` whose product with `y` has the cotangent `p`. -/
def GZ (y z p : EReal) : EReal := y * p * SG z + z * (y * p) * (SG z * (1 - SG z))

theorem point_z (y z : Vec Ideal S512x512 .f32) (g : Vec Ideal S1x512 .f32) (d : Vec Ideal S512x512 .f32) (j : S512x512.Idx) :
    k0_pay3 y (k0_pay6 z) (k0_pay7 z) (k0_pay9 z) (k0_pay10 z) (k0_pay12 y z) (k0_pay15 y z) (k0_pay17 g d) (k0_pay18 y z g d) (k0_pay19 y z) j
      = GZ (y j) (z j) (RG W512 (vr y z (j 0)) (qr g d (j 0)) (vr y z (j 0) (j 1)) (qr g d (j 0) (j 1))) := by
  pointwise [k0_pay3, point_dv, k0_pay9, k0_pay10, k0_pay8, k0_pay7, k0_pay6, GZ]
  simp only [mul_one, SG_sub, gate_grad]

theorem hzero (j) : k0_pay4 (F := Ideal) j = 0 := by pointwise [k0_pay4]

theorem hpay (y z : Vec Ideal S512x512 .f32) (d : Vec Ideal S512x512 .f32) (acc : Vec Ideal S1x512 .f32) (j) :
    k0_pay5 (k0_pay16 y z d) acc j = acc j + ∑ i : _root_.Fin 512, vr y z i (j 1) * Ideal.rsqrt (ES W512 (vr y z i)) * d (ix2 i (j 1)) := by
  pointwise [k0_pay5, k0_pay16, k0_pay14, point_v, point_es]

/-- The group's columns: column `x` of the group that column `j` lies in. -/
def grp (j : _root_.Fin 2048) (x : _root_.Fin 512) : _root_.Fin 2048 := ⟨j.val / 512 * 512 + x.val, by omega⟩
/-- The column of the projection that a gate's column is. -/
def zc (j : _root_.Fin 2048) : _root_.Fin 8224 := ⟨j.val, by omega⟩

/-- A row's entry, the gated value. -/
def VR (Y : FVec Ideal S2048x2048 .f32) (P : FVec Ideal S2048x8224 .f32) (i j : _root_.Fin 2048) : EReal := Y (ix2 i j) * SIL (P (ix2 i (zc j)))
/-- The cotangent of that entry. -/
def QR (G : FVec Ideal S2048 .f32) (C : FVec Ideal S2048x2048 .f32) (i j : _root_.Fin 2048) : EReal := C (ix2 i j) * G (ix1 j)

/-- The gradient of the gated value. -/
def DV (Y : FVec Ideal S2048x2048 .f32) (P : FVec Ideal S2048x8224 .f32) (G : FVec Ideal S2048 .f32) (C : FVec Ideal S2048x2048 .f32) (i j : _root_.Fin 2048) : EReal :=
  RG W512 (fun x => VR Y P i (grp j x)) (fun x => QR G C i (grp j x)) (VR Y P i j) (QR G C i j)

/-- The gradient of the value under the gate. -/
def DY (Y : FVec Ideal S2048x2048 .f32) (P : FVec Ideal S2048x8224 .f32) (G : FVec Ideal S2048 .f32) (C : FVec Ideal S2048x2048 .f32) : FVec Ideal S2048x2048 .f32 :=
  fun j => DV Y P G C (j 0) (j 1) * SIL (P (ix2 (j 0) (zc (j 1))))
/-- The gradient of the gate. -/
def DZ (Y : FVec Ideal S2048x2048 .f32) (P : FVec Ideal S2048x8224 .f32) (G : FVec Ideal S2048 .f32) (C : FVec Ideal S2048x2048 .f32) : FVec Ideal S2048x2048 .bf16 :=
  fun j => GZ (Y j) (P (ix2 (j 0) (zc (j 1)))) (DV Y P G C (j 0) (j 1))
/-- The gradient of the norm's factors: sums over the rows. -/
def DG (Y : FVec Ideal S2048x2048 .f32) (P : FVec Ideal S2048x8224 .f32) (G : FVec Ideal S2048 .f32) (C : FVec Ideal S2048x2048 .f32) : FVec Ideal S1x2048 .f32 :=
  fun j => ∑ i : _root_.Fin 2048, VR Y P i (j 1) * Ideal.rsqrt (ES W512 fun x => VR Y P i (grp (j 1) x)) * C (ix2 i (j 1))

/-- The row and the column of the array that a grid point's row and column are. -/
def row (t : Fin cfg0.N) (i : _root_.Fin 512) : _root_.Fin 2048 := ⟨t.val % 4 * 512 + i.val, by omega⟩
def col (t : Fin cfg0.N) (k : _root_.Fin 512) : _root_.Fin 2048 := ⟨t.val / 4 * 512 + k.val, by have := lt_of_lt_of_eq t.isLt N_0; omega⟩

theorem blk_y (c : Dev nD) (t : Fin cfg0.N) (i k : _root_.Fin 512) :
    (iblk m c 0 t : Vec Ideal S512x512 .f32) (ix2 i k) = (m ((c : Thread nD τ).loc main_arg0) : FVec Ideal S2048x2048 .f32) (ix2 (row t i) (col t k)) := by
  blk_point [iblk, V, idx t, row, col]
theorem blk_z (c : Dev nD) (t : Fin cfg0.N) (i k : _root_.Fin 512) :
    (iblk m c 1 t : Vec Ideal S512x512 .f32) (ix2 i k) = (m ((c : Thread nD τ).loc main_arg1) : FVec Ideal S2048x8224 .f32) (ix2 (row t i) (zc (col t k))) := by
  have ht := lt_of_lt_of_eq t.isLt N_0
  unfold iblk
  entry_read
  blk_simp
  pointwise [row, col, zc]
  rw [dif_pos (by blk_simp [idx t]; omega)]
  blk_point [idx t]
theorem blk_g (c : Dev nD) (t : Fin cfg0.N) (k : _root_.Fin 512) :
    (iblk m c 2 t : Vec Ideal S1x512 .f32) (ix2 0 k) = (m ((c : Thread nD τ).loc main_arg2) : FVec Ideal S2048 .f32) (ix1 (col t k)) := by
  blk_point [iblk, V, idx t, row, col]
theorem blk_d (c : Dev nD) (t : Fin cfg0.N) (i k : _root_.Fin 512) :
    (iblk m c 3 t : Vec Ideal S512x512 .f32) (ix2 i k) = (m ((c : Thread nD τ).loc main_arg3) : FVec Ideal S2048x2048 .f32) (ix2 (row t i) (col t k)) := by
  blk_point [iblk, V, idx t, row, col]

theorem col_grp (t : Fin cfg0.N) (k x : _root_.Fin 512) : grp (col t k) x = col t x :=
  Fin.ext (by show (t.val / 4 * 512 + k.val) / 512 * 512 + x.val = t.val / 4 * 512 + x.val; omega)

theorem vr_blk (c : Dev nD) (t : Fin cfg0.N) (i k : _root_.Fin 512) :
    vr (iblk m c 0 t) (iblk m c 1 t) i k = VR (m ((c : Thread nD τ).loc main_arg0)) (m ((c : Thread nD τ).loc main_arg1)) (row t i) (col t k) :=
  congrArg₂ (fun a b : EReal => a * SIL b) (blk_y m c t i k) (blk_z m c t i k)
theorem qr_blk (c : Dev nD) (t : Fin cfg0.N) (i k : _root_.Fin 512) :
    qr (iblk m c 2 t) (iblk m c 3 t) i k = QR (m ((c : Thread nD τ).loc main_arg2)) (m ((c : Thread nD τ).loc main_arg3)) (row t i) (col t k) :=
  congrArg₂ (fun a b : EReal => a * b) (blk_d m c t i k) (blk_g m c t k)

theorem dv_blk (c : Dev nD) (t : Fin cfg0.N) (i k : _root_.Fin 512) :
    RG W512 (vr (iblk m c 0 t) (iblk m c 1 t) i) (qr (iblk m c 2 t) (iblk m c 3 t) i) (vr (iblk m c 0 t) (iblk m c 1 t) i k) (qr (iblk m c 2 t) (iblk m c 3 t) i k)
      = DV (m ((c : Thread nD τ).loc main_arg0)) (m ((c : Thread nD τ).loc main_arg1)) (m ((c : Thread nD τ).loc main_arg2)) (m ((c : Thread nD τ).loc main_arg3)) (row t i) (col t k) := by
  unfold DV
  simp only [col_grp]
  rw [vr_blk, qr_blk]
  exact congrArg₂ (fun v q => RG W512 v q _ _) (funext fun x => vr_blk m c t i x) (funext fun x => qr_blk m c t i x)

theorem dy_blk (c : Dev nD) (t : Fin cfg0.N) (i k : _root_.Fin 512) :
    RG W512 (vr (iblk m c 0 t) (iblk m c 1 t) i) (qr (iblk m c 2 t) (iblk m c 3 t) i) (vr (iblk m c 0 t) (iblk m c 1 t) i k) (qr (iblk m c 2 t) (iblk m c 3 t) i k)
        * SIL ((iblk m c 1 t : Vec Ideal S512x512 .f32) (ix2 i k))
      = DY (m ((c : Thread nD τ).loc main_arg0)) (m ((c : Thread nD τ).loc main_arg1)) (m ((c : Thread nD τ).loc main_arg2)) (m ((c : Thread nD τ).loc main_arg3)) (ix2 (row t i) (col t k)) := by
  rw [dv_blk, blk_z]
  rfl

theorem final_y (c : Dev nD) : (dats m 0 c).arrAt 4 (cfgs 0).N = DY (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨i, k, rfl⟩ : ∃ r k, y = ix2 r k := ⟨y 0, y 1, by ext a; fin_cases a <;> rfl⟩
  have e : (win0_4.blk t).view.emb (ix2 i k) = ix2 (row t i) (col t k) := by blk_point [idx t, row, col]
  blk_simp
  rw [after0_4]
  by_cases h : t.val % 4 = 0
  · rw [outsAt0_A m c t h]; frame_out; rw [point_y]
    exact (dy_blk m c t i k).trans (congrArg (DY (m ((c : Thread nD τ).loc main_arg0)) (m ((c : Thread nD τ).loc main_arg1)) (m ((c : Thread nD τ).loc main_arg2)) (m ((c : Thread nD τ).loc main_arg3))) e.symm)
  · rw [outsAt0_B m c t h]; frame_out; rw [point_y]
    exact (dy_blk m c t i k).trans (congrArg (DY (m ((c : Thread nD τ).loc main_arg0)) (m ((c : Thread nD τ).loc main_arg1)) (m ((c : Thread nD τ).loc main_arg2)) (m ((c : Thread nD τ).loc main_arg3))) e.symm)

theorem gz_blk (c : Dev nD) (t : Fin cfg0.N) (i k : _root_.Fin 512) :
    GZ ((iblk m c 0 t : Vec Ideal S512x512 .f32) (ix2 i k)) ((iblk m c 1 t : Vec Ideal S512x512 .f32) (ix2 i k))
      (RG W512 (vr (iblk m c 0 t) (iblk m c 1 t) i) (qr (iblk m c 2 t) (iblk m c 3 t) i) (vr (iblk m c 0 t) (iblk m c 1 t) i k) (qr (iblk m c 2 t) (iblk m c 3 t) i k))
      = DZ (m ((c : Thread nD τ).loc main_arg0)) (m ((c : Thread nD τ).loc main_arg1)) (m ((c : Thread nD τ).loc main_arg2)) (m ((c : Thread nD τ).loc main_arg3)) (ix2 (row t i) (col t k)) := by
  rw [dv_blk, blk_y, blk_z]
  rfl

theorem final_z (c : Dev nD) : (dats m 0 c).arrAt 5 (cfgs 0).N = DZ (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨i, k, rfl⟩ : ∃ r k, y = ix2 r k := ⟨y 0, y 1, by ext a; fin_cases a <;> rfl⟩
  have e : (win0_5.blk t).view.emb (ix2 i k) = ix2 (row t i) (col t k) := by blk_point [idx t, row, col]
  blk_simp
  rw [after0_5]
  by_cases h : t.val % 4 = 0
  · rw [outsAt0_A m c t h]; frame_out; rw [point_z]
    exact (gz_blk m c t i k).trans (congrArg (DZ (m ((c : Thread nD τ).loc main_arg0)) (m ((c : Thread nD τ).loc main_arg1)) (m ((c : Thread nD τ).loc main_arg2)) (m ((c : Thread nD τ).loc main_arg3))) e.symm)
  · rw [outsAt0_B m c t h]; frame_out; rw [point_z]
    exact (gz_blk m c t i k).trans (congrArg (DZ (m ((c : Thread nD τ).loc main_arg0)) (m ((c : Thread nD τ).loc main_arg1)) (m ((c : Thread nD τ).loc main_arg2)) (m ((c : Thread nD τ).loc main_arg3))) e.symm)

theorem final_g (c : Dev nD) : (dats m 0 c).arrAt 6 (cfgs 0).N = DG (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨i, k, rfl⟩ : ∃ r k, y = ix2 r k := ⟨y 0, y 1, by ext a; fin_cases a <;> rfl⟩
  blk_simp
  rw [after0_6, Pipeline.eq_sum_fin_of_reset_step_apply_of_flush (fun n h => (outsAt0 m c n h).2.2) 4 (fun _ => 0) _
    (fun t h j => by rw [outsAt0_A m c t h]; frame_out; rw [hpay, hzero])
    (fun t h j => by rw [outsAt0_B m c t h]; frame_out; rw [hpay])
    t ((flush0_6 t).mp hf)]
  have h4 : ∀ s : _root_.Fin 4, 4 * (t.val / 4) + s.val < cfg0.N := fun s => by have := lt_of_lt_of_eq t.isLt N_0; rw [show cfg0.N = 16 from N_0]; omega
  have e : (win0_6.blk t).view.emb (ix2 i k) = ix2 0 (col t k) := by blk_point [idx t, col]
  refine (zero_add _).trans (Eq.trans ?_ (congrArg (DG (m ((c : Thread nD τ).loc main_arg0)) (m ((c : Thread nD τ).loc main_arg1)) (m ((c : Thread nD τ).loc main_arg2)) (m ((c : Thread nD τ).loc main_arg3))) e.symm))
  unfold DG
  refine Fin.sum_mul_add_congr fun s x hl => ?_
  have hr : row ⟨4 * (t.val / 4) + s.val, h4 s⟩ x = ⟨s.val * 512 + x.val, hl⟩ :=
    Fin.ext (by show (4 * (t.val / 4) + s.val) % 4 * 512 + x.val = s.val * 512 + x.val; omega)
  have hc : ∀ y, col ⟨4 * (t.val / 4) + s.val, h4 s⟩ y = col t y := fun y =>
    Fin.ext (by show (4 * (t.val / 4) + s.val) / 4 * 512 + y.val = t.val / 4 * 512 + y.val; omega)
  have h1 := vr_blk m c ⟨4 * (t.val / 4) + s.val, h4 s⟩ x
  have h3 := blk_d m c ⟨4 * (t.val / 4) + s.val, h4 s⟩ x k
  simp only [hr, hc] at h1 h3
  exact congrArg₂ (fun a b : EReal => a * b) (congrArg₂ (fun a b : EReal => a * b) (h1 k)
    (congrArg (fun v => Ideal.rsqrt (ES W512 v)) (funext fun y => (h1 y).trans (by rw [← col_grp t k y]; rfl)))) h3

end Cert.GateKernelIdeal.Gen

namespace Cert.Proof

open Idealize.ShloMosaic Idealize.SL.Sem

theorem gate_reference_frame : Cert.quiescent_GateReferenceIdeal := by
  intro m g _
  exact (θ_run Cert.GateReferenceIdeal.defs _ _).mono (fun r h => ⟨fun c => (h c).2.2.2, sem_eq_zero_of_no_sems (by decide) r.2⟩)
    (Cert.GateReferenceIdeal.Value.run m g)

set_option maxHeartbeats 4000000 in
theorem gate_algebraic : Cert.algebraic_GateKernelIdeal_GateReferenceIdeal := by
  pair_intro
  · run_from Cert.GateKernelIdeal.Gen.run_main m g
  · run_from Cert.GateReferenceIdeal.Value.run m' g'
    · refine Eq.trans ?_ (Cert.GateKernelIdeal.Gen.final_y m c).symm
      obtain ⟨e0, e1, e2, e3⟩ := hagree c
      funext j
      obtain ⟨i, k, rfl⟩ : ∃ r k, j = ix2 r k := ⟨j 0, j 1, by ext a; fin_cases a <;> rfl⟩
      pointwise [Cert.GateReferenceIdeal.Value.res_main_v44, Cert.GateKernelIdeal.Gen.DY]
      simp only [e0, e1, e2, e3, Fin.sum_univ_one (M := EReal)]
      rfl
    · refine Eq.trans ?_ (Cert.GateKernelIdeal.Gen.final_z m c).symm
      obtain ⟨e0, e1, e2, e3⟩ := hagree c
      funext j
      obtain ⟨i, k, rfl⟩ : ∃ r k, j = ix2 r k := ⟨j 0, j 1, by ext a; fin_cases a <;> rfl⟩
      pointwise [Cert.GateReferenceIdeal.Value.res_main_v46, Cert.GateKernelIdeal.Gen.DZ]
      simp only [e0, e1, e2, e3, Fin.sum_univ_one (M := EReal)]
      rfl
    · refine Eq.trans ?_ (Cert.GateKernelIdeal.Gen.final_g m c).symm
      obtain ⟨e0, e1, e2, e3⟩ := hagree c
      funext j
      obtain ⟨i, k, rfl⟩ : ∃ r k, j = ix2 r k := ⟨j 0, j 1, by ext a; fin_cases a <;> rfl⟩
      pointwise [Cert.GateKernelIdeal.Gen.DG]
      simp only [e0, e1, e2, e3, Fin.sum_univ_one (M := EReal)]
      rfl

end Cert.Proof

end
-- ==== Proof.Res.lean ====
/- The gradient of a feed-forward layer's post-norm in the residual sum: what the kernel leaves equals the reference's composed terms. -/
module

public import proofs.«01_k».proof.Defs
public import proofs.«01_k».proof.Proof.Consts
public import proofs.«01_k».proof.Proof.Norm
public import proofs.«01_k».proof.Proof.Gen.ResKernelIdeal.Frame
public import proofs.«01_k».proof.Proof.Gen.ResReferenceIdeal.Run
public import Idealize.ShloMosaic.Lib.Claim

@[expose] public section

set_option maxRecDepth 16384

noncomputable section

namespace Cert.ResKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

/-- The length of a row, a float constant. -/
abbrev W1024 : EReal := Ideal.ofBits .f32 0x44800000#32

/-- The block's rows. -/
def vr (v : Vec Ideal S512x1024 .f32) (i : _root_.Fin 512) (x : _root_.Fin 1024) : EReal := v (ix2 i x)
/-- The cotangent of the scaled rows. -/
def cr (d : Vec Ideal S512x1024 .f32) (i : _root_.Fin 512) (x : _root_.Fin 1024) : EReal := Ideal.ofBits .f32 0x3F000000#32 * d (ix2 i x)
/-- The cotangent of the normalised rows. -/
def qr (g : Vec Ideal S1x1024 .f32) (d : Vec Ideal S512x1024 .f32) (i : _root_.Fin 512) (x : _root_.Fin 1024) : EReal := cr d i x * g (ix2 0 x)

theorem point_es (v : Vec Ideal S512x1024 .f32) (j : S512x1.Idx) : k0_pay3 v j = ES W1024 (vr v (j 0)) := by
  pointwise [k0_pay3, ES, vr]

theorem point_x (v : Vec Ideal S512x1024 .f32) (g : Vec Ideal S1x1024 .f32) (d : Vec Ideal S512x1024 .f32) (j : S512x1024.Idx) :
    k0_pay7 v g d j = RG W1024 (vr v (j 0)) (qr g d (j 0)) (vr v (j 0) (j 1)) (qr g d (j 0) (j 1)) := by
  pointwise [k0_pay7, k0_pay5, k0_pay4, point_es, RG, SS, qr, cr, vr]
  simp only [Fin.sum_univ_one (M := EReal)]

theorem hzero (j) : k0_pay1 (F := Ideal) j = 0 := by pointwise [k0_pay1]

theorem hpay (v : Vec Ideal S512x1024 .f32) (d : Vec Ideal S512x1024 .f32) (acc : Vec Ideal S1x1024 .f32) (j) :
    k0_pay2 (k0_pay6 v d) acc j = acc j + ∑ i : _root_.Fin 512, vr v i (j 1) * Ideal.rsqrt (ES W1024 (vr v i)) * cr d i (j 1) := by
  pointwise [k0_pay2, k0_pay6, k0_pay5, k0_pay4, point_es, cr, vr]

/-- The cotangent of the scaled array. -/
def CR (D : FVec Ideal S2048x1024 .f32) (i : _root_.Fin 2048) (x : _root_.Fin 1024) : EReal := Ideal.ofBits .f32 0x3F000000#32 * D (ix2 i x)
/-- The cotangent of the normalised array. -/
def QR (G : FVec Ideal S1024 .f32) (D : FVec Ideal S2048x1024 .f32) (i : _root_.Fin 2048) (x : _root_.Fin 1024) : EReal := CR D i x * G (ix1 x)

/-- The gradient of the array. -/
def DX (V : FVec Ideal S2048x1024 .f32) (G : FVec Ideal S1024 .f32) (D : FVec Ideal S2048x1024 .f32) : FVec Ideal S2048x1024 .bf16 :=
  fun j => RG W1024 (fun x => V (ix2 (j 0) x)) (QR G D (j 0)) (V (ix2 (j 0) (j 1))) (QR G D (j 0) (j 1))
/-- The gradient of the norm's factors: sums over the rows. -/
def DG (V : FVec Ideal S2048x1024 .f32) (D : FVec Ideal S2048x1024 .f32) : FVec Ideal S1x1024 .f32 :=
  fun j => ∑ i : _root_.Fin 2048, V (ix2 i (j 1)) * Ideal.rsqrt (ES W1024 fun x => V (ix2 i x)) * CR D i (j 1)

/-- The row of the array that a grid point's row is. -/
def row (t : Fin cfg0.N) (i : _root_.Fin 512) : _root_.Fin 2048 := ⟨t.val * 512 + i.val, by have := lt_of_lt_of_eq t.isLt N_0; omega⟩

theorem blk_v (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_d2 (c : Dev nD) (t : Fin cfg0.N) (i : _root_.Fin 512) (k : _root_.Fin 1024) :
    (iblk m c 2 t : Vec Ideal S512x1024 .f32) (ix2 i k) = (m ((c : Thread nD τ).loc main_arg2) : FVec Ideal S2048x1024 .f32) (ix2 (row t i) k) := by
  blk_point [iblk, V, idx t, row]
theorem blk_g (c : Dev nD) (t : Fin cfg0.N) (k : _root_.Fin 1024) :
    (iblk m c 1 t : Vec Ideal S1x1024 .f32) (ix2 0 k) = (m ((c : Thread nD τ).loc main_arg1) : FVec Ideal S1024 .f32) (ix1 k) := by
  blk_point [iblk, V, idx t]

theorem cr_blk (c : Dev nD) (t : Fin cfg0.N) (i : _root_.Fin 512) (k : _root_.Fin 1024) :
    cr (iblk m c 2 t) i k = CR (m ((c : Thread nD τ).loc main_arg2)) (row t i) k := by
  unfold cr CR
  rw [blk_d2]
theorem qr_blk (c : Dev nD) (t : Fin cfg0.N) (i : _root_.Fin 512) (k : _root_.Fin 1024) :
    qr (iblk m c 1 t) (iblk m c 2 t) i k = QR (m ((c : Thread nD τ).loc main_arg1)) (m ((c : Thread nD τ).loc main_arg2)) (row t i) k := by
  unfold qr QR
  rw [cr_blk, blk_g]
theorem vr_blk (c : Dev nD) (t : Fin cfg0.N) (i : _root_.Fin 512) :
    vr (iblk m c 0 t) i = fun x => ((m ((c : Thread nD τ).loc main_arg0)) : FVec Ideal S2048x1024 .f32) (ix2 (row t i) x) := funext fun x => blk_v m c t i x

theorem dx_blk (c : Dev nD) (t : Fin cfg0.N) (i : _root_.Fin 512) (k : _root_.Fin 1024) :
    RG W1024 (vr (iblk m c 0 t) i) (qr (iblk m c 1 t) (iblk m c 2 t) i) (vr (iblk m c 0 t) i k) (qr (iblk m c 1 t) (iblk m c 2 t) i k)
      = DX (m ((c : Thread nD τ).loc main_arg0)) (m ((c : Thread nD τ).loc main_arg1)) (m ((c : Thread nD τ).loc main_arg2)) (ix2 (row t i) k) := by
  rw [vr_blk, show qr (iblk m c 1 t) (iblk m c 2 t) i = QR (m ((c : Thread nD τ).loc main_arg1)) (m ((c : Thread nD τ).loc main_arg2)) (row t i) from funext fun x => qr_blk m c t i x]
  rfl

theorem final_x (c : Dev nD) : (dats m 0 c).arrAt 3 (cfgs 0).N = DX (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, k, rfl⟩ : ∃ r k, y = ix2 r k := ⟨y 0, y 1, by ext a; fin_cases a <;> rfl⟩
  have e : (win0_3.blk t).view.emb (ix2 i k) = ix2 (row t i) k := by blk_point [idx t, row]
  blk_simp
  rw [after0_3]
  by_cases h : t.val % 4 = 0
  · rw [outsAt0_A m c t h]; frame_out; rw [point_x]
    exact (dx_blk m c t i k).trans (congrArg (DX (m ((c : Thread nD τ).loc main_arg0)) (m ((c : Thread nD τ).loc main_arg1)) (m ((c : Thread nD τ).loc main_arg2))) e.symm)
  · rw [outsAt0_B m c t h]; frame_out; rw [point_x]
    exact (dx_blk m c t i k).trans (congrArg (DX (m ((c : Thread nD τ).loc main_arg0)) (m ((c : Thread nD τ).loc main_arg1)) (m ((c : Thread nD τ).loc main_arg2))) e.symm)

theorem final_g (c : Dev nD) : (dats m 0 c).arrAt 4 (cfgs 0).N = DG (m ((c : Thread nD τ).loc main_arg0)) (m ((c : Thread nD τ).loc main_arg2)) := by
  refine (dats m 0 c).arrAt_eq_of_after_last 4 t0_3 (by decide +kernel) _ fun j => ?_
  obtain ⟨i, k, rfl⟩ : ∃ r k, j = ix2 r k := ⟨j 0, j 1, by ext a; fin_cases a <;> rfl⟩
  blk_simp
  rw [after0_4, Pipeline.eq_sum_fin_of_reset_step_apply_last (fun n h => (outsAt0 m c n h).2) 4 (fun _ => 0) _
    (fun t h j => by rw [outsAt0_A m c t h]; frame_out; rw [hpay, hzero])
    (fun t h j => by rw [outsAt0_B m c t h]; frame_out; rw [hpay])
    (le_of_eq N_0) t0_3 rfl (ix2 i k), zero_add]
  unfold DG
  refine Fin.sum_mul_add_congr fun t x hl => ?_
  exact congrArg₂ (fun a b : EReal => a * b) (congrArg₂ (fun a b : EReal => a * b) (blk_v m c t x k)
    (congrArg (fun v => Ideal.rsqrt (ES W1024 v)) (vr_blk m c t x))) (cr_blk m c t x k)

end Cert.ResKernelIdeal.Gen

namespace Cert.Proof

open Idealize.ShloMosaic Idealize.SL.Sem

theorem resf_reference_frame : Cert.quiescent_ResReferenceIdeal := by
  intro m g _
  exact (θ_run Cert.ResReferenceIdeal.defs _ _).mono (fun r h => ⟨fun c => (h c).2.2, sem_eq_zero_of_no_sems (by decide) r.2⟩)
    (Cert.ResReferenceIdeal.Value.run m g)

set_option maxHeartbeats 4000000 in
theorem resf_algebraic : Cert.algebraic_ResKernelIdeal_ResReferenceIdeal := by
  pair_intro
  · run_from Cert.ResKernelIdeal.Gen.run_main m g
  · run_from Cert.ResReferenceIdeal.Value.run m' g'
    · refine Eq.trans ?_ (Cert.ResKernelIdeal.Gen.final_x m c).symm
      obtain ⟨e0, e1, e2⟩ := hagree c
      funext j
      obtain ⟨i, k, rfl⟩ : ∃ r k, j = ix2 r k := ⟨j 0, j 1, by ext a; fin_cases a <;> rfl⟩
      pointwise [Cert.ResReferenceIdeal.Value.res_main_v40, Cert.ResKernelIdeal.Gen.DX]
      simp only [e0, e1, e2, Fin.sum_univ_one (M := EReal)]
      rfl
    · refine Eq.trans ?_ (Cert.ResKernelIdeal.Gen.final_g m c).symm
      obtain ⟨e0, e1, e2⟩ := hagree c
      funext j
      obtain ⟨i, k, rfl⟩ : ∃ r k, j = ix2 r k := ⟨j 0, j 1, by ext a; fin_cases a <;> rfl⟩
      pointwise [Cert.ResKernelIdeal.Gen.DG]
      simp only [e0, e1, e2, Fin.sum_univ_one (M := EReal)]
      rfl

end Cert.Proof

end
-- ==== Proof.MixRes.lean ====
/- The gradient of the mixer's post-norm in the residual sum: what the kernel leaves equals the reference's composed terms. -/
module

public import proofs.«01_k».proof.Defs
public import proofs.«01_k».proof.Proof.Consts
public import proofs.«01_k».proof.Proof.Norm
public import proofs.«01_k».proof.Proof.Gen.MixResKernelIdeal.Frame
public import proofs.«01_k».proof.Proof.Gen.MixResReferenceIdeal.Run
public import Idealize.ShloMosaic.Lib.Claim

@[expose] public section

set_option maxRecDepth 16384

noncomputable section

namespace Cert.MixResKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

/-- The length of a row, a float constant. -/
abbrev W1024 : EReal := Ideal.ofBits .f32 0x44800000#32

/-- The block's rows. -/
def vr (v : Vec Ideal S512x1024 .f32) (i : _root_.Fin 512) (x : _root_.Fin 1024) : EReal := v (ix2 i x)
/-- The cotangent of the scaled rows. -/
def cr (d : Vec Ideal S512x1024 .f32) (i : _root_.Fin 512) (x : _root_.Fin 1024) : EReal := d (ix2 i x)
/-- The cotangent of the normalised rows. -/
def qr (g : Vec Ideal S1x1024 .f32) (d : Vec Ideal S512x1024 .f32) (i : _root_.Fin 512) (x : _root_.Fin 1024) : EReal := cr d i x * g (ix2 0 x)

theorem point_es (v : Vec Ideal S512x1024 .f32) (j : S512x1.Idx) : k0_pay3 v j = ES W1024 (vr v (j 0)) := by
  pointwise [k0_pay3, ES, vr]

theorem point_x (v : Vec Ideal S512x1024 .f32) (g : Vec Ideal S1x1024 .f32) (d : Vec Ideal S512x1024 .f32) (j : S512x1024.Idx) :
    k0_pay7 v g d j = RG W1024 (vr v (j 0)) (qr g d (j 0)) (vr v (j 0) (j 1)) (qr g d (j 0) (j 1)) := by
  pointwise [k0_pay7, k0_pay5, k0_pay4, point_es, RG, SS, qr, cr, vr]
  simp only [Fin.sum_univ_one (M := EReal), Consts.ofBits_one, one_mul]

theorem hzero (j) : k0_pay1 (F := Ideal) j = 0 := by pointwise [k0_pay1]

theorem hpay (v : Vec Ideal S512x1024 .f32) (d : Vec Ideal S512x1024 .f32) (acc : Vec Ideal S1x1024 .f32) (j) :
    k0_pay2 (k0_pay6 v d) acc j = acc j + ∑ i : _root_.Fin 512, vr v i (j 1) * Ideal.rsqrt (ES W1024 (vr v i)) * cr d i (j 1) := by
  pointwise [k0_pay2, k0_pay6, k0_pay5, k0_pay4, point_es, cr, vr]

/-- The cotangent of the scaled array. -/
def CR (D : FVec Ideal S2048x1024 .f32) (i : _root_.Fin 2048) (x : _root_.Fin 1024) : EReal := D (ix2 i x)
/-- The cotangent of the normalised array. -/
def QR (G : FVec Ideal S1024 .f32) (D : FVec Ideal S2048x1024 .f32) (i : _root_.Fin 2048) (x : _root_.Fin 1024) : EReal := CR D i x * G (ix1 x)

/-- The gradient of the array. -/
def DX (V : FVec Ideal S2048x1024 .f32) (G : FVec Ideal S1024 .f32) (D : FVec Ideal S2048x1024 .f32) : FVec Ideal S2048x1024 .bf16 :=
  fun j => RG W1024 (fun x => V (ix2 (j 0) x)) (QR G D (j 0)) (V (ix2 (j 0) (j 1))) (QR G D (j 0) (j 1))
/-- The gradient of the norm's factors: sums over the rows. -/
def DG (V : FVec Ideal S2048x1024 .f32) (D : FVec Ideal S2048x1024 .f32) : FVec Ideal S1x1024 .f32 :=
  fun j => ∑ i : _root_.Fin 2048, V (ix2 i (j 1)) * Ideal.rsqrt (ES W1024 fun x => V (ix2 i x)) * CR D i (j 1)

/-- The row of the array that a grid point's row is. -/
def row (t : Fin cfg0.N) (i : _root_.Fin 512) : _root_.Fin 2048 := ⟨t.val * 512 + i.val, by have := lt_of_lt_of_eq t.isLt N_0; omega⟩

theorem blk_v (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_d2 (c : Dev nD) (t : Fin cfg0.N) (i : _root_.Fin 512) (k : _root_.Fin 1024) :
    (iblk m c 2 t : Vec Ideal S512x1024 .f32) (ix2 i k) = (m ((c : Thread nD τ).loc main_arg2) : FVec Ideal S2048x1024 .f32) (ix2 (row t i) k) := by
  blk_point [iblk, V, idx t, row]
theorem blk_g (c : Dev nD) (t : Fin cfg0.N) (k : _root_.Fin 1024) :
    (iblk m c 1 t : Vec Ideal S1x1024 .f32) (ix2 0 k) = (m ((c : Thread nD τ).loc main_arg1) : FVec Ideal S1024 .f32) (ix1 k) := by
  blk_point [iblk, V, idx t]

theorem cr_blk (c : Dev nD) (t : Fin cfg0.N) (i : _root_.Fin 512) (k : _root_.Fin 1024) :
    cr (iblk m c 2 t) i k = CR (m ((c : Thread nD τ).loc main_arg2)) (row t i) k := by
  unfold cr CR
  rw [blk_d2]
theorem qr_blk (c : Dev nD) (t : Fin cfg0.N) (i : _root_.Fin 512) (k : _root_.Fin 1024) :
    qr (iblk m c 1 t) (iblk m c 2 t) i k = QR (m ((c : Thread nD τ).loc main_arg1)) (m ((c : Thread nD τ).loc main_arg2)) (row t i) k := by
  unfold qr QR
  rw [cr_blk, blk_g]
theorem vr_blk (c : Dev nD) (t : Fin cfg0.N) (i : _root_.Fin 512) :
    vr (iblk m c 0 t) i = fun x => ((m ((c : Thread nD τ).loc main_arg0)) : FVec Ideal S2048x1024 .f32) (ix2 (row t i) x) := funext fun x => blk_v m c t i x

theorem dx_blk (c : Dev nD) (t : Fin cfg0.N) (i : _root_.Fin 512) (k : _root_.Fin 1024) :
    RG W1024 (vr (iblk m c 0 t) i) (qr (iblk m c 1 t) (iblk m c 2 t) i) (vr (iblk m c 0 t) i k) (qr (iblk m c 1 t) (iblk m c 2 t) i k)
      = DX (m ((c : Thread nD τ).loc main_arg0)) (m ((c : Thread nD τ).loc main_arg1)) (m ((c : Thread nD τ).loc main_arg2)) (ix2 (row t i) k) := by
  rw [vr_blk, show qr (iblk m c 1 t) (iblk m c 2 t) i = QR (m ((c : Thread nD τ).loc main_arg1)) (m ((c : Thread nD τ).loc main_arg2)) (row t i) from funext fun x => qr_blk m c t i x]
  rfl

theorem final_x (c : Dev nD) : (dats m 0 c).arrAt 3 (cfgs 0).N = DX (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, k, rfl⟩ : ∃ r k, y = ix2 r k := ⟨y 0, y 1, by ext a; fin_cases a <;> rfl⟩
  have e : (win0_3.blk t).view.emb (ix2 i k) = ix2 (row t i) k := by blk_point [idx t, row]
  blk_simp
  rw [after0_3]
  by_cases h : t.val % 4 = 0
  · rw [outsAt0_A m c t h]; frame_out; rw [point_x]
    exact (dx_blk m c t i k).trans (congrArg (DX (m ((c : Thread nD τ).loc main_arg0)) (m ((c : Thread nD τ).loc main_arg1)) (m ((c : Thread nD τ).loc main_arg2))) e.symm)
  · rw [outsAt0_B m c t h]; frame_out; rw [point_x]
    exact (dx_blk m c t i k).trans (congrArg (DX (m ((c : Thread nD τ).loc main_arg0)) (m ((c : Thread nD τ).loc main_arg1)) (m ((c : Thread nD τ).loc main_arg2))) e.symm)

theorem final_g (c : Dev nD) : (dats m 0 c).arrAt 4 (cfgs 0).N = DG (m ((c : Thread nD τ).loc main_arg0)) (m ((c : Thread nD τ).loc main_arg2)) := by
  refine (dats m 0 c).arrAt_eq_of_after_last 4 t0_3 (by decide +kernel) _ fun j => ?_
  obtain ⟨i, k, rfl⟩ : ∃ r k, j = ix2 r k := ⟨j 0, j 1, by ext a; fin_cases a <;> rfl⟩
  blk_simp
  rw [after0_4, Pipeline.eq_sum_fin_of_reset_step_apply_last (fun n h => (outsAt0 m c n h).2) 4 (fun _ => 0) _
    (fun t h j => by rw [outsAt0_A m c t h]; frame_out; rw [hpay, hzero])
    (fun t h j => by rw [outsAt0_B m c t h]; frame_out; rw [hpay])
    (le_of_eq N_0) t0_3 rfl (ix2 i k), zero_add]
  unfold DG
  refine Fin.sum_mul_add_congr fun t x hl => ?_
  exact congrArg₂ (fun a b : EReal => a * b) (congrArg₂ (fun a b : EReal => a * b) (blk_v m c t x k)
    (congrArg (fun v => Ideal.rsqrt (ES W1024 v)) (vr_blk m c t x))) (cr_blk m c t x k)

end Cert.MixResKernelIdeal.Gen

namespace Cert.Proof

open Idealize.ShloMosaic Idealize.SL.Sem

theorem resm_reference_frame : Cert.quiescent_MixResReferenceIdeal := by
  intro m g _
  exact (θ_run Cert.MixResReferenceIdeal.defs _ _).mono (fun r h => ⟨fun c => (h c).2.2, sem_eq_zero_of_no_sems (by decide) r.2⟩)
    (Cert.MixResReferenceIdeal.Value.run m g)

set_option maxHeartbeats 4000000 in
theorem resm_algebraic : Cert.algebraic_MixResKernelIdeal_MixResReferenceIdeal := by
  pair_intro
  · run_from Cert.MixResKernelIdeal.Gen.run_main m g
  · run_from Cert.MixResReferenceIdeal.Value.run m' g'
    · refine Eq.trans ?_ (Cert.MixResKernelIdeal.Gen.final_x m c).symm
      obtain ⟨e0, e1, e2⟩ := hagree c
      funext j
      obtain ⟨i, k, rfl⟩ : ∃ r k, j = ix2 r k := ⟨j 0, j 1, by ext a; fin_cases a <;> rfl⟩
      pointwise [Cert.MixResKernelIdeal.Gen.DX]
      simp only [e0, e1, e2, Fin.sum_univ_one (M := EReal)]
      rfl
    · refine Eq.trans ?_ (Cert.MixResKernelIdeal.Gen.final_g m c).symm
      obtain ⟨e0, e1, e2⟩ := hagree c
      funext j
      obtain ⟨i, k, rfl⟩ : ∃ r k, j = ix2 r k := ⟨j 0, j 1, by ext a; fin_cases a <;> rfl⟩
      pointwise [Cert.MixResKernelIdeal.Gen.DG]
      simp only [e0, e1, e2, Fin.sum_univ_one (M := EReal)]
      rfl

end Cert.Proof

end
-- ==== Proof.Rms.lean ====
/- The gradient of a feed-forward layer's pre-norm with the residual path: what the kernel leaves equals the reference's composed terms. -/
module

public import proofs.«01_k».proof.Defs
public import proofs.«01_k».proof.Proof.Consts
public import proofs.«01_k».proof.Proof.Norm
public import proofs.«01_k».proof.Proof.Gen.RmsKernelIdeal.Frame
public import proofs.«01_k».proof.Proof.Gen.RmsReferenceIdeal.Run
public import Idealize.ShloMosaic.Lib.Claim

@[expose] public section

set_option maxRecDepth 16384

noncomputable section

namespace Cert.RmsKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-- The length of a row, a float constant. -/
abbrev W1024 : EReal := Ideal.ofBits .f32 0x44800000#32

/-- The block's rows. -/
def vr (v : Vec Ideal S512x1024 .f32) (i : _root_.Fin 512) (x : _root_.Fin 1024) : EReal := v (ix2 i x)
/-- The cotangent of the scaled rows. -/
def cr (d1 : Vec Ideal S512x1024 .f32) (i : _root_.Fin 512) (x : _root_.Fin 1024) : EReal := d1 (ix2 i x)
/-- The cotangent of the normalised rows. -/
def qr (g : Vec Ideal S1x1024 .f32) (d1 : Vec Ideal S512x1024 .f32) (i : _root_.Fin 512) (x : _root_.Fin 1024) : EReal := cr d1 i x * g (ix2 0 x)

theorem point_es (v : Vec Ideal S512x1024 .f32) (j : S512x1.Idx) : k0_pay3 v j = ES W1024 (vr v (j 0)) := by
  pointwise [k0_pay3, ES, vr]

theorem point_x (v : Vec Ideal S512x1024 .f32) (g : Vec Ideal S1x1024 .f32) (d : Vec Ideal S512x1024 .f32) (d1 : Vec Ideal S512x1024 .f32) (j : S512x1024.Idx) :
    k0_pay6 v g d d1 j = d j + RG W1024 (vr v (j 0)) (qr g d1 (j 0)) (vr v (j 0) (j 1)) (qr g d1 (j 0) (j 1)) := by
  pointwise [k0_pay6, k0_pay4, point_es, RG, SS, qr, cr, vr]
  simp only [Fin.sum_univ_one (M := EReal)]

theorem hzero (j) : k0_pay1 (F := Ideal) j = 0 := by pointwise [k0_pay1]

theorem hpay (v : Vec Ideal S512x1024 .f32) (d1 : Vec Ideal S512x1024 .f32) (acc : Vec Ideal S1x1024 .f32) (j) :
    k0_pay2 (k0_pay5 v d1) acc j = acc j + ∑ i : _root_.Fin 512, vr v i (j 1) * Ideal.rsqrt (ES W1024 (vr v i)) * cr d1 i (j 1) := by
  pointwise [k0_pay2, k0_pay5, k0_pay4, point_es, cr, vr]

/-- The cotangent of the scaled array. -/
def CR (D1 : FVec Ideal S2048x1024 .f32) (i : _root_.Fin 2048) (x : _root_.Fin 1024) : EReal := D1 (ix2 i x)
/-- The cotangent of the normalised array. -/
def QR (G : FVec Ideal S1024 .f32) (D1 : FVec Ideal S2048x1024 .f32) (i : _root_.Fin 2048) (x : _root_.Fin 1024) : EReal := CR D1 i x * G (ix1 x)

/-- The gradient of the array. -/
def DX (V : FVec Ideal S2048x1024 .f32) (G : FVec Ideal S1024 .f32) (D : FVec Ideal S2048x1024 .f32) (D1 : FVec Ideal S2048x1024 .f32) : FVec Ideal S2048x1024 .f32 :=
  fun j => D j + RG W1024 (fun x => V (ix2 (j 0) x)) (QR G D1 (j 0)) (V (ix2 (j 0) (j 1))) (QR G D1 (j 0) (j 1))
/-- The gradient of the norm's factors: sums over the rows. -/
def DG (V : FVec Ideal S2048x1024 .f32) (D1 : FVec Ideal S2048x1024 .f32) : FVec Ideal S1x1024 .f32 :=
  fun j => ∑ i : _root_.Fin 2048, V (ix2 i (j 1)) * Ideal.rsqrt (ES W1024 fun x => V (ix2 i x)) * CR D1 i (j 1)

/-- The row of the array that a grid point's row is. -/
def row (t : Fin cfg0.N) (i : _root_.Fin 512) : _root_.Fin 2048 := ⟨t.val * 512 + i.val, by have := lt_of_lt_of_eq t.isLt N_0; omega⟩

theorem blk_v (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_h (c : Dev nD) (t : Fin cfg0.N) (i : _root_.Fin 512) (k : _root_.Fin 1024) :
    (iblk m c 2 t : Vec Ideal S512x1024 .f32) (ix2 i k) = (m ((c : Thread nD τ).loc main_arg2) : FVec Ideal S2048x1024 .f32) (ix2 (row t i) k) := by
  blk_point [iblk, V, idx t, row]
theorem blk_d3 (c : Dev nD) (t : Fin cfg0.N) (i : _root_.Fin 512) (k : _root_.Fin 1024) :
    (iblk m c 3 t : Vec Ideal S512x1024 .f32) (ix2 i k) = (m ((c : Thread nD τ).loc main_arg3) : FVec Ideal S2048x1024 .f32) (ix2 (row t i) k) := by
  blk_point [iblk, V, idx t, row]
theorem blk_g (c : Dev nD) (t : Fin cfg0.N) (k : _root_.Fin 1024) :
    (iblk m c 1 t : Vec Ideal S1x1024 .f32) (ix2 0 k) = (m ((c : Thread nD τ).loc main_arg1) : FVec Ideal S1024 .f32) (ix1 k) := by
  blk_point [iblk, V, idx t]

theorem cr_blk (c : Dev nD) (t : Fin cfg0.N) (i : _root_.Fin 512) (k : _root_.Fin 1024) :
    cr (iblk m c 3 t) i k = CR (m ((c : Thread nD τ).loc main_arg3)) (row t i) k := by
  unfold cr CR
  rw [blk_d3]
theorem qr_blk (c : Dev nD) (t : Fin cfg0.N) (i : _root_.Fin 512) (k : _root_.Fin 1024) :
    qr (iblk m c 1 t) (iblk m c 3 t) i k = QR (m ((c : Thread nD τ).loc main_arg1)) (m ((c : Thread nD τ).loc main_arg3)) (row t i) k := by
  unfold qr QR
  rw [cr_blk, blk_g]
theorem vr_blk (c : Dev nD) (t : Fin cfg0.N) (i : _root_.Fin 512) :
    vr (iblk m c 0 t) i = fun x => ((m ((c : Thread nD τ).loc main_arg0)) : FVec Ideal S2048x1024 .f32) (ix2 (row t i) x) := funext fun x => blk_v m c t i x

theorem dx_blk (c : Dev nD) (t : Fin cfg0.N) (i : _root_.Fin 512) (k : _root_.Fin 1024) :
    vr (iblk m c 2 t) i k + RG W1024 (vr (iblk m c 0 t) i) (qr (iblk m c 1 t) (iblk m c 3 t) i) (vr (iblk m c 0 t) i k) (qr (iblk m c 1 t) (iblk m c 3 t) i k)
      = DX (m ((c : Thread nD τ).loc main_arg0)) (m ((c : Thread nD τ).loc main_arg1)) (m ((c : Thread nD τ).loc main_arg2)) (m ((c : Thread nD τ).loc main_arg3)) (ix2 (row t i) k) := by
  rw [vr_blk, show qr (iblk m c 1 t) (iblk m c 3 t) i = QR (m ((c : Thread nD τ).loc main_arg1)) (m ((c : Thread nD τ).loc main_arg3)) (row t i) from funext fun x => qr_blk m c t i x, show vr (iblk m c 2 t) i k = _ from blk_h m c t i k]
  rfl

theorem final_x (c : Dev nD) : (dats m 0 c).arrAt 4 (cfgs 0).N = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨i, k, rfl⟩ : ∃ r k, y = ix2 r k := ⟨y 0, y 1, by ext a; fin_cases a <;> rfl⟩
  have e : (win0_4.blk t).view.emb (ix2 i k) = ix2 (row t i) k := by blk_point [idx t, row]
  blk_simp
  rw [after0_4]
  by_cases h : t.val % 4 = 0
  · rw [outsAt0_A m c t h]; frame_out; rw [point_x]
    exact (dx_blk m c t i k).trans (congrArg (DX (m ((c : Thread nD τ).loc main_arg0)) (m ((c : Thread nD τ).loc main_arg1)) (m ((c : Thread nD τ).loc main_arg2)) (m ((c : Thread nD τ).loc main_arg3))) e.symm)
  · rw [outsAt0_B m c t h]; frame_out; rw [point_x]
    exact (dx_blk m c t i k).trans (congrArg (DX (m ((c : Thread nD τ).loc main_arg0)) (m ((c : Thread nD τ).loc main_arg1)) (m ((c : Thread nD τ).loc main_arg2)) (m ((c : Thread nD τ).loc main_arg3))) e.symm)

theorem final_g (c : Dev nD) : (dats m 0 c).arrAt 5 (cfgs 0).N = DG (m ((c : Thread nD τ).loc main_arg0)) (m ((c : Thread nD τ).loc main_arg3)) := by
  refine (dats m 0 c).arrAt_eq_of_after_last 5 t0_3 (by decide +kernel) _ fun j => ?_
  obtain ⟨i, k, rfl⟩ : ∃ r k, j = ix2 r k := ⟨j 0, j 1, by ext a; fin_cases a <;> rfl⟩
  blk_simp
  rw [after0_5, Pipeline.eq_sum_fin_of_reset_step_apply_last (fun n h => (outsAt0 m c n h).2) 4 (fun _ => 0) _
    (fun t h j => by rw [outsAt0_A m c t h]; frame_out; rw [hpay, hzero])
    (fun t h j => by rw [outsAt0_B m c t h]; frame_out; rw [hpay])
    (le_of_eq N_0) t0_3 rfl (ix2 i k), zero_add]
  unfold DG
  refine Fin.sum_mul_add_congr fun t x hl => ?_
  exact congrArg₂ (fun a b : EReal => a * b) (congrArg₂ (fun a b : EReal => a * b) (blk_v m c t x k)
    (congrArg (fun v => Ideal.rsqrt (ES W1024 v)) (vr_blk m c t x))) (cr_blk m c t x k)

end Cert.RmsKernelIdeal.Gen

namespace Cert.Proof

open Idealize.ShloMosaic Idealize.SL.Sem

theorem rmsf_reference_frame : Cert.quiescent_RmsReferenceIdeal := by
  intro m g _
  exact (θ_run Cert.RmsReferenceIdeal.defs _ _).mono (fun r h => ⟨fun c => (h c).2.2, sem_eq_zero_of_no_sems (by decide) r.2⟩)
    (Cert.RmsReferenceIdeal.Value.run m g)

set_option maxHeartbeats 4000000 in
theorem rmsf_algebraic : Cert.algebraic_RmsKernelIdeal_RmsReferenceIdeal := by
  pair_intro
  · run_from Cert.RmsKernelIdeal.Gen.run_main m g
  · run_from Cert.RmsReferenceIdeal.Value.run m' g'
    · refine Eq.trans ?_ (Cert.RmsKernelIdeal.Gen.final_x m c).symm
      obtain ⟨e0, e1, e2, e3⟩ := hagree c
      funext j
      obtain ⟨i, k, rfl⟩ : ∃ r k, j = ix2 r k := ⟨j 0, j 1, by ext a; fin_cases a <;> rfl⟩
      pointwise [Cert.RmsKernelIdeal.Gen.DX]
      simp only [e0, e1, e2, e3, Fin.sum_univ_one (M := EReal)]
      exact Cert.Norm.RG_add _ _ _ _ _ _
    · refine Eq.trans ?_ (Cert.RmsKernelIdeal.Gen.final_g m c).symm
      obtain ⟨e0, e1, e2, e3⟩ := hagree c
      funext j
      obtain ⟨i, k, rfl⟩ : ∃ r k, j = ix2 r k := ⟨j 0, j 1, by ext a; fin_cases a <;> rfl⟩
      pointwise [Cert.RmsKernelIdeal.Gen.DG]
      simp only [e0, e1, e2, e3, Fin.sum_univ_one (M := EReal)]
      rfl

end Cert.Proof

end
-- ==== Proof.MixRms.lean ====
/- The gradient of the mixer's pre-norm with the residual path: what the kernel leaves equals the reference's composed terms. -/
module

public import proofs.«01_k».proof.Defs
public import proofs.«01_k».proof.Proof.Consts
public import proofs.«01_k».proof.Proof.Norm
public import proofs.«01_k».proof.Proof.Gen.MixRmsKernelIdeal.Frame
public import proofs.«01_k».proof.Proof.Gen.MixRmsReferenceIdeal.Run
public import Idealize.ShloMosaic.Lib.Claim

@[expose] public section

set_option maxRecDepth 16384

noncomputable section

namespace Cert.MixRmsKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

/-- The length of a row, a float constant. -/
abbrev W1024 : EReal := Ideal.ofBits .f32 0x44800000#32

/-- The block's rows. -/
def vr (v : Vec Ideal S512x1024 .f32) (i : _root_.Fin 512) (x : _root_.Fin 1024) : EReal := v (ix2 i x)
/-- The cotangent of the scaled rows. -/
def cr (d1 d2 d3 : Vec Ideal S512x1024 .f32) (i : _root_.Fin 512) (x : _root_.Fin 1024) : EReal := d1 (ix2 i x) + d2 (ix2 i x) + d3 (ix2 i x)
/-- The cotangent of the normalised rows. -/
def qr (g : Vec Ideal S1x1024 .f32) (d1 d2 d3 : Vec Ideal S512x1024 .f32) (i : _root_.Fin 512) (x : _root_.Fin 1024) : EReal := cr d1 d2 d3 i x * g (ix2 0 x)

theorem point_es (v : Vec Ideal S512x1024 .f32) (j : S512x1.Idx) : k0_pay4 v j = ES W1024 (vr v (j 0)) := by
  pointwise [k0_pay4, ES, vr]

theorem point_x (v : Vec Ideal S512x1024 .f32) (g : Vec Ideal S1x1024 .f32) (d : Vec Ideal S512x1024 .f32) (d1 d2 d3 : Vec Ideal S512x1024 .f32) (j : S512x1024.Idx) :
    k0_pay1 v d (k0_pay9 v g d1 d2 d3) (k0_pay10 v g d1 d2 d3) j = d j + RG W1024 (vr v (j 0)) (qr g d1 d2 d3 (j 0)) (vr v (j 0) (j 1)) (qr g d1 d2 d3 (j 0) (j 1)) := by
  pointwise [k0_pay1, k0_pay10, k0_pay9, k0_pay8, k0_pay6, k0_pay5, point_es, RG, SS, qr, cr, vr]
  simp only [Fin.sum_univ_one (M := EReal)]

theorem hzero (j) : k0_pay2 (F := Ideal) j = 0 := by pointwise [k0_pay2]

theorem hpay (v : Vec Ideal S512x1024 .f32) (d1 d2 d3 : Vec Ideal S512x1024 .f32) (acc : Vec Ideal S1x1024 .f32) (j) :
    k0_pay3 (k0_pay7 v d1 d2 d3) acc j = acc j + ∑ i : _root_.Fin 512, vr v i (j 1) * Ideal.rsqrt (ES W1024 (vr v i)) * cr d1 d2 d3 i (j 1) := by
  pointwise [k0_pay3, k0_pay7, k0_pay6, k0_pay5, point_es, cr, vr]

/-- The cotangent of the scaled array. -/
def CR (D1 D2 D3 : FVec Ideal S2048x1024 .f32) (i : _root_.Fin 2048) (x : _root_.Fin 1024) : EReal := D1 (ix2 i x) + D2 (ix2 i x) + D3 (ix2 i x)
/-- The cotangent of the normalised array. -/
def QR (G : FVec Ideal S1024 .f32) (D1 D2 D3 : FVec Ideal S2048x1024 .f32) (i : _root_.Fin 2048) (x : _root_.Fin 1024) : EReal := CR D1 D2 D3 i x * G (ix1 x)

/-- The gradient of the array. -/
def DX (V : FVec Ideal S2048x1024 .f32) (G : FVec Ideal S1024 .f32) (D : FVec Ideal S2048x1024 .f32) (D1 D2 D3 : FVec Ideal S2048x1024 .f32) : FVec Ideal S2048x1024 .f32 :=
  fun j => D j + RG W1024 (fun x => V (ix2 (j 0) x)) (QR G D1 D2 D3 (j 0)) (V (ix2 (j 0) (j 1))) (QR G D1 D2 D3 (j 0) (j 1))
/-- The gradient of the norm's factors: sums over the rows. -/
def DG (V : FVec Ideal S2048x1024 .f32) (D1 D2 D3 : FVec Ideal S2048x1024 .f32) : FVec Ideal S1x1024 .f32 :=
  fun j => ∑ i : _root_.Fin 2048, V (ix2 i (j 1)) * Ideal.rsqrt (ES W1024 fun x => V (ix2 i x)) * CR D1 D2 D3 i (j 1)

/-- The row of the array that a grid point's row is. -/
def row (t : Fin cfg0.N) (i : _root_.Fin 512) : _root_.Fin 2048 := ⟨t.val * 512 + i.val, by have := lt_of_lt_of_eq t.isLt N_0; omega⟩

theorem blk_v (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_h (c : Dev nD) (t : Fin cfg0.N) (i : _root_.Fin 512) (k : _root_.Fin 1024) :
    (iblk m c 2 t : Vec Ideal S512x1024 .f32) (ix2 i k) = (m ((c : Thread nD τ).loc main_arg2) : FVec Ideal S2048x1024 .f32) (ix2 (row t i) k) := by
  blk_point [iblk, V, idx t, row]
theorem blk_d3 (c : Dev nD) (t : Fin cfg0.N) (i : _root_.Fin 512) (k : _root_.Fin 1024) :
    (iblk m c 3 t : Vec Ideal S512x1024 .f32) (ix2 i k) = (m ((c : Thread nD τ).loc main_arg3) : FVec Ideal S2048x1024 .f32) (ix2 (row t i) k) := by
  blk_point [iblk, V, idx t, row]
theorem blk_d4 (c : Dev nD) (t : Fin cfg0.N) (i : _root_.Fin 512) (k : _root_.Fin 1024) :
    (iblk m c 4 t : Vec Ideal S512x1024 .f32) (ix2 i k) = (m ((c : Thread nD τ).loc main_arg4) : FVec Ideal S2048x1024 .f32) (ix2 (row t i) k) := by
  blk_point [iblk, V, idx t, row]
theorem blk_d5 (c : Dev nD) (t : Fin cfg0.N) (i : _root_.Fin 512) (k : _root_.Fin 1024) :
    (iblk m c 5 t : Vec Ideal S512x1024 .f32) (ix2 i k) = (m ((c : Thread nD τ).loc main_arg5) : FVec Ideal S2048x1024 .f32) (ix2 (row t i) k) := by
  blk_point [iblk, V, idx t, row]
theorem blk_g (c : Dev nD) (t : Fin cfg0.N) (k : _root_.Fin 1024) :
    (iblk m c 1 t : Vec Ideal S1x1024 .f32) (ix2 0 k) = (m ((c : Thread nD τ).loc main_arg1) : FVec Ideal S1024 .f32) (ix1 k) := by
  blk_point [iblk, V, idx t]

theorem cr_blk (c : Dev nD) (t : Fin cfg0.N) (i : _root_.Fin 512) (k : _root_.Fin 1024) :
    cr (iblk m c 3 t) (iblk m c 4 t) (iblk m c 5 t) i k = CR (m ((c : Thread nD τ).loc main_arg3)) (m ((c : Thread nD τ).loc main_arg4)) (m ((c : Thread nD τ).loc main_arg5)) (row t i) k := by
  unfold cr CR
  rw [blk_d3, blk_d4, blk_d5]
theorem qr_blk (c : Dev nD) (t : Fin cfg0.N) (i : _root_.Fin 512) (k : _root_.Fin 1024) :
    qr (iblk m c 1 t) (iblk m c 3 t) (iblk m c 4 t) (iblk m c 5 t) i k = QR (m ((c : Thread nD τ).loc main_arg1)) (m ((c : Thread nD τ).loc main_arg3)) (m ((c : Thread nD τ).loc main_arg4)) (m ((c : Thread nD τ).loc main_arg5)) (row t i) k := by
  unfold qr QR
  rw [cr_blk, blk_g]
theorem vr_blk (c : Dev nD) (t : Fin cfg0.N) (i : _root_.Fin 512) :
    vr (iblk m c 0 t) i = fun x => ((m ((c : Thread nD τ).loc main_arg0)) : FVec Ideal S2048x1024 .f32) (ix2 (row t i) x) := funext fun x => blk_v m c t i x

theorem dx_blk (c : Dev nD) (t : Fin cfg0.N) (i : _root_.Fin 512) (k : _root_.Fin 1024) :
    vr (iblk m c 2 t) i k + RG W1024 (vr (iblk m c 0 t) i) (qr (iblk m c 1 t) (iblk m c 3 t) (iblk m c 4 t) (iblk m c 5 t) i) (vr (iblk m c 0 t) i k) (qr (iblk m c 1 t) (iblk m c 3 t) (iblk m c 4 t) (iblk m c 5 t) i k)
      = DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t i) k) := by
  rw [vr_blk, show qr (iblk m c 1 t) (iblk m c 3 t) (iblk m c 4 t) (iblk m c 5 t) i = QR (m ((c : Thread nD τ).loc main_arg1)) (m ((c : Thread nD τ).loc main_arg3)) (m ((c : Thread nD τ).loc main_arg4)) (m ((c : Thread nD τ).loc main_arg5)) (row t i) from funext fun x => qr_blk m c t i x, show vr (iblk m c 2 t) i k = _ from blk_h m c t i k]
  rfl

theorem final_x (c : Dev nD) : (dats m 0 c).arrAt 6 (cfgs 0).N = DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  obtain ⟨i, k, rfl⟩ : ∃ r k, y = ix2 r k := ⟨y 0, y 1, by ext a; fin_cases a <;> rfl⟩
  have e : (win0_6.blk t).view.emb (ix2 i k) = ix2 (row t i) k := by blk_point [idx t, row]
  blk_simp
  rw [after0_6]
  by_cases h : t.val % 4 = 0
  · rw [outsAt0_A m c t h]; frame_out; rw [point_x]
    exact (dx_blk m c t i k).trans (congrArg (DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm)
  · rw [outsAt0_B m c t h]; frame_out; rw [point_x]
    exact (dx_blk m c t i k).trans (congrArg (DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e.symm)

theorem final_g (c : Dev nD) : (dats m 0 c).arrAt 7 (cfgs 0).N = DG (m ((c : Thread nD τ).loc main_arg0)) (m ((c : Thread nD τ).loc main_arg3)) (m ((c : Thread nD τ).loc main_arg4)) (m ((c : Thread nD τ).loc main_arg5)) := by
  refine (dats m 0 c).arrAt_eq_of_after_last 7 t0_3 (by decide +kernel) _ fun j => ?_
  obtain ⟨i, k, rfl⟩ : ∃ r k, j = ix2 r k := ⟨j 0, j 1, by ext a; fin_cases a <;> rfl⟩
  blk_simp
  rw [after0_7, Pipeline.eq_sum_fin_of_reset_step_apply_last (fun n h => (outsAt0 m c n h).2) 4 (fun _ => 0) _
    (fun t h j => by rw [outsAt0_A m c t h]; frame_out; rw [hpay, hzero])
    (fun t h j => by rw [outsAt0_B m c t h]; frame_out; rw [hpay])
    (le_of_eq N_0) t0_3 rfl (ix2 i k), zero_add]
  unfold DG
  refine Fin.sum_mul_add_congr fun t x hl => ?_
  exact congrArg₂ (fun a b : EReal => a * b) (congrArg₂ (fun a b : EReal => a * b) (blk_v m c t x k)
    (congrArg (fun v => Ideal.rsqrt (ES W1024 v)) (vr_blk m c t x))) (cr_blk m c t x k)

end Cert.MixRmsKernelIdeal.Gen

namespace Cert.Proof

open Idealize.ShloMosaic Idealize.SL.Sem

theorem rmsm_reference_frame : Cert.quiescent_MixRmsReferenceIdeal := by
  intro m g _
  exact (θ_run Cert.MixRmsReferenceIdeal.defs _ _).mono (fun r h => ⟨fun c => (h c).2.2, sem_eq_zero_of_no_sems (by decide) r.2⟩)
    (Cert.MixRmsReferenceIdeal.Value.run m g)

set_option maxHeartbeats 4000000 in
theorem rmsm_algebraic : Cert.algebraic_MixRmsKernelIdeal_MixRmsReferenceIdeal := by
  pair_intro
  · run_from Cert.MixRmsKernelIdeal.Gen.run_main m g
  · run_from Cert.MixRmsReferenceIdeal.Value.run m' g'
    · refine Eq.trans ?_ (Cert.MixRmsKernelIdeal.Gen.final_x m c).symm
      obtain ⟨e0, e1, e2, e3, e4, e5⟩ := hagree c
      funext j
      obtain ⟨i, k, rfl⟩ : ∃ r k, j = ix2 r k := ⟨j 0, j 1, by ext a; fin_cases a <;> rfl⟩
      pointwise [Cert.MixRmsReferenceIdeal.Value.res_main_v38, Cert.MixRmsKernelIdeal.Gen.DX]
      simp only [e0, e1, e2, e3, e4, e5, Fin.sum_univ_one (M := EReal)]
      exact Cert.Norm.RG_add _ _ _ _ _ _
    · refine Eq.trans ?_ (Cert.MixRmsKernelIdeal.Gen.final_g m c).symm
      obtain ⟨e0, e1, e2, e3, e4, e5⟩ := hagree c
      funext j
      obtain ⟨i, k, rfl⟩ : ∃ r k, j = ix2 r k := ⟨j 0, j 1, by ext a; fin_cases a <;> rfl⟩
      pointwise [Cert.MixRmsKernelIdeal.Gen.DG]
      simp only [e0, e1, e2, e3, e4, e5, Fin.sum_univ_one (M := EReal)]
      rfl

end Cert.Proof

end
-- ==== Proof.Ffn.lean ====
/- The gradient of the feed-forward layer's gated product, before its down projection: what the kernel leaves
   equals the reference's composed terms. -/
module

public import proofs.«01_k».proof.Defs
public import proofs.«01_k».proof.Proof.Consts
public import proofs.«01_k».proof.Proof.Sigmoid
public import proofs.«01_k».proof.Proof.Gen.FfnKernelIdeal.Frame
public import proofs.«01_k».proof.Proof.Gen.FfnReferenceIdeal.Run
public import Idealize.ShloMosaic.Lib.Claim

@[expose] public section

set_option maxRecDepth 16384

noncomputable section

namespace Cert.FfnKernelIdeal.Gen

open Idealize.ShloMosaic Idealize.ShloMosaic.TcCoe Idealize.SL.Sem
open Idealize.ShloMosaic.Pipeline (Dat)
open Cert.Sigmoid

variable (m : (ℓ : Loc nD τ sig) → Buf (Elt Ideal) ℓ) (ρ : Dev nD → PrngReg)

theorem idx : ∀ t : Fin cfg0.N, win0_0.index t = ![t.val / 4, 0] ∧ win0_1.index t = ![t.val % 4, 0, 0, 0] ∧ win0_2.index t = ![t.val % 4, 0, t.val / 4, 0] ∧ win0_3.index t = ![t.val % 4, 0, t.val / 4, 0] :=
  (by decide +kernel : ∀ t : Fin grid0.N, _)

/-- The gradient of the gate `a` of the product `silu a * b`, whose cotangent is `p`. -/
def GA (p a b : EReal) : EReal := p * b * SG a + a * (p * b) * (SG a * (1 - SG a))
/-- The gradient of the gated number `b`. -/
def GB (p a : EReal) : EReal := a * SG a * p

/-- The cotangent of the gated product, a block of it. -/
def pr (d : Vec Ideal S1024x1024 .bf16) (w : Vec Ideal S1x1x704x1024 .f32) (i : _root_.Fin 1024) (k : _root_.Fin 704) : EReal :=
  ∑ x : _root_.Fin 1024, d (ix2 i x) * w (ix4 0 0 k x)

theorem point_p (d : Vec Ideal S1024x1024 .bf16) (w : Vec Ideal S1x1x704x1024 .f32) (j) : k0_pay3 d w j = pr d w (j 0) (j 1) := by
  pointwise [k0_pay3, pr]

theorem point_b (d : Vec Ideal S1024x1024 .bf16) (w : Vec Ideal S1x1x704x1024 .f32) (a : Vec Ideal S1x1x1024x704 .bf16) (j) :
    k0_pay2 (k0_pay8 d w a) j = GB (pr d w (j 2) (j 3)) (a j) := by
  pointwise [k0_pay2, k0_pay8, point_p, k0_pay4, k0_pay7, k0_pay6, k0_pay5, GB]
  simp only [SG_sub]

theorem point_a (d : Vec Ideal S1024x1024 .bf16) (w : Vec Ideal S1x1x704x1024 .f32) (a b : Vec Ideal S1x1x1024x704 .bf16) (j) :
    k0_pay1 (k0_pay9 d w a b) j = GA (pr d w (j 2) (j 3)) (a j) (b j) := by
  pointwise [k0_pay1, k0_pay9, point_p, k0_pay4, k0_pay7, k0_pay6, k0_pay5, GA]
  simp only [SG_sub, mul_one, gate_grad]

theorem out3_at (x0 : Vec Ideal S1024x1024 .bf16) (x1 : Vec Ideal S1x1x704x1024 .f32) (x2 : Vec Ideal S1x2x1024x704 .bf16) (j) : out0_3 x0 x1 x2 j =
    if (j 1).val < 1 then GA (pr x0 x1 (j 2) (j 3)) (x2 (ix4 0 0 (j 2) (j 3))) (x2 (ix4 0 1 (j 2) (j 3)))
    else GB (pr x0 x1 (j 2) (j 3)) (x2 (ix4 0 0 (j 2) (j 3))) := by
  unfold out0_3
  frame_out
  canon_tiles x h
  case piece0 =>
    pointwise [point_b, h1]
    exact congrArg₂ (fun a b => GB (pr x0 x1 a b) (x2 (ix4 0 0 a b))) (Fin.ext h2.symm : (x 2 : _root_.Fin 1024) = j 2) (Fin.ext h3.symm : (x 3 : _root_.Fin 704) = j 3)
  case piece1 =>
    pointwise [point_a, h1]
    exact congrArg₂ (fun a b => GA (pr x0 x1 a b) (x2 (ix4 0 0 a b)) (x2 (ix4 0 1 a b))) (Fin.ext h2.symm : (x 2 : _root_.Fin 1024) = j 2) (Fin.ext h3.symm : (x 3 : _root_.Fin 704) = j 3)

/-- The column that is column `k` of block `n`. -/
def cl (n : _root_.Fin 4) (k : _root_.Fin 704) : _root_.Fin 2816 := ⟨n.val * 704 + k.val, by omega⟩

/-- The cotangent of the gated product. -/
def PR (W : FVec Ideal S2816x1024 .f32) (D : FVec Ideal S2048x1024 .f32) (i : _root_.Fin 2048) (k : _root_.Fin 2816) : EReal :=
  ∑ x : _root_.Fin 1024, D (ix2 i x) * W (ix2 k x)

/-- The gradients of the gate and of the gated number, by blocks of columns. -/
def DAB (A B : FVec Ideal S2048x2816 .f32) (W : FVec Ideal S2816x1024 .f32) (D : FVec Ideal S2048x1024 .f32) : FVec Ideal S4x2x2048x704 .bf16 :=
  fun j => if (j 1).val < 1 then GA (PR W D (j 2) (cl (j 0) (j 3))) (A (ix2 (j 2) (cl (j 0) (j 3)))) (B (ix2 (j 2) (cl (j 0) (j 3))))
    else GB (PR W D (j 2) (cl (j 0) (j 3))) (A (ix2 (j 2) (cl (j 0) (j 3))))

/-- The row of the arrays, and the block of columns, that a grid point works on. -/
def row (t : Fin cfg0.N) (i : _root_.Fin 1024) : _root_.Fin 2048 := ⟨t.val / 4 * 1024 + i.val, by have := lt_of_lt_of_eq t.isLt N_0; omega⟩
def blo (t : Fin cfg0.N) : _root_.Fin 4 := ⟨t.val % 4, by omega⟩

theorem blk_d (c : Dev nD) (t : Fin cfg0.N) (i x : _root_.Fin 1024) :
    (iblk m c 0 t : Vec Ideal S1024x1024 .bf16) (ix2 i x) = (m ((c : Thread nD τ).loc main_arg3) : FVec Ideal S2048x1024 .f32) (ix2 (row t i) x) := by
  blk_point [iblk, V, idx t, row]
theorem blk_w (c : Dev nD) (t : Fin cfg0.N) (k : _root_.Fin 704) (x : _root_.Fin 1024) :
    (iblk m c 1 t : Vec Ideal S1x1x704x1024 .f32) (ix4 0 0 k x) = (m ((c : Thread nD τ).loc main_arg2) : FVec Ideal S2816x1024 .f32) (ix2 (cl (blo t) k) x) := by
  blk_point [iblk, V, idx t, cl, blo]
theorem blk_a (c : Dev nD) (t : Fin cfg0.N) (i : _root_.Fin 1024) (k : _root_.Fin 704) :
    (iblk m c 2 t : Vec Ideal S1x2x1024x704 .bf16) (ix4 0 0 i k) = (m ((c : Thread nD τ).loc main_arg0) : FVec Ideal S2048x2816 .f32) (ix2 (row t i) (cl (blo t) k)) := by
  unfold iblk
  entry_read
  blk_simp
  pointwise [row, cl, blo]
  rw [dif_pos (by blk_simp [idx t]; omega)]
  blk_point [idx t, cl, blo, row]
theorem blk_b (c : Dev nD) (t : Fin cfg0.N) (i : _root_.Fin 1024) (k : _root_.Fin 704) :
    (iblk m c 2 t : Vec Ideal S1x2x1024x704 .bf16) (ix4 0 1 i k) = (m ((c : Thread nD τ).loc main_arg1) : FVec Ideal S2048x2816 .f32) (ix2 (row t i) (cl (blo t) k)) := by
  unfold iblk
  entry_read
  blk_simp
  pointwise [row, cl, blo]
  rw [dif_neg (by blk_simp [idx t]; omega)]
  blk_point [idx t, cl, blo, row]

theorem pr_blk (c : Dev nD) (t : Fin cfg0.N) (i : _root_.Fin 1024) (k : _root_.Fin 704) :
    pr (iblk m c 0 t) (iblk m c 1 t) i k = PR (m ((c : Thread nD τ).loc main_arg2)) (m ((c : Thread nD τ).loc main_arg3)) (row t i) (cl (blo t) k) :=
  Finset.sum_congr rfl fun x _ => congrArg₂ (fun a b : EReal => a * b) (blk_d m c t i x) (blk_w m c t k x)

theorem final_ab (c : Dev nD) : (dats m 0 c).arrAt 3 (cfgs 0).N = DAB (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  obtain ⟨o, s, i, k, rfl⟩ : ∃ o s r k, y = ix4 o s r k := ⟨y 0, y 1, y 2, y 3, by ext a; fin_cases a <;> rfl⟩
  have e : (win0_3.blk t).view.emb (ix4 o s i k) = ix4 (blo t) s (row t i) k := by blk_point [idx t, row, blo]
  blk_simp
  rw [after0_3, out3_at]
  refine Eq.trans ?_ (congrArg (DAB (m ((c : Thread nD τ).loc main_arg0)) (m ((c : Thread nD τ).loc main_arg1)) (m ((c : Thread nD τ).loc main_arg2)) (m ((c : Thread nD τ).loc main_arg3))) e.symm)
  unfold DAB
  by_cases h : s.val < 1
  · refine (if_pos h).trans (Eq.trans ?_ (if_pos h).symm)
    exact congr (congrArg₂ GA (pr_blk m c t i k) (blk_a m c t i k)) (blk_b m c t i k)
  · refine (if_neg h).trans (Eq.trans ?_ (if_neg h).symm)
    exact congrArg₂ GB (pr_blk m c t i k) (blk_a m c t i k)

end Cert.FfnKernelIdeal.Gen

namespace Cert.Proof

open Idealize.ShloMosaic Idealize.SL.Sem

theorem ffn_reference_frame : Cert.quiescent_FfnReferenceIdeal := by
  intro m g _
  exact (θ_run Cert.FfnReferenceIdeal.defs _ _).mono (fun r h => ⟨fun c => (h c).2, sem_eq_zero_of_no_sems (by decide) r.2⟩)
    (Cert.FfnReferenceIdeal.Value.run m g)

set_option maxHeartbeats 4000000 in
theorem ffn_algebraic : Cert.algebraic_FfnKernelIdeal_FfnReferenceIdeal := by
  pair_intro
  · run_from Cert.FfnKernelIdeal.Gen.run_main m g
  · run_from Cert.FfnReferenceIdeal.Value.run m' g'
    refine Eq.trans ?_ (Cert.FfnKernelIdeal.Gen.final_ab m c).symm
    obtain ⟨e0, e1, e2, e3⟩ := hagree c
    funext j
    obtain ⟨o, s, i, k, rfl⟩ : ∃ o s r k, j = ix4 o s r k := ⟨j 0, j 1, j 2, j 3, by ext a; fin_cases a <;> rfl⟩
    pointwise [Cert.FfnKernelIdeal.Gen.DAB]
    simp only [e0, e1, e2, e3]
    rfl

end Cert.Proof

end
-- ==== Proof.Par.lean ====
/- The gradient of the S5 discretisation: what the kernel leaves equals the reference's composed terms.

   The kernel spreads a group's 64 numbers over 1024 columns, and gathers them, by products with a matrix of zeros and
   ones; the reference broadcasts over and sums the last 16 axis entries. -/
module

public import proofs.«01_k».proof.Defs
public import proofs.«01_k».proof.Proof.Consts
public import proofs.«01_k».proof.Proof.Gen.ParKernelIdeal.Frame
public import proofs.«01_k».proof.Proof.Gen.ParReferenceIdeal.Run
public import Idealize.ShloMosaic.Lib.Claim

@[expose] public section

set_option maxRecDepth 16384

noncomputable section

namespace Cert.Par

open Idealize.ShloMosaic

/-! The discretisation and its gradient at one state: `a`, `b` the two parts of lambda, `s` the step's logarithm,
    `r`, `w` the gradients by the two factors of the input matrix, `p`, `q` those by the discrete lambda. -/

def LR (a : EReal) : EReal := min a (Ideal.ofBits FTy.f32 0xB8D1B717#32)
def SEL (a : EReal) : EReal := if a < Ideal.ofBits FTy.f32 0xB8D1B717#32 then 1
  else if Ideal.ofBits FTy.f32 0xB8D1B717#32 = a then Ideal.ofBits FTy.f32 0x3F000000#32 else 0
def MAG (a s : EReal) : EReal := Ideal.exp (LR a * Ideal.exp s)
def CO (b s : EReal) : EReal := Ideal.cos (b * Ideal.exp s)
def SI (b s : EReal) : EReal := Ideal.sin (b * Ideal.exp s)
def BI (a b s : EReal) : EReal := MAG a s * SI b s
def BP (a b s : EReal) : EReal := MAG a s * CO b s - 1
def DEN (a b : EReal) : EReal := LR a * LR a + b * b
def NX (a b s : EReal) : EReal := BP a b s * LR a + BI a b s * b
def NY (a b s : EReal) : EReal := BI a b s * LR a - BP a b s * b
def CR (a b s : EReal) : EReal := Ideal.div (NX a b s) (DEN a b)
def CI (a b s : EReal) : EReal := Ideal.div (NY a b s) (DEN a b)
def INV (a b : EReal) : EReal := Ideal.div 1 (DEN a b * DEN a b)
def DD (a b s r w : EReal) : EReal := -(w * INV a b * NY a b s) + -(r * INV a b * NX a b s)
def DI (a b r w q : EReal) : EReal := q + Ideal.div w (DEN a b) * LR a + Ideal.div r (DEN a b) * b
def DR (a b r w p : EReal) : EReal := p + -Ideal.div w (DEN a b) * b + Ideal.div r (DEN a b) * LR a
def DA (a b s r w p q : EReal) : EReal := MAG a s * DI a b r w q * CO b s + -(MAG a s * DR a b r w p) * SI b s
def DM (a b s r w p q : EReal) : EReal := (DI a b r w q * SI b s + DR a b r w p * CO b s) * MAG a s
def GIM (a b s r w p q : EReal) : EReal :=
  BP a b s * -Ideal.div w (DEN a b) + BI a b s * Ideal.div r (DEN a b) + b * DD a b s r w + DD a b s r w * b
    + DA a b s r w p q * Ideal.exp s
def GRE (a b s r w p q : EReal) : EReal :=
  (BI a b s * Ideal.div w (DEN a b) + BP a b s * Ideal.div r (DEN a b) + LR a * DD a b s r w + DD a b s r w * LR a
    + DM a b s r w p q * Ideal.exp s) * SEL a

end Cert.Par

namespace Cert.ParKernelIdeal.Gen

open Idealize.ShloMosaic Idealize.ShloMosaic.TcCoe Idealize.SL.Sem
open Idealize.ShloMosaic.Pipeline (Dat)
open Cert.Par

variable (m : (ℓ : Loc nD τ sig) → Buf (Elt Ideal) ℓ) (ρ : Dev nD → PrngReg)

theorem col_word : ∀ k : _root_.Fin 1024, (Scalar.select
        (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 k.val) 16#32) 0#32))
          (IntOp.subi (IntOp.divsi ArithUnit.vector (BitVec.ofNat 32 k.val) 16#32) 1#32)
          (IntOp.divsi ArithUnit.vector (BitVec.ofNat 32 k.val) 16#32)) = BitVec.ofNat 32 (k.val / 16) := by
  decide +kernel

theorem eq_word : ∀ i j : _root_.Fin 64, IntOp.cmpi CmpIPredicate.eq (BitVec.ofNat 32 i.val) (BitVec.ofNat 32 j.val) = if i = j then 1#1 else 0#1 := by
  decide +kernel

/-- The group's number of a column. -/
def st (k : _root_.Fin 1024) : _root_.Fin 64 := ⟨k.val / 16, by omega⟩

theorem spread_at (i : _root_.Fin 64) (k : _root_.Fin 1024) : k0_pay27 (F := Ideal) (ix2 i k) = if i = st k then (1 : EReal) else 0 := by
  pointwise [k0_pay27]
  rw [col_word]
  have h := eq_word i (st k)
  unfold st at h ⊢
  rw [h]
  by_cases e : i = ⟨k.val / 16, by omega⟩
  · rw [if_pos e, if_pos e]; rfl
  · rw [if_neg e, if_neg e]; rfl

theorem sum_pick (f : _root_.Fin 64 → EReal) (k : _root_.Fin 1024) : (∑ x, f x * (if x = st k then (1 : EReal) else 0)) = f (st k) := by
  simp

/-- The columns of a group. -/
def col (i : _root_.Fin 64) (c : _root_.Fin 16) : _root_.Fin 1024 := ⟨i.val * 16 + c.val, by omega⟩

theorem sum_group (f : _root_.Fin 1024 → EReal) (i : _root_.Fin 64) : (∑ x, f x * (if i = st x then (1 : EReal) else 0)) = ∑ c, f (col i c) := by
  have h : ∀ p : _root_.Fin 64 × _root_.Fin 16, (finProdFinEquiv p : _root_.Fin 1024) = col p.1 p.2 := by
    intro p; apply Fin.ext; show p.2.val + 16 * p.1.val = p.1.val * 16 + p.2.val; omega
  have e : ∀ (a : _root_.Fin 64) (c : _root_.Fin 16), st (col a c) = a := by
    intro a c; apply Fin.ext; show (a.val * 16 + c.val) / 16 = a.val; omega
  rw [← Equiv.sum_comp (finProdFinEquiv : _root_.Fin 64 × _root_.Fin 16 ≃ _root_.Fin 1024)]
  rw [Fintype.sum_prod_type]
  simp only [h, e]
  rw [Finset.sum_eq_single i (fun b _ hb => by simp [Ne.symm hb]) (by simp)]
  simp

section payloads
variable (x0 x1 : Vec Ideal S64x64 .f32) (x2 : Vec Ideal S64x1 .f32) (x3 x4 : Vec Ideal S64x1024 .f32)
  (x5 x6 : Vec Ideal S64x64 .f32) (x7 x8 : Vec Ideal S64x1024 .f32) (i k : _root_.Fin 64) (l : _root_.Fin 1024)

theorem p46 : k0_pay46 x0 x1 x2 x3 x4 x5 x6 x7 x8 (ix2 i l) = x3 (ix2 i l) := by unfold k0_pay46; pointwise [k0_pay6]
theorem p47 : k0_pay47 x0 x1 x2 x3 x4 x5 x6 x7 x8 (ix2 i l) = x4 (ix2 i l) := by unfold k0_pay47; pointwise [k0_pay7]
theorem p48 : k0_pay48 x0 x1 x2 x3 x4 x5 x6 x7 x8 (ix2 i k) = LR (x0 (ix2 i k)) := by
  unfold k0_pay48; pointwise [k0_pay8]; rfl
theorem p49 : k0_pay49 x0 x1 x2 x3 x4 x5 x6 x7 x8 (ix2 i 0) = Ideal.exp (x2 (ix2 i 0)) := by
  unfold k0_pay49; pointwise [k0_pay10]
theorem p50 : k0_pay50 x0 x1 x2 x3 x4 x5 x6 x7 x8 (ix2 i k) = MAG (x0 (ix2 i k)) (x2 (ix2 i 0)) := by
  unfold k0_pay50; pointwise [k0_pay11, k0_pay10, k0_pay8]; rfl
theorem p51 : k0_pay51 x0 x1 x2 x3 x4 x5 x6 x7 x8 (ix2 i k) = CO (x1 (ix2 i k)) (x2 (ix2 i 0)) := by
  unfold k0_pay51; pointwise [k0_pay13, k0_pay12, k0_pay10]; rfl
theorem p52 : k0_pay52 x0 x1 x2 x3 x4 x5 x6 x7 x8 (ix2 i k) = SI (x1 (ix2 i k)) (x2 (ix2 i 0)) := by
  unfold k0_pay52; pointwise [k0_pay14, k0_pay12, k0_pay10]; rfl
theorem p53 : k0_pay53 x0 x1 x2 x3 x4 x5 x6 x7 x8 (ix2 i k) = SI (x1 (ix2 i k)) (x2 (ix2 i 0)) := by
  unfold k0_pay53; pointwise [k0_pay15, k0_pay12, k0_pay10]; rfl
theorem p54 : k0_pay54 x0 x1 x2 x3 x4 x5 x6 x7 x8 (ix2 i k) = CO (x1 (ix2 i k)) (x2 (ix2 i 0)) := by
  unfold k0_pay54; pointwise [k0_pay16, k0_pay12, k0_pay10]; rfl
theorem p55 : k0_pay55 x0 x1 x2 x3 x4 x5 x6 x7 x8 (ix2 i k) = BI (x0 (ix2 i k)) (x1 (ix2 i k)) (x2 (ix2 i 0)) := by
  unfold k0_pay55; pointwise [k0_pay17, k0_pay15, k0_pay11, k0_pay12, k0_pay10, k0_pay8]; rfl
theorem p56 : k0_pay56 x0 x1 x2 x3 x4 x5 x6 x7 x8 (ix2 i k) = BP (x0 (ix2 i k)) (x1 (ix2 i k)) (x2 (ix2 i 0)) := by
  unfold k0_pay56; pointwise [k0_pay18, k0_pay13, k0_pay11, k0_pay12, k0_pay10, k0_pay8]; rfl
theorem p57 : k0_pay57 x0 x1 x2 x3 x4 x5 x6 x7 x8 (ix2 i k) = DEN (x0 (ix2 i k)) (x1 (ix2 i k)) := by
  unfold k0_pay57; pointwise [k0_pay19, k0_pay8]; rfl
theorem p58 : k0_pay58 x0 x1 x2 x3 x4 x5 x6 x7 x8 (ix2 i k) = NX (x0 (ix2 i k)) (x1 (ix2 i k)) (x2 (ix2 i 0)) := by
  unfold k0_pay58; pointwise [k0_pay20, k0_pay17, k0_pay18, k0_pay15, k0_pay13, k0_pay11, k0_pay12, k0_pay10, k0_pay8]; rfl
theorem p59 : k0_pay59 x0 x1 x2 x3 x4 x5 x6 x7 x8 (ix2 i k) = INV (x0 (ix2 i k)) (x1 (ix2 i k)) := by
  unfold k0_pay59; pointwise [k0_pay24, k0_pay22, k0_pay23, k0_pay19, k0_pay8]; rfl
theorem p60 : k0_pay60 x0 x1 x2 x3 x4 x5 x6 x7 x8 (ix2 i k) = NY (x0 (ix2 i k)) (x1 (ix2 i k)) (x2 (ix2 i 0)) := by
  unfold k0_pay60; pointwise [k0_pay25, p48, p55, p56]; rfl
theorem p61 : k0_pay61 x0 x1 x2 x3 x4 x5 x6 x7 x8 (ix2 i k) = INV (x0 (ix2 i k)) (x1 (ix2 i k)) := by
  unfold k0_pay61; pointwise [k0_pay26, p57]; rfl
theorem p21 : k0_pay21 (F := Ideal) x0 x1 x2 (ix2 i k) = CR (x0 (ix2 i k)) (x1 (ix2 i k)) (x2 (ix2 i 0)) := by
  pointwise [k0_pay21, k0_pay20, k0_pay19, k0_pay17, k0_pay18, k0_pay15, k0_pay13, k0_pay11, k0_pay12, k0_pay10, k0_pay8]; rfl
theorem p63 : k0_pay63 x0 x1 x2 x3 x4 x5 x6 x7 x8 (ix2 i l) = CR (x0 (ix2 i (st l))) (x1 (ix2 i (st l))) (x2 (ix2 i 0)) := by
  unfold k0_pay63
  pointwise [k0_pay28, spread_at, p21]
  exact sum_pick (fun x => CR (x0 (ix2 i x)) (x1 (ix2 i x)) (x2 (ix2 i 0))) l
theorem p64 : k0_pay64 x0 x1 x2 x3 x4 x5 x6 x7 x8 (ix2 i l) = CI (x0 (ix2 i (st l))) (x1 (ix2 i (st l))) (x2 (ix2 i 0)) := by
  unfold k0_pay64
  pointwise [k0_pay29, k0_pay25, spread_at, p48, p55, p56, p57]
  exact sum_pick (fun x => CI (x0 (ix2 i x)) (x1 (ix2 i x)) (x2 (ix2 i 0))) l

/-- The gradient by the imaginary factor of the input matrix. -/
def WI : EReal := ∑ c, (x8 (ix2 i (col k c)) * x3 (ix2 i (col k c)) + -x7 (ix2 i (col k c)) * x4 (ix2 i (col k c)))
/-- The gradient by its real factor. -/
def WR : EReal := ∑ c, (x8 (ix2 i (col k c)) * x4 (ix2 i (col k c)) + x7 (ix2 i (col k c)) * x3 (ix2 i (col k c)))

theorem p35 (v5 v7 v79 : FVec Ideal S64x1024 .f32) (h5 : ∀ l, v5 (ix2 i l) = x3 (ix2 i l)) (h7 : ∀ l, v7 (ix2 i l) = x4 (ix2 i l))
    (h79 : v79 = k0_pay27) : k0_pay35 (F := Ideal) v5 v7 v79 x7 x8 (ix2 i k) = WI x3 x4 x7 x8 i k := by
  subst h79
  pointwise [k0_pay35, k0_pay31, k0_pay32, k0_pay30, spread_at, h5, h7, zero_sub]
  exact sum_group (fun x => x8 (ix2 i x) * x3 (ix2 i x) + -x7 (ix2 i x) * x4 (ix2 i x)) k
theorem p36 (v5 v7 v79 : FVec Ideal S64x1024 .f32) (h5 : ∀ l, v5 (ix2 i l) = x3 (ix2 i l)) (h7 : ∀ l, v7 (ix2 i l) = x4 (ix2 i l))
    (h79 : v79 = k0_pay27) : k0_pay36 (F := Ideal) v5 v7 v79 x7 x8 (ix2 i k) = WR x3 x4 x7 x8 i k := by
  subst h79
  pointwise [k0_pay36, k0_pay31, k0_pay30, spread_at, h5, h7]
  exact sum_group (fun x => x8 (ix2 i x) * x4 (ix2 i x) + x7 (ix2 i x) * x3 (ix2 i x)) k

theorem q35 : k0_pay35 (F := Ideal) (k0_pay46 x0 x1 x2 x3 x4 x5 x6 x7 x8) (k0_pay47 x0 x1 x2 x3 x4 x5 x6 x7 x8) (k0_pay62 x0 x1 x2 x3 x4 x5 x6 x7 x8) x7 x8 (ix2 i k) = WI x3 x4 x7 x8 i k :=
  p35 _ _ _ _ i k _ _ _ (fun l => p46 _ _ _ _ _ _ _ _ _ i l) (fun l => p47 _ _ _ _ _ _ _ _ _ i l) rfl
theorem q36 : k0_pay36 (F := Ideal) (k0_pay46 x0 x1 x2 x3 x4 x5 x6 x7 x8) (k0_pay47 x0 x1 x2 x3 x4 x5 x6 x7 x8) (k0_pay62 x0 x1 x2 x3 x4 x5 x6 x7 x8) x7 x8 (ix2 i k) = WR x3 x4 x7 x8 i k :=
  p36 _ _ _ _ i k _ _ _ (fun l => p46 _ _ _ _ _ _ _ _ _ i l) (fun l => p47 _ _ _ _ _ _ _ _ _ i l) rfl

theorem ld2 (x : Vec Ideal S64x1024 .f32) : View.ld x r0_2 = x := by funext j; pointwise []

theorem p65 : k0_pay65 x0 x1 x2 x3 x4 x5 x6 x7 x8 (ix2 i k)
    = DI (x0 (ix2 i k)) (x1 (ix2 i k)) (WR x3 x4 x7 x8 i k) (WI x3 x4 x7 x8 i k) (x6 (ix2 i k)) := by
  unfold k0_pay65
  rw [ld2 x7, ld2 x8]
  pointwise [k0_pay41, k0_pay37, k0_pay40, q35, q36, p48, p57]; rfl
theorem p66 : k0_pay66 x0 x1 x2 x3 x4 x5 x6 x7 x8 (ix2 i k)
    = DR (x0 (ix2 i k)) (x1 (ix2 i k)) (WR x3 x4 x7 x8 i k) (WI x3 x4 x7 x8 i k) (x5 (ix2 i k)) := by
  unfold k0_pay66
  rw [ld2 x7, ld2 x8]
  pointwise [k0_pay43, k0_pay38, k0_pay37, k0_pay40, q35, q36, p48, p57, zero_sub]; rfl
theorem p39 : k0_pay39 (F := Ideal) (k0_pay46 x0 x1 x2 x3 x4 x5 x6 x7 x8) (k0_pay47 x0 x1 x2 x3 x4 x5 x6 x7 x8) (k0_pay58 x0 x1 x2 x3 x4 x5 x6 x7 x8) (k0_pay59 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) x7 x8 (ix2 i k)
    = DD (x0 (ix2 i k)) (x1 (ix2 i k)) (x2 (ix2 i 0)) (WR x3 x4 x7 x8 i k) (WI x3 x4 x7 x8 i k) := by
  pointwise [k0_pay39, q35, q36, p58, p59, p60, p61, zero_sub]; rfl

theorem out9_at : out0_9 x0 x1 x2 x3 x4 x5 x6 x7 x8 (ix2 i k)
    = GRE (x0 (ix2 i k)) (x1 (ix2 i k)) (x2 (ix2 i 0)) (WR x3 x4 x7 x8 i k) (WI x3 x4 x7 x8 i k) (x5 (ix2 i k)) (x6 (ix2 i k)) := by
  unfold out0_9
  frame_out
  pointwise [k0_pay5, k0_pay3, k0_pay42, k0_pay45, k0_pay37, k0_pay40, k0_pay9, p39, q35, q36, p48, p49, p50, p51, p53, p55, p56, p57, p65, p66]
  rfl
theorem out10_at : out0_10 x0 x1 x2 x3 x4 x5 x6 x7 x8 (ix2 i k)
    = GIM (x0 (ix2 i k)) (x1 (ix2 i k)) (x2 (ix2 i 0)) (WR x3 x4 x7 x8 i k) (WI x3 x4 x7 x8 i k) (x5 (ix2 i k)) (x6 (ix2 i k)) := by
  unfold out0_10
  frame_out
  pointwise [k0_pay2, k0_pay1, k0_pay44, k0_pay38, k0_pay37, k0_pay40, p39, q35, q36, p49, p50, p52, p54, p55, p56, p57, p65, p66, zero_sub]
  rfl
theorem out11_at : out0_11 x0 x1 x2 x3 x4 x5 x6 x7 x8 (ix2 i 0)
    = (∑ k, x1 (ix2 i k) * DA (x0 (ix2 i k)) (x1 (ix2 i k)) (x2 (ix2 i 0)) (WR x3 x4 x7 x8 i k) (WI x3 x4 x7 x8 i k) (x5 (ix2 i k)) (x6 (ix2 i k))
      + ∑ k, LR (x0 (ix2 i k)) * DM (x0 (ix2 i k)) (x1 (ix2 i k)) (x2 (ix2 i 0)) (WR x3 x4 x7 x8 i k) (WI x3 x4 x7 x8 i k) (x5 (ix2 i k)) (x6 (ix2 i k)))
      * Ideal.exp (x2 (ix2 i 0)) := by
  unfold out0_11
  frame_out
  pointwise [k0_pay4, k0_pay1, k0_pay3, p48, p49, p50, p51, p52, p53, p54, p65, p66, zero_sub]
  rfl
theorem out12_at : out0_12 x0 x1 x2 x3 x4 x5 x6 x7 x8 (ix2 i l)
    = CI (x0 (ix2 i (st l))) (x1 (ix2 i (st l))) (x2 (ix2 i 0)) * x8 (ix2 i l) + CR (x0 (ix2 i (st l))) (x1 (ix2 i (st l))) (x2 (ix2 i 0)) * x7 (ix2 i l) := by
  unfold out0_12
  frame_out
  pointwise [k0_pay34, k0_pay31, k0_pay30, p63, p64]
theorem out13_at : out0_13 x0 x1 x2 x3 x4 x5 x6 x7 x8 (ix2 i l)
    = CR (x0 (ix2 i (st l))) (x1 (ix2 i (st l))) (x2 (ix2 i 0)) * x8 (ix2 i l) + CI (x0 (ix2 i (st l))) (x1 (ix2 i (st l))) (x2 (ix2 i 0)) * -x7 (ix2 i l) := by
  unfold out0_13
  frame_out
  pointwise [k0_pay33, k0_pay32, k0_pay31, k0_pay30, p63, p64, zero_sub]
end payloads

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem blk_0 (c : Dev nD) (t : Fin cfg0.N) (i k) : iblk m c 0 t (ix2 i k) = m ((c : Thread nD τ).loc main_arg0) (ix2 i k) := by
  blk_point [iblk, V, idx t]
theorem blk_1 (c : Dev nD) (t : Fin cfg0.N) (i k) : iblk m c 1 t (ix2 i k) = m ((c : Thread nD τ).loc main_arg1) (ix2 i k) := by
  blk_point [iblk, V, idx t]
theorem blk_2 (c : Dev nD) (t : Fin cfg0.N) (i k) : iblk m c 2 t (ix2 i k) = m ((c : Thread nD τ).loc main_arg2) (ix1 i) := by
  unfold iblk; entry_read; blk_simp; pointwise []; blk_point [idx t]
theorem blk_3 (c : Dev nD) (t : Fin cfg0.N) (i k j) : iblk m c 3 t (ix2 i (col k j)) = m ((c : Thread nD τ).loc main_arg3) (ix3 i k j) := by
  unfold iblk; entry_read; blk_simp; pointwise []; blk_point [idx t, col]
theorem blk_4 (c : Dev nD) (t : Fin cfg0.N) (i k j) : iblk m c 4 t (ix2 i (col k j)) = m ((c : Thread nD τ).loc main_arg4) (ix3 i k j) := by
  unfold iblk; entry_read; blk_simp; pointwise []; blk_point [idx t, col]
theorem blk_5 (c : Dev nD) (t : Fin cfg0.N) (i k) : iblk m c 5 t (ix2 i k) = m ((c : Thread nD τ).loc main_arg5) (ix2 i k) := by
  blk_point [iblk, V, idx t]
theorem blk_6 (c : Dev nD) (t : Fin cfg0.N) (i k) : iblk m c 6 t (ix2 i k) = m ((c : Thread nD τ).loc main_arg6) (ix2 i k) := by
  blk_point [iblk, V, idx t]
theorem blk_7 (c : Dev nD) (t : Fin cfg0.N) (i k j) : iblk m c 7 t (ix2 i (col k j)) = m ((c : Thread nD τ).loc main_arg7) (ix3 i k j) := by
  unfold iblk; entry_read; blk_simp; pointwise []; blk_point [idx t, col]
theorem blk_8 (c : Dev nD) (t : Fin cfg0.N) (i k j) : iblk m c 8 t (ix2 i (col k j)) = m ((c : Thread nD τ).loc main_arg8) (ix3 i k j) := by
  unfold iblk; entry_read; blk_simp; pointwise []; blk_point [idx t, col]

/-! The results, of the call's arguments. -/

section results
variable (A B : FVec Ideal S64x64 .f32) (S : FVec Ideal S64 .f32) (B1 B2 : FVec Ideal S64x64x16 .f32)
  (P Q : FVec Ideal S64x64 .f32) (C1 C2 : FVec Ideal S64x64x16 .f32)

def GWI (i k : _root_.Fin 64) : EReal := ∑ c, C2 (ix3 i k c) * B1 (ix3 i k c) + ∑ c, -C1 (ix3 i k c) * B2 (ix3 i k c)
def GWR (i k : _root_.Fin 64) : EReal := ∑ c, C2 (ix3 i k c) * B2 (ix3 i k c) + ∑ c, C1 (ix3 i k c) * B1 (ix3 i k c)
def RRE : FVec Ideal S64x64 .f32 := fun j => GRE (A (ix2 (j 0) (j 1))) (B (ix2 (j 0) (j 1))) (S (ix1 (j 0)))
  (GWR B1 B2 C1 C2 (j 0) (j 1)) (GWI B1 B2 C1 C2 (j 0) (j 1)) (P (ix2 (j 0) (j 1))) (Q (ix2 (j 0) (j 1)))
def RIM : FVec Ideal S64x64 .f32 := fun j => GIM (A (ix2 (j 0) (j 1))) (B (ix2 (j 0) (j 1))) (S (ix1 (j 0)))
  (GWR B1 B2 C1 C2 (j 0) (j 1)) (GWI B1 B2 C1 C2 (j 0) (j 1)) (P (ix2 (j 0) (j 1))) (Q (ix2 (j 0) (j 1)))
def RST : FVec Ideal S64x1 .f32 := fun j =>
  (∑ k, B (ix2 (j 0) k) * DA (A (ix2 (j 0) k)) (B (ix2 (j 0) k)) (S (ix1 (j 0))) (GWR B1 B2 C1 C2 (j 0) k) (GWI B1 B2 C1 C2 (j 0) k)
      (P (ix2 (j 0) k)) (Q (ix2 (j 0) k))
    + ∑ k, LR (A (ix2 (j 0) k)) * DM (A (ix2 (j 0) k)) (B (ix2 (j 0) k)) (S (ix1 (j 0))) (GWR B1 B2 C1 C2 (j 0) k) (GWI B1 B2 C1 C2 (j 0) k)
      (P (ix2 (j 0) k)) (Q (ix2 (j 0) k))) * Ideal.exp (S (ix1 (j 0)))
def RBR : FVec Ideal S64x1024 .f32 := fun j =>
  CI (A (ix2 (j 0) (st (j 1)))) (B (ix2 (j 0) (st (j 1)))) (S (ix1 (j 0))) * C2 (ix3 (j 0) (st (j 1)) ⟨(j 1).val % 16, by omega⟩)
    + CR (A (ix2 (j 0) (st (j 1)))) (B (ix2 (j 0) (st (j 1)))) (S (ix1 (j 0))) * C1 (ix3 (j 0) (st (j 1)) ⟨(j 1).val % 16, by omega⟩)
def RBI : FVec Ideal S64x1024 .f32 := fun j =>
  CR (A (ix2 (j 0) (st (j 1)))) (B (ix2 (j 0) (st (j 1)))) (S (ix1 (j 0))) * C2 (ix3 (j 0) (st (j 1)) ⟨(j 1).val % 16, by omega⟩)
    + CI (A (ix2 (j 0) (st (j 1)))) (B (ix2 (j 0) (st (j 1)))) (S (ix1 (j 0))) * -C1 (ix3 (j 0) (st (j 1)) ⟨(j 1).val % 16, by omega⟩)
end results

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

theorem WI_blk (c : Dev nD) (t : Fin cfg0.N) (i k) : WI (iblk m c 3 t) (iblk m c 4 t) (iblk m c 7 t) (iblk m c 8 t) i k
    = GWI (a3 m c) (a4 m c) (a7 m c) (a8 m c) i k := by
  unfold WI GWI
  rw [Finset.sum_add_distrib]
  simp only [blk_3, blk_4, blk_7, blk_8]
theorem WR_blk (c : Dev nD) (t : Fin cfg0.N) (i k) : WR (iblk m c 3 t) (iblk m c 4 t) (iblk m c 7 t) (iblk m c 8 t) i k
    = GWR (a3 m c) (a4 m c) (a7 m c) (a8 m c) i k := by
  unfold WR GWR
  rw [Finset.sum_add_distrib]
  simp only [blk_3, blk_4, blk_7, blk_8]

theorem at_col (l : _root_.Fin 1024) : l = col (st l) ⟨l.val % 16, by omega⟩ := by
  apply Fin.ext; show l.val = l.val / 16 * 16 + l.val % 16; omega
theorem blk_7' (c : Dev nD) (t : Fin cfg0.N) (i l) : iblk m c 7 t (ix2 i l) = a7 m c (ix3 i (st l) ⟨l.val % 16, by omega⟩) := by
  conv_lhs => rw [at_col l]
  exact blk_7 m c t i _ _
theorem blk_8' (c : Dev nD) (t : Fin cfg0.N) (i l) : iblk m c 8 t (ix2 i l) = a8 m c (ix3 i (st l) ⟨l.val % 16, by omega⟩) := by
  conv_lhs => rw [at_col l]
  exact blk_8 m c t i _ _

theorem re_blk (c : Dev nD) (t : Fin cfg0.N) (i k) : out0_9 (iblk m c 0 t) (iblk m c 1 t) (iblk m c 2 t) (iblk m c 3 t) (iblk m c 4 t) (iblk m c 5 t) (iblk m c 6 t) (iblk m c 7 t) (iblk m c 8 t) (ix2 i k)
    = RRE (a0 m c) (a1 m c) (a2 m c) (a3 m c) (a4 m c) (a5 m c) (a6 m c) (a7 m c) (a8 m c) (ix2 i k) := by
  rw [out9_at, WI_blk, WR_blk, blk_0, blk_1, blk_2, blk_5, blk_6]
  rfl
theorem final_re (c : Dev nD) : (dats m 0 c).arrAt 9 (cfgs 0).N = RRE (a0 m c) (a1 m c) (a2 m c) (a3 m c) (a4 m c) (a5 m c) (a6 m c) (a7 m c) (a8 m c) := by
  refine (dats m 0 c).arrAt_eq_of_covers 9 _ (by decide +kernel) fun t _ y => ?_
  obtain ⟨i, k, rfl⟩ : ∃ r k, y = ix2 r k := ⟨y 0, y 1, by ext a; fin_cases a <;> rfl⟩
  have e : (win0_9.blk t).view.emb (ix2 i k) = ix2 i k := by blk_point [idx t]
  blk_simp
  rw [after0_9]
  exact (re_blk m c t i k).trans (congrArg (RRE (a0 m c) (a1 m c) (a2 m c) (a3 m c) (a4 m c) (a5 m c) (a6 m c) (a7 m c) (a8 m c)) e.symm)
theorem im_blk (c : Dev nD) (t : Fin cfg0.N) (i k) : out0_10 (iblk m c 0 t) (iblk m c 1 t) (iblk m c 2 t) (iblk m c 3 t) (iblk m c 4 t) (iblk m c 5 t) (iblk m c 6 t) (iblk m c 7 t) (iblk m c 8 t) (ix2 i k)
    = RIM (a0 m c) (a1 m c) (a2 m c) (a3 m c) (a4 m c) (a5 m c) (a6 m c) (a7 m c) (a8 m c) (ix2 i k) := by
  rw [out10_at, WI_blk, WR_blk, blk_0, blk_1, blk_2, blk_5, blk_6]
  rfl
theorem final_im (c : Dev nD) : (dats m 0 c).arrAt 10 (cfgs 0).N = RIM (a0 m c) (a1 m c) (a2 m c) (a3 m c) (a4 m c) (a5 m c) (a6 m c) (a7 m c) (a8 m c) := by
  refine (dats m 0 c).arrAt_eq_of_covers 10 _ (by decide +kernel) fun t _ y => ?_
  obtain ⟨i, k, rfl⟩ : ∃ r k, y = ix2 r k := ⟨y 0, y 1, by ext a; fin_cases a <;> rfl⟩
  have e : (win0_10.blk t).view.emb (ix2 i k) = ix2 i k := by blk_point [idx t]
  blk_simp
  rw [after0_10]
  exact (im_blk m c t i k).trans (congrArg (RIM (a0 m c) (a1 m c) (a2 m c) (a3 m c) (a4 m c) (a5 m c) (a6 m c) (a7 m c) (a8 m c)) e.symm)
theorem st_blk (c : Dev nD) (t : Fin cfg0.N) (i) : out0_11 (iblk m c 0 t) (iblk m c 1 t) (iblk m c 2 t) (iblk m c 3 t) (iblk m c 4 t) (iblk m c 5 t) (iblk m c 6 t) (iblk m c 7 t) (iblk m c 8 t) (ix2 i 0)
    = RST (a0 m c) (a1 m c) (a2 m c) (a3 m c) (a4 m c) (a5 m c) (a6 m c) (a7 m c) (a8 m c) (ix2 i 0) := by
  rw [out11_at]; simp only [WI_blk, WR_blk, blk_0, blk_1, blk_2, blk_5, blk_6]
  rfl
theorem final_st (c : Dev nD) : (dats m 0 c).arrAt 11 (cfgs 0).N = RST (a0 m c) (a1 m c) (a2 m c) (a3 m c) (a4 m c) (a5 m c) (a6 m c) (a7 m c) (a8 m c) := by
  refine (dats m 0 c).arrAt_eq_of_covers 11 _ (by decide +kernel) fun t _ y => ?_
  obtain ⟨i, k, rfl⟩ : ∃ r k, y = ix2 r k := ⟨y 0, y 1, by ext a; fin_cases a <;> rfl⟩
  obtain rfl : k = 0 := Subsingleton.elim _ _
  have e : (win0_11.blk t).view.emb (ix2 i 0) = ix2 i 0 := by blk_point [idx t]
  blk_simp
  rw [after0_11]
  exact (st_blk m c t i).trans (congrArg (RST (a0 m c) (a1 m c) (a2 m c) (a3 m c) (a4 m c) (a5 m c) (a6 m c) (a7 m c) (a8 m c)) e.symm)
theorem br_blk (c : Dev nD) (t : Fin cfg0.N) (i k) : out0_12 (iblk m c 0 t) (iblk m c 1 t) (iblk m c 2 t) (iblk m c 3 t) (iblk m c 4 t) (iblk m c 5 t) (iblk m c 6 t) (iblk m c 7 t) (iblk m c 8 t) (ix2 i k)
    = RBR (a0 m c) (a1 m c) (a2 m c) (a7 m c) (a8 m c) (ix2 i k) := by
  rw [out12_at, blk_0, blk_1, blk_2, blk_7', blk_8']
  rfl
theorem final_br (c : Dev nD) : (dats m 0 c).arrAt 12 (cfgs 0).N = RBR (a0 m c) (a1 m c) (a2 m c) (a7 m c) (a8 m c) := by
  refine (dats m 0 c).arrAt_eq_of_covers 12 _ (by decide +kernel) fun t _ y => ?_
  obtain ⟨i, k, rfl⟩ : ∃ r k, y = ix2 r k := ⟨y 0, y 1, by ext a; fin_cases a <;> rfl⟩
  have e : (win0_12.blk t).view.emb (ix2 i k) = ix2 i k := by blk_point [idx t]
  blk_simp
  rw [after0_12]
  exact (br_blk m c t i k).trans (congrArg (RBR (a0 m c) (a1 m c) (a2 m c) (a7 m c) (a8 m c)) e.symm)
theorem bi_blk (c : Dev nD) (t : Fin cfg0.N) (i k) : out0_13 (iblk m c 0 t) (iblk m c 1 t) (iblk m c 2 t) (iblk m c 3 t) (iblk m c 4 t) (iblk m c 5 t) (iblk m c 6 t) (iblk m c 7 t) (iblk m c 8 t) (ix2 i k)
    = RBI (a0 m c) (a1 m c) (a2 m c) (a7 m c) (a8 m c) (ix2 i k) := by
  rw [out13_at, blk_0, blk_1, blk_2, blk_7', blk_8']
  rfl
theorem final_bi (c : Dev nD) : (dats m 0 c).arrAt 13 (cfgs 0).N = RBI (a0 m c) (a1 m c) (a2 m c) (a7 m c) (a8 m c) := by
  refine (dats m 0 c).arrAt_eq_of_covers 13 _ (by decide +kernel) fun t _ y => ?_
  obtain ⟨i, k, rfl⟩ : ∃ r k, y = ix2 r k := ⟨y 0, y 1, by ext a; fin_cases a <;> rfl⟩
  have e : (win0_13.blk t).view.emb (ix2 i k) = ix2 i k := by blk_point [idx t]
  blk_simp
  rw [after0_13]
  exact (bi_blk m c t i k).trans (congrArg (RBI (a0 m c) (a1 m c) (a2 m c) (a7 m c) (a8 m c)) e.symm)
end Cert.ParKernelIdeal.Gen

namespace Cert.Proof

open Idealize.ShloMosaic Idealize.SL.Sem
open Cert.ParKernelIdeal.Gen Cert.Par

theorem par_reference_frame : Cert.quiescent_ParReferenceIdeal := by
  intro m g _
  exact (θ_run Cert.ParReferenceIdeal.defs _ _).mono (fun r h => ⟨fun c => (h c).2.2.2.2.2, sem_eq_zero_of_no_sems (by decide) r.2⟩)
    (Cert.ParReferenceIdeal.Value.run m g)

set_option maxHeartbeats 4000000 in
theorem par_algebraic : Cert.algebraic_ParKernelIdeal_ParReferenceIdeal := by
  pair_intro
  · run_from Cert.ParKernelIdeal.Gen.run_main m g
  · run_from Cert.ParReferenceIdeal.Value.run m' g'
    · refine Eq.trans ?_ (final_re m c).symm
      obtain ⟨e0, e1, e2, e3, e4, e5, e6, e7, e8⟩ := hagree c
      funext j
      obtain ⟨i, k, rfl⟩ : ∃ r k, j = ix2 r k := ⟨j 0, j 1, by ext a; fin_cases a <;> rfl⟩
      pointwise [Cert.ParReferenceIdeal.Value.res_main_v148]
      simp only [e0, e1, e2, e3, e4, e5, e6, e7, e8, Fin.sum_univ_one (M := EReal)]
      rfl
    · refine Eq.trans ?_ (final_im m c).symm
      obtain ⟨e0, e1, e2, e3, e4, e5, e6, e7, e8⟩ := hagree c
      funext j
      obtain ⟨i, k, rfl⟩ : ∃ r k, j = ix2 r k := ⟨j 0, j 1, by ext a; fin_cases a <;> rfl⟩
      pointwise [Cert.ParReferenceIdeal.Value.res_main_v137]
      simp only [e0, e1, e2, e3, e4, e5, e6, e7, e8, Fin.sum_univ_one (M := EReal)]
      rfl
    · refine Eq.trans ?_ (final_st m c).symm
      obtain ⟨e0, e1, e2, e3, e4, e5, e6, e7, e8⟩ := hagree c
      funext j
      obtain ⟨i, k, rfl⟩ : ∃ r k, j = ix2 r k := ⟨j 0, j 1, by ext a; fin_cases a <;> rfl⟩
      obtain rfl : k = 0 := Subsingleton.elim _ _
      pointwise [Cert.ParReferenceIdeal.Value.res_main_v149]
      simp only [e0, e1, e2, e3, e4, e5, e6, e7, e8, Fin.sum_univ_one (M := EReal)]
      rfl
    · refine Eq.trans ?_ (final_br m c).symm
      obtain ⟨e0, e1, e2, e3, e4, e5, e6, e7, e8⟩ := hagree c
      funext j
      obtain ⟨i, k, rfl⟩ : ∃ r k, j = ix2 r k := ⟨j 0, j 1, by ext a; fin_cases a <;> rfl⟩
      pointwise []
      rfl
    · refine Eq.trans ?_ (final_bi m c).symm
      obtain ⟨e0, e1, e2, e3, e4, e5, e6, e7, e8⟩ := hagree c
      funext j
      obtain ⟨i, k, rfl⟩ : ∃ r k, j = ix2 r k := ⟨j 0, j 1, by ext a; fin_cases a <;> rfl⟩
      pointwise []
      rfl

end Cert.Proof

end
-- ==== Proof.ConvFwd.lean ====
/- The causal convolution over four rows and its silu: what the kernel leaves equals the reference's composed terms. -/
module

public import proofs.«01_k».proof.Defs
public import proofs.«01_k».proof.Proof.Consts
public import proofs.«01_k».proof.Proof.Norm
public import proofs.«01_k».proof.Proof.Sigmoid
public import proofs.«01_k».proof.Proof.Gen.ConvFwdKernelIdeal.Frame
public import proofs.«01_k».proof.Proof.Gen.ConvFwdReferenceIdeal.Run
public import Idealize.ShloMosaic.Lib.Claim

@[expose] public section

set_option maxRecDepth 16384

noncomputable section

namespace Cert.ConvFwdKernelIdeal.Gen

open Idealize.ShloMosaic Idealize.ShloMosaic.TcCoe Idealize.SL.Sem
open Idealize.ShloMosaic.Pipeline (Dat)
open Cert.Norm Cert.Sigmoid

variable (m : (ℓ : Loc nD τ sig) → Buf (Elt Ideal) ℓ) (ρ : Dev nD → PrngReg)

theorem idx : ∀ t : Fin cfg0.N, win0_0.index t = ![0, 8 + t.val] ∧ win0_1.index t = ![0, t.val] ∧ win0_2.index t = ![0, t.val] ∧ win0_3.index t = ![0, t.val] :=
  (by decide +kernel : ∀ t : Fin grid0.N, _)

/-- Column `k` of the block at point `t`, and the column of the projection that a column is. -/
def col (t : Fin cfg0.N) (k : _root_.Fin 256) : _root_.Fin 3072 := ⟨t.val * 256 + k.val, by have := lt_of_lt_of_eq t.isLt N_0; omega⟩
def pc (k : _root_.Fin 3072) : _root_.Fin 8224 := ⟨2048 + k.val, by omega⟩

/-- A column's entry `n` rows above, zero above the first row. -/
def up (n : ℕ) (u : _root_.Fin 2048 → EReal) (i : _root_.Fin 2048) : EReal := if i.val < n then 0 else u ⟨i.val - n, by omega⟩

/-- The convolution of a column with four weights and a bias, and its silu. -/
def CV (u : _root_.Fin 2048 → EReal) (w : _root_.Fin 4 → EReal) (b : EReal) (i : _root_.Fin 2048) : EReal :=
  SIL (up 3 u i * w 0 + up 2 u i * w 1 + up 1 u i * w 2 + u i * w 3 + b)

/-- The convolved columns. -/
def RV (P : FVec Ideal S2048x8224 .f32) (W : FVec Ideal S4x3072 .f32) (B : FVec Ideal S3072 .f32) : FVec Ideal S2048x3072 .f32 :=
  fun j => CV (fun x => P (ix2 x (pc (j 1)))) (fun x => W (ix2 x (j 1))) (B (ix1 (j 1))) (j 0)

/-- A read moved down by a rotation, zero above, times a weight. -/
theorem pick (f : _root_.Fin 2048 → EReal) (w : EReal) (i : _root_.Fin 2048) (n : ℕ) (hn : n < 2048) (hlt : (i.val + 2048 - n) % 2048 < 2048) :
    (if n ≤ i.val then f ⟨(i.val + 2048 - n) % 2048, hlt⟩ * w else 0) = up n f i * w := by
  unfold up
  by_cases h : i.val < n
  · rw [if_neg (by omega), if_pos h, zero_mul]
  · rw [if_pos (by omega), if_neg h]
    have e : (i.val + 2048 - n) % 2048 = i.val - n := by omega
    simp only [e]

theorem up_eq (n a : ℕ) (h : a + n = 3) (u : _root_.Fin 2048 → EReal) (i : _root_.Fin 2048) :
    up n u i = if h : a + i.val < 3 then 0 else u ⟨a + i.val - 3, by omega⟩ := by
  unfold up
  by_cases hi : i.val < n
  · rw [if_pos hi, dif_pos (by omega)]
  · rw [if_neg hi, dif_neg (by omega)]
    have e : i.val - n = a + i.val - 3 := by omega
    simp only [e]

theorem reorder (b x s t u : EReal) : x + b + s + t + u = s + t + u + x + b := by abel

theorem out_at (x0 : Vec Ideal S2048x256 .f32) (x1 : Vec Ideal S4x256 .f32) (x2 : Vec Ideal S1x256 .f32) (i : _root_.Fin 2048) (k : _root_.Fin 256) :
    out0_3 x0 x1 x2 (ix2 i k) = CV (fun x => x0 (ix2 x k)) (fun x => x1 (ix2 x k)) (x2 (ix2 0 k)) i := by
  unfold out0_3 CV
  frame_out
  pointwise [k0_pay1, k0_pay2, k0_pay3, k0_pay4, SIL]
  word_cmp
  simp only [SG_sub]
  have p3 := pick (fun x => x0 (ix2 x k)) (x1 (ix2 0 k)) i 3 (by omega) (by omega)
  have p2 := pick (fun x => x0 (ix2 x k)) (x1 (ix2 1 k)) i 2 (by omega) (by omega)
  have p1 := pick (fun x => x0 (ix2 x k)) (x1 (ix2 2 k)) i 1 (by omega) (by omega)
  beta_reduce at p3 p2 p1
  rw [p3, p2, p1, reorder (x2 (ix2 0 k)) (x0 (ix2 i k) * x1 (ix2 3 k))]

theorem blk_u (c : Dev nD) (t : Fin cfg0.N) (i : _root_.Fin 2048) (k : _root_.Fin 256) :
    (iblk m c 0 t : Vec Ideal S2048x256 .f32) (ix2 i k) = (m ((c : Thread nD τ).loc main_arg0) : FVec Ideal S2048x8224 .f32) (ix2 i (pc (col t k))) := by
  have ht := lt_of_lt_of_eq t.isLt N_0
  unfold iblk
  entry_read
  blk_simp
  pointwise [pc, col]
  rw [dif_pos (by blk_simp [idx t]; omega)]
  blk_point [idx t]
theorem blk_w (c : Dev nD) (t : Fin cfg0.N) (i : _root_.Fin 4) (k : _root_.Fin 256) :
    (iblk m c 1 t : Vec Ideal S4x256 .f32) (ix2 i k) = (m ((c : Thread nD τ).loc main_arg1) : FVec Ideal S4x3072 .f32) (ix2 i (col t k)) := by
  blk_point [iblk, V, idx t, col]
theorem blk_b (c : Dev nD) (t : Fin cfg0.N) (k : _root_.Fin 256) :
    (iblk m c 2 t : Vec Ideal S1x256 .f32) (ix2 0 k) = (m ((c : Thread nD τ).loc main_arg2) : FVec Ideal S3072 .f32) (ix1 (col t k)) := by
  unfold iblk
  entry_read
  blk_simp
  pointwise [col]
  blk_point [idx t]

theorem out_blk (c : Dev nD) (t : Fin cfg0.N) (i : _root_.Fin 2048) (k : _root_.Fin 256) :
    out0_3 (iblk m c 0 t) (iblk m c 1 t) (iblk m c 2 t) (ix2 i k)
      = RV (m ((c : Thread nD τ).loc main_arg0)) (m ((c : Thread nD τ).loc main_arg1)) (m ((c : Thread nD τ).loc main_arg2)) (ix2 i (col t k)) := by
  rw [out_at]
  exact congr (congr (congrArg₂ CV (funext fun x => blk_u m c t x k) (funext fun x => blk_w m c t x k)) (blk_b m c t k)) rfl

theorem final (c : Dev nD) : (dats m 0 c).arrAt 3 (cfgs 0).N = RV (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, k, rfl⟩ : ∃ r k, y = ix2 r k := ⟨y 0, y 1, by ext a; fin_cases a <;> rfl⟩
  have e : (win0_3.blk t).view.emb (ix2 i k) = ix2 i (col t k) := by blk_point [idx t, col]
  blk_simp
  rw [after0_3]
  exact (out_blk m c t i k).trans (congrArg (RV (m ((c : Thread nD τ).loc main_arg0)) (m ((c : Thread nD τ).loc main_arg1)) (m ((c : Thread nD τ).loc main_arg2))) e.symm)

end Cert.ConvFwdKernelIdeal.Gen

namespace Cert.Proof

open Idealize.ShloMosaic Idealize.SL.Sem

theorem convf_reference_frame : Cert.quiescent_ConvFwdReferenceIdeal := by
  intro m g _
  exact (θ_run Cert.ConvFwdReferenceIdeal.defs _ _).mono (fun r h => ⟨fun c => (h c).2, sem_eq_zero_of_no_sems (by decide) r.2⟩)
    (Cert.ConvFwdReferenceIdeal.Value.run m g)

set_option maxHeartbeats 4000000 in
theorem convf_algebraic : Cert.algebraic_ConvFwdKernelIdeal_ConvFwdReferenceIdeal := by
  pair_intro
  · run_from Cert.ConvFwdKernelIdeal.Gen.run_main m g
  · run_from Cert.ConvFwdReferenceIdeal.Value.run m' g'
    refine Eq.trans ?_ (Cert.ConvFwdKernelIdeal.Gen.final m c).symm
    obtain ⟨e0, e1, e2⟩ := hagree c
    funext j
    obtain ⟨i, k, rfl⟩ : ∃ r k, j = ix2 r k := ⟨j 0, j 1, by ext a; fin_cases a <;> rfl⟩
    unfold Cert.ConvFwdReferenceIdeal.Value.res_main_v35
    pointwise [Cert.ConvFwdKernelIdeal.Gen.RV, Cert.ConvFwdKernelIdeal.Gen.CV]
    rw [Cert.ConvFwdKernelIdeal.Gen.up_eq 3 0 rfl, Cert.ConvFwdKernelIdeal.Gen.up_eq 2 1 rfl, Cert.ConvFwdKernelIdeal.Gen.up_eq 1 2 rfl]
    simp only [e0, e1, e2, Nat.zero_add]
    rfl

end Cert.Proof

end
-- ==== Proof.GateFwd.lean ====
/- The gated grouped norm: what the kernel leaves equals the reference's composed terms. -/
module

public import proofs.«01_k».proof.Defs
public import proofs.«01_k».proof.Proof.Consts
public import proofs.«01_k».proof.Proof.Norm
public import proofs.«01_k».proof.Proof.Sigmoid
public import proofs.«01_k».proof.Proof.Gen.GateFwdKernelIdeal.Frame
public import proofs.«01_k».proof.Proof.Gen.GateFwdReferenceIdeal.Run
public import Idealize.ShloMosaic.Lib.Claim

@[expose] public section

set_option maxRecDepth 16384

noncomputable section

namespace Cert.GateFwdKernelIdeal.Gen

open Idealize.ShloMosaic Idealize.ShloMosaic.TcCoe Idealize.SL.Sem
open Idealize.ShloMosaic.Pipeline (Dat)
open Cert.Norm Cert.Sigmoid

variable (m : (ℓ : Loc nD τ sig) → Buf (Elt Ideal) ℓ) (ρ : Dev nD → PrngReg)

theorem idx : ∀ t : Fin cfg0.N, win0_0.index t = ![t.val % 4, t.val / 4] ∧ win0_1.index t = ![t.val % 4, t.val / 4] ∧ win0_2.index t = ![0, t.val / 4] ∧ win0_3.index t = ![t.val % 4, t.val / 4] :=
  (by decide +kernel : ∀ t : Fin grid0.N, _)

/-- The width of a group, a float constant. -/
abbrev W512 : EReal := Ideal.ofBits .f32 0x44000000#32

/-- The row that the kernel normalises. -/
def vr (y z : Vec Ideal S512x512 .f32) (i x : _root_.Fin 512) : EReal := y (ix2 i x) * SIL (z (ix2 i x))

theorem out_at (y z : Vec Ideal S512x512 .f32) (g : Vec Ideal S1x512 .f32) (j) :
    out0_3 y z g j = vr y z (j 0) (j 1) * Ideal.rsqrt (ES W512 (vr y z (j 0))) * g (ix2 0 (j 1)) := by
  unfold out0_3
  frame_out
  pointwise [k0_pay1, ES, vr, SIL]
  simp only [SG_sub]

/-- Column `x` of the group that column `j` lies in. -/
def grp (j : _root_.Fin 2048) (x : _root_.Fin 512) : _root_.Fin 2048 := ⟨j.val / 512 * 512 + x.val, by omega⟩
/-- The column of the projection that a gate's column is. -/
def zc (j : _root_.Fin 2048) : _root_.Fin 8224 := ⟨j.val, by omega⟩

/-- A row's entry, the gated value. -/
def VR (Y : FVec Ideal S2048x2048 .f32) (P : FVec Ideal S2048x8224 .f32) (i j : _root_.Fin 2048) : EReal := Y (ix2 i j) * SIL (P (ix2 i (zc j)))
/-- The gated values, normalised group by group. -/
def RV (Y : FVec Ideal S2048x2048 .f32) (P : FVec Ideal S2048x8224 .f32) (G : FVec Ideal S2048 .f32) : FVec Ideal S2048x2048 .bf16 :=
  fun j => VR Y P (j 0) (j 1) * Ideal.rsqrt (ES W512 fun x => VR Y P (j 0) (grp (j 1) x)) * G (ix1 (j 1))

/-- The row and the column of the array that a grid point's row and column are. -/
def row (t : Fin cfg0.N) (i : _root_.Fin 512) : _root_.Fin 2048 := ⟨t.val % 4 * 512 + i.val, by omega⟩
def col (t : Fin cfg0.N) (k : _root_.Fin 512) : _root_.Fin 2048 := ⟨t.val / 4 * 512 + k.val, by have := lt_of_lt_of_eq t.isLt N_0; omega⟩

theorem blk_y (c : Dev nD) (t : Fin cfg0.N) (i k : _root_.Fin 512) :
    (iblk m c 0 t : Vec Ideal S512x512 .f32) (ix2 i k) = (m ((c : Thread nD τ).loc main_arg0) : FVec Ideal S2048x2048 .f32) (ix2 (row t i) (col t k)) := by
  blk_point [iblk, V, idx t, row, col]
theorem blk_z (c : Dev nD) (t : Fin cfg0.N) (i k : _root_.Fin 512) :
    (iblk m c 1 t : Vec Ideal S512x512 .f32) (ix2 i k) = (m ((c : Thread nD τ).loc main_arg1) : FVec Ideal S2048x8224 .f32) (ix2 (row t i) (zc (col t k))) := by
  have ht := lt_of_lt_of_eq t.isLt N_0
  unfold iblk
  entry_read
  blk_simp
  pointwise [row, col, zc]
  rw [dif_pos (by blk_simp [idx t]; omega)]
  blk_point [idx t]
theorem blk_g (c : Dev nD) (t : Fin cfg0.N) (k : _root_.Fin 512) :
    (iblk m c 2 t : Vec Ideal S1x512 .f32) (ix2 0 k) = (m ((c : Thread nD τ).loc main_arg2) : FVec Ideal S2048 .f32) (ix1 (col t k)) := by
  blk_point [iblk, V, idx t, row, col]

theorem col_grp (t : Fin cfg0.N) (k x : _root_.Fin 512) : grp (col t k) x = col t x :=
  Fin.ext (by show (t.val / 4 * 512 + k.val) / 512 * 512 + x.val = t.val / 4 * 512 + x.val; omega)

theorem vr_blk (c : Dev nD) (t : Fin cfg0.N) (i k : _root_.Fin 512) :
    vr (iblk m c 0 t) (iblk m c 1 t) i k = VR (m ((c : Thread nD τ).loc main_arg0)) (m ((c : Thread nD τ).loc main_arg1)) (row t i) (col t k) :=
  congrArg₂ (fun a b : EReal => a * SIL b) (blk_y m c t i k) (blk_z m c t i k)

theorem out_blk (c : Dev nD) (t : Fin cfg0.N) (i k : _root_.Fin 512) :
    out0_3 (iblk m c 0 t) (iblk m c 1 t) (iblk m c 2 t) (ix2 i k)
      = RV (m ((c : Thread nD τ).loc main_arg0)) (m ((c : Thread nD τ).loc main_arg1)) (m ((c : Thread nD τ).loc main_arg2)) (ix2 (row t i) (col t k)) := by
  rw [out_at]
  unfold RV
  refine congrArg₂ (fun a b : EReal => a * b) (congrArg₂ (fun a b : EReal => a * b) (vr_blk m c t i k) (congrArg (fun v => Ideal.rsqrt (ES W512 v)) (funext fun x => ?_))) (blk_g m c t k)
  exact (vr_blk m c t i x).trans (congrArg (VR _ _ (row t i)) (col_grp t k x).symm)

theorem final (c : Dev nD) : (dats m 0 c).arrAt 3 (cfgs 0).N = RV (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, k, rfl⟩ : ∃ r k, y = ix2 r k := ⟨y 0, y 1, by ext a; fin_cases a <;> rfl⟩
  have e : (win0_3.blk t).view.emb (ix2 i k) = ix2 (row t i) (col t k) := by blk_point [idx t, row, col]
  blk_simp
  rw [after0_3]
  exact (out_blk m c t i k).trans (congrArg (RV (m ((c : Thread nD τ).loc main_arg0)) (m ((c : Thread nD τ).loc main_arg1)) (m ((c : Thread nD τ).loc main_arg2))) e.symm)

end Cert.GateFwdKernelIdeal.Gen

namespace Cert.Proof

open Idealize.ShloMosaic Idealize.SL.Sem

theorem gatef_reference_frame : Cert.quiescent_GateFwdReferenceIdeal := by
  intro m g _
  exact (θ_run Cert.GateFwdReferenceIdeal.defs _ _).mono (fun r h => ⟨fun c => (h c).2, sem_eq_zero_of_no_sems (by decide) r.2⟩)
    (Cert.GateFwdReferenceIdeal.Value.run m g)

set_option maxHeartbeats 4000000 in
theorem gatef_algebraic : Cert.algebraic_GateFwdKernelIdeal_GateFwdReferenceIdeal := by
  pair_intro
  · run_from Cert.GateFwdKernelIdeal.Gen.run_main m g
  · run_from Cert.GateFwdReferenceIdeal.Value.run m' g'
    refine Eq.trans ?_ (Cert.GateFwdKernelIdeal.Gen.final m c).symm
    obtain ⟨e0, e1, e2⟩ := hagree c
    funext j
    obtain ⟨i, k, rfl⟩ : ∃ r k, j = ix2 r k := ⟨j 0, j 1, by ext a; fin_cases a <;> rfl⟩
    pointwise [Cert.GateFwdKernelIdeal.Gen.RV]
    rfl

end Cert.Proof

end
-- ==== Proof.RmsFwd.lean ====
/- The norm before a layer: what the kernel leaves equals the reference's composed terms. -/
module

public import proofs.«01_k».proof.Defs
public import proofs.«01_k».proof.Proof.Consts
public import proofs.«01_k».proof.Proof.Norm
public import proofs.«01_k».proof.Proof.Gen.RmsFwdKernelIdeal.Frame
public import proofs.«01_k».proof.Proof.Gen.RmsFwdReferenceIdeal.Run
public import Idealize.ShloMosaic.Lib.Claim

@[expose] public section

set_option maxRecDepth 16384

noncomputable section

namespace Cert.RmsFwdKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] :=
  (by decide +kernel : ∀ t : Fin grid0.N, _)

/-- The length of a row, a float constant. -/
abbrev W1024 : EReal := Ideal.ofBits .f32 0x44800000#32

/-- The row of the array that a grid point's row is. -/
def row (t : Fin cfg0.N) (i : _root_.Fin 512) : _root_.Fin 2048 := ⟨t.val * 512 + i.val, by have := lt_of_lt_of_eq t.isLt N_0; omega⟩

theorem out_at (x0 : Vec Ideal S512x1024 .f32) (x1 : Vec Ideal S1x1024 .f32) (j) :
    out0_2 x0 x1 j = x0 j * Ideal.rsqrt (ES W1024 fun x => x0 (ix2 (j 0) x)) * x1 (ix2 0 (j 1)) := by
  unfold out0_2
  frame_out
  pointwise [k0_pay1, ES]

theorem blk_v (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_g (c : Dev nD) (t : Fin cfg0.N) (k : _root_.Fin 1024) :
    (iblk m c 1 t : Vec Ideal S1x1024 .f32) (ix2 0 k) = (m ((c : Thread nD τ).loc main_arg1) : FVec Ideal S1024 .f32) (ix1 k) := by
  blk_point [iblk, V, idx t]

/-- The normalised rows times the gains. -/
def NV (X : FVec Ideal S2048x1024 .f32) (G : FVec Ideal S1024 .f32) : FVec Ideal S2048x1024 .bf16 :=
  fun j => X (ix2 (j 0) (j 1)) * Ideal.rsqrt (ES W1024 fun x => X (ix2 (j 0) x)) * G (ix1 (j 1))

theorem out_blk (c : Dev nD) (t : Fin cfg0.N) (i : _root_.Fin 512) (k : _root_.Fin 1024) :
    out0_2 (iblk m c 0 t) (iblk m c 1 t) (ix2 i k) = NV (m ((c : Thread nD τ).loc main_arg0)) (m ((c : Thread nD τ).loc main_arg1)) (ix2 (row t i) k) := by
  rw [out_at, blk_v]
  refine congrArg₂ (fun a b : EReal => a * b) (congrArg (fun v => _ * Ideal.rsqrt (ES W1024 v)) (funext fun x => blk_v m c t i x)) (blk_g m c t k)

theorem final (c : Dev nD) : (dats m 0 c).arrAt 2 (cfgs 0).N = NV (m ((c : Thread nD τ).loc main_arg0)) (m ((c : Thread nD τ).loc main_arg1)) := by
  refine (dats m 0 c).arrAt_eq_of_covers 2 _ (by decide +kernel) fun t _ y => ?_
  obtain ⟨i, k, rfl⟩ : ∃ r k, y = ix2 r k := ⟨y 0, y 1, by ext a; fin_cases a <;> rfl⟩
  have e : (win0_2.blk t).view.emb (ix2 i k) = ix2 (row t i) k := by blk_point [idx t, row]
  blk_simp
  rw [after0_2]
  exact (out_blk m c t i k).trans (congrArg (NV (m ((c : Thread nD τ).loc main_arg0)) (m ((c : Thread nD τ).loc main_arg1))) e.symm)

end Cert.RmsFwdKernelIdeal.Gen

namespace Cert.Proof

open Idealize.ShloMosaic Idealize.SL.Sem

theorem rmsfw_reference_frame : Cert.quiescent_RmsFwdReferenceIdeal := by
  intro m g _
  exact (θ_run Cert.RmsFwdReferenceIdeal.defs _ _).mono (fun r h => ⟨fun c => (h c).2, sem_eq_zero_of_no_sems (by decide) r.2⟩)
    (Cert.RmsFwdReferenceIdeal.Value.run m g)

set_option maxHeartbeats 4000000 in
theorem rmsfw_algebraic : Cert.algebraic_RmsFwdKernelIdeal_RmsFwdReferenceIdeal := by
  pair_intro
  · run_from Cert.RmsFwdKernelIdeal.Gen.run_main m g
  · run_from Cert.RmsFwdReferenceIdeal.Value.run m' g'
    refine Eq.trans ?_ (Cert.RmsFwdKernelIdeal.Gen.final m c).symm
    obtain ⟨e0, e1⟩ := hagree c
    funext j
    obtain ⟨i, k, rfl⟩ : ∃ r k, j = ix2 r k := ⟨j 0, j 1, by ext a; fin_cases a <;> rfl⟩
    pointwise [Cert.RmsFwdKernelIdeal.Gen.NV]
    rfl

end Cert.Proof

end
-- ==== Proof.ResFwd.lean ====
/- The residual sum with half of the norm after a feed-forward layer: what the kernel leaves equals the reference's composed terms. -/
module

public import proofs.«01_k».proof.Defs
public import proofs.«01_k».proof.Proof.Consts
public import proofs.«01_k».proof.Proof.Norm
public import proofs.«01_k».proof.Proof.Gen.ResFwdKernelIdeal.Frame
public import proofs.«01_k».proof.Proof.Gen.ResFwdReferenceIdeal.Run
public import Idealize.ShloMosaic.Lib.Claim

@[expose] public section

set_option maxRecDepth 16384

noncomputable section

namespace Cert.ResFwdKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The length of a row, a float constant. -/
abbrev W1024 : EReal := Ideal.ofBits .f32 0x44800000#32

/-- The row of the array that a grid point's row is. -/
def row (t : Fin cfg0.N) (i : _root_.Fin 512) : _root_.Fin 2048 := ⟨t.val * 512 + i.val, by have := lt_of_lt_of_eq t.isLt N_0; omega⟩

theorem out_at (x0 x1 : Vec Ideal S512x1024 .f32) (x2 : Vec Ideal S1x1024 .f32) (j) :
    out0_3 x0 x1 x2 j = x0 j + Ideal.ofBits .f32 0x3F000000#32 * (x1 j * Ideal.rsqrt (ES W1024 fun x => x1 (ix2 (j 0) x)) * x2 (ix2 0 (j 1))) := by
  unfold out0_3
  frame_out
  pointwise [k0_pay1, ES]

theorem blk_h (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_v (c : Dev nD) (t : Fin cfg0.N) (i : _root_.Fin 512) (k : _root_.Fin 1024) :
    (iblk m c 1 t : Vec Ideal S512x1024 .f32) (ix2 i k) = (m ((c : Thread nD τ).loc main_arg1) : FVec Ideal S2048x1024 .f32) (ix2 (row t i) k) := by
  blk_point [iblk, V, idx t, row]
theorem blk_g (c : Dev nD) (t : Fin cfg0.N) (k : _root_.Fin 1024) :
    (iblk m c 2 t : Vec Ideal S1x1024 .f32) (ix2 0 k) = (m ((c : Thread nD τ).loc main_arg2) : FVec Ideal S1024 .f32) (ix1 k) := by
  blk_point [iblk, V, idx t]

/-- The rows plus the normalised rows times the gains. -/
def RV (H X : FVec Ideal S2048x1024 .f32) (G : FVec Ideal S1024 .f32) : FVec Ideal S2048x1024 .f32 :=
  fun j => H (ix2 (j 0) (j 1)) + Ideal.ofBits .f32 0x3F000000#32 * (X (ix2 (j 0) (j 1)) * Ideal.rsqrt (ES W1024 fun x => X (ix2 (j 0) x)) * G (ix1 (j 1)))

theorem out_blk (c : Dev nD) (t : Fin cfg0.N) (i : _root_.Fin 512) (k : _root_.Fin 1024) :
    out0_3 (iblk m c 0 t) (iblk m c 1 t) (iblk m c 2 t) (ix2 i k)
      = RV (m ((c : Thread nD τ).loc main_arg0)) (m ((c : Thread nD τ).loc main_arg1)) (m ((c : Thread nD τ).loc main_arg2)) (ix2 (row t i) k) := by
  rw [out_at, blk_h, blk_v]
  exact congrArg (fun g : EReal => _ + Ideal.ofBits .f32 0x3F000000#32 * (g)) (congrArg₂ (fun a b : EReal => a * b) (congrArg (fun v => _ * Ideal.rsqrt (ES W1024 v)) (funext fun x => blk_v m c t i x)) (blk_g m c t k))

theorem final (c : Dev nD) : (dats m 0 c).arrAt 3 (cfgs 0).N = RV (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, k, rfl⟩ : ∃ r k, y = ix2 r k := ⟨y 0, y 1, by ext a; fin_cases a <;> rfl⟩
  have e : (win0_3.blk t).view.emb (ix2 i k) = ix2 (row t i) k := by blk_point [idx t, row]
  blk_simp
  rw [after0_3]
  exact (out_blk m c t i k).trans (congrArg (RV (m ((c : Thread nD τ).loc main_arg0)) (m ((c : Thread nD τ).loc main_arg1)) (m ((c : Thread nD τ).loc main_arg2))) e.symm)

end Cert.ResFwdKernelIdeal.Gen

namespace Cert.Proof

open Idealize.ShloMosaic Idealize.SL.Sem

theorem resfw_reference_frame : Cert.quiescent_ResFwdReferenceIdeal := by
  intro m g _
  exact (θ_run Cert.ResFwdReferenceIdeal.defs _ _).mono (fun r h => ⟨fun c => (h c).2, sem_eq_zero_of_no_sems (by decide) r.2⟩)
    (Cert.ResFwdReferenceIdeal.Value.run m g)

set_option maxHeartbeats 4000000 in
theorem resfw_algebraic : Cert.algebraic_ResFwdKernelIdeal_ResFwdReferenceIdeal := by
  pair_intro
  · run_from Cert.ResFwdKernelIdeal.Gen.run_main m g
  · run_from Cert.ResFwdReferenceIdeal.Value.run m' g'
    refine Eq.trans ?_ (Cert.ResFwdKernelIdeal.Gen.final m c).symm
    obtain ⟨e0, e1, e2⟩ := hagree c
    funext j
    obtain ⟨i, k, rfl⟩ : ∃ r k, j = ix2 r k := ⟨j 0, j 1, by ext a; fin_cases a <;> rfl⟩
    pointwise [Cert.ResFwdKernelIdeal.Gen.RV]
    rfl

end Cert.Proof

end
-- ==== Proof.MixResFwd.lean ====
/- The residual sum with the norm after the mixer: what the kernel leaves equals the reference's composed terms. -/
module

public import proofs.«01_k».proof.Defs
public import proofs.«01_k».proof.Proof.Consts
public import proofs.«01_k».proof.Proof.Norm
public import proofs.«01_k».proof.Proof.Gen.MixResFwdKernelIdeal.Frame
public import proofs.«01_k».proof.Proof.Gen.MixResFwdReferenceIdeal.Run
public import Idealize.ShloMosaic.Lib.Claim

@[expose] public section

set_option maxRecDepth 16384

noncomputable section

namespace Cert.MixResFwdKernelIdeal.Gen

open Idealize.ShloMosaic Idealize.ShloMosaic.TcCoe Idealize.SL.Sem
open Idealize.ShloMosaic.Pipeline (Dat)
open Cert.Norm

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The length of a row, a float constant. -/
abbrev W1024 : EReal := Ideal.ofBits .f32 0x44800000#32

/-- The row of the array that a grid point's row is. -/
def row (t : Fin cfg0.N) (i : _root_.Fin 512) : _root_.Fin 2048 := ⟨t.val * 512 + i.val, by have := lt_of_lt_of_eq t.isLt N_0; omega⟩

theorem out_at (x0 x1 : Vec Ideal S512x1024 .f32) (x2 : Vec Ideal S1x1024 .f32) (j) :
    out0_3 x0 x1 x2 j = x0 j + x1 j * Ideal.rsqrt (ES W1024 fun x => x1 (ix2 (j 0) x)) * x2 (ix2 0 (j 1)) := by
  unfold out0_3
  frame_out
  pointwise [k0_pay1, ES]

theorem blk_h (c : Dev nD) (t : Fin cfg0.N) (i : _root_.Fin 512) (k : _root_.Fin 1024) :
    (iblk m c 0 t : Vec Ideal S512x1024 .f32) (ix2 i k) = (m ((c : Thread nD τ).loc main_arg0) : FVec Ideal S2048x1024 .f32) (ix2 (row t i) k) := by
  blk_point [iblk, V, idx t, row]
theorem blk_v (c : Dev nD) (t : Fin cfg0.N) (i : _root_.Fin 512) (k : _root_.Fin 1024) :
    (iblk m c 1 t : Vec Ideal S512x1024 .f32) (ix2 i k) = (m ((c : Thread nD τ).loc main_arg1) : FVec Ideal S2048x1024 .f32) (ix2 (row t i) k) := by
  blk_point [iblk, V, idx t, row]
theorem blk_g (c : Dev nD) (t : Fin cfg0.N) (k : _root_.Fin 1024) :
    (iblk m c 2 t : Vec Ideal S1x1024 .f32) (ix2 0 k) = (m ((c : Thread nD τ).loc main_arg2) : FVec Ideal S1024 .f32) (ix1 k) := by
  blk_point [iblk, V, idx t]

/-- The rows plus the normalised rows times the gains. -/
def RV (H X : FVec Ideal S2048x1024 .f32) (G : FVec Ideal S1024 .f32) : FVec Ideal S2048x1024 .f32 :=
  fun j => H (ix2 (j 0) (j 1)) + X (ix2 (j 0) (j 1)) * Ideal.rsqrt (ES W1024 fun x => X (ix2 (j 0) x)) * G (ix1 (j 1))

theorem out_blk (c : Dev nD) (t : Fin cfg0.N) (i : _root_.Fin 512) (k : _root_.Fin 1024) :
    out0_3 (iblk m c 0 t) (iblk m c 1 t) (iblk m c 2 t) (ix2 i k)
      = RV (m ((c : Thread nD τ).loc main_arg0)) (m ((c : Thread nD τ).loc main_arg1)) (m ((c : Thread nD τ).loc main_arg2)) (ix2 (row t i) k) := by
  rw [out_at, blk_h, blk_v]
  exact congrArg (fun g : EReal => _ + g) (congrArg₂ (fun a b : EReal => a * b) (congrArg (fun v => _ * Ideal.rsqrt (ES W1024 v)) (funext fun x => blk_v m c t i x)) (blk_g m c t k))

theorem final (c : Dev nD) : (dats m 0 c).arrAt 3 (cfgs 0).N = RV (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨i, k, rfl⟩ : ∃ r k, y = ix2 r k := ⟨y 0, y 1, by ext a; fin_cases a <;> rfl⟩
  have e : (win0_3.blk t).view.emb (ix2 i k) = ix2 (row t i) k := by blk_point [idx t, row]
  blk_simp
  rw [after0_3]
  exact (out_blk m c t i k).trans (congrArg (RV (m ((c : Thread nD τ).loc main_arg0)) (m ((c : Thread nD τ).loc main_arg1)) (m ((c : Thread nD τ).loc main_arg2))) e.symm)

end Cert.MixResFwdKernelIdeal.Gen

namespace Cert.Proof

open Idealize.ShloMosaic Idealize.SL.Sem

theorem resmw_reference_frame : Cert.quiescent_MixResFwdReferenceIdeal := by
  intro m g _
  exact (θ_run Cert.MixResFwdReferenceIdeal.defs _ _).mono (fun r h => ⟨fun c => (h c).2, sem_eq_zero_of_no_sems (by decide) r.2⟩)
    (Cert.MixResFwdReferenceIdeal.Value.run m g)

set_option maxHeartbeats 4000000 in
theorem resmw_algebraic : Cert.algebraic_MixResFwdKernelIdeal_MixResFwdReferenceIdeal := by
  pair_intro
  · run_from Cert.MixResFwdKernelIdeal.Gen.run_main m g
  · run_from Cert.MixResFwdReferenceIdeal.Value.run m' g'
    refine Eq.trans ?_ (Cert.MixResFwdKernelIdeal.Gen.final m c).symm
    obtain ⟨e0, e1, e2⟩ := hagree c
    funext j
    obtain ⟨i, k, rfl⟩ : ∃ r k, j = ix2 r k := ⟨j 0, j 1, by ext a; fin_cases a <;> rfl⟩
    pointwise [Cert.MixResFwdKernelIdeal.Gen.RV]
    rfl

end Cert.Proof

end
-- ==== Proof.MergeFwd.lean ====
/- The gated merge of the two branches: what the kernel leaves equals the reference's composed terms. -/
module

public import proofs.«01_k».proof.Defs
public import proofs.«01_k».proof.Proof.Consts
public import proofs.«01_k».proof.Proof.Sigmoid
public import proofs.«01_k».proof.Proof.Gen.MergeFwdKernelIdeal.Frame
public import proofs.«01_k».proof.Proof.Gen.MergeFwdReferenceIdeal.Run
public import Idealize.ShloMosaic.Lib.Claim

@[expose] public section

set_option maxRecDepth 16384

noncomputable section

namespace Cert.MergeFwdKernelIdeal.Gen

open Idealize.ShloMosaic Idealize.ShloMosaic.TcCoe Idealize.SL.Sem
open Idealize.ShloMosaic.Pipeline (Dat)
open Cert.Sigmoid

variable (m : (ℓ : Loc nD τ sig) → Buf (Elt Ideal) ℓ) (ρ : Dev nD → PrngReg)

theorem idx : ∀ t : Fin cfg0.N, win0_0.index t = ![t.val, 5] ∧ win0_1.index t = ![t.val, 6] ∧ win0_2.index t = ![t.val, 0] ∧ win0_3.index t = ![t.val, 0]
    ∧ win0_4.index t = ![t.val, 0] :=
  (by decide +kernel : ∀ t : Fin grid0.N, _)

/-- The row of the array that a grid point's row is. -/
def row (t : Fin cfg0.N) (i : _root_.Fin 512) : _root_.Fin 2048 := ⟨t.val * 512 + i.val, by have := lt_of_lt_of_eq t.isLt N_0; omega⟩

theorem out_at (x0 x1 x2 x3 : Vec Ideal S512x1024 .f32) (j) : out0_4 x0 x1 x2 x3 j = SG (x0 j) * x2 j + SG (x1 j) * x3 j := by
  unfold out0_4
  frame_out
  pointwise [k0_pay1]
  simp only [SG_sub]

theorem blk_ga (c : Dev nD) (t : Fin cfg0.N) (i : _root_.Fin 512) (k : _root_.Fin 1024) :
    (iblk m c 0 t : Vec Ideal S512x1024 .f32) (ix2 i k) = (m ((c : Thread nD τ).loc main_arg0) : FVec Ideal S2048x8224 .f32) (ix2 (row t i) ⟨6176 + k.val, by omega⟩) := by
  unfold iblk
  entry_read
  blk_simp
  pointwise [row]
  rw [dif_neg (by blk_simp [idx t]; omega)]
  blk_point [idx t]

theorem blk_gb (c : Dev nD) (t : Fin cfg0.N) (i : _root_.Fin 512) (k : _root_.Fin 1024) :
    (iblk m c 1 t : Vec Ideal S512x1024 .f32) (ix2 i k) = (m ((c : Thread nD τ).loc main_arg0) : FVec Ideal S2048x8224 .f32) (ix2 (row t i) ⟨7200 + k.val, by omega⟩) := by
  unfold iblk
  entry_read
  blk_simp
  pointwise [row]
  rw [dif_neg (by blk_simp [idx t]; omega)]
  blk_point [idx t]

theorem blk_a (c : Dev nD) (t : Fin cfg0.N) (i : _root_.Fin 512) (k : _root_.Fin 1024) :
    (iblk m c 2 t : Vec Ideal S512x1024 .f32) (ix2 i k) = (m ((c : Thread nD τ).loc main_arg1) : FVec Ideal S2048x1024 .f32) (ix2 (row t i) k) := by
  blk_point [iblk, V, idx t, row]
theorem blk_b (c : Dev nD) (t : Fin cfg0.N) (i : _root_.Fin 512) (k : _root_.Fin 1024) :
    (iblk m c 3 t : Vec Ideal S512x1024 .f32) (ix2 i k) = (m ((c : Thread nD τ).loc main_arg2) : FVec Ideal S2048x1024 .f32) (ix2 (row t i) k) := by
  blk_point [iblk, V, idx t, row]

/-- The two branches, each times the logistic of its gate. -/
def MG (P : FVec Ideal S2048x8224 .f32) (A B : FVec Ideal S2048x1024 .f32) : FVec Ideal S2048x1024 .bf16 :=
  fun j => SG (P (ix2 (j 0) ⟨6176 + (j 1).val, by have : (j 1).val < 1024 := (j 1).isLt; omega⟩)) * A (ix2 (j 0) (j 1))
    + SG (P (ix2 (j 0) ⟨7200 + (j 1).val, by have : (j 1).val < 1024 := (j 1).isLt; omega⟩)) * B (ix2 (j 0) (j 1))

theorem out_blk (c : Dev nD) (t : Fin cfg0.N) (i : _root_.Fin 512) (k : _root_.Fin 1024) :
    out0_4 (iblk m c 0 t) (iblk m c 1 t) (iblk m c 2 t) (iblk m c 3 t) (ix2 i k)
      = MG (m ((c : Thread nD τ).loc main_arg0)) (m ((c : Thread nD τ).loc main_arg1)) (m ((c : Thread nD τ).loc main_arg2)) (ix2 (row t i) k) := by
  rw [out_at, blk_ga, blk_gb, blk_a, blk_b]
  rfl

theorem final (c : Dev nD) : (dats m 0 c).arrAt 4 (cfgs 0).N = MG (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨i, k, rfl⟩ : ∃ r k, y = ix2 r k := ⟨y 0, y 1, by ext a; fin_cases a <;> rfl⟩
  have e : (win0_4.blk t).view.emb (ix2 i k) = ix2 (row t i) k := by blk_point [idx t, row]
  blk_simp
  rw [after0_4]
  exact (out_blk m c t i k).trans (congrArg (MG (m ((c : Thread nD τ).loc main_arg0)) (m ((c : Thread nD τ).loc main_arg1)) (m ((c : Thread nD τ).loc main_arg2))) e.symm)

end Cert.MergeFwdKernelIdeal.Gen

namespace Cert.Proof

open Idealize.ShloMosaic Idealize.SL.Sem

theorem mergefw_reference_frame : Cert.quiescent_MergeFwdReferenceIdeal := by
  intro m g _
  exact (θ_run Cert.MergeFwdReferenceIdeal.defs _ _).mono (fun r h => ⟨fun c => (h c).2, sem_eq_zero_of_no_sems (by decide) r.2⟩)
    (Cert.MergeFwdReferenceIdeal.Value.run m g)

set_option maxHeartbeats 4000000 in
theorem mergefw_algebraic : Cert.algebraic_MergeFwdKernelIdeal_MergeFwdReferenceIdeal := by
  pair_intro
  · run_from Cert.MergeFwdKernelIdeal.Gen.run_main m g
  · run_from Cert.MergeFwdReferenceIdeal.Value.run m' g'
    refine Eq.trans ?_ (Cert.MergeFwdKernelIdeal.Gen.final m c).symm
    obtain ⟨e0, e1, e2⟩ := hagree c
    funext j
    obtain ⟨i, k, rfl⟩ : ∃ r k, j = ix2 r k := ⟨j 0, j 1, by ext a; fin_cases a <;> rfl⟩
    pointwise [Cert.MergeFwdKernelIdeal.Gen.MG]
    rfl

end Cert.Proof

end
-- ==== Proof.GluFwd.lean ====
/- The gated linear unit: what the kernel leaves equals the reference's composed terms. -/
module

public import proofs.«01_k».proof.Defs
public import proofs.«01_k».proof.Proof.Consts
public import proofs.«01_k».proof.Proof.Sigmoid
public import proofs.«01_k».proof.Proof.Gen.GluFwdKernelIdeal.Frame
public import proofs.«01_k».proof.Proof.Gen.GluFwdReferenceIdeal.Run
public import Idealize.ShloMosaic.Lib.Claim

@[expose] public section

set_option maxRecDepth 16384

noncomputable section

namespace Cert.GluFwdKernelIdeal.Gen

open Idealize.ShloMosaic Idealize.ShloMosaic.TcCoe Idealize.SL.Sem
open Idealize.ShloMosaic.Pipeline (Dat)
open Cert.Sigmoid

variable (m : (ℓ : Loc nD τ sig) → Buf (Elt Ideal) ℓ) (ρ : Dev nD → PrngReg)

theorem idx : ∀ t : Fin cfg0.N, win0_0.index t = ![t.val, 0] ∧ win0_1.index t = ![t.val, 1] ∧ win0_2.index t = ![t.val, 0] :=
  (by decide +kernel : ∀ t : Fin grid0.N, _)

/-- The row of the array that a grid point's row is. -/
def row (t : Fin cfg0.N) (i : _root_.Fin 512) : _root_.Fin 2048 := ⟨t.val * 512 + i.val, by have := lt_of_lt_of_eq t.isLt N_0; omega⟩

theorem out_at (x0 x1 : Vec Ideal S512x1024 .f32) (j) : out0_2 x0 x1 j = x0 j * SG (x1 j) := by
  unfold out0_2
  frame_out
  pointwise [k0_pay1]
  simp only [SG_sub]

theorem blk_v (c : Dev nD) (t : Fin cfg0.N) (i : _root_.Fin 512) (k : _root_.Fin 1024) :
    (iblk m c 0 t : Vec Ideal S512x1024 .f32) (ix2 i k) = (m ((c : Thread nD τ).loc main_arg0) : FVec Ideal S2048x2048 .f32) (ix2 (row t i) ⟨k.val, by omega⟩) := by
  blk_point [iblk, V, idx t, row]
theorem blk_g (c : Dev nD) (t : Fin cfg0.N) (i : _root_.Fin 512) (k : _root_.Fin 1024) :
    (iblk m c 1 t : Vec Ideal S512x1024 .f32) (ix2 i k) = (m ((c : Thread nD τ).loc main_arg0) : FVec Ideal S2048x2048 .f32) (ix2 (row t i) ⟨1024 + k.val, by omega⟩) := by
  blk_point [iblk, V, idx t, row]

/-- The left half times the logistic of the right half. -/
def GV (P : FVec Ideal S2048x2048 .f32) : FVec Ideal S2048x1024 .bf16 :=
  fun j => P (ix2 (j 0) ⟨(j 1).val, by have : (j 1).val < 1024 := (j 1).isLt; omega⟩) * SG (P (ix2 (j 0) ⟨1024 + (j 1).val, by have : (j 1).val < 1024 := (j 1).isLt; omega⟩))

theorem out_blk (c : Dev nD) (t : Fin cfg0.N) (i : _root_.Fin 512) (k : _root_.Fin 1024) :
    out0_2 (iblk m c 0 t) (iblk m c 1 t) (ix2 i k) = GV (m ((c : Thread nD τ).loc main_arg0)) (ix2 (row t i) k) := by
  rw [out_at, blk_v, blk_g]
  rfl

theorem final (c : Dev nD) : (dats m 0 c).arrAt 2 (cfgs 0).N = GV (m ((c : Thread nD τ).loc main_arg0)) := by
  refine (dats m 0 c).arrAt_eq_of_covers 2 _ (by decide +kernel) fun t _ y => ?_
  obtain ⟨i, k, rfl⟩ : ∃ r k, y = ix2 r k := ⟨y 0, y 1, by ext a; fin_cases a <;> rfl⟩
  have e : (win0_2.blk t).view.emb (ix2 i k) = ix2 (row t i) k := by blk_point [idx t, row]
  blk_simp
  rw [after0_2]
  exact (out_blk m c t i k).trans (congrArg (GV (m ((c : Thread nD τ).loc main_arg0))) e.symm)

end Cert.GluFwdKernelIdeal.Gen

namespace Cert.Proof

open Idealize.ShloMosaic Idealize.SL.Sem

theorem glufw_reference_frame : Cert.quiescent_GluFwdReferenceIdeal := by
  intro m g _
  exact (θ_run Cert.GluFwdReferenceIdeal.defs _ _).mono (fun r h => ⟨fun c => (h c).2, sem_eq_zero_of_no_sems (by decide) r.2⟩)
    (Cert.GluFwdReferenceIdeal.Value.run m g)

set_option maxHeartbeats 4000000 in
theorem glufw_algebraic : Cert.algebraic_GluFwdKernelIdeal_GluFwdReferenceIdeal := by
  pair_intro
  · run_from Cert.GluFwdKernelIdeal.Gen.run_main m g
  · run_from Cert.GluFwdReferenceIdeal.Value.run m' g'
    refine Eq.trans ?_ (Cert.GluFwdKernelIdeal.Gen.final m c).symm
    obtain e0 := hagree c
    funext j
    obtain ⟨i, k, rfl⟩ : ∃ r k, j = ix2 r k := ⟨j 0, j 1, by ext a; fin_cases a <;> rfl⟩
    pointwise [Cert.GluFwdKernelIdeal.Gen.GV]
    rfl

end Cert.Proof

end
-- ==== Proof.ParFwd.lean ====
/- The S5 discretisation of both layers: what the kernel leaves equals the reference's composed terms.

   The kernel spreads a group's 64 numbers over 1024 columns by a product with a matrix of zeros and ones; the reference
   broadcasts them over the last axis. -/
module

public import proofs.«01_k».proof.Defs
public import proofs.«01_k».proof.Proof.Consts
public import proofs.«01_k».proof.Proof.Par
public import proofs.«01_k».proof.Proof.Gen.ParFwdKernelIdeal.Frame
public import proofs.«01_k».proof.Proof.Gen.ParFwdReferenceIdeal.Run
public import Idealize.ShloMosaic.Lib.Claim

@[expose] public section

set_option maxRecDepth 16384

noncomputable section

namespace Cert.ParFwdKernelIdeal.Gen

open Idealize.ShloMosaic Idealize.ShloMosaic.TcCoe Idealize.SL.Sem
open Idealize.ShloMosaic.Pipeline (Dat)
open Cert.Par

variable (m : (ℓ : Loc nD τ sig) → Buf (Elt Ideal) ℓ) (ρ : Dev nD → PrngReg)

open Cert.ParKernelIdeal.Gen (eq_word st sum_pick col_word)

theorem spread_at (i : _root_.Fin 64) (k : _root_.Fin 1024) :
    k0_pay1 (F := Ideal) (iota .tc S64x1024 32 [0] iota_S64x1024_d0_w32) (iota .tc S64x1024 32 [1] iota_S64x1024_d1_w32) 16#32 k0_pay19 k0_pay20 k0_pay21 (ix2 i k)
      = if i = st k then (1 : EReal) else 0 := by
  pointwise [k0_pay1, k0_pay19, k0_pay20, k0_pay21]
  rw [col_word]
  have h := eq_word i (st k)
  unfold st at h ⊢
  rw [h]
  by_cases e : i = ⟨k.val / 16, by omega⟩
  · rw [if_pos e, if_pos e]; rfl
  · rw [if_neg e, if_neg e]; rfl

section payloads
variable (x0 x1 : Vec Ideal S128x64 .f32) (x2 : Vec Ideal S128x1 .f32) (x3 x4 : Vec Ideal S128x1024 .f32) (i : _root_.Fin 128) (k : _root_.Fin 64) (l : _root_.Fin 1024)

theorem p17 : k0_pay17 x0 x1 x2 (ix2 i k) = CR (x0 (ix2 i k)) (x1 (ix2 i k)) (x2 (ix2 i 0)) := by
  pointwise [k0_pay17, k0_pay16, k0_pay15, k0_pay14, k0_pay13, k0_pay12, k0_pay11, k0_pay10, k0_pay9, k0_pay6]; rfl
theorem p18 : k0_pay18 x0 x1 x2 (ix2 i k) = CI (x0 (ix2 i k)) (x1 (ix2 i k)) (x2 (ix2 i 0)) := by
  pointwise [k0_pay18, k0_pay16, k0_pay15, k0_pay14, k0_pay13, k0_pay12, k0_pay11, k0_pay10, k0_pay9, k0_pay6]; rfl
theorem p24 : k0_pay24 x0 x1 x2 x3 x4 (ix2 i l) = x3 (ix2 i l) := by unfold k0_pay24; pointwise [k0_pay7]
theorem p25 : k0_pay25 x0 x1 x2 x3 x4 (ix2 i l) = x4 (ix2 i l) := by unfold k0_pay25; pointwise [k0_pay8]
theorem p26 : k0_pay26 x0 x1 x2 x3 x4 (ix2 i k) = CR (x0 (ix2 i k)) (x1 (ix2 i k)) (x2 (ix2 i 0)) := by
  unfold k0_pay26; pointwise [p17]
theorem p27 : k0_pay27 x0 x1 x2 x3 x4 (ix2 i k) = CI (x0 (ix2 i k)) (x1 (ix2 i k)) (x2 (ix2 i 0)) := by
  unfold k0_pay27; pointwise [p18]
theorem p2 : k0_pay2 (k0_pay26 x0 x1 x2 x3 x4) (k0_pay22 x0 x1 x2 x3 x4) (k0_pay23 x0 x1 x2 x3 x4) 16#32 (k0_pay28 x0 x1 x2 x3 x4) (k0_pay29 x0 x1 x2 x3 x4) (k0_pay30 x0 x1 x2 x3 x4) (ix2 i l)
    = CR (x0 (ix2 i (st l))) (x1 (ix2 i (st l))) (x2 (ix2 i 0)) := by
  unfold k0_pay22 k0_pay23 k0_pay28 k0_pay29 k0_pay30
  pointwise [k0_pay2, p26]
  exact (Finset.sum_congr rfl fun x _ => congrArg _ (spread_at x l)).trans (sum_pick (fun x => CR (x0 (ix2 i x)) (x1 (ix2 i x)) (x2 (ix2 i 0))) l)
theorem p3 : k0_pay3 (k0_pay27 x0 x1 x2 x3 x4) (k0_pay22 x0 x1 x2 x3 x4) (k0_pay23 x0 x1 x2 x3 x4) 16#32 (k0_pay28 x0 x1 x2 x3 x4) (k0_pay29 x0 x1 x2 x3 x4) (k0_pay30 x0 x1 x2 x3 x4) (ix2 i l)
    = CI (x0 (ix2 i (st l))) (x1 (ix2 i (st l))) (x2 (ix2 i 0)) := by
  unfold k0_pay22 k0_pay23 k0_pay28 k0_pay29 k0_pay30
  pointwise [k0_pay3, p27]
  exact (Finset.sum_congr rfl fun x _ => congrArg _ (spread_at x l)).trans (sum_pick (fun x => CI (x0 (ix2 i x)) (x1 (ix2 i x)) (x2 (ix2 i 0))) l)

theorem out5_at : out0_5 x0 x1 x2 x3 x4 (ix2 i k) = MAG (x0 (ix2 i k)) (x2 (ix2 i 0)) * CO (x1 (ix2 i k)) (x2 (ix2 i 0)) := by
  unfold out0_5
  frame_out
  pointwise [k0_pay13, k0_pay12, k0_pay11, k0_pay10, k0_pay9, k0_pay6]
  rfl
theorem out6_at : out0_6 x0 x1 x2 x3 x4 (ix2 i k) = BI (x0 (ix2 i k)) (x1 (ix2 i k)) (x2 (ix2 i 0)) := by
  unfold out0_6
  frame_out
  pointwise [k0_pay14, k0_pay12, k0_pay11, k0_pay10, k0_pay9, k0_pay6]
  rfl
theorem out7_at : out0_7 x0 x1 x2 x3 x4 (ix2 i l) = CR (x0 (ix2 i (st l))) (x1 (ix2 i (st l))) (x2 (ix2 i 0)) * x3 (ix2 i l) - CI (x0 (ix2 i (st l))) (x1 (ix2 i (st l))) (x2 (ix2 i 0)) * x4 (ix2 i l) := by
  unfold out0_7
  frame_out
  pointwise [k0_pay4, p2, p3, p24, p25]
theorem out8_at : out0_8 x0 x1 x2 x3 x4 (ix2 i l) = CR (x0 (ix2 i (st l))) (x1 (ix2 i (st l))) (x2 (ix2 i 0)) * x4 (ix2 i l) + CI (x0 (ix2 i (st l))) (x1 (ix2 i (st l))) (x2 (ix2 i 0)) * x3 (ix2 i l) := by
  unfold out0_8
  frame_out
  pointwise [k0_pay5, p2, p3, p24, p25]
end payloads

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The layer and the group of a row, and the last coordinate of a column. -/
def la (i : _root_.Fin 128) : _root_.Fin 2 := ⟨i.val / 64, by omega⟩
def gr (i : _root_.Fin 128) : _root_.Fin 64 := ⟨i.val % 64, by omega⟩
def lc (l : _root_.Fin 1024) : _root_.Fin 16 := ⟨l.val % 16, by omega⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)

theorem blk_0 (c : Dev nD) (t : Fin cfg0.N) (i k) : iblk m c 0 t (ix2 i k) = a0 m c (ix3 (la i) (gr i) k) := by
  unfold iblk; entry_read; blk_simp; pointwise []; blk_point [idx t, la, gr]
theorem blk_1 (c : Dev nD) (t : Fin cfg0.N) (i k) : iblk m c 1 t (ix2 i k) = a1 m c (ix3 (la i) (gr i) k) := by
  unfold iblk; entry_read; blk_simp; pointwise []; blk_point [idx t, la, gr]
theorem blk_2 (c : Dev nD) (t : Fin cfg0.N) (i k) : iblk m c 2 t (ix2 i k) = a2 m c (ix2 (la i) (gr i)) := by
  unfold iblk; entry_read; blk_simp; pointwise []; blk_point [idx t, la, gr]
theorem blk_3 (c : Dev nD) (t : Fin cfg0.N) (i l) : iblk m c 3 t (ix2 i l) = a3 m c (ix4 (la i) (gr i) (st l) (lc l)) := by
  unfold iblk; entry_read; blk_simp; pointwise []; blk_point [idx t, la, gr, st, lc]
theorem blk_4 (c : Dev nD) (t : Fin cfg0.N) (i l) : iblk m c 4 t (ix2 i l) = a4 m c (ix4 (la i) (gr i) (st l) (lc l)) := by
  unfold iblk; entry_read; blk_simp; pointwise []; blk_point [idx t, la, gr, st, lc]

section results
variable (A B : FVec Ideal S2x64x64 .f32) (S : FVec Ideal S2x64 .f32) (B1 B2 : FVec Ideal S2x64x64x16 .f32)

/-- The discrete lambda. -/
def RLR : FVec Ideal S128x64 .f32 := fun j => MAG (A (ix3 (la (j 0)) (gr (j 0)) (j 1))) (S (ix2 (la (j 0)) (gr (j 0)))) * CO (B (ix3 (la (j 0)) (gr (j 0)) (j 1))) (S (ix2 (la (j 0)) (gr (j 0))))
def RLI : FVec Ideal S128x64 .f32 := fun j => BI (A (ix3 (la (j 0)) (gr (j 0)) (j 1))) (B (ix3 (la (j 0)) (gr (j 0)) (j 1))) (S (ix2 (la (j 0)) (gr (j 0))))
/-- The factor of the input matrix, of a row and a column. -/
def FR (i : _root_.Fin 128) (k : _root_.Fin 64) : EReal := CR (A (ix3 (la i) (gr i) k)) (B (ix3 (la i) (gr i) k)) (S (ix2 (la i) (gr i)))
def FI (i : _root_.Fin 128) (k : _root_.Fin 64) : EReal := CI (A (ix3 (la i) (gr i) k)) (B (ix3 (la i) (gr i) k)) (S (ix2 (la i) (gr i)))
/-- The discrete input matrix. -/
def RBR : FVec Ideal S128x1024 .f32 := fun j =>
  FR A B S (j 0) (st (j 1)) * B1 (ix4 (la (j 0)) (gr (j 0)) (st (j 1)) (lc (j 1))) - FI A B S (j 0) (st (j 1)) * B2 (ix4 (la (j 0)) (gr (j 0)) (st (j 1)) (lc (j 1)))
def RBI : FVec Ideal S128x1024 .f32 := fun j =>
  FR A B S (j 0) (st (j 1)) * B2 (ix4 (la (j 0)) (gr (j 0)) (st (j 1)) (lc (j 1))) + FI A B S (j 0) (st (j 1)) * B1 (ix4 (la (j 0)) (gr (j 0)) (st (j 1)) (lc (j 1)))
end results

theorem lr_blk (c : Dev nD) (t : Fin cfg0.N) (i k) : out0_5 (iblk m c 0 t) (iblk m c 1 t) (iblk m c 2 t) (iblk m c 3 t) (iblk m c 4 t) (ix2 i k) = RLR (a0 m c) (a1 m c) (a2 m c) (ix2 i k) := by
  rw [out5_at, blk_0, blk_1, blk_2]
  rfl
theorem final_lr (c : Dev nD) : (dats m 0 c).arrAt 5 (cfgs 0).N = RLR (a0 m c) (a1 m c) (a2 m c) := by
  refine (dats m 0 c).arrAt_eq_of_covers 5 _ (by decide +kernel) fun t _ y => ?_
  obtain ⟨i, k, rfl⟩ : ∃ r k, y = ix2 r k := ⟨y 0, y 1, by ext a; fin_cases a <;> rfl⟩
  have e : (win0_5.blk t).view.emb (ix2 i k) = ix2 i k := by blk_point [idx t]
  blk_simp
  rw [after0_5]
  exact (lr_blk m c t i k).trans (congrArg (RLR (a0 m c) (a1 m c) (a2 m c)) e.symm)
theorem li_blk (c : Dev nD) (t : Fin cfg0.N) (i k) : out0_6 (iblk m c 0 t) (iblk m c 1 t) (iblk m c 2 t) (iblk m c 3 t) (iblk m c 4 t) (ix2 i k) = RLI (a0 m c) (a1 m c) (a2 m c) (ix2 i k) := by
  rw [out6_at, blk_0, blk_1, blk_2]
  rfl
theorem final_li (c : Dev nD) : (dats m 0 c).arrAt 6 (cfgs 0).N = RLI (a0 m c) (a1 m c) (a2 m c) := by
  refine (dats m 0 c).arrAt_eq_of_covers 6 _ (by decide +kernel) fun t _ y => ?_
  obtain ⟨i, k, rfl⟩ : ∃ r k, y = ix2 r k := ⟨y 0, y 1, by ext a; fin_cases a <;> rfl⟩
  have e : (win0_6.blk t).view.emb (ix2 i k) = ix2 i k := by blk_point [idx t]
  blk_simp
  rw [after0_6]
  exact (li_blk m c t i k).trans (congrArg (RLI (a0 m c) (a1 m c) (a2 m c)) e.symm)
theorem br_blk (c : Dev nD) (t : Fin cfg0.N) (i k) : out0_7 (iblk m c 0 t) (iblk m c 1 t) (iblk m c 2 t) (iblk m c 3 t) (iblk m c 4 t) (ix2 i k) = RBR (a0 m c) (a1 m c) (a2 m c) (a3 m c) (a4 m c) (ix2 i k) := by
  rw [out7_at, blk_0, blk_1, blk_2, blk_3, blk_4]
  rfl
theorem final_br (c : Dev nD) : (dats m 0 c).arrAt 7 (cfgs 0).N = RBR (a0 m c) (a1 m c) (a2 m c) (a3 m c) (a4 m c) := by
  refine (dats m 0 c).arrAt_eq_of_covers 7 _ (by decide +kernel) fun t _ y => ?_
  obtain ⟨i, k, rfl⟩ : ∃ r k, y = ix2 r k := ⟨y 0, y 1, by ext a; fin_cases a <;> rfl⟩
  have e : (win0_7.blk t).view.emb (ix2 i k) = ix2 i k := by blk_point [idx t]
  blk_simp
  rw [after0_7]
  exact (br_blk m c t i k).trans (congrArg (RBR (a0 m c) (a1 m c) (a2 m c) (a3 m c) (a4 m c)) e.symm)
theorem bi_blk (c : Dev nD) (t : Fin cfg0.N) (i k) : out0_8 (iblk m c 0 t) (iblk m c 1 t) (iblk m c 2 t) (iblk m c 3 t) (iblk m c 4 t) (ix2 i k) = RBI (a0 m c) (a1 m c) (a2 m c) (a3 m c) (a4 m c) (ix2 i k) := by
  rw [out8_at, blk_0, blk_1, blk_2, blk_3, blk_4]
  rfl
theorem final_bi (c : Dev nD) : (dats m 0 c).arrAt 8 (cfgs 0).N = RBI (a0 m c) (a1 m c) (a2 m c) (a3 m c) (a4 m c) := by
  refine (dats m 0 c).arrAt_eq_of_covers 8 _ (by decide +kernel) fun t _ y => ?_
  obtain ⟨i, k, rfl⟩ : ∃ r k, y = ix2 r k := ⟨y 0, y 1, by ext a; fin_cases a <;> rfl⟩
  have e : (win0_8.blk t).view.emb (ix2 i k) = ix2 i k := by blk_point [idx t]
  blk_simp
  rw [after0_8]
  exact (bi_blk m c t i k).trans (congrArg (RBI (a0 m c) (a1 m c) (a2 m c) (a3 m c) (a4 m c)) e.symm)

end Cert.ParFwdKernelIdeal.Gen

namespace Cert.ParFwdReferenceIdeal.Value

open Cert.ParFwdReferenceIdeal Cert.ParFwdReferenceIdeal.Gen Idealize.ShloMosaic Idealize.ShloMosaic.TcCoe Idealize.SL.Sem
open Cert.ParFwdKernelIdeal.Gen (la gr lc)
open Cert.ParKernelIdeal.Gen (st)

theorem cast3 (X : FVec Ideal S2x64x64 .f32) (h) (i : _root_.Fin 128) (k : _root_.Fin 64) :
    shapeCast S128x64 X h (ix2 i k) = X (ix3 (la i) (gr i) k) := by
  pointwise [la, gr]
theorem cast4 (X : FVec Ideal S2x64x64x16 .f32) (h) (i : _root_.Fin 128) (l : _root_.Fin 1024) :
    shapeCast S128x1024 X h (ix2 i l) = X (ix4 (la i) (gr i) (st l) (lc l)) := by
  pointwise [la, gr, st, lc]

end Cert.ParFwdReferenceIdeal.Value

namespace Cert.Proof

open Idealize.ShloMosaic Idealize.SL.Sem
open Cert.ParFwdKernelIdeal.Gen Cert.Par Cert.ParFwdReferenceIdeal.Value

theorem parfw_reference_frame : Cert.quiescent_ParFwdReferenceIdeal := by
  intro m g _
  exact (θ_run Cert.ParFwdReferenceIdeal.defs _ _).mono (fun r h => ⟨fun c => (h c).2.2.2.2, sem_eq_zero_of_no_sems (by decide) r.2⟩)
    (Cert.ParFwdReferenceIdeal.Value.run m g)

set_option maxHeartbeats 4000000 in
theorem parfw_algebraic : Cert.algebraic_ParFwdKernelIdeal_ParFwdReferenceIdeal := by
  pair_intro
  · run_from Cert.ParFwdKernelIdeal.Gen.run_main m g
  · run_from Cert.ParFwdReferenceIdeal.Value.run m' g'
    · refine Eq.trans ?_ (final_lr m c).symm
      obtain ⟨e0, e1, e2, e3, e4⟩ := hagree c
      funext j
      obtain ⟨i, k, rfl⟩ : ∃ r k, j = ix2 r k := ⟨j 0, j 1, by ext a; fin_cases a <;> rfl⟩
      refine (cast3 _ _ i k).trans ?_
      unfold RLR
      pointwise []
      rfl
    · refine Eq.trans ?_ (final_li m c).symm
      obtain ⟨e0, e1, e2, e3, e4⟩ := hagree c
      funext j
      obtain ⟨i, k, rfl⟩ : ∃ r k, j = ix2 r k := ⟨j 0, j 1, by ext a; fin_cases a <;> rfl⟩
      refine (cast3 _ _ i k).trans ?_
      unfold RLI
      pointwise []
      rfl
    · refine Eq.trans ?_ (final_br m c).symm
      obtain ⟨e0, e1, e2, e3, e4⟩ := hagree c
      funext j
      obtain ⟨i, k, rfl⟩ : ∃ r k, j = ix2 r k := ⟨j 0, j 1, by ext a; fin_cases a <;> rfl⟩
      unfold res_main_v44
      refine (cast4 _ _ i k).trans ?_
      unfold RBR FR FI
      pointwise []
      simp only [e0, e1, e2, e3, e4]
      rfl
    · refine Eq.trans ?_ (final_bi m c).symm
      obtain ⟨e0, e1, e2, e3, e4⟩ := hagree c
      funext j
      obtain ⟨i, k, rfl⟩ : ∃ r k, j = ix2 r k := ⟨j 0, j 1, by ext a; fin_cases a <;> rfl⟩
      unfold res_main_v45
      refine (cast4 _ _ i k).trans ?_
      unfold RBI FR FI
      pointwise []
      simp only [e0, e1, e2, e3, e4]
      rfl

end Cert.Proof

end
-- ==== Proof.Up.lean ====
/- The feed-forward layers' gate and up projections with their silu gate: what the kernel leaves equals the reference's composed terms. -/
module

public import proofs.«01_k».proof.Defs
public import proofs.«01_k».proof.Proof.Consts
public import proofs.«01_k».proof.Proof.Norm
public import proofs.«01_k».proof.Proof.Sigmoid
public import proofs.«01_k».proof.Proof.Gen.UpKernelIdeal.Frame
public import proofs.«01_k».proof.Proof.Gen.UpReferenceIdeal.Run
public import Idealize.ShloMosaic.Lib.Claim

@[expose] public section

set_option maxRecDepth 16384

noncomputable section

namespace Cert.UpKernelIdeal.Gen

open Idealize.ShloMosaic Idealize.ShloMosaic.TcCoe Idealize.SL.Sem
open Idealize.ShloMosaic.Pipeline (Dat)
open Cert.Norm Cert.Sigmoid

variable (m : (ℓ : Loc nD τ sig) → Buf (Elt Ideal) ℓ) (ρ : Dev nD → PrngReg)

theorem idx : ∀ t : Fin cfg0.N, win0_0.index t = ![t.val / 4, 0] ∧ win0_1.index t = ![t.val % 4, 0, 0, 0] ∧ win0_2.index t = ![t.val % 4, 0, 0, 0]
    ∧ win0_3.index t = ![t.val % 4, 0, t.val / 4, 0] ∧ win0_4.index t = ![t.val % 4, t.val / 4, 0] :=
  (by decide +kernel : ∀ t : Fin grid0.N, _)

/-- A product with a transposed block. -/
def pr (d : Vec Ideal S1024x1024 .bf16) (w : Vec Ideal S1x1x704x1024 .bf16) (i : _root_.Fin 1024) (k : _root_.Fin 704) : EReal :=
  ∑ x : _root_.Fin 1024, d (ix2 i x) * w (ix4 0 0 k x)

theorem point_a (d : Vec Ideal S1024x1024 .bf16) (w : Vec Ideal S1x1x704x1024 .bf16) (j) : k0_pay2 d w j = pr d w (j 0) (j 1) := by
  pointwise [k0_pay2, k0_pay1, pr]
theorem point_b (d : Vec Ideal S1024x1024 .bf16) (w : Vec Ideal S1x1x704x1024 .bf16) (j) : k0_pay3 d w j = pr d w (j 0) (j 1) := by
  pointwise [k0_pay3, k0_pay1, pr]

theorem out3_at (x0 : Vec Ideal S1024x1024 .bf16) (x1 x2 : Vec Ideal S1x1x704x1024 .bf16) (j) : out0_3 x0 x1 x2 j =
    if (j 1).val < 1 then pr x0 x1 (j 2) (j 3) else pr x0 x2 (j 2) (j 3) := by
  unfold out0_3
  frame_out
  canon_tiles x h
  case piece0 =>
    pointwise [k0_pay5, point_b, h1]
    exact congrArg₂ (fun a b => pr x0 x2 a b) (Fin.ext h2.symm : (x 2 : _root_.Fin 1024) = j 2) (Fin.ext h3.symm : (x 3 : _root_.Fin 704) = j 3)
  case piece1 =>
    pointwise [k0_pay4, point_a, h1]
    exact congrArg₂ (fun a b => pr x0 x1 a b) (Fin.ext h2.symm : (x 2 : _root_.Fin 1024) = j 2) (Fin.ext h3.symm : (x 3 : _root_.Fin 704) = j 3)

theorem out4_at (x0 : Vec Ideal S1024x1024 .bf16) (x1 x2 : Vec Ideal S1x1x704x1024 .bf16) (j) :
    out0_4 x0 x1 x2 j = SIL (pr x0 x1 (j 1) (j 2)) * pr x0 x2 (j 1) (j 2) := by
  unfold out0_4
  frame_out
  pointwise [k0_pay6, point_a, point_b, SIL]
  simp only [SG_sub]

/-- The column that is column `k` of block `n`. -/
def cl (n : _root_.Fin 4) (k : _root_.Fin 704) : _root_.Fin 2816 := ⟨n.val * 704 + k.val, by omega⟩

/-- The product of the rows with a weight. -/
def PR (X : FVec Ideal S2048x1024 .f32) (W : FVec Ideal S1024x2816 .f32) (i : _root_.Fin 2048) (k : _root_.Fin 2816) : EReal :=
  ∑ x : _root_.Fin 1024, X (ix2 i x) * W (ix2 x k)

/-- The two products, by blocks of columns. -/
def RAB (X : FVec Ideal S2048x1024 .f32) (G U : FVec Ideal S1024x2816 .f32) : FVec Ideal S4x2x2048x704 .bf16 :=
  fun j => if (j 1).val < 1 then PR X G (j 2) (cl (j 0) (j 3)) else PR X U (j 2) (cl (j 0) (j 3))
/-- The gated product, by blocks of columns. -/
def RH (X : FVec Ideal S2048x1024 .f32) (G U : FVec Ideal S1024x2816 .f32) : FVec Ideal S4x2048x704 .bf16 :=
  fun j => SIL (PR X G (j 1) (cl (j 0) (j 2))) * PR X U (j 1) (cl (j 0) (j 2))

/-- The row of the arrays, and the block of columns, that a grid point works on. -/
def row (t : Fin cfg0.N) (i : _root_.Fin 1024) : _root_.Fin 2048 := ⟨t.val / 4 * 1024 + i.val, by have := lt_of_lt_of_eq t.isLt N_0; omega⟩
def blo (t : Fin cfg0.N) : _root_.Fin 4 := ⟨t.val % 4, by omega⟩

theorem blk_x (c : Dev nD) (t : Fin cfg0.N) (i x : _root_.Fin 1024) :
    (iblk m c 0 t : Vec Ideal S1024x1024 .bf16) (ix2 i x) = (m ((c : Thread nD τ).loc main_arg0) : FVec Ideal S2048x1024 .f32) (ix2 (row t i) x) := by
  blk_point [iblk, V, idx t, row]
theorem blk_g (c : Dev nD) (t : Fin cfg0.N) (k : _root_.Fin 704) (x : _root_.Fin 1024) :
    (iblk m c 1 t : Vec Ideal S1x1x704x1024 .bf16) (ix4 0 0 k x) = (m ((c : Thread nD τ).loc main_arg1) : FVec Ideal S1024x2816 .f32) (ix2 x (cl (blo t) k)) := by
  unfold iblk
  entry_read
  blk_simp
  pointwise [cl, blo]
  blk_point [idx t, cl, blo]
theorem blk_v (c : Dev nD) (t : Fin cfg0.N) (k : _root_.Fin 704) (x : _root_.Fin 1024) :
    (iblk m c 2 t : Vec Ideal S1x1x704x1024 .bf16) (ix4 0 0 k x) = (m ((c : Thread nD τ).loc main_arg2) : FVec Ideal S1024x2816 .f32) (ix2 x (cl (blo t) k)) := by
  unfold iblk
  entry_read
  blk_simp
  pointwise [cl, blo]
  blk_point [idx t, cl, blo]

theorem pr_g (c : Dev nD) (t : Fin cfg0.N) (i : _root_.Fin 1024) (k : _root_.Fin 704) :
    pr (iblk m c 0 t) (iblk m c 1 t) i k = PR (m ((c : Thread nD τ).loc main_arg0)) (m ((c : Thread nD τ).loc main_arg1)) (row t i) (cl (blo t) k) :=
  Finset.sum_congr rfl fun x _ => congrArg₂ (fun a b : EReal => a * b) (blk_x m c t i x) (blk_g m c t k x)
theorem pr_v (c : Dev nD) (t : Fin cfg0.N) (i : _root_.Fin 1024) (k : _root_.Fin 704) :
    pr (iblk m c 0 t) (iblk m c 2 t) i k = PR (m ((c : Thread nD τ).loc main_arg0)) (m ((c : Thread nD τ).loc main_arg2)) (row t i) (cl (blo t) k) :=
  Finset.sum_congr rfl fun x _ => congrArg₂ (fun a b : EReal => a * b) (blk_x m c t i x) (blk_v m c t k x)

theorem final_ab (c : Dev nD) : (dats m 0 c).arrAt 3 (cfgs 0).N = RAB (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨o, s, i, k, rfl⟩ : ∃ o s r k, y = ix4 o s r k := ⟨y 0, y 1, y 2, y 3, by ext a; fin_cases a <;> rfl⟩
  have e : (win0_3.blk t).view.emb (ix4 o s i k) = ix4 (blo t) s (row t i) k := by blk_point [idx t, row, blo]
  blk_simp
  rw [after0_3, out3_at]
  refine Eq.trans ?_ (congrArg (RAB (m ((c : Thread nD τ).loc main_arg0)) (m ((c : Thread nD τ).loc main_arg1)) (m ((c : Thread nD τ).loc main_arg2))) e.symm)
  unfold RAB
  by_cases h : s.val < 1
  · exact (if_pos h).trans ((pr_g m c t i k).trans (if_pos h).symm)
  · exact (if_neg h).trans ((pr_v m c t i k).trans (if_neg h).symm)

theorem final_h (c : Dev nD) : (dats m 0 c).arrAt 4 (cfgs 0).N = RH (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨o, i, k, rfl⟩ : ∃ o r k, y = ix3 o r k := ⟨y 0, y 1, y 2, by ext a; fin_cases a <;> rfl⟩
  have e : (win0_4.blk t).view.emb (ix3 o i k) = ix3 (blo t) (row t i) k := by blk_point [idx t, row, blo]
  blk_simp
  rw [after0_4, out4_at]
  refine Eq.trans ?_ (congrArg (RH (m ((c : Thread nD τ).loc main_arg0)) (m ((c : Thread nD τ).loc main_arg1)) (m ((c : Thread nD τ).loc main_arg2))) e.symm)
  exact congrArg₂ (fun a b : EReal => SIL a * b) (pr_g m c t i k) (pr_v m c t i k)

end Cert.UpKernelIdeal.Gen

namespace Cert.Proof

open Idealize.ShloMosaic Idealize.SL.Sem

theorem upf_reference_frame : Cert.quiescent_UpReferenceIdeal := by
  intro m g _
  exact (θ_run Cert.UpReferenceIdeal.defs _ _).mono (fun r h => ⟨fun c => (h c).2.2, sem_eq_zero_of_no_sems (by decide) r.2⟩)
    (Cert.UpReferenceIdeal.Value.run m g)

set_option maxHeartbeats 4000000 in
theorem upf_algebraic : Cert.algebraic_UpKernelIdeal_UpReferenceIdeal := by
  pair_intro
  · run_from Cert.UpKernelIdeal.Gen.run_main m g
  · run_from Cert.UpReferenceIdeal.Value.run m' g'
    · refine Eq.trans ?_ (Cert.UpKernelIdeal.Gen.final_ab m c).symm
      obtain ⟨e0, e1, e2⟩ := hagree c
      funext j
      obtain ⟨o, s, i, k, rfl⟩ : ∃ o s r k, j = ix4 o s r k := ⟨j 0, j 1, j 2, j 3, by ext a; fin_cases a <;> rfl⟩
      pointwise [Cert.UpKernelIdeal.Gen.RAB]
      by_cases h : s.val < 1
      · rw [dif_pos h, if_pos h]
        rfl
      · rw [dif_neg h, if_neg h, e2]
        rfl
    · refine Eq.trans ?_ (Cert.UpKernelIdeal.Gen.final_h m c).symm
      obtain ⟨e0, e1, e2⟩ := hagree c
      funext j
      obtain ⟨o, i, k, rfl⟩ : ∃ o r k, j = ix3 o r k := ⟨j 0, j 1, j 2, by ext a; fin_cases a <;> rfl⟩
      pointwise [Cert.UpKernelIdeal.Gen.RH]
      rfl

end Cert.Proof

end
-- ==== Proof.In.lean ====
/- The mixer's input projection, a product with a grid over blocks of columns: what the kernel leaves equals the reference's product. -/
module

public import proofs.«01_k».proof.Defs
public import proofs.«01_k».proof.Proof.Consts
public import proofs.«01_k».proof.Proof.Gen.InKernelIdeal.Frame
public import proofs.«01_k».proof.Proof.Gen.InReferenceIdeal.Run
public import Idealize.ShloMosaic.Lib.Claim

@[expose] public section

set_option maxRecDepth 16384

noncomputable section

namespace Cert.InKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![0, 0] ∧ win0_1.index t = ![0, t.val] ∧ win0_2.index t = ![0, t.val] :=
  (by decide +kernel : ∀ t : Fin grid0.N, _)

theorem hzero (j) : k0_pay1 (F := Ideal) j = 0 := by pointwise [k0_pay1]

theorem hpay (acc : Vec Ideal S2048x512 .f32) (u : Vec Ideal S2048x1024 .bf16) (w : Vec Ideal S1024x512 .bf16) (j) :
    k0_pay2 acc u w j = acc j + ∑ x : _root_.Fin 1024, u (ix2 (j 0) x) * w (ix2 x (j 1)) := by
  pointwise [k0_pay2]

/-- The product. -/
def D (U : FVec Ideal S2048x1024 .f32) (W : FVec Ideal S1024x7168 .f32) : FVec Ideal S2048x7168 .f32 :=
  fun j => ∑ x : _root_.Fin 1024, U (ix2 (j 0) x) * W (ix2 x (j 1))

/-- The column of the arrays that a grid point's column is. -/
def col (t : Fin cfg0.N) (k : _root_.Fin 512) : _root_.Fin 7168 := ⟨t.val * 512 + k.val, by have := lt_of_lt_of_eq t.isLt N_0; omega⟩

theorem blk_u (c : Dev nD) (t : Fin cfg0.N) (i : _root_.Fin 2048) (x : _root_.Fin 1024) :
    (iblk m c 0 t : Vec Ideal S2048x1024 .bf16) (ix2 i x) = (m ((c : Thread nD τ).loc main_arg0) : FVec Ideal S2048x1024 .f32) (ix2 i x) := by
  blk_point [iblk, V, idx t]
theorem blk_w (c : Dev nD) (t : Fin cfg0.N) (x : _root_.Fin 1024) (k : _root_.Fin 512) :
    (iblk m c 1 t : Vec Ideal S1024x512 .bf16) (ix2 x k) = (m ((c : Thread nD τ).loc main_arg1) : FVec Ideal S1024x7168 .f32) (ix2 x (col t k)) := by
  blk_point [iblk, V, idx t, col]

theorem final (c : Dev nD) : (dats m 0 c).arrAt 2 (cfgs 0).N = D (m ((c : Thread nD τ).loc main_arg0)) (m ((c : Thread nD τ).loc main_arg1)) := by
  refine (dats m 0 c).arrAt_eq_of_covers 2 _ (by decide +kernel) fun t _ y => ?_
  obtain ⟨i, k, rfl⟩ : ∃ r k, y = ix2 r k := ⟨y 0, y 1, by ext a; fin_cases a <;> rfl⟩
  have e : (win0_2.blk t).view.emb (ix2 i k) = ix2 i (col t k) := by blk_point [idx t, col]
  blk_simp
  rw [after0_2]
  unfold outsAt0
  frame_out
  rw [hpay, hzero, zero_add]
  refine Eq.trans ?_ (congrArg (D (m ((c : Thread nD τ).loc main_arg0)) (m ((c : Thread nD τ).loc main_arg1))) e.symm)
  exact Fin.sum_fin_congr fun x => congrArg₂ (fun a b : EReal => a * b) (blk_u m c t i x) (blk_w m c t x k)

end Cert.InKernelIdeal.Gen

namespace Cert.Proof

open Idealize.ShloMosaic Idealize.SL.Sem

theorem mm_reference_frame : Cert.quiescent_InReferenceIdeal := by
  intro m g _
  exact (θ_run Cert.InReferenceIdeal.defs _ _).mono (fun r h => ⟨fun c => (h c).2, sem_eq_zero_of_no_sems (by decide) r.2⟩)
    (Cert.InReferenceIdeal.Value.run m g)

set_option maxHeartbeats 4000000 in
theorem mm_algebraic : Cert.algebraic_InKernelIdeal_InReferenceIdeal := by
  pair_intro
  · run_from Cert.InKernelIdeal.Gen.run_main m g
  · run_from Cert.InReferenceIdeal.Value.run m' g'
    refine Eq.trans ?_ (Cert.InKernelIdeal.Gen.final m c).symm
    obtain ⟨e0, e1⟩ := hagree c
    funext j
    obtain ⟨i, k, rfl⟩ : ∃ r k, j = ix2 r k := ⟨j 0, j 1, by ext a; fin_cases a <;> rfl⟩
    pointwise [Cert.InKernelIdeal.Gen.D]

end Cert.Proof

end
-- ==== Proof.Down.lean ====
/- The feed-forward layers' down projection, a sum of four products by blocks of rows of the weight: what the kernel leaves equals the reference's product. -/
module

public import proofs.«01_k».proof.Defs
public import proofs.«01_k».proof.Proof.Consts
public import proofs.«01_k».proof.Proof.Gen.DownKernelIdeal.Frame
public import proofs.«01_k».proof.Proof.Gen.DownReferenceIdeal.Run
public import Idealize.ShloMosaic.Lib.Claim

@[expose] public section

set_option maxRecDepth 16384

noncomputable section

namespace Cert.DownKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![0, t.val, 0] ∧ win0_1.index t = ![0, 0, 0, 0] ∧ win0_2.index t = ![t.val, 0] :=
  (by decide +kernel : ∀ t : Fin grid0.N, _)

/-- One block's product. -/
def pr (x : Vec Ideal S4x512x704 .bf16) (w : Vec Ideal S4x1x704x1024 .bf16) (i : _root_.Fin 512) (k : _root_.Fin 1024) (n : _root_.Fin 4) : EReal :=
  ∑ l : _root_.Fin 704, x (ix3 n i l) * w (ix4 n 0 l k)

theorem out_at (x0 : Vec Ideal S4x512x704 .bf16) (x1 : Vec Ideal S4x1x704x1024 .bf16) (j) : out0_2 x0 x1 j = ∑ n : _root_.Fin 4, pr x0 x1 (j 0) (j 1) n := by
  unfold out0_2
  frame_out
  rw [Fin.sum_univ_four]
  pointwise [k0_pay1, pr]

/-- The product. -/
def D (H : FVec Ideal S2048x2816 .f32) (W : FVec Ideal S2816x1024 .f32) : FVec Ideal S2048x1024 .f32 :=
  fun j => ∑ x : _root_.Fin 2816, H (ix2 (j 0) x) * W (ix2 x (j 1))

/-- The row of the array that a grid point's row is. -/
def row (t : Fin cfg0.N) (i : _root_.Fin 512) : _root_.Fin 2048 := ⟨t.val * 512 + i.val, by have := lt_of_lt_of_eq t.isLt N_0; omega⟩
/-- The contracted index that is index `l` of block `n`. -/
def cl (n : _root_.Fin 4) (l : _root_.Fin 704) : _root_.Fin 2816 := ⟨n.val * 704 + l.val, by omega⟩

theorem blk_h (c : Dev nD) (t : Fin cfg0.N) (n : _root_.Fin 4) (i : _root_.Fin 512) (l : _root_.Fin 704) :
    (iblk m c 0 t : Vec Ideal S4x512x704 .bf16) (ix3 n i l) = (m ((c : Thread nD τ).loc main_arg0) : FVec Ideal S2048x2816 .f32) (ix2 (row t i) (cl n l)) := by
  blk_point [iblk, V, idx t, row, cl]
theorem blk_w (c : Dev nD) (t : Fin cfg0.N) (n : _root_.Fin 4) (l : _root_.Fin 704) (k : _root_.Fin 1024) :
    (iblk m c 1 t : Vec Ideal S4x1x704x1024 .bf16) (ix4 n 0 l k) = (m ((c : Thread nD τ).loc main_arg1) : FVec Ideal S2816x1024 .f32) (ix2 (cl n l) k) := by
  blk_point [iblk, V, idx t, cl]

theorem final (c : Dev nD) : (dats m 0 c).arrAt 2 (cfgs 0).N = D (m ((c : Thread nD τ).loc main_arg0)) (m ((c : Thread nD τ).loc main_arg1)) := by
  refine (dats m 0 c).arrAt_eq_of_covers 2 _ (by decide +kernel) fun t _ y => ?_
  obtain ⟨i, k, rfl⟩ : ∃ r k, y = ix2 r k := ⟨y 0, y 1, by ext a; fin_cases a <;> rfl⟩
  have e : (win0_2.blk t).view.emb (ix2 i k) = ix2 (row t i) k := by blk_point [idx t, row]
  blk_simp
  rw [after0_2, out_at]
  refine Eq.trans ?_ (congrArg (D (m ((c : Thread nD τ).loc main_arg0)) (m ((c : Thread nD τ).loc main_arg1))) e.symm)
  unfold D pr
  refine Fin.sum_mul_add_congr fun n l hl => ?_
  exact congrArg₂ (fun a b : EReal => a * b) (blk_h m c t n i l) (blk_w m c t n l k)

end Cert.DownKernelIdeal.Gen

namespace Cert.Proof

open Idealize.ShloMosaic Idealize.SL.Sem

theorem fdown_reference_frame : Cert.quiescent_DownReferenceIdeal := by
  intro m g _
  exact (θ_run Cert.DownReferenceIdeal.defs _ _).mono (fun r h => ⟨fun c => (h c).2, sem_eq_zero_of_no_sems (by decide) r.2⟩)
    (Cert.DownReferenceIdeal.Value.run m g)

set_option maxHeartbeats 4000000 in
theorem fdown_algebraic : Cert.algebraic_DownKernelIdeal_DownReferenceIdeal := by
  pair_intro
  · run_from Cert.DownKernelIdeal.Gen.run_main m g
  · run_from Cert.DownReferenceIdeal.Value.run m' g'
    refine Eq.trans ?_ (Cert.DownKernelIdeal.Gen.final m c).symm
    obtain ⟨e0, e1⟩ := hagree c
    funext j
    obtain ⟨i, k, rfl⟩ : ∃ r k, j = ix2 r k := ⟨j 0, j 1, by ext a; fin_cases a <;> rfl⟩
    pointwise [Cert.DownKernelIdeal.Gen.D]

end Cert.Proof

end
-- ==== Proof.DownDw.lean ====
/- The gradient of the down projection's weight: what the kernel leaves equals the reference's product. -/
module

public import proofs.«01_k».proof.Defs
public import proofs.«01_k».proof.Proof.Consts
public import proofs.«01_k».proof.Proof.Gen.DownDwKernelIdeal.Frame
public import proofs.«01_k».proof.Proof.Gen.DownDwReferenceIdeal.Run
public import Idealize.ShloMosaic.Lib.Claim

@[expose] public section

set_option maxRecDepth 16384

noncomputable section

namespace Cert.DownDwKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val / 2, 0, 0] ∧ win0_1.index t = ![0, t.val % 2] ∧ win0_2.index t = ![t.val / 2, 0, 0, t.val % 2] :=
  (by decide +kernel : ∀ t : Fin grid0.N, _)

theorem hzero (j) : k0_pay1 (F := Ideal) j = 0 := by pointwise [k0_pay1]

theorem hpay (acc : Vec Ideal S704x512 .f32) (h : Vec Ideal S1x2048x704 .bf16) (d : Vec Ideal S2048x512 .bf16) (j) :
    k0_pay2 acc h d j = acc j + ∑ x : _root_.Fin 2048, h (ix3 0 x (j 0)) * d (ix2 x (j 1)) := by
  pointwise [k0_pay2]

theorem hout (v : Vec Ideal S704x512 .f32) (j) : k0_pay3 v j = v (ix2 (j 2) (j 3)) := by pointwise [k0_pay3]

/-- The index that is index `l` of block `n`. -/
def cl (n : _root_.Fin 4) (l : _root_.Fin 704) : _root_.Fin 2816 := ⟨n.val * 704 + l.val, by omega⟩

/-- The product, by blocks of rows. -/
def D (H : FVec Ideal S2048x2816 .f32) (X : FVec Ideal S2048x1024 .f32) : FVec Ideal S4x1x704x1024 .bf16 :=
  fun j => ∑ x : _root_.Fin 2048, H (ix2 x (cl (j 0) (j 2))) * X (ix2 x (j 3))

/-- The block of rows, and the column, that a grid point works on. -/
def blo (t : Fin cfg0.N) : _root_.Fin 4 := ⟨t.val / 2, by have := lt_of_lt_of_eq t.isLt N_0; omega⟩
def col (t : Fin cfg0.N) (k : _root_.Fin 512) : _root_.Fin 1024 := ⟨t.val % 2 * 512 + k.val, by omega⟩

theorem blk_h (c : Dev nD) (t : Fin cfg0.N) (x : _root_.Fin 2048) (l : _root_.Fin 704) :
    (iblk m c 0 t : Vec Ideal S1x2048x704 .bf16) (ix3 0 x l) = (m ((c : Thread nD τ).loc main_arg0) : FVec Ideal S2048x2816 .f32) (ix2 x (cl (blo t) l)) := by
  blk_point [iblk, V, idx t, blo, cl]
theorem blk_d (c : Dev nD) (t : Fin cfg0.N) (x : _root_.Fin 2048) (k : _root_.Fin 512) :
    (iblk m c 1 t : Vec Ideal S2048x512 .bf16) (ix2 x k) = (m ((c : Thread nD τ).loc main_arg1) : FVec Ideal S2048x1024 .f32) (ix2 x (col t k)) := by
  blk_point [iblk, V, idx t, col]

theorem final (c : Dev nD) : (dats m 0 c).arrAt 2 (cfgs 0).N = D (m ((c : Thread nD τ).loc main_arg0)) (m ((c : Thread nD τ).loc main_arg1)) := by
  refine (dats m 0 c).arrAt_eq_of_covers 2 _ (by decide +kernel) fun t _ y => ?_
  obtain ⟨o, s, i, k, rfl⟩ : ∃ o s r k, y = ix4 o s r k := ⟨y 0, y 1, y 2, y 3, by ext a; fin_cases a <;> rfl⟩
  have e : (win0_2.blk t).view.emb (ix4 o s i k) = ix4 (blo t) s i (col t k) := by blk_point [idx t, blo, col]
  blk_simp
  rw [after0_2]
  unfold outsAt0
  frame_out
  rw [hout, hpay, hzero, zero_add]
  refine Eq.trans ?_ (congrArg (D (m ((c : Thread nD τ).loc main_arg0)) (m ((c : Thread nD τ).loc main_arg1))) e.symm)
  exact Fin.sum_fin_congr fun x => congrArg₂ (fun a b : EReal => a * b) (blk_h m c t x i) (blk_d m c t x k)

end Cert.DownDwKernelIdeal.Gen

namespace Cert.Proof

open Idealize.ShloMosaic Idealize.SL.Sem

theorem fdw_reference_frame : Cert.quiescent_DownDwReferenceIdeal := by
  intro m g _
  exact (θ_run Cert.DownDwReferenceIdeal.defs _ _).mono (fun r h => ⟨fun c => (h c).2, sem_eq_zero_of_no_sems (by decide) r.2⟩)
    (Cert.DownDwReferenceIdeal.Value.run m g)

set_option maxHeartbeats 4000000 in
theorem fdw_algebraic : Cert.algebraic_DownDwKernelIdeal_DownDwReferenceIdeal := by
  pair_intro
  · run_from Cert.DownDwKernelIdeal.Gen.run_main m g
  · run_from Cert.DownDwReferenceIdeal.Value.run m' g'
    refine Eq.trans ?_ (Cert.DownDwKernelIdeal.Gen.final m c).symm
    obtain ⟨e0, e1⟩ := hagree c
    funext j
    obtain ⟨o, s, i, k, rfl⟩ : ∃ o s r k, j = ix4 o s r k := ⟨j 0, j 1, j 2, j 3, by ext a; fin_cases a <;> rfl⟩
    pointwise [Cert.DownDwKernelIdeal.Gen.D]
    rfl

end Cert.Proof

end
-- ==== Proof.UpDx.lean ====
/- The gradient of the gate and up projections' argument, a sum of products over four blocks of columns: what the kernel leaves equals the reference's two products. -/
module

public import proofs.«01_k».proof.Defs
public import proofs.«01_k».proof.Proof.Consts
public import proofs.«01_k».proof.Proof.Gen.UpDxKernelIdeal.Frame
public import proofs.«01_k».proof.Proof.Gen.UpDxReferenceIdeal.Run
public import Idealize.ShloMosaic.Lib.Claim

@[expose] public section

set_option maxRecDepth 16384

noncomputable section

namespace Cert.UpDxKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val % 4, 0, t.val / 4, 0] ∧ win0_1.index t = ![t.val % 4, 0, 0, 0] ∧ win0_2.index t = ![t.val % 4, 0, 0, 0]
    ∧ win0_3.index t = ![t.val / 4, 0] :=
  (by decide +kernel : ∀ t : Fin grid0.N, _)

/-- The two products of a block of columns. -/
def pr (d : Vec Ideal S1x2x1024x704 .bf16) (g u : Vec Ideal S1x1x704x1024 .bf16) (i : _root_.Fin 1024) (k : _root_.Fin 1024) : EReal :=
  (∑ x : _root_.Fin 704, d (ix4 0 0 i x) * g (ix4 0 0 x k)) + ∑ x : _root_.Fin 704, d (ix4 0 1 i x) * u (ix4 0 0 x k)

theorem hzero (j) : k0_pay1 (F := Ideal) j = 0 := by pointwise [k0_pay1]

/-- The index that is index `l` of block `n`. -/
def cl (n : _root_.Fin 4) (l : _root_.Fin 704) : _root_.Fin 2816 := ⟨n.val * 704 + l.val, by omega⟩

/-- A product with a transposed weight. -/
def PR (X : FVec Ideal S2048x2816 .f32) (W : FVec Ideal S1024x2816 .f32) (i : _root_.Fin 2048) (k : _root_.Fin 1024) : EReal :=
  ∑ x : _root_.Fin 2816, X (ix2 i x) * W (ix2 k x)
/-- One block's part of it. -/
def PB (n : _root_.Fin 4) (X : FVec Ideal S2048x2816 .f32) (W : FVec Ideal S1024x2816 .f32) (i : _root_.Fin 2048) (k : _root_.Fin 1024) : EReal :=
  ∑ x : _root_.Fin 704, X (ix2 i (cl n x)) * W (ix2 k (cl n x))
theorem sum_PB (X : FVec Ideal S2048x2816 .f32) (W : FVec Ideal S1024x2816 .f32) (i : _root_.Fin 2048) (k : _root_.Fin 1024) :
    ∑ n : _root_.Fin 4, PB n X W i k = PR X W i k := by
  unfold PB PR
  exact Fin.sum_mul_add_congr fun n l hl => rfl
/-- The sum of the two products. -/
def D (X Y : FVec Ideal S2048x2816 .f32) (G U : FVec Ideal S1024x2816 .f32) : FVec Ideal S2048x1024 .f32 :=
  fun j => PR X G (j 0) (j 1) + PR Y U (j 0) (j 1)

/-- The row, and the block of columns, that a grid point works on. -/
def row (t : Fin cfg0.N) (i : _root_.Fin 1024) : _root_.Fin 2048 := ⟨t.val / 4 * 1024 + i.val, by have := lt_of_lt_of_eq t.isLt N_0; omega⟩
def blo (t : Fin cfg0.N) : _root_.Fin 4 := ⟨t.val % 4, by omega⟩

theorem blk_a (c : Dev nD) (t : Fin cfg0.N) (i : _root_.Fin 1024) (l : _root_.Fin 704) :
    (iblk m c 0 t : Vec Ideal S1x2x1024x704 .bf16) (ix4 0 0 i l) = (m ((c : Thread nD τ).loc main_arg0) : FVec Ideal S2048x2816 .f32) (ix2 (row t i) (cl (blo t) l)) := by
  unfold iblk
  entry_read
  blk_simp
  pointwise [cl, blo, row]
  rw [dif_pos (by blk_simp [idx t]; omega)]
  blk_point [idx t, cl, blo, row]
theorem blk_b (c : Dev nD) (t : Fin cfg0.N) (i : _root_.Fin 1024) (l : _root_.Fin 704) :
    (iblk m c 0 t : Vec Ideal S1x2x1024x704 .bf16) (ix4 0 1 i l) = (m ((c : Thread nD τ).loc main_arg1) : FVec Ideal S2048x2816 .f32) (ix2 (row t i) (cl (blo t) l)) := by
  unfold iblk
  entry_read
  blk_simp
  pointwise [cl, blo, row]
  rw [dif_neg (by blk_simp [idx t]; omega)]
  blk_point [idx t, cl, blo, row]
theorem blk_g (c : Dev nD) (t : Fin cfg0.N) (l : _root_.Fin 704) (k : _root_.Fin 1024) :
    (iblk m c 1 t : Vec Ideal S1x1x704x1024 .bf16) (ix4 0 0 l k) = (m ((c : Thread nD τ).loc main_arg2) : FVec Ideal S1024x2816 .f32) (ix2 k (cl (blo t) l)) := by
  unfold iblk
  entry_read
  blk_simp
  pointwise [cl, blo]
  blk_point [idx t, cl, blo]
theorem blk_u (c : Dev nD) (t : Fin cfg0.N) (l : _root_.Fin 704) (k : _root_.Fin 1024) :
    (iblk m c 2 t : Vec Ideal S1x1x704x1024 .bf16) (ix4 0 0 l k) = (m ((c : Thread nD τ).loc main_arg3) : FVec Ideal S1024x2816 .f32) (ix2 k (cl (blo t) l)) := by
  unfold iblk
  entry_read
  blk_simp
  pointwise [cl, blo]
  blk_point [idx t, cl, blo]

/-- What a grid point adds, of the launch's arrays. -/
theorem pr_blk (c : Dev nD) (t : Fin cfg0.N) (i k : _root_.Fin 1024) : pr (iblk m c 0 t) (iblk m c 1 t) (iblk m c 2 t) i k
    = PB (blo t) (m ((c : Thread nD τ).loc main_arg0)) (m ((c : Thread nD τ).loc main_arg2)) (row t i) k + PB (blo t) (m ((c : Thread nD τ).loc main_arg1)) (m ((c : Thread nD τ).loc main_arg3)) (row t i) k :=
  congrArg₂ (fun a b : EReal => a + b)
    (Finset.sum_congr rfl fun x _ => congrArg₂ (fun a b : EReal => a * b) (blk_a m c t i x) (blk_g m c t x k))
    (Finset.sum_congr rfl fun x _ => congrArg₂ (fun a b : EReal => a * b) (blk_b m c t i x) (blk_u m c t x k))

theorem out_A (c : Dev nD) (t : Fin cfg0.N) (h : t.val % 4 = 0) (j) :
    outsAt0 m c t.val t.isLt j = 0 + pr (iblk m c 0 t) (iblk m c 1 t) (iblk m c 2 t) (j 0) (j 1) := by
  rw [outsAt0_A m c t h]
  frame_out
  pointwise [k0_pay2, hzero, pr]
theorem out_B (c : Dev nD) (t : Fin cfg0.N) (h : ¬t.val % 4 = 0) (j) :
    outsAt0 m c t.val t.isLt j = outsAt0 m c (t.val - 1) (Nat.lt_of_le_of_lt (Nat.sub_le _ _) t.isLt) j
      + pr (iblk m c 0 t) (iblk m c 1 t) (iblk m c 2 t) (j 0) (j 1) := by
  rw [outsAt0_B m c t h]
  frame_out
  pointwise [k0_pay2, pr]

theorem final (c : Dev nD) : (dats m 0 c).arrAt 3 (cfgs 0).N = D (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨i, k, rfl⟩ : ∃ r k, y = ix2 r k := ⟨y 0, y 1, by ext a; fin_cases a <;> rfl⟩
  have e : (win0_3.blk t).view.emb (ix2 i k) = ix2 (row t i) k := by blk_point [idx t, row]
  have hf := (flush0_3 t).mp hf
  blk_simp
  rw [after0_3, Pipeline.eq_sum_fin_of_reset_step_apply_of_flush (fun n h => outsAt0 m c n h) 4 (fun _ => 0) _
    (fun t h j => out_A m c t h j) (fun t h j => out_B m c t h j) t hf (ix2 i k), zero_add]
  refine Eq.trans ?_ (congrArg (D (m ((c : Thread nD τ).loc main_arg0)) (m ((c : Thread nD τ).loc main_arg1)) (m ((c : Thread nD τ).loc main_arg2)) (m ((c : Thread nD τ).loc main_arg3))) e.symm)
  refine Eq.trans (Fin.sum_fin_congr fun n => (pr_blk m c _ i k).trans ?_) ((Finset.sum_add_distrib (M := EReal)).trans (congrArg₂ (fun a b : EReal => a + b) (sum_PB _ _ _ k) (sum_PB _ _ _ k)))
  have hb : blo ⟨4 * (t.val / 4) + n.val, Pipeline.run_point_lt_of_flush t hf n⟩ = n := Fin.ext (by change (4 * (t.val / 4) + n.val) % 4 = n.val; omega)
  have hr : row ⟨4 * (t.val / 4) + n.val, Pipeline.run_point_lt_of_flush t hf n⟩ i = row t i :=
    Fin.ext (by change (4 * (t.val / 4) + n.val) / 4 * 1024 + i.val = t.val / 4 * 1024 + i.val; have := n.isLt; congr 2; omega)
  rw [hb, hr]
  rfl

end Cert.UpDxKernelIdeal.Gen

namespace Cert.Proof

open Idealize.ShloMosaic Idealize.SL.Sem

theorem fupdx_reference_frame : Cert.quiescent_UpDxReferenceIdeal := by
  intro m g _
  exact (θ_run Cert.UpDxReferenceIdeal.defs _ _).mono (fun r h => ⟨fun c => (h c).2, sem_eq_zero_of_no_sems (by decide) r.2⟩)
    (Cert.UpDxReferenceIdeal.Value.run m g)

set_option maxHeartbeats 4000000 in
theorem fupdx_algebraic : Cert.algebraic_UpDxKernelIdeal_UpDxReferenceIdeal := by
  pair_intro
  · run_from Cert.UpDxKernelIdeal.Gen.run_main m g
  · run_from Cert.UpDxReferenceIdeal.Value.run m' g'
    refine Eq.trans ?_ (Cert.UpDxKernelIdeal.Gen.final m c).symm
    obtain ⟨e0, e1, e2, e3⟩ := hagree c
    funext j
    obtain ⟨i, k, rfl⟩ : ∃ r k, j = ix2 r k := ⟨j 0, j 1, by ext a; fin_cases a <;> rfl⟩
    pointwise [Cert.UpDxKernelIdeal.Gen.D]
    rfl

end Cert.Proof

end
-- ==== Proof.UpDw.lean ====
/- The gradients of the gate and up projections' weights: what the kernel leaves equals the reference's products. -/
module

public import proofs.«01_k».proof.Defs
public import proofs.«01_k».proof.Proof.Consts
public import proofs.«01_k».proof.Proof.Gen.UpDwKernelIdeal.Frame
public import proofs.«01_k».proof.Proof.Gen.UpDwReferenceIdeal.Run
public import Idealize.ShloMosaic.Lib.Claim

@[expose] public section

set_option maxRecDepth 16384

noncomputable section

namespace Cert.UpDwKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![0, 0] ∧ win0_1.index t = ![t.val, 0, 0, 0] ∧ win0_2.index t = ![t.val, 0, 0, 0] ∧ win0_3.index t = ![t.val, 0, 0, 0] :=
  (by decide +kernel : ∀ t : Fin grid0.N, _)

/-- A product of one of the two gradients' blocks with the normalised array. -/
def pr (s : _root_.Fin 2) (n : Vec Ideal S2048x1024 .bf16) (d : Vec Ideal S1x2x2048x704 .bf16) (i : _root_.Fin 704) (k : _root_.Fin 1024) : EReal :=
  ∑ x : _root_.Fin 2048, d (ix4 0 s x i) * n (ix2 x k)

theorem out2_at (x0 : Vec Ideal S2048x1024 .bf16) (x1 : Vec Ideal S1x2x2048x704 .bf16) (j) : out0_2 x0 x1 j = pr 0 x0 x1 (j 2) (j 3) := by
  unfold out0_2
  frame_out
  pointwise [k0_pay2, k0_pay1, pr]
theorem out3_at (x0 : Vec Ideal S2048x1024 .bf16) (x1 : Vec Ideal S1x2x2048x704 .bf16) (j) : out0_3 x0 x1 j = pr 1 x0 x1 (j 2) (j 3) := by
  unfold out0_3
  frame_out
  pointwise [k0_pay3, k0_pay1, pr]

/-- The index that is index `l` of block `n`. -/
def cl (n : _root_.Fin 4) (l : _root_.Fin 704) : _root_.Fin 2816 := ⟨n.val * 704 + l.val, by omega⟩

/-- The product, by blocks of rows. -/
def D (X : FVec Ideal S2048x1024 .f32) (G : FVec Ideal S2048x2816 .f32) : FVec Ideal S4x1x704x1024 .bf16 :=
  fun j => ∑ x : _root_.Fin 2048, G (ix2 x (cl (j 0) (j 2))) * X (ix2 x (j 3))

/-- The block of rows that a grid point works on. -/
def blo (t : Fin cfg0.N) : _root_.Fin 4 := ⟨t.val, lt_of_lt_of_eq t.isLt N_0⟩

theorem blk_n (c : Dev nD) (t : Fin cfg0.N) (x : _root_.Fin 2048) (k : _root_.Fin 1024) :
    (iblk m c 0 t : Vec Ideal S2048x1024 .bf16) (ix2 x k) = (m ((c : Thread nD τ).loc main_arg0) : FVec Ideal S2048x1024 .f32) (ix2 x k) := by
  blk_point [iblk, V, idx t]
theorem blk_a (c : Dev nD) (t : Fin cfg0.N) (x : _root_.Fin 2048) (l : _root_.Fin 704) :
    (iblk m c 1 t : Vec Ideal S1x2x2048x704 .bf16) (ix4 0 0 x l) = (m ((c : Thread nD τ).loc main_arg1) : FVec Ideal S2048x2816 .f32) (ix2 x (cl (blo t) l)) := by
  unfold iblk
  entry_read
  blk_simp
  pointwise [cl, blo]
  rw [dif_pos (by blk_simp [idx t]; omega)]
  blk_point [idx t, cl, blo]
theorem blk_b (c : Dev nD) (t : Fin cfg0.N) (x : _root_.Fin 2048) (l : _root_.Fin 704) :
    (iblk m c 1 t : Vec Ideal S1x2x2048x704 .bf16) (ix4 0 1 x l) = (m ((c : Thread nD τ).loc main_arg2) : FVec Ideal S2048x2816 .f32) (ix2 x (cl (blo t) l)) := by
  unfold iblk
  entry_read
  blk_simp
  pointwise [cl, blo]
  rw [dif_neg (by blk_simp [idx t]; omega)]
  blk_point [idx t, cl, blo]

theorem final_a (c : Dev nD) : (dats m 0 c).arrAt 2 (cfgs 0).N = D (m ((c : Thread nD τ).loc main_arg0)) (m ((c : Thread nD τ).loc main_arg1)) := by
  refine (dats m 0 c).arrAt_eq_of_covers 2 _ (by decide +kernel) fun t _ y => ?_
  obtain ⟨o, s, i, k, rfl⟩ : ∃ o s r k, y = ix4 o s r k := ⟨y 0, y 1, y 2, y 3, by ext a; fin_cases a <;> rfl⟩
  have e : (win0_2.blk t).view.emb (ix4 o s i k) = ix4 (blo t) s i k := by blk_point [idx t, blo]
  blk_simp
  rw [after0_2, out2_at]
  refine Eq.trans ?_ (congrArg (D (m ((c : Thread nD τ).loc main_arg0)) (m ((c : Thread nD τ).loc main_arg1))) e.symm)
  exact Fin.sum_fin_congr fun x => congrArg₂ (fun a b : EReal => a * b) (blk_a m c t x i) (blk_n m c t x k)

theorem final_b (c : Dev nD) : (dats m 0 c).arrAt 3 (cfgs 0).N = D (m ((c : Thread nD τ).loc main_arg0)) (m ((c : Thread nD τ).loc main_arg2)) := by
  refine (dats m 0 c).arrAt_eq_of_covers 3 _ (by decide +kernel) fun t _ y => ?_
  obtain ⟨o, s, i, k, rfl⟩ : ∃ o s r k, y = ix4 o s r k := ⟨y 0, y 1, y 2, y 3, by ext a; fin_cases a <;> rfl⟩
  have e : (win0_3.blk t).view.emb (ix4 o s i k) = ix4 (blo t) s i k := by blk_point [idx t, blo]
  blk_simp
  rw [after0_3, out3_at]
  refine Eq.trans ?_ (congrArg (D (m ((c : Thread nD τ).loc main_arg0)) (m ((c : Thread nD τ).loc main_arg2))) e.symm)
  exact Fin.sum_fin_congr fun x => congrArg₂ (fun a b : EReal => a * b) (blk_b m c t x i) (blk_n m c t x k)

end Cert.UpDwKernelIdeal.Gen

namespace Cert.Proof

open Idealize.ShloMosaic Idealize.SL.Sem

theorem fupdw_reference_frame : Cert.quiescent_UpDwReferenceIdeal := by
  intro m g _
  exact (θ_run Cert.UpDwReferenceIdeal.defs _ _).mono (fun r h => ⟨fun c => (h c).2.2, sem_eq_zero_of_no_sems (by decide) r.2⟩)
    (Cert.UpDwReferenceIdeal.Value.run m g)

set_option maxHeartbeats 4000000 in
theorem fupdw_algebraic : Cert.algebraic_UpDwKernelIdeal_UpDwReferenceIdeal := by
  pair_intro
  · run_from Cert.UpDwKernelIdeal.Gen.run_main m g
  · run_from Cert.UpDwReferenceIdeal.Value.run m' g'
    · refine Eq.trans ?_ (Cert.UpDwKernelIdeal.Gen.final_a m c).symm
      obtain ⟨e0, e1, e2⟩ := hagree c
      funext j
      obtain ⟨o, s, i, k, rfl⟩ : ∃ o s r k, j = ix4 o s r k := ⟨j 0, j 1, j 2, j 3, by ext a; fin_cases a <;> rfl⟩
      pointwise [Cert.UpDwKernelIdeal.Gen.D]
      rfl
    · refine Eq.trans ?_ (Cert.UpDwKernelIdeal.Gen.final_b m c).symm
      obtain ⟨e0, e1, e2⟩ := hagree c
      funext j
      obtain ⟨o, s, i, k, rfl⟩ : ∃ o s r k, j = ix4 o s r k := ⟨j 0, j 1, j 2, j 3, by ext a; fin_cases a <;> rfl⟩
      pointwise [Cert.UpDwKernelIdeal.Gen.D]
      rfl

end Cert.Proof

end
-- ==== Proof.Slots.lean ====
/- The sum of the gathered small gradients: what the kernel leaves equals the reference's sum. -/
module

public import proofs.«01_k».proof.Defs
public import proofs.«01_k».proof.Proof.Consts
public import proofs.«01_k».proof.Proof.Gen.SlotsKernelIdeal.Frame
public import proofs.«01_k».proof.Proof.Gen.SlotsReferenceIdeal.Run
public import Idealize.ShloMosaic.Lib.Claim

@[expose] public section

set_option maxRecDepth 16384

noncomputable section

namespace Cert.SlotsKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![0, 0, 0] ∧ win0_1.index t = ![0, 0] :=
  (by decide +kernel : ∀ t : Fin grid0.N, _)

theorem out_at (x0 : Vec Ideal S8x296x1024 .f32) (j) : out0_1 x0 j = ∑ n : _root_.Fin 8, x0 (ix3 n (j 0) (j 1)) := by
  unfold out0_1
  frame_out
  rw [Fin.sum_univ_eight]
  pointwise [k0_pay1]

/-- The sum over the slots. -/
def D (G : FVec Ideal S8x296x1024 .f32) : FVec Ideal S296x1024 .f32 := fun j => ∑ n : _root_.Fin 8, G (ix3 n (j 0) (j 1))

theorem blk (c : Dev nD) (t : Fin cfg0.N) (n : _root_.Fin 8) (i : _root_.Fin 296) (k : _root_.Fin 1024) :
    (iblk m c 0 t : Vec Ideal S8x296x1024 .f32) (ix3 n i k) = (m ((c : Thread nD τ).loc main_arg0) : FVec Ideal S8x296x1024 .f32) (ix3 n i k) := by
  blk_point [iblk, V, idx t]

theorem final (c : Dev nD) : (dats m 0 c).arrAt 1 (cfgs 0).N = D (m ((c : Thread nD τ).loc main_arg0)) := by
  refine (dats m 0 c).arrAt_eq_of_covers 1 _ (by decide +kernel) fun t _ y => ?_
  obtain ⟨i, k, rfl⟩ : ∃ r k, y = ix2 r k := ⟨y 0, y 1, by ext a; fin_cases a <;> rfl⟩
  have e : (win0_1.blk t).view.emb (ix2 i k) = ix2 i k := by blk_point [idx t]
  blk_simp
  rw [after0_1, out_at]
  refine Eq.trans ?_ (congrArg (D (m ((c : Thread nD τ).loc main_arg0))) e.symm)
  exact Fin.sum_fin_congr fun n => blk m c t n i k

end Cert.SlotsKernelIdeal.Gen

namespace Cert.Proof

open Idealize.ShloMosaic Idealize.SL.Sem

theorem sumsl_reference_frame : Cert.quiescent_SlotsReferenceIdeal := by
  intro m g _
  exact (θ_run Cert.SlotsReferenceIdeal.defs _ _).mono (fun r h => ⟨fun c => (h c).2, sem_eq_zero_of_no_sems (by decide) r.2⟩)
    (Cert.SlotsReferenceIdeal.Value.run m g)

set_option maxHeartbeats 4000000 in
theorem sumsl_algebraic : Cert.algebraic_SlotsKernelIdeal_SlotsReferenceIdeal := by
  pair_intro
  · run_from Cert.SlotsKernelIdeal.Gen.run_main m g
  · run_from Cert.SlotsReferenceIdeal.Value.run m' g'
    refine Eq.trans ?_ (Cert.SlotsKernelIdeal.Gen.final m c).symm
    have e0 := hagree c
    funext j
    obtain ⟨i, k, rfl⟩ : ∃ r k, j = ix2 r k := ⟨j 0, j 1, by ext a; fin_cases a <;> rfl⟩
    pointwise [Cert.SlotsKernelIdeal.Gen.D]

end Cert.Proof

end
-- ==== Proof.Adam.lean ====
/- The optimiser's step of a sharded weight: the sum of the chips' gradients and AdamW. What the kernel leaves equals the reference's composed terms. -/
module

public import proofs.«01_k».proof.Defs
public import proofs.«01_k».proof.Proof.Consts
public import proofs.«01_k».proof.Proof.Gen.AdamKernelIdeal.Frame
public import proofs.«01_k».proof.Proof.Gen.AdamReferenceIdeal.Run
public import Idealize.ShloMosaic.Lib.Claim

@[expose] public section

set_option maxRecDepth 16384

noncomputable section

namespace Cert.AdamKernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val / 4, t.val % 4, 0] ∧ win0_1.index t = ![0, 0, min t.val 3, 0] ∧ win0_2.index t = ![0, 0, t.val - 4, 0]
    ∧ win0_3.index t = ![t.val / 4, t.val % 4, 0] ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] ∧ win0_8.index t = ![t.val / 4, t.val % 4, 0] :=
  (by decide +kernel : ∀ t : Fin grid0.N, _)

theorem crd : ∀ t : Fin cfg0.N, (grid0.coords t 0).val = t.val / 4 := (by decide +kernel : ∀ t : Fin grid0.N, _)

/-- The new mean, the new mean square, and the step of a weight. -/
def mn (g m : EReal) : EReal := Ideal.ofBits .f32 0x3F666666#32 * m + Ideal.ofBits .f32 0x3DCCCCCD#32 * g
def vn (g v : EReal) : EReal := Ideal.ofBits .f32 0x3F7FBE77#32 * v + Ideal.ofBits .f32 0x3A83126F#32 * (g * g)
def dl (g w m v : EReal) : EReal := Ideal.ofBits .f32 0xBA83126F#32
  * (Ideal.div (Ideal.div (mn g m) (Ideal.ofBits .f32 0x3F26BD02#32)) (Ideal.sqrt (Ideal.div (vn g v) (Ideal.ofBits .f32 0x3C231ACC#32)) + Ideal.ofBits .f32 0x322BCC77#32)
    + Ideal.ofBits .f32 0x3C23D70A#32 * w)

/-- The gradient of a block of layer `n`. -/
def gr (n : ℕ) (x1 x2 : Vec Ideal S4x1x256x1028 .bf16) (i : _root_.Fin 256) (k : _root_.Fin 1028) : EReal :=
  if n < 1 then ∑ q : _root_.Fin 4, x1 (ix4 q 0 i k) else ∑ q : _root_.Fin 4, x2 (ix4 q 0 i k)

theorem point_g (i : grid0.Coords) (x0 : Vec Ideal S1x256x1028 .f32) (x1 x2 : Vec Ideal S4x1x256x1028 .bf16) (x3 x4 : Vec Ideal S1x256x1028 .f32) (j) :
    k0_pay6 (BitVec.ofNat 32 (i 0).val) (k0_pay11 i x0 x1 x2 x3 x4) (k0_pay12 i x0 x1 x2 x3 x4) (View.ld x2 r0_3) j = gr (i 0).val x1 x2 (j 0) (j 1) := by
  unfold k0_pay11 k0_pay12 gr
  rcases (by have := (i 0).isLt; change (i 0).val < 2 at this; omega : (i 0).val = 0 ∨ (i 0).val = 1) with h | h
  · rw [h, if_pos (by decide), Fin.sum_univ_four]
    pointwise [k0_pay6, k0_pay5, k0_pay4]
    exact if_neg (by decide)
  · rw [h, if_neg (by decide), Fin.sum_univ_four]
    pointwise [k0_pay6, k0_pay5, k0_pay4]

theorem out5_at (i : grid0.Coords) (x0 : Vec Ideal S1x256x1028 .f32) (x1 x2 : Vec Ideal S4x1x256x1028 .bf16) (x3 x4 : Vec Ideal S1x256x1028 .f32) (j) : out0_5 i x0 x1 x2 x3 x4 j = gr (i 0).val x1 x2 (j 1) (j 2) := by
  unfold out0_5
  frame_out
  pointwise [k0_pay7, point_g]
theorem out7_at (i : grid0.Coords) (x0 : Vec Ideal S1x256x1028 .f32) (x1 x2 : Vec Ideal S4x1x256x1028 .bf16) (x3 x4 : Vec Ideal S1x256x1028 .f32) (j) : out0_7 i x0 x1 x2 x3 x4 j = mn (gr (i 0).val x1 x2 (j 1) (j 2)) (x3 j) := by
  unfold out0_7
  frame_out
  pointwise [k0_pay2, k0_pay8, point_g, mn]
theorem out8_at (i : grid0.Coords) (x0 : Vec Ideal S1x256x1028 .f32) (x1 x2 : Vec Ideal S4x1x256x1028 .bf16) (x3 x4 : Vec Ideal S1x256x1028 .f32) (j) : out0_8 i x0 x1 x2 x3 x4 j = vn (gr (i 0).val x1 x2 (j 1) (j 2)) (x4 j) := by
  unfold out0_8
  frame_out
  pointwise [k0_pay3, k0_pay9, point_g, vn]
theorem out6_at (i : grid0.Coords) (x0 : Vec Ideal S1x256x1028 .f32) (x1 x2 : Vec Ideal S4x1x256x1028 .bf16) (x3 x4 : Vec Ideal S1x256x1028 .f32) (j) : out0_6 i x0 x1 x2 x3 x4 j = dl (gr (i 0).val x1 x2 (j 1) (j 2)) (x0 j) (x3 j) (x4 j) := by
  unfold out0_6
  frame_out
  pointwise [k0_pay1, k0_pay10, k0_pay8, k0_pay9, point_g, mn, vn, dl]

/-- The gradient: the sum of the four chips' parts, layer by layer. -/
def DG (G H : FVec Ideal S4x1x1024x1028 .f32) : FVec Ideal S2x1024x1028 .f32 :=
  fun j => if (j 0).val < 1 then ∑ q : _root_.Fin 4, G (ix4 q 0 (j 1) (j 2)) else ∑ q : _root_.Fin 4, H (ix4 q 0 (j 1) (j 2))
def DM (G H : FVec Ideal S4x1x1024x1028 .f32) (M : FVec Ideal S2x1024x1028 .f32) : FVec Ideal S2x1024x1028 .f32 := fun j => mn (DG G H j) (M j)
def DV (G H : FVec Ideal S4x1x1024x1028 .f32) (M : FVec Ideal S2x1024x1028 .f32) : FVec Ideal S2x1024x1028 .f32 := fun j => vn (DG G H j) (M j)
def DD (W : FVec Ideal S2x1024x1028 .f32) (G H : FVec Ideal S4x1x1024x1028 .f32) (M N : FVec Ideal S2x1024x1028 .f32) : FVec Ideal S2x1024x1028 .f32 :=
  fun j => dl (DG G H j) (W j) (M j) (N j)

/-- The layer and the row that a grid point works on. -/
def lay (t : Fin cfg0.N) : _root_.Fin 2 := ⟨t.val / 4, by have := lt_of_lt_of_eq t.isLt N_0; omega⟩
def row (t : Fin cfg0.N) (i : _root_.Fin 256) : _root_.Fin 1024 := ⟨t.val % 4 * 256 + i.val, by omega⟩

theorem blk_w (c : Dev nD) (t : Fin cfg0.N) (s : _root_.Fin 1) (i : _root_.Fin 256) (k : _root_.Fin 1028) :
    (iblk m c 0 t : Vec Ideal S1x256x1028 .f32) (ix3 s i k) = (m ((c : Thread nD τ).loc main_arg0) : FVec Ideal S2x1024x1028 .f32) (ix3 (lay t) (row t i) k) := by
  blk_point [iblk, V, idx t, lay, row]
theorem blk_m (c : Dev nD) (t : Fin cfg0.N) (s : _root_.Fin 1) (i : _root_.Fin 256) (k : _root_.Fin 1028) :
    (iblk m c 3 t : Vec Ideal S1x256x1028 .f32) (ix3 s i k) = (m ((c : Thread nD τ).loc main_arg3) : FVec Ideal S2x1024x1028 .f32) (ix3 (lay t) (row t i) k) := by
  blk_point [iblk, V, idx t, lay, row]
theorem blk_v (c : Dev nD) (t : Fin cfg0.N) (s : _root_.Fin 1) (i : _root_.Fin 256) (k : _root_.Fin 1028) :
    (iblk m c 4 t : Vec Ideal S1x256x1028 .f32) (ix3 s i k) = (m ((c : Thread nD τ).loc main_arg4) : FVec Ideal S2x1024x1028 .f32) (ix3 (lay t) (row t i) k) := by
  blk_point [iblk, V, idx t, lay, row]

theorem blk_g (c : Dev nD) (t : Fin cfg0.N) (s : _root_.Fin 1) (i : _root_.Fin 256) (k : _root_.Fin 1028) :
    gr (grid0.coords t 0).val (iblk m c 1 t) (iblk m c 2 t) i k = DG (m ((c : Thread nD τ).loc main_arg1)) (m ((c : Thread nD τ).loc main_arg2)) (ix3 (lay t) (row t i) k) := by
  have ht := lt_of_lt_of_eq t.isLt N_0
  unfold gr DG
  rw [crd]
  by_cases h : t.val / 4 < 1
  · refine (if_pos h).trans (Eq.trans ?_ (if_pos h).symm)
    refine Finset.sum_congr rfl fun q _ => ?_
    blk_point [iblk, V, idx t, row]
  · refine (if_neg h).trans (Eq.trans ?_ (if_neg h).symm)
    refine Finset.sum_congr rfl fun q _ => ?_
    blk_point [iblk, V, idx t, row]

theorem final_g (c : Dev nD) : (dats m 0 c).arrAt 5 (cfgs 0).N = DG (m ((c : Thread nD τ).loc main_arg1)) (m ((c : Thread nD τ).loc main_arg2)) := by
  refine (dats m 0 c).arrAt_eq_of_covers 5 _ (by decide +kernel) fun t _ y => ?_
  obtain ⟨s, i, k, rfl⟩ : ∃ s r k, y = ix3 s r k := ⟨y 0, y 1, y 2, by ext a; fin_cases a <;> rfl⟩
  have e : (win0_5.blk t).view.emb (ix3 s i k) = ix3 (lay t) (row t i) k := by blk_point [idx t, lay, row]
  blk_simp
  rw [after0_5, out5_at]
  refine Eq.trans ?_ (congrArg (DG (m ((c : Thread nD τ).loc main_arg1)) (m ((c : Thread nD τ).loc main_arg2))) e.symm)
  exact blk_g m c t s i k

theorem final_d (c : Dev nD) : (dats m 0 c).arrAt 6 (cfgs 0).N = DD (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨s, i, k, rfl⟩ : ∃ s r k, y = ix3 s r k := ⟨y 0, y 1, y 2, by ext a; fin_cases a <;> rfl⟩
  have e : (win0_6.blk t).view.emb (ix3 s i k) = ix3 (lay t) (row t i) k := by blk_point [idx t, lay, row]
  blk_simp
  rw [after0_6, out6_at]
  refine Eq.trans ?_ (congrArg (DD (m ((c : Thread nD τ).loc main_arg0)) (m ((c : Thread nD τ).loc main_arg1)) (m ((c : Thread nD τ).loc main_arg2)) (m ((c : Thread nD τ).loc main_arg3)) (m ((c : Thread nD τ).loc main_arg4))) e.symm)
  exact congr (congr (congrArg₂ dl (blk_g m c t s i k) (blk_w m c t s i k)) (blk_m m c t s i k)) (blk_v m c t s i k)

theorem final_m (c : Dev nD) : (dats m 0 c).arrAt 7 (cfgs 0).N = DM (m ((c : Thread nD τ).loc main_arg1)) (m ((c : Thread nD τ).loc main_arg2)) (m ((c : Thread nD τ).loc main_arg3)) := by
  refine (dats m 0 c).arrAt_eq_of_covers 7 _ (by decide +kernel) fun t _ y => ?_
  obtain ⟨s, i, k, rfl⟩ : ∃ s r k, y = ix3 s r k := ⟨y 0, y 1, y 2, by ext a; fin_cases a <;> rfl⟩
  have e : (win0_7.blk t).view.emb (ix3 s i k) = ix3 (lay t) (row t i) k := by blk_point [idx t, lay, row]
  blk_simp
  rw [after0_7, out7_at]
  refine Eq.trans ?_ (congrArg (DM (m ((c : Thread nD τ).loc main_arg1)) (m ((c : Thread nD τ).loc main_arg2)) (m ((c : Thread nD τ).loc main_arg3))) e.symm)
  exact congrArg₂ mn (blk_g m c t s i k) (blk_m m c t s i k)

theorem final_v (c : Dev nD) : (dats m 0 c).arrAt 8 (cfgs 0).N = DV (m ((c : Thread nD τ).loc main_arg1)) (m ((c : Thread nD τ).loc main_arg2)) (m ((c : Thread nD τ).loc main_arg4)) := by
  refine (dats m 0 c).arrAt_eq_of_covers 8 _ (by decide +kernel) fun t _ y => ?_
  obtain ⟨s, i, k, rfl⟩ : ∃ s r k, y = ix3 s r k := ⟨y 0, y 1, y 2, by ext a; fin_cases a <;> rfl⟩
  have e : (win0_8.blk t).view.emb (ix3 s i k) = ix3 (lay t) (row t i) k := by blk_point [idx t, lay, row]
  blk_simp
  rw [after0_8, out8_at]
  refine Eq.trans ?_ (congrArg (DV (m ((c : Thread nD τ).loc main_arg1)) (m ((c : Thread nD τ).loc main_arg2)) (m ((c : Thread nD τ).loc main_arg4))) e.symm)
  exact congrArg₂ vn (blk_g m c t s i k) (blk_v m c t s i k)

end Cert.AdamKernelIdeal.Gen

namespace Cert.Proof

open Idealize.ShloMosaic Idealize.SL.Sem

theorem adam_reference_frame : Cert.quiescent_AdamReferenceIdeal := by
  intro m g _
  exact (θ_run Cert.AdamReferenceIdeal.defs _ _).mono (fun r h => ⟨fun c => (h c).2.2.2.2, sem_eq_zero_of_no_sems (by decide) r.2⟩)
    (Cert.AdamReferenceIdeal.Value.run m g)

open Cert.AdamReferenceIdeal in
/-- The reference's gradient, layer by layer. -/
def adam_grad (G H : FVec Ideal S4x1x1024x1028 .f32) : FVec Ideal S2x1024x1028 .f32 := fun j => Cert.AdamKernelIdeal.Gen.DG G H j

open Cert.AdamReferenceIdeal in
theorem adam_cat (G H : FVec Ideal S4x1x1024x1028 .f32) :
    concatenate S2x1024x1028 0 [⟨S1x1024x1028, (broadcastInDim S1x1024x1028 ![1, 2] Gen.bcast_S1024x1028_S1x1024x1028_1_2
      (Host.reduceAdd (shapeCast S4x1024x1028 G Gen.shapeCasts_S4x1x1024x1028_S4x1024x1028) (constant S_ .f32 0x00000000#32) Gen.reducesTo_S4x1024x1028_S1024x1028_d0 Gen.h_S_))⟩,
      ⟨S1x1024x1028, (broadcastInDim S1x1024x1028 ![1, 2] Gen.bcast_S1024x1028_S1x1024x1028_1_2
      (Host.reduceAdd (shapeCast S4x1024x1028 H Gen.shapeCasts_S4x1x1024x1028_S4x1024x1028) (constant S_ .f32 0x00000000#32) Gen.reducesTo_S4x1024x1028_S1024x1028_d0 Gen.h_S_))⟩]
      Gen.concatenates_S1x1024x1028_S1x1024x1028_S2x1024x1028_d0 = adam_grad G H := by
  funext j
  obtain ⟨s, i, k, rfl⟩ : ∃ o r k, j = ix3 o r k := ⟨j 0, j 1, j 2, by ext a; fin_cases a <;> rfl⟩
  unfold adam_grad Cert.AdamKernelIdeal.Gen.DG
  pointwise
  by_cases h : s.val < 1
  · exact (dif_pos h).trans (if_pos h).symm
  · exact (dif_neg h).trans (if_neg h).symm

set_option maxHeartbeats 4000000 in
theorem adam_algebraic : Cert.algebraic_AdamKernelIdeal_AdamReferenceIdeal := by
  pair_intro
  · run_from Cert.AdamKernelIdeal.Gen.run_main m g
  · run_from Cert.AdamReferenceIdeal.Value.run m' g'
    · refine Eq.trans ?_ (Cert.AdamKernelIdeal.Gen.final_g m c).symm
      obtain ⟨e0, e1, e2, e3, e4⟩ := hagree c
      funext j
      obtain ⟨o, i, k, rfl⟩ : ∃ o r k, j = ix3 o r k := ⟨j 0, j 1, j 2, by ext a; fin_cases a <;> rfl⟩
      rw [adam_cat, e1, e2]
      rfl
    · refine Eq.trans ?_ (Cert.AdamKernelIdeal.Gen.final_d m c).symm
      obtain ⟨e0, e1, e2, e3, e4⟩ := hagree c
      funext j
      obtain ⟨o, i, k, rfl⟩ : ∃ o r k, j = ix3 o r k := ⟨j 0, j 1, j 2, by ext a; fin_cases a <;> rfl⟩
      rw [adam_cat, e1, e2]
      pointwise [Cert.AdamKernelIdeal.Gen.DD, Cert.AdamKernelIdeal.Gen.dl, Cert.AdamKernelIdeal.Gen.mn, Cert.AdamKernelIdeal.Gen.vn]
      rfl
    · refine Eq.trans ?_ (Cert.AdamKernelIdeal.Gen.final_m m c).symm
      obtain ⟨e0, e1, e2, e3, e4⟩ := hagree c
      funext j
      obtain ⟨o, i, k, rfl⟩ : ∃ o r k, j = ix3 o r k := ⟨j 0, j 1, j 2, by ext a; fin_cases a <;> rfl⟩
      rw [adam_cat, e1, e2]
      pointwise [Cert.AdamKernelIdeal.Gen.DM, Cert.AdamKernelIdeal.Gen.mn]
      rfl
    · refine Eq.trans ?_ (Cert.AdamKernelIdeal.Gen.final_v m c).symm
      obtain ⟨e0, e1, e2, e3, e4⟩ := hagree c
      funext j
      obtain ⟨o, i, k, rfl⟩ : ∃ o r k, j = ix3 o r k := ⟨j 0, j 1, j 2, by ext a; fin_cases a <;> rfl⟩
      rw [adam_cat, e1, e2]
      pointwise [Cert.AdamKernelIdeal.Gen.DV, Cert.AdamKernelIdeal.Gen.vn]
      rfl

end Cert.Proof

end
-- ==== Proof.SsdChunk.lean ====
/- One chunk of the scan as the kernel writes it, and its value over the real numbers. -/
module

public import proofs.«01_k».proof.Proof.Gen.SsdFwdKernelIdeal.Frame
public import proofs.«01_k».proof.Proof.Consts

@[expose] public section

set_option maxRecDepth 16384

noncomputable section

namespace Cert.SsdChunk

open Idealize.ShloMosaic Idealize.SL.Sem Cert.SsdFwdKernelIdeal Cert.SsdFwdKernelIdeal.Gen

variable {F : FTy → Type} [FloatOps F]

/-- What the rounding of a vector leaves out. -/
def rest {s : Shape} (v : FVec F s .f32) : FVec F s .f32 :=
  subf v (extf .f32 (truncf .bf16 v bitsLt_bf16_f32) bitsLt_bf16_f32)

/-- A product with a vector split in three parts. -/
def sel {s r : Shape} (mm : FVec F s .bf16 → FVec F r .f32) (v : FVec F s .f32) : FVec F r .f32 :=
  addf (addf (mm (truncf .bf16 v bitsLt_bf16_f32)) (mm (truncf .bf16 (rest v) bitsLt_bf16_f32)))
    (mm (truncf .bf16 (rest (rest v)) bitsLt_bf16_f32))

def zero (s : Shape) : FVec F s .f32 := broadcast s (Scalar.ofBits .f32 0x00000000#32)
def one (s : Shape) : FVec F s .f32 := broadcast s (Scalar.ofBits .f32 0x3F800000#32)

/-- The quotient by 64 of the numbers of an index vector. -/
def fdiv {s : Shape} (v : IVec s 32) : IVec s 32 :=
  select (andi
      (cmpi .ne (subi (extui 32 (cmpi .sgt v (broadcast s 0#32)) natLt_1_32) (extui 32 (cmpi .slt v (broadcast s 0#32)) natLt_1_32))
        (broadcast s (Scalar.subi (Scalar.extui (Scalar.cmpi .sgt 64#32 0#32)) (Scalar.extui (Scalar.cmpi .slt 64#32 0#32)))))
      (cmpi .ne (remsi v (broadcast s 64#32)) (broadcast s 0#32)))
    (subi (divsi v (broadcast s 64#32)) (broadcast s 1#32)) (divsi v (broadcast s 64#32))

/-- The matrix with a one where the row is the head of the column. -/
def expand (h : BitVec 32) : FVec F S128x256 .f32 :=
  select (cmpi .eq (iota .tc S128x256 32 [0] iota_S128x256_d0_w32)
    (addi (fdiv (iota .tc S128x256 32 [1] iota_S128x256_d1_w32)) (broadcast S128x256 h))) (one _) (zero _)

/-- Its transpose. -/
def expandT (h : BitVec 32) : FVec F S256x128 .f32 :=
  select (cmpi .eq (iota .tc S256x128 32 [1] iota_S256x128_d1_w32)
    (addi (fdiv (iota .tc S256x128 32 [0] iota_S256x128_d0_w32)) (broadcast S256x128 h))) (one _) (zero _)

/-- The mean of eight rows. -/
def mean (v : FVec F S8x128 .f32) : FVec F S1x128 .f32 :=
  mulf (shapeCast S1x128 (multiReduction .add [0] S128 v 0x00000000#32 reduces_S8x128_S128 (.inl rfl) rfl) shapeCasts_S128_S1x128)
    (broadcast S1x128 (Scalar.ofBits .f32 0x3E000000#32))

def meanw (v : FVec F S8x256 .f32) : FVec F S1x256 .f32 :=
  mulf (shapeCast S1x256 (multiReduction .add [0] S256 v 0x00000000#32 reduces_S8x256_S256 (.inl rfl) rfl) shapeCasts_S256_S1x256)
    (broadcast S1x256 (Scalar.ofBits .f32 0x3E000000#32))

/-- The time steps of the heads. -/
def dtv (d : FVec F S256x128 .f32) (p0 : FVec F S8x128 .f32) : FVec F S256x128 .f32 :=
  addf (maximumf (addf d (broadcastTo S256x128 (mean p0) broadcasts_S1x128_S256x128)) (zero _))
    (log (addf (one _) (exp (subf (zero _) (absf (addf d (broadcastTo S256x128 (mean p0) broadcasts_S1x128_S256x128)))))))

/-- The rates of the heads. -/
def rate (p1 : FVec F S8x128 .f32) : FVec F S1x128 .f32 := subf (zero _) (exp (mean p1))

def rate8 (p1 : FVec F S8x128 .f32) : FVec F S8x128 .f32 :=
  broadcastTo S8x128 (shapeCast S1x128 (rate p1) shapeCasts_S1x128_S1x128) broadcasts_S1x128_S8x128

/-- The sum of the logarithms of the decays over the chunk, for each head. -/
def total (d : FVec F S256x128 .f32) (p0 p1 : FVec F S8x128 .f32) : FVec F S8x128 .f32 :=
  broadcastTo S8x128 (shapeCast S1x128 (shapeCast S1x128 (multiReduction .add [0] S128
    (mulf (broadcastTo S256x128 (rate p1) broadcasts_S1x128_S256x128) (dtv d p0)) 0x00000000#32 reduces_S256x128_S128 (.inl rfl) rfl)
    shapeCasts_S128_S1x128) shapeCasts_S1x128_S1x128) broadcasts_S1x128_S8x128

def selE (h : BitVec 32) (v : FVec F S256x128 .f32) : FVec F S256x256 .f32 :=
  sel (fun p => matmul dot_S256x128_S128x256_S256x256_1_0_0_1_n_n none p (truncf .bf16 (expand h) bitsLt_bf16_f32)
    (constant S256x256 .f32 0x00000000#32)) v

def selE8 (h : BitVec 32) (v : FVec F S8x128 .f32) : FVec F S8x256 .f32 :=
  sel (fun p => matmul dot_S8x128_S128x256_S8x256_1_0_0_1_n_n none p (truncf .bf16 (expand h) bitsLt_bf16_f32)
    (constant S8x256 .f32 0x00000000#32)) v

/-- The logarithms of the decays, at each column. -/
def af (h : BitVec 32) (dt : FVec F S256x128 .f32) (p1 : FVec F S8x128 .f32) : FVec F S256x256 .f32 :=
  mulf (broadcastTo S256x256 (meanw (selE8 h (rate8 p1))) broadcasts_S1x256_S256x256) (selE h dt)

def rows : IVec S256x256 32 := iota .tc S256x256 32 [0] iota_S256x256_d0_w32
def cols : IVec S256x256 32 := iota .tc S256x256 32 [1] iota_S256x256_d1_w32
def lane : IVec S1x256 32 := iota .tc S1x256 32 [1] iota_S1x256_d1_w32

/-- Their cumulative sums. -/
def acum (a : FVec F S256x256 .f32) : FVec F S256x256 .f32 :=
  sel (fun p => matmul dot_S256x256_S256x256_S256x256_1_0_0_1_n_n none
    (truncf .bf16 (select (cmpi .sge rows cols) (one _) (zero _)) bitsLt_bf16_f32) p (constant S256x256 .f32 0x00000000#32)) a

def alast (a : FVec F S256x256 .f32) : FVec F S1x256 .f32 :=
  shapeCast S1x256 (multiReduction .add [0] S256 a 0x00000000#32 reduces_S256x256_S256 (.inl rfl) rfl) shapeCasts_S256_S1x256

/-- The column of a head's first lane. -/
def col (l : BitVec 32) (v : FVec F S256x256 .f32) : FVec F S256x1 .f32 :=
  shapeCast S256x1 (multiReduction .add [1] S256
    (select (broadcastTo S256x256 (shapeCast S1x256 (cmpi .eq lane (broadcast S1x256 l)) shapeCasts_S1x256_S1x256) broadcasts_S1x256_S256x256)
      v (zero _)) 0x00000000#32 reduces_S256x256_S256_2 (.inl rfl) rfl) shapeCasts_S256_S256x1

/-- A head's product with its masked decays. -/
def head (l : BitVec 32) (cb a ac xdt : FVec F S256x256 .f32) : FVec F S256x256 .f32 :=
  matmul dot_S256x256_S256x256_S256x256_1_0_0_1_n_n none
    (truncf .bf16 (mulf cb (exp (select (cmpi .sge rows cols)
      (subf (broadcastTo S256x256 (col l ac) broadcasts_S256x1_S256x256)
        (broadcastTo S256x256 (shapeCast S1x256 (multiReduction .add [0] S256
          (select (cmpi .sle rows cols) (broadcastTo S256x256 (shapeCast S256x1 (col l a) shapeCasts_S256x1_S256x1) broadcasts_S256x1_S256x256)
            (zero _)) 0x00000000#32 reduces_S256x256_S256 (.inl rfl) rfl) shapeCasts_S256_S1x256) broadcasts_S1x256_S256x256))
      (broadcast S256x256 (Scalar.ofBits .f32 0xFF800000#32))))) bitsLt_bf16_f32)
    (truncf .bf16 xdt bitsLt_bf16_f32) (constant S256x256 .f32 0x00000000#32)

/-- A head's product, at the lanes of that head. -/
def part (r : BitVec 32) (y : FVec F S256x256 .f32) : FVec F S256x256 .f32 :=
  select (broadcastTo S256x256 (shapeCast S1x256 (cmpi .eq (fdiv lane) (broadcast S1x256 r)) shapeCasts_S1x256_S1x256)
    broadcasts_S1x256_S256x256) y (zero _)

/-- The four heads of half a group. -/
def diag (cb a ac xdt : FVec F S256x256 .f32) : FVec F S256x256 .f32 :=
  addf (addf (addf (addf (zero _) (part 0#32 (head 0#32 cb a ac xdt))) (part 1#32 (head 64#32 cb a ac xdt)))
    (part 2#32 (head 128#32 cb a ac xdt))) (part 3#32 (head 192#32 cb a ac xdt))

def mulNT (c b : FVec F S256x128 .f32) : FVec F S256x256 .f32 :=
  matmul dot_S256x128_S256x128_S256x256_1_1_0_0_n_n none (truncf .bf16 c bitsLt_bf16_f32) (truncf .bf16 b bitsLt_bf16_f32)
    (constant S256x256 .f32 0x00000000#32)

/-- Half a group's result over one chunk. -/
def yOut (h : BitVec 32) (x : FVec F S256x256 .f32) (b c : FVec F S256x128 .f32) (d : FVec F S256x128 .f32)
    (p0 p1 p2 : FVec F S8x128 .f32) (s : FVec F S256x128 .f32) : FVec F S256x256 .f32 :=
  addf (addf (diag (mulNT c b) (af h (dtv d p0) p1) (acum (af h (dtv d p0) p1)) (mulf x (selE h (dtv d p0))))
      (mulf (mulNT c s) (exp (acum (af h (dtv d p0) p1)))))
    (mulf (broadcastTo S256x256 (meanw (selE8 h p2)) broadcasts_S1x256_S256x256) x)

/-- The state that it leaves. -/
def sOut (h : BitVec 32) (x : FVec F S256x256 .f32) (b : FVec F S256x128 .f32) (d : FVec F S256x128 .f32)
    (p0 p1 : FVec F S8x128 .f32) (s : FVec F S256x128 .f32) : FVec F S256x128 .f32 :=
  addf (mulf (broadcastTo S256x128 (exp (mulf (shapeCast S256x1 (multiReduction .add [1] S256
        (sel (fun p => matmul dot_S256x128_S8x128_S256x8_1_1_0_0_n_n none (truncf .bf16 (expandT h) bitsLt_bf16_f32) p
          (constant S256x8 .f32 0x00000000#32)) (total d p0 p1)) 0x00000000#32 reduces_S256x8_S256 (.inl rfl) rfl) shapeCasts_S256_S256x1)
        (broadcast S256x1 (Scalar.ofBits .f32 0x3E000000#32)))) broadcasts_S256x1_S256x128) s)
    (matmul dot_S256x256_S256x128_S256x128_0_0_1_1_n_n none
      (truncf .bf16 (mulf (mulf x (selE h (dtv d p0)))
        (exp (subf (broadcastTo S256x256 (alast (af h (dtv d p0) p1)) broadcasts_S1x256_S256x256) (acum (af h (dtv d p0) p1)))))
        bitsLt_bf16_f32)
      (truncf .bf16 b bitsLt_bf16_f32) (constant S256x128 .f32 0x00000000#32))

end Cert.SsdChunk

namespace Cert.SsdChunk

open Idealize.ShloMosaic Idealize.SL.Sem Cert.SsdFwdKernelIdeal Cert.SsdFwdKernelIdeal.Gen

/-- A vector of real numbers. -/
abbrev up {s : Shape} (f : s.Idx → ℝ) : FVec Ideal s .f32 := fun j => ((f j : ℝ) : EReal)

/-- Matrices and rows of real numbers. -/
def MW (f : _root_.Fin 256 → _root_.Fin 256 → ℝ) : FVec Ideal S256x256 .f32 := up fun j => f (j 0) (j 1)
def MN (f : _root_.Fin 256 → _root_.Fin 128 → ℝ) : FVec Ideal S256x128 .f32 := up fun j => f (j 0) (j 1)
def M8 (f : _root_.Fin 128 → ℝ) : FVec Ideal S8x128 .f32 := up fun j => f (j 1)
def M8w (f : _root_.Fin 256 → ℝ) : FVec Ideal S8x256 .f32 := up fun j => f (j 1)
def R (f : _root_.Fin 128 → ℝ) : FVec Ideal S1x128 .f32 := up fun j => f (j 1)
def Rw (f : _root_.Fin 256 → ℝ) : FVec Ideal S1x256 .f32 := up fun j => f (j 1)
def C (f : _root_.Fin 256 → ℝ) : FVec Ideal S256x1 .f32 := up fun j => f (j 0)

theorem MW_at (f) (i k : _root_.Fin 256) : MW f (ix2 i k) = ((f i k : ℝ) : EReal) := rfl
theorem MN_at (f) (i : _root_.Fin 256) (k : _root_.Fin 128) : MN f (ix2 i k) = ((f i k : ℝ) : EReal) := rfl
theorem M8_at (f) (i : _root_.Fin 8) (k : _root_.Fin 128) : M8 f (ix2 i k) = ((f k : ℝ) : EReal) := rfl
theorem M8w_at (f) (i : _root_.Fin 8) (k : _root_.Fin 256) : M8w f (ix2 i k) = ((f k : ℝ) : EReal) := rfl
theorem R_at (f) (i : _root_.Fin 1) (k : _root_.Fin 128) : R f (ix2 i k) = ((f k : ℝ) : EReal) := rfl
theorem Rw_at (f) (i : _root_.Fin 1) (k : _root_.Fin 256) : Rw f (ix2 i k) = ((f k : ℝ) : EReal) := rfl
theorem C_at (f) (i : _root_.Fin 256) (k : _root_.Fin 1) : C f (ix2 i k) = ((f i : ℝ) : EReal) := rfl

theorem ext2 {n0 n1 : ℕ} {α : Type} {f g : ((a : _root_.Fin 2) → _root_.Fin (![n0, n1] a)) → α} (h : ∀ i k, f (ix2 i k) = g (ix2 i k)) : f = g := by
  funext j
  obtain ⟨i, k, rfl⟩ : ∃ r k, j = ix2 r k := ⟨j 0, j 1, by ext a; fin_cases a <;> rfl⟩
  exact h i k

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_eighth : Ideal.ofBits .f32 0x3E000000#32 = ((1 / 8 : ℝ) : EReal) := by
  simp [Ideal.ofBits, Ideal.ieee, -EReal.coe_mul]; norm_num

theorem fdiv_row (k : _root_.Fin 256) : fdiv lane (ix2 0 k) = BitVec.ofNat 32 (k.val / 64) := by
  revert k
  decide +kernel

theorem fdiv_col (c : _root_.Fin 128) (k : _root_.Fin 256) :
    fdiv (iota .tc S128x256 32 [1] iota_S128x256_d1_w32) (ix2 c k) = BitVec.ofNat 32 (k.val / 64) := by
  have h : fdiv (iota .tc S128x256 32 [1] iota_S128x256_d1_w32) (ix2 c k) = fdiv lane (ix2 0 k) := rfl
  rw [h, fdiv_row]

theorem fdiv_colT (c : _root_.Fin 128) (k : _root_.Fin 256) :
    fdiv (iota .tc S256x128 32 [0] iota_S256x128_d0_w32) (ix2 k c) = BitVec.ofNat 32 (k.val / 64) := by
  have h : fdiv (iota .tc S256x128 32 [0] iota_S256x128_d0_w32) (ix2 k c) = fdiv lane (ix2 0 k) := rfl
  rw [h, fdiv_row]

/-- The choice by an equality of small numbers. -/
theorem select_eq {α : Type} (a b : ℕ) (ha : a < 4294967296) (hb : b < 4294967296) (x y : α) :
    Scalar.select (IntOp.cmpi .eq (BitVec.ofNat 32 a) (BitVec.ofNat 32 b)) x y = if a = b then x else y := by
  by_cases h : a = b
  · subst h; simp [Scalar.select, IntOp.cmpi]
  · have : BitVec.ofNat 32 a ≠ BitVec.ofNat 32 b := fun e => h (by
      have := congrArg BitVec.toNat e
      simpa [BitVec.toNat_ofNat, Nat.mod_eq_of_lt ha, Nat.mod_eq_of_lt hb] using this)
    have hb' : (BitVec.ofNat 32 a == BitVec.ofNat 32 b) = false := by simpa using this
    simp [Scalar.select, IntOp.cmpi, hb', h]

theorem toInt_small (a : ℕ) (ha : a < 256) : (BitVec.ofNat 32 a).toInt = a := by
  rw [BitVec.toInt_ofNat', Int.bmod_def]; omega

theorem select_sge {α : Type} (a b : ℕ) (ha : a < 256) (hb : b < 256) (x y : α) :
    Scalar.select (IntOp.cmpi .sge (BitVec.ofNat 32 a) (BitVec.ofNat 32 b)) x y = if b ≤ a then x else y := by
  by_cases h : b ≤ a <;> simp [Scalar.select, IntOp.cmpi, BitVec.sle, toInt_small, ha, hb, h]

theorem select_sle {α : Type} (a b : ℕ) (ha : a < 256) (hb : b < 256) (x y : α) :
    Scalar.select (IntOp.cmpi .sle (BitVec.ofNat 32 a) (BitVec.ofNat 32 b)) x y = if a ≤ b then x else y := by
  by_cases h : a ≤ b <;> simp [Scalar.select, IntOp.cmpi, BitVec.sle, toInt_small, ha, hb, h]

theorem expand_at (h : ℕ) (hh : h ≤ 4) (c : _root_.Fin 128) (k : _root_.Fin 256) :
    expand (F := Ideal) (BitVec.ofNat 32 h) (ix2 c k) = if c.val = k.val / 64 + h then 1 else 0 := by
  pointwise [expand, fdiv_col, one, zero]
  rw [fdiv_col, IntOp.addi, ← BitVec.ofNat_add, select_eq _ _ (by omega) (by omega)]

theorem expandT_at (h : ℕ) (hh : h ≤ 4) (c : _root_.Fin 128) (k : _root_.Fin 256) :
    expandT (F := Ideal) (BitVec.ofNat 32 h) (ix2 k c) = if c.val = k.val / 64 + h then 1 else 0 := by
  pointwise [expandT, fdiv_colT, one, zero]
  rw [fdiv_colT, IntOp.addi, ← BitVec.ofNat_add, select_eq _ _ (by omega) (by omega)]

theorem rest_up {s : Shape} (f : s.Idx → ℝ) : rest (up f) = fun _ => (0 : EReal) := by
  funext j
  pointwise [rest]
  rw [← EReal.coe_sub, sub_self, EReal.coe_zero]

theorem rest_zero {s : Shape} : rest (F := Ideal) (s := s) (fun _ => (0 : EReal)) = fun _ => (0 : EReal) := by
  exact rest_up (s := s) fun _ => 0

/-- Of a split vector of real numbers only the first part is left. -/
theorem sel_up {s r : Shape} (mm : FVec Ideal s .bf16 → FVec Ideal r .f32) (f : s.Idx → ℝ)
    (h0 : mm (fun _ => (0 : EReal)) = fun _ => (0 : EReal)) : sel mm (up f) = mm (fun j => ((f j : ℝ) : EReal)) := by
  have e : truncf (F := Ideal) .bf16 (fun _ => (0 : EReal) : FVec Ideal s .f32) bitsLt_bf16_f32 = fun _ => (0 : EReal) := by
    rfl
  have e' : truncf (F := Ideal) .bf16 (up f) bitsLt_bf16_f32 = fun j => ((f j : ℝ) : EReal) := by
    rfl
  funext j
  unfold sel
  rw [rest_up, rest_zero, e, e', h0]
  pointwise []

/-- The head of a column. -/
def hd (h : ℕ) (hh : h ≤ 4) (k : _root_.Fin 256) : _root_.Fin 128 := ⟨k.val / 64 + h, by omega⟩

theorem sum_pick (h : ℕ) (hh : h ≤ 4) (k : _root_.Fin 256) (f : _root_.Fin 128 → EReal) :
    ∑ c, f c * (if c.val = k.val / 64 + h then (1 : EReal) else 0) = f (hd h hh k) := by
  rw [Finset.sum_eq_single (hd h hh k)]
  · simp [hd]
  · intro c _ hc
    have : ¬ c.val = k.val / 64 + h := fun e => hc (Fin.ext e)
    simp [this]
  · intro hn; exact absurd (Finset.mem_univ _) hn

theorem selE_up (h : ℕ) (hh : h ≤ 4) (f) : selE (BitVec.ofNat 32 h) (MN f) = MW fun i k => f i (hd h hh k) := by
  unfold selE
  refine (sel_up _ _ (funext fun j => by pointwise []; exact Finset.sum_eq_zero fun _ _ => zero_mul _)).trans ?_
  refine ext2 fun i k => ?_
  pointwise []
  exact (Fin.sum_fin_congr fun x => by rw [expand_at h hh]).trans (sum_pick h hh k fun c => ((f i c : ℝ) : EReal))

theorem selE8_up (h : ℕ) (hh : h ≤ 4) (f) : selE8 (BitVec.ofNat 32 h) (M8 f) = M8w fun k => f (hd h hh k) := by
  unfold selE8
  refine (sel_up _ _ (funext fun j => by pointwise []; exact Finset.sum_eq_zero fun _ _ => zero_mul _)).trans ?_
  refine ext2 fun i k => ?_
  pointwise []
  exact (Fin.sum_fin_congr fun x => by rw [expand_at h hh]).trans (sum_pick h hh k fun c => ((f c : ℝ) : EReal))

theorem mean_up (f) : mean (M8 f) = R f := by
  refine ext2 fun i k => ?_
  pointwise [mean]
  simp only [M8_at, R_at]
  rw [ofBits_eighth, coe_sum, ← EReal.coe_mul]
  congr 1
  simp
  ring

theorem meanw_up (f) : meanw (M8w f) = Rw f := by
  refine ext2 fun i k => ?_
  pointwise [meanw]
  simp only [M8w_at, Rw_at]
  rw [ofBits_eighth, coe_sum, ← EReal.coe_mul]
  congr 1
  simp
  ring

/-- The soft maximum of a number and zero. -/
def sp (x : ℝ) : ℝ := max x 0 + Real.log (1 + Real.exp (-|x|))

theorem log_pos (r : ℝ) (h : 0 < r) : Ideal.log (r : EReal) = ((Real.log r : ℝ) : EReal) := if_neg (not_le.mpr h)

theorem exp_coe (r : ℝ) : Ideal.exp (r : EReal) = ((Real.exp r : ℝ) : EReal) := rfl

theorem coe_max' (a b : ℝ) : max (a : EReal) (b : EReal) = ((max a b : ℝ) : EReal) :=
  (EReal.coe_strictMono.monotone.map_max).symm

theorem sp_coe (x : ℝ) : max (x : EReal) 0 + Ideal.log (1 + Ideal.exp (0 - max (x : EReal) (-(x : EReal)))) = ((sp x : ℝ) : EReal) := by
  rw [← EReal.coe_neg, coe_max', ← EReal.coe_zero, coe_max', ← EReal.coe_sub, exp_coe, ← EReal.coe_one, ← EReal.coe_add,
    log_pos _ (by positivity), ← EReal.coe_add, zero_sub]
  rfl

theorem dtv_up (d p) : dtv (MN d) (M8 p) = MN fun i k => sp (d i k + p k) := by
  refine ext2 fun i k => ?_
  unfold dtv
  rw [mean_up]
  pointwise [one, zero]
  simp only [MN_at, R_at, ← EReal.coe_add]
  exact sp_coe _

theorem rate_up (p) : rate (M8 p) = R fun k => - Real.exp (p k) := by
  refine ext2 fun i k => ?_
  unfold rate
  rw [mean_up]
  pointwise [zero]
  simp only [R_at, exp_coe]
  rw [← EReal.coe_zero, ← EReal.coe_sub, zero_sub]

theorem rate8_up (p) : rate8 (M8 p) = M8 fun k => - Real.exp (p k) := by
  refine ext2 fun i k => ?_
  unfold rate8
  rw [rate_up]
  pointwise []
  rfl

theorem af_up (h : ℕ) (hh : h ≤ 4) (dt p) :
    af (BitVec.ofNat 32 h) (MN dt) (M8 p) = MW fun i k => - Real.exp (p (hd h hh k)) * dt i (hd h hh k) := by
  refine ext2 fun i k => ?_
  unfold af
  rw [rate8_up, selE8_up h hh, selE_up h hh, meanw_up]
  pointwise []
  exact (EReal.coe_mul _ _).symm

/-- The sum of a column up to and with a row. -/
def cu (a : _root_.Fin 256 → ℝ) (i : _root_.Fin 256) : ℝ := ∑ u, if u.val ≤ i.val then a u else 0

theorem acum_up (a) : acum (MW a) = MW fun i k => cu (fun u => a u k) i := by
  unfold acum
  refine (sel_up _ _ (funext fun j => by pointwise []; exact Finset.sum_eq_zero fun _ _ => mul_zero _)).trans ?_
  refine ext2 fun i k => ?_
  pointwise [one, zero, rows, cols]
  refine (Fin.sum_fin_congr fun x => ?_).trans (coe_sum _ _)
  rw [select_sge _ _ i.isLt x.isLt]
  show (if x.val ≤ i.val then ((a x k : ℝ) : EReal) else 0) = ((if x.val ≤ i.val then a x k else 0 : ℝ) : EReal)
  split_ifs <;> simp

theorem alast_up (a) : alast (MW a) = Rw fun k => ∑ u, a u k := by
  refine ext2 fun i k => ?_
  pointwise [alast]
  exact coe_sum _ _

theorem mulNT_up (c b) : mulNT (MN c) (MN b) = MW fun i k => ∑ n, c i n * b k n := by
  refine ext2 fun i k => ?_
  pointwise [mulNT]
  exact (Fin.sum_fin_congr fun x => (EReal.coe_mul _ _).symm).trans (coe_sum _ _)

/-- The first column of a head. -/
def lo (r : ℕ) (hr : r < 4) : _root_.Fin 256 := ⟨64 * r, by omega⟩

theorem col_up (r : ℕ) (hr : r < 4) (v) : col (BitVec.ofNat 32 (64 * r)) (MW v) = C fun i => v i (lo r hr) := by
  refine ext2 fun i k => ?_
  pointwise [col, lane, zero]
  refine (Finset.sum_eq_single (lo r hr) (fun x _ hx => ?_) (fun hn => absurd (Finset.mem_univ _) hn)).trans ?_
  · rw [select_eq _ _ (by omega) (by omega)]
    exact if_neg fun e => hx (Fin.ext e)
  · rw [select_eq _ _ (by omega) (by omega)]
    exact if_pos rfl

/-- The masked decay between two rows. -/
def dec (a : _root_.Fin 256 → ℝ) (i s : _root_.Fin 256) : ℝ := if s.val ≤ i.val then Real.exp (cu a i - cu a s) else 0

theorem ofBits_bot : Ideal.ofBits .f32 0xFF800000#32 = ⊥ := by simp [Ideal.ofBits, Ideal.ieee]

theorem head_up (r : ℕ) (hr : r < 4) (cb a xdt) :
    head (BitVec.ofNat 32 (64 * r)) (MW cb) (MW a) (MW fun i k => cu (fun u => a u k) i) (MW xdt)
      = MW fun i k => ∑ s, cb i s * dec (fun u => a u (lo r hr)) i s * xdt s k := by
  refine ext2 fun i k => ?_
  unfold head
  rw [col_up r hr, col_up r hr]
  pointwise [rows, cols, zero]
  refine (Fin.sum_fin_congr fun x => ?_).trans (coe_sum _ _)
  have e : ∑ u : _root_.Fin 256, Scalar.select (IntOp.cmpi .sle (BitVec.ofNat 32 u.val) (BitVec.ofNat 32 x.val)) (C (fun i => a i (lo r hr)) (ix2 u 0)) (0 : EReal)
      = ((cu (fun u => a u (lo r hr)) x : ℝ) : EReal) := by
    refine (Fin.sum_fin_congr fun u => ?_).trans (coe_sum _ _)
    rw [select_sle _ _ u.isLt x.isLt, C_at]
    split_ifs <;> simp
  rw [select_sge _ _ i.isLt x.isLt, e]
  simp only [MW_at, C_at, ofBits_bot]
  show _ = ((cb i x * dec (fun u => a u (lo r hr)) i x * xdt x k : ℝ) : EReal)
  rw [EReal.coe_mul, EReal.coe_mul]
  unfold dec
  by_cases hx : x.val ≤ i.val
  · rw [if_pos hx, if_pos hx, ← EReal.coe_sub, exp_coe]
  · rw [if_neg hx, if_neg hx]
    rfl

theorem part_up (r : ℕ) (hr : r < 4) (y : FVec Ideal S256x256 .f32) (i k : _root_.Fin 256) :
    part (BitVec.ofNat 32 r) y (ix2 i k) = if k.val / 64 = r then y (ix2 i k) else 0 := by
  pointwise [part, zero]
  rw [fdiv_row, select_eq _ _ (by omega) (by omega)]

/-- The first column of a column's head. -/
def fl (k : _root_.Fin 256) : _root_.Fin 256 := ⟨64 * (k.val / 64), by omega⟩

theorem diag_up (cb a xdt) :
    diag (MW cb) (MW a) (MW fun i k => cu (fun u => a u k) i) (MW xdt)
      = MW fun i k => ∑ s, cb i s * dec (fun u => a u (fl k)) i s * xdt s k := by
  refine ext2 fun i k => ?_
  unfold diag
  have h0 := head_up 0 (by omega) cb a xdt
  have h1 := head_up 1 (by omega) cb a xdt
  have h2 := head_up 2 (by omega) cb a xdt
  have h3 := head_up 3 (by omega) cb a xdt
  norm_num at h0 h1 h2 h3
  rw [h0, h1, h2, h3]
  pointwise [zero]
  have q0 := part_up 0 (by omega)
  have q1 := part_up 1 (by omega)
  have q2 := part_up 2 (by omega)
  have q3 := part_up 3 (by omega)
  norm_num at q0 q1 q2 q3
  rw [part_up 1 (by omega), part_up 2 (by omega), part_up 3 (by omega), part_up 0 (by omega)]
  have hk : k.val / 64 < 4 := by omega
  obtain h | h | h | h : k.val / 64 = 0 ∨ k.val / 64 = 1 ∨ k.val / 64 = 2 ∨ k.val / 64 = 3 := by omega
  all_goals
    have hf : fl k = lo (k.val / 64) hk := rfl
    simp [h, MW_at, hf]

/-- The logarithms of the decays at a column, and the sums over a chunk of half a group. -/
def av (d : _root_.Fin 256 → _root_.Fin 128 → ℝ) (p0 p1 : _root_.Fin 128 → ℝ) (c : _root_.Fin 128) (u : _root_.Fin 256) : ℝ :=
  - Real.exp (p1 c) * sp (d u c + p0 c)

def yR (x : _root_.Fin 256 → _root_.Fin 256 → ℝ) (b c d : _root_.Fin 256 → _root_.Fin 128 → ℝ) (p0 p1 p2 : _root_.Fin 128 → ℝ)
    (s : _root_.Fin 256 → _root_.Fin 128 → ℝ) (q : _root_.Fin 128) (i k : _root_.Fin 256) : ℝ :=
  (∑ t, (∑ n, c i n * b t n) * dec (av d p0 p1 q) i t * (x t k * sp (d t q + p0 q))
    + (∑ n, c i n * s k n) * Real.exp (cu (av d p0 p1 q) i)) + p2 q * x i k

def sR (x : _root_.Fin 256 → _root_.Fin 256 → ℝ) (b d : _root_.Fin 256 → _root_.Fin 128 → ℝ) (p0 p1 : _root_.Fin 128 → ℝ)
    (s : _root_.Fin 256 → _root_.Fin 128 → ℝ) (q : _root_.Fin 128) (k : _root_.Fin 256) (n : _root_.Fin 128) : ℝ :=
  Real.exp (∑ u, av d p0 p1 q u) * s k n
    + ∑ t, (x t k * sp (d t q + p0 q)) * Real.exp ((∑ u, av d p0 p1 q u) - cu (av d p0 p1 q) t) * b t n

theorem mul_MW (f g) : mulf (MW f) (MW g) = MW fun i k => f i k * g i k := by
  refine ext2 fun i k => ?_
  pointwise []
  exact (EReal.coe_mul _ _).symm

theorem hd_fl (h : ℕ) (hh : h ≤ 4) (k : _root_.Fin 256) : hd h hh (fl k) = hd h hh k := by
  apply Fin.ext
  show 64 * (k.val / 64) / 64 + h = k.val / 64 + h
  omega

theorem yOut_up (h : ℕ) (hh : h ≤ 4) (x b c d p0 p1 p2 s) :
    yOut (BitVec.ofNat 32 h) (MW x) (MN b) (MN c) (MN d) (M8 p0) (M8 p1) (M8 p2) (MN s)
      = MW fun i k => yR x b c d p0 p1 p2 s (hd h hh k) i k := by
  refine ext2 fun i k => ?_
  unfold yOut
  rw [dtv_up, af_up h hh, acum_up, selE_up h hh, mulNT_up, mulNT_up, mul_MW, diag_up, selE8_up h hh, meanw_up]
  pointwise []
  simp only [MW_at, Rw_at, hd_fl, exp_coe, ← EReal.coe_mul, ← EReal.coe_add]
  rfl

theorem total_up (d p0 p1) : total (MN d) (M8 p0) (M8 p1) = M8 fun c => ∑ u, av d p0 p1 c u := by
  refine ext2 fun i k => ?_
  unfold total
  rw [dtv_up, rate_up]
  pointwise []
  exact (Fin.sum_fin_congr fun x => (EReal.coe_mul _ _).symm).trans (coe_sum _ _)

theorem sOut_up (h : ℕ) (hh : h ≤ 4) (x b d p0 p1 s) :
    sOut (BitVec.ofNat 32 h) (MW x) (MN b) (MN d) (M8 p0) (M8 p1) (MN s)
      = MN fun k n => sR x b d p0 p1 s (hd h hh k) k n := by
  refine ext2 fun k n => ?_
  unfold sOut
  rw [dtv_up, af_up h hh, acum_up, selE_up h hh, mul_MW, alast_up, total_up]
  have e : sel (fun p => matmul dot_S256x128_S8x128_S256x8_1_1_0_0_n_n none (truncf .bf16 (expandT (F := Ideal) (BitVec.ofNat 32 h)) bitsLt_bf16_f32) p
          (constant S256x8 .f32 0x00000000#32)) (M8 fun c => ∑ u, av d p0 p1 c u)
        = up fun j => ∑ u, av d p0 p1 (hd h hh (j 0)) u := by
    refine (sel_up _ _ (funext fun j => by pointwise []; exact Finset.sum_eq_zero fun _ _ => mul_zero _)).trans ?_
    refine ext2 fun i k => ?_
    pointwise []
    exact (Fin.sum_fin_congr fun x => by rw [expandT_at h hh, mul_comm]).trans (sum_pick h hh i fun c => ((∑ u, av d p0 p1 c u : ℝ) : EReal))
  rw [e]
  pointwise []
  have e8 : (∑ x : _root_.Fin 8, (up (s := S256x8) (fun j => ∑ u, av d p0 p1 (hd h hh (j 0)) u)) (ix2 k x)) * Ideal.ofBits .f32 0x3E000000#32
      = ((∑ u, av d p0 p1 (hd h hh k) u : ℝ) : EReal) := by
    show (∑ x : _root_.Fin 8, ((∑ u, av d p0 p1 (hd h hh k) u : ℝ) : EReal)) * _ = _
    rw [ofBits_eighth, coe_sum, ← EReal.coe_mul]
    congr 1
    simp
    ring
  rw [e8]
  simp only [MW_at, MN_at, Rw_at, exp_coe, ← EReal.coe_mul, ← EReal.coe_sub]
  rw [coe_sum, ← EReal.coe_add]
  rfl

end Cert.SsdChunk

end
-- ==== Proof.SsdFwdRun.lean ====
/- What each step of the forward scan leaves in the result and in the state. -/
module

public import proofs.«01_k».proof.Proof.SsdChunk

@[expose] public section

set_option maxRecDepth 16384

noncomputable section

namespace Cert.SsdFwd

open Idealize.ShloMosaic Idealize.SL.Sem Cert.SsdChunk Cert.SsdFwdKernelIdeal Cert.SsdFwdKernelIdeal.Gen

variable {F : FTy → Type} [FloatOps F]

/-- The boxes of a grid step: the groups and their halves, the newest store first. -/
def boxes : List (_root_.Fin 4 × _root_.Fin 2) := [(3, 1), (3, 0), (2, 1), (2, 0), (1, 1), (1, 0), (0, 1), (0, 0)]

theorem mem_boxes (p : _root_.Fin 4 × _root_.Fin 2) : p ∈ boxes := by revert p; decide

theorem inb_x (p : _root_.Fin 4 × _root_.Fin 2) (a) : (![0, 512 * p.1.val + 256 * p.2.val] : _root_.Fin 2 → ℕ) a + S256x256.size a ≤ S256x2048.size a := by
  revert a p; decide
theorem inb_b (g : _root_.Fin 4) (a) : (![0, 128 * g.val] : _root_.Fin 2 → ℕ) a + S256x128.size a ≤ S256x512.size a := by
  revert a g; decide
theorem inb_d (g : _root_.Fin 4) (a) : (![g.val, 0, 0] : _root_.Fin 3 → ℕ) a + S1x256x128.size a ≤ S4x256x128.size a := by
  revert a g; decide
theorem inb_p (g : _root_.Fin 4) (a) : (![g.val, 0, 0] : _root_.Fin 3 → ℕ) a + S1x8x128.size a ≤ S4x8x128.size a := by
  revert a g; decide
theorem inb_s (p : _root_.Fin 4 × _root_.Fin 2) (a) : (![p.1.val, p.2.val, 0, 0] : _root_.Fin 4 → ℕ) a + S1x1x256x128.size a ≤ S4x2x256x128.size a := by
  revert a p; decide

section
variable {sg : RefSig} (arg2 : Memref sg .tc .vmem S256x2048 .f32) (harg2 : arg2.IsWhole) (arg3 : Memref sg .tc .vmem S256x512 .f32) (harg3 : arg3.IsWhole)
  (arg4 : Memref sg .tc .vmem S256x512 .f32) (harg4 : arg4.IsWhole) (arg5 : Memref sg .tc .vmem S4x256x128 .f32) (harg5 : arg5.IsWhole)
  (arg6 : Memref sg .tc .vmem S4x8x128 .f32) (harg6 : arg6.IsWhole) (arg7 : Memref sg .tc .vmem S4x8x128 .f32) (harg7 : arg7.IsWhole)
  (arg8 : Memref sg .tc .vmem S4x8x128 .f32) (harg8 : arg8.IsWhole)
  (x0 : Vec F S256x2048 .f32) (x1 x2 : Vec F S256x512 .f32) (x3 : Vec F S4x256x128 .f32) (x4 x5 x6 : Vec F S4x8x128 .f32)
  (st : _root_.Fin 4 × _root_.Fin 2 → Vec F S1x1x256x128 .f32)

/-- The loads of a box. -/
def lx (p : _root_.Fin 4 × _root_.Fin 2) : FVec F S256x256 .f32 :=
  View.readAt (Elt F) arg2.view (Rect.unit (s := S256x2048) ![0, 512 * p.1.val + 256 * p.2.val] S256x256.size (inb_x p)).toLoadRect (harg2.unread x0)
def lb (g : _root_.Fin 4) : FVec F S256x128 .f32 :=
  View.readAt (Elt F) arg3.view (Rect.unit (s := S256x512) ![0, 128 * g.val] S256x128.size (inb_b g)).toLoadRect (harg3.unread x1)
def ldt (g : _root_.Fin 4) : FVec F S256x128 .f32 :=
  shapeCast S256x128 (View.readAt (Elt F) arg5.view (Rect.unit (s := S4x256x128) ![g.val, 0, 0] S1x256x128.size (inb_d g)).toLoadRect (harg5.unread x3)) shapeCasts_S1x256x128_S256x128
def lp (g : _root_.Fin 4) : FVec F S8x128 .f32 :=
  shapeCast S8x128 (View.readAt (Elt F) arg6.view (Rect.unit (s := S4x8x128) ![g.val, 0, 0] S1x8x128.size (inb_p g)).toLoadRect (harg6.unread x4)) shapeCasts_S1x8x128_S8x128
def ls (p : _root_.Fin 4 × _root_.Fin 2) : FVec F S256x128 .f32 := shapeCast S256x128 (st p) shapeCasts_S1x1x256x128_S256x128

/-- What a box stores in the result, and in the state. -/
def yPc (p : _root_.Fin 4 × _root_.Fin 2) : View.Piece (Elt F) S256x2048 .f32 :=
  ⟨Rect.unit ![0, 512 * p.1.val + 256 * p.2.val] ![256, 256] (inb_x p),
    yOut (BitVec.ofNat 32 (4 * p.2.val)) (lx arg2 harg2 x0 p) (lb arg3 harg3 x1 p.1) (lb arg4 harg4 x2 p.1) (ldt arg5 harg5 x3 p.1)
      (lp arg6 harg6 x4 p.1) (lp arg7 harg7 x5 p.1) (lp arg8 harg8 x6 p.1) (ls st p)⟩

def sPc (p : _root_.Fin 4 × _root_.Fin 2) : View.Piece (Elt F) S4x2x256x128 .f32 :=
  ⟨Rect.unit ![p.1.val, p.2.val, 0, 0] ![1, 1, 256, 128] (inb_s p),
    shapeCast S1x1x256x128 (sOut (BitVec.ofNat 32 (4 * p.2.val)) (lx arg2 harg2 x0 p) (lb arg3 harg3 x1 p.1) (ldt arg5 harg5 x3 p.1)
      (lp arg6 harg6 x4 p.1) (lp arg7 harg7 x5 p.1) (ls st p)) shapeCasts_S256x128_S1x1x256x128⟩

end

/-- The state that a box reads, at a later step and at the first. -/
def stB {sg : RefSig} (arg11 : Memref sg .tc .vmem S4x2x256x128 .f32) (harg11 : arg11.IsWhole) (xs0 : Vec F S4x2x256x128 .f32)
    (p : _root_.Fin 4 × _root_.Fin 2) : Vec F S1x1x256x128 .f32 :=
  View.readAt (Elt F) arg11.view (Rect.unit (s := S4x2x256x128) ![p.1.val, p.2.val, 0, 0] S1x1x256x128.size (inb_s p)).toLoadRect (harg11.unread xs0)

def stA {sg : RefSig} (arg11 : Memref sg .tc .vmem S4x2x256x128 .f32) (L : _root_.Fin 4 → List (View.Piece (Elt F) S4x2x256x128 .f32))
    (p : _root_.Fin 4 × _root_.Fin 2) : Vec F S1x1x256x128 .f32 :=
  arg11.view.readCov (L p.1) (Rect.unit (s := S4x2x256x128) ![p.1.val, p.2.val, 0, 0] S1x1x256x128.size (inb_s p)).toLoadRect

theorem yB (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S256x2048 .f32) (harg9 : arg9.IsWhole) (arg10 : Memref sig .tc .vmem S1x4x2x256x128 .f32) (harg10 : arg10.IsWhole) (arg11 : Memref sig .tc .vmem S4x2x256x128 .f32) (harg11 : arg11.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 xs0).1 = boxes.map (yPc arg2 harg2 arg3 harg3 arg4 harg4 arg5 harg5 arg6 harg6 arg7 harg7 arg8 harg8 x0 x1 x2 x3 x4 x5 x6 (stB arg11 harg11 xs0)) := rfl

theorem sB (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S256x2048 .f32) (harg9 : arg9.IsWhole) (arg10 : Memref sig .tc .vmem S1x4x2x256x128 .f32) (harg10 : arg10.IsWhole) (arg11 : Memref sig .tc .vmem S4x2x256x128 .f32) (harg11 : arg11.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1 = boxes.map (sPc arg2 harg2 arg3 harg3 arg5 harg5 arg6 harg6 arg7 harg7 x0 x1 x3 x4 x5 (stB arg11 harg11 xs0)) := rfl

theorem yA (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S256x2048 .f32) (harg9 : arg9.IsWhole) (arg10 : Memref sig .tc .vmem S1x4x2x256x128 .f32) (harg10 : arg10.IsWhole) (arg11 : Memref sig .tc .vmem S4x2x256x128 .f32) (harg11 : arg11.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6).1 = boxes.map (yPc arg2 harg2 arg3 harg3 arg4 harg4 arg5 harg5 arg6 harg6 arg7 harg7 arg8 harg8 x0 x1 x2 x3 x4 x5 x6 (stA arg11 ![kernelRun0_A.sl.HS0_1, kernelRun0_A.sl.HS0_3 c arg2 harg2 arg3 harg3 arg5 harg5 arg6 harg6 arg7 harg7 arg11 x0 x1 x3 x4 x5, kernelRun0_A.sl.HS0_5 c arg2 harg2 arg3 harg3 arg5 harg5 arg6 harg6 arg7 harg7 arg11 x0 x1 x3 x4 x5, kernelRun0_A.sl.HS0_7 c arg2 harg2 arg3 harg3 arg5 harg5 arg6 harg6 arg7 harg7 arg11 x0 x1 x3 x4 x5])) := rfl

theorem sA (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S256x2048 .f32) (harg9 : arg9.IsWhole) (arg10 : Memref sig .tc .vmem S1x4x2x256x128 .f32) (harg10 : arg10.IsWhole) (arg11 : Memref sig .tc .vmem S4x2x256x128 .f32) (harg11 : arg11.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6).2.2.1 = boxes.map (sPc arg2 harg2 arg3 harg3 arg5 harg5 arg6 harg6 arg7 harg7 x0 x1 x3 x4 x5 (stA arg11 ![kernelRun0_A.sl.HS0_1, kernelRun0_A.sl.HS0_3 c arg2 harg2 arg3 harg3 arg5 harg5 arg6 harg6 arg7 harg7 arg11 x0 x1 x3 x4 x5, kernelRun0_A.sl.HS0_5 c arg2 harg2 arg3 harg3 arg5 harg5 arg6 harg6 arg7 harg7 arg11 x0 x1 x3 x4 x5, kernelRun0_A.sl.HS0_7 c arg2 harg2 arg3 harg3 arg5 harg5 arg6 harg6 arg7 harg7 arg11 x0 x1 x3 x4 x5]))
      ++ [⟨Rect.unit ![0, 0, 0, 0] S4x2x256x128.size inb_S4x2x256x128_S4x2x256x128_0_0_0_0, k0_pay2⟩] := rfl

end Cert.SsdFwd

namespace Cert.SsdFwd

open Idealize.ShloMosaic Idealize.SL.Sem Cert.SsdChunk Cert.SsdFwdKernelIdeal Cert.SsdFwdKernelIdeal.Gen

abbrev Fn := _root_.Fin

/-- The columns of a box: its channels, its lane in the two matrices, and the position in the state. -/
def cx (p : Fn 4 × Fn 2) (k : Fn 256) : Fn 2048 := ⟨512 * p.1.val + 256 * p.2.val + k.val, by omega⟩
def cb (g : Fn 4) (n : Fn 128) : Fn 512 := ⟨128 * g.val + n.val, by omega⟩

theorem lx_up {sg : RefSig} (arg2 : Memref sg .tc .vmem S256x2048 .f32) (harg2 : arg2.IsWhole) (X : Fn 256 → Fn 2048 → ℝ) (p) :
    lx (F := Ideal) arg2 harg2 (up fun j => X (j 0) (j 1)) p = MW fun i k => X i (cx p k) := by
  unfold lx
  rw [View.readAt_eq_ld, Memref.IsWhole.read_unread]
  refine ext2 fun i k => ?_
  show ((X _ _ : ℝ) : EReal) = ((X _ _ : ℝ) : EReal)
  congr 2 <;> exact Fin.ext (by simp [cx, ix2, LoadRect.idx, Rect.toLoadRect])

theorem lb_up {sg : RefSig} (arg3 : Memref sg .tc .vmem S256x512 .f32) (harg3 : arg3.IsWhole) (X : Fn 256 → Fn 512 → ℝ) (g) :
    lb (F := Ideal) arg3 harg3 (up fun j => X (j 0) (j 1)) g = MN fun i k => X i (cb g k) := by
  unfold lb
  rw [View.readAt_eq_ld, Memref.IsWhole.read_unread]
  refine ext2 fun i k => ?_
  show ((X _ _ : ℝ) : EReal) = ((X _ _ : ℝ) : EReal)
  congr 2 <;> exact Fin.ext (by simp [cb, ix2, LoadRect.idx, Rect.toLoadRect])

theorem ldt_up {sg : RefSig} (arg5 : Memref sg .tc .vmem S4x256x128 .f32) (harg5 : arg5.IsWhole) (D : Fn 4 → Fn 256 → Fn 128 → ℝ) (g) :
    ldt (F := Ideal) arg5 harg5 (up fun j => D (j 0) (j 1) (j 2)) g = MN fun i k => D g i k := by
  unfold ldt
  rw [View.readAt_eq_ld, Memref.IsWhole.read_unread]
  refine ext2 fun i k => ?_
  refine (shapeCast_dropUnit_apply ![256, 128] _ _ _).trans ?_
  show ((D _ _ _ : ℝ) : EReal) = ((D _ _ _ : ℝ) : EReal)
  congr 2 <;> exact Fin.ext (by simp [ix2, LoadRect.idx, Rect.toLoadRect, Fin.cons]; try rfl)

theorem lp_up {sg : RefSig} (arg6 : Memref sg .tc .vmem S4x8x128 .f32) (harg6 : arg6.IsWhole) (P : Fn 4 → Fn 128 → ℝ) (g) :
    lp (F := Ideal) arg6 harg6 (up fun j => P (j 0) (j 2)) g = M8 fun k => P g k := by
  unfold lp
  rw [View.readAt_eq_ld, Memref.IsWhole.read_unread]
  refine ext2 fun i k => ?_
  refine (shapeCast_dropUnit_apply ![8, 128] _ _ _).trans ?_
  show ((P _ _ : ℝ) : EReal) = ((P _ _ : ℝ) : EReal)
  congr 2 <;> exact Fin.ext (by simp [ix2, LoadRect.idx, Rect.toLoadRect, Fin.cons]; try rfl)

def ix4 (a b : Fn 1) (i : Fn 256) (k : Fn 128) : S1x1x256x128.Idx := fun x => match x with
  | 0 => a | 1 => b | 2 => i | 3 => k

theorem shapeCast_at4 {α : Type} (v : S1x1x256x128.Idx → α) (i : Fn 256) (k : Fn 128) :
    shapeCast S256x128 v shapeCasts_S1x1x256x128_S256x128 (ix2 i k) = v (ix4 0 0 i k) := by
  refine shapeCast_apply _ _ _ _ ?_
  rw [Shape.rowMajor_val_four, Shape.rowMajor_val_two]
  simp [ix4, ix2]

theorem shapeCast_to4 {α : Type} (v : S256x128.Idx → α) (a b : Fn 1) (i : Fn 256) (k : Fn 128) :
    shapeCast S1x1x256x128 v shapeCasts_S256x128_S1x1x256x128 (ix4 a b i k) = v (ix2 i k) := by
  refine shapeCast_apply _ _ _ _ ?_
  rw [Shape.rowMajor_val_four, Shape.rowMajor_val_two]
  simp [ix4, ix2]

/-- The state of a step as a vector. -/
def stV (S : Fn 4 × Fn 2 → Fn 256 → Fn 128 → ℝ) : FVec Ideal S4x2x256x128 .f32 := up fun j => S (j 0, j 1) (j 2) (j 3)

theorem ls_stB {sg : RefSig} (arg11 : Memref sg .tc .vmem S4x2x256x128 .f32) (harg11 : arg11.IsWhole) (S) (p) :
    ls (F := Ideal) (stB arg11 harg11 (stV S)) p = MN (S p) := by
  unfold ls stB
  rw [View.readAt_eq_ld, Memref.IsWhole.read_unread]
  refine ext2 fun i k => ?_
  refine (shapeCast_at4 _ i k).trans ?_
  show ((S _ _ _ : ℝ) : EReal) = ((S _ _ _ : ℝ) : EReal)
  congr 2 <;> first | (simp [ix2, LoadRect.idx, Rect.toLoadRect]; rfl) | simp [ix2, LoadRect.idx, Rect.toLoadRect]

/-- The state before the first step. -/
theorem ls_stA {sg : RefSig} (arg11 : Memref sg .tc .vmem S4x2x256x128 .f32) (L : Fn 4 → List (View.Piece (Elt Ideal) S4x2x256x128 .f32)) (p)
    (hL : ∀ y : S4x2x256x128.Idx, y 0 = p.1 → View.canon (L p.1) y = 0) :
    ls (F := Ideal) (stA arg11 L) p = MN fun _ _ => 0 := by
  unfold ls stA
  rw [View.readCov_eq_canon']
  refine ext2 fun i k => ?_
  refine (shapeCast_at4 _ i k).trans ?_
  refine (hL _ ?_).trans EReal.coe_zero.symm
  exact Fin.ext (by simp [LoadRect.idx, Rect.toLoadRect])

def hb (b : Fn 2) (k : Fn 256) : Fn 128 := hd (4 * b.val) (by omega) k

/-- The result and the new state of a box, from the numbers of its step. -/
def yBox (X : Fn 256 → Fn 2048 → ℝ) (B Cm : Fn 256 → Fn 512 → ℝ) (D : Fn 4 → Fn 256 → Fn 128 → ℝ) (P0 P1 P2 : Fn 4 → Fn 128 → ℝ)
    (S : Fn 4 × Fn 2 → Fn 256 → Fn 128 → ℝ) (p : Fn 4 × Fn 2) (i k : Fn 256) : ℝ :=
  yR (fun i k => X i (cx p k)) (fun i n => B i (cb p.1 n)) (fun i n => Cm i (cb p.1 n)) (D p.1) (P0 p.1) (P1 p.1) (P2 p.1) (S p)
    (hb p.2 k) i k

def sBox (X : Fn 256 → Fn 2048 → ℝ) (B : Fn 256 → Fn 512 → ℝ) (D : Fn 4 → Fn 256 → Fn 128 → ℝ) (P0 P1 : Fn 4 → Fn 128 → ℝ)
    (S : Fn 4 × Fn 2 → Fn 256 → Fn 128 → ℝ) (p : Fn 4 × Fn 2) (k : Fn 256) (n : Fn 128) : ℝ :=
  sR (fun i k => X i (cx p k)) (fun i n => B i (cb p.1 n)) (D p.1) (P0 p.1) (P1 p.1) (S p) (hb p.2 k) k n

section
variable (arg2 : Memref sig .tc .vmem S256x2048 .f32) (harg2 : arg2.IsWhole) (arg3 : Memref sig .tc .vmem S256x512 .f32) (harg3 : arg3.IsWhole)
  (arg4 : Memref sig .tc .vmem S256x512 .f32) (harg4 : arg4.IsWhole) (arg5 : Memref sig .tc .vmem S4x256x128 .f32) (harg5 : arg5.IsWhole)
  (arg6 : Memref sig .tc .vmem S4x8x128 .f32) (harg6 : arg6.IsWhole) (arg7 : Memref sig .tc .vmem S4x8x128 .f32) (harg7 : arg7.IsWhole)
  (arg8 : Memref sig .tc .vmem S4x8x128 .f32) (harg8 : arg8.IsWhole)
  (X : Fn 256 → Fn 2048 → ℝ) (B Cm : Fn 256 → Fn 512 → ℝ) (D : Fn 4 → Fn 256 → Fn 128 → ℝ) (P0 P1 P2 : Fn 4 → Fn 128 → ℝ)
  (S : Fn 4 × Fn 2 → Fn 256 → Fn 128 → ℝ)
  (st : Fn 4 × Fn 2 → Vec Ideal S1x1x256x128 .f32) (hst : ∀ p, ls st p = MN (S p))

/-- The vectors of the step's numbers. -/
def vX : FVec Ideal S256x2048 .f32 := up fun j => X (j 0) (j 1)
def vB (B : Fn 256 → Fn 512 → ℝ) : FVec Ideal S256x512 .f32 := up fun j => B (j 0) (j 1)
def vD (D : Fn 4 → Fn 256 → Fn 128 → ℝ) : FVec Ideal S4x256x128 .f32 := up fun j => D (j 0) (j 1) (j 2)
def vP (P : Fn 4 → Fn 128 → ℝ) : FVec Ideal S4x8x128 .f32 := up fun j => P (j 0) (j 2)

/-- The box of an index. -/
def bx (c : Fn 2048) : Fn 4 × Fn 2 := (⟨c.val / 512, by omega⟩, ⟨c.val % 512 / 256, by omega⟩)
def bk (c : Fn 2048) : Fn 256 := ⟨c.val % 256, by omega⟩

theorem bx_cx (p k) : bx (cx p k) = p := by
  obtain ⟨g, h⟩ := p
  refine Prod.ext (Fin.ext ?_) (Fin.ext ?_) <;> simp only [bx, cx] <;> omega
theorem bk_cx (p k) : bk (cx p k) = k := by
  refine Fin.ext ?_
  simp only [bk, cx]; omega
theorem cx_bx (c) : cx (bx c) (bk c) = c := by
  refine Fin.ext ?_
  simp only [bx, bk, cx]; omega

include hst in
theorem canon_y (i : Fn 256) (c : Fn 2048) :
    View.canon (boxes.map (yPc arg2 harg2 arg3 harg3 arg4 harg4 arg5 harg5 arg6 harg6 arg7 harg7 arg8 harg8
      (vX X) (vB B) (vB Cm) (vD D) (vP P0) (vP P1) (vP P2) st)) (ix2 i c)
      = ((yBox X B Cm D P0 P1 P2 S (bx c) i (bk c) : ℝ) : EReal) := by
  refine View.canon_apply_of_pieces (Val := Elt Ideal) (e := .f32) (up fun j : S256x2048.Idx => yBox X B Cm D P0 P1 P2 S (bx (j 1)) (j 0) (bk (j 1))) _ ?_ _ ?_
  · intro q hq
    obtain ⟨p, -, rfl⟩ := List.mem_map.1 hq
    intro x
    have e : (yPc arg2 harg2 arg3 harg3 arg4 harg4 arg5 harg5 arg6 harg6 arg7 harg7 arg8 harg8
      (vX X) (vB B) (vB Cm) (vD D) (vP P0) (vP P1) (vP P2) st p).2 = MW fun i k => yBox X B Cm D P0 P1 P2 S p i k := by
      show yOut _ _ _ _ _ _ _ _ _ = _
      rw [vX, vB, vB, vD, vP, vP, vP, lx_up, lb_up, lb_up, ldt_up, lp_up, lp_up, lp_up, hst, yOut_up _ (by omega)]
      rfl
    rw [e]
    obtain ⟨i, k, rfl⟩ : ∃ (r k : Fn 256), x = ix2 r k := ⟨x 0, x 1, by ext a; fin_cases a <;> rfl⟩
    rw [MW_at]
    have e1 : ((yPc arg2 harg2 arg3 harg3 arg4 harg4 arg5 harg5 arg6 harg6 arg7 harg7 arg8 harg8
      (vX X) (vB B) (vB Cm) (vD D) (vP P0) (vP P1) (vP P2) st p).1.emb (ix2 i k)) = ix2 i (cx p k) := by
      refine funext fun a => Fin.ext ?_
      show _ + 1 * _ = _
      fin_cases a <;> simp [yPc, Rect.unit, ix2, cx]
    rw [e1]
    show _ = ((yBox X B Cm D P0 P1 P2 S (bx (cx p k)) i (bk (cx p k)) : ℝ) : EReal)
    rw [bx_cx, bk_cx]
  · refine ⟨_, List.mem_map_of_mem (mem_boxes (bx c)), ?_⟩
    rw [yPc, Rect.mem_set_unit]
    intro a
    have hc := c.isLt; have hi := i.isLt
    fin_cases a <;> simp [ix2, bx] <;> omega

include hst in
theorem canon_s (L : List (View.Piece (Elt Ideal) S4x2x256x128 .f32)) :
    View.canon (boxes.map (sPc arg2 harg2 arg3 harg3 arg5 harg5 arg6 harg6 arg7 harg7
      (vX X) (vB B) (vD D) (vP P0) (vP P1) st) ++ L) = stV (sBox X B D P0 P1 S) := by
  funext y
  have key : ∀ M : List (Fn 4 × Fn 2), (∃ p ∈ M, p = (y 0, y 1)) →
      View.canon (M.map (sPc arg2 harg2 arg3 harg3 arg5 harg5 arg6 harg6 arg7 harg7
      (vX X) (vB B) (vD D) (vP P0) (vP P1) st) ++ L) y = stV (sBox X B D P0 P1 S) y := by
    intro M
    induction M with
    | nil => rintro ⟨p, hp, -⟩; simp at hp
    | cons p M ih =>
      intro hp
      rw [List.map_cons, List.cons_append]
      by_cases h : p = (y 0, y 1)
      · have e : (sPc arg2 harg2 arg3 harg3 arg5 harg5 arg6 harg6 arg7 harg7
            (vX X) (vB B) (vD D) (vP P0) (vP P1) st p).2
            = shapeCast S1x1x256x128 (MN (sBox X B D P0 P1 S p)) shapeCasts_S256x128_S1x1x256x128 := by
          show shapeCast _ (sOut _ _ _ _ _ _ _) _ = _
          rw [vX, vB, vD, vP, vP, lx_up, lb_up, ldt_up, lp_up, lp_up, hst, sOut_up _ (by omega)]
          rfl
        have e1 : y = ((sPc arg2 harg2 arg3 harg3 arg5 harg5 arg6 harg6 arg7 harg7
            (vX X) (vB B) (vD D) (vP P0) (vP P1) st p).1.emb (ix4 0 0 (y 2) (y 3))) := by
          refine funext fun a => Fin.ext ?_
          show _ = _ + 1 * _
          subst h
          fin_cases a <;> simp [sPc, Rect.unit, ix4]
        refine (congrArg _ e1).trans ?_
        refine (View.canon_cons_emb (Val := Elt Ideal) (e := .f32) _ _ _ _).trans ?_
        refine (congrFun e _).trans ?_
        refine (shapeCast_to4 _ 0 0 (y 2) (y 3)).trans ?_
        subst h; rfl
      · rw [View.canon_cons_of_not_mem]
        · refine ih ?_
          obtain ⟨q, hq, hq'⟩ := hp
          rcases List.mem_cons.1 hq with rfl | hq
          · exact absurd hq' h
          · exact ⟨q, hq, hq'⟩
        · rw [sPc, Rect.mem_set_unit]
          intro hm
          refine h (Prod.ext (Fin.ext ?_) (Fin.ext ?_))
          · have := hm 0; simp at this; show p.1.val = (y 0).val; omega
          · have := hm 1; simp at this; show p.2.val = (y 1).val; omega
  exact key boxes ⟨_, mem_boxes _, rfl⟩

end

theorem zero_whole (y : S4x2x256x128.Idx) :
    View.canon (kernelRun0_A.sl.HS0_1 (F := Ideal)) y = 0 := by
  have e : (kernelRun0_A.sl.HS0_1 (F := Ideal)) = [(⟨Rect.unit ![0, 0, 0, 0] S4x2x256x128.size inb_S4x2x256x128_S4x2x256x128_0_0_0_0, (k0_pay2 (F := Ideal))⟩ : View.Piece (Elt Ideal) S4x2x256x128 .f32)] := rfl
  rw [e, View.canon_cons_unit_lit' _ _ _ (by decide)]
  pointwise [k0_pay2]

theorem canon_skip (L : List (View.Piece (Elt Ideal) S4x2x256x128 .f32)) (a b : ℕ) (inb inb') (v w) (y : S4x2x256x128.Idx)
    (h : (y 0).val ≠ a) :
    View.canon ((⟨Rect.unit ![a, 1, 0, 0] ![1, 1, 256, 128] inb, v⟩ : View.Piece (Elt Ideal) S4x2x256x128 .f32)
      :: ⟨Rect.unit ![a, 0, 0, 0] ![1, 1, 256, 128] inb', w⟩ :: L) y = View.canon L y := by
  rw [View.canon_cons_of_not_mem, View.canon_cons_of_not_mem] <;>
  · rw [Rect.mem_set_unit]
    intro hm
    have := hm 0
    simp at this
    omega

/-- Before the first step every box reads a state of zeros. -/
theorem first_zero (c : Dev nD) (arg2 : Memref sig .tc .vmem S256x2048 .f32) (harg2 : arg2.IsWhole) (arg3 : Memref sig .tc .vmem S256x512 .f32) (harg3 : arg3.IsWhole)
    (arg5 : Memref sig .tc .vmem S4x256x128 .f32) (harg5 : arg5.IsWhole) (arg6 : Memref sig .tc .vmem S4x8x128 .f32) (harg6 : arg6.IsWhole)
    (arg7 : Memref sig .tc .vmem S4x8x128 .f32) (harg7 : arg7.IsWhole) (arg11 : Memref sig .tc .vmem S4x2x256x128 .f32)
    (x0 : Vec Ideal S256x2048 .f32) (x1 : Vec Ideal S256x512 .f32) (x3 : Vec Ideal S4x256x128 .f32) (x4 x5 : Vec Ideal S4x8x128 .f32)
    (p : Fn 4 × Fn 2) :
    ls (F := Ideal) (stA arg11 ![kernelRun0_A.sl.HS0_1 (F := Ideal), kernelRun0_A.sl.HS0_3 c arg2 harg2 arg3 harg3 arg5 harg5 arg6 harg6 arg7 harg7 arg11 x0 x1 x3 x4 x5, kernelRun0_A.sl.HS0_5 c arg2 harg2 arg3 harg3 arg5 harg5 arg6 harg6 arg7 harg7 arg11 x0 x1 x3 x4 x5, kernelRun0_A.sl.HS0_7 c arg2 harg2 arg3 harg3 arg5 harg5 arg6 harg6 arg7 harg7 arg11 x0 x1 x3 x4 x5]) p = MN fun _ _ => 0 := by
  refine ls_stA _ _ _ fun y hy => ?_
  have hv : (y 0).val = p.1.val := congrArg Fin.val hy
  clear hy
  obtain ⟨g, b⟩ := p
  have h3 : ∀ y : S4x2x256x128.Idx, (y 0).val ≠ 0 → View.canon (kernelRun0_A.sl.HS0_3 c arg2 harg2 arg3 harg3 arg5 harg5 arg6 harg6 arg7 harg7 arg11 x0 x1 x3 x4 x5) y = 0 := fun y h =>
    (canon_skip (kernelRun0_A.sl.HS0_1 (F := Ideal)) 0 0 _ _ _ _ y h).trans (zero_whole y)
  have h5 : ∀ y : S4x2x256x128.Idx, (y 0).val ≠ 0 → (y 0).val ≠ 1 → View.canon (kernelRun0_A.sl.HS0_5 c arg2 harg2 arg3 harg3 arg5 harg5 arg6 harg6 arg7 harg7 arg11 x0 x1 x3 x4 x5) y = 0 := fun y h h' =>
    (canon_skip (kernelRun0_A.sl.HS0_3 c arg2 harg2 arg3 harg3 arg5 harg5 arg6 harg6 arg7 harg7 arg11 x0 x1 x3 x4 x5) 1 0 _ _ _ _ y h').trans (h3 y h)
  have h7 : ∀ y : S4x2x256x128.Idx, (y 0).val ≠ 0 → (y 0).val ≠ 1 → (y 0).val ≠ 2 → View.canon (kernelRun0_A.sl.HS0_7 c arg2 harg2 arg3 harg3 arg5 harg5 arg6 harg6 arg7 harg7 arg11 x0 x1 x3 x4 x5) y = 0 := fun y h h' h'' =>
    (canon_skip (kernelRun0_A.sl.HS0_5 c arg2 harg2 arg3 harg3 arg5 harg5 arg6 harg6 arg7 harg7 arg11 x0 x1 x3 x4 x5) 2 0 _ _ _ _ y h'').trans (h5 y h h')
  fin_cases g
  · exact zero_whole y
  · exact h3 y (by simp_all)
  · exact h5 y (by simp_all) (by simp_all)
  · exact h7 y (by simp_all) (by simp_all) (by simp_all)

section
variable (m : (ℓ : Loc nD τ sig) → Buf (Elt Ideal) ℓ) (c : Dev nD) (t : Fn cfg0.N)
  (X : Fn 256 → Fn 2048 → ℝ) (B Cm : Fn 256 → Fn 512 → ℝ) (D : Fn 4 → Fn 256 → Fn 128 → ℝ) (P0 P1 P2 : Fn 4 → Fn 128 → ℝ)
  (S : Fn 4 × Fn 2 → Fn 256 → Fn 128 → ℝ)
  (hX : (X0_0 m c t : Vec Ideal S256x2048 .f32) = vX X) (hB : (iblk m c 1 t : Vec Ideal S256x512 .f32) = vB B) (hC : (iblk m c 2 t : Vec Ideal S256x512 .f32) = vB Cm) (hD : (iblk m c 3 t : Vec Ideal S4x256x128 .f32) = vD D)
  (hP0 : (iblk m c 4 t : Vec Ideal S4x8x128 .f32) = vP P0) (hP1 : (iblk m c 5 t : Vec Ideal S4x8x128 .f32) = vP P1) (hP2 : (iblk m c 6 t : Vec Ideal S4x8x128 .f32) = vP P2)

include hX hB hC hD hP0 hP1 hP2

theorem y_first (h0 : t.val % 8 = 0) (i : Fn 256) (k : Fn 2048) :
    (outsAt0 m c t.val t.isLt).1 (ix2 i k) = ((yBox X B Cm D P0 P1 P2 (fun _ _ _ => 0) (bx k) i (bk k) : ℝ) : EReal) := by
  rw [outsAt0_A m c t h0]
  dsimp only
  unfold out0_A_7
  rw [View.read_writes_junk_eq_canon, yA, hX, hB, hC, hD, hP0, hP1, hP2]
  exact canon_y _ _ _ _ _ _ _ _ _ _ _ _ _ _ _ _ _ _ _ _ _ _ _ (first_zero _ _ _ _ _ _ _ _ _ _ _ _ _ _ _ _ _) i k

theorem s_first (h0 : t.val % 8 = 0) :
    (outsAt0 m c t.val t.isLt).2.2 = stV (sBox X B D P0 P1 (fun _ _ _ => 0)) := by
  rw [outsAt0_A m c t h0]
  dsimp only
  unfold sout0_A_0
  rw [View.read_writes_junk_eq_canon, sA, hX, hB, hD, hP0, hP1]
  exact canon_s _ _ _ _ _ _ _ _ _ _ _ _ _ _ _ _ _ (first_zero _ _ _ _ _ _ _ _ _ _ _ _ _ _ _ _ _) _

theorem y_next (h0 : ¬ t.val % 8 = 0) (hS : (outsAt0 m c (t.val - 1) (Nat.lt_of_le_of_lt (Nat.sub_le _ _) t.isLt)).2.2 = stV S)
    (i : Fn 256) (k : Fn 2048) :
    (outsAt0 m c t.val t.isLt).1 (ix2 i k) = ((yBox X B Cm D P0 P1 P2 S (bx k) i (bk k) : ℝ) : EReal) := by
  rw [outsAt0_B m c t h0]
  dsimp only
  unfold out0_B_7
  rw [View.read_writes_junk_eq_canon, yB, hX, hB, hC, hD, hP0, hP1, hP2, hS]
  exact canon_y _ _ _ _ _ _ _ _ _ _ _ _ _ _ _ _ _ _ _ _ _ _ _ (ls_stB _ _ _) i k

theorem s_next (h0 : ¬ t.val % 8 = 0) (hS : (outsAt0 m c (t.val - 1) (Nat.lt_of_le_of_lt (Nat.sub_le _ _) t.isLt)).2.2 = stV S) :
    (outsAt0 m c t.val t.isLt).2.2 = stV (sBox X B D P0 P1 S) := by
  rw [outsAt0_B m c t h0]
  dsimp only
  unfold sout0_B_0
  rw [View.read_writes_junk_eq_canon, sB, hX, hB, hD, hP0, hP1, hS, ← List.append_nil (List.map _ _)]
  exact canon_s _ _ _ _ _ _ _ _ _ _ _ _ _ _ _ _ _ (ls_stB _ _ _) _

end
end Cert.SsdFwd

end
-- ==== Proof.SsdFwdRef.lean ====
/- The reference of the forward scan over the real numbers. -/
module

public import proofs.«01_k».proof.Proof.SsdChunk
public import proofs.«01_k».proof.Proof.Gen.SsdFwdReferenceIdeal.Run

@[expose] public section

set_option maxRecDepth 16384

noncomputable section

namespace Cert.SsdFwdReferenceIdeal.Stage

open Idealize.ShloMosaic Idealize.SL.Sem Cert.SsdFwdReferenceIdeal Cert.SsdFwdReferenceIdeal.Gen Cert.SsdFwdReferenceIdeal.Facts

variable {F : FTy → Type} [FloatOps F]

/-- The time steps after the soft maximum, and the logarithms of the decays. -/
def dtE (d : FVec F S2048x32 .f32) (bias : FVec F S32 .f32) : FVec F S2048x32 .f32 :=
  let z := addf d (broadcastInDim S2048x32 ![0, 1] bcast_S1x32_S2048x32_0_1 (broadcastInDim S1x32 ![1] bcast_S32_S1x32_1 bias))
  let o : FVec F S2048x32 .f32 := broadcastInDim S2048x32 ![] bcast_S_S2048x32 (constant S_ .f32 0x00000000#32)
  select (cmpf .une (subf z o) (subf z o)) (addf z o) (addf (maximumf z o) (Host.log1p (Host.exp (Host.negf (Host.absf (subf z o))))))

def aE (d : FVec F S2048x32 .f32) (bias al : FVec F S32 .f32) : FVec F S2048x4x8 .f32 :=
  shapeCast _ (mulf (broadcastInDim S2048x32 ![0, 1] bcast_S1x32_S2048x32_0_1 (broadcastInDim S1x32 ![1] bcast_S32_S1x32_1 (Host.negf (Host.exp al))))
    (dtE d bias)) shapeCasts_S2048x32_S2048x4x8

/-- The sums up to each step. -/
def cumE (a : FVec F S2048x4x8 .f32) : FVec F S2048x4x8 .f32 :=
  Host.reduceWindowAdd ![2048, 1, 1] ![1, 1, 1] ![2047, 0, 0] ![0, 0, 0] a
    (broadcastInDim S_ ![] bcast_S_S_ (constant S_ .f32 0x00000000#32)) reduceWindows_S2048x4x8_S2048x4x8_w2048s1p2047_0_w1s1p0_0_w1s1p0_0 h_S_

def decE (u : FVec F S2048x4x8 .f32) : FVec F S2048x2048x4x8 .f32 :=
  Host.exp (select (broadcastInDim S2048x2048x4x8 ![0, 1, 2, 3] bcast_S2048x2048x1x1_S2048x2048x4x8_0_1_2_3
      (broadcastInDim S2048x2048x1x1 ![0, 1] bcast_S2048x2048_S2048x2048x1x1_0_1
        (cmpi .sge (broadcastInDim S2048x2048 ![0, 1] bcast_S2048x1_S2048x2048_0_1 (broadcastInDim S2048x1 ![0] bcast_S2048_S2048x1_0 (iotaInDim S2048 32 0)))
          (broadcastInDim S2048x2048 ![0, 1] bcast_S1x2048_S2048x2048_0_1 (broadcastInDim S1x2048 ![1] bcast_S2048_S1x2048_1 (iotaInDim S2048 32 0))))))
    (subf (broadcastInDim S2048x2048x4x8 ![0, 1, 2, 3] bcast_S2048x1x4x8_S2048x2048x4x8_0_1_2_3 (broadcastInDim S2048x1x4x8 ![0, 2, 3] bcast_S2048x4x8_S2048x1x4x8_0_2_3 u))
      (broadcastInDim S2048x2048x4x8 ![0, 1, 2, 3] bcast_S1x2048x4x8_S2048x2048x4x8_0_1_2_3 (broadcastInDim S1x2048x4x8 ![1, 2, 3] bcast_S2048x4x8_S1x2048x4x8_1_2_3 u)))
    (broadcastInDim S2048x2048x4x8 ![] bcast_S_S2048x2048x4x8 (id (constant S_ .f32 0xFF800000#32))))

/-- The products of the two matrices' rows. -/
def cbE (x : FVec F S2048x3072 .f32) : FVec F S2048x2048x4 .f32 :=
  transpose S2048x2048x4 [2, 1, 0] (Host.dotGeneral dot_S2048x4x128_S2048x4x128_S4x2048x2048_2_2_0_0_1_1 none
    (shapeCast _ (extractStridedSlice S2048x512 ![0, 2048] x slices_S2048x3072_S2048x512_0_2048) shapeCasts_S2048x512_S2048x4x128)
    (shapeCast _ (extractStridedSlice S2048x512 ![0, 2560] x slices_S2048x3072_S2048x512_0_2560) shapeCasts_S2048x512_S2048x4x128))
    transposes_S4x2048x2048_S2048x2048x4_2_1_0

def xsE (x : FVec F S2048x3072 .f32) : FVec F S2048x32x64 .f32 :=
  shapeCast _ (extractStridedSlice S2048x2048 ![0, 0] x slices_S2048x3072_S2048x2048_0_0) shapeCasts_S2048x2048_S2048x32x64

def xdE (x : FVec F S2048x3072 .f32) (dt : FVec F S2048x32 .f32) : FVec F S2048x4x8x64 .f32 :=
  shapeCast _ (mulf (xsE x) (broadcastInDim S2048x32x64 ![0, 1, 2] bcast_S2048x32x1_S2048x32x64_0_1_2
    (broadcastInDim S2048x32x1 ![0, 1] bcast_S2048x32_S2048x32x1_0_1 dt))) shapeCasts_S2048x32x64_S2048x4x8x64

def mixE (cb : FVec F S2048x2048x4 .f32) (de : FVec F S2048x2048x4x8 .f32) (xd : FVec F S2048x4x8x64 .f32) : FVec F S2048x32x64 .f32 :=
  shapeCast _ (transpose S2048x4x8x64 [3, 0, 1, 2] (Host.dotGeneral dot_S2048x4x8x64_S2048x2048x4x8_S4x8x64x2048_0_1_3_0_12_23 none xd
    (mulf (broadcastInDim S2048x2048x4x8 ![0, 1, 2, 3] bcast_S2048x2048x4x1_S2048x2048x4x8_0_1_2_3
      (broadcastInDim S2048x2048x4x1 ![0, 1, 2] bcast_S2048x2048x4_S2048x2048x4x1_0_1_2 cb)) de)) transposes_S4x8x64x2048_S2048x4x8x64_3_0_1_2)
    shapeCasts_S2048x4x8x64_S2048x32x64

def yE (x : FVec F S2048x3072 .f32) (d : FVec F S2048x32 .f32) (bias al dk : FVec F S32 .f32) : FVec F S2048x2048 .f32 :=
  shapeCast _ (addf (mixE (cbE x) (decE (cumE (aE d bias al))) (xdE x (dtE d bias)))
    (mulf (broadcastInDim S2048x32x64 ![0, 1, 2] bcast_S1x32x1_S2048x32x64_0_1_2 (broadcastInDim S1x32x1 ![1, 2] bcast_S32x1_S1x32x1_1_2
      (broadcastInDim S32x1 ![0] bcast_S32_S32x1_0 dk))) (xsE x))) shapeCasts_S2048x32x64_S2048x2048

theorem res_eq (m : (ℓ : Loc nD τ sig) → Buf (Elt F) ℓ) (c : Dev nD) :
    Value.res_out0 m c = yE (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

open Cert.SsdChunk (up sp)

section
variable (X : Fin 2048 → Fin 3072 → ℝ) (D : Fin 2048 → Fin 32 → ℝ) (P0 P1 P2 : Fin 32 → ℝ)

abbrev vx : FVec Ideal S2048x3072 .f32 := up fun j => X (j 0) (j 1)
abbrev vd : FVec Ideal S2048x32 .f32 := up fun j => D (j 0) (j 1)
abbrev vh (P : Fin 32 → ℝ) : FVec Ideal S32 .f32 := up fun j => P (j 0)

/-- The time step, and the logarithm of the decay, of a head. -/
def dt (l : Fin 2048) (h : Fin 32) : ℝ := sp (D l h + P0 h)
def al (l : Fin 2048) (h : Fin 32) : ℝ := - Real.exp (P1 h) * dt D P0 l h

theorem dtE_at (l : Fin 2048) (h : Fin 32) : dtE (vd D) (vh P0) (ix2 l h) = ((dt D P0 l h : ℝ) : EReal) := by
  pointwise [dtE]
  rw [if_neg (by simp)]
  show max (((D l h : ℝ) : EReal) + ((P0 h : ℝ) : EReal)) 0 + Ideal.log (1 + Ideal.exp (-(max (((D l h : ℝ) : EReal) + ((P0 h : ℝ) : EReal)) (-(((D l h : ℝ) : EReal) + ((P0 h : ℝ) : EReal)))))) = _
  rw [← EReal.coe_add, ← zero_sub (max _ _)]
  exact Cert.SsdChunk.sp_coe _

theorem aE_at (l : Fin 2048) (g : Fin 4) (r : Fin 8) :
    aE (vd D) (vh P0) (vh P1) (ix3 l g r) = ((al D P0 P1 l ⟨g.val * 8 + r.val, by omega⟩ : ℝ) : EReal) := by
  pointwise [aE]
  rw [dtE_at]
  show -((Real.exp _ : ℝ) : EReal) * _ = _
  rw [← EReal.coe_neg, ← EReal.coe_mul]
  rfl

theorem rowMajor_sum (f : (⟨3, ![2048, 1, 1]⟩ : Shape).Idx → EReal) :
    ∑ n : Fin (⟨3, ![2048, 1, 1]⟩ : Shape).numel, f ((⟨3, ![2048, 1, 1]⟩ : Shape).rowMajor.symm n) = ∑ u : Fin 2048, f (ix3 u 0 0) := by
  rw [Equiv.sum_comp (⟨3, ![2048, 1, 1]⟩ : Shape).rowMajor.symm f]
  refine (Finset.sum_bij (fun (u : Fin 2048) _ => (ix3 u 0 0 : (⟨3, ![2048, 1, 1]⟩ : Shape).Idx)) (fun _ _ => Finset.mem_univ _) (fun a _ b _ h => (congrFun h 0 : a = b)) (fun j _ => ⟨j 0, Finset.mem_univ _, ?_⟩)
    (fun _ _ => rfl)).symm
  funext a
  fin_cases a
  · rfl
  · exact (Subsingleton.elim (α := Fin 1) _ _)
  · exact (Subsingleton.elim (α := Fin 1) _ _)

theorem foldl_add {ι : Type} (L : List ι) (f : ι → EReal) (z : EReal) : L.foldl (fun r n => r + f n) z = z + (L.map f).sum := by
  induction L generalizing z with
  | nil => simp
  | cons a L ih => simp [ih, add_assoc]

theorem cumE_at (u : FVec Ideal S2048x4x8 .f32) (l : Fin 2048) (g : Fin 4) (r : Fin 8) :
    cumE u (ix3 l g r) = ∑ w : Fin 2048, if w.val ≤ l.val then u (ix3 w g r) else 0 := by
  have e0 : (broadcastInDim S_ ![] bcast_S_S_ (constant S_ .f32 0x00000000#32) : FVec Ideal S_ .f32) (Shape.Idx.first h_S_) = 0 := by
    exact Ideal.ofBits_zero .f32
  show (List.finRange _).foldl _ _ = _
  dsimp only
  rw [e0]
  refine (foldl_add _ _ _).trans ?_
  rw [zero_add, ← List.ofFn_eq_map, List.sum_ofFn]
  refine (Finset.sum_congr rfl fun n _ => ?_).trans ((rowMajor_sum fun q => if h : 2047 ≤ l.val + (q 0).val ∧ l.val + (q 0).val - 2047 < 2048 then u (ix3 ⟨l.val + (q 0).val - 2047, h.2⟩ g r) else 0).trans ?_)
  · let q : (⟨3, ![2048, 1, 1]⟩ : Shape).Idx := (⟨3, ![2048, 1, 1]⟩ : Shape).rowMajor.symm n
    have q1 : (q 1).val = 0 := Nat.lt_one_iff.mp (q 1).isLt
    have q2 : (q 2).val = 0 := Nat.lt_one_iff.mp (q 2).isLt
    by_cases h : 2047 ≤ l.val + (q 0).val ∧ l.val + (q 0).val - 2047 < 2048
    · rw [dif_pos h, dif_pos]
      · congr 1
        funext a
        fin_cases a
        · exact Fin.ext (by simp)
        · exact Fin.ext (by simp [q1])
        · exact Fin.ext (by simp [q2])
      · intro a
        fin_cases a
        · simpa using h
        · simp [q1]
        · simp [q2]
    · rw [dif_neg h, dif_neg]
      intro hin
      exact h (by simpa using hin 0)
  · rw [← Equiv.sum_comp (Equiv.addRight (l + 1)) fun w : Fin 2048 => if w.val ≤ l.val then u (ix3 w g r) else 0]
    refine Finset.sum_congr rfl fun w _ => ?_
    have e : (Equiv.addRight (l + 1) w).val = (w.val + (l.val + 1) % 2048) % 2048 := by
      simp [Fin.val_add]; omega
    have hl := l.isLt
    have hw := w.isLt
    change (if h : 2047 ≤ l.val + w.val ∧ l.val + w.val - 2047 < 2048 then u (ix3 ⟨l.val + w.val - 2047, h.2⟩ g r) else 0) = _
    by_cases h : 2047 ≤ l.val + w.val ∧ l.val + w.val - 2047 < 2048
    · rw [dif_pos h, if_pos (by omega)]
      congr 2
      exact Fin.ext (by rw [e]; dsimp only; omega)
    · rw [dif_neg h, if_neg (by omega)]

/-- The sum of the logarithms up to a step. -/
def cumR (h : Fin 32) (l : Fin 2048) : ℝ := ∑ w : Fin 2048, if w.val ≤ l.val then al D P0 P1 w h else 0

theorem cumE_up (l : Fin 2048) (g : Fin 4) (r : Fin 8) :
    cumE (aE (vd D) (vh P0) (vh P1)) (ix3 l g r) = ((cumR D P0 P1 ⟨g.val * 8 + r.val, by omega⟩ l : ℝ) : EReal) := by
  rw [cumE_at, cumR, ← Cert.SsdChunk.coe_sum]
  refine Finset.sum_congr rfl fun w _ => ?_
  split
  · exact aE_at D P0 P1 w g r
  · exact EReal.coe_zero.symm

theorem toInt_small (a : ℕ) (ha : a < 2048) : (BitVec.ofNat 32 a).toInt = a := by
  rw [BitVec.toInt_eq_toNat_of_lt] <;> simp only [BitVec.toNat_ofNat] <;> omega

theorem select_sge {α : Type} (a b : ℕ) (ha : a < 2048) (hb : b < 2048) (x y : α) :
    Scalar.select (IntOp.cmpi .sge (BitVec.ofNat 32 a) (BitVec.ofNat 32 b)) x y = if b ≤ a then x else y := by
  by_cases h : b ≤ a <;> simp [Scalar.select, IntOp.cmpi, BitVec.sle, toInt_small, ha, hb, h]

/-- The decay between two steps. -/
def decR (h : Fin 32) (l s : Fin 2048) : ℝ := if s.val ≤ l.val then Real.exp (cumR D P0 P1 h l - cumR D P0 P1 h s) else 0

theorem decE_at (l s : Fin 2048) (g : Fin 4) (r : Fin 8) :
    decE (cumE (aE (vd D) (vh P0) (vh P1))) (ix4 l s g r) = ((decR D P0 P1 ⟨g.val * 8 + r.val, by omega⟩ l s : ℝ) : EReal) := by
  pointwise [decE]
  rw [cumE_up, cumE_up]
  rw [select_sge _ _ l.isLt s.isLt]
  unfold decR
  by_cases h : s.val ≤ l.val
  · rw [if_pos h, if_pos h]
    show Ideal.exp ((_ : EReal) - _) = _
    rw [← EReal.coe_sub]
    rfl
  · rw [if_neg h, if_neg h]
    show Ideal.exp (Ideal.ofBits .f32 0xFF800000#32) = _
    rw [Cert.SsdChunk.ofBits_bot]
    exact EReal.coe_zero.symm

theorem cbE_at (l s : Fin 2048) (g : Fin 4) : cbE (vx X) (ix3 l s g)
    = ((∑ n : Fin 128, X s ⟨2048 + (g.val * 128 + n.val), by omega⟩ * X l ⟨2560 + (g.val * 128 + n.val), by omega⟩ : ℝ) : EReal) := by
  pointwise [cbE]
  simp only [up, ← EReal.coe_mul]
  exact Cert.SsdChunk.coe_sum _ _

theorem xdE_at (l : Fin 2048) (g : Fin 4) (r : Fin 8) (p : Fin 64) : xdE (vx X) (dtE (vd D) (vh P0)) (ix4 l g r p)
    = ((X l ⟨(g.val * 8 + r.val) * 64 + p.val, by omega⟩ * dt D P0 l ⟨g.val * 8 + r.val, by omega⟩ : ℝ) : EReal) := by
  pointwise [xdE, xsE]
  rw [dtE_at, EReal.coe_mul]
  rfl

/-- The result at a step and a channel, as a sum over all steps. -/
def yS (l k : Fin 2048) : ℝ :=
  (∑ s : Fin 2048, (X s ⟨k.val, by omega⟩ * dt D P0 s ⟨k.val / 64, by omega⟩) *
    ((∑ n : Fin 128, X s ⟨2048 + (k.val / 512 * 128 + n.val), by omega⟩ * X l ⟨2560 + (k.val / 512 * 128 + n.val), by omega⟩) *
      decR D P0 P1 ⟨k.val / 64, by omega⟩ l s)) + P2 ⟨k.val / 64, by omega⟩ * X l ⟨k.val, by omega⟩

theorem yE_at (l k : Fin 2048) : yE (vx X) (vd D) (vh P0) (vh P1) (vh P2) (ix2 l k) = ((yS X D P0 P1 P2 l k : ℝ) : EReal) := by
  pointwise [yE, mixE, xsE]
  simp only [decE_at, cbE_at, xdE_at, ← EReal.coe_mul, up]
  rw [Cert.SsdChunk.coe_sum, ← EReal.coe_add]
  congr 1
  unfold yS
  have e0 : (⟨(k.val / 64 / 8 * 8 + k.val / 64 % 8), by omega⟩ : Fin 32) = ⟨k.val / 64, by omega⟩ := Fin.ext (by dsimp only; omega)
  have e1 : (⟨(k.val / 64 / 8 * 8 + k.val / 64 % 8) * 64 + k.val % 64, by omega⟩ : Fin 3072) = ⟨k.val, by omega⟩ := Fin.ext (by dsimp only; omega)
  have e2 : k.val / 64 / 8 = k.val / 512 := by omega
  refine congrArg₂ (· + ·) (Finset.sum_congr rfl fun s _ => ?_) rfl
  rw [e1, e0]
  simp only [e2]
end

/-- The decays from a step to the one before every 256th. -/
def dec0E (u a : FVec F S2048x4x8 .f32) : FVec F S8x2048x4x8 .f32 :=
  Host.exp (select (broadcastInDim S8x2048x4x8 ![0, 1, 2, 3] bcast_S8x2048x1x1_S8x2048x4x8_0_1_2_3
      (broadcastInDim S8x2048x1x1 ![0, 1] bcast_S8x2048_S8x2048x1x1_0_1
        (cmpi .sgt (broadcastInDim S8x2048 ![0, 1] bcast_S8x1_S8x2048_0_1 (extractStridedSlice S8x1 ![0, 0] (shapeCast _ (iotaInDim S2048 32 0) shapeCasts_S2048_S8x256) slices_S8x256_S8x1_0_0))
          (broadcastInDim S8x2048 ![0, 1] bcast_S1x2048_S8x2048_0_1 (broadcastInDim S1x2048 ![1] bcast_S2048_S1x2048_1 (iotaInDim S2048 32 0))))))
    (subf (broadcastInDim S8x2048x4x8 ![0, 1, 2, 3] bcast_S8x1x4x8_S8x2048x4x8_0_1_2_3
        (extractStridedSlice S8x1x4x8 ![0, 0, 0, 0] (shapeCast _ (subf u a) shapeCasts_S2048x4x8_S8x256x4x8) slices_S8x256x4x8_S8x1x4x8_0_0_0_0))
      (broadcastInDim S8x2048x4x8 ![0, 1, 2, 3] bcast_S1x2048x4x8_S8x2048x4x8_0_1_2_3 (broadcastInDim S1x2048x4x8 ![1, 2, 3] bcast_S2048x4x8_S1x2048x4x8_1_2_3 u)))
    (broadcastInDim S8x2048x4x8 ![] bcast_S_S8x2048x4x8 (id (constant S_ .f32 0xFF800000#32))))

/-- The states, with a head's channels apart. -/
def stP (x : FVec F S2048x3072 .f32) (de : FVec F S8x2048x4x8 .f32) (xd : FVec F S2048x4x8x64 .f32) : FVec F S8x4x8x64x128 .f32 :=
  transpose S8x4x8x64x128 [2, 0, 3, 4, 1] (Host.dotGeneral dot_S2048x4x128_S8x2048x4x8x64_S4x128x8x8x64_0_1_2_034_1_2 none
    (shapeCast _ (extractStridedSlice S2048x512 ![0, 2048] x slices_S2048x3072_S2048x512_0_2048) shapeCasts_S2048x512_S2048x4x128)
    (mulf (broadcastInDim S8x2048x4x8x64 ![0, 1, 2, 3, 4] bcast_S8x2048x4x8x1_S8x2048x4x8x64_0_1_2_3_4
        (broadcastInDim S8x2048x4x8x1 ![0, 1, 2, 3] bcast_S8x2048x4x8_S8x2048x4x8x1_0_1_2_3 de))
      (broadcastInDim S8x2048x4x8x64 ![0, 1, 2, 3, 4] bcast_S1x2048x4x8x64_S8x2048x4x8x64_0_1_2_3_4
        (broadcastInDim S1x2048x4x8x64 ![1, 2, 3, 4] bcast_S2048x4x8x64_S1x2048x4x8x64_1_2_3_4 xd))))
    transposes_S4x128x8x8x64_S8x4x8x64x128_2_0_3_4_1

def stE (x : FVec F S2048x3072 .f32) (d : FVec F S2048x32 .f32) (bias al : FVec F S32 .f32) : FVec F S8x4x2x256x128 .f32 :=
  shapeCast _ (stP x (dec0E (cumE (aE d bias al)) (aE d bias al)) (xdE x (dtE d bias))) shapeCasts_S8x4x8x64x128_S8x4x2x256x128

theorem res_states (m : (ℓ : Loc nD τ sig) → Buf (Elt F) ℓ) (c : Dev nD) :
    Value.res_out1 m c = stE (m ((c.tc : Thread nD τ).loc main_arg0)) (m ((c.tc : Thread nD τ).loc main_arg1)) (m ((c.tc : Thread nD τ).loc main_arg2))
      (m ((c.tc : Thread nD τ).loc main_arg3)) := rfl

theorem select_sgt {α : Type} (a b : ℕ) (ha : a < 2048) (hb : b < 2048) (x y : α) :
    Scalar.select (IntOp.cmpi .sgt (BitVec.ofNat 32 a) (BitVec.ofNat 32 b)) x y = if b < a then x else y := by
  by_cases h : b < a <;> simp [Scalar.select, IntOp.cmpi, BitVec.slt, toInt_small, ha, hb, h]

section
variable (X : Fin 2048 → Fin 3072 → ℝ) (D : Fin 2048 → Fin 32 → ℝ) (P0 P1 : Fin 32 → ℝ)

/-- The decay from a step to the one before a chunk. -/
def decS (h : Fin 32) (c : Fin 8) (s : Fin 2048) : ℝ :=
  if s.val < 256 * c.val then Real.exp (cumR D P0 P1 h ⟨256 * c.val, by omega⟩ - al D P0 P1 ⟨256 * c.val, by omega⟩ h - cumR D P0 P1 h s) else 0

theorem dec0E_at (c : Fin 8) (s : Fin 2048) (g : Fin 4) (r : Fin 8) :
    dec0E (cumE (aE (vd D) (vh P0) (vh P1))) (aE (vd D) (vh P0) (vh P1)) (ix4 c s g r) = ((decS D P0 P1 ⟨g.val * 8 + r.val, by omega⟩ c s : ℝ) : EReal) := by
  pointwise [dec0E]
  have e : (⟨c.val * 256, by omega⟩ : Fin 2048) = ⟨256 * c.val, by omega⟩ := Fin.ext (Nat.mul_comm _ _)
  rw [cumE_up, cumE_up, aE_at, select_sgt _ _ (by omega) s.isLt, e, Nat.mul_comm]
  unfold decS
  by_cases h : s.val < 256 * c.val
  · rw [if_pos h, if_pos h, ← EReal.coe_sub, ← EReal.coe_sub]
    rfl
  · rw [if_neg h, if_neg h]
    show Ideal.exp (Ideal.ofBits .f32 0xFF800000#32) = _
    rw [Cert.SsdChunk.ofBits_bot]
    exact EReal.coe_zero.symm

theorem stE_at (c : Fin 8) (a : Fin 4) (b : Fin 2) (k : Fin 256) (n : Fin 128) (j : Fin 2048) (h : Fin 32) (hj : j.val = a.val * 512 + b.val * 256 + k.val)
    (hh : h.val = j.val / 64) :
    stE (vx X) (vd D) (vh P0) (vh P1) (ix5 c a b k n)
      = ((∑ s : Fin 2048, decS D P0 P1 h c s * (X s ⟨j.val, by omega⟩ * dt D P0 s h) * X s ⟨2048 + (a.val * 128 + n.val), by omega⟩ : ℝ) : EReal) := by
  pointwise [stE, stP]
  have e0 : (⟨a.val * 8 + (b.val * 4 + k.val / 64), by omega⟩ : Fin 32) = h := Fin.ext (by dsimp only; omega)
  have e1 : (⟨(a.val * 8 + (b.val * 4 + k.val / 64)) * 64 + k.val % 64, by omega⟩ : Fin 3072) = ⟨j.val, by omega⟩ := Fin.ext (by dsimp only; omega)
  rw [← Cert.SsdChunk.coe_sum]
  refine Finset.sum_congr rfl fun s _ => ?_
  have ed := (dec0E_at D P0 P1 c s a ⟨b.val * 4 + k.val / 64, by omega⟩).trans (congrArg (fun q => ((decS D P0 P1 q c s : ℝ) : EReal)) e0)
  have ex := (xdE_at X D P0 s a ⟨b.val * 4 + k.val / 64, by omega⟩ ⟨k.val % 64, by omega⟩).trans
    (congrArg₂ (fun q q' => ((X s q * dt D P0 s q' : ℝ) : EReal)) e1 e0)
  refine (congrArg₂ (fun u v : EReal => ((X s ⟨2048 + (a.val * 128 + n.val), by omega⟩ : ℝ) : EReal) * (u * v)) ed ex).trans ?_
  rw [← EReal.coe_mul, ← EReal.coe_mul, mul_comm]
end
end Cert.SsdFwdReferenceIdeal.Stage

end
-- ==== Proof.SsdSum.lean ====
/- The recurrence over chunks of steps, and the sum over all steps. -/
module

public import Idealize.ShloMosaic.Lib.Pipeline.ValueKit
public import Idealize.ShloMosaic.Lib.Pointwise

@[expose] public section

noncomputable section

namespace Cert.SsdSum

/-- The sum of the logarithms of the decays up to and with step `t`. -/
def cum (a : ℕ → ℝ) (t : ℕ) : ℝ := ∑ u ∈ Finset.range (t + 1), a u

/-- The state before chunk `c`, as the recurrence over the chunks of `q` steps leaves it. -/
def state (q : ℕ) (a x b : ℕ → ℝ) : ℕ → ℝ
  | 0 => 0
  | c + 1 => Real.exp (∑ u ∈ Finset.range q, a (q * c + u)) * state q a x b c
      + ∑ s ∈ Finset.range q, x (q * c + s)
          * Real.exp ((∑ u ∈ Finset.range q, a (q * c + u)) - cum (fun u => a (q * c + u)) s) * b (q * c + s)

theorem cum_add (a : ℕ → ℝ) (m s : ℕ) :
    cum a (m + s) = (∑ u ∈ Finset.range m, a u) + cum (fun u => a (m + u)) s := by
  unfold cum
  rw [add_assoc, Finset.sum_range_add]

/-- The state before chunk `c` in closed form. -/
theorem state_eq (q : ℕ) (a x b : ℕ → ℝ) (c : ℕ) :
    state q a x b c = ∑ s ∈ Finset.range (q * c),
      Real.exp ((∑ u ∈ Finset.range (q * c), a u) - cum a s) * x s * b s := by
  induction c with
  | zero => simp [state]
  | succ c ih =>
    rw [state, ih, Nat.mul_succ, Finset.sum_range_add, Finset.sum_range_add, Finset.mul_sum]
    congr 1
    · refine Finset.sum_congr rfl fun s _ => ?_
      rw [← mul_assoc, ← mul_assoc, ← Real.exp_add]
      congr 3
      ring
    · refine Finset.sum_congr rfl fun s _ => ?_
      rw [cum_add, add_sub_add_left_eq_sub]
      ring

/-- One row of the scan: the masked sum over its own chunk and the state's part are the masked sum over all steps. -/
theorem row_eq {ι : Type} [Fintype ι] (q m : ℕ) (a x : ℕ → ℝ) (cm bm : ℕ → ι → ℝ) (c t : ℕ) (hc : c < m) (ht : t < q) :
    (∑ s ∈ Finset.range q, (∑ n, cm (q * c + t) n * bm (q * c + s) n)
        * (if s ≤ t then Real.exp (cum (fun u => a (q * c + u)) t - cum (fun u => a (q * c + u)) s) else 0) * x (q * c + s))
      + (∑ n, cm (q * c + t) n * state q a x (fun s => bm s n) c) * Real.exp (cum (fun u => a (q * c + u)) t)
    = ∑ s ∈ Finset.range (q * m), (∑ n, cm (q * c + t) n * bm s n)
        * (if s ≤ q * c + t then Real.exp (cum a (q * c + t) - cum a s) else 0) * x s := by
  obtain ⟨d, rfl⟩ : ∃ d, m = c + 1 + d := ⟨m - (c + 1), by omega⟩
  rw [show q * (c + 1 + d) = q * c + (q + q * d) by ring, Finset.sum_range_add, Finset.sum_range_add, add_comm]
  have h0 : ∑ s ∈ Finset.range (q * d), (∑ n, cm (q * c + t) n * bm (q * c + (q + s)) n)
        * (if q * c + (q + s) ≤ q * c + t then Real.exp (cum a (q * c + t) - cum a (q * c + (q + s))) else 0) * x (q * c + (q + s)) = 0 :=
    Finset.sum_eq_zero fun s _ => by rw [if_neg (by omega), mul_zero, zero_mul]
  rw [h0, add_zero]
  congr 1
  · simp only [state_eq, Finset.mul_sum, Finset.sum_mul]
    rw [Finset.sum_comm]
    refine Finset.sum_congr rfl fun s hs => Finset.sum_congr rfl fun n _ => ?_
    rw [if_pos (by have := Finset.mem_range.mp hs; omega), cum_add,
      show (∑ u ∈ Finset.range (q * c), a u) + cum (fun u => a (q * c + u)) t - cum a s
        = ((∑ u ∈ Finset.range (q * c), a u) - cum a s) + cum (fun u => a (q * c + u)) t by ring, Real.exp_add]
    ring
  · refine Finset.sum_congr rfl fun s _ => ?_
    rw [cum_add, cum_add, add_sub_add_left_eq_sub]
    simp only [add_le_add_iff_left]

/-- The gradient of the state before chunk `c`, of `m` chunks of `q` steps, from the gradients of the results at the later steps. -/
def grad (q m : ℕ) (a y b : ℕ → ℝ) (c : ℕ) : ℝ :=
  ∑ l ∈ Finset.range (q * (m - c)), Real.exp (cum a (q * c + l) - ∑ u ∈ Finset.range (q * c), a u) * y (q * c + l) * b (q * c + l)

/-- One chunk of the recurrence that runs backwards. -/
theorem grad_step (q m : ℕ) (a y b : ℕ → ℝ) (c : ℕ) (hc : c < m) :
    Real.exp (∑ u ∈ Finset.range q, a (q * c + u)) * grad q m a y b (c + 1)
      + ∑ t ∈ Finset.range q, y (q * c + t) * Real.exp (cum (fun u => a (q * c + u)) t) * b (q * c + t) = grad q m a y b c := by
  unfold grad
  rw [show m - c = (m - (c + 1)) + 1 by omega, Nat.mul_succ q (m - (c + 1)), add_comm (q * (m - (c + 1))) q, Finset.sum_range_add, Finset.mul_sum, add_comm]
  congr 1
  · refine Finset.sum_congr rfl fun t _ => ?_
    rw [cum_add, add_sub_cancel_left]
    ring
  · refine Finset.sum_congr rfl fun l _ => ?_
    rw [Nat.mul_succ, Finset.sum_range_add, add_assoc, ← mul_assoc, ← mul_assoc, ← Real.exp_add]
    congr 3
    ring

/-- One row of the scan that runs backwards. -/
theorem back_row {ι : Type} [Fintype ι] (q m : ℕ) (a y : ℕ → ℝ) (cm bm : ℕ → ι → ℝ) (c s : ℕ) (hc : c < m) (hs : s < q) :
    (∑ n, bm (q * c + s) n * grad q m a y (fun l => cm l n) (c + 1))
        * Real.exp ((∑ u ∈ Finset.range q, a (q * c + u)) - cum (fun u => a (q * c + u)) s)
      + ∑ t ∈ Finset.range q, (∑ n, cm (q * c + t) n * bm (q * c + s) n)
        * (if s ≤ t then Real.exp (cum (fun u => a (q * c + u)) t - cum (fun u => a (q * c + u)) s) else 0) * y (q * c + t)
    = ∑ l ∈ Finset.range (q * m), (∑ n, cm l n * bm (q * c + s) n)
        * (if q * c + s ≤ l then Real.exp (cum a l - cum a (q * c + s)) else 0) * y l := by
  obtain ⟨d, rfl⟩ : ∃ d, m = c + 1 + d := ⟨m - (c + 1), by omega⟩
  rw [show q * (c + 1 + d) = q * c + (q + q * d) by ring, Finset.sum_range_add, Finset.sum_range_add]
  have h0 : ∑ l ∈ Finset.range (q * c), (∑ n, cm l n * bm (q * c + s) n)
        * (if q * c + s ≤ l then Real.exp (cum a l - cum a (q * c + s)) else 0) * y l = 0 :=
    Finset.sum_eq_zero fun l hl => by
      have := Finset.mem_range.mp hl
      rw [if_neg (by omega), mul_zero, zero_mul]
  rw [h0, zero_add, add_comm]
  congr 1
  · refine Finset.sum_congr rfl fun t _ => ?_
    rw [cum_add, cum_add, add_sub_add_left_eq_sub]
    simp only [add_le_add_iff_left]
  · unfold grad
    rw [Nat.add_sub_cancel_left]
    simp only [Finset.mul_sum, Finset.sum_mul]
    rw [Finset.sum_comm]
    refine Finset.sum_congr rfl fun l _ => Finset.sum_congr rfl fun n _ => ?_
    rw [if_pos (by omega), Nat.mul_succ, Finset.sum_range_add, cum_add a (q * c) s, ← add_assoc (q * c) q l,
      show cum a (q * c + q + l) - (∑ u ∈ Finset.range (q * c), a u + cum (fun u => a (q * c + u)) s)
        = (cum a (q * c + q + l) - (∑ u ∈ Finset.range (q * c), a u + ∑ u ∈ Finset.range q, a (q * c + u)))
          + (∑ u ∈ Finset.range q, a (q * c + u) - cum (fun u => a (q * c + u)) s) by ring, Real.exp_add]
    ring

end Cert.SsdSum

end
-- ==== Proof.SsdFwd.lean ====
/- The forward scan: what the kernel leaves equals the reference's result. -/
module

public import proofs.«01_k».proof.Proof.Gen.Pre_ssdf_finite
public import proofs.«01_k».proof.Defs
public import proofs.«01_k».proof.Proof.SsdFwdRun
public import proofs.«01_k».proof.Proof.SsdFwdRef
public import proofs.«01_k».proof.Proof.SsdSum

@[expose] public section

set_option maxRecDepth 16384

noncomputable section

namespace Cert.SsdFwd

open Idealize.ShloMosaic Idealize.ShloMosaic.TcCoe Idealize.SL.Sem Cert.SsdChunk Cert.SsdFwdKernelIdeal Cert.SsdFwdKernelIdeal.Gen

theorem N_0 : cfg0.N = 8 := by decide +kernel

theorem idx : ∀ t : Fin cfg0.N, win0_0.index t = ![t.val, 0] ∧ win0_1.index t = ![t.val, 4] ∧ win0_2.index t = ![t.val, 5]
    ∧ win0_3.index t = ![0, t.val, 0] ∧ win0_4.index t = ![0, 0, 0] ∧ win0_5.index t = ![0, 0, 0] ∧ win0_6.index t = ![0, 0, 0]
    ∧ win0_7.index t = ![t.val, 0] :=
  (by decide +kernel : ∀ t : Fin grid0.N, _)

variable (m : (ℓ : Loc nD τ sig) → Buf (Elt Ideal) ℓ)

/-- The step of a row of a chunk. -/
def row (t : Fin cfg0.N) (i : Fn 256) : Fn 2048 := ⟨256 * t.val + i.val, by have := lt_of_lt_of_eq t.isLt N_0; omega⟩

theorem blk_x (c : Dev nD) (t : Fin cfg0.N) (i : Fn 256) (k : Fn 2048) :
    (X0_0 m c t : Vec Ideal S256x2048 .f32) (ix2 i k) = (m ((c : Thread nD τ).loc main_arg0) : FVec Ideal S2048x3072 .f32) (ix2 (row t i) ⟨k.val, by omega⟩) := by
  unfold X0_0 Pipeline.Window.fill
  rw [dif_pos (moved0_0 t _)]
  blk_point [iblk, V, idx t, row]

theorem blk_b (c : Dev nD) (t : Fin cfg0.N) (i : Fn 256) (k : Fn 512) :
    (iblk m c 1 t : Vec Ideal S256x512 .f32) (ix2 i k) = (m ((c : Thread nD τ).loc main_arg0) : FVec Ideal S2048x3072 .f32) (ix2 (row t i) ⟨2048 + k.val, by omega⟩) := by
  blk_point [iblk, V, idx t, row]

theorem blk_c (c : Dev nD) (t : Fin cfg0.N) (i : Fn 256) (k : Fn 512) :
    (iblk m c 2 t : Vec Ideal S256x512 .f32) (ix2 i k) = (m ((c : Thread nD τ).loc main_arg0) : FVec Ideal S2048x3072 .f32) (ix2 (row t i) ⟨2560 + k.val, by omega⟩) := by
  blk_point [iblk, V, idx t, row]

/-- The padded arrays of the host. -/
def padD (x : FVec Ideal S2048x32 .f32) : FVec Ideal S4x2048x128 .f32 :=
  pad S4x2048x128 ![0, 0, 0] ![0, 0, 120] ![0, 0, 0] (transpose S4x2048x8 [1, 0, 2] (shapeCast S2048x4x8 x shapeCasts_S2048x32_S2048x4x8) transposes_S2048x4x8_S4x2048x8_1_0_2)
    (sitofp .f32 (constantI S_ 32 0#32)) pads_S4x2048x8_S4x2048x128_000_000_01200 h_S_

def padP (x : FVec Ideal S32 .f32) : FVec Ideal S4x8x128 .f32 :=
  broadcastInDim S4x8x128 ![0, 1, 2] bcast_S4x1x128_S4x8x128_0_1_2 (pad S4x1x128 ![0, 0, 0] ![0, 0, 120] ![0, 0, 0] (shapeCast S4x1x8 x shapeCasts_S32_S4x1x8)
    (sitofp .f32 (constantI S_ 32 0#32)) pads_S4x1x8_S4x1x128_000_000_01200 h_S_)

theorem V_d (c : Dev nD) : V m c main_v2 = padD (m ((c : Thread nD τ).loc main_arg1)) := by
  rfl
theorem V_p0 (c : Dev nD) : V m c main_v5 = padP (m ((c : Thread nD τ).loc main_arg2)) := by
  rfl
theorem V_p1 (c : Dev nD) : V m c main_v8 = padP (m ((c : Thread nD τ).loc main_arg3)) := by
  rfl
theorem V_p2 (c : Dev nD) : V m c main_v11 = padP (m ((c : Thread nD τ).loc main_arg4)) := by
  rfl

theorem zero_word : (FloatOps.sitofp .f32 0#32 : Ideal .f32) = (((0 : ℝ) : EReal) : Ideal .f32) := by
  show ((((0#32 : BitVec 32).toInt : ℤ) : ℝ) : EReal) = _
  norm_num

theorem padD_at (x : FVec Ideal S2048x32 .f32) (g : Fn 4) (i : Fn 2048) (r : Fn 128) :
    padD x (ix3 g i r) = if h : r.val < 8 then x (ix2 i ⟨g.val * 8 + r.val, by omega⟩) else (((0 : ℝ) : EReal) : Ideal .f32) := by
  pointwise [padD]
  rw [zero_word]

theorem padP_at (x : FVec Ideal S32 .f32) (g : Fn 4) (i : Fn 8) (r : Fn 128) :
    padP x (ix3 g i r) = if h : r.val < 8 then x (ix1 ⟨g.val * 8 + r.val, by omega⟩) else (((0 : ℝ) : EReal) : Ideal .f32) := by
  pointwise [padP]
  rw [zero_word]

theorem blk_d (c : Dev nD) (t : Fin cfg0.N) (g : Fn 4) (i : Fn 256) (r : Fn 128) :
    (iblk m c 3 t : Vec Ideal S4x256x128 .f32) (ix3 g i r) = padD (m ((c : Thread nD τ).loc main_arg1)) (ix3 g (row t i) r) := by
  rw [← V_d]
  unfold iblk
  blk_simp
  blk_point [idx t, row]

theorem blk_p0 (c : Dev nD) (t : Fin cfg0.N) (g : Fn 4) (i : Fn 8) (r : Fn 128) :
    (iblk m c 4 t : Vec Ideal S4x8x128 .f32) (ix3 g i r) = padP (m ((c : Thread nD τ).loc main_arg2)) (ix3 g i r) := by
  rw [← V_p0]
  unfold iblk
  blk_simp
  blk_point [idx t]

theorem blk_p1 (c : Dev nD) (t : Fin cfg0.N) (g : Fn 4) (i : Fn 8) (r : Fn 128) :
    (iblk m c 5 t : Vec Ideal S4x8x128 .f32) (ix3 g i r) = padP (m ((c : Thread nD τ).loc main_arg3)) (ix3 g i r) := by
  rw [← V_p1]
  unfold iblk
  blk_simp
  blk_point [idx t]

theorem blk_p2 (c : Dev nD) (t : Fin cfg0.N) (g : Fn 4) (i : Fn 8) (r : Fn 128) :
    (iblk m c 6 t : Vec Ideal S4x8x128 .f32) (ix3 g i r) = padP (m ((c : Thread nD τ).loc main_arg4)) (ix3 g i r) := by
  rw [← V_p2]
  unfold iblk
  blk_simp
  blk_point [idx t]

section
variable (X : Fn 2048 → Fn 3072 → ℝ) (D : Fn 2048 → Fn 32 → ℝ) (P : Fn 32 → ℝ)

/-- The numbers that a step of the grid takes. -/
def gX (t : Fin cfg0.N) (i : Fn 256) (k : Fn 2048) : ℝ := X (row t i) ⟨k.val, by omega⟩
def gB (t : Fin cfg0.N) (i : Fn 256) (k : Fn 512) : ℝ := X (row t i) ⟨2048 + k.val, by omega⟩
def gC (t : Fin cfg0.N) (i : Fn 256) (k : Fn 512) : ℝ := X (row t i) ⟨2560 + k.val, by omega⟩
def gD (t : Fin cfg0.N) (g : Fn 4) (i : Fn 256) (r : Fn 128) : ℝ := if h : r.val < 8 then D (row t i) ⟨g.val * 8 + r.val, by omega⟩ else 0
def gP (g : Fn 4) (r : Fn 128) : ℝ := if h : r.val < 8 then P ⟨g.val * 8 + r.val, by omega⟩ else 0

theorem ext3 {n0 n1 n2 : ℕ} {α : Type} {f g : ((a : _root_.Fin 3) → _root_.Fin (![n0, n1, n2] a)) → α} (h : ∀ a i k, f (ix3 a i k) = g (ix3 a i k)) : f = g := by
  funext j
  obtain ⟨a, i, k, rfl⟩ : ∃ a i k, j = ix3 a i k := ⟨j 0, j 1, j 2, by ext a; fin_cases a <;> rfl⟩
  exact h a i k

variable (c : Dev nD) (t : Fin cfg0.N)

theorem in_x (h : (m ((c : Thread nD τ).loc main_arg0) : FVec Ideal S2048x3072 .f32) = up fun j => X (j 0) (j 1)) :
    (X0_0 m c t : Vec Ideal S256x2048 .f32) = vX (gX X t) := by
  refine ext2 fun i k => (blk_x m c t i k).trans ?_
  rw [h]; rfl
theorem in_b (h : (m ((c : Thread nD τ).loc main_arg0) : FVec Ideal S2048x3072 .f32) = up fun j => X (j 0) (j 1)) :
    (iblk m c 1 t : Vec Ideal S256x512 .f32) = vB (gB X t) := by
  refine ext2 fun i k => (blk_b m c t i k).trans ?_
  rw [h]; rfl
theorem in_c (h : (m ((c : Thread nD τ).loc main_arg0) : FVec Ideal S2048x3072 .f32) = up fun j => X (j 0) (j 1)) :
    (iblk m c 2 t : Vec Ideal S256x512 .f32) = vB (gC X t) := by
  refine ext2 fun i k => (blk_c m c t i k).trans ?_
  rw [h]; rfl
theorem in_d (h : (m ((c : Thread nD τ).loc main_arg1) : FVec Ideal S2048x32 .f32) = up fun j => D (j 0) (j 1)) :
    (iblk m c 3 t : Vec Ideal S4x256x128 .f32) = vD (gD D t) := by
  refine ext3 fun g i r => (blk_d m c t g i r).trans ?_
  rw [h, padD_at]
  show _ = ((gD D t g i r : ℝ) : EReal)
  unfold gD
  split <;> rfl
theorem pad_up (x : FVec Ideal S32 .f32) (h : x = up fun j => P (j 0)) (g : Fn 4) (i : Fn 8) (r : Fn 128) :
    padP x (ix3 g i r) = vP (gP P) (ix3 g i r) := by
  rw [h, padP_at]
  show _ = ((gP P g r : ℝ) : EReal)
  unfold gP
  split <;> rfl
theorem in_p0 (h : (m ((c : Thread nD τ).loc main_arg2) : FVec Ideal S32 .f32) = up fun j => P (j 0)) :
    (iblk m c 4 t : Vec Ideal S4x8x128 .f32) = vP (gP P) := ext3 fun g i r => (blk_p0 m c t g i r).trans (pad_up P _ h g i r)
theorem in_p1 (h : (m ((c : Thread nD τ).loc main_arg3) : FVec Ideal S32 .f32) = up fun j => P (j 0)) :
    (iblk m c 5 t : Vec Ideal S4x8x128 .f32) = vP (gP P) := ext3 fun g i r => (blk_p1 m c t g i r).trans (pad_up P _ h g i r)
theorem in_p2 (h : (m ((c : Thread nD τ).loc main_arg4) : FVec Ideal S32 .f32) = up fun j => P (j 0)) :
    (iblk m c 6 t : Vec Ideal S4x8x128 .f32) = vP (gP P) := ext3 fun g i r => (blk_p2 m c t g i r).trans (pad_up P _ h g i r)
end

end Cert.SsdFwd

namespace Cert.SsdFwd

open Idealize.ShloMosaic Idealize.ShloMosaic.TcCoe Idealize.SL.Sem Cert.SsdChunk Cert.SsdFwdKernelIdeal Cert.SsdFwdKernelIdeal.Gen
open Cert.SsdFwdReferenceIdeal.Stage (dt al cumR decR yS)

/-- A finite sequence as a sequence over the natural numbers. -/
def seq {N : ℕ} (f : Fn N → ℝ) (u : ℕ) : ℝ := if h : u < N then f ⟨u, h⟩ else 0

theorem seq_lt {N : ℕ} (f : Fn N → ℝ) (u : ℕ) (h : u < N) : seq f u = f ⟨u, h⟩ := dif_pos h

theorem cum_fin {N : ℕ} (g : ℕ → ℝ) (l : Fn N) : SsdSum.cum g l.val = ∑ w : Fn N, if w.val ≤ l.val then g w.val else 0 := by
  have h := Finset.sum_range (n := N) fun w => if w ≤ l.val then g w else 0
  rw [← h, SsdSum.cum, ← Finset.sum_filter]
  refine Finset.sum_congr ?_ fun _ _ => rfl
  ext w
  have := l.isLt
  simp only [Finset.mem_range, Finset.mem_filter]
  omega

section
variable (X : Fn 2048 → Fn 3072 → ℝ) (D : Fn 2048 → Fn 32 → ℝ) (P0 P1 P2 : Fn 32 → ℝ)

/-- The head and the group of a column, and the sequences of the scan at it. -/
def hh (k : Fn 2048) : Fn 32 := ⟨k.val / 64, by omega⟩
def sa (k : Fn 2048) : ℕ → ℝ := seq fun u => al D P0 P1 u (hh k)
def sx (k : Fn 2048) : ℕ → ℝ := seq fun u => X u ⟨k.val, by omega⟩ * dt D P0 u (hh k)
def sb (g : Fn 4) (u : ℕ) (n : Fn 128) : ℝ := seq (fun u => X u ⟨2048 + (g.val * 128 + n.val), by omega⟩) u
def sc (g : Fn 4) (u : ℕ) (n : Fn 128) : ℝ := seq (fun u => X u ⟨2560 + (g.val * 128 + n.val), by omega⟩) u

/-- The state before chunk `c`. -/
def SS (c : ℕ) (p : Fn 4 × Fn 2) (k : Fn 256) (n : Fn 128) : ℝ :=
  SsdSum.state 256 (sa D P0 P1 (cx p k)) (sx X D P0 (cx p k)) (fun s => sb X p.1 s n) c

theorem SS_succ (c : ℕ) (p : Fn 4 × Fn 2) (k : Fn 256) (n : Fn 128) : SS X D P0 P1 (c + 1) p k n =
    Real.exp (∑ u ∈ Finset.range 256, sa D P0 P1 (cx p k) (256 * c + u)) * SS X D P0 P1 c p k n
      + ∑ s ∈ Finset.range 256, sx X D P0 (cx p k) (256 * c + s) * Real.exp ((∑ u ∈ Finset.range 256, sa D P0 P1 (cx p k) (256 * c + u))
          - SsdSum.cum (fun u => sa D P0 P1 (cx p k) (256 * c + u)) s) * sb X p.1 (256 * c + s) n := rfl

variable (t : Fin cfg0.N) (p : Fn 4 × Fn 2) (k : Fn 256)

theorem hb_lt (b : Fn 2) : (hb b k).val < 8 := by
  unfold hb hd; dsimp only; omega

theorem gP_hb (P : Fn 32 → ℝ) : gP P p.1 (hb p.2 k) = P (hh (cx p k)) := by
  unfold gP
  rw [dif_pos (hb_lt k p.2)]
  congr 1
  exact Fin.ext (by simp only [hh, cx, hb, hd]; omega)

theorem gD_hb (i : Fn 256) : gD D t p.1 i (hb p.2 k) = D (row t i) (hh (cx p k)) := by
  unfold gD
  rw [dif_pos (hb_lt k p.2)]
  congr 1
  exact Fin.ext (by simp only [hh, cx, hb, hd]; omega)

theorem seq_row (f : Fn 2048 → ℝ) (i : Fn 256) : seq f (256 * t.val + i.val) = f (row t i) := seq_lt f _ (row t i).isLt

theorem av_eq : av (gD D t p.1) (gP P0 p.1) (gP P1 p.1) (hb p.2 k) = fun u : Fn 256 => sa D P0 P1 (cx p k) (256 * t.val + u.val) := by
  funext u
  unfold av sa
  rw [seq_row, gP_hb, gP_hb, gD_hb]
  rfl

theorem cu_eq (a : ℕ → ℝ) (i : Fn 256) : cu (fun u => a u.val) i = SsdSum.cum a i.val := (cum_fin a i).symm

theorem xt_eq (s : Fn 256) : gX X t s (cx p k) * sp (gD D t p.1 s (hb p.2 k) + gP P0 p.1 (hb p.2 k)) = sx X D P0 (cx p k) (256 * t.val + s.val) := by
  unfold sx
  rw [seq_row, gP_hb, gD_hb]
  rfl

theorem b_eq (s : Fn 256) (n : Fn 128) : gB X t s (cb p.1 n) = sb X p.1 (256 * t.val + s.val) n := by
  unfold sb
  rw [seq_row]
  unfold gB
  congr 1
  exact Fin.ext (by simp only [cb]; omega)

theorem c_eq (s : Fn 256) (n : Fn 128) : gC X t s (cb p.1 n) = sc X p.1 (256 * t.val + s.val) n := by
  unfold sc
  rw [seq_row]
  unfold gC
  congr 1
  exact Fin.ext (by simp only [cb]; omega)

theorem state_step (n : Fn 128) :
    sBox (gX X t) (gB X t) (gD D t) (gP P0) (gP P1) (SS X D P0 P1 t.val) p k n = SS X D P0 P1 (t.val + 1) p k n := by
  unfold sBox sR
  rw [av_eq]
  simp only [xt_eq, b_eq]
  rw [SS_succ, Finset.sum_range, Finset.sum_range]
  simp only [cu_eq (fun u => sa D P0 P1 (cx p k) (256 * t.val + u))]

theorem y_step (i : Fn 256) :
    yBox (gX X t) (gB X t) (gC X t) (gD D t) (gP P0) (gP P1) (gP P2) (SS X D P0 P1 t.val) p i k = yS X D P0 P1 P2 (row t i) (cx p k) := by
  unfold yBox yR dec
  rw [av_eq]
  simp only [xt_eq, b_eq, c_eq]
  rw [gP_hb]
  simp only [cu_eq (fun u => sa D P0 P1 (cx p k) (256 * t.val + u))]
  have ht : t.val < 8 := lt_of_lt_of_eq t.isLt N_0
  have h := SsdSum.row_eq 256 8 (sa D P0 P1 (cx p k)) (sx X D P0 (cx p k)) (sc X p.1) (sb X p.1) t.val i.val ht i.isLt
  rw [Finset.sum_range, Finset.sum_range] at h
  unfold yS
  refine congrArg₂ (· + ·) (h.trans (Finset.sum_congr rfl fun s _ => ?_)) rfl
  have e (l : Fn 2048) : SsdSum.cum (sa D P0 P1 (cx p k)) l.val = cumR D P0 P1 (hh (cx p k)) l := by
    rw [cum_fin (N := 2048)]
    refine Finset.sum_congr rfl fun w _ => ?_
    rw [sa, seq_lt _ _ w.isLt]
  have e1 : sx X D P0 (cx p k) s.val = X s ⟨(cx p k).val, by omega⟩ * dt D P0 s (hh (cx p k)) := seq_lt _ _ s.isLt
  have hg : (cx p k).val / 512 = p.1.val := by simp only [cx]; omega
  have e2 (n : Fn 128) : sb X p.1 s.val n = X s ⟨2048 + ((cx p k).val / 512 * 128 + n.val), by omega⟩ := by
    simp only [hg]
    exact seq_lt _ _ s.isLt
  have e3 (n : Fn 128) : sc X p.1 (256 * t.val + i.val) n = X (row t i) ⟨2560 + ((cx p k).val / 512 * 128 + n.val), by omega⟩ := by
    simp only [hg]
    exact seq_lt _ _ (row t i).isLt
  have e4 := e (row t i)
  simp only [row] at e4
  rw [e1, e4, e s]
  simp only [e2, e3, mul_comm (X (row t i) _)]
  rw [mul_comm]
  rfl

variable (m : (ℓ : Loc nD τ sig) → Buf (Elt Ideal) ℓ) (c : Dev nD)
  (h0 : (m ((c : Thread nD τ).loc main_arg0) : FVec Ideal S2048x3072 .f32) = up fun j => X (j 0) (j 1))
  (h1 : (m ((c : Thread nD τ).loc main_arg1) : FVec Ideal S2048x32 .f32) = up fun j => D (j 0) (j 1))
  (h2 : (m ((c : Thread nD τ).loc main_arg2) : FVec Ideal S32 .f32) = up fun j => P0 (j 0))
  (h3 : (m ((c : Thread nD τ).loc main_arg3) : FVec Ideal S32 .f32) = up fun j => P1 (j 0))
  (h4 : (m ((c : Thread nD τ).loc main_arg4) : FVec Ideal S32 .f32) = up fun j => P2 (j 0))

include h0 h1 h2 h3 h4 in
/-- The state that each chunk leaves in the scratch array. -/
theorem scratch (n : ℕ) (hn : n < cfg0.N) : (outsAt0 m c n hn).2.2 = stV (SS X D P0 P1 (n + 1)) := by
  induction n with
  | zero =>
    refine (s_first m c ⟨0, hn⟩ _ _ _ _ _ _ _ (in_x m X c _ h0) (in_b m X c _ h0) (in_c m X c _ h0) (in_d m D c _ h1) (in_p0 m P0 c _ h2) (in_p1 m P1 c _ h3) (in_p2 m P2 c _ h4) rfl).trans ?_
    congr 1
    funext p k n
    exact state_step X D P0 P1 ⟨0, hn⟩ p k n
  | succ n ih =>
    have hb : ¬ (n + 1) % 8 = 0 := by
      have := lt_of_lt_of_eq hn N_0
      omega
    refine (s_next m c ⟨n + 1, hn⟩ _ _ _ _ _ _ _ _ (in_x m X c _ h0) (in_b m X c _ h0) (in_c m X c _ h0) (in_d m D c _ h1) (in_p0 m P0 c _ h2) (in_p1 m P1 c _ h3) (in_p2 m P2 c _ h4) hb (ih _)).trans ?_
    congr 1
    funext p k n'
    exact state_step X D P0 P1 ⟨n + 1, hn⟩ p k n'

include h0 h1 h2 h3 h4 in
/-- The rows that each chunk writes. -/
theorem rows_at (i : Fn 256) (k : Fn 2048) : (outsAt0 m c t.val t.isLt).1 (ix2 i k) = ((yS X D P0 P1 P2 (row t i) k : ℝ) : EReal) := by
  have e := y_step X D P0 P1 P2 t (bx k) (bk k) i
  rw [cx_bx] at e
  rw [← e]
  by_cases hz : t.val % 8 = 0
  · have ht : t.val = 0 := by
      have := lt_of_lt_of_eq t.isLt N_0
      omega
    refine (y_first m c t _ _ _ _ _ _ _ (in_x m X c t h0) (in_b m X c t h0) (in_c m X c t h0) (in_d m D c t h1) (in_p0 m P0 c t h2) (in_p1 m P1 c t h3)
      (in_p2 m P2 c t h4) hz i k).trans ?_
    rw [ht]
    rfl
  · obtain ⟨n, hn⟩ : ∃ n, t.val = n + 1 := ⟨t.val - 1, by omega⟩
    refine (y_next m c t _ _ _ _ _ _ _ _ (in_x m X c t h0) (in_b m X c t h0) (in_c m X c t h0) (in_d m D c t h1) (in_p0 m P0 c t h2) (in_p1 m P1 c t h3)
      (in_p2 m P2 c t h4) hz (scratch X D P0 P1 P2 m c h0 h1 h2 h3 h4 _ _) i k).trans ?_
    rw [hn]
    rfl

include h0 h1 h2 h3 h4 in
theorem final : (dats m 0 c).arrAt 7 (cfgs 0).N = (up fun j => yS X D P0 P1 P2 (j 0) (j 1) : FVec Ideal S2048x2048 .f32) := by
  refine (dats m 0 c).arrAt_eq_of_covers 7 _ (by decide +kernel) fun t _ y => ?_
  obtain ⟨i, k, rfl⟩ : ∃ (i : Fn 256) (k : Fn 2048), y = ix2 i k := ⟨y 0, y 1, by ext a; fin_cases a <;> rfl⟩
  have e : (win0_7.blk t).view.emb (ix2 i k) = ix2 (row t i) k := by
    blk_point [idx t, row]
  blk_simp
  rw [after0_7]
  refine (rows_at X D P0 P1 P2 t m c h0 h1 h2 h3 h4 i k).trans ?_
  refine Eq.trans ?_ (congrArg (up fun j : S2048x2048.Idx => yS X D P0 P1 P2 (j 0) (j 1)) e.symm)
  rfl
end

end Cert.SsdFwd

namespace Cert.SsdFwd

open Idealize.ShloMosaic Idealize.ShloMosaic.TcCoe Idealize.SL.Sem Cert.SsdChunk Cert.SsdFwdKernelIdeal Cert.SsdFwdKernelIdeal.Gen

section
variable {F : FTy → Type} [FloatOps F]

/-- The block of states is written once, with the state before the chunk. -/
theorem bB (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S256x2048 .f32) (harg9 : arg9.IsWhole) (arg10 : Memref sig .tc .vmem S1x4x2x256x128 .f32) (harg10 : arg10.IsWhole) (arg11 : Memref sig .tc .vmem S4x2x256x128 .f32) (harg11 : arg11.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 xs0).2.1 = [⟨Rect.unit ![0, 0, 0, 0, 0] S1x4x2x256x128.size inb_S1x4x2x256x128_S1x4x2x256x128_0_0_0_0_0, k0_pay3 (View.readAt (Elt F) arg11.view (Rect.unit (s := S4x2x256x128) ![0, 0, 0, 0] S4x2x256x128.size inb_S4x2x256x128_S4x2x256x128_0_0_0_0).toLoadRect (harg11.unread xs0))⟩] := rfl

theorem bA (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S256x2048 .f32) (harg9 : arg9.IsWhole) (arg10 : Memref sig .tc .vmem S1x4x2x256x128 .f32) (harg10 : arg10.IsWhole) (arg11 : Memref sig .tc .vmem S4x2x256x128 .f32) (harg11 : arg11.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6).2.1 = [⟨Rect.unit ![0, 0, 0, 0, 0] S1x4x2x256x128.size inb_S1x4x2x256x128_S1x4x2x256x128_0_0_0_0_0, k0_pay3 (arg11.view.readCov (kernelRun0_A.sl.HS0_1 (F := F)) (Rect.unit (s := S4x2x256x128) ![0, 0, 0, 0] S4x2x256x128.size inb_S4x2x256x128_S4x2x256x128_0_0_0_0).toLoadRect)⟩] := rfl
end

section
variable (m : (ℓ : Loc nD τ sig) → Buf (Elt Ideal) ℓ) (c : Dev nD) (t : Fn cfg0.N) (S : Fn 4 × Fn 2 → Fn 256 → Fn 128 → ℝ)

theorem pay3_at (v : FVec Ideal S4x2x256x128 .f32) (z : Fn 1) (a : Fn 4) (b : Fn 2) (k : Fn 256) (n : Fn 128) :
    (k0_pay3 (F := Ideal) v) (ix5 z a b k n) = v (Idealize.ShloMosaic.ix4 a b k n) := by
  pointwise [k0_pay3]

/-- The block of states that a step writes is the state that it found. -/
theorem block_next (h0 : ¬ t.val % 8 = 0) (hS : (outsAt0 m c (t.val - 1) (Nat.lt_of_le_of_lt (Nat.sub_le _ _) t.isLt)).2.2 = stV S)
    (z : Fn 1) (a : Fn 4) (b : Fn 2) (k : Fn 256) (n : Fn 128) : (outsAt0 m c t.val t.isLt).2.1 (ix5 z a b k n) = ((S (a, b) k n : ℝ) : EReal) := by
  rw [outsAt0_B m c t h0]
  dsimp only
  unfold out0_B_8
  rw [View.read_writes_junk_eq_canon, hS, bB, View.canon_cons_unit_lit' _ _ _ (by decide)]
  refine (pay3_at _ z a b k n).trans ?_
  rw [View.readAt_eq_ld, Memref.IsWhole.read_unread]
  show ((S _ _ _ : ℝ) : EReal) = _
  congr 2
  · exact Prod.ext (Fin.ext (by simp [Rect.unit, LoadRect.idx, Rect.toLoadRect, Idealize.ShloMosaic.ix4])) (Fin.ext (by simp [Rect.unit, LoadRect.idx, Rect.toLoadRect, Idealize.ShloMosaic.ix4]))
  all_goals exact Fin.ext (by simp [Rect.unit, LoadRect.idx, Rect.toLoadRect, Idealize.ShloMosaic.ix4])

theorem block_first (h0 : t.val % 8 = 0) (z : Fn 1) (a : Fn 4) (b : Fn 2) (k : Fn 256) (n : Fn 128) :
    (outsAt0 m c t.val t.isLt).2.1 (ix5 z a b k n) = ((0 : ℝ) : EReal) := by
  rw [outsAt0_A m c t h0]
  dsimp only
  unfold out0_A_8
  rw [View.read_writes_junk_eq_canon, bA, View.canon_cons_unit_lit' _ _ _ (by decide)]
  refine (pay3_at _ z a b k n).trans ?_
  rw [View.readCov_eq_canon']
  exact (zero_whole _).trans EReal.coe_zero.symm
end

section
variable (m : (ℓ : Loc nD τ sig) → Buf (Elt Ideal) ℓ) (X : Fn 2048 → Fn 3072 → ℝ) (D : Fn 2048 → Fn 32 → ℝ) (P0 P1 P2 : Fn 32 → ℝ) (t : Fn cfg0.N) (c : Dev nD)
  (h0 : (m ((c : Thread nD τ).loc main_arg0) : FVec Ideal S2048x3072 .f32) = up fun j => X (j 0) (j 1))
  (h1 : (m ((c : Thread nD τ).loc main_arg1) : FVec Ideal S2048x32 .f32) = up fun j => D (j 0) (j 1))
  (h2 : (m ((c : Thread nD τ).loc main_arg2) : FVec Ideal S32 .f32) = up fun j => P0 (j 0))
  (h3 : (m ((c : Thread nD τ).loc main_arg3) : FVec Ideal S32 .f32) = up fun j => P1 (j 0))
  (h4 : (m ((c : Thread nD τ).loc main_arg4) : FVec Ideal S32 .f32) = up fun j => P2 (j 0))

theorem idx8 : ∀ t : Fn cfg0.N, win0_8.index t = ![t.val, 0, 0, 0, 0] :=
  (by decide +kernel : ∀ t : Fn grid0.N, _)

include h0 h1 h2 h3 h4 in
/-- The states that each chunk writes. -/
theorem states_at (z : Fn 1) (a : Fn 4) (b : Fn 2) (k : Fn 256) (n : Fn 128) :
    (outsAt0 m c t.val t.isLt).2.1 (ix5 z a b k n) = ((SS X D P0 P1 t.val (a, b) k n : ℝ) : EReal) := by
  by_cases hz : t.val % 8 = 0
  · have ht : t.val = 0 := by
      have := lt_of_lt_of_eq t.isLt N_0
      omega
    refine (block_first m c t hz z a b k n).trans ?_
    rw [ht]
    rfl
  · obtain ⟨n', hn⟩ : ∃ n, t.val = n + 1 := ⟨t.val - 1, by omega⟩
    refine (block_next m c t _ hz (scratch X D P0 P1 P2 m c h0 h1 h2 h3 h4 _ _) z a b k n).trans ?_
    rw [hn]
    rfl

/-- The state before a chunk as a sum over all steps. -/
def stS (c : Fn 8) (p : Fn 4 × Fn 2) (k : Fn 256) (n : Fn 128) : ℝ := SS X D P0 P1 c.val p k n

include h0 h1 h2 h3 h4 in
theorem final_states : (dats m 0 c).arrAt 8 (cfgs 0).N
    = (up fun j => stS X D P0 P1 (j 0) (j 1, j 2) (j 3) (j 4) : FVec Ideal S8x4x2x256x128 .f32) := by
  refine (dats m 0 c).arrAt_eq_of_covers 8 _ (by decide +kernel) fun t _ y => ?_
  obtain ⟨z, a, b, k, n, rfl⟩ : ∃ (z : Fn 1) (a : Fn 4) (b : Fn 2) (k : Fn 256) (n : Fn 128), y = ix5 z a b k n :=
    ⟨y 0, y 1, y 2, y 3, y 4, by ext a; fin_cases a <;> rfl⟩
  have e : (win0_8.blk t).view.emb (ix5 z a b k n) = ix5 (⟨t.val, lt_of_lt_of_eq t.isLt N_0⟩ : Fn 8) a b k n := by
    blk_point [idx8 t]
  blk_simp
  rw [after0_8]
  refine (states_at m X D P0 P1 P2 t c h0 h1 h2 h3 h4 z a b k n).trans ?_
  refine Eq.trans ?_ (congrArg (up fun j : S8x4x2x256x128.Idx => stS X D P0 P1 (j 0) (j 1, j 2) (j 3) (j 4)) e.symm)
  rfl

open Cert.SsdFwdReferenceIdeal.Stage (dt al cumR)

theorem sum_below (N q : ℕ) (hq : q ≤ N) (f : ℕ → ℝ) : ∑ s ∈ Finset.range q, f s = ∑ s : Fn N, if s.val < q then f s.val else 0 := by
  have h := Finset.sum_range (n := N) fun w => if w < q then f w else 0
  rw [← h, ← Finset.sum_filter]
  refine Finset.sum_congr ?_ fun _ _ => rfl
  ext w
  simp only [Finset.mem_range, Finset.mem_filter]
  omega

theorem stS_eq (c : Fn 8) (p : Fn 4 × Fn 2) (k : Fn 256) (n : Fn 128) : stS X D P0 P1 c p k n =
    ∑ s : Fn 2048, (if s.val < 256 * c.val then Real.exp (cumR D P0 P1 (hh (cx p k)) ⟨256 * c.val, by omega⟩ - al D P0 P1 ⟨256 * c.val, by omega⟩ (hh (cx p k))
        - cumR D P0 P1 (hh (cx p k)) s) else 0)
      * (X s ⟨(cx p k).val, by omega⟩ * dt D P0 s (hh (cx p k))) * X s ⟨2048 + (p.1.val * 128 + n.val), by omega⟩ := by
  have e (l : Fn 2048) : SsdSum.cum (sa D P0 P1 (cx p k)) l.val = cumR D P0 P1 (hh (cx p k)) l := by
    rw [cum_fin (N := 2048)]
    refine Finset.sum_congr rfl fun w _ => ?_
    rw [sa, seq_lt _ _ w.isLt]
  have ea : ∑ u ∈ Finset.range (256 * c.val), sa D P0 P1 (cx p k) u
      = cumR D P0 P1 (hh (cx p k)) ⟨256 * c.val, by omega⟩ - al D P0 P1 ⟨256 * c.val, by omega⟩ (hh (cx p k)) := by
    rw [← e, SsdSum.cum, Finset.sum_range_succ, sa, seq_lt _ (256 * c.val) (by omega), add_sub_cancel_right]
  unfold stS SS
  rw [SsdSum.state_eq, sum_below 2048 _ (by omega)]
  refine Finset.sum_congr rfl fun s _ => ?_
  have e1 : sx X D P0 (cx p k) s.val = X s ⟨(cx p k).val, by omega⟩ * dt D P0 s (hh (cx p k)) := seq_lt _ _ s.isLt
  have e2 : sb X p.1 s.val n = X s ⟨2048 + (p.1.val * 128 + n.val), by omega⟩ := seq_lt _ _ s.isLt
  split
  · rw [ea, e s, e1, e2]
  · rw [zero_mul, zero_mul]
end
end Cert.SsdFwd

namespace Cert.SsdFwd

open Idealize.ShloMosaic Idealize.SL.Sem Cert.SsdChunk

theorem and_ones (a b : BitVec 1) (h : a &&& b = 1#1) : a = 1#1 ∧ b = 1#1 := by
  revert a b
  decide

/-- What the precondition says of each array. -/
theorem pre_at (x : FVec Ideal Cert.Pre_ssdf_finite.S2048x3072 .f32) (d : FVec Ideal Cert.Pre_ssdf_finite.S2048x32 .f32)
    (p0 p1 p2 : FVec Ideal Cert.Pre_ssdf_finite.S32 .f32) [Cert.Pre_ssdf_finite.Facts]
    (h : ∀ j, Cert.Pre_ssdf_finite.fn (F := Ideal) x d p0 p1 p2 j = 1#1) (l : Fn 2048) (a : Fn 96) (r : Fn 32) :
    (x (ix2 l ⟨a.val * 32 + r.val, by omega⟩) ≠ ⊤ ∧ x (ix2 l ⟨a.val * 32 + r.val, by omega⟩) ≠ ⊥)
    ∧ (d (ix2 l r) ≠ ⊤ ∧ d (ix2 l r) ≠ ⊥) ∧ (p0 (ix1 r) ≠ ⊤ ∧ p0 (ix1 r) ≠ ⊥) ∧ (p1 (ix1 r) ≠ ⊤ ∧ p1 (ix1 r) ≠ ⊥)
    ∧ (p2 (ix1 r) ≠ ⊤ ∧ p2 (ix1 r) ≠ ⊥) := by
  have e := h (ix3 l a r)
  pointwise [Cert.Pre_ssdf_finite.fn, Cert.Pre_ssdf_finite.fn_part1] at e
  obtain ⟨e01, e24⟩ := and_ones _ _ e
  obtain ⟨e0, e1⟩ := and_ones _ _ e01
  obtain ⟨e23, e4⟩ := and_ones _ _ e24
  obtain ⟨e2, e3⟩ := and_ones _ _ e23
  exact ⟨Consts.finite_of_abs_lt _ e0, Consts.finite_of_abs_lt _ e1, Consts.finite_of_abs_lt _ e2, Consts.finite_of_abs_lt _ e3,
    Consts.finite_of_abs_lt _ e4⟩

/-- A finite matrix is a matrix of real numbers. -/
theorem real2 {n0 n1 : ℕ} (x : FVec Ideal ⟨2, ![n0, n1]⟩ .f32) (h : ∀ i k, x (ix2 i k) ≠ ⊤ ∧ x (ix2 i k) ≠ ⊥) :
    x = up fun j => (x (ix2 (j 0) (j 1))).toReal := by
  refine ext2 fun i k => ?_
  exact (EReal.coe_toReal (h i k).1 (h i k).2).symm

theorem real1 {n : ℕ} (x : FVec Ideal ⟨1, ![n]⟩ .f32) (h : ∀ i, x (ix1 i) ≠ ⊤ ∧ x (ix1 i) ≠ ⊥) :
    x = up fun j => (x (ix1 (j 0))).toReal := by
  funext j
  obtain ⟨i, rfl⟩ : ∃ i, j = ix1 i := ⟨j 0, by ext a; fin_cases a; rfl⟩
  exact (EReal.coe_toReal (h i).1 (h i).2).symm

theorem yE_up (x : FVec Ideal Cert.SsdFwdReferenceIdeal.S2048x3072 .f32) (d : FVec Ideal Cert.SsdFwdReferenceIdeal.S2048x32 .f32)
    (p0 p1 p2 : FVec Ideal Cert.SsdFwdReferenceIdeal.S32 .f32) (X : Fn 2048 → Fn 3072 → ℝ) (D : Fn 2048 → Fn 32 → ℝ) (P0 P1 P2 : Fn 32 → ℝ)
    (h0 : x = up fun j => X (j 0) (j 1)) (h1 : d = up fun j => D (j 0) (j 1)) (h2 : p0 = up fun j => P0 (j 0)) (h3 : p1 = up fun j => P1 (j 0))
    (h4 : p2 = up fun j => P2 (j 0)) :
    Cert.SsdFwdReferenceIdeal.Stage.yE x d p0 p1 p2 = up fun j => Cert.SsdFwdReferenceIdeal.Stage.yS X D P0 P1 P2 (j 0) (j 1) := by
  subst h0 h1 h2 h3 h4
  exact ext2 fun l k => Cert.SsdFwdReferenceIdeal.Stage.yE_at _ _ _ _ _ l k

theorem states_up (x : FVec Ideal Cert.SsdFwdReferenceIdeal.S2048x3072 .f32) (d : FVec Ideal Cert.SsdFwdReferenceIdeal.S2048x32 .f32)
    (p0 p1 : FVec Ideal Cert.SsdFwdReferenceIdeal.S32 .f32) (X : Fn 2048 → Fn 3072 → ℝ) (D : Fn 2048 → Fn 32 → ℝ) (P0 P1 : Fn 32 → ℝ)
    (h0 : x = up fun j => X (j 0) (j 1)) (h1 : d = up fun j => D (j 0) (j 1)) (h2 : p0 = up fun j => P0 (j 0)) (h3 : p1 = up fun j => P1 (j 0)) :
    Cert.SsdFwdReferenceIdeal.Stage.stE x d p0 p1 = up fun j => stS X D P0 P1 (j 0) (j 1, j 2) (j 3) (j 4) := by
  subst h0 h1 h2 h3
  funext j
  obtain ⟨c, a, b, k, n, rfl⟩ : ∃ (c : Fn 8) (a : Fn 4) (b : Fn 2) (k : Fn 256) (n : Fn 128), j = ix5 c a b k n :=
    ⟨j 0, j 1, j 2, j 3, j 4, by ext a; fin_cases a <;> rfl⟩
  refine (Cert.SsdFwdReferenceIdeal.Stage.stE_at X D P0 P1 c a b k n (cx (a, b) k) (hh (cx (a, b) k)) (by simp only [cx]; ring) rfl).trans ?_
  exact congrArg (fun r : ℝ => (r : EReal)) (stS_eq X D P0 P1 c (a, b) k n).symm

end Cert.SsdFwd

namespace Cert.Proof

open Idealize.ShloMosaic Idealize.SL.Sem Cert.SsdFwd
open Cert.SsdChunk (up)

theorem ssdf_reference_frame : Cert.quiescent_SsdFwdReferenceIdeal := by
  intro m g _
  exact (θ_run Cert.SsdFwdReferenceIdeal.defs _ _).mono (fun r h => ⟨fun c => (h c).2.2, sem_eq_zero_of_no_sems (by decide) r.2⟩)
    (Cert.SsdFwdReferenceIdeal.Value.run m g)

/-- The arrays under the precondition, as arrays of real numbers. -/
theorem ssdf_reals (m : (ℓ : Loc Cert.SsdFwdKernelIdeal.nD Cert.SsdFwdKernelIdeal.τ Cert.SsdFwdKernelIdeal.sig) → Buf (Elt Ideal) ℓ)
    (hpre : Cert.Pre_SsdFwdKernelIdeal_ssdf_finite m) (c : Dev Cert.SsdFwdKernelIdeal.nD) :
    ∃ (X : Fn 2048 → Fn 3072 → ℝ) (D : Fn 2048 → Fn 32 → ℝ) (P0 P1 P2 : Fn 32 → ℝ),
      (m ((c.tc : Thread Cert.SsdFwdKernelIdeal.nD Cert.SsdFwdKernelIdeal.τ).loc Cert.SsdFwdKernelIdeal.main_arg0) : FVec Ideal Cert.SsdFwdKernelIdeal.S2048x3072 .f32) = (up fun j => X (j 0) (j 1))
      ∧ (m ((c.tc : Thread Cert.SsdFwdKernelIdeal.nD Cert.SsdFwdKernelIdeal.τ).loc Cert.SsdFwdKernelIdeal.main_arg1) : FVec Ideal Cert.SsdFwdKernelIdeal.S2048x32 .f32) = (up fun j => D (j 0) (j 1))
      ∧ (m ((c.tc : Thread Cert.SsdFwdKernelIdeal.nD Cert.SsdFwdKernelIdeal.τ).loc Cert.SsdFwdKernelIdeal.main_arg2) : FVec Ideal Cert.SsdFwdKernelIdeal.S32 .f32) = (up fun j => P0 (j 0))
      ∧ (m ((c.tc : Thread Cert.SsdFwdKernelIdeal.nD Cert.SsdFwdKernelIdeal.τ).loc Cert.SsdFwdKernelIdeal.main_arg3) : FVec Ideal Cert.SsdFwdKernelIdeal.S32 .f32) = (up fun j => P1 (j 0))
      ∧ (m ((c.tc : Thread Cert.SsdFwdKernelIdeal.nD Cert.SsdFwdKernelIdeal.τ).loc Cert.SsdFwdKernelIdeal.main_arg4) : FVec Ideal Cert.SsdFwdKernelIdeal.S32 .f32) = (up fun j => P2 (j 0)) := by
  have hp := pre_at _ _ _ _ _ (fun j => congrFun (hpre c) j)
  refine ⟨fun i k => EReal.toReal (m ((c.tc : Thread Cert.SsdFwdKernelIdeal.nD Cert.SsdFwdKernelIdeal.τ).loc Cert.SsdFwdKernelIdeal.main_arg0) (ix2 i k)),
    fun i k => EReal.toReal (m ((c.tc : Thread Cert.SsdFwdKernelIdeal.nD Cert.SsdFwdKernelIdeal.τ).loc Cert.SsdFwdKernelIdeal.main_arg1) (ix2 i k)),
    fun k => EReal.toReal (m ((c.tc : Thread Cert.SsdFwdKernelIdeal.nD Cert.SsdFwdKernelIdeal.τ).loc Cert.SsdFwdKernelIdeal.main_arg2) (ix1 k)),
    fun k => EReal.toReal (m ((c.tc : Thread Cert.SsdFwdKernelIdeal.nD Cert.SsdFwdKernelIdeal.τ).loc Cert.SsdFwdKernelIdeal.main_arg3) (ix1 k)),
    fun k => EReal.toReal (m ((c.tc : Thread Cert.SsdFwdKernelIdeal.nD Cert.SsdFwdKernelIdeal.τ).loc Cert.SsdFwdKernelIdeal.main_arg4) (ix1 k)),
    real2 (m ((c.tc : Thread Cert.SsdFwdKernelIdeal.nD Cert.SsdFwdKernelIdeal.τ).loc Cert.SsdFwdKernelIdeal.main_arg0)) fun i k => ?_, real2 (m ((c.tc : Thread Cert.SsdFwdKernelIdeal.nD Cert.SsdFwdKernelIdeal.τ).loc Cert.SsdFwdKernelIdeal.main_arg1)) fun i k => (hp i 0 k).2.1,
    real1 (m ((c.tc : Thread Cert.SsdFwdKernelIdeal.nD Cert.SsdFwdKernelIdeal.τ).loc Cert.SsdFwdKernelIdeal.main_arg2)) fun k => (hp 0 0 k).2.2.1,
    real1 (m ((c.tc : Thread Cert.SsdFwdKernelIdeal.nD Cert.SsdFwdKernelIdeal.τ).loc Cert.SsdFwdKernelIdeal.main_arg3)) fun k => (hp 0 0 k).2.2.2.1,
    real1 (m ((c.tc : Thread Cert.SsdFwdKernelIdeal.nD Cert.SsdFwdKernelIdeal.τ).loc Cert.SsdFwdKernelIdeal.main_arg4)) fun k => (hp 0 0 k).2.2.2.2⟩
  have h := (hp i ⟨k.val / 32, by have := k.isLt; omega⟩ ⟨k.val % 32, by omega⟩).1
  have e : (⟨k.val / 32 * 32 + k.val % 32, by have := k.isLt; omega⟩ : Fin 3072) = k := Fin.ext (by dsimp only; omega)
  rwa [e] at h

theorem ssdf_algebraic : Cert.algebraic_SsdFwdKernelIdeal_SsdFwdReferenceIdeal_pre_ssdf_finite := by
  pair_intro
  · run_from Cert.SsdFwdKernelIdeal.Gen.run_main m g
    all_goals rfl
  · run_from Cert.SsdFwdReferenceIdeal.Value.run m' g'
    all_goals
      obtain ⟨e0, e1, e2, e3, e4⟩ := hagree c
      obtain ⟨X, D, P0, P1, P2, r0, r1, r2, r3, r4⟩ := ssdf_reals m hpre c
    · refine Eq.trans ?_ (final X D P0 P1 P2 m c r0 r1 r2 r3 r4).symm
      refine (Cert.SsdFwdReferenceIdeal.Stage.res_eq m' c).trans ?_
      rw [e0, e1, e2, e3, e4]
      exact yE_up _ _ _ _ _ _ _ _ _ _ r0 r1 r2 r3 r4
    · refine Eq.trans ?_ (final_states m X D P0 P1 P2 c r0 r1 r2 r3 r4).symm
      refine (Cert.SsdFwdReferenceIdeal.Stage.res_states m' c).trans ?_
      rw [e0, e1, e2, e3]
      exact states_up _ _ _ _ _ _ _ _ r0 r1 r2 r3

end Cert.Proof

end
-- ==== Proof.SsdBack.lean ====
/- One chunk of the backward scan as the kernel writes it, and its value over the real numbers. -/
module

public import proofs.«01_k».proof.Proof.Gen.SsdKernelIdeal.Frame
public import proofs.«01_k».proof.Proof.SsdChunk

@[expose] public section

set_option maxRecDepth 16384

noncomputable section

namespace Cert.SsdBack

open Idealize.ShloMosaic Idealize.SL.Sem Cert.SsdChunk Cert.SsdFwdKernelIdeal Cert.SsdFwdKernelIdeal.Gen

section
variable {F : FTy → Type} [FloatOps F]

/-- The masked decays of a head, from the columns of its first lane. -/
def decM (l : BitVec 32) (a ac : FVec F S256x256 .f32) : FVec F S256x256 .f32 :=
  exp (select (cmpi .sge rows cols)
      (subf (broadcastTo S256x256 (col l ac) broadcasts_S256x1_S256x256)
        (broadcastTo S256x256 (shapeCast S1x256 (multiReduction .add [0] S256
          (select (cmpi .sle rows cols) (broadcastTo S256x256 (shapeCast S256x1 (col l a) shapeCasts_S256x1_S256x1) broadcasts_S256x1_S256x256)
            (zero _)) 0x00000000#32 reduces_S256x256_S256 (.inl rfl) rfl) shapeCasts_S256_S1x256) broadcasts_S1x256_S256x256))
      (broadcast S256x256 (Scalar.ofBits .f32 0xFF800000#32)))

/-- The identity that the kernel writes as a change of shape. -/
def same2 (v : FVec F S256x256 .f32) : FVec F S256x256 .f32 := shapeCast S256x256 v rfl
def sameN (v : FVec F S256x128 .f32) : FVec F S256x128 .f32 := shapeCast S256x128 v rfl

/-- Products of matrices: the plain one, with the left one transposed, with the right one transposed. -/
def mulTN (a b : FVec F S256x256 .f32) : FVec F S256x256 .f32 :=
  matmul SsdKernelIdeal.dot_S256x256_S256x256_S256x256_0_0_1_1_n_n none (truncf .bf16 a bitsLt_bf16_f32) (truncf .bf16 b bitsLt_bf16_f32)
    (constant S256x256 .f32 0x00000000#32)
def mulWT (a b : FVec F S256x256 .f32) : FVec F S256x256 .f32 :=
  matmul SsdKernelIdeal.dot_S256x256_S256x256_S256x256_1_1_0_0_n_n none (truncf .bf16 a bitsLt_bf16_f32) (truncf .bf16 b bitsLt_bf16_f32)
    (constant S256x256 .f32 0x00000000#32)
def mulN (a : FVec F S256x256 .f32) (b : FVec F S256x128 .f32) : FVec F S256x128 .f32 :=
  matmul SsdKernelIdeal.dot_S256x256_S256x128_S256x128_1_0_0_1_n_n none (truncf .bf16 a bitsLt_bf16_f32) (truncf .bf16 b bitsLt_bf16_f32)
    (constant S256x128 .f32 0x00000000#32)
def mulTNn (a : FVec F S256x256 .f32) (b : FVec F S256x128 .f32) : FVec F S256x128 .f32 :=
  matmul dot_S256x256_S256x128_S256x128_0_0_1_1_n_n none (truncf .bf16 a bitsLt_bf16_f32) (truncf .bf16 b bitsLt_bf16_f32)
    (constant S256x128 .f32 0x00000000#32)

/-- A head's part of the gradient of the channels. -/
def bhead (l r : BitVec 32) (cb a ac dy : FVec F S256x256 .f32) : FVec F S256x256 .f32 := mulTN (mulf cb (decM l a ac)) (part r dy)

/-- A head's part of the gradient of the two matrices' products. -/
def ghead (l r : BitVec 32) (a ac dy xdt : FVec F S256x256 .f32) : FVec F S256x256 .f32 := mulf (mulWT (part r dy) xdt) (decM l a ac)

/-- The decay from a row to the end of the chunk. -/
def toEnd (a ac : FVec F S256x256 .f32) : FVec F S256x256 .f32 :=
  exp (subf (broadcastTo S256x256 (alast a) broadcasts_S1x256_S256x256) ac)

/-- The gradient of half a group's channels. -/
def dxOut (h : BitVec 32) (b c : FVec F S256x128 .f32) (d : FVec F S256x128 .f32) (p0 p1 p2 : FVec F S8x128 .f32) (dy : FVec F S256x256 .f32)
    (ds : FVec F S256x128 .f32) : FVec F S256x256 .f32 :=
  let a := af h (dtv d p0) p1
  addf (mulf (broadcastTo S256x256 (meanw (selE8 h p2)) broadcasts_S1x256_S256x256) (same2 dy))
    (mulf (addf (addf (addf (addf (mulf (mulNT b (sameN ds)) (toEnd a (acum a))) (bhead 192#32 3#32 (mulNT c b) a (acum a) (same2 dy)))
      (bhead 128#32 2#32 (mulNT c b) a (acum a) (same2 dy))) (bhead 64#32 1#32 (mulNT c b) a (acum a) (same2 dy)))
      (bhead 0#32 0#32 (mulNT c b) a (acum a) (same2 dy))) (selE h (dtv d p0)))

/-- The gradient of the state that half a group takes. -/
def dsOut (h : BitVec 32) (c : FVec F S256x128 .f32) (d : FVec F S256x128 .f32)
    (p0 p1 : FVec F S8x128 .f32) (dy : FVec F S256x256 .f32) (ds : FVec F S256x128 .f32) : FVec F S256x128 .f32 :=
  addf (mulf (broadcastTo S256x128 (exp (mulf (shapeCast S256x1 (multiReduction .add [1] S256
        (sel (fun p => matmul dot_S256x128_S8x128_S256x8_1_1_0_0_n_n none (truncf .bf16 (expandT h) bitsLt_bf16_f32) p
          (constant S256x8 .f32 0x00000000#32)) (total d p0 p1)) 0x00000000#32 reduces_S256x8_S256 (.inl rfl) rfl) shapeCasts_S256_S256x1)
        (broadcast S256x1 (Scalar.ofBits .f32 0x3E000000#32)))) broadcasts_S256x1_S256x128) (sameN ds))
    (mulTNn (mulf (same2 dy) (exp (acum (af h (dtv d p0) p1)))) c)

/-- The gradient of the products of the two matrices' rows, over a group. -/
def gOut (d : FVec F S256x128 .f32) (p0 p1 : FVec F S8x128 .f32) (x0 x1 dy0 dy1 : FVec F S256x256 .f32) : FVec F S256x256 .f32 :=
  let a0 := af 0#32 (dtv d p0) p1
  let a1 := af 4#32 (dtv d p0) p1
  let w0 := mulf x0 (selE 0#32 (dtv d p0))
  let w1 := mulf x1 (selE 4#32 (dtv d p0))
  addf (addf (addf (addf (addf (addf (addf (ghead 192#32 3#32 a1 (acum a1) (same2 dy1) w1) (ghead 128#32 2#32 a1 (acum a1) (same2 dy1) w1))
    (ghead 64#32 1#32 a1 (acum a1) (same2 dy1) w1)) (ghead 0#32 0#32 a1 (acum a1) (same2 dy1) w1))
    (ghead 192#32 3#32 a0 (acum a0) (same2 dy0) w0)) (ghead 128#32 2#32 a0 (acum a0) (same2 dy0) w0))
    (ghead 64#32 1#32 a0 (acum a0) (same2 dy0) w0)) (ghead 0#32 0#32 a0 (acum a0) (same2 dy0) w0)

/-- The gradients of the two matrices over a group. -/
def dbOut (c d : FVec F S256x128 .f32) (p0 p1 : FVec F S8x128 .f32) (x0 x1 dy0 dy1 : FVec F S256x256 .f32) (ds0 ds1 : FVec F S256x128 .f32) :
    FVec F S256x128 .f32 :=
  let a0 := af 0#32 (dtv d p0) p1
  let a1 := af 4#32 (dtv d p0) p1
  addf (addf (mulN (mulf (mulf x1 (selE 4#32 (dtv d p0))) (toEnd a1 (acum a1))) (sameN ds1))
      (mulN (mulf (mulf x0 (selE 0#32 (dtv d p0))) (toEnd a0 (acum a0))) (sameN ds0)))
    (mulTNn (gOut d p0 p1 x0 x1 dy0 dy1) c)

def dcOut (b d : FVec F S256x128 .f32) (p0 p1 : FVec F S8x128 .f32) (x0 x1 dy0 dy1 : FVec F S256x256 .f32) (s0 s1 : FVec F S256x128 .f32) :
    FVec F S256x128 .f32 :=
  addf (addf (mulN (mulf (same2 dy1) (exp (acum (af 4#32 (dtv d p0) p1)))) s1)
      (mulN (mulf (same2 dy0) (exp (acum (af 0#32 (dtv d p0) p1)))) s0))
    (mulN (gOut d p0 p1 x0 x1 dy0 dy1) b)
end

theorem same2_eq (v : FVec Ideal S256x256 .f32) : same2 v = v := by
  refine ext2 fun i k => ?_
  pointwise [same2]

theorem sameN_eq (v : FVec Ideal S256x128 .f32) : sameN v = v := by
  refine ext2 fun i k => ?_
  pointwise [sameN]

theorem decM_up (r : ℕ) (hr : r < 4) (a) :
    decM (BitVec.ofNat 32 (64 * r)) (MW a) (MW fun i k => cu (fun u => a u k) i) = MW fun i s => dec (fun u => a u (lo r hr)) i s := by
  refine ext2 fun i x => ?_
  unfold decM
  rw [col_up r hr, col_up r hr]
  pointwise [rows, cols, zero]
  have e : ∑ u : _root_.Fin 256, Scalar.select (IntOp.cmpi .sle (BitVec.ofNat 32 u.val) (BitVec.ofNat 32 x.val)) (C (fun i => a i (lo r hr)) (ix2 u 0)) (0 : EReal)
      = ((cu (fun u => a u (lo r hr)) x : ℝ) : EReal) := by
    refine (Fin.sum_fin_congr fun u => ?_).trans (coe_sum _ _)
    rw [select_sle _ _ u.isLt x.isLt, C_at]
    split_ifs <;> simp
  rw [select_sge _ _ i.isLt x.isLt, e]
  simp only [MW_at, C_at, ofBits_bot]
  unfold dec
  by_cases hx : x.val ≤ i.val
  · rw [if_pos hx, if_pos hx, ← EReal.coe_sub, exp_coe]
  · rw [if_neg hx, if_neg hx]
    rfl

theorem partM_up (r : ℕ) (hr : r < 4) (y) : part (BitVec.ofNat 32 r) (MW y) = MW fun i k => if k.val / 64 = r then y i k else 0 := by
  refine ext2 fun i k => ?_
  rw [part_up r hr, MW_at, MW_at]
  split_ifs <;> simp

theorem sum_mul {ι : Type} [Fintype ι] (f g : ι → ℝ) : ∑ i, ((f i : ℝ) : EReal) * ((g i : ℝ) : EReal) = ((∑ i, f i * g i : ℝ) : EReal) :=
  (Finset.sum_congr rfl fun _ _ => (EReal.coe_mul _ _).symm).trans (coe_sum _ _)

theorem mulTN_up (a b) : mulTN (MW a) (MW b) = MW fun i k => ∑ t, a t i * b t k := by
  refine ext2 fun i k => ?_
  pointwise [mulTN]
  exact sum_mul _ _
theorem mulWT_up (a b) : mulWT (MW a) (MW b) = MW fun i k => ∑ t, a i t * b k t := by
  refine ext2 fun i k => ?_
  pointwise [mulWT]
  exact sum_mul _ _
theorem mulN_up (a b) : mulN (MW a) (MN b) = MN fun i n => ∑ t, a i t * b t n := by
  refine ext2 fun i k => ?_
  pointwise [mulN]
  exact sum_mul _ _
theorem mulTNn_up (a b) : mulTNn (MW a) (MN b) = MN fun k n => ∑ t, a t k * b t n := by
  refine ext2 fun i k => ?_
  pointwise [mulTNn]
  exact sum_mul _ _

theorem add_MW (f g) : addf (MW f) (MW g) = MW fun i k => f i k + g i k := by
  refine ext2 fun i k => ?_
  pointwise []
  exact (EReal.coe_add _ _).symm
theorem add_MN (f g) : addf (MN f) (MN g) = MN fun i k => f i k + g i k := by
  refine ext2 fun i k => ?_
  pointwise []
  exact (EReal.coe_add _ _).symm
theorem exp_MW (f) : exp (MW f) = MW fun i k => Real.exp (f i k) := rfl
theorem row_MW (f) (g) : mulf (broadcastTo S256x256 (Rw f) broadcasts_S1x256_S256x256) (MW g) = MW fun i k => f k * g i k := by
  refine ext2 fun i k => ?_
  pointwise []
  exact (EReal.coe_mul _ _).symm

theorem toEnd_up (a) : toEnd (MW a) (MW fun i k => cu (fun u => a u k) i) = MW fun i k => Real.exp ((∑ u, a u k) - cu (fun u => a u k) i) := by
  refine ext2 fun i k => ?_
  unfold toEnd
  rw [alast_up]
  pointwise []
  simp only [MW_at, Rw_at, ← EReal.coe_sub, exp_coe]

theorem bhead_up (r : ℕ) (hr : r < 4) (cb a dy) :
    bhead (BitVec.ofNat 32 (64 * r)) (BitVec.ofNat 32 r) (MW cb) (MW a) (MW fun i k => cu (fun u => a u k) i) (MW dy)
      = MW fun s k => if k.val / 64 = r then ∑ t, cb t s * dec (fun u => a u (fl k)) t s * dy t k else 0 := by
  unfold bhead
  rw [decM_up r hr, partM_up r hr, mul_MW, mulTN_up]
  congr 1
  funext s k
  by_cases h : k.val / 64 = r
  · subst h
    simp only [if_true]
    rfl
  · simp only [if_neg h, mul_zero, Finset.sum_const_zero]

theorem ghead_up (r : ℕ) (hr : r < 4) (a dy w) :
    ghead (BitVec.ofNat 32 (64 * r)) (BitVec.ofNat 32 r) (MW a) (MW fun i k => cu (fun u => a u k) i) (MW dy) (MW w)
      = MW fun t s => ∑ k : _root_.Fin 256, if k.val / 64 = r then dy t k * w s k * dec (fun u => a u (fl k)) t s else 0 := by
  unfold ghead
  rw [decM_up r hr, partM_up r hr, mulWT_up, mul_MW]
  congr 1
  funext t s
  rw [Finset.sum_mul]
  refine Finset.sum_congr rfl fun k _ => ?_
  by_cases h : k.val / 64 = r
  · subst h
    simp only [if_true]
    rfl
  · simp only [if_neg h, zero_mul]

/-- Of the four heads of half a group a column has one. -/
theorem four (q : ℕ) (hq : q < 4) (v : ℝ) :
    (((if q = 3 then v else 0) + if q = 2 then v else 0) + if q = 1 then v else 0) + (if q = 0 then v else 0) = v := by
  obtain rfl | rfl | rfl | rfl : q = 0 ∨ q = 1 ∨ q = 2 ∨ q = 3 := by omega
  all_goals simp

/-- The gradient at a row and a column, and that of the state. -/
def dxR (b c d : _root_.Fin 256 → _root_.Fin 128 → ℝ) (p0 p1 p2 : _root_.Fin 128 → ℝ) (dy : _root_.Fin 256 → _root_.Fin 256 → ℝ)
    (ds : _root_.Fin 256 → _root_.Fin 128 → ℝ) (q : _root_.Fin 128) (s k : _root_.Fin 256) : ℝ :=
  p2 q * dy s k + ((∑ n, b s n * ds k n) * Real.exp ((∑ u, av d p0 p1 q u) - cu (av d p0 p1 q) s)
    + ∑ t, (∑ n, c t n * b s n) * dec (av d p0 p1 q) t s * dy t k) * sp (d s q + p0 q)

def dsR (c d : _root_.Fin 256 → _root_.Fin 128 → ℝ) (p0 p1 : _root_.Fin 128 → ℝ) (dy : _root_.Fin 256 → _root_.Fin 256 → ℝ)
    (ds : _root_.Fin 256 → _root_.Fin 128 → ℝ) (q : _root_.Fin 128) (k : _root_.Fin 256) (n : _root_.Fin 128) : ℝ :=
  Real.exp (∑ u, av d p0 p1 q u) * ds k n + ∑ t, dy t k * Real.exp (cu (av d p0 p1 q) t) * c t n

theorem af_av (h : ℕ) (hh : h ≤ 4) (d : _root_.Fin 256 → _root_.Fin 128 → ℝ) (p0 p1 : _root_.Fin 128 → ℝ) :
    af (BitVec.ofNat 32 h) (MN fun i k => sp (d i k + p0 k)) (M8 p1) = MW fun i k => av d p0 p1 (hd h hh k) i := af_up h hh _ p1

theorem dxOut_up (h : ℕ) (hh : h ≤ 4) (b c d p0 p1 p2 dy ds) :
    dxOut (BitVec.ofNat 32 h) (MN b) (MN c) (MN d) (M8 p0) (M8 p1) (M8 p2) (MW dy) (MN ds)
      = MW fun i k => dxR b c d p0 p1 p2 dy ds (hd h hh k) i k := by
  unfold dxOut
  dsimp only
  have b0 := bhead_up 0 (by omega)
  rw [show 64 * 0 = 0 from rfl] at b0
  have b1 := bhead_up 1 (by omega)
  rw [show 64 * 1 = 64 from rfl] at b1
  have b2 := bhead_up 2 (by omega)
  rw [show 64 * 2 = 128 from rfl] at b2
  have b3 := bhead_up 3 (by omega)
  rw [show 64 * 3 = 192 from rfl] at b3
  rw [same2_eq, sameN_eq, dtv_up, af_av h hh, acum_up, selE_up h hh, mulNT_up, mulNT_up, selE8_up h hh, meanw_up, row_MW, toEnd_up, mul_MW]
  rw [b0, b1, b2, b3, add_MW, add_MW, add_MW, add_MW, mul_MW, add_MW]
  congr 1
  funext i k
  have e := four (k.val / 64) (by omega) (∑ t, (∑ n, c t n * b i n) * dec (av d p0 p1 (hd h hh k)) t i * dy t k)
  unfold dxR
  rw [← e]
  simp only [hd_fl]
  ring

theorem dsOut_up (h : ℕ) (hh : h ≤ 4) (c d p0 p1 dy ds) :
    dsOut (BitVec.ofNat 32 h) (MN c) (MN d) (M8 p0) (M8 p1) (MW dy) (MN ds)
      = MN fun k n => dsR c d p0 p1 dy ds (hd h hh k) k n := by
  refine ext2 fun k n => ?_
  unfold dsOut
  rw [same2_eq, sameN_eq, dtv_up, af_up h hh, acum_up, exp_MW, mul_MW, mulTNn_up, total_up]
  have e : sel (fun p => matmul dot_S256x128_S8x128_S256x8_1_1_0_0_n_n none (truncf .bf16 (expandT (F := Ideal) (BitVec.ofNat 32 h)) bitsLt_bf16_f32) p
          (constant S256x8 .f32 0x00000000#32)) (M8 fun c => ∑ u, av d p0 p1 c u)
        = up fun j => ∑ u, av d p0 p1 (hd h hh (j 0)) u := by
    refine (sel_up _ _ (funext fun j => by pointwise []; exact Finset.sum_eq_zero fun _ _ => mul_zero _)).trans ?_
    refine ext2 fun i k => ?_
    pointwise []
    exact (Fin.sum_fin_congr fun x => by rw [expandT_at h hh, mul_comm]).trans (sum_pick h hh i fun c => ((∑ u, av d p0 p1 c u : ℝ) : EReal))
  rw [e]
  pointwise []
  have e8 : (∑ x : _root_.Fin 8, (up (s := S256x8) (fun j => ∑ u, av d p0 p1 (hd h hh (j 0)) u)) (ix2 k x)) * Ideal.ofBits .f32 0x3E000000#32
      = ((∑ u, av d p0 p1 (hd h hh k) u : ℝ) : EReal) := by
    show (∑ x : _root_.Fin 8, ((∑ u, av d p0 p1 (hd h hh k) u : ℝ) : EReal)) * _ = _
    rw [ofBits_eighth, coe_sum, ← EReal.coe_mul]
    congr 1
    simp
    ring
  rw [e8]
  simp only [MN_at, exp_coe, ← EReal.coe_mul, ← EReal.coe_add]
  rfl

/-- The gradient of the products of rows, of half a group. -/
def gR (x dy : _root_.Fin 256 → _root_.Fin 256 → ℝ) (d : _root_.Fin 256 → _root_.Fin 128 → ℝ) (p0 p1 : _root_.Fin 128 → ℝ) (h : ℕ) (hh : h ≤ 4)
    (t s : _root_.Fin 256) : ℝ :=
  ∑ k : _root_.Fin 256, dy t k * (x s k * sp (d s (hd h hh k) + p0 (hd h hh k))) * dec (av d p0 p1 (hd h hh k)) t s

theorem gfour (d p0 p1 x dy) (h : ℕ) (hh : h ≤ 4) (t s : _root_.Fin 256) :
    gR x dy d p0 p1 h hh t s = (((∑ k : _root_.Fin 256, if k.val / 64 = 3 then dy t k * (x s k * sp (d s (hd h hh k) + p0 (hd h hh k))) * dec (av d p0 p1 (hd h hh k)) t s else 0)
      + ∑ k : _root_.Fin 256, if k.val / 64 = 2 then dy t k * (x s k * sp (d s (hd h hh k) + p0 (hd h hh k))) * dec (av d p0 p1 (hd h hh k)) t s else 0)
      + ∑ k : _root_.Fin 256, if k.val / 64 = 1 then dy t k * (x s k * sp (d s (hd h hh k) + p0 (hd h hh k))) * dec (av d p0 p1 (hd h hh k)) t s else 0)
      + ∑ k : _root_.Fin 256, if k.val / 64 = 0 then dy t k * (x s k * sp (d s (hd h hh k) + p0 (hd h hh k))) * dec (av d p0 p1 (hd h hh k)) t s else 0 := by
  rw [← Finset.sum_add_distrib, ← Finset.sum_add_distrib, ← Finset.sum_add_distrib]
  exact Finset.sum_congr rfl fun k _ => (four (k.val / 64) (by omega) _).symm

theorem gOut_up (d p0 p1 x0 x1 dy0 dy1) :
    gOut (MN d) (M8 p0) (M8 p1) (MW x0) (MW x1) (MW dy0) (MW dy1)
      = MW fun t s => gR x1 dy1 d p0 p1 4 (by omega) t s + gR x0 dy0 d p0 p1 0 (by omega) t s := by
  unfold gOut
  dsimp only
  have b0 := ghead_up 0 (by omega)
  rw [show 64 * 0 = 0 from rfl] at b0
  have b1 := ghead_up 1 (by omega)
  rw [show 64 * 1 = 64 from rfl] at b1
  have b2 := ghead_up 2 (by omega)
  rw [show 64 * 2 = 128 from rfl] at b2
  have b3 := ghead_up 3 (by omega)
  rw [show 64 * 3 = 192 from rfl] at b3
  have a0 := af_av 0 (by omega)
  have a1 := af_av 4 (by omega)
  have s0 := selE_up 0 (by omega)
  have s1 := selE_up 4 (by omega)
  rw [same2_eq, same2_eq, dtv_up]
  rw [a0, a1, s0, s1, acum_up, acum_up, mul_MW, mul_MW, b0, b1, b2, b3, b0, b1, b2, b3]
  simp only [add_MW]
  congr 1
  funext t s
  rw [gfour, gfour]
  simp only [hd_fl]
  ring

/-- The gradients of the two matrices at a row. -/
def dbR (c d : _root_.Fin 256 → _root_.Fin 128 → ℝ) (p0 p1 : _root_.Fin 128 → ℝ) (x0 x1 dy0 dy1 : _root_.Fin 256 → _root_.Fin 256 → ℝ)
    (ds0 ds1 : _root_.Fin 256 → _root_.Fin 128 → ℝ) (s : _root_.Fin 256) (n : _root_.Fin 128) : ℝ :=
  (∑ k, x1 s k * sp (d s (hd 4 (by omega) k) + p0 (hd 4 (by omega) k)) * Real.exp ((∑ u, av d p0 p1 (hd 4 (by omega) k) u) - cu (av d p0 p1 (hd 4 (by omega) k)) s) * ds1 k n
    + ∑ k, x0 s k * sp (d s (hd 0 (by omega) k) + p0 (hd 0 (by omega) k)) * Real.exp ((∑ u, av d p0 p1 (hd 0 (by omega) k) u) - cu (av d p0 p1 (hd 0 (by omega) k)) s) * ds0 k n)
  + ∑ t, (gR x1 dy1 d p0 p1 4 (by omega) t s + gR x0 dy0 d p0 p1 0 (by omega) t s) * c t n

def dcR (b d : _root_.Fin 256 → _root_.Fin 128 → ℝ) (p0 p1 : _root_.Fin 128 → ℝ) (x0 x1 dy0 dy1 : _root_.Fin 256 → _root_.Fin 256 → ℝ)
    (s0 s1 : _root_.Fin 256 → _root_.Fin 128 → ℝ) (t : _root_.Fin 256) (n : _root_.Fin 128) : ℝ :=
  (∑ k, dy1 t k * Real.exp (cu (av d p0 p1 (hd 4 (by omega) k)) t) * s1 k n + ∑ k, dy0 t k * Real.exp (cu (av d p0 p1 (hd 0 (by omega) k)) t) * s0 k n)
  + ∑ s, (gR x1 dy1 d p0 p1 4 (by omega) t s + gR x0 dy0 d p0 p1 0 (by omega) t s) * b s n

theorem dbOut_up (c d p0 p1 x0 x1 dy0 dy1 ds0 ds1) :
    dbOut (MN c) (MN d) (M8 p0) (M8 p1) (MW x0) (MW x1) (MW dy0) (MW dy1) (MN ds0) (MN ds1)
      = MN fun s n => dbR c d p0 p1 x0 x1 dy0 dy1 ds0 ds1 s n := by
  unfold dbOut
  dsimp only
  have a0 := af_av 0 (by omega)
  have a1 := af_av 4 (by omega)
  have s0 := selE_up 0 (by omega)
  have s1 := selE_up 4 (by omega)
  rw [sameN_eq, sameN_eq, gOut_up, dtv_up, a0, a1, s0, s1, acum_up, acum_up, toEnd_up, toEnd_up, mul_MW, mul_MW, mul_MW, mul_MW, mulN_up, mulN_up, mulTNn_up,
    add_MN, add_MN]
  rfl

theorem dcOut_up (b d p0 p1 x0 x1 dy0 dy1 s0 s1) :
    dcOut (MN b) (MN d) (M8 p0) (M8 p1) (MW x0) (MW x1) (MW dy0) (MW dy1) (MN s0) (MN s1)
      = MN fun t n => dcR b d p0 p1 x0 x1 dy0 dy1 s0 s1 t n := by
  unfold dcOut
  have a0 := af_av 0 (by omega)
  have a1 := af_av 4 (by omega)
  rw [same2_eq, same2_eq, gOut_up, dtv_up, a0, a1, acum_up, acum_up, exp_MW, exp_MW, mul_MW, mul_MW, mulN_up, mulN_up, mulN_up, add_MN, add_MN]
  rfl

end Cert.SsdBack

end
-- ==== Proof.SsdBackRun.lean ====
/- What each step of the backward scan leaves in the gradient of the values and in the carried gradient of the state. -/
module

public import proofs.«01_k».proof.Proof.SsdBack
public import proofs.«01_k».proof.Proof.SsdFwdRun

@[expose] public section

set_option maxRecDepth 16384

noncomputable section

namespace Cert.SsdBack

open Idealize.ShloMosaic Idealize.SL.Sem Cert.SsdChunk Cert.SsdKernelIdeal Cert.SsdKernelIdeal.Gen
open Cert.SsdFwd (boxes mem_boxes inb_x inb_b inb_d inb_p inb_s lx lb ldt lp ls stA stB lx_up lb_up ldt_up lp_up ls_stB ls_stA
  cx cb hb bx bk bx_cx bk_cx cx_bx stV vX vB vD vP canon_skip shapeCast_to4)

section
variable {F : FTy → Type} [FloatOps F]

section
variable {sg : RefSig} (arg3 : Memref sg .tc .vmem S256x512 .f32) (harg3 : arg3.IsWhole)
  (arg4 : Memref sg .tc .vmem S256x512 .f32) (harg4 : arg4.IsWhole) (arg5 : Memref sg .tc .vmem S4x256x128 .f32) (harg5 : arg5.IsWhole)
  (arg6 : Memref sg .tc .vmem S4x8x128 .f32) (harg6 : arg6.IsWhole) (arg7 : Memref sg .tc .vmem S4x8x128 .f32) (harg7 : arg7.IsWhole)
  (arg8 : Memref sg .tc .vmem S4x8x128 .f32) (harg8 : arg8.IsWhole) (arg10 : Memref sg .tc .vmem S256x2048 .f32) (harg10 : arg10.IsWhole)
  (x1 x2 : Vec F S256x512 .f32) (x3 : Vec F S4x256x128 .f32) (x4 x5 x6 : Vec F S4x8x128 .f32) (x8 : Vec F S256x2048 .f32)
  (st : _root_.Fin 4 × _root_.Fin 2 → Vec F S1x1x256x128 .f32)

/-- What a box stores in the gradient of the values, and in the carried gradient of the state. -/
def dxPc (p : _root_.Fin 4 × _root_.Fin 2) : View.Piece (Elt F) S256x2048 .f32 :=
  ⟨Rect.unit ![0, 512 * p.1.val + 256 * p.2.val] ![256, 256] (inb_x p),
    dxOut (BitVec.ofNat 32 (4 * p.2.val)) (lb arg3 harg3 x1 p.1) (lb arg4 harg4 x2 p.1) (ldt arg5 harg5 x3 p.1)
      (lp arg6 harg6 x4 p.1) (lp arg7 harg7 x5 p.1) (lp arg8 harg8 x6 p.1) (lx arg10 harg10 x8 p) (ls st p)⟩

def dsPc (p : _root_.Fin 4 × _root_.Fin 2) : View.Piece (Elt F) S4x2x256x128 .f32 :=
  ⟨Rect.unit ![p.1.val, p.2.val, 0, 0] ![1, 1, 256, 128] (inb_s p),
    shapeCast S1x1x256x128 (dsOut (BitVec.ofNat 32 (4 * p.2.val)) (lb arg4 harg4 x2 p.1) (ldt arg5 harg5 x3 p.1)
      (lp arg6 harg6 x4 p.1) (lp arg7 harg7 x5 p.1) (lx arg10 harg10 x8 p) (ls st p)) shapeCasts_S256x128_S1x1x256x128⟩
end

theorem dxB (c : Dev nD) (i : grid0.Coords) (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) (xo13 : Vec F S4x8x128 .f32) (xo14 : Vec F S4x8x128 .f32) (xo15 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo13 xo14 xo15 xs0).1 = boxes.map (dxPc arg3 harg3 arg4 harg4 arg5 harg5 arg6 harg6 arg7 harg7 arg8 harg8 arg10 harg10 x1 x2 x3 x4 x5 x6 x8 (stB arg18 harg18 xs0)) := rfl

theorem dsB (c : Dev nD) (i : grid0.Coords) (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) (xo13 : Vec F S4x8x128 .f32) (xo14 : Vec F S4x8x128 .f32) (xo15 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo13 xo14 xo15 xs0).2.2.2.2.2.2.2.1 = boxes.map (dsPc arg4 harg4 arg5 harg5 arg6 harg6 arg7 harg7 arg10 harg10 x2 x3 x4 x5 x8 (stB arg18 harg18 xs0)) := rfl

theorem dxA (c : Dev nD) (i : grid0.Coords) (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).1 = boxes.map (dxPc arg3 harg3 arg4 harg4 arg5 harg5 arg6 harg6 arg7 harg7 arg8 harg8 arg10 harg10 x1 x2 x3 x4 x5 x6 x8 (stA arg18 ![kernelRun0_A.sl.HS0_1, kernelRun0_A.sl.HS0_3 c arg4 harg4 arg5 harg5 arg6 harg6 arg7 harg7 arg10 harg10 arg18 x2 x3 x4 x5 x8, kernelRun0_A.sl.HS0_5 c arg4 harg4 arg5 harg5 arg6 harg6 arg7 harg7 arg10 harg10 arg18 x2 x3 x4 x5 x8, kernelRun0_A.sl.HS0_7 c arg4 harg4 arg5 harg5 arg6 harg6 arg7 harg7 arg10 harg10 arg18 x2 x3 x4 x5 x8])) := rfl

theorem dsA (c : Dev nD) (i : grid0.Coords) (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.2.2.2.2.2.1 = boxes.map (dsPc arg4 harg4 arg5 harg5 arg6 harg6 arg7 harg7 arg10 harg10 x2 x3 x4 x5 x8 (stA arg18 ![kernelRun0_A.sl.HS0_1, kernelRun0_A.sl.HS0_3 c arg4 harg4 arg5 harg5 arg6 harg6 arg7 harg7 arg10 harg10 arg18 x2 x3 x4 x5 x8, kernelRun0_A.sl.HS0_5 c arg4 harg4 arg5 harg5 arg6 harg6 arg7 harg7 arg10 harg10 arg18 x2 x3 x4 x5 x8, kernelRun0_A.sl.HS0_7 c arg4 harg4 arg5 harg5 arg6 harg6 arg7 harg7 arg10 harg10 arg18 x2 x3 x4 x5 x8]))
      ++ [⟨Rect.unit ![0, 0, 0, 0] S4x2x256x128.size inb_S4x2x256x128_S4x2x256x128_0_0_0_0, k0_pay2⟩] := rfl
end

end Cert.SsdBack

namespace Cert.SsdBack

open Idealize.ShloMosaic Idealize.SL.Sem Cert.SsdChunk Cert.SsdKernelIdeal Cert.SsdKernelIdeal.Gen
open Cert.SsdFwd (Fn boxes mem_boxes inb_x inb_b inb_d inb_p inb_s lx lb ldt lp ls stA stB lx_up lb_up ldt_up lp_up ls_stB ls_stA
  cx cb hb bx bk bx_cx bk_cx cx_bx stV vX vB vD vP canon_skip shapeCast_to4)

/-- An array that is stored box after box holds at each index what its box stored there. -/
theorem canon_cols (v : Fn 4 × Fn 2 → FVec Ideal S256x256 .f32) (i : Fn 256) (c : Fn 2048) :
    View.canon (boxes.map fun p => (⟨Rect.unit ![0, 512 * p.1.val + 256 * p.2.val] ![256, 256] (inb_x p), v p⟩ : View.Piece (Elt Ideal) S256x2048 .f32)) (ix2 i c)
      = v (bx c) (ix2 i (bk c)) := by
  refine View.canon_apply_of_pieces (Val := Elt Ideal) (e := .f32) (fun j : S256x2048.Idx => v (bx (j 1)) (ix2 (j 0) (bk (j 1)))) _ ?_ _ ?_
  · intro q hq
    obtain ⟨p, -, rfl⟩ := List.mem_map.1 hq
    intro x
    obtain ⟨r, k, rfl⟩ : ∃ (r k : Fn 256), x = ix2 r k := ⟨x 0, x 1, by ext a; fin_cases a <;> rfl⟩
    have e1 : ((Rect.unit (s := S256x2048) ![0, 512 * p.1.val + 256 * p.2.val] ![256, 256] (inb_x p)).emb (ix2 r k)) = ix2 r (cx p k) := by
      refine funext fun a => Fin.ext ?_
      show _ + 1 * _ = _
      fin_cases a <;> simp [Rect.unit, ix2, cx]
    refine Eq.trans ?_ (congrArg (fun j : S256x2048.Idx => v (bx (j 1)) (ix2 (j 0) (bk (j 1)))) e1.symm)
    show v p (ix2 r k) = v (bx (cx p k)) (ix2 r (bk (cx p k)))
    rw [bx_cx, bk_cx]
  · refine ⟨_, List.mem_map_of_mem (mem_boxes (bx c)), ?_⟩
    rw [Rect.mem_set_unit]
    intro a
    have hc := c.isLt; have hi := i.isLt
    fin_cases a <;> simp [ix2, bx] <;> omega

theorem canon_state (v : Fn 4 × Fn 2 → FVec Ideal S256x128 .f32) (L : List (View.Piece (Elt Ideal) S4x2x256x128 .f32)) (y : S4x2x256x128.Idx) :
    View.canon ((boxes.map fun p => (⟨Rect.unit ![p.1.val, p.2.val, 0, 0] ![1, 1, 256, 128] (inb_s p), shapeCast S1x1x256x128 (v p) shapeCasts_S256x128_S1x1x256x128⟩
      : View.Piece (Elt Ideal) S4x2x256x128 .f32)) ++ L) y = v (y 0, y 1) (ix2 (y 2) (y 3)) := by
  have key : ∀ M : List (Fn 4 × Fn 2), (∃ p ∈ M, p = (y 0, y 1)) →
      View.canon ((M.map fun p => (⟨Rect.unit ![p.1.val, p.2.val, 0, 0] ![1, 1, 256, 128] (inb_s p), shapeCast S1x1x256x128 (v p) shapeCasts_S256x128_S1x1x256x128⟩
      : View.Piece (Elt Ideal) S4x2x256x128 .f32)) ++ L) y = v (y 0, y 1) (ix2 (y 2) (y 3)) := by
    intro M
    induction M with
    | nil => rintro ⟨p, hp, -⟩; simp at hp
    | cons p M ih =>
      intro hp
      rw [List.map_cons, List.cons_append]
      by_cases h : p = (y 0, y 1)
      · have e1 : y = ((Rect.unit (s := S4x2x256x128) ![p.1.val, p.2.val, 0, 0] ![1, 1, 256, 128] (inb_s p)).emb (SsdFwd.ix4 0 0 (y 2) (y 3))) := by
          refine funext fun a => Fin.ext ?_
          show _ = _ + 1 * _
          subst h
          fin_cases a <;> simp [Rect.unit, SsdFwd.ix4]
        refine (congrArg _ e1).trans ?_
        refine (View.canon_cons_emb (Val := Elt Ideal) (e := .f32) _ _ _ _).trans ?_
        refine (shapeCast_to4 _ 0 0 (y 2) (y 3)).trans ?_
        subst h; rfl
      · rw [View.canon_cons_of_not_mem]
        · refine ih ?_
          obtain ⟨q, hq, hq'⟩ := hp
          rcases List.mem_cons.1 hq with rfl | hq
          · exact absurd hq' h
          · exact ⟨q, hq, hq'⟩
        · rw [Rect.mem_set_unit]
          intro hm
          refine h (Prod.ext (Fin.ext ?_) (Fin.ext ?_))
          · have := hm 0; simp at this; show p.1.val = (y 0).val; omega
          · have := hm 1; simp at this; show p.2.val = (y 1).val; omega
  exact key boxes ⟨_, mem_boxes _, rfl⟩

/-- The gradient of the values and the new carried gradient of a box, from the numbers of its step. -/
def dxBox (B Cm : Fn 256 → Fn 512 → ℝ) (D : Fn 4 → Fn 256 → Fn 128 → ℝ) (P0 P1 P2 : Fn 4 → Fn 128 → ℝ) (Y : Fn 256 → Fn 2048 → ℝ)
    (S : Fn 4 × Fn 2 → Fn 256 → Fn 128 → ℝ) (p : Fn 4 × Fn 2) (i k : Fn 256) : ℝ :=
  dxR (fun i n => B i (cb p.1 n)) (fun i n => Cm i (cb p.1 n)) (D p.1) (P0 p.1) (P1 p.1) (P2 p.1) (fun i k => Y i (cx p k)) (S p)
    (hb p.2 k) i k

def dsBox (Cm : Fn 256 → Fn 512 → ℝ) (D : Fn 4 → Fn 256 → Fn 128 → ℝ) (P0 P1 : Fn 4 → Fn 128 → ℝ) (Y : Fn 256 → Fn 2048 → ℝ)
    (S : Fn 4 × Fn 2 → Fn 256 → Fn 128 → ℝ) (p : Fn 4 × Fn 2) (k : Fn 256) (n : Fn 128) : ℝ :=
  dsR (fun i n => Cm i (cb p.1 n)) (D p.1) (P0 p.1) (P1 p.1) (fun i k => Y i (cx p k)) (S p) (hb p.2 k) k n

section
variable {sg : RefSig} (arg3 : Memref sg .tc .vmem S256x512 .f32) (harg3 : arg3.IsWhole)
  (arg4 : Memref sg .tc .vmem S256x512 .f32) (harg4 : arg4.IsWhole) (arg5 : Memref sg .tc .vmem S4x256x128 .f32) (harg5 : arg5.IsWhole)
  (arg6 : Memref sg .tc .vmem S4x8x128 .f32) (harg6 : arg6.IsWhole) (arg7 : Memref sg .tc .vmem S4x8x128 .f32) (harg7 : arg7.IsWhole)
  (arg8 : Memref sg .tc .vmem S4x8x128 .f32) (harg8 : arg8.IsWhole) (arg10 : Memref sg .tc .vmem S256x2048 .f32) (harg10 : arg10.IsWhole)
  (B Cm : Fn 256 → Fn 512 → ℝ) (D : Fn 4 → Fn 256 → Fn 128 → ℝ) (P0 P1 P2 : Fn 4 → Fn 128 → ℝ) (Y : Fn 256 → Fn 2048 → ℝ)
  (S : Fn 4 × Fn 2 → Fn 256 → Fn 128 → ℝ)
  (st : Fn 4 × Fn 2 → Vec Ideal S1x1x256x128 .f32) (hst : ∀ p, ls st p = MN (S p))

include hst in
theorem canon_dx (i : Fn 256) (c : Fn 2048) :
    View.canon (boxes.map (dxPc arg3 harg3 arg4 harg4 arg5 harg5 arg6 harg6 arg7 harg7 arg8 harg8 arg10 harg10 (vB B) (vB Cm) (vD D) (vP P0) (vP P1) (vP P2) (vX Y) st)) (ix2 i c)
      = ((dxBox B Cm D P0 P1 P2 Y S (bx c) i (bk c) : ℝ) : EReal) := by
  refine (canon_cols _ i c).trans ?_
  rw [vX, vB, vB, vD, vP, vP, vP, lx_up, lb_up, lb_up, ldt_up, lp_up, lp_up, lp_up, hst, dxOut_up _ (by omega)]
  rfl

include hst in
theorem canon_ds (L : List (View.Piece (Elt Ideal) S4x2x256x128 .f32)) :
    View.canon (boxes.map (dsPc arg4 harg4 arg5 harg5 arg6 harg6 arg7 harg7 arg10 harg10 (vB Cm) (vD D) (vP P0) (vP P1) (vX Y) st) ++ L) = stV (dsBox Cm D P0 P1 Y S) := by
  funext y
  refine (canon_state _ L y).trans ?_
  rw [vX, vB, vD, vP, vP, lx_up, lb_up, ldt_up, lp_up, lp_up, hst, dsOut_up _ (by omega)]
  rfl
end

theorem zero_whole (y : S4x2x256x128.Idx) :
    View.canon (kernelRun0_A.sl.HS0_1 (F := Ideal)) y = 0 := by
  have e : (kernelRun0_A.sl.HS0_1 (F := Ideal)) = [(⟨Rect.unit ![0, 0, 0, 0] S4x2x256x128.size inb_S4x2x256x128_S4x2x256x128_0_0_0_0, (k0_pay2 (F := Ideal))⟩ : View.Piece (Elt Ideal) S4x2x256x128 .f32)] := rfl
  rw [e, View.canon_cons_unit_lit' _ _ _ (by decide)]
  pointwise [k0_pay2]

/-- Before the first step every box reads a carried gradient of zeros. -/
theorem first_zero (c : Dev nD) (arg4 : Memref sig .tc .vmem S256x512 .f32) (harg4 : arg4.IsWhole)
    (arg5 : Memref sig .tc .vmem S4x256x128 .f32) (harg5 : arg5.IsWhole) (arg6 : Memref sig .tc .vmem S4x8x128 .f32) (harg6 : arg6.IsWhole)
    (arg7 : Memref sig .tc .vmem S4x8x128 .f32) (harg7 : arg7.IsWhole) (arg10 : Memref sig .tc .vmem S256x2048 .f32) (harg10 : arg10.IsWhole)
    (arg18 : Memref sig .tc .vmem S4x2x256x128 .f32)
    (x2 : Vec Ideal S256x512 .f32) (x3 : Vec Ideal S4x256x128 .f32) (x4 x5 : Vec Ideal S4x8x128 .f32) (x8 : Vec Ideal S256x2048 .f32)
    (p : Fn 4 × Fn 2) :
    ls (F := Ideal) (stA arg18 ![kernelRun0_A.sl.HS0_1 (F := Ideal), kernelRun0_A.sl.HS0_3 (F := Ideal) c arg4 harg4 arg5 harg5 arg6 harg6 arg7 harg7 arg10 harg10 arg18 x2 x3 x4 x5 x8, kernelRun0_A.sl.HS0_5 (F := Ideal) c arg4 harg4 arg5 harg5 arg6 harg6 arg7 harg7 arg10 harg10 arg18 x2 x3 x4 x5 x8, kernelRun0_A.sl.HS0_7 (F := Ideal) c arg4 harg4 arg5 harg5 arg6 harg6 arg7 harg7 arg10 harg10 arg18 x2 x3 x4 x5 x8]) p = MN fun _ _ => 0 := by
  refine ls_stA _ _ _ fun y hy => ?_
  have hv : (y 0).val = p.1.val := congrArg Fin.val hy
  clear hy
  obtain ⟨g, b⟩ := p
  have h3 : ∀ y : S4x2x256x128.Idx, (y 0).val ≠ 0 → View.canon (kernelRun0_A.sl.HS0_3 (F := Ideal) c arg4 harg4 arg5 harg5 arg6 harg6 arg7 harg7 arg10 harg10 arg18 x2 x3 x4 x5 x8) y = 0 := fun y h =>
    (canon_skip (kernelRun0_A.sl.HS0_1 (F := Ideal)) 0 0 _ _ _ _ y h).trans (zero_whole y)
  have h5 : ∀ y : S4x2x256x128.Idx, (y 0).val ≠ 0 → (y 0).val ≠ 1 → View.canon (kernelRun0_A.sl.HS0_5 (F := Ideal) c arg4 harg4 arg5 harg5 arg6 harg6 arg7 harg7 arg10 harg10 arg18 x2 x3 x4 x5 x8) y = 0 := fun y h h' =>
    (canon_skip (kernelRun0_A.sl.HS0_3 (F := Ideal) c arg4 harg4 arg5 harg5 arg6 harg6 arg7 harg7 arg10 harg10 arg18 x2 x3 x4 x5 x8) 1 0 _ _ _ _ y h').trans (h3 y h)
  have h7 : ∀ y : S4x2x256x128.Idx, (y 0).val ≠ 0 → (y 0).val ≠ 1 → (y 0).val ≠ 2 → View.canon (kernelRun0_A.sl.HS0_7 (F := Ideal) c arg4 harg4 arg5 harg5 arg6 harg6 arg7 harg7 arg10 harg10 arg18 x2 x3 x4 x5 x8) y = 0 := fun y h h' h'' =>
    (canon_skip (kernelRun0_A.sl.HS0_5 (F := Ideal) c arg4 harg4 arg5 harg5 arg6 harg6 arg7 harg7 arg10 harg10 arg18 x2 x3 x4 x5 x8) 2 0 _ _ _ _ y h'').trans (h5 y h h')
  fin_cases g
  · exact zero_whole y
  · exact h3 y (by simp_all)
  · exact h5 y (by simp_all) (by simp_all)
  · exact h7 y (by simp_all) (by simp_all) (by simp_all)

section
variable (m : (ℓ : Loc nD τ sig) → Buf (Elt Ideal) ℓ) (c : Dev nD) (t : Fn cfg0.N)
  (B Cm : Fn 256 → Fn 512 → ℝ) (D : Fn 4 → Fn 256 → Fn 128 → ℝ) (P0 P1 P2 : Fn 4 → Fn 128 → ℝ) (Y : Fn 256 → Fn 2048 → ℝ)
  (S : Fn 4 × Fn 2 → Fn 256 → Fn 128 → ℝ)
  (hB : (iblk m c 1 t : Vec Ideal S256x512 .f32) = vB B) (hC : (iblk m c 2 t : Vec Ideal S256x512 .f32) = vB Cm) (hD : (iblk m c 3 t : Vec Ideal S4x256x128 .f32) = vD D)
  (hP0 : (iblk m c 4 t : Vec Ideal S4x8x128 .f32) = vP P0) (hP1 : (iblk m c 5 t : Vec Ideal S4x8x128 .f32) = vP P1) (hP2 : (iblk m c 6 t : Vec Ideal S4x8x128 .f32) = vP P2)
  (hY : (iblk m c 8 t : Vec Ideal S256x2048 .f32) = vX Y)

include hB hC hD hP0 hP1 hP2 hY

theorem dx_first (h0 : t.val % 8 = 0) (i : Fn 256) (k : Fn 2048) :
    (outsAt0 m c t.val t.isLt).1 (ix2 i k) = ((dxBox B Cm D P0 P1 P2 Y (fun _ _ _ => 0) (bx k) i (bk k) : ℝ) : EReal) := by
  rw [outsAt0_A m c t h0]
  dsimp only
  unfold out0_A_9
  rw [View.read_writes_junk_eq_canon, dxA, hB, hC, hD, hP0, hP1, hP2, hY]
  exact canon_dx _ _ _ _ _ _ _ _ _ _ _ _ _ _ _ _ _ _ _ _ _ _ _ (first_zero _ _ _ _ _ _ _ _ _ _ _ _ _ _ _ _ _) i k
  all_goals first | exact c | exact grid0.coords t

theorem ds_first (h0 : t.val % 8 = 0) :
    (outsAt0 m c t.val t.isLt).2.2.2.2.2.2.2 = stV (dsBox Cm D P0 P1 Y (fun _ _ _ => 0)) := by
  rw [outsAt0_A m c t h0]
  dsimp only
  unfold sout0_A_0
  rw [View.read_writes_junk_eq_canon, dsA, hC, hD, hP0, hP1, hY]
  exact canon_ds _ _ _ _ _ _ _ _ _ _ _ _ _ _ _ _ _ (first_zero _ _ _ _ _ _ _ _ _ _ _ _ _ _ _ _ _) _
  all_goals first | exact c | exact grid0.coords t

theorem dx_next (h0 : ¬ t.val % 8 = 0) (hS : (outsAt0 m c (t.val - 1) (Nat.lt_of_le_of_lt (Nat.sub_le _ _) t.isLt)).2.2.2.2.2.2.2 = stV S)
    (i : Fn 256) (k : Fn 2048) :
    (outsAt0 m c t.val t.isLt).1 (ix2 i k) = ((dxBox B Cm D P0 P1 P2 Y S (bx k) i (bk k) : ℝ) : EReal) := by
  rw [outsAt0_B m c t h0]
  dsimp only
  unfold out0_B_9
  rw [View.read_writes_junk_eq_canon, dxB, hB, hC, hD, hP0, hP1, hP2, hY, hS]
  exact canon_dx _ _ _ _ _ _ _ _ _ _ _ _ _ _ _ _ _ _ _ _ _ _ _ (ls_stB _ _ _) i k
  all_goals first | exact c | exact grid0.coords t

theorem ds_next (h0 : ¬ t.val % 8 = 0) (hS : (outsAt0 m c (t.val - 1) (Nat.lt_of_le_of_lt (Nat.sub_le _ _) t.isLt)).2.2.2.2.2.2.2 = stV S) :
    (outsAt0 m c t.val t.isLt).2.2.2.2.2.2.2 = stV (dsBox Cm D P0 P1 Y S) := by
  rw [outsAt0_B m c t h0]
  dsimp only
  unfold sout0_B_0
  rw [View.read_writes_junk_eq_canon, dsB, hC, hD, hP0, hP1, hY, hS, ← List.append_nil (List.map _ _)]
  exact canon_ds _ _ _ _ _ _ _ _ _ _ _ _ _ _ _ _ _ (ls_stB _ _ _) _
  all_goals first | exact c | exact grid0.coords t

end
end Cert.SsdBack

end
-- ==== Proof.SsdBackBC.lean ====
/- What each step of the backward scan leaves in the gradients of the two matrices. -/
module

public import proofs.«01_k».proof.Proof.SsdBackRun

@[expose] public section

set_option maxRecDepth 16384

noncomputable section

namespace Cert.SsdBack

open Idealize.ShloMosaic Idealize.SL.Sem Cert.SsdChunk Cert.SsdKernelIdeal Cert.SsdKernelIdeal.Gen
open Cert.SsdFwd (inb_x inb_b inb_d inb_p inb_s lx lb ldt lp ls stA stB)

/-- The groups of a grid step, the newest store first. -/
def groups : List (_root_.Fin 4) := [3, 2, 1, 0]

theorem mem_groups (g : _root_.Fin 4) : g ∈ groups := by revert g; decide

theorem inb_i (p : _root_.Fin 4 × _root_.Fin 2) (a) : (![0, p.1.val, p.2.val, 0, 0] : _root_.Fin 5 → ℕ) a + S1x1x1x256x128.size a ≤ S1x4x2x256x128.size a := by
  revert a p; decide

section
variable {F : FTy → Type} [FloatOps F]

section
variable {sg : RefSig} (arg2 : Memref sg .tc .vmem S256x2048 .f32) (harg2 : arg2.IsWhole) (arg3 : Memref sg .tc .vmem S256x512 .f32) (harg3 : arg3.IsWhole)
  (arg4 : Memref sg .tc .vmem S256x512 .f32) (harg4 : arg4.IsWhole) (arg5 : Memref sg .tc .vmem S4x256x128 .f32) (harg5 : arg5.IsWhole)
  (arg6 : Memref sg .tc .vmem S4x8x128 .f32) (harg6 : arg6.IsWhole) (arg7 : Memref sg .tc .vmem S4x8x128 .f32) (harg7 : arg7.IsWhole)
  (arg9 : Memref sg .tc .vmem S1x4x2x256x128 .f32) (harg9 : arg9.IsWhole) (arg10 : Memref sg .tc .vmem S256x2048 .f32) (harg10 : arg10.IsWhole)
  (x0 : Vec F S256x2048 .f32) (x1 x2 : Vec F S256x512 .f32) (x3 : Vec F S4x256x128 .f32) (x4 x5 : Vec F S4x8x128 .f32) (x7 : Vec F S1x4x2x256x128 .f32)
  (x8 : Vec F S256x2048 .f32) (st : _root_.Fin 4 × _root_.Fin 2 → Vec F S1x1x256x128 .f32)

/-- The saved state of a box. -/
def li (p : _root_.Fin 4 × _root_.Fin 2) : FVec F S256x128 .f32 :=
  shapeCast S256x128 (View.readAt (Elt F) arg9.view (Rect.unit (s := S1x4x2x256x128) ![0, p.1.val, p.2.val, 0, 0] S1x1x1x256x128.size (inb_i p)).toLoadRect (harg9.unread x7))
    shapeCasts_S1x1x1x256x128_S256x128

/-- What a group stores in the gradients of the two matrices. -/
def dbPc (g : _root_.Fin 4) : View.Piece (Elt F) S256x512 .f32 :=
  ⟨Rect.unit ![0, 128 * g.val] ![256, 128] (inb_b g),
    dbOut (lb arg4 harg4 x2 g) (ldt arg5 harg5 x3 g) (lp arg6 harg6 x4 g) (lp arg7 harg7 x5 g) (lx arg2 harg2 x0 (g, 0)) (lx arg2 harg2 x0 (g, 1))
      (lx arg10 harg10 x8 (g, 0)) (lx arg10 harg10 x8 (g, 1)) (ls st (g, 0)) (ls st (g, 1))⟩

def dcPc (g : _root_.Fin 4) : View.Piece (Elt F) S256x512 .f32 :=
  ⟨Rect.unit ![0, 128 * g.val] ![256, 128] (inb_b g),
    dcOut (lb arg3 harg3 x1 g) (ldt arg5 harg5 x3 g) (lp arg6 harg6 x4 g) (lp arg7 harg7 x5 g) (lx arg2 harg2 x0 (g, 0)) (lx arg2 harg2 x0 (g, 1))
      (lx arg10 harg10 x8 (g, 0)) (lx arg10 harg10 x8 (g, 1)) (li arg9 harg9 x7 (g, 0)) (li arg9 harg9 x7 (g, 1))⟩
end

theorem dbB (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) (xo13 : Vec F S4x8x128 .f32) (xo14 : Vec F S4x8x128 .f32) (xo15 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo13 xo14 xo15 xs0).2.1 = groups.map (dbPc arg2 harg2 arg4 harg4 arg5 harg5 arg6 harg6 arg7 harg7 arg10 harg10 x0 x2 x3 x4 x5 x8 (stB arg18 harg18 xs0)) := rfl

theorem dbA (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.1 = groups.map (dbPc arg2 harg2 arg4 harg4 arg5 harg5 arg6 harg6 arg7 harg7 arg10 harg10 x0 x2 x3 x4 x5 x8 (stA arg18 ![kernelRun0_A.sl.HS0_1, kernelRun0_A.sl.HS0_3 c arg4 harg4 arg5 harg5 arg6 harg6 arg7 harg7 arg10 harg10 arg18 x2 x3 x4 x5 x8, kernelRun0_A.sl.HS0_5 c arg4 harg4 arg5 harg5 arg6 harg6 arg7 harg7 arg10 harg10 arg18 x2 x3 x4 x5 x8, kernelRun0_A.sl.HS0_7 c arg4 harg4 arg5 harg5 arg6 harg6 arg7 harg7 arg10 harg10 arg18 x2 x3 x4 x5 x8])) := rfl

theorem dcB (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : ¬cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) (xo13 : Vec F S4x8x128 .f32) (xo14 : Vec F S4x8x128 .f32) (xo15 : Vec F S4x8x128 .f32) (xs0 : Vec F S4x2x256x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo13 xo14 xo15 xs0).2.2.1 = groups.map (dcPc arg2 harg2 arg3 harg3 arg5 harg5 arg6 harg6 arg7 harg7 arg9 harg9 arg10 harg10 x0 x1 x3 x4 x5 x7 x8) := rfl

theorem dcA (c : Dev nD) (i : grid0.Coords) (arg2 : Memref sig .tc .vmem S256x2048 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x128 .f32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S1x4x2x256x128 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x256x128 .f32) (harg14 : arg14.IsWhole) (arg15 : Memref sig .tc .vmem S4x8x128 .f32) (harg15 : arg15.IsWhole) (arg16 : Memref sig .tc .vmem S4x8x128 .f32) (harg16 : arg16.IsWhole) (arg17 : Memref sig .tc .vmem S4x8x128 .f32) (harg17 : arg17.IsWhole) (arg18 : Memref sig .tc .vmem S4x2x256x128 .f32) (harg18 : arg18.IsWhole) (hc0 : cond0_0 i)
    (x0 : Vec F S256x2048 .f32) (x1 : Vec F S256x512 .f32) (x2 : Vec F S256x512 .f32) (x3 : Vec F S4x256x128 .f32) (x4 : Vec F S4x8x128 .f32) (x5 : Vec F S4x8x128 .f32) (x6 : Vec F S4x8x128 .f32) (x7 : Vec F S1x4x2x256x128 .f32) (x8 : Vec F S256x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8).2.2.1 = groups.map (dcPc arg2 harg2 arg3 harg3 arg5 harg5 arg6 harg6 arg7 harg7 arg9 harg9 arg10 harg10 x0 x1 x3 x4 x5 x7 x8) := rfl

end

open Cert.SsdFwd (Fn lx_up lb_up ldt_up lp_up ls_stB cx cb stV vX vB vD vP)

/-- The group and the lane of a column of the two matrices. -/
def bg (c : Fn 512) : Fn 4 := ⟨c.val / 128, by omega⟩
def bn (c : Fn 512) : Fn 128 := ⟨c.val % 128, by omega⟩

theorem bg_cb (g : Fn 4) (n : Fn 128) : bg (cb g n) = g := Fin.ext (by simp only [bg, cb]; omega)
theorem bn_cb (g : Fn 4) (n : Fn 128) : bn (cb g n) = n := Fin.ext (by simp only [bn, cb]; omega)

theorem canon_groups (v : Fn 4 → FVec Ideal S256x128 .f32) (i : Fn 256) (c : Fn 512) :
    View.canon (groups.map fun g => (⟨Rect.unit ![0, 128 * g.val] ![256, 128] (inb_b g), v g⟩ : View.Piece (Elt Ideal) S256x512 .f32)) (ix2 i c)
      = v (bg c) (ix2 i (bn c)) := by
  refine View.canon_apply_of_pieces (Val := Elt Ideal) (e := .f32) (fun j : S256x512.Idx => v (bg (j 1)) (ix2 (j 0) (bn (j 1)))) _ ?_ _ ?_
  · intro q hq
    obtain ⟨p, -, rfl⟩ := List.mem_map.1 hq
    intro x
    obtain ⟨r, k, rfl⟩ : ∃ (r : Fn 256) (k : Fn 128), x = ix2 r k := ⟨x 0, x 1, by ext a; fin_cases a <;> rfl⟩
    have e1 : ((Rect.unit (s := S256x512) ![0, 128 * p.val] ![256, 128] (inb_b p)).emb (ix2 r k)) = ix2 r (cb p k) := by
      refine funext fun a => Fin.ext ?_
      show _ + 1 * _ = _
      fin_cases a <;> simp [Rect.unit, ix2, cb]
    refine Eq.trans ?_ (congrArg (fun j : S256x512.Idx => v (bg (j 1)) (ix2 (j 0) (bn (j 1)))) e1.symm)
    show v p (ix2 r k) = v (bg (cb p k)) (ix2 r (bn (cb p k)))
    rw [bg_cb, bn_cb]
  · refine ⟨_, List.mem_map_of_mem (mem_groups (bg c)), ?_⟩
    rw [Rect.mem_set_unit]
    intro a
    have hc := c.isLt; have hi := i.isLt
    fin_cases a <;> simp [ix2, bg] <;> omega

/-- The saved states of a step as a vector. -/
def vT (T : Fn 4 × Fn 2 → Fn 256 → Fn 128 → ℝ) : FVec Ideal S1x4x2x256x128 .f32 := up fun j => T (j 1, j 2) (j 3) (j 4)

theorem shapeCast_at5 {α : Type} (v : S1x1x1x256x128.Idx → α) (i : Fn 256) (k : Fn 128) :
    shapeCast S256x128 v shapeCasts_S1x1x1x256x128_S256x128 (ix2 i k) = v (ix5 0 0 0 i k) := by
  refine shapeCast_apply _ _ _ _ ?_
  rw [Shape.rowMajor_val_five, Shape.rowMajor_val_two]
  simp [ix5, ix2]

theorem li_up {sg : RefSig} (arg9 : Memref sg .tc .vmem S1x4x2x256x128 .f32) (harg9 : arg9.IsWhole) (T) (p) :
    li (F := Ideal) arg9 harg9 (vT T) p = MN (T p) := by
  unfold li
  rw [View.readAt_eq_ld, Memref.IsWhole.read_unread]
  refine ext2 fun i k => ?_
  refine (shapeCast_at5 _ i k).trans ?_
  show ((T _ _ _ : ℝ) : EReal) = ((T _ _ _ : ℝ) : EReal)
  congr 2 <;> first | (simp [ix5, LoadRect.idx, Rect.toLoadRect]; rfl) | simp [ix5, LoadRect.idx, Rect.toLoadRect]

/-- The gradients of the two matrices, from the numbers of a step. -/
def dbBox (X : Fn 256 → Fn 2048 → ℝ) (Cm : Fn 256 → Fn 512 → ℝ) (D : Fn 4 → Fn 256 → Fn 128 → ℝ) (P0 P1 : Fn 4 → Fn 128 → ℝ) (Y : Fn 256 → Fn 2048 → ℝ)
    (S : Fn 4 × Fn 2 → Fn 256 → Fn 128 → ℝ) (g : Fn 4) (i : Fn 256) (n : Fn 128) : ℝ :=
  dbR (fun i n => Cm i (cb g n)) (D g) (P0 g) (P1 g) (fun i k => X i (cx (g, 0) k)) (fun i k => X i (cx (g, 1) k))
    (fun i k => Y i (cx (g, 0) k)) (fun i k => Y i (cx (g, 1) k)) (S (g, 0)) (S (g, 1)) i n

def dcBox (X : Fn 256 → Fn 2048 → ℝ) (B : Fn 256 → Fn 512 → ℝ) (D : Fn 4 → Fn 256 → Fn 128 → ℝ) (P0 P1 : Fn 4 → Fn 128 → ℝ) (Y : Fn 256 → Fn 2048 → ℝ)
    (T : Fn 4 × Fn 2 → Fn 256 → Fn 128 → ℝ) (g : Fn 4) (i : Fn 256) (n : Fn 128) : ℝ :=
  dcR (fun i n => B i (cb g n)) (D g) (P0 g) (P1 g) (fun i k => X i (cx (g, 0) k)) (fun i k => X i (cx (g, 1) k))
    (fun i k => Y i (cx (g, 0) k)) (fun i k => Y i (cx (g, 1) k)) (T (g, 0)) (T (g, 1)) i n

section
variable {sg : RefSig} (arg2 : Memref sg .tc .vmem S256x2048 .f32) (harg2 : arg2.IsWhole) (arg3 : Memref sg .tc .vmem S256x512 .f32) (harg3 : arg3.IsWhole)
  (arg4 : Memref sg .tc .vmem S256x512 .f32) (harg4 : arg4.IsWhole) (arg5 : Memref sg .tc .vmem S4x256x128 .f32) (harg5 : arg5.IsWhole)
  (arg6 : Memref sg .tc .vmem S4x8x128 .f32) (harg6 : arg6.IsWhole) (arg7 : Memref sg .tc .vmem S4x8x128 .f32) (harg7 : arg7.IsWhole)
  (arg9 : Memref sg .tc .vmem S1x4x2x256x128 .f32) (harg9 : arg9.IsWhole) (arg10 : Memref sg .tc .vmem S256x2048 .f32) (harg10 : arg10.IsWhole)
  (X : Fn 256 → Fn 2048 → ℝ) (B Cm : Fn 256 → Fn 512 → ℝ) (D : Fn 4 → Fn 256 → Fn 128 → ℝ) (P0 P1 : Fn 4 → Fn 128 → ℝ) (Y : Fn 256 → Fn 2048 → ℝ)
  (S T : Fn 4 × Fn 2 → Fn 256 → Fn 128 → ℝ)
  (st : Fn 4 × Fn 2 → Vec Ideal S1x1x256x128 .f32)

theorem canon_db (hst : ∀ p, ls st p = MN (S p)) (i : Fn 256) (c : Fn 512) :
    View.canon (groups.map (dbPc arg2 harg2 arg4 harg4 arg5 harg5 arg6 harg6 arg7 harg7 arg10 harg10 (vX X) (vB Cm) (vD D) (vP P0) (vP P1) (vX Y) st)) (ix2 i c)
      = ((dbBox X Cm D P0 P1 Y S (bg c) i (bn c) : ℝ) : EReal) := by
  refine (canon_groups _ i c).trans ?_
  rw [vX, vX, vB, vD, vP, vP, lx_up, lx_up, lx_up, lx_up, lb_up, ldt_up, lp_up, lp_up, hst, hst, dbOut_up]
  rfl

theorem canon_dc (i : Fn 256) (c : Fn 512) :
    View.canon (groups.map (dcPc (F := Ideal) arg2 harg2 arg3 harg3 arg5 harg5 arg6 harg6 arg7 harg7 arg9 harg9 arg10 harg10 (vX X) (vB B) (vD D) (vP P0) (vP P1) (vT T) (vX Y))) (ix2 i c)
      = ((dcBox X B D P0 P1 Y T (bg c) i (bn c) : ℝ) : EReal) := by
  refine (canon_groups _ i c).trans ?_
  rw [li_up, li_up, vX, vX, vB, vD, vP, vP, lx_up, lx_up, lx_up, lx_up, lb_up, ldt_up, lp_up, lp_up, dcOut_up]
  rfl
end

section
variable (m : (ℓ : Loc nD τ sig) → Buf (Elt Ideal) ℓ) (c : Dev nD) (t : Fn cfg0.N)
  (X : Fn 256 → Fn 2048 → ℝ) (B Cm : Fn 256 → Fn 512 → ℝ) (D : Fn 4 → Fn 256 → Fn 128 → ℝ) (P0 P1 : Fn 4 → Fn 128 → ℝ) (Y : Fn 256 → Fn 2048 → ℝ)
  (S T : Fn 4 × Fn 2 → Fn 256 → Fn 128 → ℝ)
  (hX : (X0_0 m c t : Vec Ideal S256x2048 .f32) = vX X)
  (hB : (iblk m c 1 t : Vec Ideal S256x512 .f32) = vB B) (hC : (iblk m c 2 t : Vec Ideal S256x512 .f32) = vB Cm) (hD : (iblk m c 3 t : Vec Ideal S4x256x128 .f32) = vD D)
  (hP0 : (iblk m c 4 t : Vec Ideal S4x8x128 .f32) = vP P0) (hP1 : (iblk m c 5 t : Vec Ideal S4x8x128 .f32) = vP P1)
  (hT : (iblk m c 7 t : Vec Ideal S1x4x2x256x128 .f32) = vT T) (hY : (iblk m c 8 t : Vec Ideal S256x2048 .f32) = vX Y)

include hX hC hD hP0 hP1 hY

theorem db_first (h0 : t.val % 8 = 0) (i : Fn 256) (k : Fn 512) :
    (outsAt0 m c t.val t.isLt).2.1 (ix2 i k) = ((dbBox X Cm D P0 P1 Y (fun _ _ _ => 0) (bg k) i (bn k) : ℝ) : EReal) := by
  rw [outsAt0_A m c t h0]
  dsimp only
  unfold out0_A_10
  rw [View.read_writes_junk_eq_canon, dbA, hX, hC, hD, hP0, hP1, hY]
  exact canon_db _ _ _ _ _ _ _ _ _ _ _ _ _ _ _ _ _ _ _ _ (first_zero _ _ _ _ _ _ _ _ _ _ _ _ _ _ _ _ _) i k
  all_goals first | exact c | exact grid0.coords t

theorem db_next (h0 : ¬ t.val % 8 = 0) (hS : (outsAt0 m c (t.val - 1) (Nat.lt_of_le_of_lt (Nat.sub_le _ _) t.isLt)).2.2.2.2.2.2.2 = stV S)
    (i : Fn 256) (k : Fn 512) :
    (outsAt0 m c t.val t.isLt).2.1 (ix2 i k) = ((dbBox X Cm D P0 P1 Y S (bg k) i (bn k) : ℝ) : EReal) := by
  rw [outsAt0_B m c t h0]
  dsimp only
  unfold out0_B_10
  rw [View.read_writes_junk_eq_canon, dbB, hX, hC, hD, hP0, hP1, hY, hS]
  exact canon_db _ _ _ _ _ _ _ _ _ _ _ _ _ _ _ _ _ _ _ _ (ls_stB _ _ _) i k
  all_goals first | exact c | exact grid0.coords t

omit hC
include hB hT

theorem dc_at (i : Fn 256) (k : Fn 512) :
    (outsAt0 m c t.val t.isLt).2.2.1 (ix2 i k) = ((dcBox X B D P0 P1 Y T (bg k) i (bn k) : ℝ) : EReal) := by
  by_cases h0 : t.val % 8 = 0
  · rw [outsAt0_A m c t h0]
    dsimp only
    unfold out0_A_11
    rw [View.read_writes_junk_eq_canon, dcA, hX, hB, hD, hP0, hP1, hT, hY]
    exact canon_dc _ _ _ _ _ _ _ _ _ _ _ _ _ _ _ _ _ _ _ _ _ i k
    all_goals first | exact c | exact grid0.coords t
  · rw [outsAt0_B m c t h0]
    dsimp only
    unfold out0_B_11
    rw [View.read_writes_junk_eq_canon, dcB, hX, hB, hD, hP0, hP1, hT, hY]
    exact canon_dc _ _ _ _ _ _ _ _ _ _ _ _ _ _ _ _ _ _ _ _ _ i k
    all_goals first | exact c | exact grid0.coords t
end
end Cert.SsdBack

end
-- ==== Proof.SsdBackSum.lean ====
/- The gradients of the two matrices of the backward scan, regrouped by channel. -/
module

public import proofs.«01_k».proof.Proof.SsdSum
public import proofs.«01_k».proof.Proof.SsdBack
public import proofs.«01_k».proof.Proof.SsdFwdRun

@[expose] public section

noncomputable section

namespace Cert.SsdBack

open Idealize.ShloMosaic Cert.SsdChunk
open Cert.SsdFwd (Fn cx cb hb)

/-- One channel of `dbR`. -/
def dbK (c : Fn 256 → Fn 128 → ℝ) (a : Fn 256 → ℝ) (x : ℝ) (dy : Fn 256 → ℝ) (ds : ℝ) (s : Fn 256) (n : Fn 128) : ℝ :=
  x * (ds * Real.exp ((∑ u, a u) - cu a s) + ∑ t, c t n * dec a t s * dy t)

/-- One channel of `dcR`. -/
def dcK (b : Fn 256 → Fn 128 → ℝ) (a : Fn 256 → ℝ) (x : Fn 256 → ℝ) (dy : ℝ) (s0 : ℝ) (t : Fn 256) (n : Fn 128) : ℝ :=
  dy * ((∑ s, b s n * dec a t s * x s) + s0 * Real.exp (cu a t))

theorem dbK_sum (c d : Fn 256 → Fn 128 → ℝ) (p0 p1 : Fn 128 → ℝ) (x dy : Fn 256 → Fn 256 → ℝ) (ds : Fn 256 → Fn 128 → ℝ) (s : Fn 256) (n : Fn 128)
    (h : ℕ) (hh : h ≤ 4) :
    ∑ k, dbK c (av d p0 p1 (hd h hh k)) (x s k * sp (d s (hd h hh k) + p0 (hd h hh k))) (fun t => dy t k) (ds k n) s n
      = (∑ k, x s k * sp (d s (hd h hh k) + p0 (hd h hh k)) * Real.exp ((∑ u, av d p0 p1 (hd h hh k) u) - cu (av d p0 p1 (hd h hh k)) s) * ds k n)
        + ∑ t, gR x dy d p0 p1 h hh t s * c t n := by
  unfold dbK gR
  simp only [mul_add, Finset.sum_add_distrib, Finset.mul_sum, Finset.sum_mul]
  refine congrArg₂ (· + ·) (Finset.sum_congr rfl fun k _ => by ring) ?_
  rw [Finset.sum_comm]
  exact Finset.sum_congr rfl fun t _ => Finset.sum_congr rfl fun k _ => by ring

theorem dcK_sum (b d : Fn 256 → Fn 128 → ℝ) (p0 p1 : Fn 128 → ℝ) (x dy : Fn 256 → Fn 256 → ℝ) (s0 : Fn 256 → Fn 128 → ℝ) (t : Fn 256) (n : Fn 128)
    (h : ℕ) (hh : h ≤ 4) :
    ∑ k, dcK b (av d p0 p1 (hd h hh k)) (fun s => x s k * sp (d s (hd h hh k) + p0 (hd h hh k))) (dy t k) (s0 k n) t n
      = (∑ k, dy t k * Real.exp (cu (av d p0 p1 (hd h hh k)) t) * s0 k n) + ∑ s, gR x dy d p0 p1 h hh t s * b s n := by
  unfold dcK gR
  simp only [mul_add, Finset.sum_add_distrib, Finset.mul_sum, Finset.sum_mul]
  rw [add_comm]
  refine congrArg₂ (· + ·) (Finset.sum_congr rfl fun k _ => by ring) ?_
  rw [Finset.sum_comm]
  exact Finset.sum_congr rfl fun t _ => Finset.sum_congr rfl fun k _ => by ring

theorem dbR_eq (c d : Fn 256 → Fn 128 → ℝ) (p0 p1 : Fn 128 → ℝ) (x0 x1 dy0 dy1 : Fn 256 → Fn 256 → ℝ) (ds0 ds1 : Fn 256 → Fn 128 → ℝ) (s : Fn 256) (n : Fn 128) :
    dbR c d p0 p1 x0 x1 dy0 dy1 ds0 ds1 s n
      = ∑ k, dbK c (av d p0 p1 (hb 0 k)) (x0 s k * sp (d s (hb 0 k) + p0 (hb 0 k))) (fun t => dy0 t k) (ds0 k n) s n
        + ∑ k, dbK c (av d p0 p1 (hb 1 k)) (x1 s k * sp (d s (hb 1 k) + p0 (hb 1 k))) (fun t => dy1 t k) (ds1 k n) s n := by
  refine Eq.trans ?_ (congrArg₂ (· + ·) (dbK_sum c d p0 p1 x0 dy0 ds0 s n 0 (by omega)) (dbK_sum c d p0 p1 x1 dy1 ds1 s n 4 (by omega))).symm
  unfold dbR
  simp only [add_mul, Finset.sum_add_distrib]
  ring

theorem dcR_eq (b d : Fn 256 → Fn 128 → ℝ) (p0 p1 : Fn 128 → ℝ) (x0 x1 dy0 dy1 : Fn 256 → Fn 256 → ℝ) (s0 s1 : Fn 256 → Fn 128 → ℝ) (t : Fn 256) (n : Fn 128) :
    dcR b d p0 p1 x0 x1 dy0 dy1 s0 s1 t n
      = ∑ k, dcK b (av d p0 p1 (hb 0 k)) (fun s => x0 s k * sp (d s (hb 0 k) + p0 (hb 0 k))) (dy0 t k) (s0 k n) t n
        + ∑ k, dcK b (av d p0 p1 (hb 1 k)) (fun s => x1 s k * sp (d s (hb 1 k) + p0 (hb 1 k))) (dy1 t k) (s1 k n) t n := by
  refine Eq.trans ?_ (congrArg₂ (· + ·) (dcK_sum b d p0 p1 x0 dy0 s0 t n 0 (by omega)) (dcK_sum b d p0 p1 x1 dy1 s1 t n 4 (by omega))).symm
  unfold dcR
  simp only [add_mul, Finset.sum_add_distrib]
  ring

/-- A group's channels, by head and by half. -/
theorem sum_group (f : ℕ → ℝ) : ∑ r : Fn 8, ∑ p : Fn 64, f (r.val * 64 + p.val) = ∑ k : Fn 256, f k.val + ∑ k : Fn 256, f (256 + k.val) := by
  have e (m : ℕ) : ∑ k ∈ Finset.range (m * 64), f k = ∑ r ∈ Finset.range m, ∑ p ∈ Finset.range 64, f (r * 64 + p) := by
    induction m with
    | zero => simp
    | succ m ih => rw [Nat.succ_mul, Finset.sum_range_add, ih, Finset.sum_range_succ _ m]
  have h := e 8
  rw [show 8 * 64 = 256 + 256 from rfl, Finset.sum_range_add] at h
  simp only [Finset.sum_range] at h
  exact h.symm

/-- One channel of the scan that runs backwards, for a single column of each matrix. -/
theorem back_col (q m : ℕ) (a y b : ℕ → ℝ) (c s : ℕ) (hc : c < m) (hs : s < q) :
    SsdSum.grad q m a y b (c + 1) * Real.exp ((∑ u ∈ Finset.range q, a (q * c + u)) - SsdSum.cum (fun u => a (q * c + u)) s)
      + ∑ t ∈ Finset.range q, b (q * c + t) * (if s ≤ t then Real.exp (SsdSum.cum (fun u => a (q * c + u)) t - SsdSum.cum (fun u => a (q * c + u)) s) else 0) * y (q * c + t)
    = ∑ l ∈ Finset.range (q * m), b l * (if q * c + s ≤ l then Real.exp (SsdSum.cum a l - SsdSum.cum a (q * c + s)) else 0) * y l := by
  have h := SsdSum.back_row (ι := Unit) q m a y (fun l _ => b l) (fun _ _ => 1) c s hc hs
  simpa only [Finset.univ_unique, Finset.sum_singleton, one_mul, mul_one] using h

theorem row_col (q m : ℕ) (a x b : ℕ → ℝ) (c t : ℕ) (hc : c < m) (ht : t < q) :
    (∑ s ∈ Finset.range q, b (q * c + s) * (if s ≤ t then Real.exp (SsdSum.cum (fun u => a (q * c + u)) t - SsdSum.cum (fun u => a (q * c + u)) s) else 0) * x (q * c + s))
      + SsdSum.state q a x b c * Real.exp (SsdSum.cum (fun u => a (q * c + u)) t)
    = ∑ s ∈ Finset.range (q * m), b s * (if s ≤ q * c + t then Real.exp (SsdSum.cum a (q * c + t) - SsdSum.cum a s) else 0) * x s := by
  have h := SsdSum.row_eq (ι := Unit) q m a x (fun _ _ => 1) (fun l _ => b l) c t hc ht
  simpa only [Finset.univ_unique, Finset.sum_singleton, one_mul, mul_one] using h

end Cert.SsdBack

end
-- ==== Proof.SsdBackRef.lean ====
/- The reference of the backward scan over the real numbers. -/
module

public import proofs.«01_k».proof.Proof.SsdFwdRef
public import proofs.«01_k».proof.Proof.Gen.SsdReferenceIdeal.Run

@[expose] public section

set_option maxRecDepth 16384

noncomputable section

namespace Cert.SsdReferenceIdeal.Stage

open Idealize.ShloMosaic Idealize.SL.Sem Cert.SsdReferenceIdeal Cert.SsdReferenceIdeal.Gen Cert.SsdReferenceIdeal.Facts
open Cert.SsdFwdReferenceIdeal.Stage (dtE aE cumE decE cbE xdE dt decR decE_at cbE_at dtE_at xdE_at vx vd vh)

section
variable {F : FTy → Type} [FloatOps F]

/-- The gradient that reaches each step through the mixing of the steps. -/
def backE (cb : FVec F S2048x2048x4 .f32) (de : FVec F S2048x2048x4x8 .f32) (dy : FVec F S2048x32x64 .f32) : FVec F S2048x32x64 .f32 :=
  shapeCast _ (transpose S2048x4x8x64 [3, 0, 1, 2] (Host.dotGeneral dot_S4x8x64x2048_S2048x2048x4x8_S4x8x64x2048_3_0_2_1_01_23 none
    (transpose S4x8x64x2048 [1, 2, 3, 0] (shapeCast S2048x4x8x64 dy shapeCasts_S2048x32x64_S2048x4x8x64) transposes_S2048x4x8x64_S4x8x64x2048_1_2_3_0)
    (mulf (broadcastInDim S2048x2048x4x8 ![0, 1, 2, 3] bcast_S2048x2048x4x1_S2048x2048x4x8_0_1_2_3
      (broadcastInDim S2048x2048x4x1 ![0, 1, 2] bcast_S2048x2048x4_S2048x2048x4x1_0_1_2 cb)) de)) transposes_S4x8x64x2048_S2048x4x8x64_3_0_1_2)
    shapeCasts_S2048x4x8x64_S2048x32x64

def gradE (x : FVec F S2048x3072 .f32) (d : FVec F S2048x32 .f32) (bias al dk : FVec F S32 .f32) (dy : FVec F S2048x2048 .f32) : FVec F S2048x2048 .f32 :=
  shapeCast _ (addf (mulf (broadcastInDim S2048x32x64 ![0, 1, 2] bcast_S1x32x1_S2048x32x64_0_1_2 (broadcastInDim S1x32x1 ![1, 2] bcast_S32x1_S1x32x1_1_2
        (broadcastInDim S32x1 ![0] bcast_S32_S32x1_0 dk))) (shapeCast S2048x32x64 dy shapeCasts_S2048x2048_S2048x32x64))
      (mulf (backE (cbE x) (decE (cumE (aE d bias al))) (shapeCast S2048x32x64 dy shapeCasts_S2048x2048_S2048x32x64))
        (broadcastInDim S2048x32x64 ![0, 1, 2] bcast_S2048x32x1_S2048x32x64_0_1_2
          (broadcastInDim S2048x32x1 ![0, 1] bcast_S2048x32_S2048x32x1_0_1 (dtE d bias)))))
    shapeCasts_S2048x32x64_S2048x2048

/-- The gradient of the products of the two matrices' rows. -/
def scoreE (de : FVec F S2048x2048x4x8 .f32) (xd : FVec F S2048x4x8x64 .f32) (dy : FVec F S2048x32x64 .f32) : FVec F S2048x2048x4 .f32 :=
  Host.reduceAdd (shapeCast S2048x2048x4x1 (Host.reduceAdd (mulf (transpose S2048x2048x4x8 [2, 3, 0, 1]
      (Host.dotGeneral dot_S4x8x64x2048_S2048x4x8x64_S4x8x2048x2048_2_3_3_0_01_12 none
        (transpose S4x8x64x2048 [1, 2, 3, 0] (shapeCast S2048x4x8x64 dy shapeCasts_S2048x32x64_S2048x4x8x64) transposes_S2048x4x8x64_S4x8x64x2048_1_2_3_0) xd)
      transposes_S4x8x2048x2048_S2048x2048x4x8_2_3_0_1) de) (constant S_ .f32 0x00000000#32) reducesTo_S2048x2048x4x8_S2048x2048x4_d3 h_S_)
    shapeCasts_S2048x2048x4_S2048x2048x4x1) (constant S_ .f32 0x00000000#32) reducesTo_S2048x2048x4x1_S2048x2048x4_d3 h_S_

def scoresE (x : FVec F S2048x3072 .f32) (d : FVec F S2048x32 .f32) (bias al : FVec F S32 .f32) (dy : FVec F S2048x2048 .f32) : FVec F S2048x2048x4 .f32 :=
  scoreE (decE (cumE (aE d bias al))) (xdE x (dtE d bias)) (shapeCast S2048x32x64 dy shapeCasts_S2048x2048_S2048x32x64)

def gradB (x : FVec F S2048x3072 .f32) (d : FVec F S2048x32 .f32) (bias al : FVec F S32 .f32) (dy : FVec F S2048x2048 .f32) : FVec F S2048x512 .f32 :=
  shapeCast _ (transpose S2048x4x128 [1, 0, 2] (Host.dotGeneral dot_S4x2048x2048_S2048x4x128_S4x2048x128_2_0_1_2_0_1 none
    (transpose S4x2048x2048 [2, 1, 0] (scoresE x d bias al dy) transposes_S2048x2048x4_S4x2048x2048_2_1_0)
    (shapeCast _ (extractStridedSlice S2048x512 ![0, 2560] x slices_S2048x3072_S2048x512_0_2560) shapeCasts_S2048x512_S2048x4x128))
    transposes_S4x2048x128_S2048x4x128_1_0_2) shapeCasts_S2048x4x128_S2048x512

def gradC (x : FVec F S2048x3072 .f32) (d : FVec F S2048x32 .f32) (bias al : FVec F S32 .f32) (dy : FVec F S2048x2048 .f32) : FVec F S2048x512 .f32 :=
  shapeCast _ (transpose S2048x4x128 [1, 0, 2] (Host.dotGeneral dot_S4x2048x2048_S2048x4x128_S4x2048x128_1_0_2_2_0_1 none
    (transpose S4x2048x2048 [2, 1, 0] (scoresE x d bias al dy) transposes_S2048x2048x4_S4x2048x2048_2_1_0)
    (shapeCast _ (extractStridedSlice S2048x512 ![0, 2048] x slices_S2048x3072_S2048x512_0_2048) shapeCasts_S2048x512_S2048x4x128))
    transposes_S4x2048x128_S2048x4x128_1_0_2) shapeCasts_S2048x4x128_S2048x512

theorem res_eq (m : (ℓ : Loc nD τ sig) → Buf (Elt F) ℓ) (c : Dev nD) :
    Value.res_out0 m c = gradE (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem res_b (m : (ℓ : Loc nD τ sig) → Buf (Elt F) ℓ) (c : Dev nD) :
    Value.res_out1 m c = gradB (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) := rfl

theorem res_c (m : (ℓ : Loc nD τ sig) → Buf (Elt F) ℓ) (c : Dev nD) :
    Value.res_out2 m c = gradC (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) := rfl
end

open Cert.SsdChunk (up sp)

section
variable (X : Fin 2048 → Fin 3072 → ℝ) (D : Fin 2048 → Fin 32 → ℝ) (P0 P1 P2 : Fin 32 → ℝ) (Y : Fin 2048 → Fin 2048 → ℝ)

/-- The gradient at a step and a channel, as a sum over all steps. -/
def gradS (s k : Fin 2048) : ℝ :=
  P2 ⟨k.val / 64, by omega⟩ * Y s k + (∑ l : Fin 2048, Y l k *
    ((∑ n : Fin 128, X s ⟨2048 + (k.val / 512 * 128 + n.val), by omega⟩ * X l ⟨2560 + (k.val / 512 * 128 + n.val), by omega⟩) *
      decR D P0 P1 ⟨k.val / 64, by omega⟩ l s)) * dt D P0 s ⟨k.val / 64, by omega⟩

theorem gradE_at (s k : Fin 2048) : gradE (vx X) (vd D) (vh P0) (vh P1) (vh P2) (up fun j => Y (j 0) (j 1)) (ix2 s k)
    = ((gradS X D P0 P1 P2 Y s k : ℝ) : EReal) := by
  pointwise [gradE, backE]
  simp only [decE_at, cbE_at, dtE_at, ← EReal.coe_mul, up]
  rw [Cert.SsdChunk.coe_sum, ← EReal.coe_mul, ← EReal.coe_add]
  congr 1
  unfold gradS
  have e0 : (⟨(k.val / 64 / 8 * 8 + k.val / 64 % 8), by omega⟩ : Fin 32) = ⟨k.val / 64, by omega⟩ := Fin.ext (by dsimp only; omega)
  have e2 : k.val / 64 / 8 = k.val / 512 := by omega
  rw [e0]
  simp only [e2]
  rfl

/-- The gradient of the product of two rows, summed over a group's channels. -/
def scoreS (l s : Fin 2048) (g : Fin 4) : ℝ :=
  ∑ r : Fin 8, (∑ p : Fin 64, Y l ⟨(g.val * 8 + r.val) * 64 + p.val, by omega⟩ *
    (X s ⟨(g.val * 8 + r.val) * 64 + p.val, by omega⟩ * dt D P0 s ⟨g.val * 8 + r.val, by omega⟩)) * decR D P0 P1 ⟨g.val * 8 + r.val, by omega⟩ l s

theorem scoresE_at (l s : Fin 2048) (g : Fin 4) : scoresE (vx X) (vd D) (vh P0) (vh P1) (up fun j => Y (j 0) (j 1)) (ix3 l s g)
    = ((scoreS X D P0 P1 Y l s g : ℝ) : EReal) := by
  pointwise [scoresE, scoreE]
  simp only [decE_at, xdE_at, ← EReal.coe_mul, up]
  simp only [Cert.SsdChunk.coe_sum, ← EReal.coe_mul, Fin.sum_univ_one]
  congr 1
  unfold scoreS
  refine Finset.sum_congr rfl fun r _ => congrArg (· * _) (Finset.sum_congr rfl fun p _ => congrArg (· * _) ?_)
  exact congrArg (Y l) (Fin.ext (by simp only [ix2]; omega))

/-- The gradients of the two matrices, as sums over all steps. -/
def gradBS (s : Fin 2048) (k : Fin 512) : ℝ := ∑ l : Fin 2048, scoreS X D P0 P1 Y l s ⟨k.val / 128, by omega⟩ * X l ⟨2560 + k.val, by omega⟩
def gradCS (l : Fin 2048) (k : Fin 512) : ℝ := ∑ s : Fin 2048, scoreS X D P0 P1 Y l s ⟨k.val / 128, by omega⟩ * X s ⟨2048 + k.val, by omega⟩

theorem gradB_at (s : Fin 2048) (k : Fin 512) : gradB (vx X) (vd D) (vh P0) (vh P1) (up fun j => Y (j 0) (j 1)) (ix2 s k)
    = ((gradBS X D P0 P1 Y s k : ℝ) : EReal) := by
  pointwise [gradB]
  simp only [scoresE_at, ← EReal.coe_mul, up]
  exact Cert.SsdChunk.coe_sum _ _

theorem gradC_at (l : Fin 2048) (k : Fin 512) : gradC (vx X) (vd D) (vh P0) (vh P1) (up fun j => Y (j 0) (j 1)) (ix2 l k)
    = ((gradCS X D P0 P1 Y l k : ℝ) : EReal) := by
  pointwise [gradC]
  simp only [scoresE_at, ← EReal.coe_mul, up]
  exact Cert.SsdChunk.coe_sum _ _
end

end Cert.SsdReferenceIdeal.Stage

end
-- ==== Proof.SsdBackVal.lean ====
/- The backward scan: what the kernel leaves of the gradients of the values and of the two matrices. -/
module

public import proofs.«01_k».proof.Proof.Gen.Pre_ssdb_finite
public import proofs.«01_k».proof.Defs
public import proofs.«01_k».proof.Proof.SsdBackRun
public import proofs.«01_k».proof.Proof.SsdBackBC
public import proofs.«01_k».proof.Proof.SsdBackSum
public import proofs.«01_k».proof.Proof.SsdBackRef
public import proofs.«01_k».proof.Proof.SsdFwd

@[expose] public section

set_option maxRecDepth 16384

noncomputable section

namespace Cert.SsdBack

open Idealize.ShloMosaic Idealize.ShloMosaic.TcCoe Idealize.SL.Sem Cert.SsdChunk Cert.SsdKernelIdeal Cert.SsdKernelIdeal.Gen
open Cert.SsdFwd (SS stS states_up gX xt_eq Fn cx cb hb bx bk bx_cx bk_cx cx_bx stV vX vB vD vP row padD padP gX gB gC gD gP ext3 padD_at pad_up hh sa sx sb sc seq seq_lt seq_row
  cum_fin gP_hb gD_hb av_eq cu_eq b_eq c_eq and_ones real1 real2)
open Cert.SsdFwdReferenceIdeal.Stage (dt al cumR decR)
open Cert.SsdReferenceIdeal.Stage (gradS gradBS gradCS scoreS)

theorem N_0 : cfg0.N = 8 := by decide +kernel

theorem idx : ∀ t : Fin cfg0.N, win0_1.index t = ![7 - t.val, 4] ∧ win0_2.index t = ![7 - t.val, 5]
    ∧ win0_3.index t = ![0, 7 - t.val, 0] ∧ win0_4.index t = ![0, 0, 0] ∧ win0_5.index t = ![0, 0, 0] ∧ win0_6.index t = ![0, 0, 0]
    ∧ win0_8.index t = ![7 - t.val, 0] ∧ win0_9.index t = ![7 - t.val, 0]
    ∧ win0_0.index t = ![7 - t.val, 0] ∧ win0_7.index t = ![7 - t.val, 0, 0, 0, 0] ∧ win0_10.index t = ![7 - t.val, 0] ∧ win0_11.index t = ![7 - t.val, 0] :=
  (by decide +kernel : ∀ t : Fin grid0.N, _)

/-- The chunk of a step: the steps take the chunks from the last to the first. -/
def rv (t : Fin cfg0.N) : Fn SsdFwdKernelIdeal.cfg0.N := ⟨7 - t.val, lt_of_lt_of_eq (by omega : 7 - t.val < 8) SsdFwd.N_0.symm⟩

variable (m : (ℓ : Loc nD τ sig) → Buf (Elt Ideal) ℓ)

theorem blk_x (c : Dev nD) (t : Fin cfg0.N) (i : Fn 256) (k : Fn 2048) :
    (X0_0 m c t : Vec Ideal S256x2048 .f32) (ix2 i k) = (m ((c : Thread nD τ).loc main_arg0) : FVec Ideal S2048x3072 .f32) (ix2 (row (rv t) i) ⟨k.val, by omega⟩) := by
  unfold X0_0 Pipeline.Window.fill
  rw [dif_pos (moved0_0 t _)]
  blk_point [iblk, V, idx t, row, rv]

theorem blk_b (c : Dev nD) (t : Fin cfg0.N) (i : Fn 256) (k : Fn 512) :
    (iblk m c 1 t : Vec Ideal S256x512 .f32) (ix2 i k) = (m ((c : Thread nD τ).loc main_arg0) : FVec Ideal S2048x3072 .f32) (ix2 (row (rv t) i) ⟨2048 + k.val, by omega⟩) := by
  blk_point [iblk, V, idx t, row, rv]

theorem blk_c (c : Dev nD) (t : Fin cfg0.N) (i : Fn 256) (k : Fn 512) :
    (iblk m c 2 t : Vec Ideal S256x512 .f32) (ix2 i k) = (m ((c : Thread nD τ).loc main_arg0) : FVec Ideal S2048x3072 .f32) (ix2 (row (rv t) i) ⟨2560 + k.val, by omega⟩) := by
  blk_point [iblk, V, idx t, row, rv]

theorem blk_y (c : Dev nD) (t : Fin cfg0.N) (i : Fn 256) (k : Fn 2048) :
    (iblk m c 8 t : Vec Ideal S256x2048 .f32) (ix2 i k) = (m ((c : Thread nD τ).loc main_arg5) : FVec Ideal S2048x2048 .f32) (ix2 (row (rv t) i) k) := by
  blk_point [iblk, V, idx t, row, rv]

theorem V_d (c : Dev nD) : V m c main_v2 = padD (m ((c : Thread nD τ).loc main_arg1)) := by
  rfl
theorem V_p0 (c : Dev nD) : V m c main_v50 = padP (m ((c : Thread nD τ).loc main_arg2)) := by
  rfl
theorem V_p1 (c : Dev nD) : V m c main_v53 = padP (m ((c : Thread nD τ).loc main_arg3)) := by
  rfl
theorem V_p2 (c : Dev nD) : V m c main_v56 = padP (m ((c : Thread nD τ).loc main_arg4)) := by
  rfl

theorem V_t (c : Dev nD) : (V m c main_v47 : FVec Ideal S8x4x2x256x128 .f32) = Cert.SsdFwdReferenceIdeal.Stage.stE (F := Ideal) (m ((c : Thread nD τ).loc main_arg0)) (m ((c : Thread nD τ).loc main_arg1))
    (m ((c : Thread nD τ).loc main_arg2)) (m ((c : Thread nD τ).loc main_arg3)) := by
  rfl

theorem blk_t (c : Dev nD) (t : Fin cfg0.N) (z : Fn 1) (a : Fn 4) (b : Fn 2) (k : Fn 256) (n : Fn 128) :
    (iblk m c 7 t : Vec Ideal S1x4x2x256x128 .f32) (ix5 z a b k n)
      = Cert.SsdFwdReferenceIdeal.Stage.stE (F := Ideal) (m ((c : Thread nD τ).loc main_arg0)) (m ((c : Thread nD τ).loc main_arg1))
          (m ((c : Thread nD τ).loc main_arg2)) (m ((c : Thread nD τ).loc main_arg3)) (ix5 (⟨7 - t.val, by omega⟩ : Fn 8) a b k n) := by
  rw [← V_t]
  unfold iblk
  blk_simp
  blk_point [idx t]

theorem blk_d (c : Dev nD) (t : Fin cfg0.N) (g : Fn 4) (i : Fn 256) (r : Fn 128) :
    (iblk m c 3 t : Vec Ideal S4x256x128 .f32) (ix3 g i r) = padD (m ((c : Thread nD τ).loc main_arg1)) (ix3 g (row (rv t) i) r) := by
  rw [← V_d]
  unfold iblk
  blk_simp
  blk_point [idx t, row, rv]

theorem blk_p0 (c : Dev nD) (t : Fin cfg0.N) (g : Fn 4) (i : Fn 8) (r : Fn 128) :
    (iblk m c 4 t : Vec Ideal S4x8x128 .f32) (ix3 g i r) = padP (m ((c : Thread nD τ).loc main_arg2)) (ix3 g i r) := by
  rw [← V_p0]
  unfold iblk
  blk_simp
  blk_point [idx t]

theorem blk_p1 (c : Dev nD) (t : Fin cfg0.N) (g : Fn 4) (i : Fn 8) (r : Fn 128) :
    (iblk m c 5 t : Vec Ideal S4x8x128 .f32) (ix3 g i r) = padP (m ((c : Thread nD τ).loc main_arg3)) (ix3 g i r) := by
  rw [← V_p1]
  unfold iblk
  blk_simp
  blk_point [idx t]

theorem blk_p2 (c : Dev nD) (t : Fin cfg0.N) (g : Fn 4) (i : Fn 8) (r : Fn 128) :
    (iblk m c 6 t : Vec Ideal S4x8x128 .f32) (ix3 g i r) = padP (m ((c : Thread nD τ).loc main_arg4)) (ix3 g i r) := by
  rw [← V_p2]
  unfold iblk
  blk_simp
  blk_point [idx t]

section
variable (X : Fn 2048 → Fn 3072 → ℝ) (D : Fn 2048 → Fn 32 → ℝ) (P : Fn 32 → ℝ) (Y : Fn 2048 → Fn 2048 → ℝ)
variable (c : Dev nD) (t : Fn cfg0.N)

/-- The rows of the cotangent that a step takes. -/
def gY (t : Fn SsdFwdKernelIdeal.cfg0.N) (i : Fn 256) (k : Fn 2048) : ℝ := Y (row t i) k

theorem in_x (h : (m ((c : Thread nD τ).loc main_arg0) : FVec Ideal S2048x3072 .f32) = up fun j => X (j 0) (j 1)) :
    (X0_0 m c t : Vec Ideal S256x2048 .f32) = vX (gX X (rv t)) := by
  refine ext2 fun i k => (blk_x m c t i k).trans ?_
  rw [h]; rfl
theorem in_t (P0 P1 : Fn 32 → ℝ) (h0 : (m ((c : Thread nD τ).loc main_arg0) : FVec Ideal S2048x3072 .f32) = up fun j => X (j 0) (j 1))
    (h1 : (m ((c : Thread nD τ).loc main_arg1) : FVec Ideal S2048x32 .f32) = up fun j => D (j 0) (j 1))
    (h2 : (m ((c : Thread nD τ).loc main_arg2) : FVec Ideal S32 .f32) = up fun j => P0 (j 0))
    (h3 : (m ((c : Thread nD τ).loc main_arg3) : FVec Ideal S32 .f32) = up fun j => P1 (j 0)) :
    (iblk m c 7 t : Vec Ideal S1x4x2x256x128 .f32) = vT (SS X D P0 P1 (rv t).val) := by
  funext j
  obtain ⟨z, a, b, k, n, rfl⟩ : ∃ (z : Fn 1) (a : Fn 4) (b : Fn 2) (k : Fn 256) (n : Fn 128), j = ix5 z a b k n :=
    ⟨j 0, j 1, j 2, j 3, j 4, by ext a; fin_cases a <;> rfl⟩
  refine (blk_t m c t z a b k n).trans ?_
  rw [states_up _ _ _ _ X D P0 P1 h0 h1 h2 h3]
  rfl
theorem in_b (h : (m ((c : Thread nD τ).loc main_arg0) : FVec Ideal S2048x3072 .f32) = up fun j => X (j 0) (j 1)) :
    (iblk m c 1 t : Vec Ideal S256x512 .f32) = vB (gB X (rv t)) := by
  refine ext2 fun i k => (blk_b m c t i k).trans ?_
  rw [h]; rfl
theorem in_c (h : (m ((c : Thread nD τ).loc main_arg0) : FVec Ideal S2048x3072 .f32) = up fun j => X (j 0) (j 1)) :
    (iblk m c 2 t : Vec Ideal S256x512 .f32) = vB (gC X (rv t)) := by
  refine ext2 fun i k => (blk_c m c t i k).trans ?_
  rw [h]; rfl
theorem in_y (h : (m ((c : Thread nD τ).loc main_arg5) : FVec Ideal S2048x2048 .f32) = up fun j => Y (j 0) (j 1)) :
    (iblk m c 8 t : Vec Ideal S256x2048 .f32) = vX (gY Y (rv t)) := by
  refine ext2 fun i k => (blk_y m c t i k).trans ?_
  rw [h]; rfl
theorem in_d (h : (m ((c : Thread nD τ).loc main_arg1) : FVec Ideal S2048x32 .f32) = up fun j => D (j 0) (j 1)) :
    (iblk m c 3 t : Vec Ideal S4x256x128 .f32) = vD (gD D (rv t)) := by
  refine ext3 fun g i r => (blk_d m c t g i r).trans ?_
  rw [h, padD_at]
  show _ = ((gD D (rv t) g i r : ℝ) : EReal)
  unfold gD
  split <;> rfl
theorem in_p0 (h : (m ((c : Thread nD τ).loc main_arg2) : FVec Ideal S32 .f32) = up fun j => P (j 0)) :
    (iblk m c 4 t : Vec Ideal S4x8x128 .f32) = vP (gP P) := ext3 fun g i r => (blk_p0 m c t g i r).trans (pad_up P _ h g i r)
theorem in_p1 (h : (m ((c : Thread nD τ).loc main_arg3) : FVec Ideal S32 .f32) = up fun j => P (j 0)) :
    (iblk m c 5 t : Vec Ideal S4x8x128 .f32) = vP (gP P) := ext3 fun g i r => (blk_p1 m c t g i r).trans (pad_up P _ h g i r)
theorem in_p2 (h : (m ((c : Thread nD τ).loc main_arg4) : FVec Ideal S32 .f32) = up fun j => P (j 0)) :
    (iblk m c 6 t : Vec Ideal S4x8x128 .f32) = vP (gP P) := ext3 fun g i r => (blk_p2 m c t g i r).trans (pad_up P _ h g i r)
end

section
variable (X : Fn 2048 → Fn 3072 → ℝ) (D : Fn 2048 → Fn 32 → ℝ) (P0 P1 P2 : Fn 32 → ℝ) (Y : Fn 2048 → Fn 2048 → ℝ)

def sy (k : Fn 2048) : ℕ → ℝ := seq fun u => Y u k

/-- The gradient of the state before chunk `c`. -/
def GG (c : ℕ) (p : Fn 4 × Fn 2) (k : Fn 256) (n : Fn 128) : ℝ :=
  SsdSum.grad 256 8 (sa D P0 P1 (cx p k)) (sy Y (cx p k)) (fun l => sc X p.1 l n) c

theorem GG_last : GG X D P0 P1 Y 8 = fun _ _ _ => 0 := by
  funext p k n
  unfold GG SsdSum.grad
  simp

variable (t : Fn SsdFwdKernelIdeal.cfg0.N) (p : Fn 4 × Fn 2) (k : Fn 256)

theorem y_eq (s : Fn 256) : gY Y t s (cx p k) = sy Y (cx p k) (256 * t.val + s.val) := by
  unfold sy
  rw [seq_row]
  rfl

theorem ds_step (n : Fn 128) :
    dsBox (gC X t) (gD D t) (gP P0) (gP P1) (gY Y t) (GG X D P0 P1 Y (t.val + 1)) p k n = GG X D P0 P1 Y t.val p k n := by
  have ht : t.val < 8 := lt_of_lt_of_eq t.isLt SsdFwd.N_0
  unfold dsBox dsR
  rw [av_eq]
  simp only [y_eq, c_eq]
  simp only [cu_eq (fun u => sa D P0 P1 (cx p k) (256 * t.val + u))]
  have h := SsdSum.grad_step 256 8 (sa D P0 P1 (cx p k)) (sy Y (cx p k)) (fun l => sc X p.1 l n) t.val ht
  rw [Finset.sum_range, Finset.sum_range] at h
  exact h

theorem dx_step (i : Fn 256) :
    dxBox (gB X t) (gC X t) (gD D t) (gP P0) (gP P1) (gP P2) (gY Y t) (GG X D P0 P1 Y (t.val + 1)) p i k = gradS X D P0 P1 P2 Y (row t i) (cx p k) := by
  have ht : t.val < 8 := lt_of_lt_of_eq t.isLt SsdFwd.N_0
  unfold dxBox dxR dec
  rw [av_eq]
  simp only [y_eq, b_eq, c_eq]
  rw [gP_hb, gP_hb, gD_hb]
  simp only [cu_eq (fun u => sa D P0 P1 (cx p k) (256 * t.val + u))]
  have h := SsdSum.back_row 256 8 (sa D P0 P1 (cx p k)) (sy Y (cx p k)) (sc X p.1) (sb X p.1) t.val i.val ht i.isLt
  rw [Finset.sum_range, Finset.sum_range, Finset.sum_range] at h
  unfold gradS
  refine congrArg₂ (· + ·) ?_ (congrArg₂ (· * ·) (h.trans (Finset.sum_congr rfl fun l _ => ?_)) rfl)
  · rw [sy, seq_row]; rfl
  have e (l : Fn 2048) : SsdSum.cum (sa D P0 P1 (cx p k)) l.val = cumR D P0 P1 (hh (cx p k)) l := by
    rw [cum_fin (N := 2048)]
    refine Finset.sum_congr rfl fun w _ => ?_
    rw [sa, seq_lt _ _ w.isLt]
  have e1 : sy Y (cx p k) l.val = Y l (cx p k) := seq_lt _ _ l.isLt
  have hg : (cx p k).val / 512 = p.1.val := by simp only [cx]; omega
  have e2 (n : Fn 128) : sc X p.1 l.val n = X l ⟨2560 + ((cx p k).val / 512 * 128 + n.val), by omega⟩ := by
    simp only [hg]
    exact seq_lt _ _ l.isLt
  have e3 (n : Fn 128) : sb X p.1 (256 * t.val + i.val) n = X (row t i) ⟨2048 + ((cx p k).val / 512 * 128 + n.val), by omega⟩ := by
    simp only [hg]
    exact seq_lt _ _ (row t i).isLt
  have e4 := e (row t i)
  simp only [row] at e4
  rw [e1, e4, e l]
  simp only [e2, e3, mul_comm (X l _)]
  rw [mul_comm]
  rfl

theorem cum_all (l : Fn 2048) : SsdSum.cum (sa D P0 P1 (cx p k)) l.val = cumR D P0 P1 (hh (cx p k)) l := by
  rw [cum_fin (N := 2048)]
  refine Finset.sum_congr rfl fun w _ => ?_
  rw [sa, seq_lt _ _ w.isLt]

theorem cum_row (i : Fn 256) : SsdSum.cum (sa D P0 P1 (cx p k)) (256 * t.val + i.val) = cumR D P0 P1 (hh (cx p k)) (row t i) := cum_all D P0 P1 p k (row t i)

theorem b_all (l : Fn 2048) (n : Fn 128) : sb X p.1 l.val n = X l ⟨2048 + (cb p.1 n).val, by omega⟩ := by
  refine (seq_lt _ _ l.isLt).trans (congrArg (X l) (Fin.ext ?_))
  simp only [cb]; omega

theorem c_all (l : Fn 2048) (n : Fn 128) : sc X p.1 l.val n = X l ⟨2560 + (cb p.1 n).val, by omega⟩ := by
  refine (seq_lt _ _ l.isLt).trans (congrArg (X l) (Fin.ext ?_))
  simp only [cb]; omega

/-- One channel's part of the gradients of the two matrices. -/
theorem db_half (i : Fn 256) (n : Fn 128) :
    dbK (fun i n => gC X t i (cb p.1 n)) (av (gD D t p.1) (gP P0 p.1) (gP P1 p.1) (hb p.2 k))
        (gX X t i (cx p k) * sp (gD D t p.1 i (hb p.2 k) + gP P0 p.1 (hb p.2 k))) (fun s => gY Y t s (cx p k)) (GG X D P0 P1 Y (t.val + 1) p k n) i n
      = X (row t i) ⟨(cx p k).val, by omega⟩ * dt D P0 (row t i) (hh (cx p k))
        * ∑ l : Fn 2048, X l ⟨2560 + (cb p.1 n).val, by omega⟩ * decR D P0 P1 (hh (cx p k)) l (row t i) * Y l (cx p k) := by
  have ht : t.val < 8 := lt_of_lt_of_eq t.isLt SsdFwd.N_0
  unfold dbK dec
  rw [av_eq]
  simp only [xt_eq, y_eq, c_eq]
  simp only [cu_eq (fun u => sa D P0 P1 (cx p k) (256 * t.val + u))]
  have h := back_col 256 8 (sa D P0 P1 (cx p k)) (sy Y (cx p k)) (fun l => sc X p.1 l n) t.val i.val ht i.isLt
  rw [Finset.sum_range, Finset.sum_range, Finset.sum_range] at h
  refine congrArg₂ (· * ·) (seq_row t _ i) (h.trans (Finset.sum_congr rfl fun l _ => ?_))
  have e1 : sy Y (cx p k) l.val = Y l (cx p k) := seq_lt _ _ l.isLt
  rw [e1, cum_row, cum_all D P0 P1 p k l, c_all X p l n]
  rfl

theorem dc_half (i : Fn 256) (n : Fn 128) :
    dcK (fun i n => gB X t i (cb p.1 n)) (av (gD D t p.1) (gP P0 p.1) (gP P1 p.1) (hb p.2 k))
        (fun s => gX X t s (cx p k) * sp (gD D t p.1 s (hb p.2 k) + gP P0 p.1 (hb p.2 k))) (gY Y t i (cx p k)) (SS X D P0 P1 t.val p k n) i n
      = Y (row t i) (cx p k) * ∑ s : Fn 2048, X s ⟨2048 + (cb p.1 n).val, by omega⟩ * decR D P0 P1 (hh (cx p k)) (row t i) s
          * (X s ⟨(cx p k).val, by omega⟩ * dt D P0 s (hh (cx p k))) := by
  have ht : t.val < 8 := lt_of_lt_of_eq t.isLt SsdFwd.N_0
  unfold dcK dec
  rw [av_eq]
  simp only [xt_eq, b_eq]
  simp only [cu_eq (fun u => sa D P0 P1 (cx p k) (256 * t.val + u))]
  have h := row_col 256 8 (sa D P0 P1 (cx p k)) (sx X D P0 (cx p k)) (fun l => sb X p.1 l n) t.val i.val ht i.isLt
  rw [Finset.sum_range, Finset.sum_range] at h
  refine congrArg₂ (· * ·) rfl (h.trans (Finset.sum_congr rfl fun s _ => ?_))
  have e1 : sx X D P0 (cx p k) s.val = X s ⟨(cx p k).val, by omega⟩ * dt D P0 s (hh (cx p k)) := seq_lt _ _ s.isLt
  rw [e1, cum_row, cum_all D P0 P1 p k s, b_all X p s n]
  rfl

/-- A channel's part of the gradient of the product of two rows. -/
def scoreK (l s : Fn 2048) (k : Fn 2048) : ℝ := Y l k * (X s ⟨k.val, by omega⟩ * dt D P0 s (hh k)) * decR D P0 P1 (hh k) l s

theorem score_split (l s : Fn 2048) (g : Fn 4) :
    scoreS X D P0 P1 Y l s g = ∑ k, scoreK X D P0 P1 Y l s (cx (g, 0) k) + ∑ k, scoreK X D P0 P1 Y l s (cx (g, 1) k) := by
  unfold scoreS
  simp only [Finset.sum_mul]
  have h := sum_group fun u => scoreK X D P0 P1 Y l s ⟨(512 * g.val + u) % 2048, by omega⟩
  refine Eq.trans (Finset.sum_congr rfl fun r _ => Finset.sum_congr rfl fun q _ => ?_)
    (h.trans (congrArg₂ (· + ·) (Finset.sum_congr rfl fun k _ => ?_) (Finset.sum_congr rfl fun k _ => ?_)))
  · have e : (⟨(512 * g.val + (r.val * 64 + q.val)) % 2048, by omega⟩ : Fn 2048) = ⟨(g.val * 8 + r.val) * 64 + q.val, by omega⟩ := Fin.ext (by dsimp only; omega)
    have e' : hh ⟨(g.val * 8 + r.val) * 64 + q.val, by omega⟩ = ⟨g.val * 8 + r.val, by omega⟩ := Fin.ext (by simp only [hh]; omega)
    rw [e, scoreK, e']
  · refine congrArg _ (Fin.ext ?_)
    show (512 * g.val + k.val) % 2048 = 512 * g.val + 256 * 0 + k.val
    omega
  · refine congrArg _ (Fin.ext ?_)
    show (512 * g.val + (256 + k.val)) % 2048 = 512 * g.val + 256 * 1 + k.val
    omega

theorem db_step (g : Fn 4) (i : Fn 256) (n : Fn 128) :
    dbBox (gX X t) (gC X t) (gD D t) (gP P0) (gP P1) (gY Y t) (GG X D P0 P1 Y (t.val + 1)) g i n = gradBS X D P0 P1 Y (row t i) (cb g n) := by
  unfold dbBox
  rw [dbR_eq]
  refine (congrArg₂ (· + ·) (Finset.sum_congr rfl fun k _ => db_half X D P0 P1 Y t (g, 0) k i n) (Finset.sum_congr rfl fun k _ => db_half X D P0 P1 Y t (g, 1) k i n)).trans ?_
  unfold gradBS
  have eg : (⟨(cb g n).val / 128, by omega⟩ : Fn 4) = g := bg_cb g n
  simp only [eg, score_split, add_mul, Finset.sum_add_distrib, Finset.sum_mul, Finset.mul_sum, scoreK]
  refine congrArg₂ (· + ·) ?_ ?_ <;>
    rw [Finset.sum_comm] <;>
    exact Finset.sum_congr rfl fun l _ => Finset.sum_congr rfl fun k _ => by ring

theorem dc_step (g : Fn 4) (i : Fn 256) (n : Fn 128) :
    dcBox (gX X t) (gB X t) (gD D t) (gP P0) (gP P1) (gY Y t) (SS X D P0 P1 t.val) g i n = gradCS X D P0 P1 Y (row t i) (cb g n) := by
  unfold dcBox
  rw [dcR_eq]
  refine (congrArg₂ (· + ·) (Finset.sum_congr rfl fun k _ => dc_half X D P0 P1 Y t (g, 0) k i n) (Finset.sum_congr rfl fun k _ => dc_half X D P0 P1 Y t (g, 1) k i n)).trans ?_
  unfold gradCS
  have eg : (⟨(cb g n).val / 128, by omega⟩ : Fn 4) = g := bg_cb g n
  simp only [eg, score_split, add_mul, Finset.sum_add_distrib, Finset.sum_mul, Finset.mul_sum, scoreK]
  refine congrArg₂ (· + ·) ?_ ?_ <;>
    rw [Finset.sum_comm] <;>
    exact Finset.sum_congr rfl fun s _ => Finset.sum_congr rfl fun k _ => by ring

theorem cb_bg (k : Fn 512) : cb (bg k) (bn k) = k := Fin.ext (by simp only [cb, bg, bn]; omega)

variable (m : (ℓ : Loc nD τ sig) → Buf (Elt Ideal) ℓ) (c : Dev nD)
  (h0 : (m ((c : Thread nD τ).loc main_arg0) : FVec Ideal S2048x3072 .f32) = up fun j => X (j 0) (j 1))
  (h1 : (m ((c : Thread nD τ).loc main_arg1) : FVec Ideal S2048x32 .f32) = up fun j => D (j 0) (j 1))
  (h2 : (m ((c : Thread nD τ).loc main_arg2) : FVec Ideal S32 .f32) = up fun j => P0 (j 0))
  (h3 : (m ((c : Thread nD τ).loc main_arg3) : FVec Ideal S32 .f32) = up fun j => P1 (j 0))
  (h4 : (m ((c : Thread nD τ).loc main_arg4) : FVec Ideal S32 .f32) = up fun j => P2 (j 0))
  (h5 : (m ((c : Thread nD τ).loc main_arg5) : FVec Ideal S2048x2048 .f32) = up fun j => Y (j 0) (j 1))

include h0 h1 h2 h3 h4 h5 in
/-- The gradient of the state that each step leaves in the scratch array. -/
theorem scratch (n : ℕ) (hn : n < cfg0.N) : (outsAt0 m c n hn).2.2.2.2.2.2.2 = stV (GG X D P0 P1 Y (7 - n)) := by
  induction n with
  | zero =>
    refine (ds_first m c ⟨0, hn⟩ _ _ _ _ _ _ _ (in_b m X c _ h0) (in_c m X c _ h0) (in_d m D c _ h1) (in_p0 m P0 c _ h2) (in_p1 m P1 c _ h3) (in_p2 m P2 c _ h4)
      (in_y m Y c _ h5) rfl).trans ?_
    congr 1
    funext p k n
    rw [← GG_last X D P0 P1 Y]
    exact ds_step X D P0 P1 Y (rv ⟨0, hn⟩) p k n
  | succ n ih =>
    have hb := lt_of_lt_of_eq hn N_0
    refine (ds_next m c ⟨n + 1, hn⟩ _ _ _ _ _ _ _ _ (in_b m X c _ h0) (in_c m X c _ h0) (in_d m D c _ h1) (in_p0 m P0 c _ h2) (in_p1 m P1 c _ h3) (in_p2 m P2 c _ h4)
      (in_y m Y c _ h5) (by dsimp only; omega) (ih _)).trans ?_
    congr 1
    funext p k n'
    have e := ds_step X D P0 P1 Y (rv ⟨n + 1, hn⟩) p k n'
    rw [show (rv ⟨n + 1, hn⟩).val + 1 = 7 - n by simp only [rv]; omega] at e
    exact e

include h0 h1 h2 h3 h4 h5 in
/-- The rows that each step writes. -/
theorem rows_at (t : Fn cfg0.N) (i : Fn 256) (k : Fn 2048) : (outsAt0 m c t.val t.isLt).1 (ix2 i k) = ((gradS X D P0 P1 P2 Y (row (rv t) i) k : ℝ) : EReal) := by
  have e := dx_step X D P0 P1 P2 Y (rv t) (bx k) (bk k) i
  rw [cx_bx] at e
  rw [← e]
  have hb := lt_of_lt_of_eq t.isLt N_0
  by_cases hz : t.val % 8 = 0
  · rw [show (rv t).val + 1 = 8 by simp only [rv]; omega, GG_last]
    exact dx_first m c t _ _ _ _ _ _ _ (in_b m X c t h0) (in_c m X c t h0) (in_d m D c t h1) (in_p0 m P0 c t h2) (in_p1 m P1 c t h3)
      (in_p2 m P2 c t h4) (in_y m Y c t h5) hz i k
  · rw [show (rv t).val + 1 = 7 - (t.val - 1) by simp only [rv]; omega]
    exact dx_next m c t _ _ _ _ _ _ _ _ (in_b m X c t h0) (in_c m X c t h0) (in_d m D c t h1) (in_p0 m P0 c t h2) (in_p1 m P1 c t h3)
      (in_p2 m P2 c t h4) (in_y m Y c t h5) hz (scratch X D P0 P1 P2 Y m c h0 h1 h2 h3 h4 h5 _ _) i k

include h0 h1 h2 h3 h4 h5 in
theorem rows_b (t : Fn cfg0.N) (i : Fn 256) (k : Fn 512) : (outsAt0 m c t.val t.isLt).2.1 (ix2 i k) = ((gradBS X D P0 P1 Y (row (rv t) i) k : ℝ) : EReal) := by
  have e := db_step X D P0 P1 Y (rv t) (bg k) i (bn k)
  rw [cb_bg] at e
  rw [← e]
  have hb := lt_of_lt_of_eq t.isLt N_0
  by_cases hz : t.val % 8 = 0
  · rw [show (rv t).val + 1 = 8 by simp only [rv]; omega, GG_last]
    exact db_first m c t _ _ _ _ _ _ (in_x m X c t h0) (in_c m X c t h0) (in_d m D c t h1) (in_p0 m P0 c t h2) (in_p1 m P1 c t h3) (in_y m Y c t h5) hz i k
  · rw [show (rv t).val + 1 = 7 - (t.val - 1) by simp only [rv]; omega]
    exact db_next m c t _ _ _ _ _ _ _ (in_x m X c t h0) (in_c m X c t h0) (in_d m D c t h1) (in_p0 m P0 c t h2) (in_p1 m P1 c t h3) (in_y m Y c t h5) hz
      (scratch X D P0 P1 P2 Y m c h0 h1 h2 h3 h4 h5 _ _) i k

include h0 h1 h2 h3 h5 in
theorem rows_c (t : Fn cfg0.N) (i : Fn 256) (k : Fn 512) : (outsAt0 m c t.val t.isLt).2.2.1 (ix2 i k) = ((gradCS X D P0 P1 Y (row (rv t) i) k : ℝ) : EReal) := by
  have e := dc_step X D P0 P1 Y (rv t) (bg k) i (bn k)
  rw [cb_bg] at e
  rw [← e]
  exact dc_at m c t _ _ _ _ _ _ _ (in_x m X c t h0) (in_b m X c t h0) (in_d m D c t h1) (in_p0 m P0 c t h2) (in_p1 m P1 c t h3)
    (in_t m X D c t P0 P1 h0 h1 h2 h3) (in_y m Y c t h5) i k

include h0 h1 h2 h3 h4 h5 in
theorem final_b : (dats m 0 c).arrAt 10 (cfgs 0).N = (up fun j => gradBS X D P0 P1 Y (j 0) (j 1) : FVec Ideal S2048x512 .f32) := by
  refine (dats m 0 c).arrAt_eq_of_covers 10 _ (by decide +kernel) fun t _ y => ?_
  obtain ⟨i, k, rfl⟩ : ∃ (i : Fn 256) (k : Fn 512), y = ix2 i k := ⟨y 0, y 1, by ext a; fin_cases a <;> rfl⟩
  have e : (win0_10.blk t).view.emb (ix2 i k) = ix2 (row (rv t) i) k := by
    blk_point [idx t, row, rv]
  blk_simp
  rw [after0_10]
  refine (rows_b X D P0 P1 P2 Y m c h0 h1 h2 h3 h4 h5 t i k).trans ?_
  refine Eq.trans ?_ (congrArg (up fun j : S2048x512.Idx => gradBS X D P0 P1 Y (j 0) (j 1)) e.symm)
  rfl

include h0 h1 h2 h3 h5 in
theorem final_c : (dats m 0 c).arrAt 11 (cfgs 0).N = (up fun j => gradCS X D P0 P1 Y (j 0) (j 1) : FVec Ideal S2048x512 .f32) := by
  refine (dats m 0 c).arrAt_eq_of_covers 11 _ (by decide +kernel) fun t _ y => ?_
  obtain ⟨i, k, rfl⟩ : ∃ (i : Fn 256) (k : Fn 512), y = ix2 i k := ⟨y 0, y 1, by ext a; fin_cases a <;> rfl⟩
  have e : (win0_11.blk t).view.emb (ix2 i k) = ix2 (row (rv t) i) k := by
    blk_point [idx t, row, rv]
  blk_simp
  rw [after0_11]
  refine (rows_c X D P0 P1 Y m c h0 h1 h2 h3 h5 t i k).trans ?_
  refine Eq.trans ?_ (congrArg (up fun j : S2048x512.Idx => gradCS X D P0 P1 Y (j 0) (j 1)) e.symm)
  rfl

include h0 h1 h2 h3 h4 h5 in
theorem final : (dats m 0 c).arrAt 9 (cfgs 0).N = (up fun j => gradS X D P0 P1 P2 Y (j 0) (j 1) : FVec Ideal S2048x2048 .f32) := by
  refine (dats m 0 c).arrAt_eq_of_covers 9 _ (by decide +kernel) fun t _ y => ?_
  obtain ⟨i, k, rfl⟩ : ∃ (i : Fn 256) (k : Fn 2048), y = ix2 i k := ⟨y 0, y 1, by ext a; fin_cases a <;> rfl⟩
  have e : (win0_9.blk t).view.emb (ix2 i k) = ix2 (row (rv t) i) k := by
    blk_point [idx t, row, rv]
  blk_simp
  rw [after0_9]
  refine (rows_at X D P0 P1 P2 Y m c h0 h1 h2 h3 h4 h5 t i k).trans ?_
  refine Eq.trans ?_ (congrArg (up fun j : S2048x2048.Idx => gradS X D P0 P1 P2 Y (j 0) (j 1)) e.symm)
  rfl
end

/-- What the precondition says of each array. -/
theorem pre_at (x : FVec Ideal Cert.Pre_ssdb_finite.S2048x3072 .f32) (d : FVec Ideal Cert.Pre_ssdb_finite.S2048x32 .f32)
    (p0 p1 p2 : FVec Ideal Cert.Pre_ssdb_finite.S32 .f32) (y : FVec Ideal Cert.Pre_ssdb_finite.S2048x2048 .f32) [Cert.Pre_ssdb_finite.Facts]
    (h : ∀ j, Cert.Pre_ssdb_finite.fn (F := Ideal) x d p0 p1 p2 y j = 1#1) (l : Fn 2048) (a : Fn 3) (b : Fn 2) (q r : Fn 32) :
    (x (ix2 l ⟨a.val * 1024 + q.val * 32 + r.val, by omega⟩) ≠ ⊤ ∧ x (ix2 l ⟨a.val * 1024 + q.val * 32 + r.val, by omega⟩) ≠ ⊥)
    ∧ (y (ix2 l ⟨b.val * 1024 + q.val * 32 + r.val, by omega⟩) ≠ ⊤ ∧ y (ix2 l ⟨b.val * 1024 + q.val * 32 + r.val, by omega⟩) ≠ ⊥)
    ∧ (d (ix2 l r) ≠ ⊤ ∧ d (ix2 l r) ≠ ⊥) ∧ (p0 (ix1 r) ≠ ⊤ ∧ p0 (ix1 r) ≠ ⊥) ∧ (p1 (ix1 r) ≠ ⊤ ∧ p1 (ix1 r) ≠ ⊥)
    ∧ (p2 (ix1 r) ≠ ⊤ ∧ p2 (ix1 r) ≠ ⊥) := by
  have e := h (ix5 l a b q r)
  pointwise [Cert.Pre_ssdb_finite.fn, Cert.Pre_ssdb_finite.fn_part1] at e
  obtain ⟨e, eh⟩ := and_ones _ _ e
  obtain ⟨e, e1⟩ := and_ones _ _ e
  obtain ⟨e0, e5⟩ := and_ones _ _ e
  obtain ⟨eh, e4⟩ := and_ones _ _ eh
  obtain ⟨e2, e3⟩ := and_ones _ _ eh
  exact ⟨Consts.finite_of_abs_lt _ e0, Consts.finite_of_abs_lt _ e5, Consts.finite_of_abs_lt _ e1, Consts.finite_of_abs_lt _ e2, Consts.finite_of_abs_lt _ e3,
    Consts.finite_of_abs_lt _ e4⟩

end Cert.SsdBack

end
-- ==== Proof.SsdBackScan.lean ====
/- The backward scan: what the kernel leaves equals the reference's gradients of the values and of the two matrices. -/
module

public import proofs.«01_k».proof.Proof.SsdBackVal

@[expose] public section

set_option maxRecDepth 16384

noncomputable section

namespace Cert.SsdBack

open Idealize.ShloMosaic Idealize.ShloMosaic.TcCoe Idealize.SL.Sem Cert.SsdChunk Cert.SsdKernelIdeal Cert.SsdKernelIdeal.Gen
open Cert.SsdFwd (SS stS states_up gX xt_eq Fn cx cb hb bx bk bx_cx bk_cx cx_bx stV vX vB vD vP row padD padP gX gB gC gD gP ext3 padD_at pad_up hh sa sx sb sc seq seq_lt seq_row
  cum_fin gP_hb gD_hb av_eq cu_eq b_eq c_eq and_ones real1 real2)
open Cert.SsdFwdReferenceIdeal.Stage (dt al cumR decR)
open Cert.SsdReferenceIdeal.Stage (gradS gradBS gradCS scoreS)

/-- The reference's three results under the precondition. -/
theorem reference_up (m : (ℓ : Loc Cert.SsdReferenceIdeal.nD Cert.SsdReferenceIdeal.τ Cert.SsdReferenceIdeal.sig) → Buf (Elt Ideal) ℓ) (c : Dev Cert.SsdReferenceIdeal.nD)
    (X : Fn 2048 → Fn 3072 → ℝ) (D : Fn 2048 → Fn 32 → ℝ) (P0 P1 P2 : Fn 32 → ℝ) (Y : Fn 2048 → Fn 2048 → ℝ)
    (h0 : (m ((c.tc : Thread Cert.SsdReferenceIdeal.nD Cert.SsdReferenceIdeal.τ).loc Cert.SsdReferenceIdeal.main_arg0) : FVec Ideal S2048x3072 .f32) = up fun j => X (j 0) (j 1))
    (h1 : (m ((c.tc : Thread Cert.SsdReferenceIdeal.nD Cert.SsdReferenceIdeal.τ).loc Cert.SsdReferenceIdeal.main_arg1) : FVec Ideal S2048x32 .f32) = up fun j => D (j 0) (j 1))
    (h2 : (m ((c.tc : Thread Cert.SsdReferenceIdeal.nD Cert.SsdReferenceIdeal.τ).loc Cert.SsdReferenceIdeal.main_arg2) : FVec Ideal S32 .f32) = up fun j => P0 (j 0))
    (h3 : (m ((c.tc : Thread Cert.SsdReferenceIdeal.nD Cert.SsdReferenceIdeal.τ).loc Cert.SsdReferenceIdeal.main_arg3) : FVec Ideal S32 .f32) = up fun j => P1 (j 0))
    (h4 : (m ((c.tc : Thread Cert.SsdReferenceIdeal.nD Cert.SsdReferenceIdeal.τ).loc Cert.SsdReferenceIdeal.main_arg4) : FVec Ideal S32 .f32) = up fun j => P2 (j 0))
    (h5 : (m ((c.tc : Thread Cert.SsdReferenceIdeal.nD Cert.SsdReferenceIdeal.τ).loc Cert.SsdReferenceIdeal.main_arg5) : FVec Ideal S2048x2048 .f32) = up fun j => Y (j 0) (j 1)) :
    Cert.SsdReferenceIdeal.Value.res_out0 m c = (up fun j => gradS X D P0 P1 P2 Y (j 0) (j 1) : FVec Ideal S2048x2048 .f32)
      ∧ Cert.SsdReferenceIdeal.Value.res_out1 m c = (up fun j => gradBS X D P0 P1 Y (j 0) (j 1) : FVec Ideal S2048x512 .f32)
      ∧ Cert.SsdReferenceIdeal.Value.res_out2 m c = (up fun j => gradCS X D P0 P1 Y (j 0) (j 1) : FVec Ideal S2048x512 .f32) := by
  refine ⟨(Cert.SsdReferenceIdeal.Stage.res_eq m c).trans ?_, (Cert.SsdReferenceIdeal.Stage.res_b m c).trans ?_, (Cert.SsdReferenceIdeal.Stage.res_c m c).trans ?_⟩
  · rw [h0, h1, h2, h3, h4, h5]
    exact ext2 fun l k => Cert.SsdReferenceIdeal.Stage.gradE_at _ _ _ _ _ _ l k
  · rw [h0, h1, h2, h3, h5]
    exact ext2 fun l k => Cert.SsdReferenceIdeal.Stage.gradB_at _ _ _ _ _ l k
  · rw [h0, h1, h2, h3, h5]
    exact ext2 fun l k => Cert.SsdReferenceIdeal.Stage.gradC_at _ _ _ _ _ l k

end Cert.SsdBack

namespace Cert.Proof

open Idealize.ShloMosaic Idealize.SL.Sem Cert.SsdBack
open Cert.SsdChunk (up)
open Cert.SsdFwd (Fn real1 real2)

theorem ssdb_reference_frame : Cert.quiescent_SsdReferenceIdeal := by
  intro m g _
  exact (θ_run Cert.SsdReferenceIdeal.defs _ _).mono (fun r h => ⟨fun c => (h c).2.2.2, sem_eq_zero_of_no_sems (by decide) r.2⟩)
    (Cert.SsdReferenceIdeal.Value.run m g)

section
open Cert.SsdKernelIdeal

/-- The arrays under the precondition, as arrays of real numbers. -/
theorem ssdb_reals (m : (ℓ : Loc nD τ sig) → Buf (Elt Ideal) ℓ) (hpre : Cert.Pre_SsdKernelIdeal_ssdb_finite m) (c : Dev nD) :
    ∃ (X : Fn 2048 → Fn 3072 → ℝ) (D : Fn 2048 → Fn 32 → ℝ) (P0 P1 P2 : Fn 32 → ℝ) (Y : Fn 2048 → Fn 2048 → ℝ),
      (m ((c.tc : Thread nD τ).loc main_arg0) : FVec Ideal S2048x3072 .f32) = (up fun j => X (j 0) (j 1))
      ∧ (m ((c.tc : Thread nD τ).loc main_arg1) : FVec Ideal S2048x32 .f32) = (up fun j => D (j 0) (j 1))
      ∧ (m ((c.tc : Thread nD τ).loc main_arg2) : FVec Ideal S32 .f32) = (up fun j => P0 (j 0))
      ∧ (m ((c.tc : Thread nD τ).loc main_arg3) : FVec Ideal S32 .f32) = (up fun j => P1 (j 0))
      ∧ (m ((c.tc : Thread nD τ).loc main_arg4) : FVec Ideal S32 .f32) = (up fun j => P2 (j 0))
      ∧ (m ((c.tc : Thread nD τ).loc main_arg5) : FVec Ideal S2048x2048 .f32) = (up fun j => Y (j 0) (j 1)) := by
  have hp := pre_at _ _ _ _ _ _ (fun j => congrFun (hpre c) j)
  refine ⟨fun i k => EReal.toReal (m ((c.tc : Thread nD τ).loc main_arg0) (ix2 i k)),
    fun i k => EReal.toReal (m ((c.tc : Thread nD τ).loc main_arg1) (ix2 i k)),
    fun k => EReal.toReal (m ((c.tc : Thread nD τ).loc main_arg2) (ix1 k)),
    fun k => EReal.toReal (m ((c.tc : Thread nD τ).loc main_arg3) (ix1 k)),
    fun k => EReal.toReal (m ((c.tc : Thread nD τ).loc main_arg4) (ix1 k)),
    fun i k => EReal.toReal (m ((c.tc : Thread nD τ).loc main_arg5) (ix2 i k)),
    real2 (m ((c.tc : Thread nD τ).loc main_arg0)) fun i k => ?_,
    real2 (m ((c.tc : Thread nD τ).loc main_arg1)) fun i k => (hp i 0 0 0 k).2.2.1,
    real1 (m ((c.tc : Thread nD τ).loc main_arg2)) fun k => (hp 0 0 0 0 k).2.2.2.1,
    real1 (m ((c.tc : Thread nD τ).loc main_arg3)) fun k => (hp 0 0 0 0 k).2.2.2.2.1,
    real1 (m ((c.tc : Thread nD τ).loc main_arg4)) fun k => (hp 0 0 0 0 k).2.2.2.2.2,
    real2 (m ((c.tc : Thread nD τ).loc main_arg5)) fun i k => ?_⟩
  · have h := (hp i ⟨k.val / 1024, by have := k.isLt; omega⟩ 0 ⟨k.val % 1024 / 32, by omega⟩ ⟨k.val % 32, by omega⟩).1
    have e : (⟨k.val / 1024 * 1024 + k.val % 1024 / 32 * 32 + k.val % 32, by have := k.isLt; omega⟩ : Fin 3072) = k := Fin.ext (by dsimp only; omega)
    rwa [e] at h
  · have h := (hp i 0 ⟨k.val / 1024, by have := k.isLt; omega⟩ ⟨k.val % 1024 / 32, by omega⟩ ⟨k.val % 32, by omega⟩).2.1
    have e : (⟨k.val / 1024 * 1024 + k.val % 1024 / 32 * 32 + k.val % 32, by have := k.isLt; omega⟩ : Fin 2048) = k := Fin.ext (by dsimp only; omega)
    rwa [e] at h
end

set_option maxHeartbeats 2000000 in
/-- The three results of the backward scan. -/
theorem ssdb_algebraic : Cert.algebraic_SsdKernelIdeal_SsdReferenceIdeal_pre_ssdb_finite := by
  intro m g m' g' hpre hagree
  refine ⟨fun c => (Cert.SsdKernelIdeal.Gen.dats m 0 c).arrAt 9 (Cert.SsdKernelIdeal.cfgs 0).N, fun c => (Cert.SsdKernelIdeal.Gen.dats m 0 c).arrAt 10 (Cert.SsdKernelIdeal.cfgs 0).N,
    fun c => (Cert.SsdKernelIdeal.Gen.dats m 0 c).arrAt 11 (Cert.SsdKernelIdeal.cfgs 0).N, ?_, ?_⟩
  · exact (θ_run Cert.SsdKernelIdeal.defs _ _).mono (fun _ h c => ⟨(h c).1 9, (h c).1 10, (h c).1 11,
      ((h c).1 2).trans (((Cert.SsdKernelIdeal.Gen.dats m 0 c).arrAt_in 2 rfl _).trans
        ((Cert.SsdKernelIdeal.Gen.A_eq m c 2).trans (Cert.SsdKernelIdeal.Gen.V_main_arg0 m c))),
      ((h c).2 Cert.SsdKernelIdeal.main_arg1 (Pipeline.mem_restRefs_of Cert.SsdKernelIdeal.main_arg1 (by decide) (by decide))).trans (Cert.SsdKernelIdeal.Gen.V_main_arg1 m c),
      ((h c).2 Cert.SsdKernelIdeal.main_arg2 (Pipeline.mem_restRefs_of Cert.SsdKernelIdeal.main_arg2 (by decide) (by decide))).trans (Cert.SsdKernelIdeal.Gen.V_main_arg2 m c),
      ((h c).2 Cert.SsdKernelIdeal.main_arg3 (Pipeline.mem_restRefs_of Cert.SsdKernelIdeal.main_arg3 (by decide) (by decide))).trans (Cert.SsdKernelIdeal.Gen.V_main_arg3 m c),
      ((h c).2 Cert.SsdKernelIdeal.main_arg4 (Pipeline.mem_restRefs_of Cert.SsdKernelIdeal.main_arg4 (by decide) (by decide))).trans (Cert.SsdKernelIdeal.Gen.V_main_arg4 m c),
      ((h c).1 8).trans (((Cert.SsdKernelIdeal.Gen.dats m 0 c).arrAt_in 8 rfl _).trans
        ((Cert.SsdKernelIdeal.Gen.A_eq m c 8).trans (Cert.SsdKernelIdeal.Gen.V_main_arg5 m c)))⟩) (Cert.SsdKernelIdeal.Gen.run_main m g)
  · refine (θ_run Cert.SsdReferenceIdeal.defs _ _).mono (fun _ h c => ?_) (Cert.SsdReferenceIdeal.Value.run m' g')
    obtain ⟨e0, e1, e2, e3, e4, e5⟩ := hagree c
    obtain ⟨X, D, P0, P1, P2, Y, r0, r1, r2, r3, r4, r5⟩ := ssdb_reals m hpre c
    obtain ⟨u0, u1, u2⟩ := reference_up m' c X D P0 P1 P2 Y (e0.trans r0) (e1.trans r1) (e2.trans r2) (e3.trans r3) (e4.trans r4) (e5.trans r5)
    exact ⟨(h c).1.trans (u0.trans (final X D P0 P1 P2 Y m c r0 r1 r2 r3 r4 r5).symm), (h c).2.1.trans (u1.trans (final_b X D P0 P1 P2 Y m c r0 r1 r2 r3 r4 r5).symm),
      (h c).2.2.1.trans (u2.trans (final_c X D P0 P1 Y m c r0 r1 r2 r3 r5).symm), (h c).2.2.2⟩

end Cert.Proof

end
-- ==== Proof.lean ====
/- The claim, put together: the frames of the kernels and of the references, and the value claim of each pair
   (proved in the modules named in the imports). -/
module

public import proofs.«01_k».proof.Defs
public import proofs.«01_k».proof.Proof.Gen.ConvKernel.Frame
public import proofs.«01_k».proof.Proof.Gen.LossKernel.Frame
public import proofs.«01_k».proof.Proof.Gen.MergeKernel.Frame
public import proofs.«01_k».proof.Proof.Gen.GluKernel.Frame
public import proofs.«01_k».proof.Proof.Gen.ActKernel.Frame
public import proofs.«01_k».proof.Proof.Gen.GateKernel.Frame
public import proofs.«01_k».proof.Proof.Gen.ResKernel.Frame
public import proofs.«01_k».proof.Proof.Gen.MixResKernel.Frame
public import proofs.«01_k».proof.Proof.Gen.RmsKernel.Frame
public import proofs.«01_k».proof.Proof.Gen.MixRmsKernel.Frame
public import proofs.«01_k».proof.Proof.Gen.FfnKernel.Frame
public import proofs.«01_k».proof.Proof.Gen.ParKernel.Frame
public import proofs.«01_k».proof.Proof.Gen.ScanKernel.Frame
public import proofs.«01_k».proof.Proof.Gen.ScanKernelIdeal.Frame
public import proofs.«01_k».proof.Proof.Gen.ConvFwdKernel.Frame
public import proofs.«01_k».proof.Proof.Gen.GateFwdKernel.Frame
public import proofs.«01_k».proof.Proof.Gen.RmsFwdKernel.Frame
public import proofs.«01_k».proof.Proof.Gen.ResFwdKernel.Frame
public import proofs.«01_k».proof.Proof.Gen.MixResFwdKernel.Frame
public import proofs.«01_k».proof.Proof.Gen.MergeFwdKernel.Frame
public import proofs.«01_k».proof.Proof.Gen.GluFwdKernel.Frame
public import proofs.«01_k».proof.Proof.Gen.ParFwdKernel.Frame
public import proofs.«01_k».proof.Proof.Gen.UpKernel.Frame
public import proofs.«01_k».proof.Proof.Gen.InKernel.Frame
public import proofs.«01_k».proof.Proof.Gen.DownKernel.Frame
public import proofs.«01_k».proof.Proof.Gen.DownDwKernel.Frame
public import proofs.«01_k».proof.Proof.Gen.UpDxKernel.Frame
public import proofs.«01_k».proof.Proof.Gen.UpDwKernel.Frame
public import proofs.«01_k».proof.Proof.Gen.SlotsKernel.Frame
public import proofs.«01_k».proof.Proof.Gen.AdamKernel.Frame
public import proofs.«01_k».proof.Proof.Gen.SsdFwdKernel.Frame
public import proofs.«01_k».proof.Proof.Gen.SsdKernel.Frame
public import proofs.«01_k».proof.Proof.Gen.Pre_conv_ct_finite
public import proofs.«01_k».proof.Proof.Gen.Pre_ssdf_finite
public import proofs.«01_k».proof.Proof.Gen.Pre_ssdb_finite
public import proofs.«01_k».proof.Proof.Conv
public import proofs.«01_k».proof.Proof.Loss
public import proofs.«01_k».proof.Proof.Merge
public import proofs.«01_k».proof.Proof.Glu
public import proofs.«01_k».proof.Proof.Act
public import proofs.«01_k».proof.Proof.Gate
public import proofs.«01_k».proof.Proof.Res
public import proofs.«01_k».proof.Proof.MixRes
public import proofs.«01_k».proof.Proof.Rms
public import proofs.«01_k».proof.Proof.MixRms
public import proofs.«01_k».proof.Proof.Ffn
public import proofs.«01_k».proof.Proof.Par
public import proofs.«01_k».proof.Proof.ConvFwd
public import proofs.«01_k».proof.Proof.GateFwd
public import proofs.«01_k».proof.Proof.RmsFwd
public import proofs.«01_k».proof.Proof.ResFwd
public import proofs.«01_k».proof.Proof.MixResFwd
public import proofs.«01_k».proof.Proof.MergeFwd
public import proofs.«01_k».proof.Proof.GluFwd
public import proofs.«01_k».proof.Proof.ParFwd
public import proofs.«01_k».proof.Proof.Up
public import proofs.«01_k».proof.Proof.In
public import proofs.«01_k».proof.Proof.Down
public import proofs.«01_k».proof.Proof.DownDw
public import proofs.«01_k».proof.Proof.UpDx
public import proofs.«01_k».proof.Proof.UpDw
public import proofs.«01_k».proof.Proof.Slots
public import proofs.«01_k».proof.Proof.Adam
public import proofs.«01_k».proof.Proof.SsdFwd
public import proofs.«01_k».proof.Proof.SsdBackScan
public import Idealize.ShloMosaic.Adequacy
public import Idealize.ShloMosaic.Init

@[expose] public section

noncomputable section

namespace Cert.Proof

open Idealize.ShloMosaic Idealize.SL.Sem

theorem claim : Cert.Claim := ⟨
  Cert.ConvKernel.Gen.facts,
  Cert.ConvKernelIdeal.Gen.facts,
  Cert.ConvReferenceIdeal.Gen.facts,
  Cert.LossKernel.Gen.facts,
  Cert.LossKernelIdeal.Gen.facts,
  Cert.LossReferenceIdeal.Gen.facts,
  Cert.MergeKernel.Gen.facts,
  Cert.MergeKernelIdeal.Gen.facts,
  Cert.MergeReferenceIdeal.Gen.facts,
  Cert.GluKernel.Gen.facts,
  Cert.GluKernelIdeal.Gen.facts,
  Cert.GluReferenceIdeal.Gen.facts,
  Cert.ActKernel.Gen.facts,
  Cert.ActKernelIdeal.Gen.facts,
  Cert.ActReferenceIdeal.Gen.facts,
  Cert.GateKernel.Gen.facts,
  Cert.GateKernelIdeal.Gen.facts,
  Cert.GateReferenceIdeal.Gen.facts,
  Cert.ResKernel.Gen.facts,
  Cert.ResKernelIdeal.Gen.facts,
  Cert.ResReferenceIdeal.Gen.facts,
  Cert.MixResKernel.Gen.facts,
  Cert.MixResKernelIdeal.Gen.facts,
  Cert.MixResReferenceIdeal.Gen.facts,
  Cert.RmsKernel.Gen.facts,
  Cert.RmsKernelIdeal.Gen.facts,
  Cert.RmsReferenceIdeal.Gen.facts,
  Cert.MixRmsKernel.Gen.facts,
  Cert.MixRmsKernelIdeal.Gen.facts,
  Cert.MixRmsReferenceIdeal.Gen.facts,
  Cert.FfnKernel.Gen.facts,
  Cert.FfnKernelIdeal.Gen.facts,
  Cert.FfnReferenceIdeal.Gen.facts,
  Cert.ParKernel.Gen.facts,
  Cert.ParKernelIdeal.Gen.facts,
  Cert.ParReferenceIdeal.Gen.facts,
  Cert.ScanKernel.Gen.facts,
  Cert.ScanKernelIdeal.Gen.facts,
  Cert.ConvFwdKernel.Gen.facts,
  Cert.ConvFwdKernelIdeal.Gen.facts,
  Cert.ConvFwdReferenceIdeal.Gen.facts,
  Cert.GateFwdKernel.Gen.facts,
  Cert.GateFwdKernelIdeal.Gen.facts,
  Cert.GateFwdReferenceIdeal.Gen.facts,
  Cert.RmsFwdKernel.Gen.facts,
  Cert.RmsFwdKernelIdeal.Gen.facts,
  Cert.RmsFwdReferenceIdeal.Gen.facts,
  Cert.ResFwdKernel.Gen.facts,
  Cert.ResFwdKernelIdeal.Gen.facts,
  Cert.ResFwdReferenceIdeal.Gen.facts,
  Cert.MixResFwdKernel.Gen.facts,
  Cert.MixResFwdKernelIdeal.Gen.facts,
  Cert.MixResFwdReferenceIdeal.Gen.facts,
  Cert.MergeFwdKernel.Gen.facts,
  Cert.MergeFwdKernelIdeal.Gen.facts,
  Cert.MergeFwdReferenceIdeal.Gen.facts,
  Cert.GluFwdKernel.Gen.facts,
  Cert.GluFwdKernelIdeal.Gen.facts,
  Cert.GluFwdReferenceIdeal.Gen.facts,
  Cert.ParFwdKernel.Gen.facts,
  Cert.ParFwdKernelIdeal.Gen.facts,
  Cert.ParFwdReferenceIdeal.Gen.facts,
  Cert.UpKernel.Gen.facts,
  Cert.UpKernelIdeal.Gen.facts,
  Cert.UpReferenceIdeal.Gen.facts,
  Cert.InKernel.Gen.facts,
  Cert.InKernelIdeal.Gen.facts,
  Cert.InReferenceIdeal.Gen.facts,
  Cert.DownKernel.Gen.facts,
  Cert.DownKernelIdeal.Gen.facts,
  Cert.DownReferenceIdeal.Gen.facts,
  Cert.DownDwKernel.Gen.facts,
  Cert.DownDwKernelIdeal.Gen.facts,
  Cert.DownDwReferenceIdeal.Gen.facts,
  Cert.UpDxKernel.Gen.facts,
  Cert.UpDxKernelIdeal.Gen.facts,
  Cert.UpDxReferenceIdeal.Gen.facts,
  Cert.UpDwKernel.Gen.facts,
  Cert.UpDwKernelIdeal.Gen.facts,
  Cert.UpDwReferenceIdeal.Gen.facts,
  Cert.SlotsKernel.Gen.facts,
  Cert.SlotsKernelIdeal.Gen.facts,
  Cert.SlotsReferenceIdeal.Gen.facts,
  Cert.AdamKernel.Gen.facts,
  Cert.AdamKernelIdeal.Gen.facts,
  Cert.AdamReferenceIdeal.Gen.facts,
  Cert.SsdFwdKernel.Gen.facts,
  Cert.SsdFwdKernelIdeal.Gen.facts,
  Cert.SsdFwdReferenceIdeal.Gen.facts,
  Cert.SsdKernel.Gen.facts,
  Cert.SsdKernelIdeal.Gen.facts,
  Cert.SsdReferenceIdeal.Gen.facts,
  Cert.Pre_conv_ct_finite.Gen.facts,
  Cert.Pre_ssdf_finite.Gen.facts,
  Cert.Pre_ssdb_finite.Gen.facts,
  fun m ρ _ => Cert.ConvKernel.Gen.frame m ρ,
  fun m ρ _ => Cert.ConvKernelIdeal.Gen.frame m ρ,
  fun m ρ _ => Cert.ConvKernelIdeal.Gen.frame m ρ,
  conv_reference_frame,
  fun m ρ _ => conv_reference_frame m ρ trivial,
  fun m ρ _ => Cert.LossKernel.Gen.frame m ρ,
  fun m ρ _ => Cert.LossKernelIdeal.Gen.frame m ρ,
  loss_reference_frame,
  fun m ρ _ => Cert.MergeKernel.Gen.frame m ρ,
  fun m ρ _ => Cert.MergeKernelIdeal.Gen.frame m ρ,
  merge_reference_frame,
  fun m ρ _ => Cert.GluKernel.Gen.frame m ρ,
  fun m ρ _ => Cert.GluKernelIdeal.Gen.frame m ρ,
  glu_reference_frame,
  fun m ρ _ => Cert.ActKernel.Gen.frame m ρ,
  fun m ρ _ => Cert.ActKernelIdeal.Gen.frame m ρ,
  act_reference_frame,
  fun m ρ _ => Cert.GateKernel.Gen.frame m ρ,
  fun m ρ _ => Cert.GateKernelIdeal.Gen.frame m ρ,
  gate_reference_frame,
  fun m ρ _ => Cert.ResKernel.Gen.frame m ρ,
  fun m ρ _ => Cert.ResKernelIdeal.Gen.frame m ρ,
  resf_reference_frame,
  fun m ρ _ => Cert.MixResKernel.Gen.frame m ρ,
  fun m ρ _ => Cert.MixResKernelIdeal.Gen.frame m ρ,
  resm_reference_frame,
  fun m ρ _ => Cert.RmsKernel.Gen.frame m ρ,
  fun m ρ _ => Cert.RmsKernelIdeal.Gen.frame m ρ,
  rmsf_reference_frame,
  fun m ρ _ => Cert.MixRmsKernel.Gen.frame m ρ,
  fun m ρ _ => Cert.MixRmsKernelIdeal.Gen.frame m ρ,
  rmsm_reference_frame,
  fun m ρ _ => Cert.FfnKernel.Gen.frame m ρ,
  fun m ρ _ => Cert.FfnKernelIdeal.Gen.frame m ρ,
  ffn_reference_frame,
  fun m ρ _ => Cert.ParKernel.Gen.frame m ρ,
  fun m ρ _ => Cert.ParKernelIdeal.Gen.frame m ρ,
  par_reference_frame,
  fun m ρ _ => Cert.ScanKernel.Gen.frame m ρ,
  fun m ρ _ => Cert.ScanKernelIdeal.Gen.frame m ρ,
  fun m ρ _ => Cert.ConvFwdKernel.Gen.frame m ρ,
  fun m ρ _ => Cert.ConvFwdKernelIdeal.Gen.frame m ρ,
  convf_reference_frame,
  fun m ρ _ => Cert.GateFwdKernel.Gen.frame m ρ,
  fun m ρ _ => Cert.GateFwdKernelIdeal.Gen.frame m ρ,
  gatef_reference_frame,
  fun m ρ _ => Cert.RmsFwdKernel.Gen.frame m ρ,
  fun m ρ _ => Cert.RmsFwdKernelIdeal.Gen.frame m ρ,
  rmsfw_reference_frame,
  fun m ρ _ => Cert.ResFwdKernel.Gen.frame m ρ,
  fun m ρ _ => Cert.ResFwdKernelIdeal.Gen.frame m ρ,
  resfw_reference_frame,
  fun m ρ _ => Cert.MixResFwdKernel.Gen.frame m ρ,
  fun m ρ _ => Cert.MixResFwdKernelIdeal.Gen.frame m ρ,
  resmw_reference_frame,
  fun m ρ _ => Cert.MergeFwdKernel.Gen.frame m ρ,
  fun m ρ _ => Cert.MergeFwdKernelIdeal.Gen.frame m ρ,
  mergefw_reference_frame,
  fun m ρ _ => Cert.GluFwdKernel.Gen.frame m ρ,
  fun m ρ _ => Cert.GluFwdKernelIdeal.Gen.frame m ρ,
  glufw_reference_frame,
  fun m ρ _ => Cert.ParFwdKernel.Gen.frame m ρ,
  fun m ρ _ => Cert.ParFwdKernelIdeal.Gen.frame m ρ,
  parfw_reference_frame,
  fun m ρ _ => Cert.UpKernel.Gen.frame m ρ,
  fun m ρ _ => Cert.UpKernelIdeal.Gen.frame m ρ,
  upf_reference_frame,
  fun m ρ _ => Cert.InKernel.Gen.frame m ρ,
  fun m ρ _ => Cert.InKernelIdeal.Gen.frame m ρ,
  mm_reference_frame,
  fun m ρ _ => Cert.DownKernel.Gen.frame m ρ,
  fun m ρ _ => Cert.DownKernelIdeal.Gen.frame m ρ,
  fdown_reference_frame,
  fun m ρ _ => Cert.DownDwKernel.Gen.frame m ρ,
  fun m ρ _ => Cert.DownDwKernelIdeal.Gen.frame m ρ,
  fdw_reference_frame,
  fun m ρ _ => Cert.UpDxKernel.Gen.frame m ρ,
  fun m ρ _ => Cert.UpDxKernelIdeal.Gen.frame m ρ,
  fupdx_reference_frame,
  fun m ρ _ => Cert.UpDwKernel.Gen.frame m ρ,
  fun m ρ _ => Cert.UpDwKernelIdeal.Gen.frame m ρ,
  fupdw_reference_frame,
  fun m ρ _ => Cert.SlotsKernel.Gen.frame m ρ,
  fun m ρ _ => Cert.SlotsKernelIdeal.Gen.frame m ρ,
  sumsl_reference_frame,
  fun m ρ _ => Cert.AdamKernel.Gen.frame m ρ,
  fun m ρ _ => Cert.AdamKernelIdeal.Gen.frame m ρ,
  adam_reference_frame,
  fun m ρ _ => Cert.SsdFwdKernel.Gen.frame m ρ,
  fun m ρ _ => Cert.SsdFwdKernelIdeal.Gen.frame m ρ,
  fun m ρ _ => Cert.SsdFwdKernelIdeal.Gen.frame m ρ,
  ssdf_reference_frame,
  fun m ρ _ => ssdf_reference_frame m ρ trivial,
  fun m ρ _ => Cert.SsdKernel.Gen.frame m ρ,
  fun m ρ _ => Cert.SsdKernelIdeal.Gen.frame m ρ,
  fun m ρ _ => Cert.SsdKernelIdeal.Gen.frame m ρ,
  ssdb_reference_frame,
  fun m ρ _ => ssdb_reference_frame m ρ trivial,
  trivial,
  conv_algebraic,
  trivial,
  loss_algebraic,
  trivial,
  merge_algebraic,
  trivial,
  glu_algebraic,
  trivial,
  act_algebraic,
  trivial,
  gate_algebraic,
  trivial,
  resf_algebraic,
  trivial,
  resm_algebraic,
  trivial,
  rmsf_algebraic,
  trivial,
  rmsm_algebraic,
  trivial,
  ffn_algebraic,
  trivial,
  par_algebraic,
  trivial,
  trivial,
  convf_algebraic,
  trivial,
  gatef_algebraic,
  trivial,
  rmsfw_algebraic,
  trivial,
  resfw_algebraic,
  trivial,
  resmw_algebraic,
  trivial,
  mergefw_algebraic,
  trivial,
  glufw_algebraic,
  trivial,
  parfw_algebraic,
  trivial,
  upf_algebraic,
  trivial,
  mm_algebraic,
  trivial,
  fdown_algebraic,
  trivial,
  fdw_algebraic,
  trivial,
  fupdx_algebraic,
  trivial,
  fupdw_algebraic,
  trivial,
  sumsl_algebraic,
  trivial,
  adam_algebraic,
  trivial,
  ssdf_algebraic,
  trivial,
  ssdb_algebraic⟩

end Cert.Proof

end
